-- ==== Defs.lean ====
def Pre_Xa (m : (ℓ : Loc Cert.Xa.nD Cert.Xa.τ Cert.Xa.sig) → Buf (Elt Bits) ℓ) : Prop :=
  True

def Pre_XaIdeal (m : (ℓ : Loc Cert.XaIdeal.nD Cert.XaIdeal.τ Cert.XaIdeal.sig) → Buf (Elt Ideal) ℓ) : Prop :=
  True

def Pre_XaIdeal_finite_xa [hPre_finite_xa : Cert.Pre_finite_xa.Facts] (m : (ℓ : Loc Cert.XaIdeal.nD Cert.XaIdeal.τ Cert.XaIdeal.sig) → Buf (Elt Ideal) ℓ) : Prop :=
  ∀ c : Dev Cert.XaIdeal.nD,
    (Cert.Pre_finite_xa.fn (F := Ideal) (m ((c.tc : Thread Cert.XaIdeal.nD Cert.XaIdeal.τ).loc Cert.XaIdeal.main_arg0)) (m ((c.tc : Thread Cert.XaIdeal.nD Cert.XaIdeal.τ).loc Cert.XaIdeal.main_arg1)) (m ((c.tc : Thread Cert.XaIdeal.nD Cert.XaIdeal.τ).loc Cert.XaIdeal.main_arg2)) (m ((c.tc : Thread Cert.XaIdeal.nD Cert.XaIdeal.τ).loc Cert.XaIdeal.main_arg3)) (m ((c.tc : Thread Cert.XaIdeal.nD Cert.XaIdeal.τ).loc Cert.XaIdeal.main_arg4))).1 = (fun _ => 1#1)
    ∧ (Cert.Pre_finite_xa.fn (F := Ideal) (m ((c.tc : Thread Cert.XaIdeal.nD Cert.XaIdeal.τ).loc Cert.XaIdeal.main_arg0)) (m ((c.tc : Thread Cert.XaIdeal.nD Cert.XaIdeal.τ).loc Cert.XaIdeal.main_arg1)) (m ((c.tc : Thread Cert.XaIdeal.nD Cert.XaIdeal.τ).loc Cert.XaIdeal.main_arg2)) (m ((c.tc : Thread Cert.XaIdeal.nD Cert.XaIdeal.τ).loc Cert.XaIdeal.main_arg3)) (m ((c.tc : Thread Cert.XaIdeal.nD Cert.XaIdeal.τ).loc Cert.XaIdeal.main_arg4))).2.1 = (fun _ => 1#1)
    ∧ (Cert.Pre_finite_xa.fn (F := Ideal) (m ((c.tc : Thread Cert.XaIdeal.nD Cert.XaIdeal.τ).loc Cert.XaIdeal.main_arg0)) (m ((c.tc : Thread Cert.XaIdeal.nD Cert.XaIdeal.τ).loc Cert.XaIdeal.main_arg1)) (m ((c.tc : Thread Cert.XaIdeal.nD Cert.XaIdeal.τ).loc Cert.XaIdeal.main_arg2)) (m ((c.tc : Thread Cert.XaIdeal.nD Cert.XaIdeal.τ).loc Cert.XaIdeal.main_arg3)) (m ((c.tc : Thread Cert.XaIdeal.nD Cert.XaIdeal.τ).loc Cert.XaIdeal.main_arg4))).2.2.1 = (fun _ => 1#1)
    ∧ (Cert.Pre_finite_xa.fn (F := Ideal) (m ((c.tc : Thread Cert.XaIdeal.nD Cert.XaIdeal.τ).loc Cert.XaIdeal.main_arg0)) (m ((c.tc : Thread Cert.XaIdeal.nD Cert.XaIdeal.τ).loc Cert.XaIdeal.main_arg1)) (m ((c.tc : Thread Cert.XaIdeal.nD Cert.XaIdeal.τ).loc Cert.XaIdeal.main_arg2)) (m ((c.tc : Thread Cert.XaIdeal.nD Cert.XaIdeal.τ).loc Cert.XaIdeal.main_arg3)) (m ((c.tc : Thread Cert.XaIdeal.nD Cert.XaIdeal.τ).loc Cert.XaIdeal.main_arg4))).2.2.2.1 = (fun _ => 1#1)
    ∧ (Cert.Pre_finite_xa.fn (F := Ideal) (m ((c.tc : Thread Cert.XaIdeal.nD Cert.XaIdeal.τ).loc Cert.XaIdeal.main_arg0)) (m ((c.tc : Thread Cert.XaIdeal.nD Cert.XaIdeal.τ).loc Cert.XaIdeal.main_arg1)) (m ((c.tc : Thread Cert.XaIdeal.nD Cert.XaIdeal.τ).loc Cert.XaIdeal.main_arg2)) (m ((c.tc : Thread Cert.XaIdeal.nD Cert.XaIdeal.τ).loc Cert.XaIdeal.main_arg3)) (m ((c.tc : Thread Cert.XaIdeal.nD Cert.XaIdeal.τ).loc Cert.XaIdeal.main_arg4))).2.2.2.2 = (fun _ => 1#1)

def Pre_XaRefIdeal (m : (ℓ : Loc Cert.XaRefIdeal.nD Cert.XaRefIdeal.τ Cert.XaRefIdeal.sig) → Buf (Elt Ideal) ℓ) : Prop :=
  True

def Pre_XaRefIdeal_finite_xa [hPre_finite_xa : Cert.Pre_finite_xa.Facts] (m : (ℓ : Loc Cert.XaRefIdeal.nD Cert.XaRefIdeal.τ Cert.XaRefIdeal.sig) → Buf (Elt Ideal) ℓ) : Prop :=
  ∀ c : Dev Cert.XaRefIdeal.nD,
    (Cert.Pre_finite_xa.fn (F := Ideal) (m ((c.tc : Thread Cert.XaRefIdeal.nD Cert.XaRefIdeal.τ).loc Cert.XaRefIdeal.main_arg0)) (m ((c.tc : Thread Cert.XaRefIdeal.nD Cert.XaRefIdeal.τ).loc Cert.XaRefIdeal.main_arg1)) (m ((c.tc : Thread Cert.XaRefIdeal.nD Cert.XaRefIdeal.τ).loc Cert.XaRefIdeal.main_arg2)) (m ((c.tc : Thread Cert.XaRefIdeal.nD Cert.XaRefIdeal.τ).loc Cert.XaRefIdeal.main_arg3)) (m ((c.tc : Thread Cert.XaRefIdeal.nD Cert.XaRefIdeal.τ).loc Cert.XaRefIdeal.main_arg4))).1 = (fun _ => 1#1)
    ∧ (Cert.Pre_finite_xa.fn (F := Ideal) (m ((c.tc : Thread Cert.XaRefIdeal.nD Cert.XaRefIdeal.τ).loc Cert.XaRefIdeal.main_arg0)) (m ((c.tc : Thread Cert.XaRefIdeal.nD Cert.XaRefIdeal.τ).loc Cert.XaRefIdeal.main_arg1)) (m ((c.tc : Thread Cert.XaRefIdeal.nD Cert.XaRefIdeal.τ).loc Cert.XaRefIdeal.main_arg2)) (m ((c.tc : Thread Cert.XaRefIdeal.nD Cert.XaRefIdeal.τ).loc Cert.XaRefIdeal.main_arg3)) (m ((c.tc : Thread Cert.XaRefIdeal.nD Cert.XaRefIdeal.τ).loc Cert.XaRefIdeal.main_arg4))).2.1 = (fun _ => 1#1)
    ∧ (Cert.Pre_finite_xa.fn (F := Ideal) (m ((c.tc : Thread Cert.XaRefIdeal.nD Cert.XaRefIdeal.τ).loc Cert.XaRefIdeal.main_arg0)) (m ((c.tc : Thread Cert.XaRefIdeal.nD Cert.XaRefIdeal.τ).loc Cert.XaRefIdeal.main_arg1)) (m ((c.tc : Thread Cert.XaRefIdeal.nD Cert.XaRefIdeal.τ).loc Cert.XaRefIdeal.main_arg2)) (m ((c.tc : Thread Cert.XaRefIdeal.nD Cert.XaRefIdeal.τ).loc Cert.XaRefIdeal.main_arg3)) (m ((c.tc : Thread Cert.XaRefIdeal.nD Cert.XaRefIdeal.τ).loc Cert.XaRefIdeal.main_arg4))).2.2.1 = (fun _ => 1#1)
    ∧ (Cert.Pre_finite_xa.fn (F := Ideal) (m ((c.tc : Thread Cert.XaRefIdeal.nD Cert.XaRefIdeal.τ).loc Cert.XaRefIdeal.main_arg0)) (m ((c.tc : Thread Cert.XaRefIdeal.nD Cert.XaRefIdeal.τ).loc Cert.XaRefIdeal.main_arg1)) (m ((c.tc : Thread Cert.XaRefIdeal.nD Cert.XaRefIdeal.τ).loc Cert.XaRefIdeal.main_arg2)) (m ((c.tc : Thread Cert.XaRefIdeal.nD Cert.XaRefIdeal.τ).loc Cert.XaRefIdeal.main_arg3)) (m ((c.tc : Thread Cert.XaRefIdeal.nD Cert.XaRefIdeal.τ).loc Cert.XaRefIdeal.main_arg4))).2.2.2.1 = (fun _ => 1#1)
    ∧ (Cert.Pre_finite_xa.fn (F := Ideal) (m ((c.tc : Thread Cert.XaRefIdeal.nD Cert.XaRefIdeal.τ).loc Cert.XaRefIdeal.main_arg0)) (m ((c.tc : Thread Cert.XaRefIdeal.nD Cert.XaRefIdeal.τ).loc Cert.XaRefIdeal.main_arg1)) (m ((c.tc : Thread Cert.XaRefIdeal.nD Cert.XaRefIdeal.τ).loc Cert.XaRefIdeal.main_arg2)) (m ((c.tc : Thread Cert.XaRefIdeal.nD Cert.XaRefIdeal.τ).loc Cert.XaRefIdeal.main_arg3)) (m ((c.tc : Thread Cert.XaRefIdeal.nD Cert.XaRefIdeal.τ).loc Cert.XaRefIdeal.main_arg4))).2.2.2.2 = (fun _ => 1#1)

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_finite_sb [hPre_finite_sb : Cert.Pre_finite_sb.Facts] (m : (ℓ : Loc Cert.SbIdeal.nD Cert.SbIdeal.τ Cert.SbIdeal.sig) → Buf (Elt Ideal) ℓ) : Prop :=
  ∀ c : Dev Cert.SbIdeal.nD,
    (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3))).1 = (fun _ => 1#1)
    ∧ (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3))).2.1 = (fun _ => 1#1)
    ∧ (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3))).2.2.1 = (fun _ => 1#1)
    ∧ (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3))).2.2.2 = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_finite_sb [hPre_finite_sb : Cert.Pre_finite_sb.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_finite_sb.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2)) (m ((c.tc : Thread Cert.SbRefIdeal.nD Cert.SbRefIdeal.τ).loc Cert.SbRefIdeal.main_arg3))).1 = (fun _ => 1#1)
    ∧ (Cert.Pre_finite_sb.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2)) (m ((c.tc : Thread Cert.SbRefIdeal.nD Cert.SbRefIdeal.τ).loc Cert.SbRefIdeal.main_arg3))).2.1 = (fun _ => 1#1)
    ∧ (Cert.Pre_finite_sb.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2)) (m ((c.tc : Thread Cert.SbRefIdeal.nD Cert.SbRefIdeal.τ).loc Cert.SbRefIdeal.main_arg3))).2.2.1 = (fun _ => 1#1)
    ∧ (Cert.Pre_finite_sb.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2)) (m ((c.tc : Thread Cert.SbRefIdeal.nD Cert.SbRefIdeal.τ).loc Cert.SbRefIdeal.main_arg3))).2.2.2 = (fun _ => 1#1)

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_WinDn (m : (ℓ : Loc Cert.WinDn.nD Cert.WinDn.τ Cert.WinDn.sig) → Buf (Elt Bits) ℓ) : Prop :=
  True

def Pre_WinDnIdeal (m : (ℓ : Loc Cert.WinDnIdeal.nD Cert.WinDnIdeal.τ Cert.WinDnIdeal.sig) → Buf (Elt Ideal) ℓ) : Prop :=
  True

def Pre_WinDnRefIdeal (m : (ℓ : Loc Cert.WinDnRefIdeal.nD Cert.WinDnRefIdeal.τ Cert.WinDnRefIdeal.sig) → Buf (Elt Ideal) ℓ) : Prop :=
  True

def Pre_DhDn (m : (ℓ : Loc Cert.DhDn.nD Cert.DhDn.τ Cert.DhDn.sig) → Buf (Elt Bits) ℓ) : Prop :=
  True

def Pre_DhDnIdeal (m : (ℓ : Loc Cert.DhDnIdeal.nD Cert.DhDnIdeal.τ Cert.DhDnIdeal.sig) → Buf (Elt Ideal) ℓ) : Prop :=
  True

def Pre_DhDnRefIdeal (m : (ℓ : Loc Cert.DhDnRefIdeal.nD Cert.DhDnRefIdeal.τ Cert.DhDnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjDn (m : (ℓ : Loc Cert.ProjDn.nD Cert.ProjDn.τ Cert.ProjDn.sig) → Buf (Elt Bits) ℓ) : Prop :=
  True

def Pre_ProjDnIdeal (m : (ℓ : Loc Cert.ProjDnIdeal.nD Cert.ProjDnIdeal.τ Cert.ProjDnIdeal.sig) → Buf (Elt Ideal) ℓ) : Prop :=
  True

def Pre_ProjDnRefIdeal (m : (ℓ : Loc Cert.ProjDnRefIdeal.nD Cert.ProjDnRefIdeal.τ Cert.ProjDnRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_DyRefIdeal (m : (ℓ : Loc Cert.DyRefIdeal.nD Cert.DyRefIdeal.τ Cert.DyRefIdeal.sig) → Buf (Elt Ideal) ℓ) : Prop :=
  True

def Pre_DyDn (m : (ℓ : Loc Cert.DyDn.nD Cert.DyDn.τ Cert.DyDn.sig) → Buf (Elt Bits) ℓ) : Prop :=
  True

def Pre_DyDnIdeal (m : (ℓ : Loc Cert.DyDnIdeal.nD Cert.DyDnIdeal.τ Cert.DyDnIdeal.sig) → Buf (Elt Ideal) ℓ) : Prop :=
  True

def Pre_DyDnRefIdeal (m : (ℓ : Loc Cert.DyDnRefIdeal.nD Cert.DyDnRefIdeal.τ Cert.DyDnRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDn (m : (ℓ : Loc Cert.OutDn.nD Cert.OutDn.τ Cert.OutDn.sig) → Buf (Elt Bits) ℓ) : Prop :=
  True

def Pre_OutDnIdeal (m : (ℓ : Loc Cert.OutDnIdeal.nD Cert.OutDnIdeal.τ Cert.OutDnIdeal.sig) → Buf (Elt Ideal) ℓ) : Prop :=
  True

def Pre_OutDnRefIdeal (m : (ℓ : Loc Cert.OutDnRefIdeal.nD Cert.OutDnRefIdeal.τ Cert.OutDnRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2 = (fun _ => 1#1)

def Pre_Wkv (m : (ℓ : Loc Cert.Wkv.nD Cert.Wkv.τ Cert.Wkv.sig) → Buf (Elt Bits) ℓ) : Prop :=
  True

def Pre_WkvIdeal (m : (ℓ : Loc Cert.WkvIdeal.nD Cert.WkvIdeal.τ Cert.WkvIdeal.sig) → Buf (Elt Ideal) ℓ) : Prop :=
  True

def Pre_WkvRefIdeal (m : (ℓ : Loc Cert.WkvRefIdeal.nD Cert.WkvRefIdeal.τ Cert.WkvRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_KvDn (m : (ℓ : Loc Cert.KvDn.nD Cert.KvDn.τ Cert.KvDn.sig) → Buf (Elt Bits) ℓ) : Prop :=
  True

def Pre_KvDnIdeal (m : (ℓ : Loc Cert.KvDnIdeal.nD Cert.KvDnIdeal.τ Cert.KvDnIdeal.sig) → Buf (Elt Ideal) ℓ) : Prop :=
  True

def Pre_KvDnRefIdeal (m : (ℓ : Loc Cert.KvDnRefIdeal.nD Cert.KvDnRefIdeal.τ Cert.KvDnRefIdeal.sig) → Buf (Elt Ideal) ℓ) : Prop :=
  True

def Pre_Dmem (m : (ℓ : Loc Cert.Dmem.nD Cert.Dmem.τ Cert.Dmem.sig) → Buf (Elt Bits) ℓ) : Prop :=
  True

def Pre_DmemIdeal (m : (ℓ : Loc Cert.DmemIdeal.nD Cert.DmemIdeal.τ Cert.DmemIdeal.sig) → Buf (Elt Ideal) ℓ) : Prop :=
  True

def Pre_DmemRefIdeal (m : (ℓ : Loc Cert.DmemRefIdeal.nD Cert.DmemRefIdeal.τ Cert.DmemRefIdeal.sig) → Buf (Elt Ideal) ℓ) : Prop :=
  True

def Pre_DmemDn (m : (ℓ : Loc Cert.DmemDn.nD Cert.DmemDn.τ Cert.DmemDn.sig) → Buf (Elt Bits) ℓ) : Prop :=
  True

def Pre_DmemDnIdeal (m : (ℓ : Loc Cert.DmemDnIdeal.nD Cert.DmemDnIdeal.τ Cert.DmemDnIdeal.sig) → Buf (Elt Ideal) ℓ) : Prop :=
  True

def Pre_DmemDnRefIdeal (m : (ℓ : Loc Cert.DmemDnRefIdeal.nD Cert.DmemDnRefIdeal.τ Cert.DmemDnRefIdeal.sig) → Buf (Elt Ideal) ℓ) : Prop :=
  True

def quiescent_Xa [hXa : Cert.Xa.Facts] : Prop :=
  ∀ (m : (ℓ : Loc Cert.Xa.nD Cert.Xa.τ Cert.Xa.sig) → Buf (Elt Bits) ℓ) (g : Dev Cert.Xa.nD → PrngReg), Pre_Xa m →
    θ_run (Cert.Xa.defs (F := Bits)) (onTc (τ := Cert.Xa.τ) (Cert.Xa.main (F := Bits))) ⟨m, fun _ => 0, g⟩ (fun r => (∀ c : Dev Cert.Xa.nD,
      r.2.mem ((c.tc : Thread Cert.Xa.nD Cert.Xa.τ).loc Cert.Xa.main_arg0) = m ((c.tc : Thread Cert.Xa.nD Cert.Xa.τ).loc Cert.Xa.main_arg0)
      ∧ r.2.mem ((c.tc : Thread Cert.Xa.nD Cert.Xa.τ).loc Cert.Xa.main_arg1) = m ((c.tc : Thread Cert.Xa.nD Cert.Xa.τ).loc Cert.Xa.main_arg1)
      ∧ r.2.mem ((c.tc : Thread Cert.Xa.nD Cert.Xa.τ).loc Cert.Xa.main_arg2) = m ((c.tc : Thread Cert.Xa.nD Cert.Xa.τ).loc Cert.Xa.main_arg2)
      ∧ r.2.mem ((c.tc : Thread Cert.Xa.nD Cert.Xa.τ).loc Cert.Xa.main_arg3) = m ((c.tc : Thread Cert.Xa.nD Cert.Xa.τ).loc Cert.Xa.main_arg3)
      ∧ r.2.mem ((c.tc : Thread Cert.Xa.nD Cert.Xa.τ).loc Cert.Xa.main_arg4) = m ((c.tc : Thread Cert.Xa.nD Cert.Xa.τ).loc Cert.Xa.main_arg4))
      ∧ r.2.sem = fun _ => 0)

def quiescent_XaIdeal [hXaIdeal : Cert.XaIdeal.Facts] : Prop :=
  ∀ (m : (ℓ : Loc Cert.XaIdeal.nD Cert.XaIdeal.τ Cert.XaIdeal.sig) → Buf (Elt Ideal) ℓ) (g : Dev Cert.XaIdeal.nD → PrngReg), Pre_XaIdeal m →
    θ_run (Cert.XaIdeal.defs (F := Ideal)) (onTc (τ := Cert.XaIdeal.τ) (Cert.XaIdeal.main (F := Ideal))) ⟨m, fun _ => 0, g⟩ (fun r => (∀ c : Dev Cert.XaIdeal.nD,
      r.2.mem ((c.tc : Thread Cert.XaIdeal.nD Cert.XaIdeal.τ).loc Cert.XaIdeal.main_arg0) = m ((c.tc : Thread Cert.XaIdeal.nD Cert.XaIdeal.τ).loc Cert.XaIdeal.main_arg0)
      ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
      ∧ r.2.mem ((c.tc : Thread Cert.XaIdeal.nD Cert.XaIdeal.τ).loc Cert.XaIdeal.main_arg2) = m ((c.tc : Thread Cert.XaIdeal.nD Cert.XaIdeal.τ).loc Cert.XaIdeal.main_arg2)
      ∧ r.2.mem ((c.tc : Thread Cert.XaIdeal.nD Cert.XaIdeal.τ).loc Cert.XaIdeal.main_arg3) = m ((c.tc : Thread Cert.XaIdeal.nD Cert.XaIdeal.τ).loc Cert.XaIdeal.main_arg3)
      ∧ r.2.mem ((c.tc : Thread Cert.XaIdeal.nD Cert.XaIdeal.τ).loc Cert.XaIdeal.main_arg4) = m ((c.tc : Thread Cert.XaIdeal.nD Cert.XaIdeal.τ).loc Cert.XaIdeal.main_arg4))
      ∧ r.2.sem = fun _ => 0)

def quiescent_XaIdeal_pre_finite_xa [hXaIdeal : Cert.XaIdeal.Facts] [hPre_finite_xa : Cert.Pre_finite_xa.Facts] : Prop :=
  ∀ (m : (ℓ : Loc Cert.XaIdeal.nD Cert.XaIdeal.τ Cert.XaIdeal.sig) → Buf (Elt Ideal) ℓ) (g : Dev Cert.XaIdeal.nD → PrngReg), Pre_XaIdeal_finite_xa m →
    θ_run (Cert.XaIdeal.defs (F := Ideal)) (onTc (τ := Cert.XaIdeal.τ) (Cert.XaIdeal.main (F := Ideal))) ⟨m, fun _ => 0, g⟩ (fun r => (∀ c : Dev Cert.XaIdeal.nD,
      r.2.mem ((c.tc : Thread Cert.XaIdeal.nD Cert.XaIdeal.τ).loc Cert.XaIdeal.main_arg0) = m ((c.tc : Thread Cert.XaIdeal.nD Cert.XaIdeal.τ).loc Cert.XaIdeal.main_arg0)
      ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
      ∧ r.2.mem ((c.tc : Thread Cert.XaIdeal.nD Cert.XaIdeal.τ).loc Cert.XaIdeal.main_arg2) = m ((c.tc : Thread Cert.XaIdeal.nD Cert.XaIdeal.τ).loc Cert.XaIdeal.main_arg2)
      ∧ r.2.mem ((c.tc : Thread Cert.XaIdeal.nD Cert.XaIdeal.τ).loc Cert.XaIdeal.main_arg3) = m ((c.tc : Thread Cert.XaIdeal.nD Cert.XaIdeal.τ).loc Cert.XaIdeal.main_arg3)
      ∧ r.2.mem ((c.tc : Thread Cert.XaIdeal.nD Cert.XaIdeal.τ).loc Cert.XaIdeal.main_arg4) = m ((c.tc : Thread Cert.XaIdeal.nD Cert.XaIdeal.τ).loc Cert.XaIdeal.main_arg4))
      ∧ r.2.sem = fun _ => 0)

def quiescent_XaRefIdeal [hXaRefIdeal : Cert.XaRefIdeal.Facts] : Prop :=
  ∀ (m : (ℓ : Loc Cert.XaRefIdeal.nD Cert.XaRefIdeal.τ Cert.XaRefIdeal.sig) → Buf (Elt Ideal) ℓ) (g : Dev Cert.XaRefIdeal.nD → PrngReg), Pre_XaRefIdeal m →
    θ_run (Cert.XaRefIdeal.defs (F := Ideal)) (onTc (τ := Cert.XaRefIdeal.τ) (Cert.XaRefIdeal.main (F := Ideal))) ⟨m, fun _ => 0, g⟩ (fun r => (∀ c : Dev Cert.XaRefIdeal.nD,
      r.2.mem ((c.tc : Thread Cert.XaRefIdeal.nD Cert.XaRefIdeal.τ).loc Cert.XaRefIdeal.main_arg0) = m ((c.tc : Thread Cert.XaRefIdeal.nD Cert.XaRefIdeal.τ).loc Cert.XaRefIdeal.main_arg0)
      ∧ r.2.mem ((c.tc : Thread Cert.XaRefIdeal.nD Cert.XaRefIdeal.τ).loc Cert.XaRefIdeal.main_arg1) = m ((c.tc : Thread Cert.XaRefIdeal.nD Cert.XaRefIdeal.τ).loc Cert.XaRefIdeal.main_arg1)
      ∧ r.2.mem ((c.tc : Thread Cert.XaRefIdeal.nD Cert.XaRefIdeal.τ).loc Cert.XaRefIdeal.main_arg2) = m ((c.tc : Thread Cert.XaRefIdeal.nD Cert.XaRefIdeal.τ).loc Cert.XaRefIdeal.main_arg2)
      ∧ r.2.mem ((c.tc : Thread Cert.XaRefIdeal.nD Cert.XaRefIdeal.τ).loc Cert.XaRefIdeal.main_arg3) = m ((c.tc : Thread Cert.XaRefIdeal.nD Cert.XaRefIdeal.τ).loc Cert.XaRefIdeal.main_arg3)
      ∧ r.2.mem ((c.tc : Thread Cert.XaRefIdeal.nD Cert.XaRefIdeal.τ).loc Cert.XaRefIdeal.main_arg4) = m ((c.tc : Thread Cert.XaRefIdeal.nD Cert.XaRefIdeal.τ).loc Cert.XaRefIdeal.main_arg4))
      ∧ r.2.sem = fun _ => 0)

def quiescent_XaRefIdeal_pre_finite_xa [hXaRefIdeal : Cert.XaRefIdeal.Facts] [hPre_finite_xa : Cert.Pre_finite_xa.Facts] : Prop :=
  ∀ (m : (ℓ : Loc Cert.XaRefIdeal.nD Cert.XaRefIdeal.τ Cert.XaRefIdeal.sig) → Buf (Elt Ideal) ℓ) (g : Dev Cert.XaRefIdeal.nD → PrngReg), Pre_XaRefIdeal_finite_xa m →
    θ_run (Cert.XaRefIdeal.defs (F := Ideal)) (onTc (τ := Cert.XaRefIdeal.τ) (Cert.XaRefIdeal.main (F := Ideal))) ⟨m, fun _ => 0, g⟩ (fun r => (∀ c : Dev Cert.XaRefIdeal.nD,
      r.2.mem ((c.tc : Thread Cert.XaRefIdeal.nD Cert.XaRefIdeal.τ).loc Cert.XaRefIdeal.main_arg0) = m ((c.tc : Thread Cert.XaRefIdeal.nD Cert.XaRefIdeal.τ).loc Cert.XaRefIdeal.main_arg0)
      ∧ r.2.mem ((c.tc : Thread Cert.XaRefIdeal.nD Cert.XaRefIdeal.τ).loc Cert.XaRefIdeal.main_arg1) = m ((c.tc : Thread Cert.XaRefIdeal.nD Cert.XaRefIdeal.τ).loc Cert.XaRefIdeal.main_arg1)
      ∧ r.2.mem ((c.tc : Thread Cert.XaRefIdeal.nD Cert.XaRefIdeal.τ).loc Cert.XaRefIdeal.main_arg2) = m ((c.tc : Thread Cert.XaRefIdeal.nD Cert.XaRefIdeal.τ).loc Cert.XaRefIdeal.main_arg2)
      ∧ r.2.mem ((c.tc : Thread Cert.XaRefIdeal.nD Cert.XaRefIdeal.τ).loc Cert.XaRefIdeal.main_arg3) = m ((c.tc : Thread Cert.XaRefIdeal.nD Cert.XaRefIdeal.τ).loc Cert.XaRefIdeal.main_arg3)
      ∧ r.2.mem ((c.tc : Thread Cert.XaRefIdeal.nD Cert.XaRefIdeal.τ).loc Cert.XaRefIdeal.main_arg4) = m ((c.tc : Thread Cert.XaRefIdeal.nD Cert.XaRefIdeal.τ).loc Cert.XaRefIdeal.main_arg4))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2)
      ∧ r.2.mem ((c.tc : Thread Cert.Sb.nD Cert.Sb.τ).loc Cert.Sb.main_arg3) = m ((c.tc : Thread Cert.Sb.nD Cert.Sb.τ).loc Cert.Sb.main_arg3))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3))
      ∧ r.2.sem = fun _ => 0)

def quiescent_SbIdeal_pre_finite_sb [hSbIdeal : Cert.SbIdeal.Facts] [hPre_finite_sb : Cert.Pre_finite_sb.Facts] : Prop :=
  ∀ (m : (ℓ : Loc Cert.SbIdeal.nD Cert.SbIdeal.τ Cert.SbIdeal.sig) → Buf (Elt Ideal) ℓ) (g : Dev Cert.SbIdeal.nD → PrngReg), Pre_SbIdeal_finite_sb m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2)
      ∧ r.2.mem ((c.tc : Thread Cert.SbRefIdeal.nD Cert.SbRefIdeal.τ).loc Cert.SbRefIdeal.main_arg3) = m ((c.tc : Thread Cert.SbRefIdeal.nD Cert.SbRefIdeal.τ).loc Cert.SbRefIdeal.main_arg3))
      ∧ r.2.sem = fun _ => 0)

def quiescent_SbRefIdeal_pre_finite_sb [hSbRefIdeal : Cert.SbRefIdeal.Facts] [hPre_finite_sb : Cert.Pre_finite_sb.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_finite_sb m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2)
      ∧ r.2.mem ((c.tc : Thread Cert.SbRefIdeal.nD Cert.SbRefIdeal.τ).loc Cert.SbRefIdeal.main_arg3) = m ((c.tc : Thread Cert.SbRefIdeal.nD Cert.SbRefIdeal.τ).loc Cert.SbRefIdeal.main_arg3))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3)
      ∧ r.2.mem ((c.tc : Thread Cert.Win.nD Cert.Win.τ).loc Cert.Win.main_arg4) = m ((c.tc : Thread Cert.Win.nD Cert.Win.τ).loc Cert.Win.main_arg4)
      ∧ r.2.mem ((c.tc : Thread Cert.Win.nD Cert.Win.τ).loc Cert.Win.main_arg5) = m ((c.tc : Thread Cert.Win.nD Cert.Win.τ).loc Cert.Win.main_arg5))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
      ∧ r.2.mem ((c.tc : Thread Cert.WinIdeal.nD Cert.WinIdeal.τ).loc Cert.WinIdeal.main_arg5) = m ((c.tc : Thread Cert.WinIdeal.nD Cert.WinIdeal.τ).loc Cert.WinIdeal.main_arg5))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4)
      ∧ r.2.mem ((c.tc : Thread Cert.WinRefIdeal.nD Cert.WinRefIdeal.τ).loc Cert.WinRefIdeal.main_arg5) = m ((c.tc : Thread Cert.WinRefIdeal.nD Cert.WinRefIdeal.τ).loc Cert.WinRefIdeal.main_arg5))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4)
      ∧ r.2.mem ((c.tc : Thread Cert.Dh.nD Cert.Dh.τ).loc Cert.Dh.main_arg5) = m ((c.tc : Thread Cert.Dh.nD Cert.Dh.τ).loc Cert.Dh.main_arg5))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
      ∧ r.2.mem ((c.tc : Thread Cert.DhIdeal.nD Cert.DhIdeal.τ).loc Cert.DhIdeal.main_arg5) = m ((c.tc : Thread Cert.DhIdeal.nD Cert.DhIdeal.τ).loc Cert.DhIdeal.main_arg5))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4)
      ∧ r.2.mem ((c.tc : Thread Cert.DhRefIdeal.nD Cert.DhRefIdeal.τ).loc Cert.DhRefIdeal.main_arg5) = m ((c.tc : Thread Cert.DhRefIdeal.nD Cert.DhRefIdeal.τ).loc Cert.DhRefIdeal.main_arg5))
      ∧ r.2.sem = fun _ => 0)

def quiescent_WinDn [hWinDn : Cert.WinDn.Facts] : Prop :=
  ∀ (m : (ℓ : Loc Cert.WinDn.nD Cert.WinDn.τ Cert.WinDn.sig) → Buf (Elt Bits) ℓ) (g : Dev Cert.WinDn.nD → PrngReg), Pre_WinDn m →
    θ_run (Cert.WinDn.defs (F := Bits)) (onTc (τ := Cert.WinDn.τ) (Cert.WinDn.main (F := Bits))) ⟨m, fun _ => 0, g⟩ (fun r => (∀ c : Dev Cert.WinDn.nD,
      r.2.mem ((c.tc : Thread Cert.WinDn.nD Cert.WinDn.τ).loc Cert.WinDn.main_arg0) = m ((c.tc : Thread Cert.WinDn.nD Cert.WinDn.τ).loc Cert.WinDn.main_arg0)
      ∧ r.2.mem ((c.tc : Thread Cert.WinDn.nD Cert.WinDn.τ).loc Cert.WinDn.main_arg1) = m ((c.tc : Thread Cert.WinDn.nD Cert.WinDn.τ).loc Cert.WinDn.main_arg1)
      ∧ r.2.mem ((c.tc : Thread Cert.WinDn.nD Cert.WinDn.τ).loc Cert.WinDn.main_arg2) = m ((c.tc : Thread Cert.WinDn.nD Cert.WinDn.τ).loc Cert.WinDn.main_arg2)
      ∧ r.2.mem ((c.tc : Thread Cert.WinDn.nD Cert.WinDn.τ).loc Cert.WinDn.main_arg3) = m ((c.tc : Thread Cert.WinDn.nD Cert.WinDn.τ).loc Cert.WinDn.main_arg3)
      ∧ r.2.mem ((c.tc : Thread Cert.WinDn.nD Cert.WinDn.τ).loc Cert.WinDn.main_arg4) = m ((c.tc : Thread Cert.WinDn.nD Cert.WinDn.τ).loc Cert.WinDn.main_arg4)
      ∧ r.2.mem ((c.tc : Thread Cert.WinDn.nD Cert.WinDn.τ).loc Cert.WinDn.main_arg5) = m ((c.tc : Thread Cert.WinDn.nD Cert.WinDn.τ).loc Cert.WinDn.main_arg5)
      ∧ r.2.mem ((c.tc : Thread Cert.WinDn.nD Cert.WinDn.τ).loc Cert.WinDn.main_arg6) = m ((c.tc : Thread Cert.WinDn.nD Cert.WinDn.τ).loc Cert.WinDn.main_arg6))
      ∧ r.2.sem = fun _ => 0)

def quiescent_WinDnIdeal [hWinDnIdeal : Cert.WinDnIdeal.Facts] : Prop :=
  ∀ (m : (ℓ : Loc Cert.WinDnIdeal.nD Cert.WinDnIdeal.τ Cert.WinDnIdeal.sig) → Buf (Elt Ideal) ℓ) (g : Dev Cert.WinDnIdeal.nD → PrngReg), Pre_WinDnIdeal m →
    θ_run (Cert.WinDnIdeal.defs (F := Ideal)) (onTc (τ := Cert.WinDnIdeal.τ) (Cert.WinDnIdeal.main (F := Ideal))) ⟨m, fun _ => 0, g⟩ (fun r => (∀ c : Dev Cert.WinDnIdeal.nD,
      r.2.mem ((c.tc : Thread Cert.WinDnIdeal.nD Cert.WinDnIdeal.τ).loc Cert.WinDnIdeal.main_arg0) = m ((c.tc : Thread Cert.WinDnIdeal.nD Cert.WinDnIdeal.τ).loc Cert.WinDnIdeal.main_arg0)
      ∧ r.2.mem ((c.tc : Thread Cert.WinDnIdeal.nD Cert.WinDnIdeal.τ).loc Cert.WinDnIdeal.main_arg1) = m ((c.tc : Thread Cert.WinDnIdeal.nD Cert.WinDnIdeal.τ).loc Cert.WinDnIdeal.main_arg1)
      ∧ r.2.mem ((c.tc : Thread Cert.WinDnIdeal.nD Cert.WinDnIdeal.τ).loc Cert.WinDnIdeal.main_arg2) = m ((c.tc : Thread Cert.WinDnIdeal.nD Cert.WinDnIdeal.τ).loc Cert.WinDnIdeal.main_arg2)
      ∧ r.2.mem ((c.tc : Thread Cert.WinDnIdeal.nD Cert.WinDnIdeal.τ).loc Cert.WinDnIdeal.main_arg3) = m ((c.tc : Thread Cert.WinDnIdeal.nD Cert.WinDnIdeal.τ).loc Cert.WinDnIdeal.main_arg3)
      ∧ r.2.mem ((c.tc : Thread Cert.WinDnIdeal.nD Cert.WinDnIdeal.τ).loc Cert.WinDnIdeal.main_arg4) = m ((c.tc : Thread Cert.WinDnIdeal.nD Cert.WinDnIdeal.τ).loc Cert.WinDnIdeal.main_arg4)
      ∧ r.2.mem ((c.tc : Thread Cert.WinDnIdeal.nD Cert.WinDnIdeal.τ).loc Cert.WinDnIdeal.main_arg5) = m ((c.tc : Thread Cert.WinDnIdeal.nD Cert.WinDnIdeal.τ).loc Cert.WinDnIdeal.main_arg5)
      ∧ r.2.mem ((c.tc : Thread Cert.WinDnIdeal.nD Cert.WinDnIdeal.τ).loc Cert.WinDnIdeal.main_arg6) = m ((c.tc : Thread Cert.WinDnIdeal.nD Cert.WinDnIdeal.τ).loc Cert.WinDnIdeal.main_arg6))
      ∧ r.2.sem = fun _ => 0)

def quiescent_WinDnRefIdeal [hWinDnRefIdeal : Cert.WinDnRefIdeal.Facts] : Prop :=
  ∀ (m : (ℓ : Loc Cert.WinDnRefIdeal.nD Cert.WinDnRefIdeal.τ Cert.WinDnRefIdeal.sig) → Buf (Elt Ideal) ℓ) (g : Dev Cert.WinDnRefIdeal.nD → PrngReg), Pre_WinDnRefIdeal m →
    θ_run (Cert.WinDnRefIdeal.defs (F := Ideal)) (onTc (τ := Cert.WinDnRefIdeal.τ) (Cert.WinDnRefIdeal.main (F := Ideal))) ⟨m, fun _ => 0, g⟩ (fun r => (∀ c : Dev Cert.WinDnRefIdeal.nD,
      r.2.mem ((c.tc : Thread Cert.WinDnRefIdeal.nD Cert.WinDnRefIdeal.τ).loc Cert.WinDnRefIdeal.main_arg0) = m ((c.tc : Thread Cert.WinDnRefIdeal.nD Cert.WinDnRefIdeal.τ).loc Cert.WinDnRefIdeal.main_arg0)
      ∧ r.2.mem ((c.tc : Thread Cert.WinDnRefIdeal.nD Cert.WinDnRefIdeal.τ).loc Cert.WinDnRefIdeal.main_arg1) = m ((c.tc : Thread Cert.WinDnRefIdeal.nD Cert.WinDnRefIdeal.τ).loc Cert.WinDnRefIdeal.main_arg1)
      ∧ r.2.mem ((c.tc : Thread Cert.WinDnRefIdeal.nD Cert.WinDnRefIdeal.τ).loc Cert.WinDnRefIdeal.main_arg2) = m ((c.tc : Thread Cert.WinDnRefIdeal.nD Cert.WinDnRefIdeal.τ).loc Cert.WinDnRefIdeal.main_arg2)
      ∧ r.2.mem ((c.tc : Thread Cert.WinDnRefIdeal.nD Cert.WinDnRefIdeal.τ).loc Cert.WinDnRefIdeal.main_arg3) = m ((c.tc : Thread Cert.WinDnRefIdeal.nD Cert.WinDnRefIdeal.τ).loc Cert.WinDnRefIdeal.main_arg3)
      ∧ r.2.mem ((c.tc : Thread Cert.WinDnRefIdeal.nD Cert.WinDnRefIdeal.τ).loc Cert.WinDnRefIdeal.main_arg4) = m ((c.tc : Thread Cert.WinDnRefIdeal.nD Cert.WinDnRefIdeal.τ).loc Cert.WinDnRefIdeal.main_arg4)
      ∧ r.2.mem ((c.tc : Thread Cert.WinDnRefIdeal.nD Cert.WinDnRefIdeal.τ).loc Cert.WinDnRefIdeal.main_arg5) = m ((c.tc : Thread Cert.WinDnRefIdeal.nD Cert.WinDnRefIdeal.τ).loc Cert.WinDnRefIdeal.main_arg5)
      ∧ r.2.mem ((c.tc : Thread Cert.WinDnRefIdeal.nD Cert.WinDnRefIdeal.τ).loc Cert.WinDnRefIdeal.main_arg6) = m ((c.tc : Thread Cert.WinDnRefIdeal.nD Cert.WinDnRefIdeal.τ).loc Cert.WinDnRefIdeal.main_arg6))
      ∧ r.2.sem = fun _ => 0)

def quiescent_DhDn [hDhDn : Cert.DhDn.Facts] : Prop :=
  ∀ (m : (ℓ : Loc Cert.DhDn.nD Cert.DhDn.τ Cert.DhDn.sig) → Buf (Elt Bits) ℓ) (g : Dev Cert.DhDn.nD → PrngReg), Pre_DhDn m →
    θ_run (Cert.DhDn.defs (F := Bits)) (onTc (τ := Cert.DhDn.τ) (Cert.DhDn.main (F := Bits))) ⟨m, fun _ => 0, g⟩ (fun r => (∀ c : Dev Cert.DhDn.nD,
      r.2.mem ((c.tc : Thread Cert.DhDn.nD Cert.DhDn.τ).loc Cert.DhDn.main_arg0) = m ((c.tc : Thread Cert.DhDn.nD Cert.DhDn.τ).loc Cert.DhDn.main_arg0)
      ∧ r.2.mem ((c.tc : Thread Cert.DhDn.nD Cert.DhDn.τ).loc Cert.DhDn.main_arg1) = m ((c.tc : Thread Cert.DhDn.nD Cert.DhDn.τ).loc Cert.DhDn.main_arg1)
      ∧ r.2.mem ((c.tc : Thread Cert.DhDn.nD Cert.DhDn.τ).loc Cert.DhDn.main_arg2) = m ((c.tc : Thread Cert.DhDn.nD Cert.DhDn.τ).loc Cert.DhDn.main_arg2)
      ∧ r.2.mem ((c.tc : Thread Cert.DhDn.nD Cert.DhDn.τ).loc Cert.DhDn.main_arg3) = m ((c.tc : Thread Cert.DhDn.nD Cert.DhDn.τ).loc Cert.DhDn.main_arg3)
      ∧ r.2.mem ((c.tc : Thread Cert.DhDn.nD Cert.DhDn.τ).loc Cert.DhDn.main_arg4) = m ((c.tc : Thread Cert.DhDn.nD Cert.DhDn.τ).loc Cert.DhDn.main_arg4)
      ∧ r.2.mem ((c.tc : Thread Cert.DhDn.nD Cert.DhDn.τ).loc Cert.DhDn.main_arg5) = m ((c.tc : Thread Cert.DhDn.nD Cert.DhDn.τ).loc Cert.DhDn.main_arg5)
      ∧ r.2.mem ((c.tc : Thread Cert.DhDn.nD Cert.DhDn.τ).loc Cert.DhDn.main_arg6) = m ((c.tc : Thread Cert.DhDn.nD Cert.DhDn.τ).loc Cert.DhDn.main_arg6))
      ∧ r.2.sem = fun _ => 0)

def quiescent_DhDnIdeal [hDhDnIdeal : Cert.DhDnIdeal.Facts] : Prop :=
  ∀ (m : (ℓ : Loc Cert.DhDnIdeal.nD Cert.DhDnIdeal.τ Cert.DhDnIdeal.sig) → Buf (Elt Ideal) ℓ) (g : Dev Cert.DhDnIdeal.nD → PrngReg), Pre_DhDnIdeal m →
    θ_run (Cert.DhDnIdeal.defs (F := Ideal)) (onTc (τ := Cert.DhDnIdeal.τ) (Cert.DhDnIdeal.main (F := Ideal))) ⟨m, fun _ => 0, g⟩ (fun r => (∀ c : Dev Cert.DhDnIdeal.nD,
      r.2.mem ((c.tc : Thread Cert.DhDnIdeal.nD Cert.DhDnIdeal.τ).loc Cert.DhDnIdeal.main_arg0) = m ((c.tc : Thread Cert.DhDnIdeal.nD Cert.DhDnIdeal.τ).loc Cert.DhDnIdeal.main_arg0)
      ∧ r.2.mem ((c.tc : Thread Cert.DhDnIdeal.nD Cert.DhDnIdeal.τ).loc Cert.DhDnIdeal.main_arg1) = m ((c.tc : Thread Cert.DhDnIdeal.nD Cert.DhDnIdeal.τ).loc Cert.DhDnIdeal.main_arg1)
      ∧ r.2.mem ((c.tc : Thread Cert.DhDnIdeal.nD Cert.DhDnIdeal.τ).loc Cert.DhDnIdeal.main_arg2) = m ((c.tc : Thread Cert.DhDnIdeal.nD Cert.DhDnIdeal.τ).loc Cert.DhDnIdeal.main_arg2)
      ∧ r.2.mem ((c.tc : Thread Cert.DhDnIdeal.nD Cert.DhDnIdeal.τ).loc Cert.DhDnIdeal.main_arg3) = m ((c.tc : Thread Cert.DhDnIdeal.nD Cert.DhDnIdeal.τ).loc Cert.DhDnIdeal.main_arg3)
      ∧ r.2.mem ((c.tc : Thread Cert.DhDnIdeal.nD Cert.DhDnIdeal.τ).loc Cert.DhDnIdeal.main_arg4) = m ((c.tc : Thread Cert.DhDnIdeal.nD Cert.DhDnIdeal.τ).loc Cert.DhDnIdeal.main_arg4)
      ∧ r.2.mem ((c.tc : Thread Cert.DhDnIdeal.nD Cert.DhDnIdeal.τ).loc Cert.DhDnIdeal.main_arg5) = m ((c.tc : Thread Cert.DhDnIdeal.nD Cert.DhDnIdeal.τ).loc Cert.DhDnIdeal.main_arg5)
      ∧ r.2.mem ((c.tc : Thread Cert.DhDnIdeal.nD Cert.DhDnIdeal.τ).loc Cert.DhDnIdeal.main_arg6) = m ((c.tc : Thread Cert.DhDnIdeal.nD Cert.DhDnIdeal.τ).loc Cert.DhDnIdeal.main_arg6))
      ∧ r.2.sem = fun _ => 0)

def quiescent_DhDnRefIdeal [hDhDnRefIdeal : Cert.DhDnRefIdeal.Facts] : Prop :=
  ∀ (m : (ℓ : Loc Cert.DhDnRefIdeal.nD Cert.DhDnRefIdeal.τ Cert.DhDnRefIdeal.sig) → Buf (Elt Ideal) ℓ) (g : Dev Cert.DhDnRefIdeal.nD → PrngReg), Pre_DhDnRefIdeal m →
    θ_run (Cert.DhDnRefIdeal.defs (F := Ideal)) (onTc (τ := Cert.DhDnRefIdeal.τ) (Cert.DhDnRefIdeal.main (F := Ideal))) ⟨m, fun _ => 0, g⟩ (fun r => (∀ c : Dev Cert.DhDnRefIdeal.nD,
      r.2.mem ((c.tc : Thread Cert.DhDnRefIdeal.nD Cert.DhDnRefIdeal.τ).loc Cert.DhDnRefIdeal.main_arg0) = m ((c.tc : Thread Cert.DhDnRefIdeal.nD Cert.DhDnRefIdeal.τ).loc Cert.DhDnRefIdeal.main_arg0)
      ∧ r.2.mem ((c.tc : Thread Cert.DhDnRefIdeal.nD Cert.DhDnRefIdeal.τ).loc Cert.DhDnRefIdeal.main_arg1) = m ((c.tc : Thread Cert.DhDnRefIdeal.nD Cert.DhDnRefIdeal.τ).loc Cert.DhDnRefIdeal.main_arg1)
      ∧ r.2.mem ((c.tc : Thread Cert.DhDnRefIdeal.nD Cert.DhDnRefIdeal.τ).loc Cert.DhDnRefIdeal.main_arg2) = m ((c.tc : Thread Cert.DhDnRefIdeal.nD Cert.DhDnRefIdeal.τ).loc Cert.DhDnRefIdeal.main_arg2)
      ∧ r.2.mem ((c.tc : Thread Cert.DhDnRefIdeal.nD Cert.DhDnRefIdeal.τ).loc Cert.DhDnRefIdeal.main_arg3) = m ((c.tc : Thread Cert.DhDnRefIdeal.nD Cert.DhDnRefIdeal.τ).loc Cert.DhDnRefIdeal.main_arg3)
      ∧ r.2.mem ((c.tc : Thread Cert.DhDnRefIdeal.nD Cert.DhDnRefIdeal.τ).loc Cert.DhDnRefIdeal.main_arg4) = m ((c.tc : Thread Cert.DhDnRefIdeal.nD Cert.DhDnRefIdeal.τ).loc Cert.DhDnRefIdeal.main_arg4)
      ∧ r.2.mem ((c.tc : Thread Cert.DhDnRefIdeal.nD Cert.DhDnRefIdeal.τ).loc Cert.DhDnRefIdeal.main_arg5) = m ((c.tc : Thread Cert.DhDnRefIdeal.nD Cert.DhDnRefIdeal.τ).loc Cert.DhDnRefIdeal.main_arg5)
      ∧ r.2.mem ((c.tc : Thread Cert.DhDnRefIdeal.nD Cert.DhDnRefIdeal.τ).loc Cert.DhDnRefIdeal.main_arg6) = m ((c.tc : Thread Cert.DhDnRefIdeal.nD Cert.DhDnRefIdeal.τ).loc Cert.DhDnRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_ProjDn [hProjDn : Cert.ProjDn.Facts] : Prop :=
  ∀ (m : (ℓ : Loc Cert.ProjDn.nD Cert.ProjDn.τ Cert.ProjDn.sig) → Buf (Elt Bits) ℓ) (g : Dev Cert.ProjDn.nD → PrngReg), Pre_ProjDn m →
    θ_run (Cert.ProjDn.defs (F := Bits)) (onTc (τ := Cert.ProjDn.τ) (Cert.ProjDn.main (F := Bits))) ⟨m, fun _ => 0, g⟩ (fun r => (∀ c : Dev Cert.ProjDn.nD,
      r.2.mem ((c.tc : Thread Cert.ProjDn.nD Cert.ProjDn.τ).loc Cert.ProjDn.main_arg0) = m ((c.tc : Thread Cert.ProjDn.nD Cert.ProjDn.τ).loc Cert.ProjDn.main_arg0)
      ∧ r.2.mem ((c.tc : Thread Cert.ProjDn.nD Cert.ProjDn.τ).loc Cert.ProjDn.main_arg1) = m ((c.tc : Thread Cert.ProjDn.nD Cert.ProjDn.τ).loc Cert.ProjDn.main_arg1))
      ∧ r.2.sem = fun _ => 0)

def quiescent_ProjDnIdeal [hProjDnIdeal : Cert.ProjDnIdeal.Facts] : Prop :=
  ∀ (m : (ℓ : Loc Cert.ProjDnIdeal.nD Cert.ProjDnIdeal.τ Cert.ProjDnIdeal.sig) → Buf (Elt Ideal) ℓ) (g : Dev Cert.ProjDnIdeal.nD → PrngReg), Pre_ProjDnIdeal m →
    θ_run (Cert.ProjDnIdeal.defs (F := Ideal)) (onTc (τ := Cert.ProjDnIdeal.τ) (Cert.ProjDnIdeal.main (F := Ideal))) ⟨m, fun _ => 0, g⟩ (fun r => (∀ c : Dev Cert.ProjDnIdeal.nD,
      r.2.mem ((c.tc : Thread Cert.ProjDnIdeal.nD Cert.ProjDnIdeal.τ).loc Cert.ProjDnIdeal.main_arg0) = m ((c.tc : Thread Cert.ProjDnIdeal.nD Cert.ProjDnIdeal.τ).loc Cert.ProjDnIdeal.main_arg0)
      ∧ r.2.mem ((c.tc : Thread Cert.ProjDnIdeal.nD Cert.ProjDnIdeal.τ).loc Cert.ProjDnIdeal.main_arg1) = m ((c.tc : Thread Cert.ProjDnIdeal.nD Cert.ProjDnIdeal.τ).loc Cert.ProjDnIdeal.main_arg1))
      ∧ r.2.sem = fun _ => 0)

def quiescent_ProjDnRefIdeal [hProjDnRefIdeal : Cert.ProjDnRefIdeal.Facts] : Prop :=
  ∀ (m : (ℓ : Loc Cert.ProjDnRefIdeal.nD Cert.ProjDnRefIdeal.τ Cert.ProjDnRefIdeal.sig) → Buf (Elt Ideal) ℓ) (g : Dev Cert.ProjDnRefIdeal.nD → PrngReg), Pre_ProjDnRefIdeal m →
    θ_run (Cert.ProjDnRefIdeal.defs (F := Ideal)) (onTc (τ := Cert.ProjDnRefIdeal.τ) (Cert.ProjDnRefIdeal.main (F := Ideal))) ⟨m, fun _ => 0, g⟩ (fun r => (∀ c : Dev Cert.ProjDnRefIdeal.nD,
      r.2.mem ((c.tc : Thread Cert.ProjDnRefIdeal.nD Cert.ProjDnRefIdeal.τ).loc Cert.ProjDnRefIdeal.main_arg0) = m ((c.tc : Thread Cert.ProjDnRefIdeal.nD Cert.ProjDnRefIdeal.τ).loc Cert.ProjDnRefIdeal.main_arg0)
      ∧ r.2.mem ((c.tc : Thread Cert.ProjDnRefIdeal.nD Cert.ProjDnRefIdeal.τ).loc Cert.ProjDnRefIdeal.main_arg1) = m ((c.tc : Thread Cert.ProjDnRefIdeal.nD Cert.ProjDnRefIdeal.τ).loc Cert.ProjDnRefIdeal.main_arg1))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ r.2.sem = fun _ => 0)

def quiescent_DyRefIdeal [hDyRefIdeal : Cert.DyRefIdeal.Facts] : Prop :=
  ∀ (m : (ℓ : Loc Cert.DyRefIdeal.nD Cert.DyRefIdeal.τ Cert.DyRefIdeal.sig) → Buf (Elt Ideal) ℓ) (g : Dev Cert.DyRefIdeal.nD → PrngReg), Pre_DyRefIdeal m →
    θ_run (Cert.DyRefIdeal.defs (F := Ideal)) (onTc (τ := Cert.DyRefIdeal.τ) (Cert.DyRefIdeal.main (F := Ideal))) ⟨m, fun _ => 0, g⟩ (fun r => (∀ c : Dev Cert.DyRefIdeal.nD,
      r.2.mem ((c.tc : Thread Cert.DyRefIdeal.nD Cert.DyRefIdeal.τ).loc Cert.DyRefIdeal.main_arg0) = m ((c.tc : Thread Cert.DyRefIdeal.nD Cert.DyRefIdeal.τ).loc Cert.DyRefIdeal.main_arg0)
      ∧ r.2.mem ((c.tc : Thread Cert.DyRefIdeal.nD Cert.DyRefIdeal.τ).loc Cert.DyRefIdeal.main_arg1) = m ((c.tc : Thread Cert.DyRefIdeal.nD Cert.DyRefIdeal.τ).loc Cert.DyRefIdeal.main_arg1))
      ∧ r.2.sem = fun _ => 0)

def quiescent_DyDn [hDyDn : Cert.DyDn.Facts] : Prop :=
  ∀ (m : (ℓ : Loc Cert.DyDn.nD Cert.DyDn.τ Cert.DyDn.sig) → Buf (Elt Bits) ℓ) (g : Dev Cert.DyDn.nD → PrngReg), Pre_DyDn m →
    θ_run (Cert.DyDn.defs (F := Bits)) (onTc (τ := Cert.DyDn.τ) (Cert.DyDn.main (F := Bits))) ⟨m, fun _ => 0, g⟩ (fun r => (∀ c : Dev Cert.DyDn.nD,
      r.2.mem ((c.tc : Thread Cert.DyDn.nD Cert.DyDn.τ).loc Cert.DyDn.main_arg0) = m ((c.tc : Thread Cert.DyDn.nD Cert.DyDn.τ).loc Cert.DyDn.main_arg0)
      ∧ r.2.mem ((c.tc : Thread Cert.DyDn.nD Cert.DyDn.τ).loc Cert.DyDn.main_arg1) = m ((c.tc : Thread Cert.DyDn.nD Cert.DyDn.τ).loc Cert.DyDn.main_arg1))
      ∧ r.2.sem = fun _ => 0)

def quiescent_DyDnIdeal [hDyDnIdeal : Cert.DyDnIdeal.Facts] : Prop :=
  ∀ (m : (ℓ : Loc Cert.DyDnIdeal.nD Cert.DyDnIdeal.τ Cert.DyDnIdeal.sig) → Buf (Elt Ideal) ℓ) (g : Dev Cert.DyDnIdeal.nD → PrngReg), Pre_DyDnIdeal m →
    θ_run (Cert.DyDnIdeal.defs (F := Ideal)) (onTc (τ := Cert.DyDnIdeal.τ) (Cert.DyDnIdeal.main (F := Ideal))) ⟨m, fun _ => 0, g⟩ (fun r => (∀ c : Dev Cert.DyDnIdeal.nD,
      r.2.mem ((c.tc : Thread Cert.DyDnIdeal.nD Cert.DyDnIdeal.τ).loc Cert.DyDnIdeal.main_arg0) = m ((c.tc : Thread Cert.DyDnIdeal.nD Cert.DyDnIdeal.τ).loc Cert.DyDnIdeal.main_arg0)
      ∧ r.2.mem ((c.tc : Thread Cert.DyDnIdeal.nD Cert.DyDnIdeal.τ).loc Cert.DyDnIdeal.main_arg1) = m ((c.tc : Thread Cert.DyDnIdeal.nD Cert.DyDnIdeal.τ).loc Cert.DyDnIdeal.main_arg1))
      ∧ r.2.sem = fun _ => 0)

def quiescent_DyDnRefIdeal [hDyDnRefIdeal : Cert.DyDnRefIdeal.Facts] : Prop :=
  ∀ (m : (ℓ : Loc Cert.DyDnRefIdeal.nD Cert.DyDnRefIdeal.τ Cert.DyDnRefIdeal.sig) → Buf (Elt Ideal) ℓ) (g : Dev Cert.DyDnRefIdeal.nD → PrngReg), Pre_DyDnRefIdeal m →
    θ_run (Cert.DyDnRefIdeal.defs (F := Ideal)) (onTc (τ := Cert.DyDnRefIdeal.τ) (Cert.DyDnRefIdeal.main (F := Ideal))) ⟨m, fun _ => 0, g⟩ (fun r => (∀ c : Dev Cert.DyDnRefIdeal.nD,
      r.2.mem ((c.tc : Thread Cert.DyDnRefIdeal.nD Cert.DyDnRefIdeal.τ).loc Cert.DyDnRefIdeal.main_arg0) = m ((c.tc : Thread Cert.DyDnRefIdeal.nD Cert.DyDnRefIdeal.τ).loc Cert.DyDnRefIdeal.main_arg0)
      ∧ r.2.mem ((c.tc : Thread Cert.DyDnRefIdeal.nD Cert.DyDnRefIdeal.τ).loc Cert.DyDnRefIdeal.main_arg1) = m ((c.tc : Thread Cert.DyDnRefIdeal.nD Cert.DyDnRefIdeal.τ).loc Cert.DyDnRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_OutDn [hOutDn : Cert.OutDn.Facts] : Prop :=
  ∀ (m : (ℓ : Loc Cert.OutDn.nD Cert.OutDn.τ Cert.OutDn.sig) → Buf (Elt Bits) ℓ) (g : Dev Cert.OutDn.nD → PrngReg), Pre_OutDn m →
    θ_run (Cert.OutDn.defs (F := Bits)) (onTc (τ := Cert.OutDn.τ) (Cert.OutDn.main (F := Bits))) ⟨m, fun _ => 0, g⟩ (fun r => (∀ c : Dev Cert.OutDn.nD,
      r.2.mem ((c.tc : Thread Cert.OutDn.nD Cert.OutDn.τ).loc Cert.OutDn.main_arg0) = m ((c.tc : Thread Cert.OutDn.nD Cert.OutDn.τ).loc Cert.OutDn.main_arg0)
      ∧ r.2.mem ((c.tc : Thread Cert.OutDn.nD Cert.OutDn.τ).loc Cert.OutDn.main_arg1) = m ((c.tc : Thread Cert.OutDn.nD Cert.OutDn.τ).loc Cert.OutDn.main_arg1)
      ∧ r.2.mem ((c.tc : Thread Cert.OutDn.nD Cert.OutDn.τ).loc Cert.OutDn.main_arg2) = m ((c.tc : Thread Cert.OutDn.nD Cert.OutDn.τ).loc Cert.OutDn.main_arg2))
      ∧ r.2.sem = fun _ => 0)

def quiescent_OutDnIdeal [hOutDnIdeal : Cert.OutDnIdeal.Facts] : Prop :=
  ∀ (m : (ℓ : Loc Cert.OutDnIdeal.nD Cert.OutDnIdeal.τ Cert.OutDnIdeal.sig) → Buf (Elt Ideal) ℓ) (g : Dev Cert.OutDnIdeal.nD → PrngReg), Pre_OutDnIdeal m →
    θ_run (Cert.OutDnIdeal.defs (F := Ideal)) (onTc (τ := Cert.OutDnIdeal.τ) (Cert.OutDnIdeal.main (F := Ideal))) ⟨m, fun _ => 0, g⟩ (fun r => (∀ c : Dev Cert.OutDnIdeal.nD,
      r.2.mem ((c.tc : Thread Cert.OutDnIdeal.nD Cert.OutDnIdeal.τ).loc Cert.OutDnIdeal.main_arg0) = m ((c.tc : Thread Cert.OutDnIdeal.nD Cert.OutDnIdeal.τ).loc Cert.OutDnIdeal.main_arg0)
      ∧ r.2.mem ((c.tc : Thread Cert.OutDnIdeal.nD Cert.OutDnIdeal.τ).loc Cert.OutDnIdeal.main_arg1) = m ((c.tc : Thread Cert.OutDnIdeal.nD Cert.OutDnIdeal.τ).loc Cert.OutDnIdeal.main_arg1)
      ∧ r.2.mem ((c.tc : Thread Cert.OutDnIdeal.nD Cert.OutDnIdeal.τ).loc Cert.OutDnIdeal.main_arg2) = m ((c.tc : Thread Cert.OutDnIdeal.nD Cert.OutDnIdeal.τ).loc Cert.OutDnIdeal.main_arg2))
      ∧ r.2.sem = fun _ => 0)

def quiescent_OutDnRefIdeal [hOutDnRefIdeal : Cert.OutDnRefIdeal.Facts] : Prop :=
  ∀ (m : (ℓ : Loc Cert.OutDnRefIdeal.nD Cert.OutDnRefIdeal.τ Cert.OutDnRefIdeal.sig) → Buf (Elt Ideal) ℓ) (g : Dev Cert.OutDnRefIdeal.nD → PrngReg), Pre_OutDnRefIdeal m →
    θ_run (Cert.OutDnRefIdeal.defs (F := Ideal)) (onTc (τ := Cert.OutDnRefIdeal.τ) (Cert.OutDnRefIdeal.main (F := Ideal))) ⟨m, fun _ => 0, g⟩ (fun r => (∀ c : Dev Cert.OutDnRefIdeal.nD,
      r.2.mem ((c.tc : Thread Cert.OutDnRefIdeal.nD Cert.OutDnRefIdeal.τ).loc Cert.OutDnRefIdeal.main_arg0) = m ((c.tc : Thread Cert.OutDnRefIdeal.nD Cert.OutDnRefIdeal.τ).loc Cert.OutDnRefIdeal.main_arg0)
      ∧ r.2.mem ((c.tc : Thread Cert.OutDnRefIdeal.nD Cert.OutDnRefIdeal.τ).loc Cert.OutDnRefIdeal.main_arg1) = m ((c.tc : Thread Cert.OutDnRefIdeal.nD Cert.OutDnRefIdeal.τ).loc Cert.OutDnRefIdeal.main_arg1)
      ∧ r.2.mem ((c.tc : Thread Cert.OutDnRefIdeal.nD Cert.OutDnRefIdeal.τ).loc Cert.OutDnRefIdeal.main_arg2) = m ((c.tc : Thread Cert.OutDnRefIdeal.nD Cert.OutDnRefIdeal.τ).loc Cert.OutDnRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Wkv [hWkv : Cert.Wkv.Facts] : Prop :=
  ∀ (m : (ℓ : Loc Cert.Wkv.nD Cert.Wkv.τ Cert.Wkv.sig) → Buf (Elt Bits) ℓ) (g : Dev Cert.Wkv.nD → PrngReg), Pre_Wkv m →
    θ_run (Cert.Wkv.defs (F := Bits)) (onTc (τ := Cert.Wkv.τ) (Cert.Wkv.main (F := Bits))) ⟨m, fun _ => 0, g⟩ (fun r => (∀ c : Dev Cert.Wkv.nD,
      r.2.mem ((c.tc : Thread Cert.Wkv.nD Cert.Wkv.τ).loc Cert.Wkv.main_arg0) = m ((c.tc : Thread Cert.Wkv.nD Cert.Wkv.τ).loc Cert.Wkv.main_arg0)
      ∧ r.2.mem ((c.tc : Thread Cert.Wkv.nD Cert.Wkv.τ).loc Cert.Wkv.main_arg1) = m ((c.tc : Thread Cert.Wkv.nD Cert.Wkv.τ).loc Cert.Wkv.main_arg1))
      ∧ r.2.sem = fun _ => 0)

def quiescent_WkvIdeal [hWkvIdeal : Cert.WkvIdeal.Facts] : Prop :=
  ∀ (m : (ℓ : Loc Cert.WkvIdeal.nD Cert.WkvIdeal.τ Cert.WkvIdeal.sig) → Buf (Elt Ideal) ℓ) (g : Dev Cert.WkvIdeal.nD → PrngReg), Pre_WkvIdeal m →
    θ_run (Cert.WkvIdeal.defs (F := Ideal)) (onTc (τ := Cert.WkvIdeal.τ) (Cert.WkvIdeal.main (F := Ideal))) ⟨m, fun _ => 0, g⟩ (fun r => (∀ c : Dev Cert.WkvIdeal.nD,
      r.2.mem ((c.tc : Thread Cert.WkvIdeal.nD Cert.WkvIdeal.τ).loc Cert.WkvIdeal.main_arg0) = m ((c.tc : Thread Cert.WkvIdeal.nD Cert.WkvIdeal.τ).loc Cert.WkvIdeal.main_arg0)
      ∧ r.2.mem ((c.tc : Thread Cert.WkvIdeal.nD Cert.WkvIdeal.τ).loc Cert.WkvIdeal.main_arg1) = m ((c.tc : Thread Cert.WkvIdeal.nD Cert.WkvIdeal.τ).loc Cert.WkvIdeal.main_arg1))
      ∧ r.2.sem = fun _ => 0)

def quiescent_WkvRefIdeal [hWkvRefIdeal : Cert.WkvRefIdeal.Facts] : Prop :=
  ∀ (m : (ℓ : Loc Cert.WkvRefIdeal.nD Cert.WkvRefIdeal.τ Cert.WkvRefIdeal.sig) → Buf (Elt Ideal) ℓ) (g : Dev Cert.WkvRefIdeal.nD → PrngReg), Pre_WkvRefIdeal m →
    θ_run (Cert.WkvRefIdeal.defs (F := Ideal)) (onTc (τ := Cert.WkvRefIdeal.τ) (Cert.WkvRefIdeal.main (F := Ideal))) ⟨m, fun _ => 0, g⟩ (fun r => (∀ c : Dev Cert.WkvRefIdeal.nD,
      r.2.mem ((c.tc : Thread Cert.WkvRefIdeal.nD Cert.WkvRefIdeal.τ).loc Cert.WkvRefIdeal.main_arg0) = m ((c.tc : Thread Cert.WkvRefIdeal.nD Cert.WkvRefIdeal.τ).loc Cert.WkvRefIdeal.main_arg0)
      ∧ r.2.mem ((c.tc : Thread Cert.WkvRefIdeal.nD Cert.WkvRefIdeal.τ).loc Cert.WkvRefIdeal.main_arg1) = m ((c.tc : Thread Cert.WkvRefIdeal.nD Cert.WkvRefIdeal.τ).loc Cert.WkvRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_KvDn [hKvDn : Cert.KvDn.Facts] : Prop :=
  ∀ (m : (ℓ : Loc Cert.KvDn.nD Cert.KvDn.τ Cert.KvDn.sig) → Buf (Elt Bits) ℓ) (g : Dev Cert.KvDn.nD → PrngReg), Pre_KvDn m →
    θ_run (Cert.KvDn.defs (F := Bits)) (onTc (τ := Cert.KvDn.τ) (Cert.KvDn.main (F := Bits))) ⟨m, fun _ => 0, g⟩ (fun r => (∀ c : Dev Cert.KvDn.nD,
      r.2.mem ((c.tc : Thread Cert.KvDn.nD Cert.KvDn.τ).loc Cert.KvDn.main_arg0) = m ((c.tc : Thread Cert.KvDn.nD Cert.KvDn.τ).loc Cert.KvDn.main_arg0)
      ∧ r.2.mem ((c.tc : Thread Cert.KvDn.nD Cert.KvDn.τ).loc Cert.KvDn.main_arg1) = m ((c.tc : Thread Cert.KvDn.nD Cert.KvDn.τ).loc Cert.KvDn.main_arg1))
      ∧ r.2.sem = fun _ => 0)

def quiescent_KvDnIdeal [hKvDnIdeal : Cert.KvDnIdeal.Facts] : Prop :=
  ∀ (m : (ℓ : Loc Cert.KvDnIdeal.nD Cert.KvDnIdeal.τ Cert.KvDnIdeal.sig) → Buf (Elt Ideal) ℓ) (g : Dev Cert.KvDnIdeal.nD → PrngReg), Pre_KvDnIdeal m →
    θ_run (Cert.KvDnIdeal.defs (F := Ideal)) (onTc (τ := Cert.KvDnIdeal.τ) (Cert.KvDnIdeal.main (F := Ideal))) ⟨m, fun _ => 0, g⟩ (fun r => (∀ c : Dev Cert.KvDnIdeal.nD,
      r.2.mem ((c.tc : Thread Cert.KvDnIdeal.nD Cert.KvDnIdeal.τ).loc Cert.KvDnIdeal.main_arg0) = m ((c.tc : Thread Cert.KvDnIdeal.nD Cert.KvDnIdeal.τ).loc Cert.KvDnIdeal.main_arg0)
      ∧ r.2.mem ((c.tc : Thread Cert.KvDnIdeal.nD Cert.KvDnIdeal.τ).loc Cert.KvDnIdeal.main_arg1) = m ((c.tc : Thread Cert.KvDnIdeal.nD Cert.KvDnIdeal.τ).loc Cert.KvDnIdeal.main_arg1))
      ∧ r.2.sem = fun _ => 0)

def quiescent_KvDnRefIdeal [hKvDnRefIdeal : Cert.KvDnRefIdeal.Facts] : Prop :=
  ∀ (m : (ℓ : Loc Cert.KvDnRefIdeal.nD Cert.KvDnRefIdeal.τ Cert.KvDnRefIdeal.sig) → Buf (Elt Ideal) ℓ) (g : Dev Cert.KvDnRefIdeal.nD → PrngReg), Pre_KvDnRefIdeal m →
    θ_run (Cert.KvDnRefIdeal.defs (F := Ideal)) (onTc (τ := Cert.KvDnRefIdeal.τ) (Cert.KvDnRefIdeal.main (F := Ideal))) ⟨m, fun _ => 0, g⟩ (fun r => (∀ c : Dev Cert.KvDnRefIdeal.nD,
      r.2.mem ((c.tc : Thread Cert.KvDnRefIdeal.nD Cert.KvDnRefIdeal.τ).loc Cert.KvDnRefIdeal.main_arg0) = m ((c.tc : Thread Cert.KvDnRefIdeal.nD Cert.KvDnRefIdeal.τ).loc Cert.KvDnRefIdeal.main_arg0)
      ∧ r.2.mem ((c.tc : Thread Cert.KvDnRefIdeal.nD Cert.KvDnRefIdeal.τ).loc Cert.KvDnRefIdeal.main_arg1) = m ((c.tc : Thread Cert.KvDnRefIdeal.nD Cert.KvDnRefIdeal.τ).loc Cert.KvDnRefIdeal.main_arg1))
      ∧ r.2.sem = fun _ => 0)

def quiescent_Dmem [hDmem : Cert.Dmem.Facts] : Prop :=
  ∀ (m : (ℓ : Loc Cert.Dmem.nD Cert.Dmem.τ Cert.Dmem.sig) → Buf (Elt Bits) ℓ) (g : Dev Cert.Dmem.nD → PrngReg), Pre_Dmem m →
    θ_run (Cert.Dmem.defs (F := Bits)) (onTc (τ := Cert.Dmem.τ) (Cert.Dmem.main (F := Bits))) ⟨m, fun _ => 0, g⟩ (fun r => (∀ c : Dev Cert.Dmem.nD,
      r.2.mem ((c.tc : Thread Cert.Dmem.nD Cert.Dmem.τ).loc Cert.Dmem.main_arg0) = m ((c.tc : Thread Cert.Dmem.nD Cert.Dmem.τ).loc Cert.Dmem.main_arg0)
      ∧ r.2.mem ((c.tc : Thread Cert.Dmem.nD Cert.Dmem.τ).loc Cert.Dmem.main_arg1) = m ((c.tc : Thread Cert.Dmem.nD Cert.Dmem.τ).loc Cert.Dmem.main_arg1)
      ∧ r.2.mem ((c.tc : Thread Cert.Dmem.nD Cert.Dmem.τ).loc Cert.Dmem.main_arg2) = m ((c.tc : Thread Cert.Dmem.nD Cert.Dmem.τ).loc Cert.Dmem.main_arg2))
      ∧ r.2.sem = fun _ => 0)

def quiescent_DmemIdeal [hDmemIdeal : Cert.DmemIdeal.Facts] : Prop :=
  ∀ (m : (ℓ : Loc Cert.DmemIdeal.nD Cert.DmemIdeal.τ Cert.DmemIdeal.sig) → Buf (Elt Ideal) ℓ) (g : Dev Cert.DmemIdeal.nD → PrngReg), Pre_DmemIdeal m →
    θ_run (Cert.DmemIdeal.defs (F := Ideal)) (onTc (τ := Cert.DmemIdeal.τ) (Cert.DmemIdeal.main (F := Ideal))) ⟨m, fun _ => 0, g⟩ (fun r => (∀ c : Dev Cert.DmemIdeal.nD,
      r.2.mem ((c.tc : Thread Cert.DmemIdeal.nD Cert.DmemIdeal.τ).loc Cert.DmemIdeal.main_arg0) = m ((c.tc : Thread Cert.DmemIdeal.nD Cert.DmemIdeal.τ).loc Cert.DmemIdeal.main_arg0)
      ∧ r.2.mem ((c.tc : Thread Cert.DmemIdeal.nD Cert.DmemIdeal.τ).loc Cert.DmemIdeal.main_arg1) = m ((c.tc : Thread Cert.DmemIdeal.nD Cert.DmemIdeal.τ).loc Cert.DmemIdeal.main_arg1)
      ∧ r.2.mem ((c.tc : Thread Cert.DmemIdeal.nD Cert.DmemIdeal.τ).loc Cert.DmemIdeal.main_arg2) = m ((c.tc : Thread Cert.DmemIdeal.nD Cert.DmemIdeal.τ).loc Cert.DmemIdeal.main_arg2))
      ∧ r.2.sem = fun _ => 0)

def quiescent_DmemRefIdeal [hDmemRefIdeal : Cert.DmemRefIdeal.Facts] : Prop :=
  ∀ (m : (ℓ : Loc Cert.DmemRefIdeal.nD Cert.DmemRefIdeal.τ Cert.DmemRefIdeal.sig) → Buf (Elt Ideal) ℓ) (g : Dev Cert.DmemRefIdeal.nD → PrngReg), Pre_DmemRefIdeal m →
    θ_run (Cert.DmemRefIdeal.defs (F := Ideal)) (onTc (τ := Cert.DmemRefIdeal.τ) (Cert.DmemRefIdeal.main (F := Ideal))) ⟨m, fun _ => 0, g⟩ (fun r => (∀ c : Dev Cert.DmemRefIdeal.nD,
      r.2.mem ((c.tc : Thread Cert.DmemRefIdeal.nD Cert.DmemRefIdeal.τ).loc Cert.DmemRefIdeal.main_arg0) = m ((c.tc : Thread Cert.DmemRefIdeal.nD Cert.DmemRefIdeal.τ).loc Cert.DmemRefIdeal.main_arg0)
      ∧ r.2.mem ((c.tc : Thread Cert.DmemRefIdeal.nD Cert.DmemRefIdeal.τ).loc Cert.DmemRefIdeal.main_arg1) = m ((c.tc : Thread Cert.DmemRefIdeal.nD Cert.DmemRefIdeal.τ).loc Cert.DmemRefIdeal.main_arg1)
      ∧ r.2.mem ((c.tc : Thread Cert.DmemRefIdeal.nD Cert.DmemRefIdeal.τ).loc Cert.DmemRefIdeal.main_arg2) = m ((c.tc : Thread Cert.DmemRefIdeal.nD Cert.DmemRefIdeal.τ).loc Cert.DmemRefIdeal.main_arg2))
      ∧ r.2.sem = fun _ => 0)

def quiescent_DmemDn [hDmemDn : Cert.DmemDn.Facts] : Prop :=
  ∀ (m : (ℓ : Loc Cert.DmemDn.nD Cert.DmemDn.τ Cert.DmemDn.sig) → Buf (Elt Bits) ℓ) (g : Dev Cert.DmemDn.nD → PrngReg), Pre_DmemDn m →
    θ_run (Cert.DmemDn.defs (F := Bits)) (onTc (τ := Cert.DmemDn.τ) (Cert.DmemDn.main (F := Bits))) ⟨m, fun _ => 0, g⟩ (fun r => (∀ c : Dev Cert.DmemDn.nD,
      r.2.mem ((c.tc : Thread Cert.DmemDn.nD Cert.DmemDn.τ).loc Cert.DmemDn.main_arg0) = m ((c.tc : Thread Cert.DmemDn.nD Cert.DmemDn.τ).loc Cert.DmemDn.main_arg0)
      ∧ r.2.mem ((c.tc : Thread Cert.DmemDn.nD Cert.DmemDn.τ).loc Cert.DmemDn.main_arg1) = m ((c.tc : Thread Cert.DmemDn.nD Cert.DmemDn.τ).loc Cert.DmemDn.main_arg1))
      ∧ r.2.sem = fun _ => 0)

def quiescent_DmemDnIdeal [hDmemDnIdeal : Cert.DmemDnIdeal.Facts] : Prop :=
  ∀ (m : (ℓ : Loc Cert.DmemDnIdeal.nD Cert.DmemDnIdeal.τ Cert.DmemDnIdeal.sig) → Buf (Elt Ideal) ℓ) (g : Dev Cert.DmemDnIdeal.nD → PrngReg), Pre_DmemDnIdeal m →
    θ_run (Cert.DmemDnIdeal.defs (F := Ideal)) (onTc (τ := Cert.DmemDnIdeal.τ) (Cert.DmemDnIdeal.main (F := Ideal))) ⟨m, fun _ => 0, g⟩ (fun r => (∀ c : Dev Cert.DmemDnIdeal.nD,
      r.2.mem ((c.tc : Thread Cert.DmemDnIdeal.nD Cert.DmemDnIdeal.τ).loc Cert.DmemDnIdeal.main_arg0) = m ((c.tc : Thread Cert.DmemDnIdeal.nD Cert.DmemDnIdeal.τ).loc Cert.DmemDnIdeal.main_arg0)
      ∧ r.2.mem ((c.tc : Thread Cert.DmemDnIdeal.nD Cert.DmemDnIdeal.τ).loc Cert.DmemDnIdeal.main_arg1) = m ((c.tc : Thread Cert.DmemDnIdeal.nD Cert.DmemDnIdeal.τ).loc Cert.DmemDnIdeal.main_arg1))
      ∧ r.2.sem = fun _ => 0)

def quiescent_DmemDnRefIdeal [hDmemDnRefIdeal : Cert.DmemDnRefIdeal.Facts] : Prop :=
  ∀ (m : (ℓ : Loc Cert.DmemDnRefIdeal.nD Cert.DmemDnRefIdeal.τ Cert.DmemDnRefIdeal.sig) → Buf (Elt Ideal) ℓ) (g : Dev Cert.DmemDnRefIdeal.nD → PrngReg), Pre_DmemDnRefIdeal m →
    θ_run (Cert.DmemDnRefIdeal.defs (F := Ideal)) (onTc (τ := Cert.DmemDnRefIdeal.τ) (Cert.DmemDnRefIdeal.main (F := Ideal))) ⟨m, fun _ => 0, g⟩ (fun r => (∀ c : Dev Cert.DmemDnRefIdeal.nD,
      r.2.mem ((c.tc : Thread Cert.DmemDnRefIdeal.nD Cert.DmemDnRefIdeal.τ).loc Cert.DmemDnRefIdeal.main_arg0) = m ((c.tc : Thread Cert.DmemDnRefIdeal.nD Cert.DmemDnRefIdeal.τ).loc Cert.DmemDnRefIdeal.main_arg0)
      ∧ r.2.mem ((c.tc : Thread Cert.DmemDnRefIdeal.nD Cert.DmemDnRefIdeal.τ).loc Cert.DmemDnRefIdeal.main_arg1) = m ((c.tc : Thread Cert.DmemDnRefIdeal.nD Cert.DmemDnRefIdeal.τ).loc Cert.DmemDnRefIdeal.main_arg1))
      ∧ r.2.sem = fun _ => 0)

def preserves_Xa_XaIdeal : Prop :=
  True

def algebraic_XaIdeal_XaRefIdeal_pre_finite_xa [hXaIdeal : Cert.XaIdeal.Facts] [hXaRefIdeal : Cert.XaRefIdeal.Facts] [hPre_finite_xa : Cert.Pre_finite_xa.Facts] : Prop :=
  ∀ (m : (ℓ : Loc Cert.XaIdeal.nD Cert.XaIdeal.τ Cert.XaIdeal.sig) → Buf (Elt Ideal) ℓ) (g : Dev Cert.XaIdeal.nD → PrngReg)
    (m' : (ℓ : Loc Cert.XaRefIdeal.nD Cert.XaRefIdeal.τ Cert.XaRefIdeal.sig) → Buf (Elt Ideal) ℓ) (g' : Dev Cert.XaRefIdeal.nD → PrngReg), Pre_XaIdeal_finite_xa m →
    (∀ c : Dev Cert.XaIdeal.nD,
      m' ((c.tc : Thread Cert.XaRefIdeal.nD Cert.XaRefIdeal.τ).loc Cert.XaRefIdeal.main_arg0) = m ((c.tc : Thread Cert.XaIdeal.nD Cert.XaIdeal.τ).loc Cert.XaIdeal.main_arg0)
      ∧ m' ((c.tc : Thread Cert.XaRefIdeal.nD Cert.XaRefIdeal.τ).loc Cert.XaRefIdeal.main_arg1) = m ((c.tc : Thread Cert.XaIdeal.nD Cert.XaIdeal.τ).loc Cert.XaIdeal.main_arg1)
      ∧ m' ((c.tc : Thread Cert.XaRefIdeal.nD Cert.XaRefIdeal.τ).loc Cert.XaRefIdeal.main_arg2) = m ((c.tc : Thread Cert.XaIdeal.nD Cert.XaIdeal.τ).loc Cert.XaIdeal.main_arg2)
      ∧ m' ((c.tc : Thread Cert.XaRefIdeal.nD Cert.XaRefIdeal.τ).loc Cert.XaRefIdeal.main_arg3) = m ((c.tc : Thread Cert.XaIdeal.nD Cert.XaIdeal.τ).loc Cert.XaIdeal.main_arg3)
      ∧ m' ((c.tc : Thread Cert.XaRefIdeal.nD Cert.XaRefIdeal.τ).loc Cert.XaRefIdeal.main_arg4) = m ((c.tc : Thread Cert.XaIdeal.nD Cert.XaIdeal.τ).loc Cert.XaIdeal.main_arg4)) →
    ∃ (v0 : (c : Dev Cert.XaIdeal.nD) → Buf (Elt Ideal) ((c.tc : Thread Cert.XaIdeal.nD Cert.XaIdeal.τ).loc Cert.XaIdeal.main_v2_0)) (v1 : (c : Dev Cert.XaIdeal.nD) → Buf (Elt Ideal) ((c.tc : Thread Cert.XaIdeal.nD Cert.XaIdeal.τ).loc Cert.XaIdeal.main_v2_1)) (v2 : (c : Dev Cert.XaIdeal.nD) → Buf (Elt Ideal) ((c.tc : Thread Cert.XaIdeal.nD Cert.XaIdeal.τ).loc Cert.XaIdeal.main_v2_2)) (v3 : (c : Dev Cert.XaIdeal.nD) → Buf (Elt Ideal) ((c.tc : Thread Cert.XaIdeal.nD Cert.XaIdeal.τ).loc Cert.XaIdeal.main_v2_3)) (v4 : (c : Dev Cert.XaIdeal.nD) → Buf (Elt Ideal) ((c.tc : Thread Cert.XaIdeal.nD Cert.XaIdeal.τ).loc Cert.XaIdeal.main_v2_4)),
      θ_run (Cert.XaIdeal.defs (F := Ideal)) (onTc (τ := Cert.XaIdeal.τ) (Cert.XaIdeal.main (F := Ideal))) ⟨m, fun _ => 0, g⟩ (fun r => ∀ c : Dev Cert.XaIdeal.nD,
          r.2.mem ((c.tc : Thread Cert.XaIdeal.nD Cert.XaIdeal.τ).loc Cert.XaIdeal.main_v2_0) = v0 c
          ∧ r.2.mem ((c.tc : Thread Cert.XaIdeal.nD Cert.XaIdeal.τ).loc Cert.XaIdeal.main_v2_1) = v1 c
          ∧ r.2.mem ((c.tc : Thread Cert.XaIdeal.nD Cert.XaIdeal.τ).loc Cert.XaIdeal.main_v2_2) = v2 c
          ∧ r.2.mem ((c.tc : Thread Cert.XaIdeal.nD Cert.XaIdeal.τ).loc Cert.XaIdeal.main_v2_3) = v3 c
          ∧ r.2.mem ((c.tc : Thread Cert.XaIdeal.nD Cert.XaIdeal.τ).loc Cert.XaIdeal.main_v2_4) = v4 c
          ∧ r.2.mem ((c.tc : Thread Cert.XaIdeal.nD Cert.XaIdeal.τ).loc Cert.XaIdeal.main_arg0) = m ((c.tc : Thread Cert.XaIdeal.nD Cert.XaIdeal.τ).loc Cert.XaIdeal.main_arg0)
          ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
          ∧ r.2.mem ((c.tc : Thread Cert.XaIdeal.nD Cert.XaIdeal.τ).loc Cert.XaIdeal.main_arg2) = m ((c.tc : Thread Cert.XaIdeal.nD Cert.XaIdeal.τ).loc Cert.XaIdeal.main_arg2)
          ∧ r.2.mem ((c.tc : Thread Cert.XaIdeal.nD Cert.XaIdeal.τ).loc Cert.XaIdeal.main_arg3) = m ((c.tc : Thread Cert.XaIdeal.nD Cert.XaIdeal.τ).loc Cert.XaIdeal.main_arg3)
          ∧ r.2.mem ((c.tc : Thread Cert.XaIdeal.nD Cert.XaIdeal.τ).loc Cert.XaIdeal.main_arg4) = m ((c.tc : Thread Cert.XaIdeal.nD Cert.XaIdeal.τ).loc Cert.XaIdeal.main_arg4))
      ∧ θ_run (Cert.XaRefIdeal.defs (F := Ideal)) (onTc (τ := Cert.XaRefIdeal.τ) (Cert.XaRefIdeal.main (F := Ideal))) ⟨m', fun _ => 0, g'⟩ (fun r => ∀ c : Dev Cert.XaRefIdeal.nD,
          r.2.mem ((c.tc : Thread Cert.XaRefIdeal.nD Cert.XaRefIdeal.τ).loc Cert.XaRefIdeal.main_v142) = v0 c
          ∧ r.2.mem ((c.tc : Thread Cert.XaRefIdeal.nD Cert.XaRefIdeal.τ).loc Cert.XaRefIdeal.main_v143) = v1 c
          ∧ r.2.mem ((c.tc : Thread Cert.XaRefIdeal.nD Cert.XaRefIdeal.τ).loc Cert.XaRefIdeal.main_v144) = v2 c
          ∧ r.2.mem ((c.tc : Thread Cert.XaRefIdeal.nD Cert.XaRefIdeal.τ).loc Cert.XaRefIdeal.main_v145) = v3 c
          ∧ r.2.mem ((c.tc : Thread Cert.XaRefIdeal.nD Cert.XaRefIdeal.τ).loc Cert.XaRefIdeal.main_v146) = v4 c
          ∧ r.2.mem ((c.tc : Thread Cert.XaRefIdeal.nD Cert.XaRefIdeal.τ).loc Cert.XaRefIdeal.main_arg0) = m' ((c.tc : Thread Cert.XaRefIdeal.nD Cert.XaRefIdeal.τ).loc Cert.XaRefIdeal.main_arg0)
          ∧ r.2.mem ((c.tc : Thread Cert.XaRefIdeal.nD Cert.XaRefIdeal.τ).loc Cert.XaRefIdeal.main_arg1) = m' ((c.tc : Thread Cert.XaRefIdeal.nD Cert.XaRefIdeal.τ).loc Cert.XaRefIdeal.main_arg1)
          ∧ r.2.mem ((c.tc : Thread Cert.XaRefIdeal.nD Cert.XaRefIdeal.τ).loc Cert.XaRefIdeal.main_arg2) = m' ((c.tc : Thread Cert.XaRefIdeal.nD Cert.XaRefIdeal.τ).loc Cert.XaRefIdeal.main_arg2)
          ∧ r.2.mem ((c.tc : Thread Cert.XaRefIdeal.nD Cert.XaRefIdeal.τ).loc Cert.XaRefIdeal.main_arg3) = m' ((c.tc : Thread Cert.XaRefIdeal.nD Cert.XaRefIdeal.τ).loc Cert.XaRefIdeal.main_arg3)
          ∧ r.2.mem ((c.tc : Thread Cert.XaRefIdeal.nD Cert.XaRefIdeal.τ).loc Cert.XaRefIdeal.main_arg4) = m' ((c.tc : Thread Cert.XaRefIdeal.nD Cert.XaRefIdeal.τ).loc Cert.XaRefIdeal.main_arg4))

def preserves_Sb_SbIdeal : Prop :=
  True

def algebraic_SbIdeal_SbRefIdeal_pre_finite_sb [hSbIdeal : Cert.SbIdeal.Facts] [hSbRefIdeal : Cert.SbRefIdeal.Facts] [hPre_finite_sb : Cert.Pre_finite_sb.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_finite_sb m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)
      ∧ m' ((c.tc : Thread Cert.SbRefIdeal.nD Cert.SbRefIdeal.τ).loc Cert.SbRefIdeal.main_arg2) = m ((c.tc : Thread Cert.SbIdeal.nD Cert.SbIdeal.τ).loc Cert.SbIdeal.main_arg2)
      ∧ m' ((c.tc : Thread Cert.SbRefIdeal.nD Cert.SbRefIdeal.τ).loc Cert.SbRefIdeal.main_arg3) = m ((c.tc : Thread Cert.SbIdeal.nD Cert.SbIdeal.τ).loc Cert.SbIdeal.main_arg3)) →
    ∃ (v0 : (c : Dev Cert.SbIdeal.nD) → Buf (Elt Ideal) ((c.tc : Thread Cert.SbIdeal.nD Cert.SbIdeal.τ).loc Cert.SbIdeal.main_v50_0)) (v1 : (c : Dev Cert.SbIdeal.nD) → Buf (Elt Ideal) ((c.tc : Thread Cert.SbIdeal.nD Cert.SbIdeal.τ).loc Cert.SbIdeal.main_v50_1)) (v2 : (c : Dev Cert.SbIdeal.nD) → Buf (Elt Ideal) ((c.tc : Thread Cert.SbIdeal.nD Cert.SbIdeal.τ).loc Cert.SbIdeal.main_v50_2)) (v3 : (c : Dev Cert.SbIdeal.nD) → Buf (Elt Ideal) ((c.tc : Thread Cert.SbIdeal.nD Cert.SbIdeal.τ).loc Cert.SbIdeal.main_v50_3)) (v4 : (c : Dev Cert.SbIdeal.nD) → Buf (Elt Ideal) ((c.tc : Thread Cert.SbIdeal.nD Cert.SbIdeal.τ).loc Cert.SbIdeal.main_v50_4)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v50_0) = v0 c
          ∧ r.2.mem ((c.tc : Thread Cert.SbIdeal.nD Cert.SbIdeal.τ).loc Cert.SbIdeal.main_v50_1) = v1 c
          ∧ r.2.mem ((c.tc : Thread Cert.SbIdeal.nD Cert.SbIdeal.τ).loc Cert.SbIdeal.main_v50_2) = v2 c
          ∧ r.2.mem ((c.tc : Thread Cert.SbIdeal.nD Cert.SbIdeal.τ).loc Cert.SbIdeal.main_v50_3) = v3 c
          ∧ r.2.mem ((c.tc : Thread Cert.SbIdeal.nD Cert.SbIdeal.τ).loc Cert.SbIdeal.main_v50_4) = v4 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
          ∧ r.2.mem ((c.tc : Thread Cert.SbIdeal.nD Cert.SbIdeal.τ).loc Cert.SbIdeal.main_arg3) = m ((c.tc : Thread Cert.SbIdeal.nD Cert.SbIdeal.τ).loc Cert.SbIdeal.main_arg3))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v128) = v0 c
          ∧ r.2.mem ((c.tc : Thread Cert.SbRefIdeal.nD Cert.SbRefIdeal.τ).loc Cert.SbRefIdeal.main_v129) = v1 c
          ∧ r.2.mem ((c.tc : Thread Cert.SbRefIdeal.nD Cert.SbRefIdeal.τ).loc Cert.SbRefIdeal.main_v130) = v2 c
          ∧ r.2.mem ((c.tc : Thread Cert.SbRefIdeal.nD Cert.SbRefIdeal.τ).loc Cert.SbRefIdeal.main_v131) = v3 c
          ∧ r.2.mem ((c.tc : Thread Cert.SbRefIdeal.nD Cert.SbRefIdeal.τ).loc Cert.SbRefIdeal.main_v132) = v4 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2)
          ∧ r.2.mem ((c.tc : Thread Cert.SbRefIdeal.nD Cert.SbRefIdeal.τ).loc Cert.SbRefIdeal.main_arg3) = m' ((c.tc : Thread Cert.SbRefIdeal.nD Cert.SbRefIdeal.τ).loc Cert.SbRefIdeal.main_arg3))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)
      ∧ m' ((c.tc : Thread Cert.WinRefIdeal.nD Cert.WinRefIdeal.τ).loc Cert.WinRefIdeal.main_arg3) = m ((c.tc : Thread Cert.WinIdeal.nD Cert.WinIdeal.τ).loc Cert.WinIdeal.main_arg3)
      ∧ m' ((c.tc : Thread Cert.WinRefIdeal.nD Cert.WinRefIdeal.τ).loc Cert.WinRefIdeal.main_arg4) = m ((c.tc : Thread Cert.WinIdeal.nD Cert.WinIdeal.τ).loc Cert.WinIdeal.main_arg4)
      ∧ m' ((c.tc : Thread Cert.WinRefIdeal.nD Cert.WinRefIdeal.τ).loc Cert.WinRefIdeal.main_arg5) = m ((c.tc : Thread Cert.WinIdeal.nD Cert.WinIdeal.τ).loc Cert.WinIdeal.main_arg5)) →
    ∃ (v0 : (c : Dev Cert.WinIdeal.nD) → Buf (Elt Ideal) ((c.tc : Thread Cert.WinIdeal.nD Cert.WinIdeal.τ).loc Cert.WinIdeal.main_v0)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
          ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
          ∧ r.2.mem ((c.tc : Thread Cert.WinIdeal.nD Cert.WinIdeal.τ).loc Cert.WinIdeal.main_arg5) = m ((c.tc : Thread Cert.WinIdeal.nD Cert.WinIdeal.τ).loc Cert.WinIdeal.main_arg5))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v7) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3)
          ∧ r.2.mem ((c.tc : Thread Cert.WinRefIdeal.nD Cert.WinRefIdeal.τ).loc Cert.WinRefIdeal.main_arg4) = m' ((c.tc : Thread Cert.WinRefIdeal.nD Cert.WinRefIdeal.τ).loc Cert.WinRefIdeal.main_arg4)
          ∧ r.2.mem ((c.tc : Thread Cert.WinRefIdeal.nD Cert.WinRefIdeal.τ).loc Cert.WinRefIdeal.main_arg5) = m' ((c.tc : Thread Cert.WinRefIdeal.nD Cert.WinRefIdeal.τ).loc Cert.WinRefIdeal.main_arg5))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)
      ∧ m' ((c.tc : Thread Cert.DhRefIdeal.nD Cert.DhRefIdeal.τ).loc Cert.DhRefIdeal.main_arg5) = m ((c.tc : Thread Cert.DhIdeal.nD Cert.DhIdeal.τ).loc Cert.DhIdeal.main_arg5)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4)
          ∧ r.2.mem ((c.tc : Thread Cert.DhIdeal.nD Cert.DhIdeal.τ).loc Cert.DhIdeal.main_arg5) = m ((c.tc : Thread Cert.DhIdeal.nD Cert.DhIdeal.τ).loc Cert.DhIdeal.main_arg5))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v5) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4)
          ∧ r.2.mem ((c.tc : Thread Cert.DhRefIdeal.nD Cert.DhRefIdeal.τ).loc Cert.DhRefIdeal.main_arg5) = m' ((c.tc : Thread Cert.DhRefIdeal.nD Cert.DhRefIdeal.τ).loc Cert.DhRefIdeal.main_arg5))

def preserves_WinDn_WinDnIdeal : Prop :=
  True

def algebraic_WinDnIdeal_WinDnRefIdeal [hWinDnIdeal : Cert.WinDnIdeal.Facts] [hWinDnRefIdeal : Cert.WinDnRefIdeal.Facts] : Prop :=
  ∀ (m : (ℓ : Loc Cert.WinDnIdeal.nD Cert.WinDnIdeal.τ Cert.WinDnIdeal.sig) → Buf (Elt Ideal) ℓ) (g : Dev Cert.WinDnIdeal.nD → PrngReg)
    (m' : (ℓ : Loc Cert.WinDnRefIdeal.nD Cert.WinDnRefIdeal.τ Cert.WinDnRefIdeal.sig) → Buf (Elt Ideal) ℓ) (g' : Dev Cert.WinDnRefIdeal.nD → PrngReg), Pre_WinDnIdeal m →
    (∀ c : Dev Cert.WinDnIdeal.nD,
      m' ((c.tc : Thread Cert.WinDnRefIdeal.nD Cert.WinDnRefIdeal.τ).loc Cert.WinDnRefIdeal.main_arg0) = m ((c.tc : Thread Cert.WinDnIdeal.nD Cert.WinDnIdeal.τ).loc Cert.WinDnIdeal.main_arg0)
      ∧ m' ((c.tc : Thread Cert.WinDnRefIdeal.nD Cert.WinDnRefIdeal.τ).loc Cert.WinDnRefIdeal.main_arg1) = m ((c.tc : Thread Cert.WinDnIdeal.nD Cert.WinDnIdeal.τ).loc Cert.WinDnIdeal.main_arg1)
      ∧ m' ((c.tc : Thread Cert.WinDnRefIdeal.nD Cert.WinDnRefIdeal.τ).loc Cert.WinDnRefIdeal.main_arg2) = m ((c.tc : Thread Cert.WinDnIdeal.nD Cert.WinDnIdeal.τ).loc Cert.WinDnIdeal.main_arg2)
      ∧ m' ((c.tc : Thread Cert.WinDnRefIdeal.nD Cert.WinDnRefIdeal.τ).loc Cert.WinDnRefIdeal.main_arg3) = m ((c.tc : Thread Cert.WinDnIdeal.nD Cert.WinDnIdeal.τ).loc Cert.WinDnIdeal.main_arg3)
      ∧ m' ((c.tc : Thread Cert.WinDnRefIdeal.nD Cert.WinDnRefIdeal.τ).loc Cert.WinDnRefIdeal.main_arg4) = m ((c.tc : Thread Cert.WinDnIdeal.nD Cert.WinDnIdeal.τ).loc Cert.WinDnIdeal.main_arg4)
      ∧ m' ((c.tc : Thread Cert.WinDnRefIdeal.nD Cert.WinDnRefIdeal.τ).loc Cert.WinDnRefIdeal.main_arg5) = m ((c.tc : Thread Cert.WinDnIdeal.nD Cert.WinDnIdeal.τ).loc Cert.WinDnIdeal.main_arg5)
      ∧ m' ((c.tc : Thread Cert.WinDnRefIdeal.nD Cert.WinDnRefIdeal.τ).loc Cert.WinDnRefIdeal.main_arg6) = m ((c.tc : Thread Cert.WinDnIdeal.nD Cert.WinDnIdeal.τ).loc Cert.WinDnIdeal.main_arg6)) →
    ∃ (v0 : (c : Dev Cert.WinDnIdeal.nD) → Buf (Elt Ideal) ((c.tc : Thread Cert.WinDnIdeal.nD Cert.WinDnIdeal.τ).loc Cert.WinDnIdeal.main_v0)),
      θ_run (Cert.WinDnIdeal.defs (F := Ideal)) (onTc (τ := Cert.WinDnIdeal.τ) (Cert.WinDnIdeal.main (F := Ideal))) ⟨m, fun _ => 0, g⟩ (fun r => ∀ c : Dev Cert.WinDnIdeal.nD,
          r.2.mem ((c.tc : Thread Cert.WinDnIdeal.nD Cert.WinDnIdeal.τ).loc Cert.WinDnIdeal.main_v0) = v0 c
          ∧ r.2.mem ((c.tc : Thread Cert.WinDnIdeal.nD Cert.WinDnIdeal.τ).loc Cert.WinDnIdeal.main_arg0) = m ((c.tc : Thread Cert.WinDnIdeal.nD Cert.WinDnIdeal.τ).loc Cert.WinDnIdeal.main_arg0)
          ∧ r.2.mem ((c.tc : Thread Cert.WinDnIdeal.nD Cert.WinDnIdeal.τ).loc Cert.WinDnIdeal.main_arg1) = m ((c.tc : Thread Cert.WinDnIdeal.nD Cert.WinDnIdeal.τ).loc Cert.WinDnIdeal.main_arg1)
          ∧ r.2.mem ((c.tc : Thread Cert.WinDnIdeal.nD Cert.WinDnIdeal.τ).loc Cert.WinDnIdeal.main_arg2) = m ((c.tc : Thread Cert.WinDnIdeal.nD Cert.WinDnIdeal.τ).loc Cert.WinDnIdeal.main_arg2)
          ∧ r.2.mem ((c.tc : Thread Cert.WinDnIdeal.nD Cert.WinDnIdeal.τ).loc Cert.WinDnIdeal.main_arg3) = m ((c.tc : Thread Cert.WinDnIdeal.nD Cert.WinDnIdeal.τ).loc Cert.WinDnIdeal.main_arg3)
          ∧ r.2.mem ((c.tc : Thread Cert.WinDnIdeal.nD Cert.WinDnIdeal.τ).loc Cert.WinDnIdeal.main_arg4) = m ((c.tc : Thread Cert.WinDnIdeal.nD Cert.WinDnIdeal.τ).loc Cert.WinDnIdeal.main_arg4)
          ∧ r.2.mem ((c.tc : Thread Cert.WinDnIdeal.nD Cert.WinDnIdeal.τ).loc Cert.WinDnIdeal.main_arg5) = m ((c.tc : Thread Cert.WinDnIdeal.nD Cert.WinDnIdeal.τ).loc Cert.WinDnIdeal.main_arg5)
          ∧ r.2.mem ((c.tc : Thread Cert.WinDnIdeal.nD Cert.WinDnIdeal.τ).loc Cert.WinDnIdeal.main_arg6) = m ((c.tc : Thread Cert.WinDnIdeal.nD Cert.WinDnIdeal.τ).loc Cert.WinDnIdeal.main_arg6))
      ∧ θ_run (Cert.WinDnRefIdeal.defs (F := Ideal)) (onTc (τ := Cert.WinDnRefIdeal.τ) (Cert.WinDnRefIdeal.main (F := Ideal))) ⟨m', fun _ => 0, g'⟩ (fun r => ∀ c : Dev Cert.WinDnRefIdeal.nD,
          r.2.mem ((c.tc : Thread Cert.WinDnRefIdeal.nD Cert.WinDnRefIdeal.τ).loc Cert.WinDnRefIdeal.main_v5) = v0 c
          ∧ r.2.mem ((c.tc : Thread Cert.WinDnRefIdeal.nD Cert.WinDnRefIdeal.τ).loc Cert.WinDnRefIdeal.main_arg0) = m' ((c.tc : Thread Cert.WinDnRefIdeal.nD Cert.WinDnRefIdeal.τ).loc Cert.WinDnRefIdeal.main_arg0)
          ∧ r.2.mem ((c.tc : Thread Cert.WinDnRefIdeal.nD Cert.WinDnRefIdeal.τ).loc Cert.WinDnRefIdeal.main_arg1) = m' ((c.tc : Thread Cert.WinDnRefIdeal.nD Cert.WinDnRefIdeal.τ).loc Cert.WinDnRefIdeal.main_arg1)
          ∧ r.2.mem ((c.tc : Thread Cert.WinDnRefIdeal.nD Cert.WinDnRefIdeal.τ).loc Cert.WinDnRefIdeal.main_arg2) = m' ((c.tc : Thread Cert.WinDnRefIdeal.nD Cert.WinDnRefIdeal.τ).loc Cert.WinDnRefIdeal.main_arg2)
          ∧ r.2.mem ((c.tc : Thread Cert.WinDnRefIdeal.nD Cert.WinDnRefIdeal.τ).loc Cert.WinDnRefIdeal.main_arg3) = m' ((c.tc : Thread Cert.WinDnRefIdeal.nD Cert.WinDnRefIdeal.τ).loc Cert.WinDnRefIdeal.main_arg3)
          ∧ r.2.mem ((c.tc : Thread Cert.WinDnRefIdeal.nD Cert.WinDnRefIdeal.τ).loc Cert.WinDnRefIdeal.main_arg4) = m' ((c.tc : Thread Cert.WinDnRefIdeal.nD Cert.WinDnRefIdeal.τ).loc Cert.WinDnRefIdeal.main_arg4)
          ∧ r.2.mem ((c.tc : Thread Cert.WinDnRefIdeal.nD Cert.WinDnRefIdeal.τ).loc Cert.WinDnRefIdeal.main_arg5) = m' ((c.tc : Thread Cert.WinDnRefIdeal.nD Cert.WinDnRefIdeal.τ).loc Cert.WinDnRefIdeal.main_arg5)
          ∧ r.2.mem ((c.tc : Thread Cert.WinDnRefIdeal.nD Cert.WinDnRefIdeal.τ).loc Cert.WinDnRefIdeal.main_arg6) = m' ((c.tc : Thread Cert.WinDnRefIdeal.nD Cert.WinDnRefIdeal.τ).loc Cert.WinDnRefIdeal.main_arg6))

def preserves_DhDn_DhDnIdeal : Prop :=
  True

def algebraic_DhDnIdeal_DhDnRefIdeal [hDhDnIdeal : Cert.DhDnIdeal.Facts] [hDhDnRefIdeal : Cert.DhDnRefIdeal.Facts] : Prop :=
  ∀ (m : (ℓ : Loc Cert.DhDnIdeal.nD Cert.DhDnIdeal.τ Cert.DhDnIdeal.sig) → Buf (Elt Ideal) ℓ) (g : Dev Cert.DhDnIdeal.nD → PrngReg)
    (m' : (ℓ : Loc Cert.DhDnRefIdeal.nD Cert.DhDnRefIdeal.τ Cert.DhDnRefIdeal.sig) → Buf (Elt Ideal) ℓ) (g' : Dev Cert.DhDnRefIdeal.nD → PrngReg), Pre_DhDnIdeal m →
    (∀ c : Dev Cert.DhDnIdeal.nD,
      m' ((c.tc : Thread Cert.DhDnRefIdeal.nD Cert.DhDnRefIdeal.τ).loc Cert.DhDnRefIdeal.main_arg0) = m ((c.tc : Thread Cert.DhDnIdeal.nD Cert.DhDnIdeal.τ).loc Cert.DhDnIdeal.main_arg0)
      ∧ m' ((c.tc : Thread Cert.DhDnRefIdeal.nD Cert.DhDnRefIdeal.τ).loc Cert.DhDnRefIdeal.main_arg1) = m ((c.tc : Thread Cert.DhDnIdeal.nD Cert.DhDnIdeal.τ).loc Cert.DhDnIdeal.main_arg1)
      ∧ m' ((c.tc : Thread Cert.DhDnRefIdeal.nD Cert.DhDnRefIdeal.τ).loc Cert.DhDnRefIdeal.main_arg2) = m ((c.tc : Thread Cert.DhDnIdeal.nD Cert.DhDnIdeal.τ).loc Cert.DhDnIdeal.main_arg2)
      ∧ m' ((c.tc : Thread Cert.DhDnRefIdeal.nD Cert.DhDnRefIdeal.τ).loc Cert.DhDnRefIdeal.main_arg3) = m ((c.tc : Thread Cert.DhDnIdeal.nD Cert.DhDnIdeal.τ).loc Cert.DhDnIdeal.main_arg3)
      ∧ m' ((c.tc : Thread Cert.DhDnRefIdeal.nD Cert.DhDnRefIdeal.τ).loc Cert.DhDnRefIdeal.main_arg4) = m ((c.tc : Thread Cert.DhDnIdeal.nD Cert.DhDnIdeal.τ).loc Cert.DhDnIdeal.main_arg4)
      ∧ m' ((c.tc : Thread Cert.DhDnRefIdeal.nD Cert.DhDnRefIdeal.τ).loc Cert.DhDnRefIdeal.main_arg5) = m ((c.tc : Thread Cert.DhDnIdeal.nD Cert.DhDnIdeal.τ).loc Cert.DhDnIdeal.main_arg5)
      ∧ m' ((c.tc : Thread Cert.DhDnRefIdeal.nD Cert.DhDnRefIdeal.τ).loc Cert.DhDnRefIdeal.main_arg6) = m ((c.tc : Thread Cert.DhDnIdeal.nD Cert.DhDnIdeal.τ).loc Cert.DhDnIdeal.main_arg6)) →
    ∃ (v0 : (c : Dev Cert.DhDnIdeal.nD) → Buf (Elt Ideal) ((c.tc : Thread Cert.DhDnIdeal.nD Cert.DhDnIdeal.τ).loc Cert.DhDnIdeal.main_v0)),
      θ_run (Cert.DhDnIdeal.defs (F := Ideal)) (onTc (τ := Cert.DhDnIdeal.τ) (Cert.DhDnIdeal.main (F := Ideal))) ⟨m, fun _ => 0, g⟩ (fun r => ∀ c : Dev Cert.DhDnIdeal.nD,
          r.2.mem ((c.tc : Thread Cert.DhDnIdeal.nD Cert.DhDnIdeal.τ).loc Cert.DhDnIdeal.main_v0) = v0 c
          ∧ r.2.mem ((c.tc : Thread Cert.DhDnIdeal.nD Cert.DhDnIdeal.τ).loc Cert.DhDnIdeal.main_arg0) = m ((c.tc : Thread Cert.DhDnIdeal.nD Cert.DhDnIdeal.τ).loc Cert.DhDnIdeal.main_arg0)
          ∧ r.2.mem ((c.tc : Thread Cert.DhDnIdeal.nD Cert.DhDnIdeal.τ).loc Cert.DhDnIdeal.main_arg1) = m ((c.tc : Thread Cert.DhDnIdeal.nD Cert.DhDnIdeal.τ).loc Cert.DhDnIdeal.main_arg1)
          ∧ r.2.mem ((c.tc : Thread Cert.DhDnIdeal.nD Cert.DhDnIdeal.τ).loc Cert.DhDnIdeal.main_arg2) = m ((c.tc : Thread Cert.DhDnIdeal.nD Cert.DhDnIdeal.τ).loc Cert.DhDnIdeal.main_arg2)
          ∧ r.2.mem ((c.tc : Thread Cert.DhDnIdeal.nD Cert.DhDnIdeal.τ).loc Cert.DhDnIdeal.main_arg3) = m ((c.tc : Thread Cert.DhDnIdeal.nD Cert.DhDnIdeal.τ).loc Cert.DhDnIdeal.main_arg3)
          ∧ r.2.mem ((c.tc : Thread Cert.DhDnIdeal.nD Cert.DhDnIdeal.τ).loc Cert.DhDnIdeal.main_arg4) = m ((c.tc : Thread Cert.DhDnIdeal.nD Cert.DhDnIdeal.τ).loc Cert.DhDnIdeal.main_arg4)
          ∧ r.2.mem ((c.tc : Thread Cert.DhDnIdeal.nD Cert.DhDnIdeal.τ).loc Cert.DhDnIdeal.main_arg5) = m ((c.tc : Thread Cert.DhDnIdeal.nD Cert.DhDnIdeal.τ).loc Cert.DhDnIdeal.main_arg5)
          ∧ r.2.mem ((c.tc : Thread Cert.DhDnIdeal.nD Cert.DhDnIdeal.τ).loc Cert.DhDnIdeal.main_arg6) = m ((c.tc : Thread Cert.DhDnIdeal.nD Cert.DhDnIdeal.τ).loc Cert.DhDnIdeal.main_arg6))
      ∧ θ_run (Cert.DhDnRefIdeal.defs (F := Ideal)) (onTc (τ := Cert.DhDnRefIdeal.τ) (Cert.DhDnRefIdeal.main (F := Ideal))) ⟨m', fun _ => 0, g'⟩ (fun r => ∀ c : Dev Cert.DhDnRefIdeal.nD,
          r.2.mem ((c.tc : Thread Cert.DhDnRefIdeal.nD Cert.DhDnRefIdeal.τ).loc Cert.DhDnRefIdeal.main_v3) = v0 c
          ∧ r.2.mem ((c.tc : Thread Cert.DhDnRefIdeal.nD Cert.DhDnRefIdeal.τ).loc Cert.DhDnRefIdeal.main_arg0) = m' ((c.tc : Thread Cert.DhDnRefIdeal.nD Cert.DhDnRefIdeal.τ).loc Cert.DhDnRefIdeal.main_arg0)
          ∧ r.2.mem ((c.tc : Thread Cert.DhDnRefIdeal.nD Cert.DhDnRefIdeal.τ).loc Cert.DhDnRefIdeal.main_arg1) = m' ((c.tc : Thread Cert.DhDnRefIdeal.nD Cert.DhDnRefIdeal.τ).loc Cert.DhDnRefIdeal.main_arg1)
          ∧ r.2.mem ((c.tc : Thread Cert.DhDnRefIdeal.nD Cert.DhDnRefIdeal.τ).loc Cert.DhDnRefIdeal.main_arg2) = m' ((c.tc : Thread Cert.DhDnRefIdeal.nD Cert.DhDnRefIdeal.τ).loc Cert.DhDnRefIdeal.main_arg2)
          ∧ r.2.mem ((c.tc : Thread Cert.DhDnRefIdeal.nD Cert.DhDnRefIdeal.τ).loc Cert.DhDnRefIdeal.main_arg3) = m' ((c.tc : Thread Cert.DhDnRefIdeal.nD Cert.DhDnRefIdeal.τ).loc Cert.DhDnRefIdeal.main_arg3)
          ∧ r.2.mem ((c.tc : Thread Cert.DhDnRefIdeal.nD Cert.DhDnRefIdeal.τ).loc Cert.DhDnRefIdeal.main_arg4) = m' ((c.tc : Thread Cert.DhDnRefIdeal.nD Cert.DhDnRefIdeal.τ).loc Cert.DhDnRefIdeal.main_arg4)
          ∧ r.2.mem ((c.tc : Thread Cert.DhDnRefIdeal.nD Cert.DhDnRefIdeal.τ).loc Cert.DhDnRefIdeal.main_arg5) = m' ((c.tc : Thread Cert.DhDnRefIdeal.nD Cert.DhDnRefIdeal.τ).loc Cert.DhDnRefIdeal.main_arg5)
          ∧ r.2.mem ((c.tc : Thread Cert.DhDnRefIdeal.nD Cert.DhDnRefIdeal.τ).loc Cert.DhDnRefIdeal.main_arg6) = m' ((c.tc : Thread Cert.DhDnRefIdeal.nD Cert.DhDnRefIdeal.τ).loc Cert.DhDnRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_ProjDn_ProjDnIdeal : Prop :=
  True

def algebraic_ProjDnIdeal_ProjDnRefIdeal [hProjDnIdeal : Cert.ProjDnIdeal.Facts] [hProjDnRefIdeal : Cert.ProjDnRefIdeal.Facts] : Prop :=
  ∀ (m : (ℓ : Loc Cert.ProjDnIdeal.nD Cert.ProjDnIdeal.τ Cert.ProjDnIdeal.sig) → Buf (Elt Ideal) ℓ) (g : Dev Cert.ProjDnIdeal.nD → PrngReg)
    (m' : (ℓ : Loc Cert.ProjDnRefIdeal.nD Cert.ProjDnRefIdeal.τ Cert.ProjDnRefIdeal.sig) → Buf (Elt Ideal) ℓ) (g' : Dev Cert.ProjDnRefIdeal.nD → PrngReg), Pre_ProjDnIdeal m →
    (∀ c : Dev Cert.ProjDnIdeal.nD,
      m' ((c.tc : Thread Cert.ProjDnRefIdeal.nD Cert.ProjDnRefIdeal.τ).loc Cert.ProjDnRefIdeal.main_arg0) = m ((c.tc : Thread Cert.ProjDnIdeal.nD Cert.ProjDnIdeal.τ).loc Cert.ProjDnIdeal.main_arg0)
      ∧ m' ((c.tc : Thread Cert.ProjDnRefIdeal.nD Cert.ProjDnRefIdeal.τ).loc Cert.ProjDnRefIdeal.main_arg1) = m ((c.tc : Thread Cert.ProjDnIdeal.nD Cert.ProjDnIdeal.τ).loc Cert.ProjDnIdeal.main_arg1)) →
    ∃ (v0 : (c : Dev Cert.ProjDnIdeal.nD) → Buf (Elt Ideal) ((c.tc : Thread Cert.ProjDnIdeal.nD Cert.ProjDnIdeal.τ).loc Cert.ProjDnIdeal.main_v0)),
      θ_run (Cert.ProjDnIdeal.defs (F := Ideal)) (onTc (τ := Cert.ProjDnIdeal.τ) (Cert.ProjDnIdeal.main (F := Ideal))) ⟨m, fun _ => 0, g⟩ (fun r => ∀ c : Dev Cert.ProjDnIdeal.nD,
          r.2.mem ((c.tc : Thread Cert.ProjDnIdeal.nD Cert.ProjDnIdeal.τ).loc Cert.ProjDnIdeal.main_v0) = v0 c
          ∧ r.2.mem ((c.tc : Thread Cert.ProjDnIdeal.nD Cert.ProjDnIdeal.τ).loc Cert.ProjDnIdeal.main_arg0) = m ((c.tc : Thread Cert.ProjDnIdeal.nD Cert.ProjDnIdeal.τ).loc Cert.ProjDnIdeal.main_arg0)
          ∧ r.2.mem ((c.tc : Thread Cert.ProjDnIdeal.nD Cert.ProjDnIdeal.τ).loc Cert.ProjDnIdeal.main_arg1) = m ((c.tc : Thread Cert.ProjDnIdeal.nD Cert.ProjDnIdeal.τ).loc Cert.ProjDnIdeal.main_arg1))
      ∧ θ_run (Cert.ProjDnRefIdeal.defs (F := Ideal)) (onTc (τ := Cert.ProjDnRefIdeal.τ) (Cert.ProjDnRefIdeal.main (F := Ideal))) ⟨m', fun _ => 0, g'⟩ (fun r => ∀ c : Dev Cert.ProjDnRefIdeal.nD,
          r.2.mem ((c.tc : Thread Cert.ProjDnRefIdeal.nD Cert.ProjDnRefIdeal.τ).loc Cert.ProjDnRefIdeal.main_v2) = v0 c
          ∧ r.2.mem ((c.tc : Thread Cert.ProjDnRefIdeal.nD Cert.ProjDnRefIdeal.τ).loc Cert.ProjDnRefIdeal.main_arg0) = m' ((c.tc : Thread Cert.ProjDnRefIdeal.nD Cert.ProjDnRefIdeal.τ).loc Cert.ProjDnRefIdeal.main_arg0)
          ∧ r.2.mem ((c.tc : Thread Cert.ProjDnRefIdeal.nD Cert.ProjDnRefIdeal.τ).loc Cert.ProjDnRefIdeal.main_arg1) = m' ((c.tc : Thread Cert.ProjDnRefIdeal.nD Cert.ProjDnRefIdeal.τ).loc Cert.ProjDnRefIdeal.main_arg1))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)) →
    ∃ (v0 : (c : Dev Cert.WoutIdeal.nD) → Buf (Elt Ideal) ((c.tc : Thread Cert.WoutIdeal.nD Cert.WoutIdeal.τ).loc Cert.WoutIdeal.main_v0)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v0) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v5) = v0 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1))

def preserves_Dy_DyIdeal : Prop :=
  True

def algebraic_DyIdeal_DyRefIdeal [hDyIdeal : Cert.DyIdeal.Facts] [hDyRefIdeal : Cert.DyRefIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.DyRefIdeal.nD Cert.DyRefIdeal.τ Cert.DyRefIdeal.sig) → Buf (Elt Ideal) ℓ) (g' : Dev Cert.DyRefIdeal.nD → PrngReg), Pre_DyIdeal m →
    (∀ c : Dev Cert.DyIdeal.nD,
      m' ((c.tc : Thread Cert.DyRefIdeal.nD Cert.DyRefIdeal.τ).loc Cert.DyRefIdeal.main_arg0) = m ((c.tc : Thread Cert.DyIdeal.nD Cert.DyIdeal.τ).loc Cert.DyIdeal.main_arg0)
      ∧ m' ((c.tc : Thread Cert.DyRefIdeal.nD Cert.DyRefIdeal.τ).loc Cert.DyRefIdeal.main_arg1) = m ((c.tc : Thread Cert.DyIdeal.nD Cert.DyIdeal.τ).loc Cert.DyIdeal.main_arg1)) →
    ∃ (v0 : (c : Dev Cert.DyIdeal.nD) → Buf (Elt Ideal) ((c.tc : Thread Cert.DyIdeal.nD Cert.DyIdeal.τ).loc Cert.DyIdeal.main_v0)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v0) = v0 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ θ_run (Cert.DyRefIdeal.defs (F := Ideal)) (onTc (τ := Cert.DyRefIdeal.τ) (Cert.DyRefIdeal.main (F := Ideal))) ⟨m', fun _ => 0, g'⟩ (fun r => ∀ c : Dev Cert.DyRefIdeal.nD,
          r.2.mem ((c.tc : Thread Cert.DyRefIdeal.nD Cert.DyRefIdeal.τ).loc Cert.DyRefIdeal.main_v5) = v0 c
          ∧ r.2.mem ((c.tc : Thread Cert.DyRefIdeal.nD Cert.DyRefIdeal.τ).loc Cert.DyRefIdeal.main_arg0) = m' ((c.tc : Thread Cert.DyRefIdeal.nD Cert.DyRefIdeal.τ).loc Cert.DyRefIdeal.main_arg0)
          ∧ r.2.mem ((c.tc : Thread Cert.DyRefIdeal.nD Cert.DyRefIdeal.τ).loc Cert.DyRefIdeal.main_arg1) = m' ((c.tc : Thread Cert.DyRefIdeal.nD Cert.DyRefIdeal.τ).loc Cert.DyRefIdeal.main_arg1))

def preserves_DyDn_DyDnIdeal : Prop :=
  True

def algebraic_DyDnIdeal_DyDnRefIdeal [hDyDnIdeal : Cert.DyDnIdeal.Facts] [hDyDnRefIdeal : Cert.DyDnRefIdeal.Facts] : Prop :=
  ∀ (m : (ℓ : Loc Cert.DyDnIdeal.nD Cert.DyDnIdeal.τ Cert.DyDnIdeal.sig) → Buf (Elt Ideal) ℓ) (g : Dev Cert.DyDnIdeal.nD → PrngReg)
    (m' : (ℓ : Loc Cert.DyDnRefIdeal.nD Cert.DyDnRefIdeal.τ Cert.DyDnRefIdeal.sig) → Buf (Elt Ideal) ℓ) (g' : Dev Cert.DyDnRefIdeal.nD → PrngReg), Pre_DyDnIdeal m →
    (∀ c : Dev Cert.DyDnIdeal.nD,
      m' ((c.tc : Thread Cert.DyDnRefIdeal.nD Cert.DyDnRefIdeal.τ).loc Cert.DyDnRefIdeal.main_arg0) = m ((c.tc : Thread Cert.DyDnIdeal.nD Cert.DyDnIdeal.τ).loc Cert.DyDnIdeal.main_arg0)
      ∧ m' ((c.tc : Thread Cert.DyDnRefIdeal.nD Cert.DyDnRefIdeal.τ).loc Cert.DyDnRefIdeal.main_arg1) = m ((c.tc : Thread Cert.DyDnIdeal.nD Cert.DyDnIdeal.τ).loc Cert.DyDnIdeal.main_arg1)) →
    ∃ (v0 : (c : Dev Cert.DyDnIdeal.nD) → Buf (Elt Ideal) ((c.tc : Thread Cert.DyDnIdeal.nD Cert.DyDnIdeal.τ).loc Cert.DyDnIdeal.main_v0)),
      θ_run (Cert.DyDnIdeal.defs (F := Ideal)) (onTc (τ := Cert.DyDnIdeal.τ) (Cert.DyDnIdeal.main (F := Ideal))) ⟨m, fun _ => 0, g⟩ (fun r => ∀ c : Dev Cert.DyDnIdeal.nD,
          r.2.mem ((c.tc : Thread Cert.DyDnIdeal.nD Cert.DyDnIdeal.τ).loc Cert.DyDnIdeal.main_v0) = v0 c
          ∧ r.2.mem ((c.tc : Thread Cert.DyDnIdeal.nD Cert.DyDnIdeal.τ).loc Cert.DyDnIdeal.main_arg0) = m ((c.tc : Thread Cert.DyDnIdeal.nD Cert.DyDnIdeal.τ).loc Cert.DyDnIdeal.main_arg0)
          ∧ r.2.mem ((c.tc : Thread Cert.DyDnIdeal.nD Cert.DyDnIdeal.τ).loc Cert.DyDnIdeal.main_arg1) = m ((c.tc : Thread Cert.DyDnIdeal.nD Cert.DyDnIdeal.τ).loc Cert.DyDnIdeal.main_arg1))
      ∧ θ_run (Cert.DyDnRefIdeal.defs (F := Ideal)) (onTc (τ := Cert.DyDnRefIdeal.τ) (Cert.DyDnRefIdeal.main (F := Ideal))) ⟨m', fun _ => 0, g'⟩ (fun r => ∀ c : Dev Cert.DyDnRefIdeal.nD,
          r.2.mem ((c.tc : Thread Cert.DyDnRefIdeal.nD Cert.DyDnRefIdeal.τ).loc Cert.DyDnRefIdeal.main_v5) = v0 c
          ∧ r.2.mem ((c.tc : Thread Cert.DyDnRefIdeal.nD Cert.DyDnRefIdeal.τ).loc Cert.DyDnRefIdeal.main_arg0) = m' ((c.tc : Thread Cert.DyDnRefIdeal.nD Cert.DyDnRefIdeal.τ).loc Cert.DyDnRefIdeal.main_arg0)
          ∧ r.2.mem ((c.tc : Thread Cert.DyDnRefIdeal.nD Cert.DyDnRefIdeal.τ).loc Cert.DyDnRefIdeal.main_arg1) = m' ((c.tc : Thread Cert.DyDnRefIdeal.nD Cert.DyDnRefIdeal.τ).loc Cert.DyDnRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v6) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_OutDn_OutDnIdeal : Prop :=
  True

def algebraic_OutDnIdeal_OutDnRefIdeal [hOutDnIdeal : Cert.OutDnIdeal.Facts] [hOutDnRefIdeal : Cert.OutDnRefIdeal.Facts] : Prop :=
  ∀ (m : (ℓ : Loc Cert.OutDnIdeal.nD Cert.OutDnIdeal.τ Cert.OutDnIdeal.sig) → Buf (Elt Ideal) ℓ) (g : Dev Cert.OutDnIdeal.nD → PrngReg)
    (m' : (ℓ : Loc Cert.OutDnRefIdeal.nD Cert.OutDnRefIdeal.τ Cert.OutDnRefIdeal.sig) → Buf (Elt Ideal) ℓ) (g' : Dev Cert.OutDnRefIdeal.nD → PrngReg), Pre_OutDnIdeal m →
    (∀ c : Dev Cert.OutDnIdeal.nD,
      m' ((c.tc : Thread Cert.OutDnRefIdeal.nD Cert.OutDnRefIdeal.τ).loc Cert.OutDnRefIdeal.main_arg0) = m ((c.tc : Thread Cert.OutDnIdeal.nD Cert.OutDnIdeal.τ).loc Cert.OutDnIdeal.main_arg0)
      ∧ m' ((c.tc : Thread Cert.OutDnRefIdeal.nD Cert.OutDnRefIdeal.τ).loc Cert.OutDnRefIdeal.main_arg1) = m ((c.tc : Thread Cert.OutDnIdeal.nD Cert.OutDnIdeal.τ).loc Cert.OutDnIdeal.main_arg1)
      ∧ m' ((c.tc : Thread Cert.OutDnRefIdeal.nD Cert.OutDnRefIdeal.τ).loc Cert.OutDnRefIdeal.main_arg2) = m ((c.tc : Thread Cert.OutDnIdeal.nD Cert.OutDnIdeal.τ).loc Cert.OutDnIdeal.main_arg2)) →
    ∃ (v0 : (c : Dev Cert.OutDnIdeal.nD) → Buf (Elt Ideal) ((c.tc : Thread Cert.OutDnIdeal.nD Cert.OutDnIdeal.τ).loc Cert.OutDnIdeal.main_v0)),
      θ_run (Cert.OutDnIdeal.defs (F := Ideal)) (onTc (τ := Cert.OutDnIdeal.τ) (Cert.OutDnIdeal.main (F := Ideal))) ⟨m, fun _ => 0, g⟩ (fun r => ∀ c : Dev Cert.OutDnIdeal.nD,
          r.2.mem ((c.tc : Thread Cert.OutDnIdeal.nD Cert.OutDnIdeal.τ).loc Cert.OutDnIdeal.main_v0) = v0 c
          ∧ r.2.mem ((c.tc : Thread Cert.OutDnIdeal.nD Cert.OutDnIdeal.τ).loc Cert.OutDnIdeal.main_arg0) = m ((c.tc : Thread Cert.OutDnIdeal.nD Cert.OutDnIdeal.τ).loc Cert.OutDnIdeal.main_arg0)
          ∧ r.2.mem ((c.tc : Thread Cert.OutDnIdeal.nD Cert.OutDnIdeal.τ).loc Cert.OutDnIdeal.main_arg1) = m ((c.tc : Thread Cert.OutDnIdeal.nD Cert.OutDnIdeal.τ).loc Cert.OutDnIdeal.main_arg1)
          ∧ r.2.mem ((c.tc : Thread Cert.OutDnIdeal.nD Cert.OutDnIdeal.τ).loc Cert.OutDnIdeal.main_arg2) = m ((c.tc : Thread Cert.OutDnIdeal.nD Cert.OutDnIdeal.τ).loc Cert.OutDnIdeal.main_arg2))
      ∧ θ_run (Cert.OutDnRefIdeal.defs (F := Ideal)) (onTc (τ := Cert.OutDnRefIdeal.τ) (Cert.OutDnRefIdeal.main (F := Ideal))) ⟨m', fun _ => 0, g'⟩ (fun r => ∀ c : Dev Cert.OutDnRefIdeal.nD,
          r.2.mem ((c.tc : Thread Cert.OutDnRefIdeal.nD Cert.OutDnRefIdeal.τ).loc Cert.OutDnRefIdeal.main_v6) = v0 c
          ∧ r.2.mem ((c.tc : Thread Cert.OutDnRefIdeal.nD Cert.OutDnRefIdeal.τ).loc Cert.OutDnRefIdeal.main_arg0) = m' ((c.tc : Thread Cert.OutDnRefIdeal.nD Cert.OutDnRefIdeal.τ).loc Cert.OutDnRefIdeal.main_arg0)
          ∧ r.2.mem ((c.tc : Thread Cert.OutDnRefIdeal.nD Cert.OutDnRefIdeal.τ).loc Cert.OutDnRefIdeal.main_arg1) = m' ((c.tc : Thread Cert.OutDnRefIdeal.nD Cert.OutDnRefIdeal.τ).loc Cert.OutDnRefIdeal.main_arg1)
          ∧ r.2.mem ((c.tc : Thread Cert.OutDnRefIdeal.nD Cert.OutDnRefIdeal.τ).loc Cert.OutDnRefIdeal.main_arg2) = m' ((c.tc : Thread Cert.OutDnRefIdeal.nD Cert.OutDnRefIdeal.τ).loc Cert.OutDnRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)) (v2 : (c : Dev Cert.NormIdeal.nD) → Buf (Elt Ideal) ((c.tc : Thread Cert.NormIdeal.nD Cert.NormIdeal.τ).loc Cert.NormIdeal.main_v1_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_v1_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v36) = v0 c
          ∧ r.2.mem ((c.tc : Thread Cert.NormRefIdeal.nD Cert.NormRefIdeal.τ).loc Cert.NormRefIdeal.main_v37) = v1 c
          ∧ r.2.mem ((c.tc : Thread Cert.NormRefIdeal.nD Cert.NormRefIdeal.τ).loc Cert.NormRefIdeal.main_v38) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Gate_GateIdeal : Prop :=
  True

def algebraic_GateIdeal_GateRefIdeal_pre_finite_gate [hGateIdeal : Cert.GateIdeal.Facts] [hGateRefIdeal : Cert.GateRefIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v9) = v0 c
          ∧ r.2.mem ((c.tc : Thread Cert.GateRefIdeal.nD Cert.GateRefIdeal.τ).loc Cert.GateRefIdeal.main_v10) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Wkv_WkvIdeal : Prop :=
  True

def algebraic_WkvIdeal_WkvRefIdeal [hWkvIdeal : Cert.WkvIdeal.Facts] [hWkvRefIdeal : Cert.WkvRefIdeal.Facts] : Prop :=
  ∀ (m : (ℓ : Loc Cert.WkvIdeal.nD Cert.WkvIdeal.τ Cert.WkvIdeal.sig) → Buf (Elt Ideal) ℓ) (g : Dev Cert.WkvIdeal.nD → PrngReg)
    (m' : (ℓ : Loc Cert.WkvRefIdeal.nD Cert.WkvRefIdeal.τ Cert.WkvRefIdeal.sig) → Buf (Elt Ideal) ℓ) (g' : Dev Cert.WkvRefIdeal.nD → PrngReg), Pre_WkvIdeal m →
    (∀ c : Dev Cert.WkvIdeal.nD,
      m' ((c.tc : Thread Cert.WkvRefIdeal.nD Cert.WkvRefIdeal.τ).loc Cert.WkvRefIdeal.main_arg0) = m ((c.tc : Thread Cert.WkvIdeal.nD Cert.WkvIdeal.τ).loc Cert.WkvIdeal.main_arg0)
      ∧ m' ((c.tc : Thread Cert.WkvRefIdeal.nD Cert.WkvRefIdeal.τ).loc Cert.WkvRefIdeal.main_arg1) = m ((c.tc : Thread Cert.WkvIdeal.nD Cert.WkvIdeal.τ).loc Cert.WkvIdeal.main_arg1)) →
    ∃ (v0 : (c : Dev Cert.WkvIdeal.nD) → Buf (Elt Ideal) ((c.tc : Thread Cert.WkvIdeal.nD Cert.WkvIdeal.τ).loc Cert.WkvIdeal.main_v0)),
      θ_run (Cert.WkvIdeal.defs (F := Ideal)) (onTc (τ := Cert.WkvIdeal.τ) (Cert.WkvIdeal.main (F := Ideal))) ⟨m, fun _ => 0, g⟩ (fun r => ∀ c : Dev Cert.WkvIdeal.nD,
          r.2.mem ((c.tc : Thread Cert.WkvIdeal.nD Cert.WkvIdeal.τ).loc Cert.WkvIdeal.main_v0) = v0 c
          ∧ r.2.mem ((c.tc : Thread Cert.WkvIdeal.nD Cert.WkvIdeal.τ).loc Cert.WkvIdeal.main_arg0) = m ((c.tc : Thread Cert.WkvIdeal.nD Cert.WkvIdeal.τ).loc Cert.WkvIdeal.main_arg0)
          ∧ r.2.mem ((c.tc : Thread Cert.WkvIdeal.nD Cert.WkvIdeal.τ).loc Cert.WkvIdeal.main_arg1) = m ((c.tc : Thread Cert.WkvIdeal.nD Cert.WkvIdeal.τ).loc Cert.WkvIdeal.main_arg1))
      ∧ θ_run (Cert.WkvRefIdeal.defs (F := Ideal)) (onTc (τ := Cert.WkvRefIdeal.τ) (Cert.WkvRefIdeal.main (F := Ideal))) ⟨m', fun _ => 0, g'⟩ (fun r => ∀ c : Dev Cert.WkvRefIdeal.nD,
          r.2.mem ((c.tc : Thread Cert.WkvRefIdeal.nD Cert.WkvRefIdeal.τ).loc Cert.WkvRefIdeal.main_v4) = v0 c
          ∧ r.2.mem ((c.tc : Thread Cert.WkvRefIdeal.nD Cert.WkvRefIdeal.τ).loc Cert.WkvRefIdeal.main_arg0) = m' ((c.tc : Thread Cert.WkvRefIdeal.nD Cert.WkvRefIdeal.τ).loc Cert.WkvRefIdeal.main_arg0)
          ∧ r.2.mem ((c.tc : Thread Cert.WkvRefIdeal.nD Cert.WkvRefIdeal.τ).loc Cert.WkvRefIdeal.main_arg1) = m' ((c.tc : Thread Cert.WkvRefIdeal.nD Cert.WkvRefIdeal.τ).loc Cert.WkvRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v5) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_KvDn_KvDnIdeal : Prop :=
  True

def algebraic_KvDnIdeal_KvDnRefIdeal [hKvDnIdeal : Cert.KvDnIdeal.Facts] [hKvDnRefIdeal : Cert.KvDnRefIdeal.Facts] : Prop :=
  ∀ (m : (ℓ : Loc Cert.KvDnIdeal.nD Cert.KvDnIdeal.τ Cert.KvDnIdeal.sig) → Buf (Elt Ideal) ℓ) (g : Dev Cert.KvDnIdeal.nD → PrngReg)
    (m' : (ℓ : Loc Cert.KvDnRefIdeal.nD Cert.KvDnRefIdeal.τ Cert.KvDnRefIdeal.sig) → Buf (Elt Ideal) ℓ) (g' : Dev Cert.KvDnRefIdeal.nD → PrngReg), Pre_KvDnIdeal m →
    (∀ c : Dev Cert.KvDnIdeal.nD,
      m' ((c.tc : Thread Cert.KvDnRefIdeal.nD Cert.KvDnRefIdeal.τ).loc Cert.KvDnRefIdeal.main_arg0) = m ((c.tc : Thread Cert.KvDnIdeal.nD Cert.KvDnIdeal.τ).loc Cert.KvDnIdeal.main_arg0)
      ∧ m' ((c.tc : Thread Cert.KvDnRefIdeal.nD Cert.KvDnRefIdeal.τ).loc Cert.KvDnRefIdeal.main_arg1) = m ((c.tc : Thread Cert.KvDnIdeal.nD Cert.KvDnIdeal.τ).loc Cert.KvDnIdeal.main_arg1)) →
    ∃ (v0 : (c : Dev Cert.KvDnIdeal.nD) → Buf (Elt Ideal) ((c.tc : Thread Cert.KvDnIdeal.nD Cert.KvDnIdeal.τ).loc Cert.KvDnIdeal.main_v0)),
      θ_run (Cert.KvDnIdeal.defs (F := Ideal)) (onTc (τ := Cert.KvDnIdeal.τ) (Cert.KvDnIdeal.main (F := Ideal))) ⟨m, fun _ => 0, g⟩ (fun r => ∀ c : Dev Cert.KvDnIdeal.nD,
          r.2.mem ((c.tc : Thread Cert.KvDnIdeal.nD Cert.KvDnIdeal.τ).loc Cert.KvDnIdeal.main_v0) = v0 c
          ∧ r.2.mem ((c.tc : Thread Cert.KvDnIdeal.nD Cert.KvDnIdeal.τ).loc Cert.KvDnIdeal.main_arg0) = m ((c.tc : Thread Cert.KvDnIdeal.nD Cert.KvDnIdeal.τ).loc Cert.KvDnIdeal.main_arg0)
          ∧ r.2.mem ((c.tc : Thread Cert.KvDnIdeal.nD Cert.KvDnIdeal.τ).loc Cert.KvDnIdeal.main_arg1) = m ((c.tc : Thread Cert.KvDnIdeal.nD Cert.KvDnIdeal.τ).loc Cert.KvDnIdeal.main_arg1))
      ∧ θ_run (Cert.KvDnRefIdeal.defs (F := Ideal)) (onTc (τ := Cert.KvDnRefIdeal.τ) (Cert.KvDnRefIdeal.main (F := Ideal))) ⟨m', fun _ => 0, g'⟩ (fun r => ∀ c : Dev Cert.KvDnRefIdeal.nD,
          r.2.mem ((c.tc : Thread Cert.KvDnRefIdeal.nD Cert.KvDnRefIdeal.τ).loc Cert.KvDnRefIdeal.main_v5) = v0 c
          ∧ r.2.mem ((c.tc : Thread Cert.KvDnRefIdeal.nD Cert.KvDnRefIdeal.τ).loc Cert.KvDnRefIdeal.main_arg0) = m' ((c.tc : Thread Cert.KvDnRefIdeal.nD Cert.KvDnRefIdeal.τ).loc Cert.KvDnRefIdeal.main_arg0)
          ∧ r.2.mem ((c.tc : Thread Cert.KvDnRefIdeal.nD Cert.KvDnRefIdeal.τ).loc Cert.KvDnRefIdeal.main_arg1) = m' ((c.tc : Thread Cert.KvDnRefIdeal.nD Cert.KvDnRefIdeal.τ).loc Cert.KvDnRefIdeal.main_arg1))

def preserves_Dmem_DmemIdeal : Prop :=
  True

def algebraic_DmemIdeal_DmemRefIdeal [hDmemIdeal : Cert.DmemIdeal.Facts] [hDmemRefIdeal : Cert.DmemRefIdeal.Facts] : Prop :=
  ∀ (m : (ℓ : Loc Cert.DmemIdeal.nD Cert.DmemIdeal.τ Cert.DmemIdeal.sig) → Buf (Elt Ideal) ℓ) (g : Dev Cert.DmemIdeal.nD → PrngReg)
    (m' : (ℓ : Loc Cert.DmemRefIdeal.nD Cert.DmemRefIdeal.τ Cert.DmemRefIdeal.sig) → Buf (Elt Ideal) ℓ) (g' : Dev Cert.DmemRefIdeal.nD → PrngReg), Pre_DmemIdeal m →
    (∀ c : Dev Cert.DmemIdeal.nD,
      m' ((c.tc : Thread Cert.DmemRefIdeal.nD Cert.DmemRefIdeal.τ).loc Cert.DmemRefIdeal.main_arg0) = m ((c.tc : Thread Cert.DmemIdeal.nD Cert.DmemIdeal.τ).loc Cert.DmemIdeal.main_arg0)
      ∧ m' ((c.tc : Thread Cert.DmemRefIdeal.nD Cert.DmemRefIdeal.τ).loc Cert.DmemRefIdeal.main_arg1) = m ((c.tc : Thread Cert.DmemIdeal.nD Cert.DmemIdeal.τ).loc Cert.DmemIdeal.main_arg1)
      ∧ m' ((c.tc : Thread Cert.DmemRefIdeal.nD Cert.DmemRefIdeal.τ).loc Cert.DmemRefIdeal.main_arg2) = m ((c.tc : Thread Cert.DmemIdeal.nD Cert.DmemIdeal.τ).loc Cert.DmemIdeal.main_arg2)) →
    ∃ (v0 : (c : Dev Cert.DmemIdeal.nD) → Buf (Elt Ideal) ((c.tc : Thread Cert.DmemIdeal.nD Cert.DmemIdeal.τ).loc Cert.DmemIdeal.main_v0)),
      θ_run (Cert.DmemIdeal.defs (F := Ideal)) (onTc (τ := Cert.DmemIdeal.τ) (Cert.DmemIdeal.main (F := Ideal))) ⟨m, fun _ => 0, g⟩ (fun r => ∀ c : Dev Cert.DmemIdeal.nD,
          r.2.mem ((c.tc : Thread Cert.DmemIdeal.nD Cert.DmemIdeal.τ).loc Cert.DmemIdeal.main_v0) = v0 c
          ∧ r.2.mem ((c.tc : Thread Cert.DmemIdeal.nD Cert.DmemIdeal.τ).loc Cert.DmemIdeal.main_arg0) = m ((c.tc : Thread Cert.DmemIdeal.nD Cert.DmemIdeal.τ).loc Cert.DmemIdeal.main_arg0)
          ∧ r.2.mem ((c.tc : Thread Cert.DmemIdeal.nD Cert.DmemIdeal.τ).loc Cert.DmemIdeal.main_arg1) = m ((c.tc : Thread Cert.DmemIdeal.nD Cert.DmemIdeal.τ).loc Cert.DmemIdeal.main_arg1)
          ∧ r.2.mem ((c.tc : Thread Cert.DmemIdeal.nD Cert.DmemIdeal.τ).loc Cert.DmemIdeal.main_arg2) = m ((c.tc : Thread Cert.DmemIdeal.nD Cert.DmemIdeal.τ).loc Cert.DmemIdeal.main_arg2))
      ∧ θ_run (Cert.DmemRefIdeal.defs (F := Ideal)) (onTc (τ := Cert.DmemRefIdeal.τ) (Cert.DmemRefIdeal.main (F := Ideal))) ⟨m', fun _ => 0, g'⟩ (fun r => ∀ c : Dev Cert.DmemRefIdeal.nD,
          r.2.mem ((c.tc : Thread Cert.DmemRefIdeal.nD Cert.DmemRefIdeal.τ).loc Cert.DmemRefIdeal.main_v5) = v0 c
          ∧ r.2.mem ((c.tc : Thread Cert.DmemRefIdeal.nD Cert.DmemRefIdeal.τ).loc Cert.DmemRefIdeal.main_arg0) = m' ((c.tc : Thread Cert.DmemRefIdeal.nD Cert.DmemRefIdeal.τ).loc Cert.DmemRefIdeal.main_arg0)
          ∧ r.2.mem ((c.tc : Thread Cert.DmemRefIdeal.nD Cert.DmemRefIdeal.τ).loc Cert.DmemRefIdeal.main_arg1) = m' ((c.tc : Thread Cert.DmemRefIdeal.nD Cert.DmemRefIdeal.τ).loc Cert.DmemRefIdeal.main_arg1)
          ∧ r.2.mem ((c.tc : Thread Cert.DmemRefIdeal.nD Cert.DmemRefIdeal.τ).loc Cert.DmemRefIdeal.main_arg2) = m' ((c.tc : Thread Cert.DmemRefIdeal.nD Cert.DmemRefIdeal.τ).loc Cert.DmemRefIdeal.main_arg2))

def preserves_DmemDn_DmemDnIdeal : Prop :=
  True

def algebraic_DmemDnIdeal_DmemDnRefIdeal [hDmemDnIdeal : Cert.DmemDnIdeal.Facts] [hDmemDnRefIdeal : Cert.DmemDnRefIdeal.Facts] : Prop :=
  ∀ (m : (ℓ : Loc Cert.DmemDnIdeal.nD Cert.DmemDnIdeal.τ Cert.DmemDnIdeal.sig) → Buf (Elt Ideal) ℓ) (g : Dev Cert.DmemDnIdeal.nD → PrngReg)
    (m' : (ℓ : Loc Cert.DmemDnRefIdeal.nD Cert.DmemDnRefIdeal.τ Cert.DmemDnRefIdeal.sig) → Buf (Elt Ideal) ℓ) (g' : Dev Cert.DmemDnRefIdeal.nD → PrngReg), Pre_DmemDnIdeal m →
    (∀ c : Dev Cert.DmemDnIdeal.nD,
      m' ((c.tc : Thread Cert.DmemDnRefIdeal.nD Cert.DmemDnRefIdeal.τ).loc Cert.DmemDnRefIdeal.main_arg0) = m ((c.tc : Thread Cert.DmemDnIdeal.nD Cert.DmemDnIdeal.τ).loc Cert.DmemDnIdeal.main_arg0)
      ∧ m' ((c.tc : Thread Cert.DmemDnRefIdeal.nD Cert.DmemDnRefIdeal.τ).loc Cert.DmemDnRefIdeal.main_arg1) = m ((c.tc : Thread Cert.DmemDnIdeal.nD Cert.DmemDnIdeal.τ).loc Cert.DmemDnIdeal.main_arg1)) →
    ∃ (v0 : (c : Dev Cert.DmemDnIdeal.nD) → Buf (Elt Ideal) ((c.tc : Thread Cert.DmemDnIdeal.nD Cert.DmemDnIdeal.τ).loc Cert.DmemDnIdeal.main_v0)),
      θ_run (Cert.DmemDnIdeal.defs (F := Ideal)) (onTc (τ := Cert.DmemDnIdeal.τ) (Cert.DmemDnIdeal.main (F := Ideal))) ⟨m, fun _ => 0, g⟩ (fun r => ∀ c : Dev Cert.DmemDnIdeal.nD,
          r.2.mem ((c.tc : Thread Cert.DmemDnIdeal.nD Cert.DmemDnIdeal.τ).loc Cert.DmemDnIdeal.main_v0) = v0 c
          ∧ r.2.mem ((c.tc : Thread Cert.DmemDnIdeal.nD Cert.DmemDnIdeal.τ).loc Cert.DmemDnIdeal.main_arg0) = m ((c.tc : Thread Cert.DmemDnIdeal.nD Cert.DmemDnIdeal.τ).loc Cert.DmemDnIdeal.main_arg0)
          ∧ r.2.mem ((c.tc : Thread Cert.DmemDnIdeal.nD Cert.DmemDnIdeal.τ).loc Cert.DmemDnIdeal.main_arg1) = m ((c.tc : Thread Cert.DmemDnIdeal.nD Cert.DmemDnIdeal.τ).loc Cert.DmemDnIdeal.main_arg1))
      ∧ θ_run (Cert.DmemDnRefIdeal.defs (F := Ideal)) (onTc (τ := Cert.DmemDnRefIdeal.τ) (Cert.DmemDnRefIdeal.main (F := Ideal))) ⟨m', fun _ => 0, g'⟩ (fun r => ∀ c : Dev Cert.DmemDnRefIdeal.nD,
          r.2.mem ((c.tc : Thread Cert.DmemDnRefIdeal.nD Cert.DmemDnRefIdeal.τ).loc Cert.DmemDnRefIdeal.main_v4) = v0 c
          ∧ r.2.mem ((c.tc : Thread Cert.DmemDnRefIdeal.nD Cert.DmemDnRefIdeal.τ).loc Cert.DmemDnRefIdeal.main_arg0) = m' ((c.tc : Thread Cert.DmemDnRefIdeal.nD Cert.DmemDnRefIdeal.τ).loc Cert.DmemDnRefIdeal.main_arg0)
          ∧ r.2.mem ((c.tc : Thread Cert.DmemDnRefIdeal.nD Cert.DmemDnRefIdeal.τ).loc Cert.DmemDnRefIdeal.main_arg1) = m' ((c.tc : Thread Cert.DmemDnRefIdeal.nD Cert.DmemDnRefIdeal.τ).loc Cert.DmemDnRefIdeal.main_arg1))

def Claim : Prop :=
  ∃ (hXa : Cert.Xa.Facts) (hXaIdeal : Cert.XaIdeal.Facts) (hXaRefIdeal : Cert.XaRefIdeal.Facts) (hSb : Cert.Sb.Facts) (hSbIdeal : Cert.SbIdeal.Facts) (hSbRefIdeal : Cert.SbRefIdeal.Facts) (hWin : Cert.Win.Facts) (hWinIdeal : Cert.WinIdeal.Facts) (hWinRefIdeal : Cert.WinRefIdeal.Facts) (hDh : Cert.Dh.Facts) (hDhIdeal : Cert.DhIdeal.Facts) (hDhRefIdeal : Cert.DhRefIdeal.Facts) (hWinDn : Cert.WinDn.Facts) (hWinDnIdeal : Cert.WinDnIdeal.Facts) (hWinDnRefIdeal : Cert.WinDnRefIdeal.Facts) (hDhDn : Cert.DhDn.Facts) (hDhDnIdeal : Cert.DhDnIdeal.Facts) (hDhDnRefIdeal : Cert.DhDnRefIdeal.Facts) (hProj : Cert.Proj.Facts) (hProjIdeal : Cert.ProjIdeal.Facts) (hProjRefIdeal : Cert.ProjRefIdeal.Facts) (hProjDn : Cert.ProjDn.Facts) (hProjDnIdeal : Cert.ProjDnIdeal.Facts) (hProjDnRefIdeal : Cert.ProjDnRefIdeal.Facts) (hWout : Cert.Wout.Facts) (hWoutIdeal : Cert.WoutIdeal.Facts) (hWoutRefIdeal : Cert.WoutRefIdeal.Facts) (hDy : Cert.Dy.Facts) (hDyIdeal : Cert.DyIdeal.Facts) (hDyRefIdeal : Cert.DyRefIdeal.Facts) (hDyDn : Cert.DyDn.Facts) (hDyDnIdeal : Cert.DyDnIdeal.Facts) (hDyDnRefIdeal : Cert.DyDnRefIdeal.Facts) (hOut : Cert.Out.Facts) (hOutIdeal : Cert.OutIdeal.Facts) (hOutRefIdeal : Cert.OutRefIdeal.Facts) (hOutDn : Cert.OutDn.Facts) (hOutDnIdeal : Cert.OutDnIdeal.Facts) (hOutDnRefIdeal : Cert.OutDnRefIdeal.Facts) (hNorm : Cert.Norm.Facts) (hNormIdeal : Cert.NormIdeal.Facts) (hNormRefIdeal : Cert.NormRefIdeal.Facts) (hGate : Cert.Gate.Facts) (hGateIdeal : Cert.GateIdeal.Facts) (hGateRefIdeal : Cert.GateRefIdeal.Facts) (hWkv : Cert.Wkv.Facts) (hWkvIdeal : Cert.WkvIdeal.Facts) (hWkvRefIdeal : Cert.WkvRefIdeal.Facts) (hKv : Cert.Kv.Facts) (hKvIdeal : Cert.KvIdeal.Facts) (hKvRefIdeal : Cert.KvRefIdeal.Facts) (hKvDn : Cert.KvDn.Facts) (hKvDnIdeal : Cert.KvDnIdeal.Facts) (hKvDnRefIdeal : Cert.KvDnRefIdeal.Facts) (hDmem : Cert.Dmem.Facts) (hDmemIdeal : Cert.DmemIdeal.Facts) (hDmemRefIdeal : Cert.DmemRefIdeal.Facts) (hDmemDn : Cert.DmemDn.Facts) (hDmemDnIdeal : Cert.DmemDnIdeal.Facts) (hDmemDnRefIdeal : Cert.DmemDnRefIdeal.Facts) (hPre_finite_xa : Cert.Pre_finite_xa.Facts) (hPre_finite_sb : Cert.Pre_finite_sb.Facts) (hPre_finite_gate : Cert.Pre_finite_gate.Facts),
    quiescent_Xa (hXa := hXa)
    ∧ quiescent_XaIdeal (hXaIdeal := hXaIdeal)
    ∧ quiescent_XaIdeal_pre_finite_xa (hXaIdeal := hXaIdeal) (hPre_finite_xa := hPre_finite_xa)
    ∧ quiescent_XaRefIdeal (hXaRefIdeal := hXaRefIdeal)
    ∧ quiescent_XaRefIdeal_pre_finite_xa (hXaRefIdeal := hXaRefIdeal) (hPre_finite_xa := hPre_finite_xa)
    ∧ quiescent_Sb (hSb := hSb)
    ∧ quiescent_SbIdeal (hSbIdeal := hSbIdeal)
    ∧ quiescent_SbIdeal_pre_finite_sb (hSbIdeal := hSbIdeal) (hPre_finite_sb := hPre_finite_sb)
    ∧ quiescent_SbRefIdeal (hSbRefIdeal := hSbRefIdeal)
    ∧ quiescent_SbRefIdeal_pre_finite_sb (hSbRefIdeal := hSbRefIdeal) (hPre_finite_sb := hPre_finite_sb)
    ∧ quiescent_Win (hWin := hWin)
    ∧ quiescent_WinIdeal (hWinIdeal := hWinIdeal)
    ∧ quiescent_WinRefIdeal (hWinRefIdeal := hWinRefIdeal)
    ∧ quiescent_Dh (hDh := hDh)
    ∧ quiescent_DhIdeal (hDhIdeal := hDhIdeal)
    ∧ quiescent_DhRefIdeal (hDhRefIdeal := hDhRefIdeal)
    ∧ quiescent_WinDn (hWinDn := hWinDn)
    ∧ quiescent_WinDnIdeal (hWinDnIdeal := hWinDnIdeal)
    ∧ quiescent_WinDnRefIdeal (hWinDnRefIdeal := hWinDnRefIdeal)
    ∧ quiescent_DhDn (hDhDn := hDhDn)
    ∧ quiescent_DhDnIdeal (hDhDnIdeal := hDhDnIdeal)
    ∧ quiescent_DhDnRefIdeal (hDhDnRefIdeal := hDhDnRefIdeal)
    ∧ quiescent_Proj (hProj := hProj)
    ∧ quiescent_ProjIdeal (hProjIdeal := hProjIdeal)
    ∧ quiescent_ProjRefIdeal (hProjRefIdeal := hProjRefIdeal)
    ∧ quiescent_ProjDn (hProjDn := hProjDn)
    ∧ quiescent_ProjDnIdeal (hProjDnIdeal := hProjDnIdeal)
    ∧ quiescent_ProjDnRefIdeal (hProjDnRefIdeal := hProjDnRefIdeal)
    ∧ quiescent_Wout (hWout := hWout)
    ∧ quiescent_WoutIdeal (hWoutIdeal := hWoutIdeal)
    ∧ quiescent_WoutRefIdeal (hWoutRefIdeal := hWoutRefIdeal)
    ∧ quiescent_Dy (hDy := hDy)
    ∧ quiescent_DyIdeal (hDyIdeal := hDyIdeal)
    ∧ quiescent_DyRefIdeal (hDyRefIdeal := hDyRefIdeal)
    ∧ quiescent_DyDn (hDyDn := hDyDn)
    ∧ quiescent_DyDnIdeal (hDyDnIdeal := hDyDnIdeal)
    ∧ quiescent_DyDnRefIdeal (hDyDnRefIdeal := hDyDnRefIdeal)
    ∧ quiescent_Out (hOut := hOut)
    ∧ quiescent_OutIdeal (hOutIdeal := hOutIdeal)
    ∧ quiescent_OutRefIdeal (hOutRefIdeal := hOutRefIdeal)
    ∧ quiescent_OutDn (hOutDn := hOutDn)
    ∧ quiescent_OutDnIdeal (hOutDnIdeal := hOutDnIdeal)
    ∧ quiescent_OutDnRefIdeal (hOutDnRefIdeal := hOutDnRefIdeal)
    ∧ quiescent_Norm (hNorm := hNorm)
    ∧ quiescent_NormIdeal (hNormIdeal := hNormIdeal)
    ∧ quiescent_NormRefIdeal (hNormRefIdeal := hNormRefIdeal)
    ∧ quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ quiescent_Wkv (hWkv := hWkv)
    ∧ quiescent_WkvIdeal (hWkvIdeal := hWkvIdeal)
    ∧ quiescent_WkvRefIdeal (hWkvRefIdeal := hWkvRefIdeal)
    ∧ quiescent_Kv (hKv := hKv)
    ∧ quiescent_KvIdeal (hKvIdeal := hKvIdeal)
    ∧ quiescent_KvRefIdeal (hKvRefIdeal := hKvRefIdeal)
    ∧ quiescent_KvDn (hKvDn := hKvDn)
    ∧ quiescent_KvDnIdeal (hKvDnIdeal := hKvDnIdeal)
    ∧ quiescent_KvDnRefIdeal (hKvDnRefIdeal := hKvDnRefIdeal)
    ∧ quiescent_Dmem (hDmem := hDmem)
    ∧ quiescent_DmemIdeal (hDmemIdeal := hDmemIdeal)
    ∧ quiescent_DmemRefIdeal (hDmemRefIdeal := hDmemRefIdeal)
    ∧ quiescent_DmemDn (hDmemDn := hDmemDn)
    ∧ quiescent_DmemDnIdeal (hDmemDnIdeal := hDmemDnIdeal)
    ∧ quiescent_DmemDnRefIdeal (hDmemDnRefIdeal := hDmemDnRefIdeal)
    ∧ preserves_Xa_XaIdeal
    ∧ algebraic_XaIdeal_XaRefIdeal_pre_finite_xa (hXaIdeal := hXaIdeal) (hXaRefIdeal := hXaRefIdeal) (hPre_finite_xa := hPre_finite_xa)
    ∧ preserves_Sb_SbIdeal
    ∧ algebraic_SbIdeal_SbRefIdeal_pre_finite_sb (hSbIdeal := hSbIdeal) (hSbRefIdeal := hSbRefIdeal) (hPre_finite_sb := hPre_finite_sb)
    ∧ preserves_Win_WinIdeal
    ∧ algebraic_WinIdeal_WinRefIdeal (hWinIdeal := hWinIdeal) (hWinRefIdeal := hWinRefIdeal)
    ∧ preserves_Dh_DhIdeal
    ∧ algebraic_DhIdeal_DhRefIdeal (hDhIdeal := hDhIdeal) (hDhRefIdeal := hDhRefIdeal)
    ∧ preserves_WinDn_WinDnIdeal
    ∧ algebraic_WinDnIdeal_WinDnRefIdeal (hWinDnIdeal := hWinDnIdeal) (hWinDnRefIdeal := hWinDnRefIdeal)
    ∧ preserves_DhDn_DhDnIdeal
    ∧ algebraic_DhDnIdeal_DhDnRefIdeal (hDhDnIdeal := hDhDnIdeal) (hDhDnRefIdeal := hDhDnRefIdeal)
    ∧ preserves_Proj_ProjIdeal
    ∧ algebraic_ProjIdeal_ProjRefIdeal (hProjIdeal := hProjIdeal) (hProjRefIdeal := hProjRefIdeal)
    ∧ preserves_ProjDn_ProjDnIdeal
    ∧ algebraic_ProjDnIdeal_ProjDnRefIdeal (hProjDnIdeal := hProjDnIdeal) (hProjDnRefIdeal := hProjDnRefIdeal)
    ∧ preserves_Wout_WoutIdeal
    ∧ algebraic_WoutIdeal_WoutRefIdeal (hWoutIdeal := hWoutIdeal) (hWoutRefIdeal := hWoutRefIdeal)
    ∧ preserves_Dy_DyIdeal
    ∧ algebraic_DyIdeal_DyRefIdeal (hDyIdeal := hDyIdeal) (hDyRefIdeal := hDyRefIdeal)
    ∧ preserves_DyDn_DyDnIdeal
    ∧ algebraic_DyDnIdeal_DyDnRefIdeal (hDyDnIdeal := hDyDnIdeal) (hDyDnRefIdeal := hDyDnRefIdeal)
    ∧ preserves_Out_OutIdeal
    ∧ algebraic_OutIdeal_OutRefIdeal (hOutIdeal := hOutIdeal) (hOutRefIdeal := hOutRefIdeal)
    ∧ preserves_OutDn_OutDnIdeal
    ∧ algebraic_OutDnIdeal_OutDnRefIdeal (hOutDnIdeal := hOutDnIdeal) (hOutDnRefIdeal := hOutDnRefIdeal)
    ∧ preserves_Norm_NormIdeal
    ∧ algebraic_NormIdeal_NormRefIdeal (hNormIdeal := hNormIdeal) (hNormRefIdeal := hNormRefIdeal)
    ∧ preserves_Gate_GateIdeal
    ∧ algebraic_GateIdeal_GateRefIdeal_pre_finite_gate (hGateIdeal := hGateIdeal) (hGateRefIdeal := hGateRefIdeal) (hPre_finite_gate := hPre_finite_gate)
    ∧ preserves_Wkv_WkvIdeal
    ∧ algebraic_WkvIdeal_WkvRefIdeal (hWkvIdeal := hWkvIdeal) (hWkvRefIdeal := hWkvRefIdeal)
    ∧ preserves_Kv_KvIdeal
    ∧ algebraic_KvIdeal_KvRefIdeal (hKvIdeal := hKvIdeal) (hKvRefIdeal := hKvRefIdeal)
    ∧ preserves_KvDn_KvDnIdeal
    ∧ algebraic_KvDnIdeal_KvDnRefIdeal (hKvDnIdeal := hKvDnIdeal) (hKvDnRefIdeal := hKvDnRefIdeal)
    ∧ preserves_Dmem_DmemIdeal
    ∧ algebraic_DmemIdeal_DmemRefIdeal (hDmemIdeal := hDmemIdeal) (hDmemRefIdeal := hDmemRefIdeal)
    ∧ preserves_DmemDn_DmemDnIdeal
    ∧ algebraic_DmemDnIdeal_DmemDnRefIdeal (hDmemDnIdeal := hDmemDnIdeal) (hDmemDnRefIdeal := hDmemDnRefIdeal)
-- ==== Pre_finite_gate.lean ====
abbrev S2048x4096 : Shape := ⟨2, ![2048, 4096]⟩
abbrev S2048x3072 : Shape := ⟨2, ![2048, 3072]⟩
abbrev S2048x1024 : Shape := ⟨2, ![2048, 1024]⟩
abbrev S2048x14336 : Shape := ⟨2, ![2048, 14336]⟩
abbrev S_ : Shape := ⟨0, ![]⟩

class Facts : Prop where
  bcast_S_S2048x4096 : S_.BroadcastsInDim S2048x4096 (![] : Fin 0 → Fin S2048x4096.rank)
  bcast_S_S2048x3072 : S_.BroadcastsInDim S2048x3072 (![] : Fin 0 → Fin S2048x3072.rank)
  bcast_S_S2048x1024 : S_.BroadcastsInDim S2048x1024 (![] : Fin 0 → Fin S2048x1024.rank)

variable [Facts]

def fn {F : FTy → Type} [FloatOps F] (main_arg0 : FVec F S2048x4096 .f32) (main_arg1 : FVec F S2048x3072 .f32) (main_arg2 : FVec F S2048x1024 .f32) (main_arg3 : FVec F S2048x14336 .f32) : IVec S2048x4096 1 × IVec S2048x3072 1 × IVec S2048x1024 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S2048x3072 .f32 := Host.absf main_arg1
  let main_cst_0 : FVec F S_ .f32 := constant S_ .f32 0x7F800000#32
  let main_v4 : FVec F S2048x3072 .f32 := broadcastInDim S2048x3072 ![] bcast_S_S2048x3072 main_cst_0
  let main_v5 : IVec S2048x3072 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  (main_v2, main_v5, main_v8)
-- ==== Pre_finite_sb.lean ====
abbrev S2048x4096 : Shape := ⟨2, ![2048, 4096]⟩
abbrev S2048x14336 : Shape := ⟨2, ![2048, 14336]⟩
abbrev S128 : Shape := ⟨1, ![128]⟩
abbrev S2048x3072 : Shape := ⟨2, ![2048, 3072]⟩
abbrev S2048x9216 : Shape := ⟨2, ![2048, 9216]⟩
abbrev S_ : Shape := ⟨0, ![]⟩

class Facts : Prop where
  slices_S2048x4096_S2048x3072_0_0 : S2048x4096.Slices ![0, 0] S2048x3072
  slices_S2048x14336_S2048x9216_0_0 : S2048x14336.Slices ![0, 0] S2048x9216
  bcast_S_S2048x3072 : S_.BroadcastsInDim S2048x3072 (![] : Fin 0 → Fin S2048x3072.rank)
  bcast_S_S2048x9216 : S_.BroadcastsInDim S2048x9216 (![] : Fin 0 → Fin S2048x9216.rank)
  bcast_S_S128 : S_.BroadcastsInDim S128 (![] : Fin 0 → Fin S128.rank)

variable [Facts]

def fn {F : FTy → Type} [FloatOps F] (main_arg0 : FVec F S2048x4096 .f32) (main_arg1 : FVec F S2048x14336 .f32) (main_arg2 : FVec F S128 .f32) (main_arg3 : FVec F S128 .f32) : IVec S2048x3072 1 × IVec S2048x9216 1 × IVec S128 1 × IVec S128 1 :=
  let main_v0 : FVec F S2048x3072 .f32 := (extractStridedSlice S2048x3072 ![0, 0] · slices_S2048x4096_S2048x3072_0_0) main_arg0
  let main_v1 : FVec F S2048x9216 .f32 := (extractStridedSlice S2048x9216 ![0, 0] · slices_S2048x14336_S2048x9216_0_0) main_arg1
  let main_v2 : FVec F S2048x3072 .f32 := Host.absf main_v0
  let main_cst : FVec F S_ .f32 := constant S_ .f32 0x7F800000#32
  let main_v3 : FVec F S2048x3072 .f32 := broadcastInDim S2048x3072 ![] bcast_S_S2048x3072 main_cst
  let main_v4 : IVec S2048x3072 1 := cmpf .olt main_v2 main_v3
  let main_v5 : FVec F S2048x9216 .f32 := Host.absf main_v1
  let main_cst_0 : FVec F S_ .f32 := constant S_ .f32 0x7F800000#32
  let main_v6 : FVec F S2048x9216 .f32 := broadcastInDim S2048x9216 ![] bcast_S_S2048x9216 main_cst_0
  let main_v7 : IVec S2048x9216 1 := cmpf .olt main_v5 main_v6
  let main_v8 : FVec F S128 .f32 := Host.absf main_arg2
  let main_cst_1 : FVec F S_ .f32 := constant S_ .f32 0x7F800000#32
  let main_v9 : FVec F S128 .f32 := broadcastInDim S128 ![] bcast_S_S128 main_cst_1
  let main_v10 : IVec S128 1 := cmpf .olt main_v8 main_v9
  let main_v11 : FVec F S128 .f32 := Host.absf main_arg3
  let main_cst_2 : FVec F S_ .f32 := constant S_ .f32 0x7F800000#32
  let main_v12 : FVec F S128 .f32 := broadcastInDim S128 ![] bcast_S_S128 main_cst_2
  let main_v13 : IVec S128 1 := cmpf .olt main_v11 main_v12
  (main_v4, main_v7, main_v10, main_v13)
-- ==== Pre_finite_xa.lean ====
abbrev S2048x4096 : Shape := ⟨2, ![2048, 4096]⟩
abbrev S2048x14336 : Shape := ⟨2, ![2048, 14336]⟩
abbrev S256x2048 : Shape := ⟨2, ![256, 2048]⟩
abbrev S256 : Shape := ⟨1, ![256]⟩
abbrev S2048x1024 : Shape := ⟨2, ![2048, 1024]⟩
abbrev S_ : Shape := ⟨0, ![]⟩

class Facts : Prop where
  slices_S2048x4096_S2048x1024_0_3072 : S2048x4096.Slices ![0, 3072] S2048x1024
  slices_S2048x14336_S2048x1024_0_9216 : S2048x14336.Slices ![0, 9216] S2048x1024
  bcast_S_S2048x1024 : S_.BroadcastsInDim S2048x1024 (![] : Fin 0 → Fin S2048x1024.rank)
  bcast_S_S256x2048 : S_.BroadcastsInDim S256x2048 (![] : Fin 0 → Fin S256x2048.rank)
  bcast_S_S256 : S_.BroadcastsInDim S256 (![] : Fin 0 → Fin S256.rank)

variable [Facts]

def fn {F : FTy → Type} [FloatOps F] (main_arg0 : FVec F S2048x4096 .f32) (main_arg1 : FVec F S2048x14336 .f32) (main_arg2 : FVec F S256x2048 .f32) (main_arg3 : FVec F S256 .f32) (main_arg4 : FVec F S256 .f32) : IVec S2048x1024 1 × IVec S2048x1024 1 × IVec S256x2048 1 × IVec S256 1 × IVec S256 1 :=
  let main_v0 : FVec F S2048x1024 .f32 := (extractStridedSlice S2048x1024 ![0, 3072] · slices_S2048x4096_S2048x1024_0_3072) main_arg0
  let main_v1 : FVec F S2048x1024 .f32 := (extractStridedSlice S2048x1024 ![0, 9216] · slices_S2048x14336_S2048x1024_0_9216) main_arg1
  let main_v2 : FVec F S2048x1024 .f32 := Host.absf main_v0
  let main_cst : FVec F S_ .f32 := constant S_ .f32 0x7F800000#32
  let main_v3 : FVec F S2048x1024 .f32 := broadcastInDim S2048x1024 ![] bcast_S_S2048x1024 main_cst
  let main_v4 : IVec S2048x1024 1 := cmpf .olt main_v2 main_v3
  let main_v5 : FVec F S2048x1024 .f32 := Host.absf main_v1
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_v8 : FVec F S256x2048 .f32 := Host.absf main_arg2
  let main_cst_1 : FVec F S_ .f32 := constant S_ .f32 0x7F800000#32
  let main_v9 : FVec F S256x2048 .f32 := broadcastInDim S256x2048 ![] bcast_S_S256x2048 main_cst_1
  let main_v10 : IVec S256x2048 1 := cmpf .olt main_v8 main_v9
  let main_v11 : FVec F S256 .f32 := Host.absf main_arg3
  let main_cst_2 : FVec F S_ .f32 := constant S_ .f32 0x7F800000#32
  let main_v12 : FVec F S256 .f32 := broadcastInDim S256 ![] bcast_S_S256 main_cst_2
  let main_v13 : IVec S256 1 := cmpf .olt main_v11 main_v12
  let main_v14 : FVec F S256 .f32 := Host.absf main_arg4
  let main_cst_3 : FVec F S_ .f32 := constant S_ .f32 0x7F800000#32
  let main_v15 : FVec F S256 .f32 := broadcastInDim S256 ![] bcast_S_S256 main_cst_3
  let main_v16 : IVec S256 1 := cmpf .olt main_v14 main_v15
  (main_v4, main_v7, main_v10, main_v13, main_v16)
-- ==== Xa.lean ====
abbrev S2048x4096 : Shape := ⟨2, ![2048, 4096]⟩
abbrev S2048x14336 : Shape := ⟨2, ![2048, 14336]⟩
abbrev S256x2048 : Shape := ⟨2, ![256, 2048]⟩
abbrev S256 : Shape := ⟨1, ![256]⟩
abbrev S1x256 : Shape := ⟨2, ![1, 256]⟩
abbrev S2048x1024 : Shape := ⟨2, ![2048, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S256x1 : Shape := ⟨2, ![256, 1]⟩

abbrev nBuf : Space → Nat
  | .hbm => 12
  | .vmem => 19
  | .smem => 0
  | _ => 0

abbrev bufTy : (tb : Table) → Fin (tcTables nBuf tb) → BufTy
  | .hbm, ⟨0, _⟩ => ⟨S2048x4096, .f32⟩
  | .hbm, ⟨1, _⟩ => ⟨S2048x14336, .f32⟩
  | .hbm, ⟨2, _⟩ => ⟨S256x2048, .f32⟩
  | .hbm, ⟨3, _⟩ => ⟨S256, .f32⟩
  | .hbm, ⟨4, _⟩ => ⟨S256, .f32⟩
  | .hbm, ⟨5, _⟩ => ⟨S1x256, .f32⟩
  | .hbm, ⟨6, _⟩ => ⟨S1x256, .f32⟩
  | .hbm, ⟨7, _⟩ => ⟨S2048x1024, .bf16⟩
  | .hbm, ⟨8, _⟩ => ⟨S256x1024, .f32⟩
  | .hbm, ⟨9, _⟩ => ⟨S256x1024, .f32⟩
  | .hbm, ⟨10, _⟩ => ⟨S1x256, .f32⟩
  | .hbm, ⟨11, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S1x256, .f32⟩
  | .local _ .vmem, ⟨9, _⟩ => ⟨S1x256, .f32⟩
  | .local _ .vmem, ⟨10, _⟩ => ⟨S512x256, .bf16⟩
  | .local _ .vmem, ⟨11, _⟩ => ⟨S512x256, .bf16⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S1x256, .f32⟩
  | .local _ .vmem, ⟨17, _⟩ => ⟨S1x256, .f32⟩
  | .local _ .vmem, ⟨18, _⟩ => ⟨S256x256, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v104 : BitVec 1 := Scalar.cmpi .eq arg1 c3_i32
  let v105 : BitVec 32 := Scalar.extui v104
  let c0_i32_47 : BitVec 32 := 0#32
  let v106 : BitVec 1 := Scalar.cmpi .ne v105 c0_i32_47
  v106

def k0_cond2 (i : grid0.Coords) : BitVec 1 :=
  let arg1 : BitVec 32 := BitVec.ofNat 32 (i 1).val
  let c0_i32_25 : BitVec 32 := 0#32
  let v63 : BitVec 1 := Scalar.cmpi .eq arg1 c0_i32_25
  let arg0 : BitVec 32 := BitVec.ofNat 32 (i 0).val
  let c0_i32_26 : BitVec 32 := 0#32
  let v64 : BitVec 1 := Scalar.cmpi .eq arg0 c0_i32_26
  let v65 : BitVec 1 := Scalar.andi v63 v64
  let v66 : BitVec 32 := Scalar.extui v65
  let c0_i32_27 : BitVec 32 := 0#32
  let v67 : BitVec 1 := Scalar.cmpi .ne v66 c0_i32_27
  v67

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== XaRefIdeal.lean ====
abbrev S2048x4096 : Shape := ⟨2, ![2048, 4096]⟩
abbrev S2048x14336 : Shape := ⟨2, ![2048, 14336]⟩
abbrev S256x2048 : Shape := ⟨2, ![256, 2048]⟩
abbrev S256 : Shape := ⟨1, ![256]⟩
abbrev S2048x1024 : Shape := ⟨2, ![2048, 1024]⟩
abbrev S2048x4x256 : Shape := ⟨3, ![2048, 4, 256]⟩
abbrev S_ : Shape := ⟨0, ![]⟩
abbrev S2048x4 : Shape := ⟨2, ![2048, 4]⟩
abbrev S2048x4x1 : Shape := ⟨3, ![2048, 4, 1]⟩
abbrev S1x1x256 : Shape := ⟨3, ![1, 1, 256]⟩
abbrev S256x1024 : Shape := ⟨2, ![256, 1024]⟩
abbrev S256x4x256 : Shape := ⟨3, ![256, 4, 256]⟩
abbrev S256x4 : Shape := ⟨2, ![256, 4]⟩
abbrev S256x4x1 : Shape := ⟨3, ![256, 4, 1]⟩
abbrev S4x2048x256 : Shape := ⟨3, ![4, 2048, 256]⟩
abbrev S4x2048 : Shape := ⟨2, ![4, 2048]⟩
abbrev S4x2048x1 : Shape := ⟨3, ![4, 2048, 1]⟩
abbrev S4x256x2048 : Shape := ⟨3, ![4, 256, 2048]⟩
abbrev S4x256x256 : Shape := ⟨3, ![4, 256, 256]⟩
abbrev S1x256 : Shape := ⟨2, ![1, 256]⟩

abbrev nBuf : Space → Nat
  | .hbm => 186
  | .vmem => 0
  | .smem => 0
  | _ => 0

abbrev hbmTy0_0 (i : Nat) : BufTy := match i % 128 with
  | 0 => ⟨S2048x4096, .f32⟩
  | 1 => ⟨S2048x14336, .f32⟩
  | 2 => ⟨S256x2048, .f32⟩
  | 3 => ⟨S256, .f32⟩
  | 4 => ⟨S256, .f32⟩
  | 5 => ⟨S2048x1024, .f32⟩
  | 6 => ⟨S2048x4x256, .f32⟩
  | 7 => ⟨S2048x4x256, .f32⟩
  | 8 => ⟨S_, .f32⟩
  | 9 => ⟨S2048x4, .f32⟩
  | 10 => ⟨S2048x4x1, .f32⟩
  | 11 => ⟨S_, .f32⟩
  | 12 => ⟨S2048x4x1, .f32⟩
  | 13 => ⟨S2048x4x1, .f32⟩
  | 14 => ⟨S_, .f32⟩
  | 15 => ⟨S2048x4x1, .f32⟩
  | 16 => ⟨S2048x4x1, .f32⟩
  | 17 => ⟨S2048x4x1, .f32⟩
  | 18 => ⟨S2048x4x1, .f32⟩
  | 19 => ⟨S_, .f32⟩
  | 20 => ⟨S2048x4x1, .f32⟩
  | 21 => ⟨S2048x4x1, .f32⟩
  | 22 => ⟨S2048x4x256, .f32⟩
  | 23 => ⟨S2048x4x256, .f32⟩
  | 24 => ⟨S1x1x256, .f32⟩
  | 25 => ⟨S2048x4x256, .f32⟩
  | 26 => ⟨S2048x4x256, .f32⟩
  | 27 => ⟨S256x1024, .f32⟩
  | 28 => ⟨S256x4x256, .f32⟩
  | 29 => ⟨S256x4x256, .f32⟩
  | 30 => ⟨S_, .f32⟩
  | 31 => ⟨S256x4, .f32⟩
  | 32 => ⟨S256x4x1, .f32⟩
  | 33 => ⟨S_, .f32⟩
  | 34 => ⟨S256x4x1, .f32⟩
  | 35 => ⟨S256x4x1, .f32⟩
  | 36 => ⟨S_, .f32⟩
  | 37 => ⟨S256x4x1, .f32⟩
  | 38 => ⟨S256x4x1, .f32⟩
  | 39 => ⟨S256x4x1, .f32⟩
  | 40 => ⟨S256x4x1, .f32⟩
  | 41 => ⟨S_, .f32⟩
  | 42 => ⟨S256x4x1, .f32⟩
  | 43 => ⟨S256x4x1, .f32⟩
  | 44 => ⟨S256x4x256, .f32⟩
  | 45 => ⟨S256x4x256, .f32⟩
  | 46 => ⟨S1x1x256, .f32⟩
  | 47 => ⟨S256x4x256, .f32⟩
  | 48 => ⟨S256x4x256, .f32⟩
  | 49 => ⟨S256x1024, .f32⟩
  | 50 => ⟨S256x4x256, .f32⟩
  | 51 => ⟨S4x2048x256, .f32⟩
  | 52 => ⟨S_, .f32⟩
  | 53 => ⟨S4x2048x256, .f32⟩
  | 54 => ⟨S4x2048x256, .f32⟩
  | 55 => ⟨S_, .f32⟩
  | 56 => ⟨S4x2048, .f32⟩
  | 57 => ⟨S4x2048x1, .f32⟩
  | 58 => ⟨S4x2048x256, .f32⟩
  | 59 => ⟨S4x2048x256, .i1⟩
  | 60 => ⟨S4x2048x256, .f32⟩
  | 61 => ⟨S_, .f32⟩
  | 62 => ⟨S4x2048, .f32⟩
  | 63 => ⟨S_, .f32⟩
  | 64 => ⟨S4x2048, .f32⟩
  | 65 => ⟨S4x2048, .f32⟩
  | 66 => ⟨S_, .f32⟩
  | 67 => ⟨S4x2048, .f32⟩
  | 68 => ⟨S4x2048, .i1⟩
  | 69 => ⟨S_, .f32⟩
  | 70 => ⟨S4x2048, .f32⟩
  | 71 => ⟨S4x2048, .i1⟩
  | 72 => ⟨S_, .f32⟩
  | 73 => ⟨S4x2048, .f32⟩
  | 74 => ⟨S_, .f32⟩
  | 75 => ⟨S4x2048, .f32⟩
  | 76 => ⟨S_, .f32⟩
  | 77 => ⟨S4x2048, .f32⟩
  | 78 => ⟨S4x2048, .f32⟩
  | 79 => ⟨S4x2048, .f32⟩
  | 80 => ⟨S4x2048x1, .f32⟩
  | 81 => ⟨S4x2048x256, .f32⟩
  | 82 => ⟨S4x2048x256, .f32⟩
  | 83 => ⟨S4x2048x256, .f32⟩
  | 84 => ⟨S_, .f32⟩
  | 85 => ⟨S4x2048, .f32⟩
  | 86 => ⟨S4x2048x1, .f32⟩
  | 87 => ⟨S4x2048x256, .f32⟩
  | 88 => ⟨S4x2048x256, .f32⟩
  | 89 => ⟨S4x2048x1, .f32⟩
  | 90 => ⟨S_, .f32⟩
  | 91 => ⟨S4x2048x1, .f32⟩
  | 92 => ⟨S4x2048x1, .f32⟩
  | 93 => ⟨S4x256x2048, .f32⟩
  | 94 => ⟨S2048x4x256, .f32⟩
  | 95 => ⟨S2048x1024, .f32⟩
  | 96 => ⟨S2048x1024, .f32⟩
  | 97 => ⟨S2048x4x256, .f32⟩
  | 98 => ⟨S4x256x2048, .f32⟩
  | 99 => ⟨S4x2048x256, .f32⟩
  | 100 => ⟨S4x256x256, .f32⟩
  | 101 => ⟨S256x4x256, .f32⟩
  | 102 => ⟨S4x2048x256, .f32⟩
  | 103 => ⟨S4x2048x256, .f32⟩
  | 104 => ⟨S4x2048x256, .f32⟩
  | 105 => ⟨S_, .f32⟩
  | 106 => ⟨S4x2048, .f32⟩
  | 107 => ⟨S4x2048x1, .f32⟩
  | 108 => ⟨S4x2048x1, .f32⟩
  | 109 => ⟨S4x2048x256, .f32⟩
  | 110 => ⟨S4x2048x256, .f32⟩
  | 111 => ⟨S_, .f32⟩
  | 112 => ⟨S4x2048, .f32⟩
  | 113 => ⟨S4x2048x256, .f32⟩
  | 114 => ⟨S4x2048x256, .f32⟩
  | 115 => ⟨S4x2048x256, .f32⟩
  | 116 => ⟨S_, .f32⟩
  | 117 => ⟨S4x2048x256, .f32⟩
  | 118 => ⟨S4x2048x256, .f32⟩
  | 119 => ⟨S4x256x256, .f32⟩
  | 120 => ⟨S256x4x256, .f32⟩
  | 121 => ⟨S4x2048x256, .f32⟩
  | 122 => ⟨S2048x4x256, .f32⟩
  | 123 => ⟨S256x1024, .f32⟩
  | 124 => ⟨S_, .f32⟩
  | 125 => ⟨S256x2048, .f32⟩
  | 126 => ⟨S256x4x256, .f32⟩
  | 127 => ⟨S_, .f32⟩
  | _ => ⟨S2048x4096, .f32⟩

abbrev hbmTy0_1 (i : Nat) : BufTy := match i % 128 with
  | 0 => ⟨S256, .f32⟩
  | 1 => ⟨S1x1x256, .f32⟩
  | 2 => ⟨S256x4x256, .f32⟩
  | 3 => ⟨S256x4x256, .f32⟩
  | 4 => ⟨S_, .f32⟩
  | 5 => ⟨S256, .f32⟩
  | 6 => ⟨S256x4x256, .f32⟩
  | 7 => ⟨S_, .f32⟩
  | 8 => ⟨S256x4, .f32⟩
  | 9 => ⟨S256x4x1, .f32⟩
  | 10 => ⟨S256x4x256, .f32⟩
  | 11 => ⟨S256x4x256, .f32⟩
  | 12 => ⟨S256x4x1, .f32⟩
  | 13 => ⟨S_, .f32⟩
  | 14 => ⟨S256x4x1, .f32⟩
  | 15 => ⟨S256x4x1, .f32⟩
  | 16 => ⟨S_, .f32⟩
  | 17 => ⟨S256x4, .f32⟩
  | 18 => ⟨S256x4x256, .f32⟩
  | 19 => ⟨S256x4x256, .f32⟩
  | 20 => ⟨S256x4x256, .f32⟩
  | 21 => ⟨S256x4x256, .f32⟩
  | 22 => ⟨S256x4x256, .f32⟩
  | 23 => ⟨S256x1024, .f32⟩
  | 24 => ⟨S_, .f32⟩
  | 25 => ⟨S256x2048, .f32⟩
  | 26 => ⟨S256x2048, .f32⟩
  | 27 => ⟨S2048x4x256, .f32⟩
  | 28 => ⟨S_, .f32⟩
  | 29 => ⟨S256, .f32⟩
  | 30 => ⟨S1x1x256, .f32⟩
  | 31 => ⟨S2048x4x256, .f32⟩
  | 32 => ⟨S2048x4x256, .f32⟩
  | 33 => ⟨S_, .f32⟩
  | 34 => ⟨S256, .f32⟩
  | 35 => ⟨S2048x4x256, .f32⟩
  | 36 => ⟨S_, .f32⟩
  | 37 => ⟨S2048x4, .f32⟩
  | 38 => ⟨S2048x4x1, .f32⟩
  | 39 => ⟨S2048x4x256, .f32⟩
  | 40 => ⟨S2048x4x256, .f32⟩
  | 41 => ⟨S2048x4x1, .f32⟩
  | 42 => ⟨S_, .f32⟩
  | 43 => ⟨S2048x4x1, .f32⟩
  | 44 => ⟨S2048x4x1, .f32⟩
  | 45 => ⟨S_, .f32⟩
  | 46 => ⟨S2048x4, .f32⟩
  | 47 => ⟨S2048x4x256, .f32⟩
  | 48 => ⟨S2048x4x256, .f32⟩
  | 49 => ⟨S2048x4x256, .f32⟩
  | 50 => ⟨S2048x4x256, .f32⟩
  | 51 => ⟨S2048x4x256, .f32⟩
  | 52 => ⟨S2048x1024, .f32⟩
  | 53 => ⟨S2048x1024, .bf16⟩
  | 54 => ⟨S256x1024, .f32⟩
  | 55 => ⟨S256x1024, .f32⟩
  | 56 => ⟨S1x256, .f32⟩
  | 57 => ⟨S1x256, .f32⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_cst_14 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_16 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_17 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_18 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_19 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_20 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_21 : Ref sig .tc := ⟨.hbm, 124, rfl⟩
abbrev main_v97 : Ref sig .tc := ⟨.hbm, 125, rfl⟩
abbrev main_v98 : Ref sig .tc := ⟨.hbm, 126, rfl⟩
abbrev main_cst_22 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_23 : Ref sig .tc := ⟨.hbm, 132, rfl⟩
abbrev main_v103 : Ref sig .tc := ⟨.hbm, 133, rfl⟩
abbrev main_v104 : Ref sig .tc := ⟨.hbm, 134, rfl⟩
abbrev main_cst_24 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_25 : Ref sig .tc := ⟨.hbm, 141, rfl⟩
abbrev main_v110 : Ref sig .tc := ⟨.hbm, 142, rfl⟩
abbrev main_v111 : Ref sig .tc := ⟨.hbm, 143, rfl⟩
abbrev main_cst_26 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_27 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_28 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_29 : Ref sig .tc := ⟨.hbm, 161, rfl⟩
abbrev main_v126 : Ref sig .tc := ⟨.hbm, 162, rfl⟩
abbrev main_v127 : Ref sig .tc := ⟨.hbm, 163, rfl⟩
abbrev main_cst_30 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_cst_31 : Ref sig .tc := ⟨.hbm, 170, rfl⟩
abbrev main_v133 : Ref sig .tc := ⟨.hbm, 171, rfl⟩
abbrev main_v134 : Ref sig .tc := ⟨.hbm, 172, rfl⟩
abbrev main_cst_32 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩

abbrev nD : Nat := 1
abbrev τ : Topo := Topo.v7x

variable {F : FTy → Type} [FloatOps F]
-- ==== Sb.lean ====
abbrev S2048x4096 : Shape := ⟨2, ![2048, 4096]⟩
abbrev S2048x14336 : Shape := ⟨2, ![2048, 14336]⟩
abbrev S128 : Shape := ⟨1, ![128]⟩
abbrev S2048x3072 : Shape := ⟨2, ![2048, 3072]⟩
abbrev S2048x24x128 : Shape := ⟨3, ![2048, 24, 128]⟩
abbrev S_ : Shape := ⟨0, ![]⟩
abbrev S2048x24 : Shape := ⟨2, ![2048, 24]⟩
abbrev S2048x24x1 : Shape := ⟨3, ![2048, 24, 1]⟩
abbrev S1x1x128 : Shape := ⟨3, ![1, 1, 128]⟩
abbrev S24x2048x2048 : Shape := ⟨3, ![24, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S24x2048 : Shape := ⟨2, ![24, 2048]⟩
abbrev S1x128 : Shape := ⟨2, ![1, 128]⟩
abbrev S2048x256 : Shape := ⟨2, ![2048, 256]⟩
abbrev S2x2048x128 : Shape := ⟨3, ![2, 2048, 128]⟩
abbrev S2048x128 : Shape := ⟨2, ![2048, 128]⟩
abbrev S1x2048x128 : Shape := ⟨3, ![1, 2048, 128]⟩
abbrev S2x2048 : Shape := ⟨2, ![2, 2048]⟩
abbrev S2x2048x1 : Shape := ⟨3, ![2, 2048, 1]⟩
abbrev S256x256 : Shape := ⟨2, ![256, 256]⟩
abbrev S2x256x128 : Shape := ⟨3, ![2, 256, 128]⟩
abbrev S256x128 : Shape := ⟨2, ![256, 128]⟩
abbrev S1x256x128 : Shape := ⟨3, ![1, 256, 128]⟩
abbrev S2x256 : Shape := ⟨2, ![2, 256]⟩
abbrev S2x256x1 : Shape := ⟨3, ![2, 256, 1]⟩
abbrev S1x256x256 : Shape := ⟨3, ![1, 256, 256]⟩
abbrev S2x256x256 : Shape := ⟨3, ![2, 256, 256]⟩
abbrev S2x128 : Shape := ⟨2, ![2, 128]⟩
abbrev S2x1x128 : Shape := ⟨3, ![2, 1, 128]⟩

abbrev nBuf : Space → Nat
  | .hbm => 86
  | .vmem => 18
  | .smem => 0
  | _ => 0

abbrev bufTy : (tb : Table) → Fin (tcTables nBuf tb) → BufTy
  | .hbm, ⟨0, _⟩ => ⟨S2048x4096, .f32⟩
  | .hbm, ⟨1, _⟩ => ⟨S2048x14336, .f32⟩
  | .hbm, ⟨2, _⟩ => ⟨S128, .f32⟩
  | .hbm, ⟨3, _⟩ => ⟨S128, .f32⟩
  | .hbm, ⟨4, _⟩ => ⟨S2048x3072, .f32⟩
  | .hbm, ⟨5, _⟩ => ⟨S2048x24x128, .f32⟩
  | .hbm, ⟨6, _⟩ => ⟨S2048x3072, .f32⟩
  | .hbm, ⟨7, _⟩ => ⟨S2048x24x128, .f32⟩
  | .hbm, ⟨8, _⟩ => ⟨S2048x24x128, .f32⟩
  | .hbm, ⟨9, _⟩ => ⟨S_, .f32⟩
  | .hbm, ⟨10, _⟩ => ⟨S2048x24, .f32⟩
  | .hbm, ⟨11, _⟩ => ⟨S2048x24x1, .f32⟩
  | .hbm, ⟨12, _⟩ => ⟨S_, .f32⟩
  | .hbm, ⟨13, _⟩ => ⟨S2048x24x1, .f32⟩
  | .hbm, ⟨14, _⟩ => ⟨S2048x24x1, .f32⟩
  | .hbm, ⟨15, _⟩ => ⟨S_, .f32⟩
  | .hbm, ⟨16, _⟩ => ⟨S2048x24x1, .f32⟩
  | .hbm, ⟨17, _⟩ => ⟨S2048x24x1, .f32⟩
  | .hbm, ⟨18, _⟩ => ⟨S2048x24x1, .f32⟩
  | .hbm, ⟨19, _⟩ => ⟨S2048x24x128, .f32⟩
  | .hbm, ⟨20, _⟩ => ⟨S2048x24x128, .f32⟩
  | .hbm, ⟨21, _⟩ => ⟨S1x1x128, .f32⟩
  | .hbm, ⟨22, _⟩ => ⟨S2048x24x128, .f32⟩
  | .hbm, ⟨23, _⟩ => ⟨S2048x24x128, .f32⟩
  | .hbm, ⟨24, _⟩ => ⟨S2048x24x128, .f32⟩
  | .hbm, ⟨25, _⟩ => ⟨S_, .f32⟩
  | .hbm, ⟨26, _⟩ => ⟨S2048x24, .f32⟩
  | .hbm, ⟨27, _⟩ => ⟨S2048x24x1, .f32⟩
  | .hbm, ⟨28, _⟩ => ⟨S_, .f32⟩
  | .hbm, ⟨29, _⟩ => ⟨S2048x24x1, .f32⟩
  | .hbm, ⟨30, _⟩ => ⟨S2048x24x1, .f32⟩
  | .hbm, ⟨31, _⟩ => ⟨S_, .f32⟩
  | .hbm, ⟨32, _⟩ => ⟨S2048x24x1, .f32⟩
  | .hbm, ⟨33, _⟩ => ⟨S2048x24x1, .f32⟩
  | .hbm, ⟨34, _⟩ => ⟨S2048x24x1, .f32⟩
  | .hbm, ⟨35, _⟩ => ⟨S2048x24x128, .f32⟩
  | .hbm, ⟨36, _⟩ => ⟨S2048x24x128, .f32⟩
  | .hbm, ⟨37, _⟩ => ⟨S1x1x128, .f32⟩
  | .hbm, ⟨38, _⟩ => ⟨S2048x24x128, .f32⟩
  | .hbm, ⟨39, _⟩ => ⟨S2048x24x128, .f32⟩
  | .hbm, ⟨40, _⟩ => ⟨S24x2048x2048, .f32⟩
  | .hbm, ⟨41, _⟩ => ⟨S_, .f32⟩
  | .hbm, ⟨42, _⟩ => ⟨S24x2048x2048, .f32⟩
  | .hbm, ⟨43, _⟩ => ⟨S24x2048x2048, .f32⟩
  | .hbm, ⟨44, _⟩ => ⟨S2048, .i32⟩
  | .hbm, ⟨45, _⟩ => ⟨S1x2048, .i32⟩
  | .hbm, ⟨46, _⟩ => ⟨S2048, .i32⟩
  | .hbm, ⟨47, _⟩ => ⟨S2048x1, .i32⟩
  | .hbm, ⟨48, _⟩ => ⟨S2048x2048, .i32⟩
  | .hbm, ⟨49, _⟩ => ⟨S2048x2048, .i32⟩
  | .hbm, ⟨50, _⟩ => ⟨S2048x2048, .i1⟩
  | .hbm, ⟨51, _⟩ => ⟨S24x2048x2048, .f32⟩
  | .hbm, ⟨52, _⟩ => ⟨S24x2048x2048, .f32⟩
  | .hbm, ⟨53, _⟩ => ⟨S_, .f32⟩
  | .hbm, ⟨54, _⟩ => ⟨S24x2048x2048, .f32⟩
  | .hbm, ⟨55, _⟩ => ⟨S24x2048x2048, .f32⟩
  | .hbm, ⟨56, _⟩ => ⟨S24x2048x2048, .f32⟩
  | .hbm, ⟨57, _⟩ => ⟨S24x2048x2048, .f32⟩
  | .hbm, ⟨58, _⟩ => ⟨S24x2048x2048, .i1⟩
  | .hbm, ⟨59, _⟩ => ⟨S24x2048x2048, .f32⟩
  | .hbm, ⟨60, _⟩ => ⟨S24x2048x2048, .f32⟩
  | .hbm, ⟨61, _⟩ => ⟨S24x2048x2048, .f32⟩
  | .hbm, ⟨62, _⟩ => ⟨S24x2048x2048, .f32⟩
  | .hbm, ⟨63, _⟩ => ⟨S24x2048x2048, .f32⟩
  | .hbm, ⟨64, _⟩ => ⟨S24x2048x2048, .f32⟩
  | .hbm, ⟨65, _⟩ => ⟨S24x2048x2048, .f32⟩
  | .hbm, ⟨66, _⟩ => ⟨S24x2048x2048, .f32⟩
  | .hbm, ⟨67, _⟩ => ⟨S24x2048x2048, .f32⟩
  | .hbm, ⟨68, _⟩ => ⟨S_, .f32⟩
  | .hbm, ⟨69, _⟩ => ⟨S_, .f32⟩
  | .hbm, ⟨70, _⟩ => ⟨S24x2048x2048, .i1⟩
  | .hbm, ⟨71, _⟩ => ⟨S24x2048x2048, .f32⟩
  | .hbm, ⟨72, _⟩ => ⟨S24x2048x2048, .f32⟩
  | .hbm, ⟨73, _⟩ => ⟨S_, .f32⟩
  | .hbm, ⟨74, _⟩ => ⟨S24x2048, .f32⟩
  | .hbm, ⟨75, _⟩ => ⟨S2048x24, .f32⟩
  | .hbm, ⟨76, _⟩ => ⟨S2048x24x1, .f32⟩
  | .hbm, ⟨77, _⟩ => ⟨S2048x24x128, .f32⟩
  | .hbm, ⟨78, _⟩ => ⟨S2048x3072, .f32⟩
  | .hbm, ⟨79, _⟩ => ⟨S1x128, .f32⟩
  | .hbm, ⟨80, _⟩ => ⟨S1x128, .f32⟩
  | .hbm, ⟨81, _⟩ => ⟨S2048x3072, .bf16⟩
  | .hbm, ⟨82, _⟩ => ⟨S2048x3072, .bf16⟩
  | .hbm, ⟨83, _⟩ => ⟨S2048x3072, .bf16⟩
  | .hbm, ⟨84, _⟩ => ⟨S1x128, .f32⟩
  | .hbm, ⟨85, _⟩ => ⟨S1x128, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S1x128, .f32⟩
  | .local _ .vmem, ⟨6, _⟩ => ⟨S1x128, .f32⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S1x128, .f32⟩
  | .local _ .vmem, ⟨11, _⟩ => ⟨S1x128, .f32⟩
  | .local _ .vmem, ⟨12, _⟩ => ⟨S2x2048x128, .bf16⟩
  | .local _ .vmem, ⟨13, _⟩ => ⟨S2x2048x128, .bf16⟩
  | .local _ .vmem, ⟨14, _⟩ => ⟨S2x2048x128, .bf16⟩
  | .local _ .vmem, ⟨15, _⟩ => ⟨S2x2048x128, .f32⟩
  | .local _ .vmem, ⟨16, _⟩ => ⟨S2x2048x128, .f32⟩
  | .local _ .vmem, ⟨17, _⟩ => ⟨S2x2048x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call0_v0 : Ref sig .tc := ⟨.hbm, 52, rfl⟩
abbrev main_call0_call0_cst : Ref sig .tc := ⟨.hbm, 53, rfl⟩
abbrev main_call0_call0_v0 : Ref sig .tc := ⟨.hbm, 54, rfl⟩
abbrev main_call0_call0_v1 : Ref sig .tc := ⟨.hbm, 55, rfl⟩
abbrev main_call0_call0_v2 : Ref sig .tc := ⟨.hbm, 56, rfl⟩
abbrev main_call0_call0_v3 : Ref sig .tc := ⟨.hbm, 57, rfl⟩
abbrev main_call0_call0_v4 : Ref sig .tc := ⟨.hbm, 58, rfl⟩
abbrev main_call0_call0_v5 : Ref sig .tc := ⟨.hbm, 59, rfl⟩
abbrev main_call0_call0_v6 : Ref sig .tc := ⟨.hbm, 60, rfl⟩
abbrev main_call0_call0_v7 : Ref sig .tc := ⟨.hbm, 61, rfl⟩
abbrev main_call0_call0_v8 : Ref sig .tc := ⟨.hbm, 62, rfl⟩
abbrev main_call0_call0_v9 : Ref sig .tc := ⟨.hbm, 63, rfl⟩
abbrev main_call0_call0_v10 : Ref sig .tc := ⟨.hbm, 64, rfl⟩
abbrev main_call0_call0_v11 : Ref sig .tc := ⟨.hbm, 65, rfl⟩
abbrev main_call0_v1 : Ref sig .tc := ⟨.hbm, 66, rfl⟩
abbrev main_v41 : Ref sig .tc := ⟨.hbm, 67, rfl⟩
abbrev main_cst_6 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v42 : Ref sig .tc := ⟨.hbm, 72, rfl⟩
abbrev main_cst_7 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50_0 : Ref sig .tc := ⟨.hbm, 81, rfl⟩
abbrev main_v50_1 : Ref sig .tc := ⟨.hbm, 82, rfl⟩
abbrev main_v50_2 : Ref sig .tc := ⟨.hbm, 83, rfl⟩
abbrev main_v50_3 : Ref sig .tc := ⟨.hbm, 84, rfl⟩
abbrev main_v50_4 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32 : BitVec 32 := 0#32
  let c8_i32 : BitVec 32 := 8#32
  let v77 : BitVec 32 := Scalar.addi c0_i32 c8_i32
  let c1_i32 : BitVec 32 := 1#32
  ⟨c0_i32, v77, c1_i32⟩
def k0_mult1 (k0_t1 : Fin k0_t1_loop.trips) : BitVec 32 :=
  let c0_i32 : BitVec 32 := 0#32
  let c1_i32 : BitVec 32 := 1#32
  let arg19 : BitVec 32 := Scf.iv c0_i32 c1_i32 k0_t1
  let c256_i32 : BitVec 32 := 256#32
  let v151 : BitVec 32 := Scalar.muli arg19 c256_i32
  v151
def k0_off1 (k0_t1 : Fin k0_t1_loop.trips) : Fin 3 → Nat :=
  let c0_77 : Index := 0#32
  let c0_i32 : BitVec 32 := 0#32
  let c1_i32 : BitVec 32 := 1#32
  let arg19 : BitVec 32 := Scf.iv c0_i32 c1_i32 k0_t1
  let c256_i32 : BitVec 32 := 256#32
  let v151 : BitVec 32 := Scalar.muli arg19 c256_i32
  let v152 : BitVec 32 := v151
  let v153 : Index := Scalar.indexCast v152
  let c0_78 : Index := 0#32
  ![0, v153.toNat, 0]
def k0_off2 (k0_t1 : Fin k0_t1_loop.trips) : Fin 2 → Nat :=
  let c0_i32 : BitVec 32 := 0#32
  let c1_i32 : BitVec 32 := 1#32
  let arg19 : BitVec 32 := Scf.iv c0_i32 c1_i32 k0_t1
  let c256_i32 : BitVec 32 := 256#32
  let v151 : BitVec 32 := Scalar.muli arg19 c256_i32
  let v152 : BitVec 32 := v151
  let v155 : Index := Scalar.indexCast v152
  let c0_79 : Index := 0#32
  ![v155.toNat, 0]
def k0_off3 (k0_t1 : Fin k0_t1_loop.trips) : Fin 2 → Nat :=
  let c0_i32 : BitVec 32 := 0#32
  let c1_i32 : BitVec 32 := 1#32
  let arg19 : BitVec 32 := Scf.iv c0_i32 c1_i32 k0_t1
  let c256_i32 : BitVec 32 := 256#32
  let v151 : BitVec 32 := Scalar.muli arg19 c256_i32
  let v152 : BitVec 32 := v151
  let v157 : Index := Scalar.indexCast v152
  let c128_80 : Index := 128#32
  ![v157.toNat, 128]
@[reducible] def k0_t2_loop (k0_t1 : Fin k0_t1_loop.trips) : Scf.Loop 32 :=
  let c0_i32_94 : BitVec 32 := 0#32
  let c0_i32 : BitVec 32 := 0#32
  let c1_i32 : BitVec 32 := 1#32
  let arg19 : BitVec 32 := Scf.iv c0_i32 c1_i32 k0_t1
  let c256_i32_84 : BitVec 32 := 256#32
  let v174 : BitVec 32 := Scalar.muli arg19 c256_i32_84
  let c0_i32_86 : BitVec 32 := 0#32
  let v176 : BitVec 1 := Scalar.cmpi .sgt v174 c0_i32_86
  let v177 : BitVec 32 := Scalar.extui v176
  let c0_i32_87 : BitVec 32 := 0#32
  let v178 : BitVec 1 := Scalar.cmpi .slt v174 c0_i32_87
  let v179 : BitVec 32 := Scalar.extui v178
  let v180 : BitVec 32 := Scalar.subi v177 v179
  let c256_i32_85 : BitVec 32 := 256#32
  let c0_i32_88 : BitVec 32 := 0#32
  let v181 : BitVec 1 := Scalar.cmpi .sgt c256_i32_85 c0_i32_88
  let v182 : BitVec 32 := Scalar.extui v181
  let c0_i32_89 : BitVec 32 := 0#32
  let v183 : BitVec 1 := Scalar.cmpi .slt c256_i32_85 c0_i32_89
  let v184 : BitVec 32 := Scalar.extui v183
  let v185 : BitVec 32 := Scalar.subi v182 v184
  let v186 : BitVec 1 := Scalar.cmpi .ne v180 v185
  let v187 : BitVec 32 := Scalar.remsi v174 c256_i32_85
  let c0_i32_90 : BitVec 32 := 0#32
  let v188 : BitVec 1 := Scalar.cmpi .ne v187 c0_i32_90
  let v189 : BitVec 1 := Scalar.andi v186 v188
  let v175 : BitVec 32 := Scalar.divsi v174 c256_i32_85
  let c1_i32_91 : BitVec 32 := 1#32
  let v190 : BitVec 32 := Scalar.subi v175 c1_i32_91
  let v191 : BitVec 32 := Scalar.select v189 v190 v175
  let v194 : BitVec 32 := Scalar.subi v191 c0_i32_94
  let c1_i32_95 : BitVec 32 := 1#32
  let v196 : BitVec 32 := Scalar.divsi v194 c1_i32_95
  let v197 : BitVec 32 := Scalar.muli v196 c1_i32_95
  let v198 : BitVec 32 := Scalar.addi c0_i32_94 v197
  let c1_i32_96 : BitVec 32 := 1#32
  ⟨c0_i32_94, v198, c1_i32_96⟩
def k0_mult2 (k0_t1 : Fin k0_t1_loop.trips) (k0_t2 : Fin (k0_t2_loop k0_t1).trips) : BitVec 32 :=
  let c0_i32_94 : BitVec 32 := 0#32
  let c1_i32_96 : BitVec 32 := 1#32
  let arg20 : BitVec 32 := Scf.iv c0_i32_94 c1_i32_96 k0_t2
  let c256_i32_140 : BitVec 32 := 256#32
  let v379 : BitVec 32 := Scalar.muli arg20 c256_i32_140
  v379
def k0_off4 (k0_t1 : Fin k0_t1_loop.trips) (k0_t2 : Fin (k0_t2_loop k0_t1).trips) : Fin 3 → Nat :=
  let c0_141 : Index := 0#32
  let c0_i32_94 : BitVec 32 := 0#32
  let c1_i32_96 : BitVec 32 := 1#32
  let arg20 : BitVec 32 := Scf.iv c0_i32_94 c1_i32_96 k0_t2
  let c256_i32_140 : BitVec 32 := 256#32
  let v379 : BitVec 32 := Scalar.muli arg20 c256_i32_140
  let v380 : BitVec 32 := v379
  let v381 : Index := Scalar.indexCast v380
  let c0_142 : Index := 0#32
  ![0, v381.toNat, 0]
@[reducible] def k0_t3_loop (k0_t1 : Fin k0_t1_loop.trips) : Scf.Loop 32 :=
  let c0_i32_94 : BitVec 32 := 0#32
  let c0_i32 : BitVec 32 := 0#32
  let c1_i32 : BitVec 32 := 1#32
  let arg19 : BitVec 32 := Scf.iv c0_i32 c1_i32 k0_t1
  let c256_i32_84 : BitVec 32 := 256#32
  let v174 : BitVec 32 := Scalar.muli arg19 c256_i32_84
  let c0_i32_86 : BitVec 32 := 0#32
  let v176 : BitVec 1 := Scalar.cmpi .sgt v174 c0_i32_86
  let v177 : BitVec 32 := Scalar.extui v176
  let c0_i32_87 : BitVec 32 := 0#32
  let v178 : BitVec 1 := Scalar.cmpi .slt v174 c0_i32_87
  let v179 : BitVec 32 := Scalar.extui v178
  let v180 : BitVec 32 := Scalar.subi v177 v179
  let c256_i32_85 : BitVec 32 := 256#32
  let c0_i32_88 : BitVec 32 := 0#32
  let v181 : BitVec 1 := Scalar.cmpi .sgt c256_i32_85 c0_i32_88
  let v182 : BitVec 32 := Scalar.extui v181
  let c0_i32_89 : BitVec 32 := 0#32
  let v183 : BitVec 1 := Scalar.cmpi .slt c256_i32_85 c0_i32_89
  let v184 : BitVec 32 := Scalar.extui v183
  let v185 : BitVec 32 := Scalar.subi v182 v184
  let v186 : BitVec 1 := Scalar.cmpi .ne v180 v185
  let v187 : BitVec 32 := Scalar.remsi v174 c256_i32_85
  let c0_i32_90 : BitVec 32 := 0#32
  let v188 : BitVec 1 := Scalar.cmpi .ne v187 c0_i32_90
  let v189 : BitVec 1 := Scalar.andi v186 v188
  let v175 : BitVec 32 := Scalar.divsi v174 c256_i32_85
  let c1_i32_91 : BitVec 32 := 1#32
  let v190 : BitVec 32 := Scalar.subi v175 c1_i32_91
  let v191 : BitVec 32 := Scalar.select v189 v190 v175
  let v194 : BitVec 32 := Scalar.subi v191 c0_i32_94
  let c1_i32_95 : BitVec 32 := 1#32
  let v196 : BitVec 32 := Scalar.divsi v194 c1_i32_95
  let v197 : BitVec 32 := Scalar.muli v196 c1_i32_95
  let v198 : BitVec 32 := Scalar.addi c0_i32_94 v197
  let v195 : BitVec 32 := Scalar.addi c0_i32_94 v194
  let c1_i32_97 : BitVec 32 := 1#32
  ⟨v198, v195, c1_i32_97⟩
def k0_mult3 (k0_t1 : Fin k0_t1_loop.trips) (k0_t3 : Fin (k0_t3_loop k0_t1).trips) : BitVec 32 :=
  let c0_i32_94 : BitVec 32 := 0#32
  let c0_i32 : BitVec 32 := 0#32
  let c1_i32 : BitVec 32 := 1#32
  let arg19 : BitVec 32 := Scf.iv c0_i32 c1_i32 k0_t1
  let c256_i32_84 : BitVec 32 := 256#32
  let v174 : BitVec 32 := Scalar.muli arg19 c256_i32_84
  let c0_i32_86 : BitVec 32 := 0#32
  let v176 : BitVec 1 := Scalar.cmpi .sgt v174 c0_i32_86
  let v177 : BitVec 32 := Scalar.extui v176
  let c0_i32_87 : BitVec 32 := 0#32
  let v178 : BitVec 1 := Scalar.cmpi .slt v174 c0_i32_87
  let v179 : BitVec 32 := Scalar.extui v178
  let v180 : BitVec 32 := Scalar.subi v177 v179
  let c256_i32_85 : BitVec 32 := 256#32
  let c0_i32_88 : BitVec 32 := 0#32
  let v181 : BitVec 1 := Scalar.cmpi .sgt c256_i32_85 c0_i32_88
  let v182 : BitVec 32 := Scalar.extui v181
  let c0_i32_89 : BitVec 32 := 0#32
  let v183 : BitVec 1 := Scalar.cmpi .slt c256_i32_85 c0_i32_89
  let v184 : BitVec 32 := Scalar.extui v183
  let v185 : BitVec 32 := Scalar.subi v182 v184
  let v186 : BitVec 1 := Scalar.cmpi .ne v180 v185
  let v187 : BitVec 32 := Scalar.remsi v174 c256_i32_85
  let c0_i32_90 : BitVec 32 := 0#32
  let v188 : BitVec 1 := Scalar.cmpi .ne v187 c0_i32_90
  let v189 : BitVec 1 := Scalar.andi v186 v188
  let v175 : BitVec 32 := Scalar.divsi v174 c256_i32_85
  let c1_i32_91 : BitVec 32 := 1#32
  let v190 : BitVec 32 := Scalar.subi v175 c1_i32_91
  let v191 : BitVec 32 := Scalar.select v189 v190 v175
  let v194 : BitVec 32 := Scalar.subi v191 c0_i32_94
  let c1_i32_95 : BitVec 32 := 1#32
  let v196 : BitVec 32 := Scalar.divsi v194 c1_i32_95
  let v197 : BitVec 32 := Scalar.muli v196 c1_i32_95
  let v198 : BitVec 32 := Scalar.addi c0_i32_94 v197
  let c1_i32_97 : BitVec 32 := 1#32
  let arg20 : BitVec 32 := Scf.iv v198 c1_i32_97 k0_t3
  let c256_i32_140 : BitVec 32 := 256#32
  let v379 : BitVec 32 := Scalar.muli arg20 c256_i32_140
  v379
def k0_off5 (k0_t1 : Fin k0_t1_loop.trips) (k0_t3 : Fin (k0_t3_loop k0_t1).trips) : Fin 3 → Nat :=
  let c0_141 : Index := 0#32
  let c0_i32_94 : BitVec 32 := 0#32
  let c0_i32 : BitVec 32 := 0#32
  let c1_i32 : BitVec 32 := 1#32
  let arg19 : BitVec 32 := Scf.iv c0_i32 c1_i32 k0_t1
  let c256_i32_84 : BitVec 32 := 256#32
  let v174 : BitVec 32 := Scalar.muli arg19 c256_i32_84
  let c0_i32_86 : BitVec 32 := 0#32
  let v176 : BitVec 1 := Scalar.cmpi .sgt v174 c0_i32_86
  let v177 : BitVec 32 := Scalar.extui v176
  let c0_i32_87 : BitVec 32 := 0#32
  let v178 : BitVec 1 := Scalar.cmpi .slt v174 c0_i32_87
  let v179 : BitVec 32 := Scalar.extui v178
  let v180 : BitVec 32 := Scalar.subi v177 v179
  let c256_i32_85 : BitVec 32 := 256#32
  let c0_i32_88 : BitVec 32 := 0#32
  let v181 : BitVec 1 := Scalar.cmpi .sgt c256_i32_85 c0_i32_88
  let v182 : BitVec 32 := Scalar.extui v181
  let c0_i32_89 : BitVec 32 := 0#32
  let v183 : BitVec 1 := Scalar.cmpi .slt c256_i32_85 c0_i32_89
  let v184 : BitVec 32 := Scalar.extui v183
  let v185 : BitVec 32 := Scalar.subi v182 v184
  let v186 : BitVec 1 := Scalar.cmpi .ne v180 v185
  let v187 : BitVec 32 := Scalar.remsi v174 c256_i32_85
  let c0_i32_90 : BitVec 32 := 0#32
  let v188 : BitVec 1 := Scalar.cmpi .ne v187 c0_i32_90
  let v189 : BitVec 1 := Scalar.andi v186 v188
  let v175 : BitVec 32 := Scalar.divsi v174 c256_i32_85
  let c1_i32_91 : BitVec 32 := 1#32
  let v190 : BitVec 32 := Scalar.subi v175 c1_i32_91
  let v191 : BitVec 32 := Scalar.select v189 v190 v175
  let v194 : BitVec 32 := Scalar.subi v191 c0_i32_94
  let c1_i32_95 : BitVec 32 := 1#32
  let v196 : BitVec 32 := Scalar.divsi v194 c1_i32_95
  let v197 : BitVec 32 := Scalar.muli v196 c1_i32_95
  let v198 : BitVec 32 := Scalar.addi c0_i32_94 v197
  let c1_i32_97 : BitVec 32 := 1#32
  let arg20 : BitVec 32 := Scf.iv v198 c1_i32_97 k0_t3
  let c256_i32_140 : BitVec 32 := 256#32
  let v379 : BitVec 32 := Scalar.muli arg20 c256_i32_140
  let v380 : BitVec 32 := v379
  let v381 : Index := Scalar.indexCast v380
  let c0_142 : Index := 0#32
  ![0, v381.toNat, 0]
def k0_mult4 (k0_t1 : Fin k0_t1_loop.trips) : BitVec 32 :=
  let c0_i32 : BitVec 32 := 0#32
  let c1_i32 : BitVec 32 := 1#32
  let arg19 : BitVec 32 := Scf.iv c0_i32 c1_i32 k0_t1
  let c256_i32_84 : BitVec 32 := 256#32
  let v174 : BitVec 32 := Scalar.muli arg19 c256_i32_84
  let c0_i32_86 : BitVec 32 := 0#32
  let v176 : BitVec 1 := Scalar.cmpi .sgt v174 c0_i32_86
  let v177 : BitVec 32 := Scalar.extui v176
  let c0_i32_87 : BitVec 32 := 0#32
  let v178 : BitVec 1 := Scalar.cmpi .slt v174 c0_i32_87
  let v179 : BitVec 32 := Scalar.extui v178
  let v180 : BitVec 32 := Scalar.subi v177 v179
  let c256_i32_85 : BitVec 32 := 256#32
  let c0_i32_88 : BitVec 32 := 0#32
  let v181 : BitVec 1 := Scalar.cmpi .sgt c256_i32_85 c0_i32_88
  let v182 : BitVec 32 := Scalar.extui v181
  let c0_i32_89 : BitVec 32 := 0#32
  let v183 : BitVec 1 := Scalar.cmpi .slt c256_i32_85 c0_i32_89
  let v184 : BitVec 32 := Scalar.extui v183
  let v185 : BitVec 32 := Scalar.subi v182 v184
  let v186 : BitVec 1 := Scalar.cmpi .ne v180 v185
  let v187 : BitVec 32 := Scalar.remsi v174 c256_i32_85
  let c0_i32_90 : BitVec 32 := 0#32
  let v188 : BitVec 1 := Scalar.cmpi .ne v187 c0_i32_90
  let v189 : BitVec 1 := Scalar.andi v186 v188
  let v175 : BitVec 32 := Scalar.divsi v174 c256_i32_85
  let c1_i32_91 : BitVec 32 := 1#32
  let v190 : BitVec 32 := Scalar.subi v175 c1_i32_91
  let v191 : BitVec 32 := Scalar.select v189 v190 v175
  let c256_i32_98 : BitVec 32 := 256#32
  let v201 : BitVec 32 := Scalar.muli v191 c256_i32_98
  v201
def k0_off6 (k0_t1 : Fin k0_t1_loop.trips) : Fin 3 → Nat :=
  let c0_99 : Index := 0#32
  let c0_i32 : BitVec 32 := 0#32
  let c1_i32 : BitVec 32 := 1#32
  let arg19 : BitVec 32 := Scf.iv c0_i32 c1_i32 k0_t1
  let c256_i32_84 : BitVec 32 := 256#32
  let v174 : BitVec 32 := Scalar.muli arg19 c256_i32_84
  let c0_i32_86 : BitVec 32 := 0#32
  let v176 : BitVec 1 := Scalar.cmpi .sgt v174 c0_i32_86
  let v177 : BitVec 32 := Scalar.extui v176
  let c0_i32_87 : BitVec 32 := 0#32
  let v178 : BitVec 1 := Scalar.cmpi .slt v174 c0_i32_87
  let v179 : BitVec 32 := Scalar.extui v178
  let v180 : BitVec 32 := Scalar.subi v177 v179
  let c256_i32_85 : BitVec 32 := 256#32
  let c0_i32_88 : BitVec 32 := 0#32
  let v181 : BitVec 1 := Scalar.cmpi .sgt c256_i32_85 c0_i32_88
  let v182 : BitVec 32 := Scalar.extui v181
  let c0_i32_89 : BitVec 32 := 0#32
  let v183 : BitVec 1 := Scalar.cmpi .slt c256_i32_85 c0_i32_89
  let v184 : BitVec 32 := Scalar.extui v183
  let v185 : BitVec 32 := Scalar.subi v182 v184
  let v186 : BitVec 1 := Scalar.cmpi .ne v180 v185
  let v187 : BitVec 32 := Scalar.remsi v174 c256_i32_85
  let c0_i32_90 : BitVec 32 := 0#32
  let v188 : BitVec 1 := Scalar.cmpi .ne v187 c0_i32_90
  let v189 : BitVec 1 := Scalar.andi v186 v188
  let v175 : BitVec 32 := Scalar.divsi v174 c256_i32_85
  let c1_i32_91 : BitVec 32 := 1#32
  let v190 : BitVec 32 := Scalar.subi v175 c1_i32_91
  let v191 : BitVec 32 := Scalar.select v189 v190 v175
  let c256_i32_98 : BitVec 32 := 256#32
  let v201 : BitVec 32 := Scalar.muli v191 c256_i32_98
  let v202 : BitVec 32 := v201
  let v203 : Index := Scalar.indexCast v202
  let c0_100 : Index := 0#32
  ![0, v203.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2048x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S2048x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== SbRefIdeal.lean ====
abbrev S2048x4096 : Shape := ⟨2, ![2048, 4096]⟩
abbrev S2048x14336 : Shape := ⟨2, ![2048, 14336]⟩
abbrev S128 : Shape := ⟨1, ![128]⟩
abbrev S2048x9216 : Shape := ⟨2, ![2048, 9216]⟩
abbrev S2048x3072 : Shape := ⟨2, ![2048, 3072]⟩
abbrev S2048x24x128 : Shape := ⟨3, ![2048, 24, 128]⟩
abbrev S_ : Shape := ⟨0, ![]⟩
abbrev S2048x24 : Shape := ⟨2, ![2048, 24]⟩
abbrev S2048x24x1 : Shape := ⟨3, ![2048, 24, 1]⟩
abbrev S1x1x128 : Shape := ⟨3, ![1, 1, 128]⟩
abbrev S24x2048x2048 : Shape := ⟨3, ![24, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S24x128x2048 : Shape := ⟨3, ![24, 128, 2048]⟩
abbrev S24x2048x128 : Shape := ⟨3, ![24, 2048, 128]⟩
abbrev S1x128 : Shape := ⟨2, ![1, 128]⟩

abbrev nBuf : Space → Nat
  | .hbm => 275
  | .vmem => 0
  | .smem => 0
  | _ => 0

abbrev hbmTy0_0 (i : Nat) : BufTy := match i % 128 with
  | 0 => ⟨S2048x4096, .f32⟩
  | 1 => ⟨S2048x14336, .f32⟩
  | 2 => ⟨S128, .f32⟩
  | 3 => ⟨S128, .f32⟩
  | 4 => ⟨S2048x9216, .f32⟩
  | 5 => ⟨S2048x3072, .f32⟩
  | 6 => ⟨S2048x3072, .f32⟩
  | 7 => ⟨S2048x3072, .f32⟩
  | 8 => ⟨S2048x24x128, .f32⟩
  | 9 => ⟨S2048x24x128, .f32⟩
  | 10 => ⟨S2048x24x128, .f32⟩
  | 11 => ⟨S2048x24x128, .f32⟩
  | 12 => ⟨S_, .f32⟩
  | 13 => ⟨S2048x24, .f32⟩
  | 14 => ⟨S2048x24x1, .f32⟩
  | 15 => ⟨S_, .f32⟩
  | 16 => ⟨S2048x24x1, .f32⟩
  | 17 => ⟨S2048x24x1, .f32⟩
  | 18 => ⟨S_, .f32⟩
  | 19 => ⟨S2048x24x1, .f32⟩
  | 20 => ⟨S2048x24x1, .f32⟩
  | 21 => ⟨S2048x24x1, .f32⟩
  | 22 => ⟨S2048x24x1, .f32⟩
  | 23 => ⟨S_, .f32⟩
  | 24 => ⟨S2048x24x1, .f32⟩
  | 25 => ⟨S2048x24x1, .f32⟩
  | 26 => ⟨S2048x24x128, .f32⟩
  | 27 => ⟨S2048x24x128, .f32⟩
  | 28 => ⟨S1x1x128, .f32⟩
  | 29 => ⟨S2048x24x128, .f32⟩
  | 30 => ⟨S2048x24x128, .f32⟩
  | 31 => ⟨S2048x24x128, .f32⟩
  | 32 => ⟨S_, .f32⟩
  | 33 => ⟨S2048x24, .f32⟩
  | 34 => ⟨S2048x24x1, .f32⟩
  | 35 => ⟨S_, .f32⟩
  | 36 => ⟨S2048x24x1, .f32⟩
  | 37 => ⟨S2048x24x1, .f32⟩
  | 38 => ⟨S_, .f32⟩
  | 39 => ⟨S2048x24x1, .f32⟩
  | 40 => ⟨S2048x24x1, .f32⟩
  | 41 => ⟨S2048x24x1, .f32⟩
  | 42 => ⟨S2048x24x1, .f32⟩
  | 43 => ⟨S_, .f32⟩
  | 44 => ⟨S2048x24x1, .f32⟩
  | 45 => ⟨S2048x24x1, .f32⟩
  | 46 => ⟨S2048x24x128, .f32⟩
  | 47 => ⟨S2048x24x128, .f32⟩
  | 48 => ⟨S1x1x128, .f32⟩
  | 49 => ⟨S2048x24x128, .f32⟩
  | 50 => ⟨S2048x24x128, .f32⟩
  | 51 => ⟨S24x2048x2048, .f32⟩
  | 52 => ⟨S_, .f32⟩
  | 53 => ⟨S24x2048x2048, .f32⟩
  | 54 => ⟨S24x2048x2048, .f32⟩
  | 55 => ⟨S2048, .i32⟩
  | 56 => ⟨S1x2048, .i32⟩
  | 57 => ⟨S2048, .i32⟩
  | 58 => ⟨S2048x1, .i32⟩
  | 59 => ⟨S2048x2048, .i32⟩
  | 60 => ⟨S2048x2048, .i32⟩
  | 61 => ⟨S2048x2048, .i1⟩
  | 62 => ⟨S24x2048x2048, .f32⟩
  | 63 => ⟨S24x2048x2048, .f32⟩
  | 64 => ⟨S_, .f32⟩
  | 65 => ⟨S24x2048x2048, .f32⟩
  | 66 => ⟨S24x2048x2048, .f32⟩
  | 67 => ⟨S24x2048x2048, .f32⟩
  | 68 => ⟨S24x2048x2048, .f32⟩
  | 69 => ⟨S24x2048x2048, .i1⟩
  | 70 => ⟨S24x2048x2048, .f32⟩
  | 71 => ⟨S24x2048x2048, .f32⟩
  | 72 => ⟨S24x2048x2048, .f32⟩
  | 73 => ⟨S24x2048x2048, .f32⟩
  | 74 => ⟨S24x2048x2048, .f32⟩
  | 75 => ⟨S24x2048x2048, .f32⟩
  | 76 => ⟨S24x2048x2048, .f32⟩
  | 77 => ⟨S24x2048x2048, .f32⟩
  | 78 => ⟨S_, .f32⟩
  | 79 => ⟨S24x2048x2048, .f32⟩
  | 80 => ⟨S24x2048x2048, .i1⟩
  | 81 => ⟨S_, .f32⟩
  | 82 => ⟨S24x2048x2048, .f32⟩
  | 83 => ⟨S24x2048x2048, .f32⟩
  | 84 => ⟨S_, .f32⟩
  | 85 => ⟨S24x2048x2048, .f32⟩
  | 86 => ⟨S24x2048x2048, .i1⟩
  | 87 => ⟨S_, .f32⟩
  | 88 => ⟨S24x2048x2048, .f32⟩
  | 89 => ⟨S24x2048x2048, .f32⟩
  | 90 => ⟨S24x2048x2048, .f32⟩
  | 91 => ⟨S24x2048x2048, .f32⟩
  | 92 => ⟨S_, .f32⟩
  | 93 => ⟨S_, .f32⟩
  | 94 => ⟨S_, .i1⟩
  | 95 => ⟨S_, .f32⟩
  | 96 => ⟨S_, .f32⟩
  | 97 => ⟨S_, .f32⟩
  | 98 => ⟨S_, .f32⟩
  | 99 => ⟨S24x2048x2048, .f32⟩
  | 100 => ⟨S24x2048x2048, .i1⟩
  | 101 => ⟨S_, .f32⟩
  | 102 => ⟨S24x2048x2048, .f32⟩
  | 103 => ⟨S24x2048x2048, .f32⟩
  | 104 => ⟨S24x2048x2048, .f32⟩
  | 105 => ⟨S24x2048x2048, .f32⟩
  | 106 => ⟨S24x2048x2048, .f32⟩
  | 107 => ⟨S_, .f32⟩
  | 108 => ⟨S24x2048x2048, .f32⟩
  | 109 => ⟨S24x2048x2048, .f32⟩
  | 110 => ⟨S24x2048x2048, .f32⟩
  | 111 => ⟨S_, .f32⟩
  | 112 => ⟨S_, .f32⟩
  | 113 => ⟨S24x2048x2048, .i1⟩
  | 114 => ⟨S24x2048x2048, .f32⟩
  | 115 => ⟨S24x2048x2048, .f32⟩
  | 116 => ⟨S_, .f32⟩
  | 117 => ⟨S24x2048x2048, .f32⟩
  | 118 => ⟨S_, .f32⟩
  | 119 => ⟨S_, .f32⟩
  | 120 => ⟨S24x2048x2048, .f32⟩
  | 121 => ⟨S24x2048x2048, .f32⟩
  | 122 => ⟨S24x2048x2048, .f32⟩
  | 123 => ⟨S_, .f32⟩
  | 124 => ⟨S24x2048x2048, .f32⟩
  | 125 => ⟨S24x2048x2048, .f32⟩
  | 126 => ⟨S24x2048x2048, .f32⟩
  | 127 => ⟨S24x2048x2048, .f32⟩
  | _ => ⟨S2048x4096, .f32⟩

abbrev hbmTy0_1 (i : Nat) : BufTy := match i % 128 with
  | 0 => ⟨S24x2048x2048, .i1⟩
  | 1 => ⟨S24x2048x2048, .f32⟩
  | 2 => ⟨S24x2048x2048, .f32⟩
  | 3 => ⟨S24x2048x2048, .f32⟩
  | 4 => ⟨S24x2048x2048, .f32⟩
  | 5 => ⟨S24x2048x2048, .f32⟩
  | 6 => ⟨S24x2048x2048, .f32⟩
  | 7 => ⟨S24x2048x2048, .f32⟩
  | 8 => ⟨S24x2048x2048, .f32⟩
  | 9 => ⟨S_, .f32⟩
  | 10 => ⟨S24x2048x2048, .f32⟩
  | 11 => ⟨S24x2048x2048, .i1⟩
  | 12 => ⟨S_, .f32⟩
  | 13 => ⟨S24x2048x2048, .f32⟩
  | 14 => ⟨S24x2048x2048, .f32⟩
  | 15 => ⟨S_, .f32⟩
  | 16 => ⟨S24x2048x2048, .f32⟩
  | 17 => ⟨S24x2048x2048, .i1⟩
  | 18 => ⟨S_, .f32⟩
  | 19 => ⟨S24x2048x2048, .f32⟩
  | 20 => ⟨S24x2048x2048, .f32⟩
  | 21 => ⟨S24x2048x2048, .f32⟩
  | 22 => ⟨S24x2048x2048, .f32⟩
  | 23 => ⟨S_, .f32⟩
  | 24 => ⟨S_, .f32⟩
  | 25 => ⟨S_, .i1⟩
  | 26 => ⟨S_, .f32⟩
  | 27 => ⟨S_, .f32⟩
  | 28 => ⟨S_, .f32⟩
  | 29 => ⟨S_, .f32⟩
  | 30 => ⟨S24x2048x2048, .f32⟩
  | 31 => ⟨S24x2048x2048, .i1⟩
  | 32 => ⟨S_, .f32⟩
  | 33 => ⟨S24x2048x2048, .f32⟩
  | 34 => ⟨S24x2048x2048, .f32⟩
  | 35 => ⟨S24x2048x2048, .f32⟩
  | 36 => ⟨S24x2048x2048, .f32⟩
  | 37 => ⟨S24x2048x2048, .f32⟩
  | 38 => ⟨S_, .f32⟩
  | 39 => ⟨S24x2048x2048, .f32⟩
  | 40 => ⟨S24x2048x2048, .f32⟩
  | 41 => ⟨S24x2048x2048, .f32⟩
  | 42 => ⟨S24x2048x2048, .f32⟩
  | 43 => ⟨S24x2048x2048, .f32⟩
  | 44 => ⟨S_, .f32⟩
  | 45 => ⟨S_, .f32⟩
  | 46 => ⟨S24x2048x2048, .i1⟩
  | 47 => ⟨S24x2048x2048, .f32⟩
  | 48 => ⟨S24x2048x2048, .f32⟩
  | 49 => ⟨S_, .f32⟩
  | 50 => ⟨S24x2048x2048, .f32⟩
  | 51 => ⟨S24x128x2048, .f32⟩
  | 52 => ⟨S2048x24x128, .f32⟩
  | 53 => ⟨S2048x3072, .f32⟩
  | 54 => ⟨S2048x3072, .f32⟩
  | 55 => ⟨S2048x24x128, .f32⟩
  | 56 => ⟨S24x128x2048, .f32⟩
  | 57 => ⟨S24x2048x2048, .f32⟩
  | 58 => ⟨S24x128x2048, .f32⟩
  | 59 => ⟨S2048x24x128, .f32⟩
  | 60 => ⟨S_, .f32⟩
  | 61 => ⟨S24x2048x2048, .f32⟩
  | 62 => ⟨S24x2048x2048, .f32⟩
  | 63 => ⟨S24x2048x2048, .f32⟩
  | 64 => ⟨S24x2048x2048, .f32⟩
  | 65 => ⟨S24x2048x2048, .f32⟩
  | 66 => ⟨S24x2048x2048, .f32⟩
  | 67 => ⟨S24x2048x2048, .f32⟩
  | 68 => ⟨S_, .f32⟩
  | 69 => ⟨S_, .f32⟩
  | 70 => ⟨S24x2048x2048, .f32⟩
  | 71 => ⟨S24x2048x2048, .f32⟩
  | 72 => ⟨S_, .f32⟩
  | 73 => ⟨S24x2048x2048, .f32⟩
  | 74 => ⟨S24x2048x2048, .f32⟩
  | 75 => ⟨S24x2048x2048, .f32⟩
  | 76 => ⟨S24x2048x2048, .f32⟩
  | 77 => ⟨S24x2048x2048, .f32⟩
  | 78 => ⟨S24x2048x2048, .f32⟩
  | 79 => ⟨S24x2048x2048, .f32⟩
  | 80 => ⟨S_, .f32⟩
  | 81 => ⟨S24x2048x2048, .f32⟩
  | 82 => ⟨S24x2048x2048, .f32⟩
  | 83 => ⟨S24x2048x128, .f32⟩
  | 84 => ⟨S2048x24x128, .f32⟩
  | 85 => ⟨S24x2048x128, .f32⟩
  | 86 => ⟨S2048x24x128, .f32⟩
  | 87 => ⟨S2048x24x128, .f32⟩
  | 88 => ⟨S_, .f32⟩
  | 89 => ⟨S128, .f32⟩
  | 90 => ⟨S1x1x128, .f32⟩
  | 91 => ⟨S2048x24x128, .f32⟩
  | 92 => ⟨S2048x24x128, .f32⟩
  | 93 => ⟨S_, .f32⟩
  | 94 => ⟨S128, .f32⟩
  | 95 => ⟨S2048x24x128, .f32⟩
  | 96 => ⟨S_, .f32⟩
  | 97 => ⟨S2048x24, .f32⟩
  | 98 => ⟨S2048x24x1, .f32⟩
  | 99 => ⟨S2048x24x128, .f32⟩
  | 100 => ⟨S2048x24x128, .f32⟩
  | 101 => ⟨S2048x24x1, .f32⟩
  | 102 => ⟨S_, .f32⟩
  | 103 => ⟨S2048x24x1, .f32⟩
  | 104 => ⟨S2048x24x1, .f32⟩
  | 105 => ⟨S_, .f32⟩
  | 106 => ⟨S2048x24, .f32⟩
  | 107 => ⟨S2048x24x128, .f32⟩
  | 108 => ⟨S2048x24x128, .f32⟩
  | 109 => ⟨S2048x24x128, .f32⟩
  | 110 => ⟨S2048x24x128, .f32⟩
  | 111 => ⟨S2048x24x128, .f32⟩
  | 112 => ⟨S2048x24x128, .f32⟩
  | 113 => ⟨S_, .f32⟩
  | 114 => ⟨S128, .f32⟩
  | 115 => ⟨S1x1x128, .f32⟩
  | 116 => ⟨S2048x24x128, .f32⟩
  | 117 => ⟨S2048x24x128, .f32⟩
  | 118 => ⟨S_, .f32⟩
  | 119 => ⟨S128, .f32⟩
  | 120 => ⟨S2048x24x128, .f32⟩
  | 121 => ⟨S_, .f32⟩
  | 122 => ⟨S2048x24, .f32⟩
  | 123 => ⟨S2048x24x1, .f32⟩
  | 124 => ⟨S2048x24x128, .f32⟩
  | 125 => ⟨S2048x24x128, .f32⟩
  | 126 => ⟨S2048x24x1, .f32⟩
  | 127 => ⟨S_, .f32⟩
  | _ => ⟨S2048x4096, .f32⟩

abbrev hbmTy0_2 (i : Nat) : BufTy := match i % 128 with
  | 0 => ⟨S2048x24x1, .f32⟩
  | 1 => ⟨S2048x24x1, .f32⟩
  | 2 => ⟨S_, .f32⟩
  | 3 => ⟨S2048x24, .f32⟩
  | 4 => ⟨S2048x24x128, .f32⟩
  | 5 => ⟨S2048x24x128, .f32⟩
  | 6 => ⟨S2048x24x128, .f32⟩
  | 7 => ⟨S2048x24x128, .f32⟩
  | 8 => ⟨S2048x24x128, .f32⟩
  | 9 => ⟨S2048x3072, .f32⟩
  | 10 => ⟨S2048x3072, .f32⟩
  | 11 => ⟨S2048x3072, .f32⟩
  | 12 => ⟨S2048x9216, .f32⟩
  | 13 => ⟨S2048x9216, .bf16⟩
  | 14 => ⟨S2048x3072, .bf16⟩
  | 15 => ⟨S2048x3072, .bf16⟩
  | 16 => ⟨S2048x3072, .bf16⟩
  | 17 => ⟨S1x128, .f32⟩
  | 18 => ⟨S1x128, .f32⟩
  | _ => ⟨S2048x4096, .f32⟩

abbrev hbmTy (i : Nat) : BufTy := match i / 128 with
  | 0 => hbmTy0_0 i
  | 1 => hbmTy0_1 i
  | 2 => hbmTy0_2 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_call0_v0 : Ref sig .tc := ⟨.hbm, 63, rfl⟩
abbrev main_call0_call0_cst : Ref sig .tc := ⟨.hbm, 64, rfl⟩
abbrev main_call0_call0_v0 : Ref sig .tc := ⟨.hbm, 65, rfl⟩
abbrev main_call0_call0_v1 : Ref sig .tc := ⟨.hbm, 66, rfl⟩
abbrev main_call0_call0_v2 : Ref sig .tc := ⟨.hbm, 67, rfl⟩
abbrev main_call0_call0_v3 : Ref sig .tc := ⟨.hbm, 68, rfl⟩
abbrev main_call0_call0_v4 : Ref sig .tc := ⟨.hbm, 69, rfl⟩
abbrev main_call0_call0_v5 : Ref sig .tc := ⟨.hbm, 70, rfl⟩
abbrev main_call0_call0_v6 : Ref sig .tc := ⟨.hbm, 71, rfl⟩
abbrev main_call0_call0_v7 : Ref sig .tc := ⟨.hbm, 72, rfl⟩
abbrev main_call0_call0_v8 : Ref sig .tc := ⟨.hbm, 73, rfl⟩
abbrev main_call0_call0_v9 : Ref sig .tc := ⟨.hbm, 74, rfl⟩
abbrev main_call0_call0_v10 : Ref sig .tc := ⟨.hbm, 75, rfl⟩
abbrev main_call0_call0_v11 : Ref sig .tc := ⟨.hbm, 76, rfl⟩
abbrev main_call0_v1_0 : Ref sig .tc := ⟨.hbm, 77, rfl⟩
abbrev main_call0_call0_cst_0 : Ref sig .tc := ⟨.hbm, 78, rfl⟩
abbrev main_call0_call0_v13 : Ref sig .tc := ⟨.hbm, 79, rfl⟩
abbrev main_call0_call0_v14 : Ref sig .tc := ⟨.hbm, 80, rfl⟩
abbrev main_call0_call0_cst_1 : Ref sig .tc := ⟨.hbm, 81, rfl⟩
abbrev main_call0_call0_v15 : Ref sig .tc := ⟨.hbm, 82, rfl⟩
abbrev main_call0_call0_v16 : Ref sig .tc := ⟨.hbm, 83, rfl⟩
abbrev main_call0_call0_cst_2 : Ref sig .tc := ⟨.hbm, 84, rfl⟩
abbrev main_call0_call0_v17 : Ref sig .tc := ⟨.hbm, 85, rfl⟩
abbrev main_call0_call0_v18 : Ref sig .tc := ⟨.hbm, 86, rfl⟩
abbrev main_call0_call0_cst_3 : Ref sig .tc := ⟨.hbm, 87, rfl⟩
abbrev main_call0_call0_v19 : Ref sig .tc := ⟨.hbm, 88, rfl⟩
abbrev main_call0_call0_v20 : Ref sig .tc := ⟨.hbm, 89, rfl⟩
abbrev main_call0_call0_v21 : Ref sig .tc := ⟨.hbm, 90, rfl⟩
abbrev main_v50_1 : Ref sig .tc := ⟨.hbm, 91, rfl⟩
abbrev main_call0_call0_cst_4 : Ref sig .tc := ⟨.hbm, 92, rfl⟩
abbrev main_call0_call0_cst_5 : Ref sig .tc := ⟨.hbm, 93, rfl⟩
abbrev main_call0_call0_v23 : Ref sig .tc := ⟨.hbm, 94, rfl⟩
abbrev main_call0_call0_cst_6 : Ref sig .tc := ⟨.hbm, 95, rfl⟩
abbrev main_call0_call0_cst_7 : Ref sig .tc := ⟨.hbm, 96, rfl⟩
abbrev main_call0_call0_v24 : Ref sig .tc := ⟨.hbm, 97, rfl⟩
abbrev main_call0_call0_cst_8 : Ref sig .tc := ⟨.hbm, 98, rfl⟩
abbrev main_call0_call0_v25 : Ref sig .tc := ⟨.hbm, 99, rfl⟩
abbrev main_call0_call0_v26 : Ref sig .tc := ⟨.hbm, 100, rfl⟩
abbrev main_call0_call0_cst_9 : Ref sig .tc := ⟨.hbm, 101, rfl⟩
abbrev main_call0_call0_v27 : Ref sig .tc := ⟨.hbm, 102, rfl⟩
abbrev main_call0_call0_v28 : Ref sig .tc := ⟨.hbm, 103, rfl⟩
abbrev main_call0_call0_v29 : Ref sig .tc := ⟨.hbm, 104, rfl⟩
abbrev main_call0_call0_v30 : Ref sig .tc := ⟨.hbm, 105, rfl⟩
abbrev main_call0_call0_v31 : Ref sig .tc := ⟨.hbm, 106, rfl⟩
abbrev main_call0_call0_cst_10 : Ref sig .tc := ⟨.hbm, 107, rfl⟩
abbrev main_call0_call0_v32 : Ref sig .tc := ⟨.hbm, 108, rfl⟩
abbrev main_v50_2 : Ref sig .tc := ⟨.hbm, 109, rfl⟩
abbrev main_v50_0 : Ref sig .tc := ⟨.hbm, 110, rfl⟩
abbrev main_cst_8 : Ref sig .tc := ⟨.hbm, 111, rfl⟩
abbrev main_call1_v0 : Ref sig .tc := ⟨.hbm, 112, rfl⟩
abbrev main_v51_1 : Ref sig .tc := ⟨.hbm, 113, rfl⟩
abbrev main_call1_v2 : Ref sig .tc := ⟨.hbm, 114, rfl⟩
abbrev main_v51_0 : Ref sig .tc := ⟨.hbm, 115, rfl⟩
abbrev main_call1_cst : Ref sig .tc := ⟨.hbm, 116, rfl⟩
abbrev main_v51_2 : Ref sig .tc := ⟨.hbm, 117, rfl⟩
abbrev main_call2_cst : Ref sig .tc := ⟨.hbm, 118, rfl⟩
abbrev main_call2_v0 : Ref sig .tc := ⟨.hbm, 119, rfl⟩
abbrev main_v52 : Ref sig .tc := ⟨.hbm, 120, rfl⟩
abbrev main_v53 : Ref sig .tc := ⟨.hbm, 121, rfl⟩
abbrev main_call3_v0 : Ref sig .tc := ⟨.hbm, 122, rfl⟩
abbrev main_call3_call0_cst : Ref sig .tc := ⟨.hbm, 123, rfl⟩
abbrev main_call3_call0_v0 : Ref sig .tc := ⟨.hbm, 124, rfl⟩
abbrev main_call3_call0_v1 : Ref sig .tc := ⟨.hbm, 125, rfl⟩
abbrev main_call3_call0_v2 : Ref sig .tc := ⟨.hbm, 126, rfl⟩
abbrev main_call3_call0_v3 : Ref sig .tc := ⟨.hbm, 127, rfl⟩
abbrev main_call3_call0_v4 : Ref sig .tc := ⟨.hbm, 128, rfl⟩
abbrev main_call3_call0_v5 : Ref sig .tc := ⟨.hbm, 129, rfl⟩
abbrev main_call3_call0_v6 : Ref sig .tc := ⟨.hbm, 130, rfl⟩
abbrev main_call3_call0_v7 : Ref sig .tc := ⟨.hbm, 131, rfl⟩
abbrev main_call3_call0_v8 : Ref sig .tc := ⟨.hbm, 132, rfl⟩
abbrev main_call3_call0_v9 : Ref sig .tc := ⟨.hbm, 133, rfl⟩
abbrev main_call3_call0_v10 : Ref sig .tc := ⟨.hbm, 134, rfl⟩
abbrev main_call3_call0_v11 : Ref sig .tc := ⟨.hbm, 135, rfl⟩
abbrev main_call3_v1_0 : Ref sig .tc := ⟨.hbm, 136, rfl⟩
abbrev main_call3_call0_cst_0 : Ref sig .tc := ⟨.hbm, 137, rfl⟩
abbrev main_call3_call0_v13 : Ref sig .tc := ⟨.hbm, 138, rfl⟩
abbrev main_call3_call0_v14 : Ref sig .tc := ⟨.hbm, 139, rfl⟩
abbrev main_call3_call0_cst_1 : Ref sig .tc := ⟨.hbm, 140, rfl⟩
abbrev main_call3_call0_v15 : Ref sig .tc := ⟨.hbm, 141, rfl⟩
abbrev main_call3_call0_v16 : Ref sig .tc := ⟨.hbm, 142, rfl⟩
abbrev main_call3_call0_cst_2 : Ref sig .tc := ⟨.hbm, 143, rfl⟩
abbrev main_call3_call0_v17 : Ref sig .tc := ⟨.hbm, 144, rfl⟩
abbrev main_call3_call0_v18 : Ref sig .tc := ⟨.hbm, 145, rfl⟩
abbrev main_call3_call0_cst_3 : Ref sig .tc := ⟨.hbm, 146, rfl⟩
abbrev main_call3_call0_v19 : Ref sig .tc := ⟨.hbm, 147, rfl⟩
abbrev main_call3_call0_v20 : Ref sig .tc := ⟨.hbm, 148, rfl⟩
abbrev main_call3_call0_v21 : Ref sig .tc := ⟨.hbm, 149, rfl⟩
abbrev main_v54_1 : Ref sig .tc := ⟨.hbm, 150, rfl⟩
abbrev main_call3_call0_cst_4 : Ref sig .tc := ⟨.hbm, 151, rfl⟩
abbrev main_call3_call0_cst_5 : Ref sig .tc := ⟨.hbm, 152, rfl⟩
abbrev main_call3_call0_v23 : Ref sig .tc := ⟨.hbm, 153, rfl⟩
abbrev main_call3_call0_cst_6 : Ref sig .tc := ⟨.hbm, 154, rfl⟩
abbrev main_call3_call0_cst_7 : Ref sig .tc := ⟨.hbm, 155, rfl⟩
abbrev main_call3_call0_v24 : Ref sig .tc := ⟨.hbm, 156, rfl⟩
abbrev main_call3_call0_cst_8 : Ref sig .tc := ⟨.hbm, 157, rfl⟩
abbrev main_call3_call0_v25 : Ref sig .tc := ⟨.hbm, 158, rfl⟩
abbrev main_call3_call0_v26 : Ref sig .tc := ⟨.hbm, 159, rfl⟩
abbrev main_call3_call0_cst_9 : Ref sig .tc := ⟨.hbm, 160, rfl⟩
abbrev main_call3_call0_v27 : Ref sig .tc := ⟨.hbm, 161, rfl⟩
abbrev main_call3_call0_v28 : Ref sig .tc := ⟨.hbm, 162, rfl⟩
abbrev main_call3_call0_v29 : Ref sig .tc := ⟨.hbm, 163, rfl⟩
abbrev main_call3_call0_v30 : Ref sig .tc := ⟨.hbm, 164, rfl⟩
abbrev main_call3_call0_v31 : Ref sig .tc := ⟨.hbm, 165, rfl⟩
abbrev main_call3_call0_cst_10 : Ref sig .tc := ⟨.hbm, 166, rfl⟩
abbrev main_call3_call0_v32 : Ref sig .tc := ⟨.hbm, 167, rfl⟩
abbrev main_v54_2 : Ref sig .tc := ⟨.hbm, 168, rfl⟩
abbrev main_v54_0 : Ref sig .tc := ⟨.hbm, 169, rfl⟩
abbrev main_v55 : Ref sig .tc := ⟨.hbm, 170, rfl⟩
abbrev main_v56 : Ref sig .tc := ⟨.hbm, 171, rfl⟩
abbrev main_cst_9 : Ref sig .tc := ⟨.hbm, 172, rfl⟩
abbrev main_call4_v0 : Ref sig .tc := ⟨.hbm, 173, rfl⟩
abbrev main_v57_1 : Ref sig .tc := ⟨.hbm, 174, rfl⟩
abbrev main_call4_v2 : Ref sig .tc := ⟨.hbm, 175, rfl⟩
abbrev main_v57_0 : Ref sig .tc := ⟨.hbm, 176, rfl⟩
abbrev main_call4_cst : Ref sig .tc := ⟨.hbm, 177, rfl⟩
abbrev main_v57_2 : Ref sig .tc := ⟨.hbm, 178, rfl⟩
abbrev main_v58 : Ref sig .tc := ⟨.hbm, 179, rfl⟩
abbrev main_v59 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_call5_cst : Ref sig .tc := ⟨.hbm, 188, rfl⟩
abbrev main_call5_v0 : Ref sig .tc := ⟨.hbm, 189, rfl⟩
abbrev main_v67 : Ref sig .tc := ⟨.hbm, 190, rfl⟩
abbrev main_v68 : Ref sig .tc := ⟨.hbm, 191, rfl⟩
abbrev main_call6_v0 : Ref sig .tc := ⟨.hbm, 192, rfl⟩
abbrev main_call6_v1 : Ref sig .tc := ⟨.hbm, 193, rfl⟩
abbrev main_v69 : Ref sig .tc := ⟨.hbm, 194, rfl⟩
abbrev main_v70 : Ref sig .tc := ⟨.hbm, 195, rfl⟩
abbrev main_call7_cst : Ref sig .tc := ⟨.hbm, 196, rfl⟩
abbrev main_call7_v0 : Ref sig .tc := ⟨.hbm, 197, rfl⟩
abbrev main_v71 : Ref sig .tc := ⟨.hbm, 198, rfl⟩
abbrev main_v72 : Ref sig .tc := ⟨.hbm, 199, rfl⟩
abbrev main_call8_cst : Ref sig .tc := ⟨.hbm, 200, rfl⟩
abbrev main_call8_v0 : Ref sig .tc := ⟨.hbm, 201, rfl⟩
abbrev main_v73 : Ref sig .tc := ⟨.hbm, 202, rfl⟩
abbrev main_call9_v0 : Ref sig .tc := ⟨.hbm, 203, rfl⟩
abbrev main_call9_v1 : Ref sig .tc := ⟨.hbm, 204, rfl⟩
abbrev main_v74 : Ref sig .tc := ⟨.hbm, 205, rfl⟩
abbrev main_v75 : Ref sig .tc := ⟨.hbm, 206, rfl⟩
abbrev main_v76 : Ref sig .tc := ⟨.hbm, 207, rfl⟩
abbrev main_cst_10 : Ref sig .tc := ⟨.hbm, 208, rfl⟩
abbrev main_v77 : Ref sig .tc := ⟨.hbm, 209, rfl⟩
abbrev main_v78 : Ref sig .tc := ⟨.hbm, 210, rfl⟩
abbrev main_v79 : Ref sig .tc := ⟨.hbm, 211, rfl⟩
abbrev main_v80 : Ref sig .tc := ⟨.hbm, 212, rfl⟩
abbrev main_v81 : Ref sig .tc := ⟨.hbm, 213, rfl⟩
abbrev main_v82 : Ref sig .tc := ⟨.hbm, 214, rfl⟩
abbrev main_v83 : Ref sig .tc := ⟨.hbm, 215, rfl⟩
abbrev main_cst_11 : Ref sig .tc := ⟨.hbm, 216, rfl⟩
abbrev main_v84 : Ref sig .tc := ⟨.hbm, 217, rfl⟩
abbrev main_v85 : Ref sig .tc := ⟨.hbm, 218, rfl⟩
abbrev main_v86 : Ref sig .tc := ⟨.hbm, 219, rfl⟩
abbrev main_v87 : Ref sig .tc := ⟨.hbm, 220, rfl⟩
abbrev main_cst_12 : Ref sig .tc := ⟨.hbm, 221, rfl⟩
abbrev main_v88 : Ref sig .tc := ⟨.hbm, 222, rfl⟩
abbrev main_v89 : Ref sig .tc := ⟨.hbm, 223, rfl⟩
abbrev main_cst_13 : Ref sig .tc := ⟨.hbm, 224, rfl⟩
abbrev main_v90 : Ref sig .tc := ⟨.hbm, 225, rfl⟩
abbrev main_v91 : Ref sig .tc := ⟨.hbm, 226, rfl⟩
abbrev main_v92 : Ref sig .tc := ⟨.hbm, 227, rfl⟩
abbrev main_v93 : Ref sig .tc := ⟨.hbm, 228, rfl⟩
abbrev main_v94 : Ref sig .tc := ⟨.hbm, 229, rfl⟩
abbrev main_cst_14 : Ref sig .tc := ⟨.hbm, 230, rfl⟩
abbrev main_v95 : Ref sig .tc := ⟨.hbm, 231, rfl⟩
abbrev main_v96 : Ref sig .tc := ⟨.hbm, 232, rfl⟩
abbrev main_cst_15 : Ref sig .tc := ⟨.hbm, 233, rfl⟩
abbrev main_v97 : Ref sig .tc := ⟨.hbm, 234, rfl⟩
abbrev main_v98 : Ref sig .tc := ⟨.hbm, 235, rfl⟩
abbrev main_v99 : Ref sig .tc := ⟨.hbm, 236, rfl⟩
abbrev main_v100 : Ref sig .tc := ⟨.hbm, 237, rfl⟩
abbrev main_v101 : Ref sig .tc := ⟨.hbm, 238, rfl⟩
abbrev main_v102 : Ref sig .tc := ⟨.hbm, 239, rfl⟩
abbrev main_v103 : Ref sig .tc := ⟨.hbm, 240, rfl⟩
abbrev main_cst_16 : Ref sig .tc := ⟨.hbm, 241, rfl⟩
abbrev main_v104 : Ref sig .tc := ⟨.hbm, 242, rfl⟩
abbrev main_v105 : Ref sig .tc := ⟨.hbm, 243, rfl⟩
abbrev main_v106 : Ref sig .tc := ⟨.hbm, 244, rfl⟩
abbrev main_v107 : Ref sig .tc := ⟨.hbm, 245, rfl⟩
abbrev main_cst_17 : Ref sig .tc := ⟨.hbm, 246, rfl⟩
abbrev main_v108 : Ref sig .tc := ⟨.hbm, 247, rfl⟩
abbrev main_v109 : Ref sig .tc := ⟨.hbm, 248, rfl⟩
abbrev main_cst_18 : Ref sig .tc := ⟨.hbm, 249, rfl⟩
abbrev main_v110 : Ref sig .tc := ⟨.hbm, 250, rfl⟩
abbrev main_v111 : Ref sig .tc := ⟨.hbm, 251, rfl⟩
abbrev main_v112 : Ref sig .tc := ⟨.hbm, 252, rfl⟩
abbrev main_v113 : Ref sig .tc := ⟨.hbm, 253, rfl⟩
abbrev main_v114 : Ref sig .tc := ⟨.hbm, 254, rfl⟩
abbrev main_cst_19 : Ref sig .tc := ⟨.hbm, 255, rfl⟩
abbrev main_v115 : Ref sig .tc := ⟨.hbm, 256, rfl⟩
abbrev main_v116 : Ref sig .tc := ⟨.hbm, 257, rfl⟩
abbrev main_cst_20 : Ref sig .tc := ⟨.hbm, 258, rfl⟩
abbrev main_v117 : Ref sig .tc := ⟨.hbm, 259, rfl⟩
abbrev main_v118 : Ref sig .tc := ⟨.hbm, 260, rfl⟩
abbrev main_v119 : Ref sig .tc := ⟨.hbm, 261, rfl⟩
abbrev main_v120 : Ref sig .tc := ⟨.hbm, 262, rfl⟩
abbrev main_v121 : Ref sig .tc := ⟨.hbm, 263, rfl⟩
abbrev main_v122 : Ref sig .tc := ⟨.hbm, 264, rfl⟩
abbrev main_v123 : Ref sig .tc := ⟨.hbm, 265, rfl⟩
abbrev main_v124 : Ref sig .tc := ⟨.hbm, 266, rfl⟩
abbrev main_v125 : Ref sig .tc := ⟨.hbm, 267, rfl⟩
abbrev main_v126 : Ref sig .tc := ⟨.hbm, 268, rfl⟩
abbrev main_v127 : Ref sig .tc := ⟨.hbm, 269, rfl⟩
abbrev main_v128 : Ref sig .tc := ⟨.hbm, 270, rfl⟩
abbrev main_v129 : Ref sig .tc := ⟨.hbm, 271, rfl⟩
abbrev main_v130 : Ref sig .tc := ⟨.hbm, 272, rfl⟩
abbrev main_v131 : Ref sig .tc := ⟨.hbm, 273, rfl⟩
abbrev main_v132 : Ref sig .tc := ⟨.hbm, 274, rfl⟩

abbrev nD : Nat := 1
abbrev τ : Topo := Topo.v7x

variable {F : FTy → Type} [FloatOps F]
-- ==== Win.lean ====
abbrev S2048x2048 : Shape := ⟨2, ![2048, 2048]⟩
abbrev S2048x3072 : Shape := ⟨2, ![2048, 3072]⟩
abbrev S2048x1024 : Shape := ⟨2, ![2048, 1024]⟩
abbrev S2048x4096 : Shape := ⟨2, ![2048, 4096]⟩
abbrev S4x2x1024x3584 : Shape := ⟨4, ![4, 2, 1024, 3584]⟩
abbrev S2048x512 : Shape := ⟨2, ![2048, 512]⟩
abbrev S1x1x1024x512 : Shape := ⟨4, ![1, 1, 1024, 512]⟩
abbrev S1024x512 : Shape := ⟨2, ![1024, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .bf16⟩
  | .hbm, ⟨2, _⟩ => ⟨S2048x3072, .bf16⟩
  | .hbm, ⟨3, _⟩ => ⟨S2048x3072, .bf16⟩
  | .hbm, ⟨4, _⟩ => ⟨S2048x1024, .bf16⟩
  | .hbm, ⟨5, _⟩ => ⟨S2048x4096, .bf16⟩
  | .hbm, ⟨6, _⟩ => ⟨S4x2x1024x3584, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S1x1x1024x512, .bf16⟩
  | .local _ .vmem, ⟨13, _⟩ => ⟨S1x1x1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 28], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c6_i32 : BitVec 32 := 6#32
  let v1 : BitVec 1 := Scalar.cmpi .slt arg1 c6_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c6_i32_1 : BitVec 32 := 6#32
  let v5 : BitVec 1 := Scalar.cmpi .sge arg1 c6_i32_1
  let c12_i32 : BitVec 32 := 12#32
  let v6 : BitVec 1 := Scalar.cmpi .slt arg1 c12_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg1 : BitVec 32 := BitVec.ofNat 32 (i 1).val
  let c12_i32_3 : BitVec 32 := 12#32
  let v10 : BitVec 1 := Scalar.cmpi .sge arg1 c12_i32_3
  let c18_i32 : BitVec 32 := 18#32
  let v11 : BitVec 1 := Scalar.cmpi .slt arg1 c18_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg1 : BitVec 32 := BitVec.ofNat 32 (i 1).val
  let c18_i32_5 : BitVec 32 := 18#32
  let v15 : BitVec 1 := Scalar.cmpi .sge arg1 c18_i32_5
  let c20_i32 : BitVec 32 := 20#32
  let v16 : BitVec 1 := Scalar.cmpi .slt arg1 c20_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg1 : BitVec 32 := BitVec.ofNat 32 (i 1).val
  let c20_i32_7 : BitVec 32 := 20#32
  let v20 : BitVec 1 := Scalar.cmpi .sge arg1 c20_i32_7
  let c28_i32 : BitVec 32 := 28#32
  let v21 : BitVec 1 := Scalar.cmpi .slt arg1 c28_i32
  let v22 : BitVec 1 := Scalar.andi v20 v21
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c5_i32 : BitVec 32 := 5#32
  let v1 : BitVec 32 := Scalar.maxsi c0_i32_0 v0
  let v2 : BitVec 32 := Scalar.minsi c5_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.subi arg1 c18_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.subi arg1 c20_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_6 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, c0_i32_10.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== WinRefIdeal.lean ====
abbrev S2048x2048 : Shape := ⟨2, ![2048, 2048]⟩
abbrev S2048x3072 : Shape := ⟨2, ![2048, 3072]⟩
abbrev S2048x1024 : Shape := ⟨2, ![2048, 1024]⟩
abbrev S2048x4096 : Shape := ⟨2, ![2048, 4096]⟩
abbrev S2048x14336 : Shape := ⟨2, ![2048, 14336]⟩
abbrev S14336x2048 : Shape := ⟨2, ![14336, 2048]⟩
abbrev S2x1024x4x3584 : Shape := ⟨4, ![2, 1024, 4, 3584]⟩
abbrev S4x2x1024x3584 : Shape := ⟨4, ![4, 2, 1024, 3584]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x3072, .bf16⟩
  | .hbm, ⟨2, _⟩ => ⟨S2048x3072, .bf16⟩
  | .hbm, ⟨3, _⟩ => ⟨S2048x3072, .bf16⟩
  | .hbm, ⟨4, _⟩ => ⟨S2048x1024, .bf16⟩
  | .hbm, ⟨5, _⟩ => ⟨S2048x4096, .bf16⟩
  | .hbm, ⟨6, _⟩ => ⟨S2048x2048, .f32⟩
  | .hbm, ⟨7, _⟩ => ⟨S2048x14336, .bf16⟩
  | .hbm, ⟨8, _⟩ => ⟨S2048x14336, .f32⟩
  | .hbm, ⟨9, _⟩ => ⟨S14336x2048, .f32⟩
  | .hbm, ⟨10, _⟩ => ⟨S2048x14336, .f32⟩
  | .hbm, ⟨11, _⟩ => ⟨S2x1024x4x3584, .f32⟩
  | .hbm, ⟨12, _⟩ => ⟨S4x2x1024x3584, .f32⟩
  | .hbm, ⟨13, _⟩ => ⟨S4x2x1024x3584, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Dh.lean ====
abbrev S2048x3072 : Shape := ⟨2, ![2048, 3072]⟩
abbrev S2048x1024 : Shape := ⟨2, ![2048, 1024]⟩
abbrev S2048x4096 : Shape := ⟨2, ![2048, 4096]⟩
abbrev S4x2x1024x3584 : Shape := ⟨4, ![4, 2, 1024, 3584]⟩
abbrev S2048x2048 : Shape := ⟨2, ![2048, 2048]⟩
abbrev S1024x512 : Shape := ⟨2, ![1024, 512]⟩
abbrev S1x1x1024x512 : Shape := ⟨4, ![1, 1, 1024, 512]⟩
abbrev S1024x1024 : Shape := ⟨2, ![1024, 1024]⟩

abbrev nBuf : Space → Nat
  | .hbm => 7
  | .vmem => 15
  | .smem => 0
  | _ => 0

abbrev bufTy : (tb : Table) → Fin (tcTables nBuf tb) → BufTy
  | .hbm, ⟨0, _⟩ => ⟨S2048x3072, .bf16⟩
  | .hbm, ⟨1, _⟩ => ⟨S2048x3072, .bf16⟩
  | .hbm, ⟨2, _⟩ => ⟨S2048x3072, .bf16⟩
  | .hbm, ⟨3, _⟩ => ⟨S2048x1024, .bf16⟩
  | .hbm, ⟨4, _⟩ => ⟨S2048x4096, .bf16⟩
  | .hbm, ⟨5, _⟩ => ⟨S4x2x1024x3584, .bf16⟩
  | .hbm, ⟨6, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1x1x1024x512, .bf16⟩
  | .local _ .vmem, ⟨11, _⟩ => ⟨S1x1x1024x512, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 2, 28], ![false, false, false]⟩

def k0_cond7 (i : grid0.Coords) : BitVec 1 :=
  let arg2 : BitVec 32 := BitVec.ofNat 32 (i 2).val
  let c27_i32 : BitVec 32 := 27#32
  let v28 : BitVec 1 := Scalar.cmpi .eq arg2 c27_i32
  let v29 : BitVec 32 := Scalar.extui v28
  let c0_i32_11 : BitVec 32 := 0#32
  let v30 : BitVec 1 := Scalar.cmpi .ne v29 c0_i32_11
  v30

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c5_i32 : BitVec 32 := 5#32
  let v1 : BitVec 32 := Scalar.maxsi c0_i32_0 v0
  let v2 : BitVec 32 := Scalar.minsi c5_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.subi arg2 c12_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.subi arg2 c18_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.subi arg2 c20_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  ![arg0.toNat, v2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.divsi arg2 c7_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg2 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, c0_i32_10.toNat, v26.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== DhRefIdeal.lean ====
abbrev S2048x3072 : Shape := ⟨2, ![2048, 3072]⟩
abbrev S2048x1024 : Shape := ⟨2, ![2048, 1024]⟩
abbrev S2048x4096 : Shape := ⟨2, ![2048, 4096]⟩
abbrev S4x2x1024x3584 : Shape := ⟨4, ![4, 2, 1024, 3584]⟩
abbrev S2x1024x4x3584 : Shape := ⟨4, ![2, 1024, 4, 3584]⟩
abbrev S2048x14336 : Shape := ⟨2, ![2048, 14336]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x3072, .bf16⟩
  | .hbm, ⟨2, _⟩ => ⟨S2048x3072, .bf16⟩
  | .hbm, ⟨3, _⟩ => ⟨S2048x1024, .bf16⟩
  | .hbm, ⟨4, _⟩ => ⟨S2048x4096, .bf16⟩
  | .hbm, ⟨5, _⟩ => ⟨S4x2x1024x3584, .bf16⟩
  | .hbm, ⟨6, _⟩ => ⟨S2x1024x4x3584, .bf16⟩
  | .hbm, ⟨7, _⟩ => ⟨S2048x14336, .bf16⟩
  | .hbm, ⟨8, _⟩ => ⟨S2048x14336, .f32⟩
  | .hbm, ⟨9, _⟩ => ⟨S2048x14336, .bf16⟩
  | .hbm, ⟨10, _⟩ => ⟨S2048x14336, .f32⟩
  | .hbm, ⟨11, _⟩ => ⟨S2048x2048, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== WinDn.lean ====
abbrev S2048x2048 : Shape := ⟨2, ![2048, 2048]⟩
abbrev S2048x1536 : Shape := ⟨2, ![2048, 1536]⟩
abbrev S2048x3072 : Shape := ⟨2, ![2048, 3072]⟩
abbrev S2048x1024 : Shape := ⟨2, ![2048, 1024]⟩
abbrev S2048x4096 : Shape := ⟨2, ![2048, 4096]⟩
abbrev S2048x512 : Shape := ⟨2, ![2048, 512]⟩
abbrev S2048x11776 : Shape := ⟨2, ![2048, 11776]⟩
abbrev S1024x512 : Shape := ⟨2, ![1024, 512]⟩

abbrev nBuf : Space → Nat
  | .hbm => 8
  | .vmem => 16
  | .smem => 0
  | _ => 0

abbrev bufTy : (tb : Table) → Fin (tcTables nBuf tb) → BufTy
  | .hbm, ⟨0, _⟩ => ⟨S2048x2048, .bf16⟩
  | .hbm, ⟨1, _⟩ => ⟨S2048x1536, .bf16⟩
  | .hbm, ⟨2, _⟩ => ⟨S2048x1536, .bf16⟩
  | .hbm, ⟨3, _⟩ => ⟨S2048x3072, .bf16⟩
  | .hbm, ⟨4, _⟩ => ⟨S2048x1024, .bf16⟩
  | .hbm, ⟨5, _⟩ => ⟨S2048x4096, .bf16⟩
  | .hbm, ⟨6, _⟩ => ⟨S2048x512, .bf16⟩
  | .hbm, ⟨7, _⟩ => ⟨S2048x11776, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S1024x512, .bf16⟩
  | .local _ .vmem, ⟨15, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 23], ![false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c3_i32 : BitVec 32 := 3#32
  let v1 : BitVec 1 := Scalar.cmpi .slt arg1 c3_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c3_i32_1 : BitVec 32 := 3#32
  let v5 : BitVec 1 := Scalar.cmpi .sge arg1 c3_i32_1
  let c6_i32 : BitVec 32 := 6#32
  let v6 : BitVec 1 := Scalar.cmpi .slt arg1 c6_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg1 : BitVec 32 := BitVec.ofNat 32 (i 1).val
  let c6_i32_3 : BitVec 32 := 6#32
  let v10 : BitVec 1 := Scalar.cmpi .sge arg1 c6_i32_3
  let c12_i32 : BitVec 32 := 12#32
  let v11 : BitVec 1 := Scalar.cmpi .slt arg1 c12_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg1 : BitVec 32 := BitVec.ofNat 32 (i 1).val
  let c12_i32_5 : BitVec 32 := 12#32
  let v15 : BitVec 1 := Scalar.cmpi .sge arg1 c12_i32_5
  let c14_i32 : BitVec 32 := 14#32
  let v16 : BitVec 1 := Scalar.cmpi .slt arg1 c14_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg1 : BitVec 32 := BitVec.ofNat 32 (i 1).val
  let c14_i32_7 : BitVec 32 := 14#32
  let v20 : BitVec 1 := Scalar.cmpi .sge arg1 c14_i32_7
  let c22_i32 : BitVec 32 := 22#32
  let v21 : BitVec 1 := Scalar.cmpi .slt arg1 c22_i32
  let v22 : BitVec 1 := Scalar.andi v20 v21
  let v23 : BitVec 32 := Scalar.extui v22
  let c0_i32_8 : BitVec 32 := 0#32
  let v24 : BitVec 1 := Scalar.cmpi .ne v23 c0_i32_8
  v24

def k0_cond6 (i : grid0.Coords) : BitVec 1 :=
  let arg1 : BitVec 32 := BitVec.ofNat 32 (i 1).val
  let c22_i32_9 : BitVec 32 := 22#32
  let v25 : BitVec 1 := Scalar.cmpi .sge arg1 c22_i32_9
  let c23_i32 : BitVec 32 := 23#32
  let v26 : BitVec 1 := Scalar.cmpi .slt arg1 c23_i32
  let v27 : BitVec 1 := Scalar.andi v25 v26
  let v28 : BitVec 32 := Scalar.extui v27
  let c0_i32_10 : BitVec 32 := 0#32
  let v29 : BitVec 1 := Scalar.cmpi .ne v28 c0_i32_10
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi arg1 c14_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.subi arg1 c22_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== WinDnRefIdeal.lean ====
abbrev S2048x2048 : Shape := ⟨2, ![2048, 2048]⟩
abbrev S2048x1536 : Shape := ⟨2, ![2048, 1536]⟩
abbrev S2048x3072 : Shape := ⟨2, ![2048, 3072]⟩
abbrev S2048x1024 : Shape := ⟨2, ![2048, 1024]⟩
abbrev S2048x4096 : Shape := ⟨2, ![2048, 4096]⟩
abbrev S2048x512 : Shape := ⟨2, ![2048, 512]⟩
abbrev S2048x11776 : Shape := ⟨2, ![2048, 11776]⟩
abbrev S11776x2048 : Shape := ⟨2, ![11776, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1536, .bf16⟩
  | .hbm, ⟨2, _⟩ => ⟨S2048x1536, .bf16⟩
  | .hbm, ⟨3, _⟩ => ⟨S2048x3072, .bf16⟩
  | .hbm, ⟨4, _⟩ => ⟨S2048x1024, .bf16⟩
  | .hbm, ⟨5, _⟩ => ⟨S2048x4096, .bf16⟩
  | .hbm, ⟨6, _⟩ => ⟨S2048x512, .bf16⟩
  | .hbm, ⟨7, _⟩ => ⟨S2048x2048, .f32⟩
  | .hbm, ⟨8, _⟩ => ⟨S2048x11776, .bf16⟩
  | .hbm, ⟨9, _⟩ => ⟨S2048x11776, .f32⟩
  | .hbm, ⟨10, _⟩ => ⟨S11776x2048, .f32⟩
  | .hbm, ⟨11, _⟩ => ⟨S2048x11776, .f32⟩
  | .hbm, ⟨12, _⟩ => ⟨S2048x11776, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== DhDn.lean ====
abbrev S2048x1536 : Shape := ⟨2, ![2048, 1536]⟩
abbrev S2048x3072 : Shape := ⟨2, ![2048, 3072]⟩
abbrev S2048x1024 : Shape := ⟨2, ![2048, 1024]⟩
abbrev S2048x4096 : Shape := ⟨2, ![2048, 4096]⟩
abbrev S2048x512 : Shape := ⟨2, ![2048, 512]⟩
abbrev S2048x11776 : Shape := ⟨2, ![2048, 11776]⟩
abbrev S2048x2048 : Shape := ⟨2, ![2048, 2048]⟩
abbrev S1024x512 : Shape := ⟨2, ![1024, 512]⟩
abbrev S1024x1024 : Shape := ⟨2, ![1024, 1024]⟩

abbrev nBuf : Space → Nat
  | .hbm => 8
  | .vmem => 17
  | .smem => 0
  | _ => 0

abbrev bufTy : (tb : Table) → Fin (tcTables nBuf tb) → BufTy
  | .hbm, ⟨0, _⟩ => ⟨S2048x1536, .bf16⟩
  | .hbm, ⟨1, _⟩ => ⟨S2048x1536, .bf16⟩
  | .hbm, ⟨2, _⟩ => ⟨S2048x3072, .bf16⟩
  | .hbm, ⟨3, _⟩ => ⟨S2048x1024, .bf16⟩
  | .hbm, ⟨4, _⟩ => ⟨S2048x4096, .bf16⟩
  | .hbm, ⟨5, _⟩ => ⟨S2048x512, .bf16⟩
  | .hbm, ⟨6, _⟩ => ⟨S2048x11776, .bf16⟩
  | .hbm, ⟨7, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 2, 23], ![false, false, false]⟩

def k0_cond8 (i : grid0.Coords) : BitVec 1 :=
  let arg2 : BitVec 32 := BitVec.ofNat 32 (i 2).val
  let c22_i32_13 : BitVec 32 := 22#32
  let v33 : BitVec 1 := Scalar.cmpi .eq arg2 c22_i32_13
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.subi arg2 c12_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.subi arg2 c14_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.subi arg2 c22_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== DhDnRefIdeal.lean ====
abbrev S2048x1536 : Shape := ⟨2, ![2048, 1536]⟩
abbrev S2048x3072 : Shape := ⟨2, ![2048, 3072]⟩
abbrev S2048x1024 : Shape := ⟨2, ![2048, 1024]⟩
abbrev S2048x4096 : Shape := ⟨2, ![2048, 4096]⟩
abbrev S2048x512 : Shape := ⟨2, ![2048, 512]⟩
abbrev S2048x11776 : Shape := ⟨2, ![2048, 11776]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S2048x1536, .bf16⟩
  | .hbm, ⟨2, _⟩ => ⟨S2048x3072, .bf16⟩
  | .hbm, ⟨3, _⟩ => ⟨S2048x1024, .bf16⟩
  | .hbm, ⟨4, _⟩ => ⟨S2048x4096, .bf16⟩
  | .hbm, ⟨5, _⟩ => ⟨S2048x512, .bf16⟩
  | .hbm, ⟨6, _⟩ => ⟨S2048x11776, .bf16⟩
  | .hbm, ⟨7, _⟩ => ⟨S2048x11776, .f32⟩
  | .hbm, ⟨8, _⟩ => ⟨S2048x11776, .bf16⟩
  | .hbm, ⟨9, _⟩ => ⟨S2048x11776, .f32⟩
  | .hbm, ⟨10, _⟩ => ⟨S2048x2048, .f32⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩

abbrev nD : Nat := 1
abbrev τ : Topo := Topo.v7x

variable {F : FTy → Type} [FloatOps F]
-- ==== Proj.lean ====
abbrev S2048x2048 : Shape := ⟨2, ![2048, 2048]⟩
abbrev S4x2x1024x3584 : Shape := ⟨4, ![4, 2, 1024, 3584]⟩
abbrev S2048x14336 : Shape := ⟨2, ![2048, 14336]⟩
abbrev S1024x2048 : Shape := ⟨2, ![1024, 2048]⟩
abbrev S1x2x1024x512 : Shape := ⟨4, ![1, 2, 1024, 512]⟩
abbrev S1024x512 : Shape := ⟨2, ![1024, 512]⟩
abbrev S2x1024x512 : Shape := ⟨3, ![2, 1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2x1024x3584, .bf16⟩
  | .hbm, ⟨2, _⟩ => ⟨S2048x14336, .f32⟩
  | .local _ .vmem, ⟨0, _⟩ => ⟨S1024x2048, .bf16⟩
  | .local _ .vmem, ⟨1, _⟩ => ⟨S1024x2048, .bf16⟩
  | .local _ .vmem, ⟨2, _⟩ => ⟨S1x2x1024x512, .bf16⟩
  | .local _ .vmem, ⟨3, _⟩ => ⟨S1x2x1024x512, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 28], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S2048x2048 : Shape := ⟨2, ![2048, 2048]⟩
abbrev S4x2x1024x3584 : Shape := ⟨4, ![4, 2, 1024, 3584]⟩
abbrev S2x1024x4x3584 : Shape := ⟨4, ![2, 1024, 4, 3584]⟩
abbrev S2048x14336 : Shape := ⟨2, ![2048, 14336]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2x1024x3584, .bf16⟩
  | .hbm, ⟨2, _⟩ => ⟨S2048x2048, .f32⟩
  | .hbm, ⟨3, _⟩ => ⟨S2x1024x4x3584, .bf16⟩
  | .hbm, ⟨4, _⟩ => ⟨S2048x14336, .bf16⟩
  | .hbm, ⟨5, _⟩ => ⟨S2048x14336, .f32⟩
  | .hbm, ⟨6, _⟩ => ⟨S2048x14336, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjDn.lean ====
abbrev S2048x2048 : Shape := ⟨2, ![2048, 2048]⟩
abbrev S2048x11776 : Shape := ⟨2, ![2048, 11776]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11776, .bf16⟩
  | .hbm, ⟨2, _⟩ => ⟨S2048x11776, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 23], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjDnRefIdeal.lean ====
abbrev S2048x2048 : Shape := ⟨2, ![2048, 2048]⟩
abbrev S2048x11776 : Shape := ⟨2, ![2048, 11776]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11776, .bf16⟩
  | .hbm, ⟨2, _⟩ => ⟨S2048x2048, .f32⟩
  | .hbm, ⟨3, _⟩ => ⟨S2048x11776, .f32⟩
  | .hbm, ⟨4, _⟩ => ⟨S2048x11776, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Wout.lean ====
abbrev S2048x4096 : Shape := ⟨2, ![2048, 4096]⟩
abbrev S2048x2048 : Shape := ⟨2, ![2048, 2048]⟩
abbrev S4x1024x2048 : Shape := ⟨3, ![4, 1024, 2048]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S4x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WoutRefIdeal.lean ====
abbrev S2048x4096 : Shape := ⟨2, ![2048, 4096]⟩
abbrev S2048x2048 : Shape := ⟨2, ![2048, 2048]⟩
abbrev S4096x2048 : Shape := ⟨2, ![4096, 2048]⟩
abbrev S4x1024x2048 : Shape := ⟨3, ![4, 1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x2048, .bf16⟩
  | .hbm, ⟨2, _⟩ => ⟨S2048x4096, .f32⟩
  | .hbm, ⟨3, _⟩ => ⟨S2048x2048, .f32⟩
  | .hbm, ⟨4, _⟩ => ⟨S2048x4096, .f32⟩
  | .hbm, ⟨5, _⟩ => ⟨S4096x2048, .f32⟩
  | .hbm, ⟨6, _⟩ => ⟨S4x1024x2048, .f32⟩
  | .hbm, ⟨7, _⟩ => ⟨S4x1024x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Dy.lean ====
abbrev S2048x2048 : Shape := ⟨2, ![2048, 2048]⟩
abbrev S4x2x1024x2048 : Shape := ⟨4, ![4, 2, 1024, 2048]⟩
abbrev S2048x4096 : Shape := ⟨2, ![2048, 4096]⟩
abbrev S1024x2048 : Shape := ⟨2, ![1024, 2048]⟩
abbrev S1x1x512x2048 : Shape := ⟨4, ![1, 1, 512, 2048]⟩
abbrev S1024x512 : Shape := ⟨2, ![1024, 512]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2x1024x2048, .bf16⟩
  | .hbm, ⟨2, _⟩ => ⟨S2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  let c0_i32_12 : BitVec 32 := 0#32
  ![v16.toNat, c1_i32_10.toNat, v26.toNat, c0_i32_11.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DyRefIdeal.lean ====
abbrev S2048x2048 : Shape := ⟨2, ![2048, 2048]⟩
abbrev S4x2x1024x2048 : Shape := ⟨4, ![4, 2, 1024, 2048]⟩
abbrev S4x1x1024x2048 : Shape := ⟨4, ![4, 1, 1024, 2048]⟩
abbrev S4x1024x2048 : Shape := ⟨3, ![4, 1024, 2048]⟩
abbrev S4096x2048 : Shape := ⟨2, ![4096, 2048]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2x1024x2048, .bf16⟩
  | .hbm, ⟨2, _⟩ => ⟨S4x1x1024x2048, .bf16⟩
  | .hbm, ⟨3, _⟩ => ⟨S4x1024x2048, .bf16⟩
  | .hbm, ⟨4, _⟩ => ⟨S4096x2048, .bf16⟩
  | .hbm, ⟨5, _⟩ => ⟨S4096x2048, .f32⟩
  | .hbm, ⟨6, _⟩ => ⟨S2048x2048, .f32⟩
  | .hbm, ⟨7, _⟩ => ⟨S2048x4096, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DyDn.lean ====
abbrev S2048x2048 : Shape := ⟨2, ![2048, 2048]⟩
abbrev S4x2x1024x2048 : Shape := ⟨4, ![4, 2, 1024, 2048]⟩
abbrev S2048x4096 : Shape := ⟨2, ![2048, 4096]⟩
abbrev S1024x2048 : Shape := ⟨2, ![1024, 2048]⟩
abbrev S1x1x512x2048 : Shape := ⟨4, ![1, 1, 512, 2048]⟩
abbrev S1024x512 : Shape := ⟨2, ![1024, 512]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2x1024x2048, .bf16⟩
  | .hbm, ⟨2, _⟩ => ⟨S2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DyDnRefIdeal.lean ====
abbrev S2048x2048 : Shape := ⟨2, ![2048, 2048]⟩
abbrev S4x2x1024x2048 : Shape := ⟨4, ![4, 2, 1024, 2048]⟩
abbrev S4x1x1024x2048 : Shape := ⟨4, ![4, 1, 1024, 2048]⟩
abbrev S4x1024x2048 : Shape := ⟨3, ![4, 1024, 2048]⟩
abbrev S4096x2048 : Shape := ⟨2, ![4096, 2048]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2x1024x2048, .bf16⟩
  | .hbm, ⟨2, _⟩ => ⟨S4x1x1024x2048, .bf16⟩
  | .hbm, ⟨3, _⟩ => ⟨S4x1024x2048, .bf16⟩
  | .hbm, ⟨4, _⟩ => ⟨S4096x2048, .bf16⟩
  | .hbm, ⟨5, _⟩ => ⟨S4096x2048, .f32⟩
  | .hbm, ⟨6, _⟩ => ⟨S2048x2048, .f32⟩
  | .hbm, ⟨7, _⟩ => ⟨S2048x4096, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Out.lean ====
abbrev S2048x4096 : Shape := ⟨2, ![2048, 4096]⟩
abbrev S4x2x1024x2048 : Shape := ⟨4, ![4, 2, 1024, 2048]⟩
abbrev S2048x2048 : Shape := ⟨2, ![2048, 2048]⟩
abbrev S512x4096 : Shape := ⟨2, ![512, 4096]⟩
abbrev S4x1x1024x512 : Shape := ⟨4, ![4, 1, 1024, 512]⟩
abbrev S512x512 : Shape := ⟨2, ![512, 512]⟩
abbrev S4x1024x512 : Shape := ⟨3, ![4, 1024, 512]⟩
abbrev S4096x512 : Shape := ⟨2, ![4096, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x4096, .bf16⟩
  | .hbm, ⟨1, _⟩ => ⟨S4x2x1024x2048, .bf16⟩
  | .hbm, ⟨2, _⟩ => ⟨S2048x2048, .f32⟩
  | .hbm, ⟨3, _⟩ => ⟨S2048x2048, .f32⟩
  | .local _ .vmem, ⟨0, _⟩ => ⟨S512x4096, .bf16⟩
  | .local _ .vmem, ⟨1, _⟩ => ⟨S512x4096, .bf16⟩
  | .local _ .vmem, ⟨2, _⟩ => ⟨S4x1x1024x512, .bf16⟩
  | .local _ .vmem, ⟨3, _⟩ => ⟨S4x1x1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S2048x4096 : Shape := ⟨2, ![2048, 4096]⟩
abbrev S4x2x1024x2048 : Shape := ⟨4, ![4, 2, 1024, 2048]⟩
abbrev S2048x2048 : Shape := ⟨2, ![2048, 2048]⟩
abbrev S4x1x1024x2048 : Shape := ⟨4, ![4, 1, 1024, 2048]⟩
abbrev S4x1024x2048 : Shape := ⟨3, ![4, 1024, 2048]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4x2x1024x2048, .bf16⟩
  | .hbm, ⟨2, _⟩ => ⟨S2048x2048, .f32⟩
  | .hbm, ⟨3, _⟩ => ⟨S2048x4096, .f32⟩
  | .hbm, ⟨4, _⟩ => ⟨S4x1x1024x2048, .bf16⟩
  | .hbm, ⟨5, _⟩ => ⟨S4x1024x2048, .bf16⟩
  | .hbm, ⟨6, _⟩ => ⟨S4096x2048, .bf16⟩
  | .hbm, ⟨7, _⟩ => ⟨S4096x2048, .f32⟩
  | .hbm, ⟨8, _⟩ => ⟨S2048x2048, .f32⟩
  | .hbm, ⟨9, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDn.lean ====
abbrev S2048x4096 : Shape := ⟨2, ![2048, 4096]⟩
abbrev S4x2x1024x2048 : Shape := ⟨4, ![4, 2, 1024, 2048]⟩
abbrev S2048x2048 : Shape := ⟨2, ![2048, 2048]⟩
abbrev S512x4096 : Shape := ⟨2, ![512, 4096]⟩
abbrev S4x1x1024x512 : Shape := ⟨4, ![4, 1, 1024, 512]⟩
abbrev S512x512 : Shape := ⟨2, ![512, 512]⟩
abbrev S4x1024x512 : Shape := ⟨3, ![4, 1024, 512]⟩
abbrev S4096x512 : Shape := ⟨2, ![4096, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x4096, .bf16⟩
  | .hbm, ⟨1, _⟩ => ⟨S4x2x1024x2048, .bf16⟩
  | .hbm, ⟨2, _⟩ => ⟨S2048x2048, .f32⟩
  | .hbm, ⟨3, _⟩ => ⟨S2048x2048, .f32⟩
  | .local _ .vmem, ⟨0, _⟩ => ⟨S512x4096, .bf16⟩
  | .local _ .vmem, ⟨1, _⟩ => ⟨S512x4096, .bf16⟩
  | .local _ .vmem, ⟨2, _⟩ => ⟨S4x1x1024x512, .bf16⟩
  | .local _ .vmem, ⟨3, _⟩ => ⟨S4x1x1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutDnRefIdeal.lean ====
abbrev S2048x4096 : Shape := ⟨2, ![2048, 4096]⟩
abbrev S4x2x1024x2048 : Shape := ⟨4, ![4, 2, 1024, 2048]⟩
abbrev S2048x2048 : Shape := ⟨2, ![2048, 2048]⟩
abbrev S4x1x1024x2048 : Shape := ⟨4, ![4, 1, 1024, 2048]⟩
abbrev S4x1024x2048 : Shape := ⟨3, ![4, 1024, 2048]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4x2x1024x2048, .bf16⟩
  | .hbm, ⟨2, _⟩ => ⟨S2048x2048, .f32⟩
  | .hbm, ⟨3, _⟩ => ⟨S2048x4096, .f32⟩
  | .hbm, ⟨4, _⟩ => ⟨S4x1x1024x2048, .bf16⟩
  | .hbm, ⟨5, _⟩ => ⟨S4x1024x2048, .bf16⟩
  | .hbm, ⟨6, _⟩ => ⟨S4096x2048, .bf16⟩
  | .hbm, ⟨7, _⟩ => ⟨S4096x2048, .f32⟩
  | .hbm, ⟨8, _⟩ => ⟨S2048x2048, .f32⟩
  | .hbm, ⟨9, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Norm.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .bf16⟩
  | .hbm, ⟨51, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Gate.lean ====
abbrev S2048x4096 : Shape := ⟨2, ![2048, 4096]⟩
abbrev S2048x3072 : Shape := ⟨2, ![2048, 3072]⟩
abbrev S2048x1024 : Shape := ⟨2, ![2048, 1024]⟩
abbrev S2048x14336 : Shape := ⟨2, ![2048, 14336]⟩
abbrev S256x1024 : Shape := ⟨2, ![256, 1024]⟩

abbrev nBuf : Space → Nat
  | .hbm => 6
  | .vmem => 12
  | .smem => 0
  | _ => 0

abbrev bufTy : (tb : Table) → Fin (tcTables nBuf tb) → BufTy
  | .hbm, ⟨0, _⟩ => ⟨S2048x4096, .f32⟩
  | .hbm, ⟨1, _⟩ => ⟨S2048x3072, .f32⟩
  | .hbm, ⟨2, _⟩ => ⟨S2048x1024, .f32⟩
  | .hbm, ⟨3, _⟩ => ⟨S2048x14336, .f32⟩
  | .hbm, ⟨4, _⟩ => ⟨S2048x4096, .f32⟩
  | .hbm, ⟨5, _⟩ => ⟨S2048x4096, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateRefIdeal.lean ====
abbrev S2048x4096 : Shape := ⟨2, ![2048, 4096]⟩
abbrev S2048x3072 : Shape := ⟨2, ![2048, 3072]⟩
abbrev S2048x1024 : Shape := ⟨2, ![2048, 1024]⟩
abbrev S2048x14336 : Shape := ⟨2, ![2048, 14336]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x3072, .f32⟩
  | .hbm, ⟨2, _⟩ => ⟨S2048x1024, .f32⟩
  | .hbm, ⟨3, _⟩ => ⟨S2048x14336, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x4096, .f32⟩
  | .hbm, ⟨18, _⟩ => ⟨S2048x4096, .f32⟩
  | .hbm, ⟨19, _⟩ => ⟨S2048x4096, .f32⟩
  | .hbm, ⟨20, _⟩ => ⟨S2048x4096, .f32⟩
  | .hbm, ⟨21, _⟩ => ⟨S2048x4096, .f32⟩
  | .hbm, ⟨22, _⟩ => ⟨S2048x4096, .f32⟩
  | .hbm, ⟨23, _⟩ => ⟨S2048x4096, .f32⟩
  | .hbm, ⟨24, _⟩ => ⟨S2048x4096, .f32⟩
  | .hbm, ⟨25, _⟩ => ⟨S2048x4096, .f32⟩
  | .hbm, ⟨26, _⟩ => ⟨S2048x3072, .f32⟩
  | .hbm, ⟨27, _⟩ => ⟨S2048x1024, .f32⟩
  | .hbm, ⟨28, _⟩ => ⟨S2048x4096, .f32⟩
  | .hbm, ⟨29, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Wkv.lean ====
abbrev S256x2048 : Shape := ⟨2, ![256, 2048]⟩
abbrev S4x512x2048 : Shape := ⟨3, ![4, 512, 2048]⟩
abbrev S256x512 : Shape := ⟨2, ![256, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S4x512x2048, .bf16⟩
  | .local _ .vmem, ⟨0, _⟩ => ⟨S256x512, .bf16⟩
  | .local _ .vmem, ⟨1, _⟩ => ⟨S256x512, .bf16⟩
  | .local _ .vmem, ⟨2, _⟩ => ⟨S256x512, .f32⟩
  | .local _ .vmem, ⟨3, _⟩ => ⟨S256x512, .f32⟩
  | .local _ .vmem, ⟨4, _⟩ => ⟨S1x512x512, .bf16⟩
  | .local _ .vmem, ⟨5, _⟩ => ⟨S1x512x512, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WkvRefIdeal.lean ====
abbrev S256x2048 : Shape := ⟨2, ![256, 2048]⟩
abbrev S2048x2048 : Shape := ⟨2, ![2048, 2048]⟩
abbrev S4x512x2048 : Shape := ⟨3, ![4, 512, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S256x2048, .f32⟩
  | .hbm, ⟨3, _⟩ => ⟨S2048x2048, .f32⟩
  | .hbm, ⟨4, _⟩ => ⟨S2048x2048, .f32⟩
  | .hbm, ⟨5, _⟩ => ⟨S4x512x2048, .f32⟩
  | .hbm, ⟨6, _⟩ => ⟨S4x512x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kv.lean ====
abbrev S256x2048 : Shape := ⟨2, ![256, 2048]⟩
abbrev S4x2x512x2048 : Shape := ⟨4, ![4, 2, 512, 2048]⟩
abbrev S4x1x512x512 : Shape := ⟨4, ![4, 1, 512, 512]⟩
abbrev S256x512 : Shape := ⟨2, ![256, 512]⟩
abbrev S4x512x512 : Shape := ⟨3, ![4, 512, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S4x2x512x2048, .bf16⟩
  | .hbm, ⟨2, _⟩ => ⟨S256x2048, .f32⟩
  | .local _ .vmem, ⟨0, _⟩ => ⟨S256x2048, .bf16⟩
  | .local _ .vmem, ⟨1, _⟩ => ⟨S4x1x512x512, .bf16⟩
  | .local _ .vmem, ⟨2, _⟩ => ⟨S4x1x512x512, .bf16⟩
  | .local _ .vmem, ⟨3, _⟩ => ⟨S256x512, .f32⟩
  | .local _ .vmem, ⟨4, _⟩ => ⟨S256x512, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvRefIdeal.lean ====
abbrev S256x2048 : Shape := ⟨2, ![256, 2048]⟩
abbrev S4x2x512x2048 : Shape := ⟨4, ![4, 2, 512, 2048]⟩
abbrev S4x1x512x2048 : Shape := ⟨4, ![4, 1, 512, 2048]⟩
abbrev S4x512x2048 : Shape := ⟨3, ![4, 512, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S4x2x512x2048, .bf16⟩
  | .hbm, ⟨2, _⟩ => ⟨S256x2048, .f32⟩
  | .hbm, ⟨3, _⟩ => ⟨S4x1x512x2048, .bf16⟩
  | .hbm, ⟨4, _⟩ => ⟨S4x512x2048, .bf16⟩
  | .hbm, ⟨5, _⟩ => ⟨S2048x2048, .bf16⟩
  | .hbm, ⟨6, _⟩ => ⟨S2048x2048, .f32⟩
  | .hbm, ⟨7, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KvDn.lean ====
abbrev S256x2048 : Shape := ⟨2, ![256, 2048]⟩
abbrev S4x2x512x2048 : Shape := ⟨4, ![4, 2, 512, 2048]⟩
abbrev S4x1x512x512 : Shape := ⟨4, ![4, 1, 512, 512]⟩
abbrev S256x512 : Shape := ⟨2, ![256, 512]⟩
abbrev S4x512x512 : Shape := ⟨3, ![4, 512, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S4x2x512x2048, .bf16⟩
  | .hbm, ⟨2, _⟩ => ⟨S256x2048, .f32⟩
  | .local _ .vmem, ⟨0, _⟩ => ⟨S256x2048, .bf16⟩
  | .local _ .vmem, ⟨1, _⟩ => ⟨S4x1x512x512, .bf16⟩
  | .local _ .vmem, ⟨2, _⟩ => ⟨S4x1x512x512, .bf16⟩
  | .local _ .vmem, ⟨3, _⟩ => ⟨S256x512, .f32⟩
  | .local _ .vmem, ⟨4, _⟩ => ⟨S256x512, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvDnRefIdeal.lean ====
abbrev S256x2048 : Shape := ⟨2, ![256, 2048]⟩
abbrev S4x2x512x2048 : Shape := ⟨4, ![4, 2, 512, 2048]⟩
abbrev S4x1x512x2048 : Shape := ⟨4, ![4, 1, 512, 2048]⟩
abbrev S4x512x2048 : Shape := ⟨3, ![4, 512, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S4x2x512x2048, .bf16⟩
  | .hbm, ⟨2, _⟩ => ⟨S256x2048, .f32⟩
  | .hbm, ⟨3, _⟩ => ⟨S4x1x512x2048, .bf16⟩
  | .hbm, ⟨4, _⟩ => ⟨S4x512x2048, .bf16⟩
  | .hbm, ⟨5, _⟩ => ⟨S2048x2048, .bf16⟩
  | .hbm, ⟨6, _⟩ => ⟨S2048x2048, .f32⟩
  | .hbm, ⟨7, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Dmem.lean ====
abbrev S256x2048 : Shape := ⟨2, ![256, 2048]⟩
abbrev S4x2x512x2048 : Shape := ⟨4, ![4, 2, 512, 2048]⟩
abbrev S1x1x512x2048 : Shape := ⟨4, ![1, 1, 512, 2048]⟩
abbrev S256x512 : Shape := ⟨2, ![256, 512]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S4x2x512x2048, .bf16⟩
  | .hbm, ⟨2, _⟩ => ⟨S256x2048, .f32⟩
  | .hbm, ⟨3, _⟩ => ⟨S256x2048, .f32⟩
  | .local _ .vmem, ⟨0, _⟩ => ⟨S256x2048, .f32⟩
  | .local _ .vmem, ⟨1, _⟩ => ⟨S1x1x512x2048, .bf16⟩
  | .local _ .vmem, ⟨2, _⟩ => ⟨S1x1x512x2048, .bf16⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DmemRefIdeal.lean ====
abbrev S256x2048 : Shape := ⟨2, ![256, 2048]⟩
abbrev S4x2x512x2048 : Shape := ⟨4, ![4, 2, 512, 2048]⟩
abbrev S4x1x512x2048 : Shape := ⟨4, ![4, 1, 512, 2048]⟩
abbrev S4x512x2048 : Shape := ⟨3, ![4, 512, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S4x2x512x2048, .bf16⟩
  | .hbm, ⟨2, _⟩ => ⟨S256x2048, .f32⟩
  | .hbm, ⟨3, _⟩ => ⟨S4x1x512x2048, .bf16⟩
  | .hbm, ⟨4, _⟩ => ⟨S4x512x2048, .bf16⟩
  | .hbm, ⟨5, _⟩ => ⟨S2048x2048, .bf16⟩
  | .hbm, ⟨6, _⟩ => ⟨S2048x2048, .f32⟩
  | .hbm, ⟨7, _⟩ => ⟨S256x2048, .f32⟩
  | .hbm, ⟨8, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DmemDn.lean ====
abbrev S256x2048 : Shape := ⟨2, ![256, 2048]⟩
abbrev S4x2x512x2048 : Shape := ⟨4, ![4, 2, 512, 2048]⟩
abbrev S1x1x512x2048 : Shape := ⟨4, ![1, 1, 512, 2048]⟩
abbrev S256x512 : Shape := ⟨2, ![256, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S4x2x512x2048, .bf16⟩
  | .hbm, ⟨2, _⟩ => ⟨S256x2048, .f32⟩
  | .local _ .vmem, ⟨0, _⟩ => ⟨S256x2048, .f32⟩
  | .local _ .vmem, ⟨1, _⟩ => ⟨S1x1x512x2048, .bf16⟩
  | .local _ .vmem, ⟨2, _⟩ => ⟨S1x1x512x2048, .bf16⟩
  | .local _ .vmem, ⟨3, _⟩ => ⟨S256x512, .f32⟩
  | .local _ .vmem, ⟨4, _⟩ => ⟨S256x512, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DmemDnRefIdeal.lean ====
abbrev S256x2048 : Shape := ⟨2, ![256, 2048]⟩
abbrev S4x2x512x2048 : Shape := ⟨4, ![4, 2, 512, 2048]⟩
abbrev S4x1x512x2048 : Shape := ⟨4, ![4, 1, 512, 2048]⟩
abbrev S4x512x2048 : Shape := ⟨3, ![4, 512, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S4x2x512x2048, .bf16⟩
  | .hbm, ⟨2, _⟩ => ⟨S4x1x512x2048, .bf16⟩
  | .hbm, ⟨3, _⟩ => ⟨S4x512x2048, .bf16⟩
  | .hbm, ⟨4, _⟩ => ⟨S2048x2048, .bf16⟩
  | .hbm, ⟨5, _⟩ => ⟨S2048x2048, .f32⟩
  | .hbm, ⟨6, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.RealVal.lean ====
/- Extended-real values that are reals: the float constants of the programs as real numbers, and the operations of
   the programs on coerced reals. -/
module

public import Idealize.ShloMosaic.Lib.Pointwise
public import Idealize.ShloMosaic.Lib.IdealHost

@[expose] public section

set_option maxRecDepth 16384

noncomputable section

namespace RealVal

open Idealize.ShloMosaic

/-- The small number added under the root of every root mean square. -/
def eps : ℝ := 8796093 / 2 ^ 43

theorem eps_pos : 0 < eps := by unfold eps; positivity

theorem bits_eps : Ideal.ofBits .f32 0x358637BD#32 = ((eps : ℝ) : EReal) := by
  unfold eps; simp [Ideal.ofBits, Ideal.ieee, -EReal.coe_mul]; norm_num

theorem bits_256 : Ideal.ofBits .f32 0x43800000#32 = ((256 : ℝ) : EReal) := by
  simp [Ideal.ofBits, Ideal.ieee, -EReal.coe_mul]; norm_num

theorem bits_sixteenth : Ideal.ofBits .f32 0x3D800000#32 = ((1 / 16 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul, -EReal.coe_neg]; norm_num

theorem bits_bot : Ideal.ofBits .f32 0xFF800000#32 = (⊥ : EReal) := by
  simp [Ideal.ofBits, Ideal.ieee]

theorem bits_top : Ideal.ofBits .f32 0x7F800000#32 = (⊤ : EReal) := by
  simp [Ideal.ofBits, Ideal.ieee]

/-- A sum of coerced reals is the coerced sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A quotient of coerced reals, the divisor not zero. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- The maximum of finitely many reals, from minus infinity, is a real. -/
theorem fold_max {n : ℕ} (hn : 0 < n) (f : Fin n → ℝ) :
    ∃ M : ℝ, Finset.univ.fold max (⊥ : EReal) (fun k => ((f k : ℝ) : EReal)) = (M : EReal) := by
  have hne : (Finset.univ : Finset (Fin n)).Nonempty := ⟨⟨0, hn⟩, Finset.mem_univ _⟩
  refine ⟨Finset.univ.sup' hne f, ?_⟩
  have h1 : Finset.univ.fold max (⊥ : EReal) (fun k => ((f k : ℝ) : EReal)) = Finset.univ.sup (fun k => ((f k : ℝ) : EReal)) := rfl
  rw [h1]
  apply le_antisymm
  · exact Finset.sup_le fun k hk => EReal.coe_le_coe_iff.mpr (Finset.le_sup' f hk)
  · obtain ⟨k, hk, e⟩ := Finset.exists_mem_eq_sup' hne f
    rw [e]
    exact Finset.le_sup (f := fun k => ((f k : ℝ) : EReal)) hk

/-- A finite extended real, said by its absolute value, is a real. -/
theorem real_of_abs {x : EReal} (h : max x (-x) < ⊤) : ∃ r : ℝ, x = (r : EReal) := by
  induction x using EReal.rec with
  | bot => simp at h
  | coe r => exact ⟨r, rfl⟩
  | top => simp at h

end RealVal

end
-- ==== Proof.XaReal.lean ====
/- The gradient of the memory attention over the reals: the terms both programs are read as. -/
module

public import proofs.«01_k».proof.Proof.RealVal

@[expose] public section

noncomputable section

namespace XaReal

open RealVal

/-- The reciprocal root mean square of a row of 256. -/
def rr (x : Fin 256 → ℝ) : ℝ := (Real.sqrt ((∑ k, x k * x k) / 256 + eps))⁻¹

/-- A row divided by its root mean square. -/
def hat (x : Fin 256 → ℝ) (d : Fin 256) : ℝ := x d * rr x

/-- A normalised row times its gain. -/
def nrm (x g : Fin 256 → ℝ) (d : Fin 256) : ℝ := hat x d * g d

/-- The score of a query row and a memory row. -/
def sc (q k gq gk : Fin 256 → ℝ) : ℝ := (∑ d, nrm q gq d * nrm k gk d) * (1 / 16)

/-- The softmax of a row of scores. -/
def soft (s : Fin 256 → ℝ) (m : Fin 256) : ℝ := Real.exp (s m) / ∑ k, Real.exp (s k)

/-- The gradient of the scaled scores from the gradient `e` of the softmax weights `p`. -/
def dsc (p e : Fin 256 → ℝ) (m : Fin 256) : ℝ := p m * (e m - ∑ k, e k * p k) * (1 / 16)

/-- The gradient of a row through its normalisation and gain. -/
def dnrm (x g u : Fin 256 → ℝ) (d : Fin 256) : ℝ :=
  rr x * (u d * g d - hat x d * ((∑ k, u k * g k * hat x k) / 256))

theorem ms_pos (x : Fin 256 → ℝ) : 0 < (∑ k, x k * x k) / 256 + eps := by
  have h : 0 ≤ ∑ k, x k * x k := Finset.sum_nonneg fun k _ => mul_self_nonneg _
  have := eps_pos
  positivity

theorem rr_pos (x : Fin 256 → ℝ) : 0 < rr x := inv_pos.mpr (Real.sqrt_pos.mpr (ms_pos x))

theorem rr_sq (x : Fin 256 → ℝ) : rr x * rr x = ((∑ k, x k * x k) / 256 + eps)⁻¹ := by
  unfold rr
  rw [← mul_inv, Real.mul_self_sqrt (ms_pos x).le]

theorem rsqrt_ms (x : Fin 256 → ℝ) :
    Idealize.ShloMosaic.Ideal.rsqrt (((∑ k, x k * x k) / 256 + eps : ℝ) : EReal) = ((rr x : ℝ) : EReal) := by
  rw [Idealize.ShloMosaic.Ideal.rsqrt_coe, if_neg (not_lt.mpr (ms_pos x).le), if_neg (ms_pos x).ne']
  rfl

theorem sum_exp_pos (s : Fin 256 → ℝ) : 0 < ∑ k, Real.exp (s k) :=
  Finset.sum_pos (fun k _ => Real.exp_pos _) ⟨0, Finset.mem_univ _⟩

/-- Subtracting one number from every score leaves the softmax. -/
theorem soft_shift (s : Fin 256 → ℝ) (M : ℝ) (m : Fin 256) :
    Real.exp (s m - M) / ∑ k, Real.exp (s k - M) = soft s m := by
  unfold soft
  simp only [Real.exp_sub, ← Finset.sum_div]
  have h1 := Real.exp_pos M
  have h2 := sum_exp_pos s
  field_simp

end XaReal

end
-- ==== Proof.XaKernel.lean ====
/- What one grid point of the memory attention's gradient computes, over the reals. -/
module

public import proofs.«01_k».proof.Proof.XaReal
public import proofs.«01_k».proof.Proof.Gen.XaIdeal.Skeleton

@[expose] public section

set_option maxRecDepth 16384

noncomputable section

namespace XaKernel

open Idealize.ShloMosaic RealVal XaReal Cert.XaIdeal Cert.XaIdeal.Gen

section
variable (Q : Fin 512 → Fin 256 → ℝ) (K : Fin 256 → Fin 256 → ℝ)

theorem pay6 (v : Vec Ideal S512x256 .f32) (h : ∀ t d, v (ix2 t d) = ((Q t d : ℝ) : EReal)) (t : Fin 512) (u : Fin 1) :
    k0_pay6 v (ix2 t u) = ((rr (Q t) : ℝ) : EReal) := by
  pointwise [k0_pay6]
  simp only [h, ← EReal.coe_mul, coe_sum, bits_256, bits_eps]
  rw [div_coe _ _ (by norm_num), ← EReal.coe_add, rsqrt_ms]

theorem pay8 (v : Vec Ideal S256x256 .f32) (h : ∀ t d, v (ix2 t d) = ((K t d : ℝ) : EReal)) (t : Fin 256) (u : Fin 1) :
    k0_pay8 v (ix2 t u) = ((rr (K t) : ℝ) : EReal) := by
  pointwise [k0_pay8]
  simp only [h, ← EReal.coe_mul, coe_sum, bits_256, bits_eps]
  rw [div_coe _ _ (by norm_num), ← EReal.coe_add, rsqrt_ms]

theorem pay7 (v : Vec Ideal S512x256 .f32) (h : ∀ t d, v (ix2 t d) = ((Q t d : ℝ) : EReal)) (t : Fin 512) (d : Fin 256) :
    k0_pay7 v (ix2 t d) = ((hat (Q t) d : ℝ) : EReal) := by
  pointwise [k0_pay7]
  rw [pay6 Q v h, h, ← EReal.coe_mul]; rfl

theorem pay9 (v : Vec Ideal S256x256 .f32) (h : ∀ t d, v (ix2 t d) = ((K t d : ℝ) : EReal)) (t : Fin 256) (d : Fin 256) :
    k0_pay9 v (ix2 t d) = ((hat (K t) d : ℝ) : EReal) := by
  pointwise [k0_pay9]
  rw [pay8 K v h, h, ← EReal.coe_mul]; rfl

theorem pay10 (v : Vec Ideal S1x256 .f32) : k0_pay10 v = v := by funext i; pointwise [k0_pay10]
theorem pay11 (v : Vec Ideal S1x256 .f32) : k0_pay11 v = v := by funext i; pointwise [k0_pay11]

end

section
variable (D Q : Fin 512 → Fin 256 → ℝ) (K V : Fin 256 → Fin 256 → ℝ) (gq gk : Fin 256 → ℝ)
  (x0 x1 : Vec Ideal S512x256 .f32) (x2 x3 : Vec Ideal S256x256 .f32) (x4 x5 : Vec Ideal S1x256 .f32)
  (h0 : ∀ t d, x0 (ix2 t d) = ((D t d : ℝ) : EReal)) (h1 : ∀ t d, x1 (ix2 t d) = ((Q t d : ℝ) : EReal))
  (h2 : ∀ t d, x2 (ix2 t d) = ((K t d : ℝ) : EReal)) (h3 : ∀ t d, x3 (ix2 t d) = ((V t d : ℝ) : EReal))
  (h4 : ∀ u d, x4 (ix2 u d) = ((gq d : ℝ) : EReal)) (h5 : ∀ u d, x5 (ix2 u d) = ((gk d : ℝ) : EReal))

include h1 h4 in
theorem pay12 (t : Fin 512) (d : Fin 256) : k0_pay12 x1 x4 (ix2 t d) = ((nrm (Q t) gq d : ℝ) : EReal) := by
  pointwise [k0_pay12]
  rw [pay7 Q x1 h1, pay10, h4, ← EReal.coe_mul]; rfl

include h2 h5 in
theorem pay13 (t : Fin 256) (d : Fin 256) : k0_pay13 x2 x5 (ix2 t d) = ((nrm (K t) gk d : ℝ) : EReal) := by
  pointwise [k0_pay13]
  rw [pay9 K x2 h2, pay11, h5, ← EReal.coe_mul]; rfl

/-- The score of query `t` and memory row `m`. -/
abbrev S (t : Fin 512) (m : Fin 256) : ℝ := sc (Q t) (K m) gq gk

include h1 h2 h4 h5 in
theorem pay14 : ∃ M : Fin 512 → ℝ, ∀ t m, k0_pay14 x1 x2 x4 x5 (ix2 t m) = ((Real.exp (S Q K gq gk t m - M t) : ℝ) : EReal) := by
  choose M hM using fun t : Fin 512 => fold_max (by norm_num : 0 < 256) (fun m => S Q K gq gk t m)
  refine ⟨M, fun t m => ?_⟩
  have hs : ∀ m : Fin 256, (∑ k : Fin 256, k0_pay12 x1 x4 (ix2 t k) * k0_pay13 x2 x5 (ix2 m k)) * ((1 / 16 : ℝ) : EReal) = ((S Q K gq gk t m : ℝ) : EReal) := by
    intro m
    simp only [pay12 Q gq x1 x4 h1 h4, pay13 K gk x2 x5 h2 h5, ← EReal.coe_mul, coe_sum]
    rfl
  pointwise [k0_pay14]
  simp only [bits_sixteenth, bits_bot, hs, hM]
  rw [← EReal.coe_sub, Ideal.exp_coe]

theorem pay15 (s : Fin 512 → Fin 256 → ℝ) (M : Fin 512 → ℝ) (v : FVec Ideal S512x256 .f32)
    (h : ∀ t m, v (ix2 t m) = ((Real.exp (s t m - M t) : ℝ) : EReal)) (t : Fin 512) (m : Fin 256) :
    k0_pay15 v (ix2 t m) = ((soft (s t) m : ℝ) : EReal) := by
  pointwise [k0_pay15]
  simp only [h, coe_sum]
  rw [div_coe _ _ (sum_exp_pos fun k => s t k - M t).ne', soft_shift]

end

section
variable (D : Fin 512 → Fin 256 → ℝ) (V : Fin 256 → Fin 256 → ℝ) (s : Fin 512 → Fin 256 → ℝ) (M : Fin 512 → ℝ)
  (e : FVec Ideal S512x256 .f32) (he : ∀ t m, e (ix2 t m) = ((Real.exp (s t m - M t) : ℝ) : EReal))
  (x0 : Vec Ideal S512x256 .f32) (x3 : Vec Ideal S256x256 .f32)
  (h0 : ∀ t d, x0 (ix2 t d) = ((D t d : ℝ) : EReal)) (h3 : ∀ t d, x3 (ix2 t d) = ((V t d : ℝ) : EReal))

/-- The gradient of the scaled scores of a block of rows. -/
abbrev dS (t : Fin 512) (m : Fin 256) : ℝ := dsc (soft (s t)) (fun k => ∑ d, D t d * V k d) m

include he h0 h3 in
theorem pay16 (t : Fin 512) (m : Fin 256) : k0_pay16 e x0 x3 (ix2 t m) = ((dS D V s t m : ℝ) : EReal) := by
  pointwise [k0_pay16]
  simp only [pay15 s M e he, h0, h3, bits_sixteenth, ← EReal.coe_mul, coe_sum, ← EReal.coe_sub]
  rfl

include he h0 h3 in
theorem pay17 (kn : FVec Ideal S256x256 .f32) (W : Fin 256 → Fin 256 → ℝ) (hk : ∀ t d, kn (ix2 t d) = ((W t d : ℝ) : EReal))
    (t : Fin 512) (d : Fin 256) : k0_pay17 kn e x0 x3 (ix2 t d) = ((∑ m, dS D V s t m * W m d : ℝ) : EReal) := by
  pointwise [k0_pay17]
  simp only [pay16 D V s M e he x0 x3 h0 h3, hk, ← EReal.coe_mul, coe_sum]

include he h0 h3 in
theorem pay22 (qn : FVec Ideal S512x256 .f32) (W : Fin 512 → Fin 256 → ℝ) (hq : ∀ t d, qn (ix2 t d) = ((W t d : ℝ) : EReal))
    (a : Vec Ideal S256x256 .f32) (A : Fin 256 → Fin 256 → ℝ) (ha : ∀ m d, a (ix2 m d) = ((A m d : ℝ) : EReal))
    (m d : Fin 256) : k0_pay22 qn e x0 x3 a (ix2 m d) = ((A m d + ∑ t, dS D V s t m * W t d : ℝ) : EReal) := by
  pointwise [k0_pay22]
  simp only [pay16 D V s M e he x0 x3 h0 h3, hq, ha, ← EReal.coe_mul, coe_sum, ← EReal.coe_add]

include he h0 in
theorem pay1 (a : Vec Ideal S256x256 .f32) (A : Fin 256 → Fin 256 → ℝ) (ha : ∀ m d, a (ix2 m d) = ((A m d : ℝ) : EReal))
    (m d : Fin 256) : k0_pay1 (k0_pay15 e) x0 a (ix2 m d) = ((A m d + ∑ t, soft (s t) m * D t d : ℝ) : EReal) := by
  pointwise [k0_pay1]
  simp only [pay15 s M e he, h0, ha, ← EReal.coe_mul, coe_sum, ← EReal.coe_add]

end

section
variable (Q U : Fin 512 → Fin 256 → ℝ) (K W : Fin 256 → Fin 256 → ℝ) (gq gk A : Fin 256 → ℝ)

theorem pay2 (q u : FVec Ideal S512x256 .f32) (hq : ∀ t d, q (ix2 t d) = ((hat (Q t) d : ℝ) : EReal))
    (hu : ∀ t d, u (ix2 t d) = ((U t d : ℝ) : EReal)) (a : Vec Ideal S1x256 .f32) (ha : ∀ z d, a (ix2 z d) = ((A d : ℝ) : EReal))
    (z : Fin 1) (d : Fin 256) : k0_pay2 q u a (ix2 z d) = ((A d + ∑ t, U t d * hat (Q t) d : ℝ) : EReal) := by
  pointwise [k0_pay2]
  simp only [hq, hu, ha, ← EReal.coe_mul, coe_sum, ← EReal.coe_add]

theorem pay3 (r : FVec Ideal S512x1 .f32) (q u : FVec Ideal S512x256 .f32) (g : FVec Ideal S1x256 .f32)
    (hr : ∀ t z, r (ix2 t z) = ((rr (Q t) : ℝ) : EReal)) (hq : ∀ t d, q (ix2 t d) = ((hat (Q t) d : ℝ) : EReal))
    (hg : ∀ z d, g (ix2 z d) = ((gq d : ℝ) : EReal)) (hu : ∀ t d, u (ix2 t d) = ((U t d : ℝ) : EReal))
    (t : Fin 512) (d : Fin 256) : k0_pay3 r q g u (ix2 t d) = ((dnrm (Q t) gq (U t) d : ℝ) : EReal) := by
  pointwise [k0_pay3]
  simp only [hr, hq, hg, hu, bits_256, ← EReal.coe_mul, coe_sum]
  rw [div_coe _ _ (by norm_num)]
  simp only [← EReal.coe_mul, ← EReal.coe_sub]
  rfl

theorem pay4 (k w : FVec Ideal S256x256 .f32) (hk : ∀ t d, k (ix2 t d) = ((hat (K t) d : ℝ) : EReal))
    (hw : ∀ t d, w (ix2 t d) = ((W t d : ℝ) : EReal)) (a : Vec Ideal S1x256 .f32) (ha : ∀ z d, a (ix2 z d) = ((A d : ℝ) : EReal))
    (z : Fin 1) (d : Fin 256) : k0_pay4 k w a (ix2 z d) = ((A d + ∑ t, W t d * hat (K t) d : ℝ) : EReal) := by
  pointwise [k0_pay4]
  simp only [hk, hw, ha, ← EReal.coe_mul, coe_sum, ← EReal.coe_add]

theorem pay5 (r : FVec Ideal S256x1 .f32) (k w : FVec Ideal S256x256 .f32) (g : FVec Ideal S1x256 .f32)
    (hr : ∀ t z, r (ix2 t z) = ((rr (K t) : ℝ) : EReal)) (hk : ∀ t d, k (ix2 t d) = ((hat (K t) d : ℝ) : EReal))
    (hg : ∀ z d, g (ix2 z d) = ((gk d : ℝ) : EReal)) (hw : ∀ t d, w (ix2 t d) = ((W t d : ℝ) : EReal))
    (t : Fin 256) (d : Fin 256) : k0_pay5 r k g w (ix2 t d) = ((dnrm (K t) gk (W t) d : ℝ) : EReal) := by
  pointwise [k0_pay5]
  simp only [hr, hk, hg, hw, bits_256, ← EReal.coe_mul, coe_sum]
  rw [div_coe _ _ (by norm_num)]
  simp only [← EReal.coe_mul, ← EReal.coe_sub]
  rfl

end

end XaKernel

end
-- ==== Proof.XaGrad.lean ====
/- The gradient of the memory attention over the reals, by head: what both programs end with. -/
module

public import proofs.«01_k».proof.Proof.XaReal

@[expose] public section

noncomputable section

namespace XaGrad

open XaReal

variable (D Q : Fin 4 → Fin 2048 → Fin 256 → ℝ) (K V : Fin 4 → Fin 256 → Fin 256 → ℝ) (gq gk : Fin 256 → ℝ)

/-- The attention weights of head `h`, query row `t`. -/
def P (h : Fin 4) (t : Fin 2048) (m : Fin 256) : ℝ := soft (fun m => sc (Q h t) (K h m) gq gk) m

/-- The gradient of the scaled scores. -/
def DS (h : Fin 4) (t : Fin 2048) (m : Fin 256) : ℝ :=
  dsc (soft (fun m => sc (Q h t) (K h m) gq gk)) (fun k => ∑ d, D h t d * V h k d) m

/-- The gradient of the normalised query rows. -/
def DQN (h : Fin 4) (t : Fin 2048) (d : Fin 256) : ℝ := ∑ m, DS D Q K V gq gk h t m * nrm (K h m) gk d

/-- The gradient of the normalised memory rows. -/
def DKN (h : Fin 4) (m d : Fin 256) : ℝ := ∑ t, DS D Q K V gq gk h t m * nrm (Q h t) gq d

/-- The gradient of the query rows. -/
def DQ (h : Fin 4) (t : Fin 2048) (d : Fin 256) : ℝ := dnrm (Q h t) gq (DQN D Q K V gq gk h t) d

/-- The gradient of the memory's key rows. -/
def DK (h : Fin 4) (m d : Fin 256) : ℝ := dnrm (K h m) gk (DKN D Q K V gq gk h m) d

/-- The gradient of the memory's value rows. -/
def DV (h : Fin 4) (m d : Fin 256) : ℝ := ∑ t, P Q K gq gk h t m * D h t d

/-- The gradient of the query gain. -/
def DGQ (d : Fin 256) : ℝ := ∑ h, ∑ t, DQN D Q K V gq gk h t d * hat (Q h t) d

/-- The gradient of the key gain. -/
def DGK (d : Fin 256) : ℝ := ∑ h, ∑ m, DKN D Q K V gq gk h m d * hat (K h m) d

end XaGrad

end
-- ==== Proof.XaStep.lean ====
/- The backward call of the memory attention, grid point by grid point: the blocks a point reads, and what each output's
   block and the carried sum hold after it, as reals. -/
module

public import proofs.«01_k».proof.Proof.XaKernel
public import proofs.«01_k».proof.Proof.XaGrad
public import proofs.«01_k».proof.Proof.Gen.XaIdeal.Value
public import Idealize.ShloMosaic.Lib.Tactic
public import Idealize.ShloMosaic.Lib.Pipeline.ValueKit
public import Idealize.ShloMosaic.Lib.Pipeline.ReadBack

@[expose] public section

set_option maxRecDepth 16384

noncomputable section

namespace XaStep

open Idealize.ShloMosaic Idealize.ShloMosaic.TcCoe Cert.XaIdeal Cert.XaIdeal.Gen RealVal XaReal

/-- The head of grid point `n`. -/
def hd (n : ℕ) : Fin 4 := ⟨n / 4 % 4, by omega⟩
/-- The row tile of grid point `n`. -/
def tl (n : ℕ) : Fin 4 := ⟨n % 4, by omega⟩
/-- The row of the activations at place `r` of tile `i`. -/
def row (i : Fin 4) (r : Fin 512) : Fin 2048 := ⟨i.val * 512 + r.val, by omega⟩

theorem idx0 : ∀ t : Fin cfg0.N, win0_0.index t 0 = t.val % 4 ∧ win0_0.index t 1 = 12 + t.val / 4 % 4 := by decide +kernel
theorem idx1 : ∀ t : Fin cfg0.N, win0_1.index t 0 = t.val % 4 ∧ win0_1.index t 1 = 36 + t.val / 4 % 4 := by decide +kernel
theorem idx2 : ∀ t : Fin cfg0.N, win0_2.index t 0 = 0 ∧ win0_2.index t 1 = t.val / 4 % 4 := by decide +kernel
theorem idx3 : ∀ t : Fin cfg0.N, win0_3.index t 0 = 0 ∧ win0_3.index t 1 = 4 + t.val / 4 % 4 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel

section
variable {F : FTy → Type} [FloatOps F]
variable (m : (ℓ : Loc nD τ sig) → Buf (Elt F) ℓ) (c : Dev nD) (t : Fin cfg0.N)

theorem blk0 (r : Fin 512) (d : Fin 256) : iblk m c 0 t (ix2 r d) =
    m ((c : Thread nD τ).loc main_arg0) (ix2 (row (tl t.val) r) (⟨3072 + ((hd t.val).val * 256 + d.val), by omega⟩ : Fin 4096)) := by
  unfold row tl hd
  blk_ext [iblk, V, idx0 t]
theorem blk1 (r : Fin 512) (d : Fin 256) : iblk m c 1 t (ix2 r d) =
    m ((c : Thread nD τ).loc main_arg1) (ix2 (row (tl t.val) r) (⟨9216 + ((hd t.val).val * 256 + d.val), by omega⟩ : Fin 14336)) := by
  unfold row tl hd
  blk_ext [iblk, V, idx1 t]
theorem blk2 (r : Fin 256) (d : Fin 256) : iblk m c 2 t (ix2 r d) =
    m ((c : Thread nD τ).loc main_arg2) (ix2 r (⟨(hd t.val).val * 256 + d.val, by omega⟩ : Fin 2048)) := by
  unfold hd
  blk_ext [iblk, V, idx2 t]
theorem blk3 (r : Fin 256) (d : Fin 256) : iblk m c 3 t (ix2 r d) =
    m ((c : Thread nD τ).loc main_arg2) (ix2 r (⟨1024 + ((hd t.val).val * 256 + d.val), by omega⟩ : Fin 2048)) := by
  unfold hd
  blk_ext [iblk, V, idx3 t]
theorem blk4 (z : Fin 1) (d : Fin 256) : iblk m c 4 t (ix2 z d) =
    m ((c : Thread nD τ).loc main_arg3) (ix1 d) := by
  have hz : (win0_4.blk t).view.emb (ix2 z d) = (ix2 z d : S1x256.Idx) := by blk_ext [idx4 t]
  blk_simp [iblk]
  entry_read
  change shapeCast main_v0.ty.shape (m (c, Proc.tc.devRef main_arg3)) shapeCasts_S256_S1x256 ((win0_4.blk t).view.emb (ix2 z d)) = _
  rw [hz]
  pointwise
theorem blk5 (z : Fin 1) (d : Fin 256) : iblk m c 5 t (ix2 z d) =
    m ((c : Thread nD τ).loc main_arg4) (ix1 d) := by
  have hz : (win0_5.blk t).view.emb (ix2 z d) = (ix2 z d : S1x256.Idx) := by blk_ext [idx5 t]
  blk_simp [iblk]
  entry_read
  change shapeCast main_v1.ty.shape (m (c, Proc.tc.devRef main_arg4)) shapeCasts_S256_S1x256 ((win0_5.blk t).view.emb (ix2 z d)) = _
  rw [hz]
  pointwise
end

/-- The five arguments hold the reals `D`, `Q`, `K`, `V`, `gq`, `gk`. -/
structure Reads (m : (ℓ : Loc nD τ sig) → Buf (Elt Ideal) ℓ) (c : Dev nD)
    (D Q : Fin 4 → Fin 2048 → Fin 256 → ℝ) (K V : Fin 4 → Fin 256 → Fin 256 → ℝ) (gq gk : Fin 256 → ℝ) : Prop where
  d : ∀ h t d, m ((c : Thread nD τ).loc main_arg0) (ix2 t (⟨3072 + (h.val * 256 + d.val), by omega⟩ : Fin 4096)) = ((D h t d : ℝ) : EReal)
  q : ∀ h t d, m ((c : Thread nD τ).loc main_arg1) (ix2 t (⟨9216 + (h.val * 256 + d.val), by omega⟩ : Fin 14336)) = ((Q h t d : ℝ) : EReal)
  k : ∀ h t d, m ((c : Thread nD τ).loc main_arg2) (ix2 t (⟨h.val * 256 + d.val, by omega⟩ : Fin 2048)) = ((K h t d : ℝ) : EReal)
  v : ∀ h t d, m ((c : Thread nD τ).loc main_arg2) (ix2 t (⟨1024 + (h.val * 256 + d.val), by omega⟩ : Fin 2048)) = ((V h t d : ℝ) : EReal)
  gq : ∀ d, m ((c : Thread nD τ).loc main_arg3) (ix1 d) = ((gq d : ℝ) : EReal)
  gk : ∀ d, m ((c : Thread nD τ).loc main_arg4) (ix1 d) = ((gk d : ℝ) : EReal)

variable (m : (ℓ : Loc nD τ sig) → Buf (Elt Ideal) ℓ) (c : Dev nD)
variable (D Q : Fin 4 → Fin 2048 → Fin 256 → ℝ) (K V : Fin 4 → Fin 256 → Fin 256 → ℝ) (gq gk : Fin 256 → ℝ)

/-- A vector holds reals. -/
def IsR {a b : ℕ} (v : Vec Ideal ⟨2, ![a, b]⟩ .f32) (f : Fin a → Fin b → ℝ) : Prop := ∀ i j, v (ix2 i j) = ((f i j : ℝ) : EReal)

theorem IsR.to {a b : ℕ} {v : Vec Ideal ⟨2, ![a, b]⟩ .f32} {f g : Fin a → Fin b → ℝ} (h : IsR v f) (e : ∀ i j, f i j = g i j) : IsR v g :=
  fun i j => by rw [h i j, e i j]

/-- What point `n` adds to the sum of the value gradient. -/
def t8 (n : ℕ) (i j : Fin 256) : ℝ := ∑ r : Fin 512, XaGrad.P Q K gq gk (hd n) (row (tl n) r) i * D (hd n) (row (tl n) r) j
/-- What point `n` adds to the sum of the normalised keys' gradient. -/
def ts (n : ℕ) (i j : Fin 256) : ℝ :=
  ∑ r : Fin 512, XaGrad.DS D Q K V gq gk (hd n) (row (tl n) r) i * nrm (Q (hd n) (row (tl n) r)) gq j
/-- What point `n` adds to the gradient of the query gain. -/
def t9 (n : ℕ) (j : Fin 256) : ℝ :=
  ∑ r : Fin 512, XaGrad.DQN D Q K V gq gk (hd n) (row (tl n) r) j * hat (Q (hd n) (row (tl n) r)) j

variable {m c D Q K V gq gk} (H : Reads m c D Q K V gq gk) (t : Fin cfg0.N)
include H

theorem o3 : IsR (k0_pay3 (k0_pay6 (iblk m c 1 t)) (k0_pay7 (iblk m c 1 t)) (k0_pay10 (iblk m c 4 t))
        (k0_pay17 (k0_pay13 (iblk m c 2 t) (iblk m c 5 t))
          (k0_pay14 (iblk m c 1 t) (iblk m c 2 t) (iblk m c 4 t) (iblk m c 5 t)) (iblk m c 0 t) (iblk m c 3 t)))
     fun r d => XaGrad.DQ D Q K V gq gk (hd t.val) (row (tl t.val) r) d := by
  have h0 := fun r d => (blk0 m c t r d).trans (H.d _ _ _)
  have h1 := fun r d => (blk1 m c t r d).trans (H.q _ _ _)
  have h2 := fun r d => (blk2 m c t r d).trans (H.k _ _ _)
  have h3 := fun r d => (blk3 m c t r d).trans (H.v _ _ _)
  have h4 := fun z d => (blk4 m c t z d).trans (H.gq _)
  have h5 := fun z d => (blk5 m c t z d).trans (H.gk _)
  obtain ⟨M, hM⟩ := XaKernel.pay14 _ _ _ _ _ _ _ _ h1 h2 h4 h5
  intro r d
  exact XaKernel.pay3 _ _ _ _ _ _ _ (XaKernel.pay6 _ _ h1) (XaKernel.pay7 _ _ h1) (fun z d => by rw [XaKernel.pay10]; exact h4 z d)
    (XaKernel.pay17 _ _ _ _ _ hM _ _ h0 h3 _ _ (XaKernel.pay13 _ _ _ _ h2 h5)) r d

theorem o1 (a : Vec Ideal S256x256 .f32) (A : Fin 256 → Fin 256 → ℝ) (ha : IsR a A) :
    IsR (k0_pay1 (k0_pay15 (k0_pay14 (iblk m c 1 t) (iblk m c 2 t) (iblk m c 4 t) (iblk m c 5 t))) (iblk m c 0 t) a)
     fun i j => A i j + t8 D Q K gq gk t.val i j := by
  have h0 := fun r d => (blk0 m c t r d).trans (H.d _ _ _)
  have h1 := fun r d => (blk1 m c t r d).trans (H.q _ _ _)
  have h2 := fun r d => (blk2 m c t r d).trans (H.k _ _ _)
  have h4 := fun z d => (blk4 m c t z d).trans (H.gq _)
  have h5 := fun z d => (blk5 m c t z d).trans (H.gk _)
  obtain ⟨M, hM⟩ := XaKernel.pay14 _ _ _ _ _ _ _ _ h1 h2 h4 h5
  intro r d
  exact XaKernel.pay1 _ _ _ _ hM _ h0 a A ha r d

theorem os (a : Vec Ideal S256x256 .f32) (A : Fin 256 → Fin 256 → ℝ) (ha : IsR a A) :
    IsR (k0_pay22 (k0_pay12 (iblk m c 1 t) (iblk m c 4 t))
        (k0_pay14 (iblk m c 1 t) (iblk m c 2 t) (iblk m c 4 t) (iblk m c 5 t)) (iblk m c 0 t) (iblk m c 3 t) a)
     fun i j => A i j + ts D Q K V gq gk t.val i j := by
  have h0 := fun r d => (blk0 m c t r d).trans (H.d _ _ _)
  have h1 := fun r d => (blk1 m c t r d).trans (H.q _ _ _)
  have h2 := fun r d => (blk2 m c t r d).trans (H.k _ _ _)
  have h3 := fun r d => (blk3 m c t r d).trans (H.v _ _ _)
  have h4 := fun z d => (blk4 m c t z d).trans (H.gq _)
  have h5 := fun z d => (blk5 m c t z d).trans (H.gk _)
  obtain ⟨M, hM⟩ := XaKernel.pay14 _ _ _ _ _ _ _ _ h1 h2 h4 h5
  intro r d
  exact XaKernel.pay22 _ _ _ _ _ hM _ _ h0 h3 _ _ (XaKernel.pay12 _ _ _ _ h1 h4) a A ha r d

theorem o2 (a : Vec Ideal S1x256 .f32) (A : Fin 256 → ℝ) (ha : IsR a fun _ => A) :
    IsR (k0_pay2 (k0_pay7 (iblk m c 1 t))
        (k0_pay17 (k0_pay13 (iblk m c 2 t) (iblk m c 5 t))
          (k0_pay14 (iblk m c 1 t) (iblk m c 2 t) (iblk m c 4 t) (iblk m c 5 t)) (iblk m c 0 t) (iblk m c 3 t)) a)
     fun _ j => A j + t9 D Q K V gq gk t.val j := by
  have h0 := fun r d => (blk0 m c t r d).trans (H.d _ _ _)
  have h1 := fun r d => (blk1 m c t r d).trans (H.q _ _ _)
  have h2 := fun r d => (blk2 m c t r d).trans (H.k _ _ _)
  have h3 := fun r d => (blk3 m c t r d).trans (H.v _ _ _)
  have h4 := fun z d => (blk4 m c t z d).trans (H.gq _)
  have h5 := fun z d => (blk5 m c t z d).trans (H.gk _)
  obtain ⟨M, hM⟩ := XaKernel.pay14 _ _ _ _ _ _ _ _ h1 h2 h4 h5
  intro r d
  exact XaKernel.pay2 _ _ _ _ _ (XaKernel.pay7 _ _ h1)
    (XaKernel.pay17 _ _ _ _ _ hM _ _ h0 h3 _ _ (XaKernel.pay13 _ _ _ _ h2 h5)) a ha r d

theorem o4 (w : FVec Ideal S256x256 .f32) (W : Fin 256 → Fin 256 → ℝ) (hw : IsR w W)
    (a : Vec Ideal S1x256 .f32) (A : Fin 256 → ℝ) (ha : IsR a fun _ => A) :
    IsR (k0_pay4 (k0_pay9 (iblk m c 2 t)) w a)
     fun _ j => A j + ∑ i, W i j * hat (K (hd t.val) i) j := by
  have h2 := fun r d => (blk2 m c t r d).trans (H.k _ _ _)
  intro r d
  exact XaKernel.pay4 _ _ _ _ _ (XaKernel.pay9 _ _ h2) hw a ha r d

theorem o5 (w : FVec Ideal S256x256 .f32) (W : Fin 256 → Fin 256 → ℝ) (hw : IsR w W) :
    IsR (k0_pay5 (k0_pay8 (iblk m c 2 t)) (k0_pay9 (iblk m c 2 t)) (k0_pay11 (iblk m c 5 t)) w)
     fun i j => dnrm (K (hd t.val) i) gk (W i) j := by
  have h2 := fun r d => (blk2 m c t r d).trans (H.k _ _ _)
  have h5 := fun z d => (blk5 m c t z d).trans (H.gk _)
  intro r d
  exact XaKernel.pay5 _ _ _ _ _ _ _ (XaKernel.pay8 _ _ h2) (XaKernel.pay9 _ _ h2) (fun z d => by rw [XaKernel.pay11]; exact h5 z d) hw r d

end XaStep
-- ==== Proof.XaSweep.lean ====
/- The backward call of the memory attention over its whole grid: what the outputs' blocks hold after each point, and the
   five arrays at the end. -/
module

public import proofs.«01_k».proof.Proof.XaStep

@[expose] public section

set_option maxRecDepth 16384

noncomputable section

namespace XaSweep

open Idealize.ShloMosaic Idealize.ShloMosaic.TcCoe Cert.XaIdeal Cert.XaIdeal.Gen RealVal XaReal XaStep

theorem zero18 : IsR (k0_pay18 (F := Ideal)) fun _ _ => 0 := by intro i j; pointwise [k0_pay18]; try rfl
theorem zero19 : IsR (k0_pay19 (F := Ideal)) fun _ _ => 0 := by intro i j; pointwise [k0_pay19]; try rfl
theorem zero20 : IsR (k0_pay20 (F := Ideal)) fun _ _ => 0 := by intro i j; pointwise [k0_pay20]; try rfl
theorem zero21 : IsR (k0_pay21 (F := Ideal)) fun _ _ => 0 := by intro i j; pointwise [k0_pay21]; try rfl

variable (m : (ℓ : Loc nD τ sig) → Buf (Elt Ideal) ℓ) (c : Dev nD)
variable (D Q : Fin 4 → Fin 2048 → Fin 256 → ℝ) (K V : Fin 4 → Fin 256 → Fin 256 → ℝ) (gq gk : Fin 256 → ℝ)

/-- The first point of the head of point `n`. -/
abbrev fst (n : ℕ) : ℕ := n / 4 * 4

/-- What a finished head adds to the gradient of the key gain. -/
def t10 (h : ℕ) (j : Fin 256) : ℝ := ∑ i, (∑ k ∈ Finset.Ico (4 * h) (4 * h + 4), ts D Q K V gq gk k i j) * hat (K (hd (4 * h)) i) j

/-- What the blocks hold after point `n`. -/
structure Inv (n : ℕ) (o : Vec Ideal S512x256 .bf16 × Vec Ideal S256x256 .f32 × Vec Ideal S256x256 .f32 ×
    Vec Ideal S1x256 .f32 × Vec Ideal S1x256 .f32 × Vec Ideal S256x256 .f32) : Prop where
  o6 : ∀ r d, o.1 (ix2 r d) = ((XaGrad.DQ D Q K V gq gk (hd n) (row (tl n) r) d : ℝ) : EReal)
  o7 : n % 4 = 3 → IsR o.2.1 fun i j => dnrm (K (hd n) i) gk (fun j => ∑ k ∈ Finset.Ico (fst n) (n + 1), ts D Q K V gq gk k i j) j
  o8 : IsR o.2.2.1 fun i j => ∑ k ∈ Finset.Ico (fst n) (n + 1), t8 D Q K gq gk k i j
  o9 : IsR o.2.2.2.1 fun _ j => ∑ k ∈ Finset.range (n + 1), t9 D Q K V gq gk k j
  o10 : IsR o.2.2.2.2.1 fun _ j => ∑ h ∈ Finset.range ((n + 1) / 4), t10 D Q K V gq gk h j
  sc : IsR o.2.2.2.2.2 fun i j => ∑ k ∈ Finset.Ico (fst n) (n + 1), ts D Q K V gq gk k i j

variable {m c D Q K V gq gk}

theorem inv (H : Reads m c D Q K V gq gk) : ∀ (n : ℕ) (hn : n < cfg0.N), Inv D Q K V gq gk n (outsAt0 m c n hn) := by
  intro n
  induction n with
  | zero =>
    intro hn
    rw [outsAt0_A m c ⟨0, hn⟩ rfl rfl (by show ¬ 0 % 4 = 3; decide)]
    frame_out
    have e8 := o1 H ⟨0, hn⟩ _ _ zero19
    have es := os H ⟨0, hn⟩ _ _ zero18
    have e9 := o2 H ⟨0, hn⟩ _ _ zero20
    refine ⟨o3 H ⟨0, hn⟩, fun h => absurd h (by decide), e8.to ?_, e9.to ?_, zero21.to ?_, es.to ?_⟩
    all_goals intros; simp
  | succ n ih =>
    intro hn
    have I := ih (by omega)
    have hN : cfg0.N = 16 := rfl
    by_cases h0 : (n + 1) % 4 = 0
    · have h1 : ¬ (n + 1) % 16 = 0 := by omega
      have h2 : ¬ (n + 1) % 4 = 3 := by omega
      have f1 : fst (n + 1) = n + 1 := by unfold fst; omega
      rw [outsAt0_D m c ⟨n + 1, hn⟩ h0 h1 h2]
      frame_out
      have e8 := o1 H ⟨n + 1, hn⟩ _ _ zero19
      have es := os H ⟨n + 1, hn⟩ _ _ zero18
      have e9 := o2 H ⟨n + 1, hn⟩ _ _ I.o9
      refine ⟨o3 H ⟨n + 1, hn⟩, fun h => absurd h h2, e8.to ?_, e9.to ?_, I.o10.to ?_, es.to ?_⟩
      · intros; rw [f1]; simp
      · intros; rw [Finset.sum_range_succ _ (n + 1)]
      · intros; rw [show (n + 1 + 1) / 4 = (n + 1) / 4 by omega]
      · intros; rw [f1]; simp
    · have h1 : ¬ (n + 1) % 16 = 0 := by omega
      have f1 : fst (n + 1) = fst n := by unfold fst; omega
      have f2 : fst n ≤ n + 1 := by unfold fst; omega
      by_cases h2 : (n + 1) % 4 = 3
      · rw [outsAt0_C m c ⟨n + 1, hn⟩ h0 h1 h2]
        frame_out
        simp only [_root_.Idealize.ShloMosaic.read_unread_whole]
        have e8 := o1 H ⟨n + 1, hn⟩ _ _ I.o8
        have es := os H ⟨n + 1, hn⟩ _ _ I.sc
        have e9 := o2 H ⟨n + 1, hn⟩ _ _ I.o9
        have es' := es.to fun i j => (Finset.sum_Ico_succ_top f2 fun k => ts D Q K V gq gk k i j).symm
        have e10 := o4 H ⟨n + 1, hn⟩ _ _ es' _ _ I.o10
        refine ⟨o3 H ⟨n + 1, hn⟩, fun _ => (o5 H ⟨n + 1, hn⟩ _ _ es').to ?_, e8.to ?_, e9.to ?_, e10.to ?_, es'.to ?_⟩
        · intros; rw [f1]
        · intros; rw [f1, Finset.sum_Ico_succ_top f2]
        · intros; rw [Finset.sum_range_succ _ (n + 1)]
        · intro _ j
          have a1 : (n + 1 + 1) / 4 = (n + 1) / 4 + 1 := by omega
          have a2 : 4 * ((n + 1) / 4) = fst n := by unfold fst; omega
          have a3 : fst n + 4 = n + 1 + 1 := by unfold fst; omega
          have a4 : hd (fst n) = hd (n + 1) := by unfold hd fst; rw [Fin.mk.injEq]; omega
          rw [a1, Finset.sum_range_succ]
          unfold t10
          rw [a2, a3, a4]
        · intros; rw [f1]
      · rw [outsAt0_B m c ⟨n + 1, hn⟩ h0 h1 h2]
        frame_out
        simp only [_root_.Idealize.ShloMosaic.read_unread_whole]
        have e8 := o1 H ⟨n + 1, hn⟩ _ _ I.o8
        have es := os H ⟨n + 1, hn⟩ _ _ I.sc
        have e9 := o2 H ⟨n + 1, hn⟩ _ _ I.o9
        refine ⟨o3 H ⟨n + 1, hn⟩, fun h => absurd h h2, e8.to ?_, e9.to ?_, I.o10.to ?_, es.to ?_⟩
        · intros; rw [f1, Finset.sum_Ico_succ_top f2]
        · intros; rw [Finset.sum_range_succ _ (n + 1)]
        · intros; rw [show (n + 1 + 1) / 4 = (n + 1) / 4 by omega]
        · intros; rw [f1, Finset.sum_Ico_succ_top f2]

/-! ## The sums over the tiles of a head, and over the heads -/

theorem sum_tiles (f : Fin 2048 → ℝ) (h : Fin 4) (g : ℕ → ℝ)
    (hg : ∀ k, k / 4 % 4 = h.val → g k = ∑ r : Fin 512, f (row (tl k) r)) :
    ∑ k ∈ Finset.Ico (4 * h.val) (4 * h.val + 4), g k = ∑ t, f t := by
  rw [Finset.sum_Ico_eq_sum_range, Nat.add_sub_cancel_left, Finset.sum_range]
  rw [← Fin.sum_mul_add_fin 4 512 f]
  refine Finset.sum_congr rfl fun s _ => ?_
  rw [hg _ (by omega)]
  refine Finset.sum_congr rfl fun r _ => congrArg f (Fin.ext ?_)
  show (4 * h.val + s.val) % 4 * 512 + r.val = s.val * 512 + r.val
  omega

theorem hd_of {h : Fin 4} {k : ℕ} (e : k / 4 % 4 = h.val) : hd k = h := Fin.ext e

theorem sum_t8 (h : Fin 4) (i j : Fin 256) :
    ∑ k ∈ Finset.Ico (4 * h.val) (4 * h.val + 4), t8 D Q K gq gk k i j = XaGrad.DV D Q K gq gk h i j :=
  sum_tiles (fun t => XaGrad.P Q K gq gk h t i * D h t j) h _ fun k e => by unfold t8; rw [hd_of e]

theorem sum_ts (h : Fin 4) (i j : Fin 256) :
    ∑ k ∈ Finset.Ico (4 * h.val) (4 * h.val + 4), ts D Q K V gq gk k i j = XaGrad.DKN D Q K V gq gk h i j :=
  sum_tiles (fun t => XaGrad.DS D Q K V gq gk h t i * nrm (Q h t) gq j) h _ fun k e => by unfold ts; rw [hd_of e]

theorem sum_t10 (j : Fin 256) : ∑ h ∈ Finset.range 4, t10 D Q K V gq gk h j = XaGrad.DGK D Q K V gq gk j := by
  rw [Finset.sum_range]
  refine Finset.sum_congr rfl fun h _ => ?_
  unfold t10
  simp only [sum_ts]
  rw [hd_of (h := h) (by omega)]

theorem sum_t9 (j : Fin 256) : ∑ k ∈ Finset.range 16, t9 D Q K V gq gk k j = XaGrad.DGQ D Q K V gq gk j := by
  rw [Finset.sum_range]
  unfold XaGrad.DGQ
  rw [Finset.sum_congr rfl fun h _ => (Fin.sum_mul_add_fin 4 512 fun t => XaGrad.DQN D Q K V gq gk h t j * hat (Q h t) j).symm]
  change _ = ∑ h : Fin 4, ∑ s : Fin 4, ∑ r : Fin 512, XaGrad.DQN D Q K V gq gk h (row s r) j * hat (Q h (row s r)) j
  rw [← Fin.sum_divmod_fin (N := 16) 4 fun (h : Fin 4) (s : Fin 4) => ∑ r : Fin 512, XaGrad.DQN D Q K V gq gk h (row s r) j * hat (Q h (row s r)) j]
  refine Finset.sum_congr rfl fun k _ => ?_
  unfold t9
  rw [show hd k.val = ⟨k.val / 4, by omega⟩ from Fin.ext (by show k.val / 4 % 4 = k.val / 4; omega)]
  rfl

/-! ## The arrays at the end -/

theorem acc_eq (n : ℕ) (hn : 0 + n < cfg0.N) (hn' : n < cfg0.N) :
    Pipeline.accAt (fun n h => Value.stAt0 m c n h Value.junk0) (Value.stAt0 m c) 0 n hn = outsAt0 m c n hn' :=
  (Value.outsAt0_sweep m c n hn').symm

theorem G6_eq (H : Reads m c D Q K V gq gk) (h : Fin 4) (t : Fin 2048) (d : Fin 256) :
    Value.G6 m c (ix2 t (⟨h.val * 256 + d.val, by omega⟩ : Fin 1024)) = ((XaGrad.DQ D Q K V gq gk h t d : ℝ) : EReal) := by
  have hN : cfg0.N = 16 := rfl
  have hp : Value.pt6Of (ix2 t (⟨h.val * 256 + d.val, by omega⟩ : Fin 1024)) = t.val / 512 + 4 * h.val := by
    show 1 * (t.val / 512 - 0) + 4 * ((h.val * 256 + d.val) / 256 - 0) = _
    omega
  have hl : Value.loc6Of (ix2 t (⟨h.val * 256 + d.val, by omega⟩ : Fin 1024)) = ix2 (⟨t.val % 512, by omega⟩ : Fin 512) d := by
    funext a
    match a with
    | ⟨0, _⟩ => rfl
    | ⟨1, _⟩ => exact Fin.ext (by show (h.val * 256 + d.val) % 256 = d.val; omega)
  unfold Value.G6
  rw [dif_pos (by rw [hp]; omega), hl, Value.fold0_congr m c _ _ _ (by omega) hp, acc_eq _ _ (by omega), (inv H _ _).o6]
  have e1 : hd (t.val / 512 + 4 * h.val) = h := Fin.ext (by show (t.val / 512 + 4 * h.val) / 4 % 4 = h.val; omega)
  have e2 : row (tl (t.val / 512 + 4 * h.val)) ⟨t.val % 512, by omega⟩ = t :=
    Fin.ext (by show (t.val / 512 + 4 * h.val) % 4 * 512 + t.val % 512 = t.val; omega)
  rw [e1, e2]

theorem G7_eq (H : Reads m c D Q K V gq gk) (h : Fin 4) (i : Fin 256) (d : Fin 256) :
    Value.G7 m c (ix2 i (⟨h.val * 256 + d.val, by omega⟩ : Fin 1024)) = ((XaGrad.DK D Q K V gq gk h i d : ℝ) : EReal) := by
  have hN : cfg0.N = 16 := rfl
  have hp : Value.pt7Of (ix2 i (⟨h.val * 256 + d.val, by omega⟩ : Fin 1024)) = 4 * h.val + 3 := by
    show 4 * (4 * (i.val / 256 - 0) + 1 * ((h.val * 256 + d.val) / 256 - 0)) + 3 = _
    omega
  have hl : Value.loc7Of (ix2 i (⟨h.val * 256 + d.val, by omega⟩ : Fin 1024)) = ix2 i d := by
    funext a
    match a with
    | ⟨0, _⟩ => exact Fin.ext (by show i.val % 256 = i.val; omega)
    | ⟨1, _⟩ => exact Fin.ext (by show (h.val * 256 + d.val) % 256 = d.val; omega)
  unfold Value.G7
  rw [dif_pos (by rw [hp]; omega), hl, Value.fold0_congr m c _ _ _ (by omega) hp, acc_eq _ _ (by omega), (inv H _ _).o7 (by omega)]
  rw [hd_of (h := h) (by omega), show fst (4 * h.val + 3) = 4 * h.val by unfold fst; omega]
  simp only [sum_ts]
  rfl

theorem G8_eq (H : Reads m c D Q K V gq gk) (h : Fin 4) (i : Fin 256) (d : Fin 256) :
    Value.G8 m c (ix2 i (⟨h.val * 256 + d.val, by omega⟩ : Fin 1024)) = ((XaGrad.DV D Q K gq gk h i d : ℝ) : EReal) := by
  have hN : cfg0.N = 16 := rfl
  have hp : Value.pt8Of (ix2 i (⟨h.val * 256 + d.val, by omega⟩ : Fin 1024)) = 4 * h.val + 3 := by
    show 4 * (4 * (i.val / 256 - 0) + 1 * ((h.val * 256 + d.val) / 256 - 0)) + 3 = _
    omega
  have hl : Value.loc8Of (ix2 i (⟨h.val * 256 + d.val, by omega⟩ : Fin 1024)) = ix2 i d := by
    funext a
    match a with
    | ⟨0, _⟩ => exact Fin.ext (by show i.val % 256 = i.val; omega)
    | ⟨1, _⟩ => exact Fin.ext (by show (h.val * 256 + d.val) % 256 = d.val; omega)
  unfold Value.G8
  rw [dif_pos (by rw [hp]; omega), hl, Value.fold0_congr m c _ _ _ (by omega) hp, acc_eq _ _ (by omega), (inv H _ _).o8]
  rw [show fst (4 * h.val + 3) = 4 * h.val by unfold fst; omega]
  simp only [sum_t8]

theorem G9_eq (H : Reads m c D Q K V gq gk) (z : Fin 1) (d : Fin 256) :
    Value.G9 m c (ix2 z d) = ((XaGrad.DGQ D Q K V gq gk d : ℝ) : EReal) := by
  have hN : cfg0.N = 16 := rfl
  rw [Value.G9_last]
  rw [acc_eq _ _ (by omega)]
  refine ((inv H _ _).o9 z d).trans ?_
  exact congrArg _ (sum_t9 d)

theorem G10_eq (H : Reads m c D Q K V gq gk) (z : Fin 1) (d : Fin 256) :
    Value.G10 m c (ix2 z d) = ((XaGrad.DGK D Q K V gq gk d : ℝ) : EReal) := by
  have hN : cfg0.N = 16 := rfl
  rw [Value.G10_last]
  rw [acc_eq _ _ (by omega)]
  refine ((inv H _ _).o10 z d).trans ?_
  exact congrArg _ (sum_t10 d)

end XaSweep

end
-- ==== Proof.XaRefVal.lean ====
/- The reference of the memory attention's gradient read as the same reals, stage by stage. -/
module

public import proofs.«01_k».proof.Proof.XaGrad
public import proofs.«01_k».proof.Proof.Gen.XaRefIdeal.Read
public import Idealize.ShloMosaic.Lib.Pointwise
public import Idealize.ShloMosaic.Lib.Tactic

@[expose] public section

set_option maxRecDepth 16384

noncomputable section

namespace XaRefVal

open Idealize.ShloMosaic Idealize.ShloMosaic.TcCoe Cert.XaRefIdeal Cert.XaRefIdeal.Read RealVal XaReal

/-- A host sum over the first two axes of three, at an index. -/
theorem reduce01 {a b c : ℕ} (h : (⟨3, ![a, b, c]⟩ : Shape).ReducesTo [0, 1] ⟨1, ![c]⟩) (x : (⟨3, ![a, b, c]⟩ : Shape).Idx → EReal)
    (init : EReal) (d : Fin c) : Ideal.hostReduceAdd h x init (ix1 d) = init + ∑ i : Fin a, ∑ j : Fin b, x (ix3 i j d) := by
  unfold Ideal.hostReduceAdd
  rw [← Fintype.sum_prod_type' (f := fun i j => x (ix3 i j d))]
  refine congrArg (init + ·) (Finset.sum_bij (fun i _ => ((i 0, i 1) : Fin a × Fin b)) (fun _ _ => Finset.mem_univ _) ?_ ?_ ?_)
  · intro i hi i' hi' e
    have e0 := congrFun ((Finset.mem_filter.mp hi).2.trans (Finset.mem_filter.mp hi').2.symm) 0
    funext q
    match q with
    | ⟨0, _⟩ => exact (Prod.mk.inj e).1
    | ⟨1, _⟩ => exact (Prod.mk.inj e).2
    | ⟨2, _⟩ => exact Fin.ext (congrArg Fin.val e0)
  · intro k _
    refine ⟨ix3 k.1 k.2 d, Finset.mem_filter.mpr ⟨Finset.mem_univ _, ?_⟩, rfl⟩
    funext q
    match q with
    | ⟨0, _⟩ => rfl
  · intro i hi
    have e0 := congrFun (Finset.mem_filter.mp hi).2 0
    refine congrArg x (funext fun q => ?_)
    match q with
    | ⟨0, _⟩ => rfl
    | ⟨1, _⟩ => rfl
    | ⟨2, _⟩ => exact Fin.ext (congrArg Fin.val e0)

variable (D Q : Fin 4 → Fin 2048 → Fin 256 → ℝ) (K V : Fin 4 → Fin 256 → Fin 256 → ℝ) (gq gk : Fin 256 → ℝ)
  (x0 : (⟨S2048x4096, .f32⟩ : BufTy).Contents (Elt Ideal)) (x1 : (⟨S2048x14336, .f32⟩ : BufTy).Contents (Elt Ideal))
  (x2 : (⟨S256x2048, .f32⟩ : BufTy).Contents (Elt Ideal)) (x3 x4 : (⟨S256, .f32⟩ : BufTy).Contents (Elt Ideal))

/-- The arguments hold the reals. -/
structure Reads : Prop where
  d : ∀ (h : Fin 4) (t : Fin 2048) (d : Fin 256), x0 (ix2 t (⟨3072 + (h.val * 256 + d.val), by omega⟩ : Fin 4096)) = ((D h t d : ℝ) : EReal)
  q : ∀ (h : Fin 4) (t : Fin 2048) (d : Fin 256), x1 (ix2 t (⟨9216 + (h.val * 256 + d.val), by omega⟩ : Fin 14336)) = ((Q h t d : ℝ) : EReal)
  k : ∀ (h : Fin 4) (t : Fin 256) (d : Fin 256), x2 (ix2 t (⟨h.val * 256 + d.val, by omega⟩ : Fin 2048)) = ((K h t d : ℝ) : EReal)
  v : ∀ (h : Fin 4) (t : Fin 256) (d : Fin 256), x2 (ix2 t (⟨1024 + (h.val * 256 + d.val), by omega⟩ : Fin 2048)) = ((V h t d : ℝ) : EReal)
  gq : ∀ d : Fin 256, x3 (ix1 d) = ((gq d : ℝ) : EReal)
  gk : ∀ d : Fin 256, x4 (ix1 d) = ((gk d : ℝ) : EReal)

variable {D Q K V gq gk x0 x1 x2 x3 x4} (H : Reads D Q K V gq gk x0 x1 x2 x3 x4)
include H

theorem v1 (t : Fin 2048) (h : Fin 4) (d : Fin 256) : val_main_v1 (F := Ideal) x1 (ix3 t h d) = ((Q h t d : ℝ) : EReal) := by
  pointwise [val_main_v1, val_main_v0]
  exact H.q h t d
theorem v19 (t : Fin 256) (h : Fin 4) (d : Fin 256) : val_main_v19 (F := Ideal) x2 (ix3 t h d) = ((K h t d : ℝ) : EReal) := by
  pointwise [val_main_v19, val_main_v18]
  exact H.k h t d
theorem v37 (t : Fin 256) (h : Fin 4) (d : Fin 256) : val_main_v37 (F := Ideal) x2 (ix3 t h d) = ((V h t d : ℝ) : EReal) := by
  pointwise [val_main_v37, val_main_v36]
  exact H.v h t d
theorem v74 (h : Fin 4) (d : Fin 256) (t : Fin 2048) : val_main_v74 (F := Ideal) x0 (ix3 h d t) = ((D h t d : ℝ) : EReal) := by
  pointwise [val_main_v74, val_main_v73, val_main_v72]
  exact H.d h t d

theorem v8 (t : Fin 2048) (h : Fin 4) (z : Fin 1) : val_main_v8 (F := Ideal) x1 (ix3 t h z) = (((∑ k, Q h t k * Q h t k) / 256 + eps : ℝ) : EReal) := by
  pointwise [val_main_v8, val_main_v7, val_main_v6, val_main_v5, val_main_v4, val_main_v3, val_main_v2, val_main_cst, val_main_cst_0, val_main_cst_1]
  simp only [v1 H, ← EReal.coe_mul, coe_sum, bits_256, bits_eps]
  rw [div_coe _ _ (by norm_num), ← EReal.coe_add]
theorem v9 (t : Fin 2048) (h : Fin 4) (z : Fin 1) : val_main_v9 (F := Ideal) x1 (ix3 t h z) = ((rr (Q h t) : ℝ) : EReal) := by
  pointwise [val_main_v9]
  rw [v8 H, rsqrt_ms]
theorem v12 (t : Fin 2048) (h : Fin 4) (z : Fin 1) : val_main_v12 (F := Ideal) x1 (ix3 t h z) = ((-(1/2) * (rr (Q h t) * (rr (Q h t) * rr (Q h t))) : ℝ) : EReal) := by
  pointwise [val_main_v12, val_main_v11, val_main_v10, val_main_cst_2]
  rw [v8 H, v9 H, div_coe _ _ (ms_pos _).ne', bits_neg_half, ← EReal.coe_mul, rr_sq]
  norm_num [div_eq_mul_inv]
theorem v14 (t : Fin 2048) (h : Fin 4) (d : Fin 256) : val_main_v14 (F := Ideal) x1 (ix3 t h d) = ((hat (Q h t) d : ℝ) : EReal) := by
  pointwise [val_main_v14, val_main_v13]
  rw [v1 H, v9 H, ← EReal.coe_mul]; rfl
theorem v17 (t : Fin 2048) (h : Fin 4) (d : Fin 256) : val_main_v17 (F := Ideal) x1 x3 (ix3 t h d) = ((nrm (Q h t) gq d : ℝ) : EReal) := by
  pointwise [val_main_v17, val_main_v16, val_main_v15]
  rw [v14 H, H.gq, ← EReal.coe_mul]; rfl

theorem v26 (t : Fin 256) (h : Fin 4) (z : Fin 1) : val_main_v26 (F := Ideal) x2 (ix3 t h z) = (((∑ k, K h t k * K h t k) / 256 + eps : ℝ) : EReal) := by
  pointwise [val_main_v26, val_main_v25, val_main_v24, val_main_v23, val_main_v22, val_main_v21, val_main_v20, val_main_cst_3, val_main_cst_4, val_main_cst_5]
  simp only [v19 H, ← EReal.coe_mul, coe_sum, bits_256, bits_eps]
  rw [div_coe _ _ (by norm_num), ← EReal.coe_add]
theorem v27 (t : Fin 256) (h : Fin 4) (z : Fin 1) : val_main_v27 (F := Ideal) x2 (ix3 t h z) = ((rr (K h t) : ℝ) : EReal) := by
  pointwise [val_main_v27]
  rw [v26 H, rsqrt_ms]
theorem v30 (t : Fin 256) (h : Fin 4) (z : Fin 1) : val_main_v30 (F := Ideal) x2 (ix3 t h z) = ((-(1/2) * (rr (K h t) * (rr (K h t) * rr (K h t))) : ℝ) : EReal) := by
  pointwise [val_main_v30, val_main_v29, val_main_v28, val_main_cst_6]
  rw [v26 H, v27 H, div_coe _ _ (ms_pos _).ne', bits_neg_half, ← EReal.coe_mul, rr_sq]
  norm_num [div_eq_mul_inv]
theorem v32 (t : Fin 256) (h : Fin 4) (d : Fin 256) : val_main_v32 (F := Ideal) x2 (ix3 t h d) = ((hat (K h t) d : ℝ) : EReal) := by
  pointwise [val_main_v32, val_main_v31]
  rw [v19 H, v27 H, ← EReal.coe_mul]; rfl
theorem v35 (t : Fin 256) (h : Fin 4) (d : Fin 256) : val_main_v35 (F := Ideal) x2 x4 (ix3 t h d) = ((nrm (K h t) gk d : ℝ) : EReal) := by
  pointwise [val_main_v35, val_main_v34, val_main_v33]
  rw [v32 H, H.gk, ← EReal.coe_mul]; rfl

theorem v40 (h : Fin 4) (t : Fin 2048) (i : Fin 256) : val_main_v40 (F := Ideal) x1 x2 x3 x4 (ix3 h t i) = ((sc (Q h t) (K h i) gq gk : ℝ) : EReal) := by
  pointwise [val_main_v40, val_main_v39, val_main_v38, val_main_cst_7]
  simp only [v17 H, v35 H, ← EReal.coe_mul, coe_sum, bits_sixteenth]
  rfl

theorem v61 : ∃ M : Fin 4 → Fin 2048 → ℝ, ∀ (h : Fin 4) (t : Fin 2048) (i : Fin 256),
    val_main_v61 (F := Ideal) x1 x2 x3 x4 (ix3 h t i) = ((Real.exp (sc (Q h t) (K h i) gq gk - M h t) : ℝ) : EReal) := by
  choose M hM using fun (h : Fin 4) (t : Fin 2048) => fold_max (by norm_num : 0 < 256) (fun i => sc (Q h t) (K h i) gq gk)
  refine ⟨M, fun h t i => ?_⟩
  pointwise [val_main_v61, val_main_v60, val_main_v59, val_main_v58, val_main_v48, val_main_v47, val_main_v41, val_main_cst_8, val_main_cst_10]
  simp only [v40 H, bits_bot, hM]
  rw [max_eq_right bot_le, ← EReal.coe_sub, Ideal.exp_coe]

omit H in
/-- The gradient of a softmax weight's score, the way the reference spells it. -/
theorem ds_eq (e dp : Fin 256 → ℝ) (z : ℝ) (hz : z ≠ 0) (i : Fin 256) :
    (dp i / z + -∑ k, dp k * (1 / (z * z)) * e k) * e i * (1 / 16) = e i / z * (dp i - ∑ k, dp k * (e k / z)) * (1 / 16) := by
  have : ∑ k, dp k * (1 / (z * z)) * e k = (∑ k, dp k * (e k / z)) / z := by
    rw [Finset.sum_div]
    refine Finset.sum_congr rfl fun k _ => ?_
    field_simp
  rw [this]
  field_simp
  ring

omit H in
/-- The gradient of a row through its normalisation, the way the reference spells it. -/
theorem dn_eq (x g u : Fin 256 → ℝ) (d : Fin 256) :
    u d * g d * rr x + x d * ((∑ k, x k * (u k * g k)) * (-(1/2) * (rr x * (rr x * rr x))) / 256)
      + (∑ k, x k * (u k * g k)) * (-(1/2) * (rr x * (rr x * rr x))) / 256 * x d = dnrm x g u d := by
  unfold dnrm hat
  have : ∑ k, u k * g k * (x k * rr x) = (∑ k, x k * (u k * g k)) * rr x := by
    rw [Finset.sum_mul]
    exact Finset.sum_congr rfl fun k _ => by ring
  rw [this]
  ring

theorem v65_91 : (∀ (h : Fin 4) (t : Fin 2048) (i : Fin 256), val_main_v65 (F := Ideal) x1 x2 x3 x4 (ix3 h t i) = ((XaGrad.P Q K gq gk h t i : ℝ) : EReal))
    ∧ ∀ (h : Fin 4) (t : Fin 2048) (i : Fin 256), val_main_v91 (F := Ideal) x0 x1 x2 x3 x4 (ix3 h t i) = ((XaGrad.DS D Q K V gq gk h t i : ℝ) : EReal) := by
  obtain ⟨M, hM⟩ := v61 H
  have hz (h : Fin 4) (t : Fin 2048) : (∑ k, Real.exp (sc (Q h t) (K h k) gq gk - M h t)) ≠ 0 :=
    (sum_exp_pos fun k => sc (Q h t) (K h k) gq gk - M h t).ne'
  have h63 (h : Fin 4) (t : Fin 2048) (z : Fin 1) : val_main_v63 (F := Ideal) x1 x2 x3 x4 (ix3 h t z) =
      ((∑ k, Real.exp (sc (Q h t) (K h k) gq gk - M h t) : ℝ) : EReal) := by
    pointwise [val_main_v63, val_main_v62, val_main_cst_16]
    simp only [hM, coe_sum]
  have h75 (h : Fin 4) (t : Fin 2048) (i : Fin 256) : val_main_v75 (F := Ideal) x0 x2 (ix3 h t i) = ((∑ d, D h t d * V h i d : ℝ) : EReal) := by
    pointwise [val_main_v75]
    simp only [v74 H, v37 H, ← EReal.coe_mul, coe_sum]
  refine ⟨fun h t i => ?_, fun h t i => ?_⟩
  · pointwise [val_main_v65, val_main_v64]
    rw [hM, h63, div_coe _ _ (hz h t), soft_shift fun k => sc (Q h t) (K h k) gq gk]
    rfl
  · have h80 (k : Fin 256) : val_main_v80 (F := Ideal) x0 x1 x2 x3 x4 (ix3 h t k) =
        (((∑ d, D h t d * V h k d) * (1 / ((∑ k, Real.exp (sc (Q h t) (K h k) gq gk - M h t)) * (∑ k, Real.exp (sc (Q h t) (K h k) gq gk - M h t))))
          * Real.exp (sc (Q h t) (K h k) gq gk - M h t) : ℝ) : EReal) := by
      pointwise [val_main_v80, val_main_v79, val_main_v78, val_main_v68, val_main_v67, val_main_v66, val_main_cst_17]
      rw [hM, h63, h75, ← EReal.coe_mul, ← EReal.coe_one, div_coe _ _ (mul_ne_zero (hz h t) (hz h t)), ← EReal.coe_mul, ← EReal.coe_mul]
    pointwise [val_main_v91, val_main_v90, val_main_v89, val_main_v88, val_main_v87, val_main_v86, val_main_v85, val_main_v84, val_main_v83, val_main_v82, val_main_v81, val_main_cst_18, val_main_cst_19, val_main_cst_20]
    simp only [Finset.univ_unique, Finset.sum_singleton, h80, hM, h63, h75, coe_sum, div_coe _ _ (hz h t), bits_sixteenth, ← EReal.coe_neg, ← EReal.coe_add, ← EReal.coe_mul]
    rw [ds_eq (fun k => Real.exp (sc (Q h t) (K h k) gq gk - M h t)) (fun k => ∑ d, D h t d * V h k d) _ (hz h t)]
    simp only [soft_shift fun k => sc (Q h t) (K h k) gq gk]
    rfl

theorem v77 (i : Fin 256) (h : Fin 4) (d : Fin 256) : val_main_v77 (F := Ideal) x0 x1 x2 x3 x4 (ix3 i h d) = ((XaGrad.DV D Q K gq gk h i d : ℝ) : EReal) := by
  pointwise [val_main_v77, val_main_v76]
  simp only [v74 H, (v65_91 H).1, ← EReal.coe_mul, coe_sum]
  unfold XaGrad.DV
  simp only [mul_comm]

theorem v93 (i : Fin 256) (h : Fin 4) (d : Fin 256) : val_main_v93 (F := Ideal) x0 x1 x2 x3 x4 (ix3 i h d) = ((XaGrad.DKN D Q K V gq gk h i d : ℝ) : EReal) := by
  pointwise [val_main_v93, val_main_v92]
  simp only [v17 H, (v65_91 H).2, ← EReal.coe_mul, coe_sum]
  rfl

theorem v95 (t : Fin 2048) (h : Fin 4) (d : Fin 256) : val_main_v95 (F := Ideal) x0 x1 x2 x3 x4 (ix3 t h d) = ((XaGrad.DQN D Q K V gq gk h t d : ℝ) : EReal) := by
  pointwise [val_main_v95, val_main_v94]
  simp only [v35 H, (v65_91 H).2, ← EReal.coe_mul, coe_sum]
  rfl

theorem v117 (i : Fin 256) (h : Fin 4) (d : Fin 256) : val_main_v117 (F := Ideal) x0 x1 x2 x3 x4 (ix3 i h d) = ((XaGrad.DK D Q K V gq gk h i d : ℝ) : EReal) := by
  have h102 (k : Fin 256) : val_main_v102 (F := Ideal) x0 x1 x2 x3 x4 (ix3 i h k) = ((XaGrad.DKN D Q K V gq gk h i k * gk k : ℝ) : EReal) := by
    pointwise [val_main_v102, val_main_v101, val_main_v33]
    rw [v93 H, H.gk, ← EReal.coe_mul]
  pointwise [val_main_v117, val_main_v116, val_main_v115, val_main_v114, val_main_v113, val_main_v112, val_main_v111, val_main_v110, val_main_v109, val_main_v108, val_main_v107, val_main_v106, val_main_v105, val_main_v104, val_main_cst_24, val_main_cst_25, val_main_cst_26]
  simp only [Finset.univ_unique, Finset.sum_singleton, h102, v19 H, v27 H, v30 H, bits_256, coe_sum, ← EReal.coe_add, ← EReal.coe_mul]
  rw [div_coe _ _ (by norm_num)]
  simp only [← EReal.coe_add, ← EReal.coe_mul]
  exact congrArg _ (dn_eq (K h i) gk (XaGrad.DKN D Q K V gq gk h i) d)

theorem v140 (t : Fin 2048) (h : Fin 4) (d : Fin 256) : val_main_v140 (F := Ideal) x0 x1 x2 x3 x4 (ix3 t h d) = ((XaGrad.DQ D Q K V gq gk h t d : ℝ) : EReal) := by
  have h125 (k : Fin 256) : val_main_v125 (F := Ideal) x0 x1 x2 x3 x4 (ix3 t h k) = ((XaGrad.DQN D Q K V gq gk h t k * gq k : ℝ) : EReal) := by
    pointwise [val_main_v125, val_main_v124, val_main_v15]
    rw [v95 H, H.gq, ← EReal.coe_mul]
  pointwise [val_main_v140, val_main_v139, val_main_v138, val_main_v137, val_main_v136, val_main_v135, val_main_v134, val_main_v133, val_main_v132, val_main_v131, val_main_v130, val_main_v129, val_main_v128, val_main_v127, val_main_cst_30, val_main_cst_31, val_main_cst_32]
  simp only [Finset.univ_unique, Finset.sum_singleton, h125, v1 H, v9 H, v12 H, bits_256, coe_sum, ← EReal.coe_add, ← EReal.coe_mul]
  rw [div_coe _ _ (by norm_num)]
  simp only [← EReal.coe_add, ← EReal.coe_mul]
  exact congrArg _ (dn_eq (Q h t) gq (XaGrad.DQN D Q K V gq gk h t) d)

theorem v142 (t : Fin 2048) (h : Fin 4) (d : Fin 256) : val_main_v142 (F := Ideal) x0 x1 x2 x3 x4 (ix2 t (⟨h.val * 256 + d.val, by omega⟩ : Fin 1024)) = ((XaGrad.DQ D Q K V gq gk h t d : ℝ) : EReal) := by
  pointwise [val_main_v142, val_main_v141]
  exact v140 H t h d

theorem v143 (t : Fin 256) (h : Fin 4) (d : Fin 256) : val_main_v143 (F := Ideal) x0 x1 x2 x3 x4 (ix2 t (⟨h.val * 256 + d.val, by omega⟩ : Fin 1024)) = ((XaGrad.DK D Q K V gq gk h t d : ℝ) : EReal) := by
  pointwise [val_main_v143, val_main_v120, val_main_v119, val_main_v118, val_main_v97, val_main_v96, val_main_cst_21, val_main_cst_27]
  have h1 : h.val * 256 + d.val < 1024 := by omega
  rw [dif_neg (by omega), dif_pos h1, zero_add]
  exact v117 H t h d

theorem v144 (t : Fin 256) (h : Fin 4) (d : Fin 256) : val_main_v144 (F := Ideal) x0 x1 x2 x3 x4 (ix2 t (⟨h.val * 256 + d.val, by omega⟩ : Fin 1024)) = ((XaGrad.DV D Q K gq gk h t d : ℝ) : EReal) := by
  pointwise [val_main_v144, val_main_v120, val_main_v119, val_main_v118, val_main_v97, val_main_v96, val_main_cst_21, val_main_cst_27]
  have h1 : h.val * 256 + d.val < 1024 := by omega
  rw [dif_pos h1]
  exact v77 H t h d

theorem v145 (z : Fin 1) (d : Fin 256) : val_main_v145 (F := Ideal) x0 x1 x2 x3 x4 (ix2 z d) = ((XaGrad.DGQ D Q K V gq gk d : ℝ) : EReal) := by
  pointwise [val_main_v145, val_main_v126, val_main_cst_29]
  rw [reduce01]
  simp only [Finset.univ_unique, Finset.sum_singleton, zero_add]
  pointwise [val_main_v123, val_main_v122, val_main_cst_28]
  rw [reduce01, zero_add]
  pointwise [val_main_v121]
  simp only [v14 H, v95 H, ← EReal.coe_mul, coe_sum]
  unfold XaGrad.DGQ
  rw [Finset.sum_comm]
  simp only [mul_comm]

theorem v146 (z : Fin 1) (d : Fin 256) : val_main_v146 (F := Ideal) x0 x1 x2 x3 x4 (ix2 z d) = ((XaGrad.DGK D Q K V gq gk d : ℝ) : EReal) := by
  pointwise [val_main_v146, val_main_v103, val_main_cst_23]
  rw [reduce01]
  simp only [Finset.univ_unique, Finset.sum_singleton, zero_add]
  pointwise [val_main_v100, val_main_v99, val_main_cst_22]
  rw [reduce01, zero_add]
  pointwise [val_main_v98]
  simp only [v32 H, v93 H, ← EReal.coe_mul, coe_sum]
  unfold XaGrad.DGK
  rw [Finset.sum_comm]
  simp only [mul_comm]

end XaRefVal
end
-- ==== Proof.XaClaim.lean ====
/- The claims about the backward call of the memory attention. -/
module

public import proofs.«01_k».proof.Defs
public import proofs.«01_k».proof.Proof.Gen.Xa.Frame
public import proofs.«01_k».proof.Proof.Gen.Pre_finite_xa
public import proofs.«01_k».proof.Proof.XaSweep
public import proofs.«01_k».proof.Proof.XaRefVal
public import proofs.«01_k».proof.Proof.Gen.XaRefIdeal.Run
public import Idealize.ShloMosaic.Adequacy
public import Idealize.ShloMosaic.Init

@[expose] public section

set_option maxRecDepth 16384

noncomputable section

namespace XaClaim

open Idealize.ShloMosaic Idealize.ShloMosaic.TcCoe Idealize.SL.Sem RealVal

/-! ## The frames -/

theorem frame_p : Cert.quiescent_Xa (hXa := Cert.Xa.Gen.facts) := fun m ρ _ => Cert.Xa.Gen.frame m ρ

theorem frame_pi : Cert.quiescent_XaIdeal (hXaIdeal := Cert.XaIdeal.Gen.facts) := fun m ρ _ => Cert.XaIdeal.Gen.frame m ρ

theorem frame_pi' : Cert.quiescent_XaIdeal_pre_finite_xa (hXaIdeal := Cert.XaIdeal.Gen.facts) (hPre_finite_xa := Cert.Pre_finite_xa.Gen.facts) :=
  fun m ρ _ => Cert.XaIdeal.Gen.frame m ρ

theorem frame_ri : Cert.quiescent_XaRefIdeal (hXaRefIdeal := Cert.XaRefIdeal.Gen.facts) := fun m ρ _ =>
  (θ_run Cert.XaRefIdeal.defs _ _).mono (fun r h => ⟨fun c => (h c).2.2.2.2.2,
      Idealize.ShloMosaic.sem_eq_zero_of_no_sems (by decide) r.2⟩)
    (Cert.XaRefIdeal.Value.run (F := Ideal) m ρ)

theorem frame_ri' : Cert.quiescent_XaRefIdeal_pre_finite_xa (hXaRefIdeal := Cert.XaRefIdeal.Gen.facts) (hPre_finite_xa := Cert.Pre_finite_xa.Gen.facts) :=
  fun m ρ _ => frame_ri m ρ trivial

/-! ## Finite arguments are reals -/

section
open Cert.Pre_finite_xa
variable (x0 : FVec Ideal S2048x4096 .f32) (x1 : FVec Ideal S2048x14336 .f32) (x2 : FVec Ideal S256x2048 .f32) (x3 x4 : FVec Ideal S256 .f32)

theorem lt_top {x : EReal} (h : Ideal.cmp .olt (max x (-x)) ⊤ = 1#1) : ∃ r : ℝ, x = r := by
  refine real_of_abs ?_
  by_contra hn
  simp [Ideal.cmp, hn] at h

theorem real0 (h : (fn (F := Ideal) x0 x1 x2 x3 x4).1 = fun _ => 1#1) (t : Fin 2048) (e : Fin 1024) :
    ∃ r : ℝ, x0 (ix2 t (⟨3072 + e.val, by omega⟩ : Fin 4096)) = r := by
  have := congrFun h (ix2 t e)
  pointwise [fn] at this
  rw [bits_top] at this
  exact lt_top this

theorem real1 (h : (fn (F := Ideal) x0 x1 x2 x3 x4).2.1 = fun _ => 1#1) (t : Fin 2048) (e : Fin 1024) :
    ∃ r : ℝ, x1 (ix2 t (⟨9216 + e.val, by omega⟩ : Fin 14336)) = r := by
  have := congrFun h (ix2 t e)
  pointwise [fn] at this
  rw [bits_top] at this
  exact lt_top this

theorem real2 (h : (fn (F := Ideal) x0 x1 x2 x3 x4).2.2.1 = fun _ => 1#1) (t : Fin 256) (e : Fin 2048) :
    ∃ r : ℝ, x2 (ix2 t e) = r := by
  have := congrFun h (ix2 t e)
  pointwise [fn] at this
  rw [bits_top] at this
  exact lt_top this

theorem real3 (h : (fn (F := Ideal) x0 x1 x2 x3 x4).2.2.2.1 = fun _ => 1#1) (e : Fin 256) : ∃ r : ℝ, x3 (ix1 e) = r := by
  have := congrFun h (ix1 e)
  pointwise [fn] at this
  rw [bits_top] at this
  exact lt_top this

theorem real4 (h : (fn (F := Ideal) x0 x1 x2 x3 x4).2.2.2.2 = fun _ => 1#1) (e : Fin 256) : ∃ r : ℝ, x4 (ix1 e) = r := by
  have := congrFun h (ix1 e)
  pointwise [fn] at this
  rw [bits_top] at this
  exact lt_top this

end

/-! ## The two programs' results -/

/-- Two arrays of 1024 columns are equal if they hold the same reals, head by head. -/
theorem ext_heads {a : ℕ} {x y : (⟨2, ![a, 1024]⟩ : Shape).Idx → EReal} (f : Fin 4 → Fin a → Fin 256 → ℝ)
    (hx : ∀ (h : Fin 4) (t : Fin a) (d : Fin 256), x (ix2 t (⟨h.val * 256 + d.val, by omega⟩ : Fin 1024)) = ((f h t d : ℝ) : EReal))
    (hy : ∀ (h : Fin 4) (t : Fin a) (d : Fin 256), y (ix2 t (⟨h.val * 256 + d.val, by omega⟩ : Fin 1024)) = ((f h t d : ℝ) : EReal)) : x = y := by
  have key : ∀ (t : Fin a) (e : Fin 1024), x (ix2 t e) = y (ix2 t e) := by
    intro t e
    have he : e = (⟨(⟨e.val / 256, by omega⟩ : Fin 4).val * 256 + (⟨e.val % 256, by omega⟩ : Fin 256).val, by show e.val / 256 * 256 + e.val % 256 < 1024; omega⟩ : Fin 1024) :=
      Fin.ext (by show e.val = e.val / 256 * 256 + e.val % 256; omega)
    rw [he]
    exact (hx _ _ _).trans (hy _ _ _).symm
  funext i
  rw [eq_ix2 i]
  exact key _ _

theorem ext_row {x y : (⟨2, ![1, 256]⟩ : Shape).Idx → EReal} (f : Fin 256 → ℝ)
    (hx : ∀ (z : Fin 1) (d : Fin 256), x (ix2 z d) = ((f d : ℝ) : EReal))
    (hy : ∀ (z : Fin 1) (d : Fin 256), y (ix2 z d) = ((f d : ℝ) : EReal)) : x = y := by
  funext i
  idx_vars i
  exact (hx _ _).trans (hy _ _).symm

theorem algebraic : Cert.algebraic_XaIdeal_XaRefIdeal_pre_finite_xa (hXaIdeal := Cert.XaIdeal.Gen.facts)
    (hXaRefIdeal := Cert.XaRefIdeal.Gen.facts) (hPre_finite_xa := Cert.Pre_finite_xa.Gen.facts) := by
  intro m ρ m' ρ' hpre hag
  have key : ∀ c : Dev Cert.XaIdeal.nD, ∃ (D Q : Fin 4 → Fin 2048 → Fin 256 → ℝ) (K V : Fin 4 → Fin 256 → Fin 256 → ℝ) (gq gk : Fin 256 → ℝ),
      XaStep.Reads m c D Q K V gq gk ∧ XaRefVal.Reads D Q K V gq gk (m' ((c.tc : Thread Cert.XaRefIdeal.nD Cert.XaRefIdeal.τ).loc Cert.XaRefIdeal.main_arg0))
        (m' ((c.tc : Thread Cert.XaRefIdeal.nD Cert.XaRefIdeal.τ).loc Cert.XaRefIdeal.main_arg1))
        (m' ((c.tc : Thread Cert.XaRefIdeal.nD Cert.XaRefIdeal.τ).loc Cert.XaRefIdeal.main_arg2))
        (m' ((c.tc : Thread Cert.XaRefIdeal.nD Cert.XaRefIdeal.τ).loc Cert.XaRefIdeal.main_arg3))
        (m' ((c.tc : Thread Cert.XaRefIdeal.nD Cert.XaRefIdeal.τ).loc Cert.XaRefIdeal.main_arg4)) := by
    intro c
    obtain ⟨p0, p1, p2, p3, p4⟩ := hpre c
    obtain ⟨a0, a1, a2, a3, a4⟩ := hag c
    choose f0 h0 using real0 _ _ _ _ _ p0
    choose f1 h1 using real1 _ _ _ _ _ p1
    choose f2 h2 using real2 _ _ _ _ _ p2
    choose f3 h3 using real3 _ _ _ _ _ p3
    choose f4 h4 using real4 _ _ _ _ _ p4
    rw [a0, a1, a2, a3, a4]
    exact ⟨fun h t d => f0 t ⟨h.val * 256 + d.val, by omega⟩, fun h t d => f1 t ⟨h.val * 256 + d.val, by omega⟩,
      fun h t d => f2 t ⟨h.val * 256 + d.val, by omega⟩, fun h t d => f2 t ⟨1024 + (h.val * 256 + d.val), by omega⟩, f3, f4,
      ⟨fun h t d => h0 t ⟨h.val * 256 + d.val, by omega⟩, fun h t d => h1 t ⟨h.val * 256 + d.val, by omega⟩, fun h t d => h2 t ⟨h.val * 256 + d.val, by omega⟩, fun h t d => h2 t ⟨1024 + (h.val * 256 + d.val), by omega⟩, h3, h4⟩,
      ⟨fun h t d => h0 t ⟨h.val * 256 + d.val, by omega⟩, fun h t d => h1 t ⟨h.val * 256 + d.val, by omega⟩, fun h t d => h2 t ⟨h.val * 256 + d.val, by omega⟩, fun h t d => h2 t ⟨1024 + (h.val * 256 + d.val), by omega⟩, h3, h4⟩⟩
  refine ⟨fun c => Cert.XaIdeal.Value.G6 m c, fun c => Cert.XaIdeal.Value.G7 m c, fun c => Cert.XaIdeal.Value.G8 m c,
    fun c => Cert.XaIdeal.Value.G9 m c, fun c => Cert.XaIdeal.Value.G10 m c, Cert.XaIdeal.Value.run m ρ,
    (θ_run Cert.XaRefIdeal.defs _ _).mono (fun r h c => ?_) (Cert.XaRefIdeal.Value.run (F := Ideal) m' ρ')⟩
  obtain ⟨D, Q, K, V, gq, gk, H, H'⟩ := key c
  obtain ⟨r0, r1, r2, r3, r4, rest⟩ := h c
  refine ⟨?_, ?_, ?_, ?_, ?_, rest⟩
  · rw [r0, Cert.XaRefIdeal.Read.val_main_v142_eq]
    exact ext_heads _ (fun h t d => XaRefVal.v142 H' t h d) (XaSweep.G6_eq H)
  · rw [r1, Cert.XaRefIdeal.Read.val_main_v143_eq]
    exact ext_heads _ (fun h t d => XaRefVal.v143 H' t h d) (XaSweep.G7_eq H)
  · rw [r2, Cert.XaRefIdeal.Read.val_main_v144_eq]
    exact ext_heads _ (fun h t d => XaRefVal.v144 H' t h d) (XaSweep.G8_eq H)
  · rw [r3, Cert.XaRefIdeal.Read.val_main_v145_eq]
    exact ext_row _ (XaRefVal.v145 H') (XaSweep.G9_eq H)
  · rw [r4, Cert.XaRefIdeal.Read.val_main_v146_eq]
    exact ext_row _ (XaRefVal.v146 H') (XaSweep.G10_eq H)

end XaClaim

end
-- ==== Proof.SbReal.lean ====
/- The stick-breaking attention of one head over the reals: the weights, and the gradients of the scores, of the rows and of the
   gains; the terms both programs are read as. Rows are numbered by all the naturals. -/
module

public import proofs.«01_k».proof.Proof.RealVal

@[expose] public section

noncomputable section

namespace SbReal

open RealVal

/-- The softplus of a number. -/
def sp (x : ℝ) : ℝ := max x 0 + Real.log (1 + Real.exp (-|x|))

theorem sp_arg_pos (x : ℝ) : 0 < 1 + Real.exp (-|x|) := by positivity

theorem sp_neg (x : ℝ) : sp (-x) = sp x - x := by
  unfold sp
  rw [abs_neg]
  rcases le_total x 0 with h | h
  · rw [max_eq_left (by linarith : (0:ℝ) ≤ -x), max_eq_right h]; ring
  · rw [max_eq_right (by linarith : -x ≤ (0:ℝ)), max_eq_left h]; ring

/-- A score's chance of stopping here, and of going on. -/
theorem exp_stop_go (x : ℝ) : Real.exp (x - sp x) + Real.exp (-sp x) = 1 := by
  have h1 := sp_arg_pos x
  unfold sp
  have e : ∀ y : ℝ, Real.exp (y - (max x 0 + Real.log (1 + Real.exp (-|x|)))) = Real.exp (y - max x 0) / (1 + Real.exp (-|x|)) := by
    intro y
    rw [← sub_sub, Real.exp_sub, Real.exp_log h1]
  have e2 := e 0
  rw [zero_sub, zero_sub] at e2
  rw [e, e2, ← add_div, div_eq_one_iff_eq h1.ne']
  rcases le_total x 0 with h | h
  · rw [max_eq_right h, abs_of_nonpos h]; simp [add_comm]
  · rw [max_eq_left h, abs_of_nonneg h]; simp

/-- The rows of one head: normalised queries (with the scale), normalised keys, values, and the gradient of the output. -/
structure Head where
  qn : ℕ → Fin 128 → ℝ
  kn : ℕ → Fin 128 → ℝ
  v : ℕ → Fin 128 → ℝ
  g : ℕ → Fin 128 → ℝ

variable (H : Head)

/-- The score of query `t` and key `s`. -/
def z (t s : ℕ) : ℝ := ∑ d, H.qn t d * H.kn s d

/-- The logarithm of what key `s` leaves of the stick, -/
def lr (t s : ℕ) : ℝ := if s < t then -sp (z H t s) else 0

/-- over all keys. -/
def tot (t : ℕ) : ℝ := ∑ s ∈ Finset.range 2048, lr H t s

/-- The share of the stick key `s` breaks off where its own part has log `l`. -/
def stop (t s : ℕ) : ℝ := z H t s - sp (z H t s)

/-- The weight of key `s`. -/
def wt (t s : ℕ) : ℝ := if s < t then Real.exp (stop H t s + (tot H t - ∑ u ∈ Finset.range (s + 1), lr H t u)) else 0

/-- The weight's gradient times the weight. -/
def b (t s : ℕ) : ℝ := (∑ d, H.g t d * H.v s d) * wt H t s

/-- The gradient of the score. -/
def dz (t s : ℕ) : ℝ :=
  if s < t then b H t s * (1 - Real.exp (stop H t s)) - (∑ u ∈ Finset.range s, b H t u) * Real.exp (stop H t s) else 0

theorem wt_of_not {t s : ℕ} (h : ¬s < t) : wt H t s = 0 := if_neg h
theorem b_of_not {t s : ℕ} (h : ¬s < t) : b H t s = 0 := by unfold b; rw [wt_of_not H h, mul_zero]
theorem dz_of_not {t s : ℕ} (h : ¬s < t) : dz H t s = 0 := if_neg h
theorem lr_of_not {t s : ℕ} (h : ¬s < t) : lr H t s = 0 := if_neg h

/-- A prefix sum cut at a tile of 256: its own part over the tile's columns. -/
theorem sum_tile (f : ℕ → ℝ) (j : ℕ) (c : Fin 256) (p : ℕ → Prop) [DecidablePred p] (m : ℕ) (hm : m ≤ 256) (hp : ∀ x < 256, p x ↔ x < m) :
    ∑ s ∈ Finset.range (256 * j + m), f s = (∑ s ∈ Finset.range (256 * j), f s) + ∑ x : Fin 256, f (256 * j + x.val) * (if p x.val then 1 else 0) := by
  rw [Finset.sum_range_add, Finset.sum_range (n := m)]
  congr 1
  rw [← Finset.sum_range (f := fun x => f (256 * j + x)), ← Finset.sum_range (f := fun x => f (256 * j + x) * (if p x then 1 else 0))]
  rw [← Finset.sum_subset (Finset.range_mono hm)]
  · refine Finset.sum_congr rfl fun x hx => ?_
    have := Finset.mem_range.mp hx
    rw [if_pos ((hp x (by omega)).mpr this), mul_one]
  · intro x hx hn
    rw [Finset.mem_range] at hx hn
    rw [if_neg (fun h => hn ((hp x hx).mp h)), mul_zero]

/-- A prefix sum one tile further. -/
theorem sum_next (f : ℕ → ℝ) (j : ℕ) :
    ∑ s ∈ Finset.range (256 * (j + 1)), f s = (∑ s ∈ Finset.range (256 * j), f s) + ∑ x : Fin 256, f (256 * j + x.val) := by
  rw [mul_add, mul_one, Finset.sum_range_add, Finset.sum_range (n := 256)]

end SbReal

end
-- ==== Proof.SbTile.lean ====
/- A tile of the stick-breaking gradient kernel over the reals: what each payload of the key-block loop holds. -/
module

public import proofs.«01_k».proof.Proof.SbReal
public import proofs.«01_k».proof.Proof.Gen.SbIdeal.Skeleton
public import Idealize.ShloMosaic.Lib.Pointwise
public import Idealize.ShloMosaic.Lib.WordCmp

@[expose] public section

set_option maxRecDepth 16384

noncomputable section

namespace SbTile

open Idealize.ShloMosaic Idealize.ShloMosaic.TcCoe Cert.SbIdeal Cert.SbIdeal.Gen RealVal SbReal

theorem ex2 {P : Fin 2 → Prop} (h0 : P 0) (h1 : P 1) (a : Fin 2) : P a := by
  match a with
  | ⟨0, _⟩ => exact h0
  | ⟨1, _⟩ => exact h1

/-- The softplus as the kernels spell it. -/
theorem sp_coe (x : ℝ) : max (x : EReal) 0 + Ideal.log (1 + Ideal.exp (0 - FloatOps.absf (F := Ideal) (φ := .f32) (x : EReal))) = ((sp x : ℝ) : EReal) := by
  have e1 : FloatOps.absf (F := Ideal) (φ := .f32) (x : EReal) = ((|x| : ℝ) : EReal) := by
    change max (x : EReal) (-(x : EReal)) = _
    rw [← EReal.coe_neg, ← (EReal.coe_strictMono.monotone.map_max (a := x) (b := -x)), abs_eq_max_neg]
  rw [e1, ← EReal.coe_zero, ← EReal.coe_sub, Ideal.exp_coe, ← EReal.coe_one, ← EReal.coe_add, zero_sub, Ideal.log_coe,
    if_neg (not_le.mpr (sp_arg_pos x)), ← (EReal.coe_strictMono.monotone.map_max (a := x) (b := 0)), ← EReal.coe_add]
  rfl

theorem sitofp_ofBool (p : Prop) [Decidable p] : FloatOps.sitofp (F := Ideal) .f32 (BitVec.setWidth 32 (BitVec.ofBool (decide p))) = (((if p then 1 else 0 : ℝ)) : EReal) := by
  change ((((BitVec.setWidth 32 (BitVec.ofBool (decide p))).toInt : ℝ)) : EReal) = _
  by_cases h : p <;> simp [h]

theorem pay67 (r c : Fin 256) : (k0_pay67 : FVec Ideal S256x256 .bf16) (ix2 r c) = (((if r.val < c.val + 1 then 1 else 0 : ℝ)) : EReal) := by
  pointwise [k0_pay67]
  have hr := r.isLt
  have hc := c.isLt
  rw [WordCmp.cmpi_sle_ofNat (by omega) (by omega), sitofp_ofBool]
  simp only [Nat.lt_succ_iff]

theorem pay69 (r c : Fin 256) : (k0_pay69 k0_pay68 : FVec Ideal S256x256 .bf16) (ix2 r c) = (((if r.val < c.val then 1 else 0 : ℝ)) : EReal) := by
  pointwise [k0_pay69, k0_pay68]
  have hr := r.isLt
  have hc := c.isLt
  rw [WordCmp.cmpi_slt_ofNat (by omega) (by omega), sitofp_ofBool]

variable (H : Fin 2 → Head) (i j : ℕ)
  (v72 v76 : FVec Ideal S256x256 .bf16)
  (h72 : ∀ x c, v72 (ix2 x c) = (((if x.val < c.val + 1 then 1 else 0 : ℝ)) : EReal))
  (h76 : ∀ x c, v76 (ix2 x c) = (((if x.val < c.val then 1 else 0 : ℝ)) : EReal))
  (v154 : Vec Ideal S2x256x128 .bf16) (v382 : Vec Ideal S2x256x128 .bf16)
  (h154 : ∀ a r d, v154 (ix3 a r d) = (((H a).qn (256 * i + r.val) d : ℝ) : EReal))
  (h382 : ∀ a r d, v382 (ix3 a r d) = (((H a).kn (256 * j + r.val) d : ℝ) : EReal))
  (v162 : FVec Ideal S2x256x128 .bf16) (v441 : Vec Ideal S2x256x128 .bf16)
  (h162 : ∀ a r d, v162 (ix3 a r d) = (((H a).g (256 * i + r.val) d : ℝ) : EReal))
  (h441 : ∀ a r d, v441 (ix3 a r d) = (((H a).v (256 * j + r.val) d : ℝ) : EReal))
  (v173 run runb : FVec Ideal S2x256x1 .f32)
  (h173 : ∀ a r, v173 (ix3 a r 0) = ((tot (H a) (256 * i + r.val) : ℝ) : EReal))
  (hrun : ∀ a r, run (ix3 a r 0) = ((∑ s ∈ Finset.range (256 * j), lr (H a) (256 * i + r.val) s : ℝ) : EReal))
  (hrunb : ∀ a r, runb (ix3 a r 0) = ((∑ s ∈ Finset.range (256 * j), b (H a) (256 * i + r.val) s : ℝ) : EReal))

include h154 h382 in
theorem pay2 (a : Fin 2) (r c : Fin 256) : k0_pay2 v154 v382 (ix3 a r c) = ((z (H a) (256 * i + r.val) (256 * j + c.val) : ℝ) : EReal) := by
  refine ex2 (P := fun a => k0_pay2 v154 v382 (ix3 a r c) = ((z (H a) (256 * i + r.val) (256 * j + c.val) : ℝ) : EReal)) ?_ ?_ a
  · pointwise [k0_pay2]
    simp only [h154, h382, ← EReal.coe_mul, coe_sum]
    rfl
  · pointwise [k0_pay2]
    simp only [h154, h382, ← EReal.coe_mul, coe_sum]
    rfl

include h154 h382 in
theorem pay3 (a : Fin 2) (r c : Fin 256) : k0_pay3 v154 v382 (ix3 a r c) = ((sp (z (H a) (256 * i + r.val) (256 * j + c.val)) : ℝ) : EReal) := by
  pointwise [k0_pay3]
  rw [pay2 H i j v154 v382 h154 h382]
  exact sp_coe _

include h154 h382 in
theorem pay4 (a : Fin 2) (r c : Fin 256) : k0_pay4 v154 v382 (ix3 a r c) = ((stop (H a) (256 * i + r.val) (256 * j + c.val) : ℝ) : EReal) := by
  pointwise [k0_pay4]
  rw [pay2 H i j v154 v382 h154 h382, pay3 H i j v154 v382 h154 h382, ← EReal.coe_sub]
  rfl

section
variable (hj : 256 * j + 256 ≤ 256 * i)

include h154 h382 hj in
theorem pay5 (a : Fin 2) (r c : Fin 256) : k0_pay5 v154 v382 (ix3 a r c) = ((lr (H a) (256 * i + r.val) (256 * j + c.val) : ℝ) : EReal) := by
  have hc := c.isLt
  pointwise [k0_pay5]
  rw [pay3 H i j v154 v382 h154 h382, ← EReal.coe_zero, ← EReal.coe_sub, zero_sub]
  unfold lr
  rw [if_pos (by omega)]

include h154 h382 hj in
theorem pay7 (a : Fin 2) (r c : Fin 256) : k0_pay7 v154 v382 (ix3 a r c) = ((0 : ℝ) : EReal) := by
  pointwise [k0_pay7, k0_pay6]
  rw [pay5 H i j v154 v382 h154 h382 hj, ← EReal.coe_sub, sub_self]

include h154 h382 hj in
theorem pay9 (r c : Fin 256) : k0_pay9 v154 v382 (ix3 0 r c) = ((0 : ℝ) : EReal) := by
  pointwise [k0_pay9]
  exact pay7 H i j v154 v382 h154 h382 hj 0 r c

include h154 h382 h72 hj in
theorem pay8 (a : Fin 2) (r c : Fin 256) : k0_pay8 v72 v154 v382 (ix3 a r c) = ((∑ x : Fin 256, lr (H a) (256 * i + r.val) (256 * j + x.val) * (if x.val < c.val + 1 then 1 else 0) : ℝ) : EReal) := by
  refine ex2 (P := fun a => k0_pay8 v72 v154 v382 (ix3 a r c) = ((∑ x : Fin 256, lr (H a) (256 * i + r.val) (256 * j + x.val) * (if x.val < c.val + 1 then 1 else 0) : ℝ) : EReal)) ?_ ?_ a
  · pointwise [k0_pay8, k0_pay6]
    simp only [pay5 H i j v154 v382 h154 h382 hj, h72, ← EReal.coe_mul, coe_sum]

  · pointwise [k0_pay8, k0_pay6]
    simp only [pay5 H i j v154 v382 h154 h382 hj, h72, ← EReal.coe_mul, coe_sum]

end

section
variable (hj : 256 * j + 256 ≤ 256 * i)
  (v408 v423 : FVec Ideal S2x256x256 .f32) (v414 : FVec Ideal S2x256x256 .bf16) (v424 : FVec Ideal S1x256x256 .bf16)
  (h408 : ∀ a r c, v408 (ix3 a r c) = ((stop (H a) (256 * i + r.val) (256 * j + c.val) : ℝ) : EReal))
  (h414 : ∀ a r c, v414 (ix3 a r c) = ((0 : ℝ) : EReal))
  (h423 : ∀ a r c, v423 (ix3 a r c) = ((∑ x : Fin 256, lr (H a) (256 * i + r.val) (256 * j + x.val) * (if x.val < c.val + 1 then 1 else 0) : ℝ) : EReal))
  (h424 : ∀ r c, v424 (ix3 0 r c) = ((0 : ℝ) : EReal))

include h72 h173 hrun h408 h414 h423 h424 hj in
theorem pay10 (a : Fin 2) (r c : Fin 256) : k0_pay10 v72 v173 run v408 v414 v423 v424 (ix3 a r c) = ((wt (H a) (256 * i + r.val) (256 * j + c.val) : ℝ) : EReal) := by
  have hc := c.isLt
  refine ex2 (P := fun a => k0_pay10 v72 v173 run v408 v414 v423 v424 (ix3 a r c) = ((wt (H a) (256 * i + r.val) (256 * j + c.val) : ℝ) : EReal)) ?_ ?_ a
  · pointwise [k0_pay10]
    simp only [h72, h173, hrun, h408, h414, h423, h424, ← EReal.coe_mul, coe_sum, ← EReal.coe_add, ← EReal.coe_sub, Ideal.exp_coe]
    unfold wt
    rw [if_pos (by omega), add_assoc (256 * j) c.val 1, sum_tile (fun s => lr (H 0) (256 * i + r.val) s) j c (fun x => x < c.val + 1) (c.val + 1) (by omega) (fun x _ => Iff.rfl)]
    simp only [zero_mul, Finset.sum_const_zero, add_zero]
    rw [add_comm (∑ s ∈ Finset.range (256 * j), _)]
  · pointwise [k0_pay10]
    simp only [h72, h173, hrun, h408, h414, h423, h424, ← EReal.coe_mul, coe_sum, ← EReal.coe_add, ← EReal.coe_sub, Ideal.exp_coe]
    unfold wt
    rw [if_pos (by omega), add_assoc (256 * j) c.val 1, sum_tile (fun s => lr (H 1) (256 * i + r.val) s) j c (fun x => x < c.val + 1) (c.val + 1) (by omega) (fun x _ => Iff.rfl)]
    simp only [zero_mul, Finset.sum_const_zero, add_zero]
    rw [add_comm (∑ s ∈ Finset.range (256 * j), _)]

include h72 h173 hrun h408 h414 h423 h424 hj h162 h441 in
theorem pay11 (a : Fin 2) (r c : Fin 256) : k0_pay11 v72 v162 v173 run v408 v414 v423 v424 v441 (ix3 a r c) = ((b (H a) (256 * i + r.val) (256 * j + c.val) : ℝ) : EReal) := by
  refine ex2 (P := fun a => k0_pay11 v72 v162 v173 run v408 v414 v423 v424 v441 (ix3 a r c) = ((b (H a) (256 * i + r.val) (256 * j + c.val) : ℝ) : EReal)) ?_ ?_ a
  · pointwise [k0_pay11]
    simp only [h162, h441, pay10 H i j v72 h72 v173 run h173 hrun hj v408 v423 v414 v424 h408 h414 h423 h424, ← EReal.coe_mul, coe_sum]
    rfl
  · pointwise [k0_pay11]
    simp only [h162, h441, pay10 H i j v72 h72 v173 run h173 hrun hj v408 v423 v414 v424 h408 h414 h423 h424, ← EReal.coe_mul, coe_sum]
    rfl

include h72 h76 h173 hrun hrunb h408 h414 h423 h424 hj h162 h441 in
theorem pay12 (a : Fin 2) (r c : Fin 256) : k0_pay12 v72 v76 v162 v173 run runb v408 v414 v423 v424 v441 (ix3 a r c) = ((dz (H a) (256 * i + r.val) (256 * j + c.val) : ℝ) : EReal) := by
  have hc := c.isLt
  refine ex2 (P := fun a => k0_pay12 v72 v76 v162 v173 run runb v408 v414 v423 v424 v441 (ix3 a r c) = ((dz (H a) (256 * i + r.val) (256 * j + c.val) : ℝ) : EReal)) ?_ ?_ a
  · pointwise [k0_pay12]
    simp only [h76, h408, hrunb, pay11 H i j v72 h72 v162 v441 h162 h441 v173 run h173 hrun hj v408 v423 v414 v424 h408 h414 h423 h424, Ideal.exp_coe, ← EReal.coe_one, ← EReal.coe_mul, coe_sum, ← EReal.coe_add, ← EReal.coe_sub]
    unfold dz
    rw [if_pos (by omega), sum_tile (fun s => b (H 0) (256 * i + r.val) s) j c (fun x => x < c.val) c.val (by omega) (fun x _ => Iff.rfl)]
    rw [add_comm (∑ s ∈ Finset.range (256 * j), _)]
  · pointwise [k0_pay12]
    simp only [h76, h408, hrunb, pay11 H i j v72 h72 v162 v441 h162 h441 v173 run h173 hrun hj v408 v423 v414 v424 h408 h414 h423 h424, Ideal.exp_coe, ← EReal.coe_one, ← EReal.coe_mul, coe_sum, ← EReal.coe_add, ← EReal.coe_sub]
    unfold dz
    rw [if_pos (by omega), sum_tile (fun s => b (H 1) (256 * i + r.val) s) j c (fun x => x < c.val) c.val (by omega) (fun x _ => Iff.rfl)]
    rw [add_comm (∑ s ∈ Finset.range (256 * j), _)]

end

section
variable (v439 : FVec Ideal S2x256x256 .f32) (w : Fin 2 → ℕ → ℕ → ℝ)
  (h439 : ∀ a r c, v439 (ix3 a r c) = ((w a (256 * i + r.val) (256 * j + c.val) : ℝ) : EReal))
  (v475 : FVec Ideal S2x256x256 .bf16)
  (h475 : ∀ a r c, v475 (ix3 a r c) = ((w a (256 * i + r.val) (256 * j + c.val) : ℝ) : EReal))
  (v477 : Vec Ideal S2x256x128 .f32) (o : Fin 2 → Fin 256 → Fin 128 → ℝ)
  (h477 : ∀ a r d, v477 (ix3 a r d) = ((o a r d : ℝ) : EReal))
  (v1 : FVec Ideal S2x256x1 .f32) (o1 : Fin 2 → Fin 256 → ℝ)
  (h1 : ∀ a r, v1 (ix3 a r 0) = ((o1 a r : ℝ) : EReal))

include h439 h162 h477 in
theorem pay13 (a : Fin 2) (c : Fin 256) (d : Fin 128) : k0_pay13 v162 v439 v477 (ix3 a c d) = ((o a c d + ∑ r : Fin 256, w a (256 * i + r.val) (256 * j + c.val) * (H a).g (256 * i + r.val) d : ℝ) : EReal) := by
  refine ex2 (P := fun a => k0_pay13 v162 v439 v477 (ix3 a c d) = ((o a c d + ∑ r : Fin 256, w a (256 * i + r.val) (256 * j + c.val) * (H a).g (256 * i + r.val) d : ℝ) : EReal)) ?_ ?_ a
  · pointwise [k0_pay13]
    simp only [h439, h162, h477, ← EReal.coe_mul, coe_sum, ← EReal.coe_add]
  · pointwise [k0_pay13]
    simp only [h439, h162, h477, ← EReal.coe_mul, coe_sum, ← EReal.coe_add]

include h475 h154 h477 in
theorem pay14 (a : Fin 2) (c : Fin 256) (d : Fin 128) : k0_pay14 v154 v475 v477 (ix3 a c d) = ((o a c d + ∑ r : Fin 256, w a (256 * i + r.val) (256 * j + c.val) * (H a).qn (256 * i + r.val) d : ℝ) : EReal) := by
  refine ex2 (P := fun a => k0_pay14 v154 v475 v477 (ix3 a c d) = ((o a c d + ∑ r : Fin 256, w a (256 * i + r.val) (256 * j + c.val) * (H a).qn (256 * i + r.val) d : ℝ) : EReal)) ?_ ?_ a
  · pointwise [k0_pay14]
    simp only [h475, h154, h477, ← EReal.coe_mul, coe_sum, ← EReal.coe_add]
  · pointwise [k0_pay14]
    simp only [h475, h154, h477, ← EReal.coe_mul, coe_sum, ← EReal.coe_add]

include h475 h382 h477 in
theorem pay36 (a : Fin 2) (r : Fin 256) (d : Fin 128) : k0_pay36 v477 v382 v475 (k0_pay15 v475) (k0_pay16 v382) (ix3 a r d) = ((o a r d + ∑ c : Fin 256, w a (256 * i + r.val) (256 * j + c.val) * (H a).kn (256 * j + c.val) d : ℝ) : EReal) := by
  refine ex2 (P := fun a => k0_pay36 v477 v382 v475 (k0_pay15 v475) (k0_pay16 v382) (ix3 a r d) = ((o a r d + ∑ c : Fin 256, w a (256 * i + r.val) (256 * j + c.val) * (H a).kn (256 * j + c.val) d : ℝ) : EReal)) ?_ ?_ a
  · pointwise [k0_pay36, k0_pay15, k0_pay16]
    simp only [h475, h382, h477, ← EReal.coe_mul, coe_sum, ← EReal.coe_add]
  · pointwise [k0_pay36, k0_pay15, k0_pay16]
    simp only [h475, h382, h477, ← EReal.coe_mul, coe_sum, ← EReal.coe_add]

include h439 h1 in
theorem pay37 (a : Fin 2) (r : Fin 256) : k0_pay37 v1 v439 (ix3 a r 0) = ((o1 a r + ∑ c : Fin 256, w a (256 * i + r.val) (256 * j + c.val) : ℝ) : EReal) := by
  pointwise [k0_pay37]
  simp only [h439, h1, coe_sum, ← EReal.coe_add]

include h439 h1 in
theorem pay38 (a : Fin 2) (r : Fin 256) : k0_pay38 v1 v439 (ix3 a r 0) = ((o1 a r + ∑ c : Fin 256, w a (256 * i + r.val) (256 * j + c.val) : ℝ) : EReal) := by
  pointwise [k0_pay38]
  simp only [h439, h1, coe_sum, ← EReal.coe_add]

end

end SbTile

end
-- ==== Proof.SbDiag.lean ====
/- The diagonal tile of the stick-breaking gradient kernel over the reals: what each payload of the masked step holds. -/
module

public import proofs.«01_k».proof.Proof.SbTile

@[expose] public section

set_option maxRecDepth 16384

noncomputable section

namespace SbTile

open Idealize.ShloMosaic Idealize.ShloMosaic.TcCoe Cert.SbIdeal Cert.SbIdeal.Gen RealVal SbReal

variable (H : Fin 2 → Head) (i : ℕ)
  (v72 v76 : FVec Ideal S256x256 .bf16)
  (h72 : ∀ x c, v72 (ix2 x c) = (((if x.val < c.val + 1 then 1 else 0 : ℝ)) : EReal))
  (h76 : ∀ x c, v76 (ix2 x c) = (((if x.val < c.val then 1 else 0 : ℝ)) : EReal))
  (v154 : Vec Ideal S2x256x128 .bf16) (v382 : Vec Ideal S2x256x128 .bf16)
  (h154 : ∀ a r d, v154 (ix3 a r d) = (((H a).qn (256 * i + r.val) d : ℝ) : EReal))
  (h382 : ∀ a r d, v382 (ix3 a r d) = (((H a).kn (256 * i + r.val) d : ℝ) : EReal))
  (v162 : FVec Ideal S2x256x128 .bf16) (v441 : Vec Ideal S2x256x128 .bf16)
  (h162 : ∀ a r d, v162 (ix3 a r d) = (((H a).g (256 * i + r.val) d : ℝ) : EReal))
  (h441 : ∀ a r d, v441 (ix3 a r d) = (((H a).v (256 * i + r.val) d : ℝ) : EReal))
  (v173 run runb : FVec Ideal S2x256x1 .f32)
  (h173 : ∀ a r, v173 (ix3 a r 0) = ((tot (H a) (256 * i + r.val) : ℝ) : EReal))
  (hrun : ∀ a r, run (ix3 a r 0) = ((∑ s ∈ Finset.range (256 * i), lr (H a) (256 * i + r.val) s : ℝ) : EReal))
  (hrunb : ∀ a r, runb (ix3 a r 0) = ((∑ s ∈ Finset.range (256 * i), b (H a) (256 * i + r.val) s : ℝ) : EReal))

include h154 h382 in
theorem pay42 (a : Fin 2) (r c : Fin 256) : k0_pay42 v154 v382 (ix3 a r c) = ((z (H a) (256 * i + r.val) (256 * i + c.val) : ℝ) : EReal) := by
  refine ex2 (P := fun a => k0_pay42 v154 v382 (ix3 a r c) = ((z (H a) (256 * i + r.val) (256 * i + c.val) : ℝ) : EReal)) ?_ ?_ a
  · pointwise [k0_pay42]
    simp only [h154, h382, ← EReal.coe_mul, coe_sum]
    rfl
  · pointwise [k0_pay42]
    simp only [h154, h382, ← EReal.coe_mul, coe_sum]
    rfl

include h154 h382 in
theorem pay43 (a : Fin 2) (r c : Fin 256) : k0_pay43 v154 v382 (ix3 a r c) = ((sp (z (H a) (256 * i + r.val) (256 * i + c.val)) : ℝ) : EReal) := by
  pointwise [k0_pay43]
  rw [pay42 H i v154 v382 h154 h382]
  exact sp_coe _

include h154 h382 in
theorem pay44 (a : Fin 2) (r c : Fin 256) : k0_pay44 v154 v382 (ix3 a r c) = ((stop (H a) (256 * i + r.val) (256 * i + c.val) : ℝ) : EReal) := by
  pointwise [k0_pay44]
  rw [pay42 H i v154 v382 h154 h382, pay43 H i v154 v382 h154 h382, ← EReal.coe_sub]
  rfl

/-- The mask of the diagonal: keys before the query. -/
theorem pay45 (n : ℕ) (hn : n < 8) (r c : Fin 256) : k0_pay45 (BitVec.ofNat 32 n) (BitVec.ofNat 32 n) (ix2 r c) = BitVec.ofBool (decide (c.val < r.val)) := by
  pointwise [k0_pay45]
  have hr := r.isLt
  have hc := c.isLt
  have e : ∀ x : ℕ, IntOp.addi (Scalar.muli (BitVec.ofNat 32 n) 256#32) (BitVec.ofNat 32 x) = BitVec.ofNat 32 (n * 256 + x) := fun x => by
    rw [BitVec.ofNat_add, BitVec.ofNat_mul]; rfl
  rw [e, e, WordCmp.cmpi_slt_ofNat (by omega) (by omega)]
  simp only [Nat.add_lt_add_iff_left]

theorem sel (p : Prop) [Decidable p] (x y : EReal) : Scalar.select (BitVec.ofBool (decide p)) x y = if p then x else y := by
  by_cases h : p <;> simp [h, Scalar.select]

section
variable (v237 : IVec S256x256 1) (h237 : ∀ r c, v237 (ix2 r c) = BitVec.ofBool (decide (c.val < r.val)))
  (v229 v230 : FVec Ideal S2x256x256 .f32)
  (h229 : ∀ a r c, v229 (ix3 a r c) = ((sp (z (H a) (256 * i + r.val) (256 * i + c.val)) : ℝ) : EReal))
  (h230 : ∀ a r c, v230 (ix3 a r c) = ((stop (H a) (256 * i + r.val) (256 * i + c.val) : ℝ) : EReal))
  (v276 : FVec Ideal S2x256x256 .f32) (v283 : FVec Ideal S256x256 .f32)
  (h276 : ∀ a r c, v276 (ix3 a r c) = ((wt (H a) (256 * i + r.val) (256 * i + c.val) : ℝ) : EReal))

theorem lt_diag (r c : Fin 256) : 256 * i + c.val < 256 * i + r.val ↔ c.val < r.val := by omega

/-- The masked log remainder. -/
theorem lr_diag (a : Fin 2) (r c : Fin 256) :
    (if c.val < r.val then (0 : EReal) - ((sp (z (H a) (256 * i + r.val) (256 * i + c.val)) : ℝ) : EReal) else 0) = ((lr (H a) (256 * i + r.val) (256 * i + c.val) : ℝ) : EReal) := by
  unfold lr
  by_cases h : c.val < r.val
  · rw [if_pos h, if_pos (by omega), ← EReal.coe_zero, ← EReal.coe_sub, zero_sub]
  · rw [if_neg h, if_neg (by omega), EReal.coe_zero]

theorem lr_diag_mul (a : Fin 2) (r c : Fin 256) (w : EReal) :
    (if c.val < r.val then ((0 : EReal) - ((sp (z (H a) (256 * i + r.val) (256 * i + c.val)) : ℝ) : EReal)) * w else 0) = ((lr (H a) (256 * i + r.val) (256 * i + c.val) : ℝ) : EReal) * w := by
  rw [← lr_diag]
  by_cases h : c.val < r.val
  · rw [if_pos h, if_pos h]
  · rw [if_neg h, if_neg h, zero_mul]

include h72 h173 hrun h237 h229 h230 in
theorem pay46 (a : Fin 2) (r c : Fin 256) : k0_pay46 v72 v173 run v229 v230 v237 (ix3 a r c) = ((wt (H a) (256 * i + r.val) (256 * i + c.val) : ℝ) : EReal) := by
  have hc := c.isLt
  refine ex2 (P := fun a => k0_pay46 v72 v173 run v229 v230 v237 (ix3 a r c) = ((wt (H a) (256 * i + r.val) (256 * i + c.val) : ℝ) : EReal)) ?_ ?_ a
  · pointwise [k0_pay46]
    simp only [h72, h173, hrun, h237, h229, h230, sel, lr_diag H i, lr_diag_mul H i, ← EReal.coe_sub, ← EReal.coe_mul, coe_sum, ← EReal.coe_add, Ideal.exp_coe]
    unfold wt
    by_cases h : c.val < r.val
    · rw [if_pos h, if_pos (by omega), add_assoc (256 * i) c.val 1, sum_tile (fun s => lr (H 0) (256 * i + r.val) s) i c (fun x => x < c.val + 1) (c.val + 1) (by omega) (fun x _ => Iff.rfl)]
      simp only [sub_self, zero_mul, Finset.sum_const_zero, add_zero]
      rw [add_comm (∑ s ∈ Finset.range (256 * i), _)]
    · rw [if_neg h, if_neg (by omega), EReal.coe_zero]
  · pointwise [k0_pay46]
    simp only [h72, h173, hrun, h237, h229, h230, sel, lr_diag H i, lr_diag_mul H i, ← EReal.coe_sub, ← EReal.coe_mul, coe_sum, ← EReal.coe_add, Ideal.exp_coe]
    unfold wt
    by_cases h : c.val < r.val
    · rw [if_pos h, if_pos (by omega), add_assoc (256 * i) c.val 1, sum_tile (fun s => lr (H 1) (256 * i + r.val) s) i c (fun x => x < c.val + 1) (c.val + 1) (by omega) (fun x _ => Iff.rfl)]
      simp only [sub_self, zero_mul, Finset.sum_const_zero, add_zero]
      rw [add_comm (∑ s ∈ Finset.range (256 * i), _)]
    · rw [if_neg h, if_neg (by omega), EReal.coe_zero]

include h76 h162 h441 hrunb h237 h276 h230 in
theorem pay50 (a : Fin 2) (r c : Fin 256) : k0_pay50 v76 runb v230 v237 v276 (k0_pay47 v162 v441) (k0_pay48 v162) (k0_pay49 v441) (ix3 a r c) = ((dz (H a) (256 * i + r.val) (256 * i + c.val) : ℝ) : EReal) := by
  have hc := c.isLt
  refine ex2 (P := fun a => k0_pay50 v76 runb v230 v237 v276 (k0_pay47 v162 v441) (k0_pay48 v162) (k0_pay49 v441) (ix3 a r c) = ((dz (H a) (256 * i + r.val) (256 * i + c.val) : ℝ) : EReal)) ?_ ?_ a
  · pointwise [k0_pay50, k0_pay47, k0_pay48, k0_pay49]
    simp only [h76, h162, h441, h276, hrunb, h237, h230, sel, Ideal.exp_coe, ← EReal.coe_one, ← EReal.coe_sub, ← EReal.coe_mul, coe_sum, ← EReal.coe_add]
    unfold dz
    by_cases h : c.val < r.val
    · rw [if_pos h, if_pos (by omega), sum_tile (fun s => b (H 0) (256 * i + r.val) s) i c (fun x => x < c.val) c.val (by omega) (fun x _ => Iff.rfl)]
      rw [add_comm (∑ s ∈ Finset.range (256 * i), _)]
      rfl
    · rw [if_neg h, if_neg (by omega), EReal.coe_zero]
  · pointwise [k0_pay50, k0_pay47, k0_pay48, k0_pay49]
    simp only [h76, h162, h441, h276, hrunb, h237, h230, sel, Ideal.exp_coe, ← EReal.coe_one, ← EReal.coe_sub, ← EReal.coe_mul, coe_sum, ← EReal.coe_add]
    unfold dz
    by_cases h : c.val < r.val
    · rw [if_pos h, if_pos (by omega), sum_tile (fun s => b (H 1) (256 * i + r.val) s) i c (fun x => x < c.val) c.val (by omega) (fun x _ => Iff.rfl)]
      rw [add_comm (∑ s ∈ Finset.range (256 * i), _)]
      rfl
    · rw [if_neg h, if_neg (by omega), EReal.coe_zero]

end

/-- The kernel's scale, as its word holds it. -/
def scale : ℝ := 11863283 / 2 ^ 27

theorem bits_scale : Ideal.ofBits .f32 0x3DB504F3#32 = ((scale : ℝ) : EReal) := by
  unfold scale; simp [Ideal.ofBits, Ideal.ieee, -EReal.coe_mul]; norm_num

section
variable (v439 : FVec Ideal S2x256x256 .f32) (w : Fin 2 → ℕ → ℕ → ℝ)
  (h439 : ∀ a r c, v439 (ix3 a r c) = ((w a (256 * i + r.val) (256 * i + c.val) : ℝ) : EReal))
  (v475 : FVec Ideal S2x256x256 .bf16)
  (h475 : ∀ a r c, v475 (ix3 a r c) = ((w a (256 * i + r.val) (256 * i + c.val) : ℝ) : EReal))
  (v477 : Vec Ideal S2x256x128 .f32) (o : Fin 2 → Fin 256 → Fin 128 → ℝ)
  (h477 : ∀ a r d, v477 (ix3 a r d) = ((o a r d : ℝ) : EReal))

include h439 h162 h477 in
theorem pay52 (a : Fin 2) (c : Fin 256) (d : Fin 128) : k0_pay52 (k0_pay51 v162 v439 v477) (ix3 a c d) = ((o a c d + ∑ r : Fin 256, w a (256 * i + r.val) (256 * i + c.val) * (H a).g (256 * i + r.val) d : ℝ) : EReal) := by
  refine ex2 (P := fun a => k0_pay52 (k0_pay51 v162 v439 v477) (ix3 a c d) = ((o a c d + ∑ r : Fin 256, w a (256 * i + r.val) (256 * i + c.val) * (H a).g (256 * i + r.val) d : ℝ) : EReal)) ?_ ?_ a
  · pointwise [k0_pay52, k0_pay51]
    simp only [h439, h162, h477, ← EReal.coe_mul, coe_sum, ← EReal.coe_add]
  · pointwise [k0_pay52, k0_pay51]
    simp only [h439, h162, h477, ← EReal.coe_mul, coe_sum, ← EReal.coe_add]

include h475 h154 h477 in
theorem pay53 (a : Fin 2) (c : Fin 256) (d : Fin 128) : k0_pay53 v154 v475 v477 (ix3 a c d) = ((o a c d + ∑ r : Fin 256, w a (256 * i + r.val) (256 * i + c.val) * (H a).qn (256 * i + r.val) d : ℝ) : EReal) := by
  refine ex2 (P := fun a => k0_pay53 v154 v475 v477 (ix3 a c d) = ((o a c d + ∑ r : Fin 256, w a (256 * i + r.val) (256 * i + c.val) * (H a).qn (256 * i + r.val) d : ℝ) : EReal)) ?_ ?_ a
  · pointwise [k0_pay53]
    simp only [h475, h154, h477, ← EReal.coe_mul, coe_sum, ← EReal.coe_add]
  · pointwise [k0_pay53]
    simp only [h475, h154, h477, ← EReal.coe_mul, coe_sum, ← EReal.coe_add]

include h475 h382 h477 in
theorem pay54 (a : Fin 2) (r : Fin 256) (d : Fin 128) : k0_pay54 v477 v382 v475 (ix3 a r d) = (((o a r d + ∑ c : Fin 256, w a (256 * i + r.val) (256 * i + c.val) * (H a).kn (256 * i + c.val) d) * scale : ℝ) : EReal) := by
  refine ex2 (P := fun a => k0_pay54 v477 v382 v475 (ix3 a r d) = (((o a r d + ∑ c : Fin 256, w a (256 * i + r.val) (256 * i + c.val) * (H a).kn (256 * i + c.val) d) * scale : ℝ) : EReal)) ?_ ?_ a
  · pointwise [k0_pay54]
    simp only [h475, h382, h477, bits_scale, ← EReal.coe_mul, coe_sum, ← EReal.coe_add]
  · pointwise [k0_pay54]
    simp only [h475, h382, h477, bits_scale, ← EReal.coe_mul, coe_sum, ← EReal.coe_add]

end

end SbTile

end
-- ==== Proof.SbLoop.lean ====
module

public import proofs.«01_k».proof.Proof.Gen.SbIdeal.Frame
public import proofs.«01_k».proof.Proof.Gen.SbIdeal.Loops

/-! The sweep over the eight query blocks of `_sb_bwd`: one block at a symbolic number, with the key-block loop inside it by
its own invariant, and the sweep's invariant over it. The pieces a block writes into the accumulators of dk and dv are functions
of what it finds there; so is its piece of dq, which does not read what stood in its own accumulator. -/

@[expose] public section

set_option maxRecDepth 16384
set_option maxHeartbeats 8000000

noncomputable section

namespace Cert.SbIdeal.Own

open Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What a query block touches: the inputs and the normalised operands at their contents, the three accumulators at any. -/
abbrev Block (c : Dev nD) (arg1 : Memref sig .tc .vmem S2048x256 .f32) (arg2 : Memref sig .tc .vmem S2048x256 .f32) (arg3 : Memref sig .tc .vmem S2048x256 .f32) (arg4 : Memref sig .tc .vmem S2048x256 .f32) (arg5 : Memref sig .tc .vmem S2048x256 .f32) (arg6 : Memref sig .tc .vmem S1x128 .f32) (arg7 : Memref sig .tc .vmem S1x128 .f32) (arg8 : Memref sig .tc .vmem S2048x256 .bf16) (arg9 : Memref sig .tc .vmem S2048x256 .bf16) (arg10 : Memref sig .tc .vmem S2048x256 .bf16) (arg11 : Memref sig .tc .vmem S1x128 .f32) (arg12 : Memref sig .tc .vmem S1x128 .f32) (arg13 : Memref sig .tc .vmem S2x2048x128 .bf16) (arg14 : Memref sig .tc .vmem S2x2048x128 .bf16) (arg15 : Memref sig .tc .vmem S2x2048x128 .bf16) (arg16 : Memref sig .tc .vmem S2x2048x128 .f32) (arg17 : Memref sig .tc .vmem S2x2048x128 .f32) (arg18 : Memref sig .tc .vmem S2x2048x128 .f32) (X_arg1 : BufTy.Contents (Elt F) arg1.view.ty) (X_arg2 : BufTy.Contents (Elt F) arg2.view.ty) (X_arg13 : BufTy.Contents (Elt F) arg13.view.ty) (X_arg14 : BufTy.Contents (Elt F) arg14.view.ty) (X_arg15 : BufTy.Contents (Elt F) arg15.view.ty) (f_arg16 : BufTy.Contents (Elt F) arg16.view.ty) (f_arg17 : BufTy.Contents (Elt F) arg17.view.ty) (f_arg18 : BufTy.Contents (Elt F) arg18.view.ty) : sProp 𝕄G :=
  iprop((arg1.view.loc (c : Thread nD τ) ↦[arg1.view.set]{fullShare} X_arg1) ∗ (arg2.view.loc (c : Thread nD τ) ↦[arg2.view.set]{fullShare} X_arg2) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18))

section

variable (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S2x2048x128 .bf16) (harg13 : arg13.IsWhole) (arg14 : Memref sig .tc .vmem S2x2048x128 .bf16) (harg14 : arg14.IsWhole) (arg15 : Memref sig .tc .vmem S2x2048x128 .bf16) (harg15 : arg15.IsWhole) (arg16 : Memref sig .tc .vmem S2x2048x128 .f32) (harg16 : arg16.IsWhole) (arg17 : Memref sig .tc .vmem S2x2048x128 .f32) (harg17 : arg17.IsWhole) (arg18 : Memref sig .tc .vmem S2x2048x128 .f32) (harg18 : arg18.IsWhole) (arg0 : BitVec 32) (v4 : FVec F S2x2048x128 .f32) (v9 : FVec F S2x2048x128 .f32) (v17 : FVec F S2x2048x1 .f32) (v25 : FVec F S2x2048x1 .f32) (v27 : FVec F S1x128 .f32) (v72 : FVec F S256x256 .bf16) (v73 : IVec S256x256 1) (X_arg1 : BufTy.Contents (Elt F) arg1.view.ty) (X_arg2 : BufTy.Contents (Elt F) arg2.view.ty) (X_arg13 : BufTy.Contents (Elt F) arg13.view.ty) (X_arg14 : BufTy.Contents (Elt F) arg14.view.ty) (X_arg15 : BufTy.Contents (Elt F) arg15.view.ty)

/-- One query block: the pieces it writes into the three accumulators. -/
@[irreducible] def block (k : Fin k0_t1_loop.trips) :
    Σ' (L_arg16 : BufTy.Contents (Elt F) arg16.view.ty → BufTy.Contents (Elt F) arg18.view.ty → List (View.Piece (Elt F) S2x2048x128 .f32)) (L_arg17 : BufTy.Contents (Elt F) arg16.view.ty → BufTy.Contents (Elt F) arg18.view.ty → List (View.Piece (Elt F) S2x2048x128 .f32)), { L_arg18 : BufTy.Contents (Elt F) arg16.view.ty → BufTy.Contents (Elt F) arg18.view.ty → List (View.Piece (Elt F) S2x2048x128 .f32) // ∀ (E : Set ℕ) (f_arg16 : BufTy.Contents (Elt F) arg16.view.ty) (f_arg17 : BufTy.Contents (Elt F) arg17.view.ty) (f_arg18 : BufTy.Contents (Elt F) arg18.view.ty),
      Block (F := F) c arg1 arg2 arg3 arg4 arg5 arg6 arg7 arg8 arg9 arg10 arg11 arg12 arg13 arg14 arg15 arg16 arg17 arg18 X_arg1 X_arg2 X_arg13 X_arg14 X_arg15 f_arg16 f_arg17 f_arg18
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 k ())
          (fun _ => Block (F := F) c arg1 arg2 arg3 arg4 arg5 arg6 arg7 arg8 arg9 arg10 arg11 arg12 arg13 arg14 arg15 arg16 arg17 arg18 X_arg1 X_arg2 X_arg13 X_arg14 X_arg15 (arg16.view.writes (Elt F) f_arg16 (L_arg16 f_arg16 f_arg18)) (arg17.view.writes (Elt F) f_arg17 (L_arg17 f_arg16 f_arg18)) (arg18.view.writes (Elt F) f_arg18 (L_arg18 f_arg16 f_arg18))) } := by
  refine ⟨?_, ?_, ?_, fun E f_arg16 f_arg17 f_arg18 => ?run⟩
  case run =>
    unfold k0_t1_body
    iintro ⟨HR_arg1, HR_arg2, HR_arg13, HR_arg14, HR_arg15, HW_arg16, HW_arg17, HW_arg18⟩
    sl_exec
    sl_step
    sl_close

/-- The pieces of the blocks before block `k`, last first, over the contents the sweep starts from. -/
@[irreducible] def sweepStep (G_arg16 : BufTy.Contents (Elt F) arg16.view.ty) (G_arg18 : BufTy.Contents (Elt F) arg18.view.ty) (k : ℕ) (p : List (View.Piece (Elt F) S2x2048x128 .f32) × List (View.Piece (Elt F) S2x2048x128 .f32) × List (View.Piece (Elt F) S2x2048x128 .f32)) : List (View.Piece (Elt F) S2x2048x128 .f32) × List (View.Piece (Elt F) S2x2048x128 .f32) × List (View.Piece (Elt F) S2x2048x128 .f32) :=
  if h : k < k0_t1_loop.trips then
    ((block (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 ⟨k, h⟩).1 (arg16.view.writes (Elt F) G_arg16 p.1) (arg18.view.writes (Elt F) G_arg18 p.2.2) ++ p.1,
     (block (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 ⟨k, h⟩).2.1 (arg16.view.writes (Elt F) G_arg16 p.1) (arg18.view.writes (Elt F) G_arg18 p.2.2) ++ p.2.1,
     (block (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 ⟨k, h⟩).2.2.1 (arg16.view.writes (Elt F) G_arg16 p.1) (arg18.view.writes (Elt F) G_arg18 p.2.2) ++ p.2.2)
  else p

def sweep (G_arg16 : BufTy.Contents (Elt F) arg16.view.ty) (G_arg18 : BufTy.Contents (Elt F) arg18.view.ty) : ℕ → List (View.Piece (Elt F) S2x2048x128 .f32) × List (View.Piece (Elt F) S2x2048x128 .f32) × List (View.Piece (Elt F) S2x2048x128 .f32)
  | 0 => ([], [], [])
  | k + 1 => sweepStep 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 G_arg16 G_arg18 k (sweep G_arg16 G_arg18 k)

theorem sweep_succ (G_arg16 : BufTy.Contents (Elt F) arg16.view.ty) (G_arg18 : BufTy.Contents (Elt F) arg18.view.ty) (k : Fin k0_t1_loop.trips) :
    sweep (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 G_arg16 G_arg18 (k.val + 1) = (let p := sweep (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 G_arg16 G_arg18 k.val
    ((block (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 k).1 (arg16.view.writes (Elt F) G_arg16 p.1) (arg18.view.writes (Elt F) G_arg18 p.2.2) ++ p.1,
     (block (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 k).2.1 (arg16.view.writes (Elt F) G_arg16 p.1) (arg18.view.writes (Elt F) G_arg18 p.2.2) ++ p.2.1,
     (block (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 k).2.2.1 (arg16.view.writes (Elt F) G_arg16 p.1) (arg18.view.writes (Elt F) G_arg18 p.2.2) ++ p.2.2)) := by
  rw [sweep.eq_2]; unfold sweepStep; exact dif_pos k.isLt

abbrev inv (G_arg16 : BufTy.Contents (Elt F) arg16.view.ty) (G_arg17 : BufTy.Contents (Elt F) arg17.view.ty) (G_arg18 : BufTy.Contents (Elt F) arg18.view.ty) (k : ℕ) (_ : Unit) : sProp 𝕄G :=
  iprop((arg1.view.loc (c : Thread nD τ) ↦[arg1.view.set]{fullShare} X_arg1) ∗ (arg2.view.loc (c : Thread nD τ) ↦[arg2.view.set]{fullShare} X_arg2) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (∃ f, (arg16.view.loc (c : Thread nD τ) ↦[arg16.view.set]{fullShare} f) ∗ ⌜f = arg16.view.writes (Elt F) G_arg16 (sweep (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 G_arg16 G_arg18 k).1⌝) ∗ (∃ f, (arg17.view.loc (c : Thread nD τ) ↦[arg17.view.set]{fullShare} f) ∗ ⌜f = arg17.view.writes (Elt F) G_arg17 (sweep (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 G_arg16 G_arg18 k).2.1⌝) ∗ (∃ f, (arg18.view.loc (c : Thread nD τ) ↦[arg18.view.set]{fullShare} f) ∗ ⌜f = arg18.view.writes (Elt F) G_arg18 (sweep (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 G_arg16 G_arg18 k).2.2⌝))

end

set_option warn.classDefReducibility false in
/-- The sweep by its invariant. -/
@[sl_loop] def loopInv (𝒱 : Variants) (c : Dev nD) (bd : Option 𝒱.V) (E : Set ℕ) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S2x2048x128 .bf16) (harg13 : arg13.IsWhole) (arg14 : Memref sig .tc .vmem S2x2048x128 .bf16) (harg14 : arg14.IsWhole) (arg15 : Memref sig .tc .vmem S2x2048x128 .bf16) (harg15 : arg15.IsWhole) (arg16 : Memref sig .tc .vmem S2x2048x128 .f32) (harg16 : arg16.IsWhole) (arg17 : Memref sig .tc .vmem S2x2048x128 .f32) (harg17 : arg17.IsWhole) (arg18 : Memref sig .tc .vmem S2x2048x128 .f32) (harg18 : arg18.IsWhole) (arg0 : BitVec 32) (v4 : FVec F S2x2048x128 .f32) (v9 : FVec F S2x2048x128 .f32) (v17 : FVec F S2x2048x1 .f32) (v25 : FVec F S2x2048x1 .f32) (v27 : FVec F S1x128 .f32) (v72 : FVec F S256x256 .bf16) (v73 : IVec S256x256 1) (X_arg1 : BufTy.Contents (Elt F) arg1.view.ty) (X_arg2 : BufTy.Contents (Elt F) arg2.view.ty) (X_arg13 : BufTy.Contents (Elt F) arg13.view.ty) (X_arg14 : BufTy.Contents (Elt F) arg14.view.ty) (X_arg15 : BufTy.Contents (Elt F) arg15.view.ty) (G_arg16 : BufTy.Contents (Elt F) arg16.view.ty) (G_arg17 : BufTy.Contents (Elt F) arg17.view.ty) (G_arg18 : BufTy.Contents (Elt F) arg18.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 where
  inv := inv (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 G_arg16 G_arg17 G_arg18
  step k acc := by
    iintro ⟨HR_arg1, HR_arg2, HR_arg13, HR_arg14, HR_arg15, ⟨%f_arg16, HW_arg16, %h_arg16⟩, ⟨%f_arg17, HW_arg17, %h_arg17⟩, ⟨%f_arg18, HW_arg18, %h_arg18⟩⟩
    iapply (wp_wand_r Idealize.ShloMosaic.frame (wpE (defs₀ (F := F)) 𝒱 (c : Thread nD τ) bd) E)
    isplitl [HR_arg1 HR_arg2 HR_arg13 HR_arg14 HR_arg15 HW_arg16 HW_arg17 HW_arg18]
    · iapply ((block (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 k).2.2.2 E f_arg16 f_arg17 f_arg18)
      isplitl [HR_arg1]; · iexact HR_arg1
      isplitl [HR_arg2]; · iexact HR_arg2
      isplitl [HR_arg13]; · iexact HR_arg13
      isplitl [HR_arg14]; · iexact HR_arg14
      isplitl [HR_arg15]; · iexact HR_arg15
      isplitl [HW_arg16]; · iexact HW_arg16
      isplitl [HW_arg17]; · iexact HW_arg17
      iexact HW_arg18
    · iintro %_ ⟨HR_arg1, HR_arg2, HR_arg13, HR_arg14, HR_arg15, HW_arg16, HW_arg17, HW_arg18⟩
      isplitl [HR_arg1]; · iexact HR_arg1
      isplitl [HR_arg2]; · iexact HR_arg2
      isplitl [HR_arg13]; · iexact HR_arg13
      isplitl [HR_arg14]; · iexact HR_arg14
      isplitl [HR_arg15]; · iexact HR_arg15
      simp only [sweep_succ]
      isplitl [HW_arg16]
      · iexists _; isplitl [HW_arg16]; · iexact HW_arg16
        ipureintro; simp only [h_arg16, h_arg17, h_arg18, ← View.writes_append]
      isplitl [HW_arg17]
      · iexists _; isplitl [HW_arg17]; · iexact HW_arg17
        ipureintro; simp only [h_arg16, h_arg17, h_arg18, ← View.writes_append]
      iexists _; isplitl [HW_arg18]; · iexact HW_arg18
      ipureintro; simp only [h_arg16, h_arg17, h_arg18, ← View.writes_append]

end Cert.SbIdeal.Own

end
-- ==== Proof.SbBody.lean ====
module

public import proofs.«01_k».proof.Proof.SbLoop

/-! The body of `_sb_bwd` at one grid point: the first point clears the gradients of the gains before it adds to them, the others
add to what the point before left. What the sweep leaves in the accumulator of dq does not depend on what stood there. -/

@[expose] public section

set_option maxRecDepth 16384
set_option maxHeartbeats 8000000

noncomputable section

namespace Cert.SbIdeal.Own

open Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S2x2048x128 .bf16) (harg13 : arg13.IsWhole) (arg14 : Memref sig .tc .vmem S2x2048x128 .bf16) (harg14 : arg14.IsWhole) (arg15 : Memref sig .tc .vmem S2x2048x128 .bf16) (harg15 : arg15.IsWhole) (arg16 : Memref sig .tc .vmem S2x2048x128 .f32) (harg16 : arg16.IsWhole) (arg17 : Memref sig .tc .vmem S2x2048x128 .f32) (harg17 : arg17.IsWhole) (arg18 : Memref sig .tc .vmem S2x2048x128 .f32) (harg18 : arg18.IsWhole) (arg0 : BitVec 32) (v4 : FVec F S2x2048x128 .f32) (v9 : FVec F S2x2048x128 .f32) (v17 : FVec F S2x2048x1 .f32) (v25 : FVec F S2x2048x1 .f32) (v27 : FVec F S1x128 .f32) (v72 : FVec F S256x256 .bf16) (v73 : IVec S256x256 1) (X_arg1 : BufTy.Contents (Elt F) arg1.view.ty) (X_arg2 : BufTy.Contents (Elt F) arg2.view.ty) (X_arg13 : BufTy.Contents (Elt F) arg13.view.ty) (X_arg14 : BufTy.Contents (Elt F) arg14.view.ty) (X_arg15 : BufTy.Contents (Elt F) arg15.view.ty)

/-- A query block's piece of dq is its rows. -/
theorem block_dq (k : Fin k0_t1_loop.trips) (f_arg16 : BufTy.Contents (Elt F) arg16.view.ty) (f_arg18 : BufTy.Contents (Elt F) arg18.view.ty) :
    ∃ w, (block (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 k).2.1 f_arg16 f_arg18
      = [⟨Rect.unit (s := S2x2048x128) (k0_off1 k) S2x256x128.size (k0_off1_inb k), w⟩] := by
  unfold block; exact ⟨_, rfl⟩

theorem off1_row (k : Fin k0_t1_loop.trips) : k0_off1 k 1 = 256 * k.val := by
  have hk : k.val < 8 := k.isLt
  show (BitVec.toNat _) = _
  simp only [k0_off1, Scf.iv, Scalar.muli, Scalar.indexCast, Scalar.addi, IntOp.muli]
  bv_omega

/-- The pieces of dq of the first `k` blocks cover the rows below `256 k`. -/
theorem sweep_dq_cover (G_arg16 : BufTy.Contents (Elt F) arg16.view.ty) (G_arg18 : BufTy.Contents (Elt F) arg18.view.ty) (n : ℕ) (hn : n ≤ k0_t1_loop.trips) (y : S2x2048x128.Idx) (hy : (y 1).val < 256 * n) :
    ∃ pc ∈ (sweep (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 G_arg16 G_arg18 n).2.1, y ∈ pc.1.set := by
  induction n with
  | zero => omega
  | succ n ih =>
    have e := sweep_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 G_arg16 G_arg18 ⟨n, hn⟩
    dsimp only at e
    rw [e]
    by_cases h : (y 1).val < 256 * n
    · obtain ⟨pc, hp, hy'⟩ := ih (by omega) h
      exact ⟨pc, List.mem_append_right _ hp, hy'⟩
    · obtain ⟨w, hw⟩ := block_dq (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 ⟨n, hn⟩
        (arg16.view.writes (Elt F) G_arg16 (sweep (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 G_arg16 G_arg18 n).1) (arg18.view.writes (Elt F) G_arg18 (sweep (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 G_arg16 G_arg18 n).2.2)
      refine ⟨⟨Rect.unit (s := S2x2048x128) (k0_off1 ⟨n, hn⟩) S2x256x128.size (k0_off1_inb ⟨n, hn⟩), w⟩, List.mem_append_left _ (by rw [hw]; exact List.mem_singleton_self _), ?_⟩
      rw [Rect.mem_set_unit]
      have h1 := off1_row ⟨n, hn⟩
      have y0 := (y 0).isLt
      have y2 := (y 2).isLt
      intro a
      match a with
      | 0 => exact ⟨Nat.zero_le _, by show (y 0).val < k0_off1 ⟨n, hn⟩ 0 + 2; exact Nat.lt_of_lt_of_le y0 (Nat.le_add_left _ _)⟩
      | 1 => exact ⟨by rw [h1]; show 256 * n ≤ (y 1).val; omega, by rw [h1]; show (y 1).val < 256 * n + 256; omega⟩
      | 2 => exact ⟨Nat.zero_le _, by show (y 2).val < k0_off1 ⟨n, hn⟩ 2 + 128; exact Nat.lt_of_lt_of_le y2 (Nat.le_add_left _ _)⟩

/-- What the sweep leaves of dq reads the same whatever stood in the accumulator. -/
theorem dq_read (G_arg16 : BufTy.Contents (Elt F) arg16.view.ty) (G_arg18 : BufTy.Contents (Elt F) arg18.view.ty) (f g : BufTy.Contents (Elt F) arg17.view.ty) :
    arg17.view.readAt (Elt F) (Rect.unit (s := S2x2048x128) ![0, 0, 0] S2x2048x128.size inb_S2x2048x128_S2x2048x128_0_0_0).toLoadRect
        (arg17.view.writes (Elt F) f (sweep (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 G_arg16 G_arg18 k0_t1_loop.trips).2.1)
      = arg17.view.readAt (Elt F) (Rect.unit (s := S2x2048x128) ![0, 0, 0] S2x2048x128.size inb_S2x2048x128_S2x2048x128_0_0_0).toLoadRect
        (arg17.view.writes (Elt F) g (sweep (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 G_arg16 G_arg18 k0_t1_loop.trips).2.1) :=
  funext fun j => View.read_writes_apply_eq arg17.view f arg17.view g _ _
    (sweep_dq_cover (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 G_arg16 G_arg18 k0_t1_loop.trips le_rfl _
      (Nat.lt_of_lt_of_le (Fin.isLt _) (show 2048 ≤ 256 * k0_t1_loop.trips by decide)))

end

/-- The grid point is the first. -/
abbrev cond0 (i : grid0.Coords) : Prop :=
  Scalar.cmpi .ne (Scalar.extui (Scalar.cmpi .eq (BitVec.ofNat 32 (i 0).val) 0#32) : BitVec 32) 0#32 = 1#1

section

variable (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S2x2048x128 .bf16) (harg13 : arg13.IsWhole) (arg14 : Memref sig .tc .vmem S2x2048x128 .bf16) (harg14 : arg14.IsWhole) (arg15 : Memref sig .tc .vmem S2x2048x128 .bf16) (harg15 : arg15.IsWhole) (arg16 : Memref sig .tc .vmem S2x2048x128 .f32) (harg16 : arg16.IsWhole) (arg17 : Memref sig .tc .vmem S2x2048x128 .f32) (harg17 : arg17.IsWhole) (arg18 : Memref sig .tc .vmem S2x2048x128 .f32) (harg18 : arg18.IsWhole)

/-- The body at the first point: the pieces it leaves in each output. -/
def runA (hc : cond0 i) (x1 : Vec F S2048x256 .f32) (x2 : Vec F S2048x256 .f32) (x3 : Vec F S2048x256 .f32) (x4 : Vec F S2048x256 .f32) (x5 : Vec F S2048x256 .f32) (x6 : Vec F S1x128 .f32) (x7 : Vec F S1x128 .f32) (x17 : Vec F S2x2048x128 .f32) :
    Σ' (L8 : List (View.Piece (Elt F) S2048x256 .bf16)), Σ' (L9 : List (View.Piece (Elt F) S2048x256 .bf16)), Σ' (L10 : List (View.Piece (Elt F) S2048x256 .bf16)), Σ' (L11 : List (View.Piece (Elt F) S1x128 .f32)), { L12 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare x17 ∗ (∃ d, owns (c : Thread nD τ) arg18 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_sb_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_sb_bwd_eq_skeleton]; unfold cc0_sb_bwd_skel
    simp only [k0_part12_eq_skeleton, k0_part13_eq_skeleton, k0_part14_eq_skeleton, k0_part15_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%d18, %f18, -, H18⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg17.eq_unread hf17
    sl_exec (disch := sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]
    · iexists _; iexists _; isplitr
      swap; · iexact H13
      ipureintro; rfl
    isplitl [H14]
    · iexists _; iexists _; isplitr
      swap; · iexact H14
      ipureintro; rfl
    isplitl [H15]
    · iexists _; iexists _; isplitr
      swap; · iexact H15
      ipureintro; rfl
    isplitl [H16]
    · iexists _; iexists _; isplitr
      swap; · iexact H16
      ipureintro; rfl
    isplitl [H17]
    · iexists _; iexists _; isplitr
      swap; · iexact H17
      ipureintro; rfl
    iexists _; iexists _; isplitr
    swap; · iexact H18
    ipureintro; rfl

/-- The body at a later point: the pieces it leaves in each output. -/
def runB (hc : ¬cond0 i) (x1 : Vec F S2048x256 .f32) (x2 : Vec F S2048x256 .f32) (x3 : Vec F S2048x256 .f32) (x4 : Vec F S2048x256 .f32) (x5 : Vec F S2048x256 .f32) (x6 : Vec F S1x128 .f32) (x7 : Vec F S1x128 .f32) (x17 : Vec F S2x2048x128 .f32) (x11 : Vec F S1x128 .f32) (x12 : Vec F S1x128 .f32) :
    Σ' (L8 : List (View.Piece (Elt F) S2048x256 .bf16)), Σ' (L9 : List (View.Piece (Elt F) S2048x256 .bf16)), Σ' (L10 : List (View.Piece (Elt F) S2048x256 .bf16)), Σ' (L11 : List (View.Piece (Elt F) S1x128 .f32)), { L12 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare x17 ∗ (∃ d, owns (c : Thread nD τ) arg18 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_sb_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_sb_bwd_eq_skeleton]; unfold cc0_sb_bwd_skel
    simp only [k0_part12_eq_skeleton, k0_part13_eq_skeleton, k0_part14_eq_skeleton, k0_part15_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%f17, %hf17, H17⟩, ⟨%d18, %f18, -, H18⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11; obtain rfl := harg12.eq_unread hf12; obtain rfl := harg17.eq_unread hf17
    sl_exec (disch := sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]
    · iexists _; iexists _; isplitr
      swap; · iexact H13
      ipureintro; rfl
    isplitl [H14]
    · iexists _; iexists _; isplitr
      swap; · iexact H14
      ipureintro; rfl
    isplitl [H15]
    · iexists _; iexists _; isplitr
      swap; · iexact H15
      ipureintro; rfl
    isplitl [H16]
    · iexists _; iexists _; isplitr
      swap; · iexact H16
      ipureintro; rfl
    isplitl [H17]
    · iexists _; iexists _; isplitr
      swap; · iexact H17
      ipureintro; rfl
    iexists _; iexists _; isplitr
    swap; · iexact H18
    ipureintro; rfl

end

end Cert.SbIdeal.Own

end
-- ==== Proof.SbMem.lean ====
/- The memory of the stick-breaking gradient kernel: what a load of a block of rows reads, what a store of one leaves, and one
   trip of the key-block loop. -/
module

public import proofs.«01_k».proof.Proof.SbDiag
public import proofs.«01_k».proof.Proof.SbBody
public import Idealize.ShloMosaic.Lib.VecWindow
public import Idealize.ShloMosaic.Lib.WritesUnit

@[expose] public section

set_option maxRecDepth 16384
set_option maxHeartbeats 4000000

noncomputable section

namespace SbMem

open Idealize.ShloMosaic Idealize.ShloMosaic.TcCoe Cert.SbIdeal Cert.SbIdeal.Gen Cert.SbIdeal.Own RealVal SbReal

/-- A load of 256 rows reads those rows. -/
theorem get {sig : RefSig} {κ : Kind} {sp : Space} {e : EltTy} {Val : EltTy → Type} (v : View sig κ sp S2x2048x128 e) (f : v.ty.Contents Val)
    {off : Fin 3 → ℕ} (inb : ∀ a, off a + S2x256x128.size a ≤ S2x2048x128.size a) (o : ℕ) (ho : o + 256 ≤ 2048) (heq : off = ![0, o, 0]) (a : Fin 2) (r : Fin 256) (d : Fin 128) :
    v.readAt Val (Rect.unit (s := S2x2048x128) off S2x256x128.size inb).toLoadRect f (ix3 a r d) = v.read Val f (ix3 a ⟨o + r.val, by omega⟩ d) := by
  subst heq
  refine congrArg (v.read Val f) (funext fun x => Fin.ext ?_)
  match x with
  | ⟨0, _⟩ => show 0 + 1 * a.val = a.val; omega
  | ⟨1, _⟩ => show o + 1 * r.val = o + r.val; omega
  | ⟨2, _⟩ => show 0 + 1 * d.val = d.val; omega

/-- A store of 256 rows, read back. -/
theorem put {sig : RefSig} {κ : Kind} {sp : Space} {e : EltTy} {Val : EltTy → Type} (v : View sig κ sp S2x2048x128 e) (f : v.ty.Contents Val)
    {off : Fin 3 → ℕ} (inb : ∀ a, off a + S2x256x128.size a ≤ S2x2048x128.size a) (o : ℕ) (heq : off = ![0, o, 0])
    (w : S2x256x128.Idx → Val e) (L : List (View.Piece Val S2x2048x128 e)) (a : Fin 2) (s : Fin 2048) (d : Fin 128) :
    v.read Val (v.writes Val f ((⟨Rect.unit (s := S2x2048x128) off S2x256x128.size inb, w⟩ : View.Piece Val S2x2048x128 e) :: L)) (ix3 a s d)
      = if h : o ≤ s.val ∧ s.val < o + 256 then w (ix3 a ⟨s.val - o, by omega⟩ d) else v.read Val (v.writes Val f L) (ix3 a s d) := by
  by_cases h : o ≤ s.val ∧ s.val < o + 256
  · rw [dif_pos h]
    refine View.read_writes_cons_unit_of_mem v f inb w L (ix3 a s d) (ix3 a ⟨s.val - o, by omega⟩ d) heq fun x => ?_
    match x with
    | ⟨0, _⟩ => show a.val = 0 + a.val; omega
    | ⟨1, _⟩ => show s.val = o + (s.val - o); omega
    | ⟨2, _⟩ => show d.val = 0 + d.val; omega
  · rw [dif_neg h]
    refine View.read_writes_cons_unit_of_not_mem v f inb w L (ix3 a s d) heq 1 ?_
    show s.val < o ∨ o + 256 ≤ s.val
    omega

theorem trips1 : k0_t1_loop.trips = 8 := rfl
theorem trips2 (k : Fin k0_t1_loop.trips) : (k0_t2_loop k).trips = k.val := by revert k; decide
theorem trips3 (k : Fin k0_t1_loop.trips) : (k0_t3_loop k).trips = 0 := by revert k; decide
theorem off6_eq (k : Fin k0_t1_loop.trips) : k0_off6 k = ![0, 256 * k.val, 0] := by revert k; decide
theorem off1_eq (k : Fin k0_t1_loop.trips) : k0_off1 k = ![0, 256 * k.val, 0] := by revert k; decide
theorem off2_eq (k : Fin k0_t1_loop.trips) : k0_off2 k = ![256 * k.val, 0] := by revert k; decide
theorem off3_eq (k : Fin k0_t1_loop.trips) : k0_off3 k = ![256 * k.val, 128] := by revert k; decide
theorem off4_eq (k : Fin k0_t1_loop.trips) (t : Fin (k0_t2_loop k).trips) : k0_off4 k t = ![0, 256 * t.val, 0] := by revert k t; decide

section

variable (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S2x2048x128 .bf16) (harg13 : arg13.IsWhole) (arg14 : Memref sig .tc .vmem S2x2048x128 .bf16) (harg14 : arg14.IsWhole) (arg15 : Memref sig .tc .vmem S2x2048x128 .bf16) (harg15 : arg15.IsWhole) (arg16 : Memref sig .tc .vmem S2x2048x128 .f32) (harg16 : arg16.IsWhole) (arg17 : Memref sig .tc .vmem S2x2048x128 .f32) (harg17 : arg17.IsWhole) (arg18 : Memref sig .tc .vmem S2x2048x128 .f32) (harg18 : arg18.IsWhole) (v72 : FVec Ideal S256x256 .bf16) (v76 : FVec Ideal S256x256 .bf16) (k0_t1 : Fin k0_t1_loop.trips) (arg19 : BitVec 32) (v154 : Vec Ideal S2x256x128 .bf16) (v162 : FVec Ideal S2x256x128 .bf16) (v173 : FVec Ideal S2x256x1 .f32) (v191 : BitVec 32) (v192 : FVec Ideal S2x256x1 .f32) (X_arg14 : BufTy.Contents (Elt Ideal) arg14.view.ty) (X_arg15 : BufTy.Contents (Elt Ideal) arg15.view.ty) (k : Fin (k0_t2_loop k0_t1).trips) (acc : FVec Ideal S2x256x128 .f32 × FVec Ideal S2x256x1 .f32 × FVec Ideal S2x256x1 .f32) (f_arg16 : BufTy.Contents (Elt Ideal) arg16.view.ty) (f_arg18 : BufTy.Contents (Elt Ideal) arg18.view.ty)

theorem trip_acc :
    (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v72 v76 k0_t1 arg19 v154 v162 v173 v191 v192 X_arg14 X_arg15 k).1 acc f_arg16 f_arg18
      = (k0_pay36 acc.1 (arg14.view.readAt (Elt Ideal) (Rect.unit (s := S2x2048x128) (k0_off4 k0_t1 k) S2x256x128.size (k0_off4_inb k0_t1 k)).toLoadRect X_arg14) (k0_pay12 v72 v76 v162 v173 acc.2.1 acc.2.2 (k0_pay4 v154 (arg14.view.readAt (Elt Ideal) (Rect.unit (s := S2x2048x128) (k0_off4 k0_t1 k) S2x256x128.size (k0_off4_inb k0_t1 k)).toLoadRect X_arg14)) (k0_pay7 v154 (arg14.view.readAt (Elt Ideal) (Rect.unit (s := S2x2048x128) (k0_off4 k0_t1 k) S2x256x128.size (k0_off4_inb k0_t1 k)).toLoadRect X_arg14)) (k0_pay8 v72 v154 (arg14.view.readAt (Elt Ideal) (Rect.unit (s := S2x2048x128) (k0_off4 k0_t1 k) S2x256x128.size (k0_off4_inb k0_t1 k)).toLoadRect X_arg14)) (k0_pay9 v154 (arg14.view.readAt (Elt Ideal) (Rect.unit (s := S2x2048x128) (k0_off4 k0_t1 k) S2x256x128.size (k0_off4_inb k0_t1 k)).toLoadRect X_arg14)) (arg15.view.readAt (Elt Ideal) (Rect.unit (s := S2x2048x128) (k0_off4 k0_t1 k) S2x256x128.size (k0_off4_inb k0_t1 k)).toLoadRect X_arg15)) (k0_pay15 (k0_pay12 v72 v76 v162 v173 acc.2.1 acc.2.2 (k0_pay4 v154 (arg14.view.readAt (Elt Ideal) (Rect.unit (s := S2x2048x128) (k0_off4 k0_t1 k) S2x256x128.size (k0_off4_inb k0_t1 k)).toLoadRect X_arg14)) (k0_pay7 v154 (arg14.view.readAt (Elt Ideal) (Rect.unit (s := S2x2048x128) (k0_off4 k0_t1 k) S2x256x128.size (k0_off4_inb k0_t1 k)).toLoadRect X_arg14)) (k0_pay8 v72 v154 (arg14.view.readAt (Elt Ideal) (Rect.unit (s := S2x2048x128) (k0_off4 k0_t1 k) S2x256x128.size (k0_off4_inb k0_t1 k)).toLoadRect X_arg14)) (k0_pay9 v154 (arg14.view.readAt (Elt Ideal) (Rect.unit (s := S2x2048x128) (k0_off4 k0_t1 k) S2x256x128.size (k0_off4_inb k0_t1 k)).toLoadRect X_arg14)) (arg15.view.readAt (Elt Ideal) (Rect.unit (s := S2x2048x128) (k0_off4 k0_t1 k) S2x256x128.size (k0_off4_inb k0_t1 k)).toLoadRect X_arg15))) (k0_pay16 (arg14.view.readAt (Elt Ideal) (Rect.unit (s := S2x2048x128) (k0_off4 k0_t1 k) S2x256x128.size (k0_off4_inb k0_t1 k)).toLoadRect X_arg14)), k0_pay37 acc.2.1 (k0_pay5 v154 (arg14.view.readAt (Elt Ideal) (Rect.unit (s := S2x2048x128) (k0_off4 k0_t1 k) S2x256x128.size (k0_off4_inb k0_t1 k)).toLoadRect X_arg14)), k0_pay38 acc.2.2 (k0_pay11 v72 v162 v173 acc.2.1 (k0_pay4 v154 (arg14.view.readAt (Elt Ideal) (Rect.unit (s := S2x2048x128) (k0_off4 k0_t1 k) S2x256x128.size (k0_off4_inb k0_t1 k)).toLoadRect X_arg14)) (k0_pay7 v154 (arg14.view.readAt (Elt Ideal) (Rect.unit (s := S2x2048x128) (k0_off4 k0_t1 k) S2x256x128.size (k0_off4_inb k0_t1 k)).toLoadRect X_arg14)) (k0_pay8 v72 v154 (arg14.view.readAt (Elt Ideal) (Rect.unit (s := S2x2048x128) (k0_off4 k0_t1 k) S2x256x128.size (k0_off4_inb k0_t1 k)).toLoadRect X_arg14)) (k0_pay9 v154 (arg14.view.readAt (Elt Ideal) (Rect.unit (s := S2x2048x128) (k0_off4 k0_t1 k) S2x256x128.size (k0_off4_inb k0_t1 k)).toLoadRect X_arg14)) (arg15.view.readAt (Elt Ideal) (Rect.unit (s := S2x2048x128) (k0_off4 k0_t1 k) S2x256x128.size (k0_off4_inb k0_t1 k)).toLoadRect X_arg15))) := by
  unfold trip_k0_t2
  rfl

theorem trip_dk :
    (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v72 v76 k0_t1 arg19 v154 v162 v173 v191 v192 X_arg14 X_arg15 k).2.1 acc f_arg16 f_arg18
      = [⟨Rect.unit (s := S2x2048x128) (k0_off4 k0_t1 k) S2x256x128.size (k0_off4_inb k0_t1 k), k0_pay14 v154 (k0_pay12 v72 v76 v162 v173 acc.2.1 acc.2.2 (k0_pay4 v154 (arg14.view.readAt (Elt Ideal) (Rect.unit (s := S2x2048x128) (k0_off4 k0_t1 k) S2x256x128.size (k0_off4_inb k0_t1 k)).toLoadRect X_arg14)) (k0_pay7 v154 (arg14.view.readAt (Elt Ideal) (Rect.unit (s := S2x2048x128) (k0_off4 k0_t1 k) S2x256x128.size (k0_off4_inb k0_t1 k)).toLoadRect X_arg14)) (k0_pay8 v72 v154 (arg14.view.readAt (Elt Ideal) (Rect.unit (s := S2x2048x128) (k0_off4 k0_t1 k) S2x256x128.size (k0_off4_inb k0_t1 k)).toLoadRect X_arg14)) (k0_pay9 v154 (arg14.view.readAt (Elt Ideal) (Rect.unit (s := S2x2048x128) (k0_off4 k0_t1 k) S2x256x128.size (k0_off4_inb k0_t1 k)).toLoadRect X_arg14)) (arg15.view.readAt (Elt Ideal) (Rect.unit (s := S2x2048x128) (k0_off4 k0_t1 k) S2x256x128.size (k0_off4_inb k0_t1 k)).toLoadRect X_arg15)) (arg16.view.readAt (Elt Ideal) (Rect.unit (s := S2x2048x128) (k0_off4 k0_t1 k) S2x256x128.size (k0_off4_inb k0_t1 k)).toLoadRect f_arg16)⟩] := by
  unfold trip_k0_t2
  rfl

theorem trip_dv :
    (trip_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v72 v76 k0_t1 arg19 v154 v162 v173 v191 v192 X_arg14 X_arg15 k).2.2.1 acc f_arg16 f_arg18
      = [⟨Rect.unit (s := S2x2048x128) (k0_off4 k0_t1 k) S2x256x128.size (k0_off4_inb k0_t1 k), k0_pay13 v162 (k0_pay10 v72 v173 acc.2.1 (k0_pay4 v154 (arg14.view.readAt (Elt Ideal) (Rect.unit (s := S2x2048x128) (k0_off4 k0_t1 k) S2x256x128.size (k0_off4_inb k0_t1 k)).toLoadRect X_arg14)) (k0_pay7 v154 (arg14.view.readAt (Elt Ideal) (Rect.unit (s := S2x2048x128) (k0_off4 k0_t1 k) S2x256x128.size (k0_off4_inb k0_t1 k)).toLoadRect X_arg14)) (k0_pay8 v72 v154 (arg14.view.readAt (Elt Ideal) (Rect.unit (s := S2x2048x128) (k0_off4 k0_t1 k) S2x256x128.size (k0_off4_inb k0_t1 k)).toLoadRect X_arg14)) (k0_pay9 v154 (arg14.view.readAt (Elt Ideal) (Rect.unit (s := S2x2048x128) (k0_off4 k0_t1 k) S2x256x128.size (k0_off4_inb k0_t1 k)).toLoadRect X_arg14))) (arg18.view.readAt (Elt Ideal) (Rect.unit (s := S2x2048x128) (k0_off4 k0_t1 k) S2x256x128.size (k0_off4_inb k0_t1 k)).toLoadRect f_arg18)⟩] := by
  unfold trip_k0_t2
  rfl

end

end SbMem

end
-- ==== Proof.SbInner.lean ====
/- The key-block loop of the stick-breaking gradient kernel over the reals: what it carries and what it leaves in the accumulators. -/
module

public import proofs.«01_k».proof.Proof.SbMem

@[expose] public section

set_option maxRecDepth 16384
set_option maxHeartbeats 4000000

noncomputable section

namespace SbMem

open Idealize.ShloMosaic Idealize.ShloMosaic.TcCoe Cert.SbIdeal Cert.SbIdeal.Gen Cert.SbIdeal.Own RealVal SbReal

variable (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S2x2048x128 .bf16) (harg13 : arg13.IsWhole) (arg14 : Memref sig .tc .vmem S2x2048x128 .bf16) (harg14 : arg14.IsWhole) (arg15 : Memref sig .tc .vmem S2x2048x128 .bf16) (harg15 : arg15.IsWhole) (arg16 : Memref sig .tc .vmem S2x2048x128 .f32) (harg16 : arg16.IsWhole) (arg17 : Memref sig .tc .vmem S2x2048x128 .f32) (harg17 : arg17.IsWhole) (arg18 : Memref sig .tc .vmem S2x2048x128 .f32) (harg18 : arg18.IsWhole) (v72 : FVec Ideal S256x256 .bf16) (v76 : FVec Ideal S256x256 .bf16) (k0_t1 : Fin k0_t1_loop.trips) (arg19 : BitVec 32) (v154 : Vec Ideal S2x256x128 .bf16) (v162 : FVec Ideal S2x256x128 .bf16) (v173 : FVec Ideal S2x256x1 .f32) (v191 : BitVec 32) (v192 : FVec Ideal S2x256x1 .f32) (X_arg14 : BufTy.Contents (Elt Ideal) arg14.view.ty) (X_arg15 : BufTy.Contents (Elt Ideal) arg15.view.ty)
  (G16 : BufTy.Contents (Elt Ideal) arg16.view.ty) (G18 : BufTy.Contents (Elt Ideal) arg18.view.ty) (init : FVec Ideal S2x256x128 .f32 × FVec Ideal S2x256x1 .f32 × FVec Ideal S2x256x1 .f32)
  (H : Fin 2 → Head) (g16 g18 : Fin 2 → ℕ → Fin 128 → ℝ)

/-- Before trip `n`: the partial sums over the keys of the tiles before, carried and accumulated. -/
structure Inner (n : ℕ) (st : (FVec Ideal S2x256x128 .f32 × FVec Ideal S2x256x1 .f32 × FVec Ideal S2x256x1 .f32) × List (View.Piece (Elt Ideal) S2x2048x128 .f32) × List (View.Piece (Elt Ideal) S2x2048x128 .f32)) : Prop where
  a0 : ∀ a r d, st.1.1 (ix3 a r d) = ((∑ s ∈ Finset.range (256 * n), dz (H a) (256 * k0_t1.val + r.val) s * (H a).kn s d : ℝ) : EReal)
  a1 : ∀ a r, st.1.2.1 (ix3 a r 0) = ((∑ s ∈ Finset.range (256 * n), lr (H a) (256 * k0_t1.val + r.val) s : ℝ) : EReal)
  a2 : ∀ a r, st.1.2.2 (ix3 a r 0) = ((∑ s ∈ Finset.range (256 * n), b (H a) (256 * k0_t1.val + r.val) s : ℝ) : EReal)
  m16 : ∀ a s d, arg16.view.read (Elt Ideal) (arg16.view.writes (Elt Ideal) G16 st.2.1) (ix3 a s d)
    = ((g16 a s.val d + (if s.val < 256 * n then ∑ r : Fin 256, dz (H a) (256 * k0_t1.val + r.val) s.val * (H a).qn (256 * k0_t1.val + r.val) d else 0) : ℝ) : EReal)
  m18 : ∀ a s d, arg18.view.read (Elt Ideal) (arg18.view.writes (Elt Ideal) G18 st.2.2) (ix3 a s d)
    = ((g18 a s.val d + (if s.val < 256 * n then ∑ r : Fin 256, wt (H a) (256 * k0_t1.val + r.val) s.val * (H a).g (256 * k0_t1.val + r.val) d else 0) : ℝ) : EReal)

variable
  (h72 : ∀ x c, v72 (ix2 x c) = (((if x.val < c.val + 1 then 1 else 0 : ℝ)) : EReal))
  (h76 : ∀ x c, v76 (ix2 x c) = (((if x.val < c.val then 1 else 0 : ℝ)) : EReal))
  (h154 : ∀ a r d, v154 (ix3 a r d) = (((H a).qn (256 * k0_t1.val + r.val) d : ℝ) : EReal))
  (h162 : ∀ a r d, v162 (ix3 a r d) = (((H a).g (256 * k0_t1.val + r.val) d : ℝ) : EReal))
  (h173 : ∀ a r, v173 (ix3 a r 0) = ((tot (H a) (256 * k0_t1.val + r.val) : ℝ) : EReal))
  (h14 : ∀ a s d, arg14.view.read (Elt Ideal) X_arg14 (ix3 a s d) = (((H a).kn s.val d : ℝ) : EReal))
  (h15 : ∀ a s d, arg15.view.read (Elt Ideal) X_arg15 (ix3 a s d) = (((H a).v s.val d : ℝ) : EReal))

include h72 h76 h154 h162 h173 h14 h15 in
theorem inner_step (k : Fin (k0_t2_loop k0_t1).trips) (st : (FVec Ideal S2x256x128 .f32 × FVec Ideal S2x256x1 .f32 × FVec Ideal S2x256x1 .f32) × List (View.Piece (Elt Ideal) S2x2048x128 .f32) × List (View.Piece (Elt Ideal) S2x2048x128 .f32))
    (h : Inner arg16 arg18 k0_t1 G16 G18 H g16 g18 k.val st) :
    Inner arg16 arg18 k0_t1 G16 G18 H g16 g18 (k.val + 1)
      (tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v72 v76 k0_t1 arg19 v154 v162 v173 v191 v192 X_arg14 X_arg15 k st.1 (arg16.view.writes (Elt Ideal) G16 st.2.1) (arg18.view.writes (Elt Ideal) G18 st.2.2),
       (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v72 v76 k0_t1 arg19 v154 v162 v173 v191 v192 X_arg14 X_arg15 k st.1 (arg16.view.writes (Elt Ideal) G16 st.2.1) (arg18.view.writes (Elt Ideal) G18 st.2.2)).1 ++ st.2.1,
       (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v72 v76 k0_t1 arg19 v154 v162 v173 v191 v192 X_arg14 X_arg15 k st.1 (arg16.view.writes (Elt Ideal) G16 st.2.1) (arg18.view.writes (Elt Ideal) G18 st.2.2)).2 ++ st.2.2) := by
  have hk : k.val < k0_t1.val := lt_of_lt_of_eq k.isLt (trips2 k0_t1)
  have hk8 : k0_t1.val < 8 := k0_t1.isLt
  have hj : 256 * k.val + 256 ≤ 256 * k0_t1.val := by omega
  have hjj : 256 * k.val + 256 ≤ 2048 := by omega
  obtain ⟨a0, a1, a2, m16, m18⟩ := h
  obtain ⟨acc, L16, L18⟩ := st
  have hkj : ∀ a r d, (arg14.view.readAt (Elt Ideal) (Rect.unit (s := S2x2048x128) (k0_off4 k0_t1 k) S2x256x128.size (k0_off4_inb k0_t1 k)).toLoadRect X_arg14) (ix3 a r d) = (((H a).kn (256 * k.val + r.val) d : ℝ) : EReal) := fun a r d => by
    rw [get arg14.view X_arg14 _ (256 * k.val) hjj (off4_eq k0_t1 k), h14]
  have hvj : ∀ a r d, (arg15.view.readAt (Elt Ideal) (Rect.unit (s := S2x2048x128) (k0_off4 k0_t1 k) S2x256x128.size (k0_off4_inb k0_t1 k)).toLoadRect X_arg15) (ix3 a r d) = (((H a).v (256 * k.val + r.val) d : ℝ) : EReal) := fun a r d => by
    rw [get arg15.view X_arg15 _ (256 * k.val) hjj (off4_eq k0_t1 k), h15]
  have e4 := SbTile.pay4 H k0_t1.val k.val v154 _ h154 hkj
  have e5 := SbTile.pay5 H k0_t1.val k.val v154 _ h154 hkj hj
  have e7 := SbTile.pay7 H k0_t1.val k.val v154 _ h154 hkj hj
  have e8 := SbTile.pay8 H k0_t1.val k.val v72 h72 v154 _ h154 hkj hj
  have e9 := SbTile.pay9 H k0_t1.val k.val v154 _ h154 hkj hj
  have e10 := SbTile.pay10 H k0_t1.val k.val v72 h72 v173 acc.2.1 h173 a1 hj _ _ _ _ e4 e7 e8 e9
  have e11 := SbTile.pay11 H k0_t1.val k.val v72 h72 v162 _ h162 hvj v173 acc.2.1 h173 a1 hj _ _ _ _ e4 e7 e8 e9
  have e12 := SbTile.pay12 H k0_t1.val k.val v72 v76 h72 h76 v162 _ h162 hvj v173 acc.2.1 acc.2.2 h173 a1 a2 hj _ _ _ _ e4 e7 e8 e9
  have g16' : ∀ a r d, (arg16.view.readAt (Elt Ideal) (Rect.unit (s := S2x2048x128) (k0_off4 k0_t1 k) S2x256x128.size (k0_off4_inb k0_t1 k)).toLoadRect (arg16.view.writes (Elt Ideal) G16 L16)) (ix3 a r d) = ((g16 a (256 * k.val + r.val) d : ℝ) : EReal) := fun a r d => by
    rw [get arg16.view _ _ (256 * k.val) hjj (off4_eq k0_t1 k), m16, if_neg (by show ¬(256 * k.val + r.val < _); omega), add_zero]
  have g18' : ∀ a r d, (arg18.view.readAt (Elt Ideal) (Rect.unit (s := S2x2048x128) (k0_off4 k0_t1 k) S2x256x128.size (k0_off4_inb k0_t1 k)).toLoadRect (arg18.view.writes (Elt Ideal) G18 L18)) (ix3 a r d) = ((g18 a (256 * k.val + r.val) d : ℝ) : EReal) := fun a r d => by
    rw [get arg18.view _ _ (256 * k.val) hjj (off4_eq k0_t1 k), m18, if_neg (by show ¬(256 * k.val + r.val < _); omega), add_zero]
  have e13 := SbTile.pay13 H k0_t1.val k.val v162 h162 _ (fun a => wt (H a)) e10 _ (fun a r d => g18 a (256 * k.val + r.val) d) g18'
  have e14 := SbTile.pay14 H k0_t1.val k.val v154 h154 (fun a => dz (H a)) _ e12 _ (fun a r d => g16 a (256 * k.val + r.val) d) g16'
  have e36 := SbTile.pay36 H k0_t1.val k.val _ hkj (fun a => dz (H a)) _ e12 acc.1 _ a0
  have e37 := SbTile.pay37 k0_t1.val k.val _ (fun a => lr (H a)) e5 acc.2.1 _ a1
  have e38 := SbTile.pay38 k0_t1.val k.val _ (fun a => b (H a)) e11 acc.2.2 _ a2
  refine ⟨fun a r d => ?_, fun a r => ?_, fun a r => ?_, fun a s d => ?_, fun a s d => ?_⟩
  · dsimp only [tripR_k0_t2]
    rw [trip_acc, sum_next (fun s => dz (H a) (256 * k0_t1.val + r.val) s * (H a).kn s d)]
    exact e36 a r d
  · dsimp only [tripR_k0_t2]
    rw [trip_acc, sum_next (fun s => lr (H a) (256 * k0_t1.val + r.val) s)]
    exact e37 a r
  · dsimp only [tripR_k0_t2]
    rw [trip_acc, sum_next (fun s => b (H a) (256 * k0_t1.val + r.val) s)]
    exact e38 a r
  · dsimp only [tripL_k0_t2]
    rw [trip_dk, List.singleton_append, put arg16.view G16 _ (256 * k.val) (off4_eq k0_t1 k)]
    by_cases hs : 256 * k.val ≤ s.val ∧ s.val < 256 * k.val + 256
    · have es : 256 * k.val + (s.val - 256 * k.val) = s.val := by omega
      rw [dif_pos hs, e14, if_pos (by omega)]
      dsimp only
      rw [es]
    · rw [dif_neg hs, m16]
      congr 3
      exact propext ⟨fun _ => by omega, fun _ => by omega⟩
  · dsimp only [tripL_k0_t2]
    rw [trip_dv, List.singleton_append, put arg18.view G18 _ (256 * k.val) (off4_eq k0_t1 k)]
    by_cases hs : 256 * k.val ≤ s.val ∧ s.val < 256 * k.val + 256
    · have es : 256 * k.val + (s.val - 256 * k.val) = s.val := by omega
      rw [dif_pos hs, e13, if_pos (by omega)]
      dsimp only
      rw [es]
    · rw [dif_neg hs, m18]
      congr 3
      exact propext ⟨fun _ => by omega, fun _ => by omega⟩

include h72 h76 h154 h162 h173 h14 h15 in
/-- The loop before trip `n`. -/
theorem inner (h0 : Inner arg16 arg18 k0_t1 G16 G18 H g16 g18 0 (init, [], [])) (n : ℕ) (hn : n ≤ k0_t1.val) :
    Inner arg16 arg18 k0_t1 G16 G18 H g16 g18 n (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v72 v76 k0_t1 arg19 v154 v162 v173 v191 v192 X_arg14 X_arg15 G16 G18 init n) := by
  induction n with
  | zero => exact h0
  | succ n ih =>
    have hlt : n < (k0_t2_loop k0_t1).trips := by rw [trips2]; omega
    have e := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v72 v76 k0_t1 arg19 v154 v162 v173 v191 v192 X_arg14 X_arg15 G16 G18 init ⟨n, hlt⟩
    have e2 : st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v72 v76 k0_t1 arg19 v154 v162 v173 v191 v192 X_arg14 X_arg15 G16 G18 init (n + 1) = _ := e
    rw [e2]
    exact inner_step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v72 v76 k0_t1 arg19 v154 v162 v173 v191 v192 X_arg14 X_arg15 G16 G18 H g16 g18 h72 h76 h154 h162 h173 h14 h15 ⟨n, hlt⟩ _ (ih (by omega))

end SbMem

end
-- ==== Proof.SbBlock.lean ====
/- One query block of the stick-breaking gradient kernel over the reals, and the sweep over the eight of them. -/
module

public import proofs.«01_k».proof.Proof.SbInner

@[expose] public section

set_option maxRecDepth 16384
set_option maxHeartbeats 4000000

noncomputable section

namespace SbMem

open Idealize.ShloMosaic Idealize.ShloMosaic.TcCoe Cert.SbIdeal Cert.SbIdeal.Gen Cert.SbIdeal.Own RealVal SbReal

/-- Lane `d` of head `a` in a window of two heads. -/
def lane (a : Fin 2) (d : Fin 128) : Fin 256 := ⟨128 * a.val + d.val, by omega⟩

/-- A load of 256 rows of one head of a window of two. -/
theorem get2 {sig : RefSig} {κ : Kind} {sp : Space} {e : EltTy} {Val : EltTy → Type} (v : View sig κ sp S2048x256 e) (f : v.ty.Contents Val)
    {off : Fin 2 → ℕ} (inb : ∀ a, off a + S256x128.size a ≤ S2048x256.size a) (o l : ℕ) (ho : o + 256 ≤ 2048) (hl : l + 128 ≤ 256) (heq : off = ![o, l]) (r : Fin 256) (d : Fin 128) :
    v.readAt Val (Rect.unit (s := S2048x256) off S256x128.size inb).toLoadRect f (ix2 r d) = v.read Val f (ix2 ⟨o + r.val, by omega⟩ ⟨l + d.val, by omega⟩) := by
  subst heq
  refine congrArg (v.read Val f) (funext fun x => Fin.ext ?_)
  match x with
  | ⟨0, _⟩ => show o + 1 * r.val = o + r.val; omega
  | ⟨1, _⟩ => show l + 1 * d.val = l + d.val; omega

theorem fold_const (f : Fin 128 → EReal) (x : ℝ) (h : ∀ k, f k = (x : EReal)) : Finset.univ.fold max (⊥ : EReal) f = (x : EReal) := by
  have e : f = fun _ => (x : EReal) := funext h
  subst e
  apply le_antisymm
  · exact (Finset.fold_max_le _).mpr ⟨bot_le, fun _ _ => le_refl _⟩
  · exact (Finset.le_fold_max _).mpr (Or.inr ⟨0, Finset.mem_univ _, le_refl _⟩)

theorem pay32 (x y : Vec Ideal S256x128 .f32) (g : Fin 2 → Fin 256 → Fin 128 → ℝ) (hx : ∀ r d, x (ix2 r d) = ((g 0 r d : ℝ) : EReal)) (hy : ∀ r d, y (ix2 r d) = ((g 1 r d : ℝ) : EReal))
    (a : Fin 2) (r : Fin 256) (d : Fin 128) : k0_pay32 x y (ix3 a r d) = ((g a r d : ℝ) : EReal) := by
  refine SbTile.ex2 (P := fun a => k0_pay32 x y (ix3 a r d) = ((g a r d : ℝ) : EReal)) ?_ ?_ a
  · pointwise [k0_pay32]
    exact hx r d
  · pointwise [k0_pay32]
    exact hy r d

theorem pay33 (x y : Vec Ideal S256x128 .f32) (g : Fin 2 → Fin 256 → ℝ) (hx : ∀ r d, x (ix2 r d) = ((g 0 r : ℝ) : EReal)) (hy : ∀ r d, y (ix2 r d) = ((g 1 r : ℝ) : EReal))
    (a : Fin 2) (r : Fin 256) : k0_pay33 x y (ix3 a r 0) = ((g a r : ℝ) : EReal) := by
  refine SbTile.ex2 (P := fun a => k0_pay33 x y (ix3 a r 0) = ((g a r : ℝ) : EReal)) ?_ ?_ a
  · pointwise [k0_pay33]
    simp only [hx]
    exact fold_const _ _ fun k => rfl
  · pointwise [k0_pay33]
    simp only [hy]
    exact fold_const _ _ fun k => rfl

theorem v191_eq (k : Fin k0_t1_loop.trips) : block.sl.v191 k = BitVec.ofNat 32 k.val := by revert k; decide
theorem iv_eq (k : Fin k0_t1_loop.trips) : Scf.iv 0#32 1#32 k = BitVec.ofNat 32 k.val := by revert k; decide

/-- The pieces of a block, over the state its key-block loop leaves. -/
theorem block_form (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S2x2048x128 .bf16) (harg13 : arg13.IsWhole) (arg14 : Memref sig .tc .vmem S2x2048x128 .bf16) (harg14 : arg14.IsWhole) (arg15 : Memref sig .tc .vmem S2x2048x128 .bf16) (harg15 : arg15.IsWhole) (arg16 : Memref sig .tc .vmem S2x2048x128 .f32) (harg16 : arg16.IsWhole) (arg17 : Memref sig .tc .vmem S2x2048x128 .f32) (harg17 : arg17.IsWhole) (arg18 : Memref sig .tc .vmem S2x2048x128 .f32) (harg18 : arg18.IsWhole) (arg0 : BitVec 32) (v4 : FVec Ideal S2x2048x128 .f32) (v9 : FVec Ideal S2x2048x128 .f32) (v17 : FVec Ideal S2x2048x1 .f32) (v25 : FVec Ideal S2x2048x1 .f32) (v27 : FVec Ideal S1x128 .f32) (v72 : FVec Ideal S256x256 .bf16) (v73 : IVec S256x256 1) (X_arg1 : BufTy.Contents (Elt Ideal) arg1.view.ty) (X_arg2 : BufTy.Contents (Elt Ideal) arg2.view.ty) (X_arg13 : BufTy.Contents (Elt Ideal) arg13.view.ty) (X_arg14 : BufTy.Contents (Elt Ideal) arg14.view.ty) (X_arg15 : BufTy.Contents (Elt Ideal) arg15.view.ty) (k : Fin k0_t1_loop.trips) (f_arg16 : BufTy.Contents (Elt Ideal) arg16.view.ty) (f_arg18 : BufTy.Contents (Elt Ideal) arg18.view.ty) : ∀ st2 st3 : ((FVec Ideal S2x256x128 .f32 × FVec Ideal S2x256x1 .f32 × FVec Ideal S2x256x1 .f32) × List (View.Piece (Elt Ideal) S2x2048x128 .f32) × List (View.Piece (Elt Ideal) S2x2048x128 .f32)),
    st2 = st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v72 (k0_pay69 v73) k (Scf.iv 0#32 1#32 k) (arg13.view.readAt (Elt Ideal) (Rect.unit (s := S2x2048x128) (k0_off1 k) S2x256x128.size (k0_off1_inb k)).toLoadRect X_arg13) (k0_pay32 (arg1.view.readAt (Elt Ideal) (Rect.unit (s := S2048x256) (k0_off2 k) S256x128.size (k0_off2_inb k)).toLoadRect X_arg1) (arg1.view.readAt (Elt Ideal) (Rect.unit (s := S2048x256) (k0_off3 k) S256x128.size (k0_off3_inb k)).toLoadRect X_arg1)) (k0_pay33 (arg2.view.readAt (Elt Ideal) (Rect.unit (s := S2048x256) (k0_off2 k) S256x128.size (k0_off2_inb k)).toLoadRect X_arg2) (arg2.view.readAt (Elt Ideal) (Rect.unit (s := S2048x256) (k0_off3 k) S256x128.size (k0_off3_inb k)).toLoadRect X_arg2)) (block.sl.v191 k) k0_pay34 X_arg14 X_arg15 f_arg16 f_arg18 (k0_pay35, k0_pay34, k0_pay34) (k0_t2_loop k).trips →
    st3 = st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v72 (k0_pay69 v73) k (Scf.iv 0#32 1#32 k) (arg13.view.readAt (Elt Ideal) (Rect.unit (s := S2x2048x128) (k0_off1 k) S2x256x128.size (k0_off1_inb k)).toLoadRect X_arg13) (k0_pay32 (arg1.view.readAt (Elt Ideal) (Rect.unit (s := S2048x256) (k0_off2 k) S256x128.size (k0_off2_inb k)).toLoadRect X_arg1) (arg1.view.readAt (Elt Ideal) (Rect.unit (s := S2048x256) (k0_off3 k) S256x128.size (k0_off3_inb k)).toLoadRect X_arg1)) (k0_pay33 (arg2.view.readAt (Elt Ideal) (Rect.unit (s := S2048x256) (k0_off2 k) S256x128.size (k0_off2_inb k)).toLoadRect X_arg2) (arg2.view.readAt (Elt Ideal) (Rect.unit (s := S2048x256) (k0_off3 k) S256x128.size (k0_off3_inb k)).toLoadRect X_arg2)) (block.sl.v191 k) k0_pay34 (block.sl.v198 k) X_arg14 X_arg15 (arg16.view.writes (Elt Ideal) f_arg16 st2.2.1) (arg18.view.writes (Elt Ideal) f_arg18 st2.2.2) (st2.1.1, st2.1.2.1, st2.1.2.2) (k0_t3_loop k).trips →
    (block (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 k).1 f_arg16 f_arg18 = ⟨Rect.unit (s := S2x2048x128) (k0_off6 k) S2x256x128.size (k0_off6_inb k), k0_pay53 (arg13.view.readAt (Elt Ideal) (Rect.unit (s := S2x2048x128) (k0_off1 k) S2x256x128.size (k0_off1_inb k)).toLoadRect X_arg13) (k0_pay50 (k0_pay69 v73) st3.1.2.2 (k0_pay44 (arg13.view.readAt (Elt Ideal) (Rect.unit (s := S2x2048x128) (k0_off1 k) S2x256x128.size (k0_off1_inb k)).toLoadRect X_arg13) (arg14.view.readAt (Elt Ideal) (Rect.unit (s := S2x2048x128) (k0_off6 k) S2x256x128.size (k0_off6_inb k)).toLoadRect X_arg14)) (k0_pay45 (Scf.iv 0#32 1#32 k) (block.sl.v191 k)) (k0_pay46 v72 (k0_pay33 (arg2.view.readAt (Elt Ideal) (Rect.unit (s := S2048x256) (k0_off2 k) S256x128.size (k0_off2_inb k)).toLoadRect X_arg2) (arg2.view.readAt (Elt Ideal) (Rect.unit (s := S2048x256) (k0_off3 k) S256x128.size (k0_off3_inb k)).toLoadRect X_arg2)) st3.1.2.1 (k0_pay43 (arg13.view.readAt (Elt Ideal) (Rect.unit (s := S2x2048x128) (k0_off1 k) S2x256x128.size (k0_off1_inb k)).toLoadRect X_arg13) (arg14.view.readAt (Elt Ideal) (Rect.unit (s := S2x2048x128) (k0_off6 k) S2x256x128.size (k0_off6_inb k)).toLoadRect X_arg14)) (k0_pay44 (arg13.view.readAt (Elt Ideal) (Rect.unit (s := S2x2048x128) (k0_off1 k) S2x256x128.size (k0_off1_inb k)).toLoadRect X_arg13) (arg14.view.readAt (Elt Ideal) (Rect.unit (s := S2x2048x128) (k0_off6 k) S2x256x128.size (k0_off6_inb k)).toLoadRect X_arg14)) (k0_pay45 (Scf.iv 0#32 1#32 k) (block.sl.v191 k))) (k0_pay47 (k0_pay32 (arg1.view.readAt (Elt Ideal) (Rect.unit (s := S2048x256) (k0_off2 k) S256x128.size (k0_off2_inb k)).toLoadRect X_arg1) (arg1.view.readAt (Elt Ideal) (Rect.unit (s := S2048x256) (k0_off3 k) S256x128.size (k0_off3_inb k)).toLoadRect X_arg1)) (arg15.view.readAt (Elt Ideal) (Rect.unit (s := S2x2048x128) (k0_off6 k) S2x256x128.size (k0_off6_inb k)).toLoadRect X_arg15)) (k0_pay48 (k0_pay32 (arg1.view.readAt (Elt Ideal) (Rect.unit (s := S2048x256) (k0_off2 k) S256x128.size (k0_off2_inb k)).toLoadRect X_arg1) (arg1.view.readAt (Elt Ideal) (Rect.unit (s := S2048x256) (k0_off3 k) S256x128.size (k0_off3_inb k)).toLoadRect X_arg1))) (k0_pay49 (arg15.view.readAt (Elt Ideal) (Rect.unit (s := S2x2048x128) (k0_off6 k) S2x256x128.size (k0_off6_inb k)).toLoadRect X_arg15))) (arg16.view.readAt (Elt Ideal) (Rect.unit (s := S2x2048x128) (k0_off6 k) S2x256x128.size (k0_off6_inb k)).toLoadRect (arg16.view.writes (Elt Ideal) f_arg16 (st3.2.1 ++ st2.2.1)))⟩ :: (st3.2.1 ++ st2.2.1)
    ∧ (block (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 k).2.1 f_arg16 f_arg18 = [⟨Rect.unit (s := S2x2048x128) (k0_off1 k) S2x256x128.size (k0_off1_inb k), k0_pay54 st3.1.1 (arg14.view.readAt (Elt Ideal) (Rect.unit (s := S2x2048x128) (k0_off6 k) S2x256x128.size (k0_off6_inb k)).toLoadRect X_arg14) (k0_pay50 (k0_pay69 v73) st3.1.2.2 (k0_pay44 (arg13.view.readAt (Elt Ideal) (Rect.unit (s := S2x2048x128) (k0_off1 k) S2x256x128.size (k0_off1_inb k)).toLoadRect X_arg13) (arg14.view.readAt (Elt Ideal) (Rect.unit (s := S2x2048x128) (k0_off6 k) S2x256x128.size (k0_off6_inb k)).toLoadRect X_arg14)) (k0_pay45 (Scf.iv 0#32 1#32 k) (block.sl.v191 k)) (k0_pay46 v72 (k0_pay33 (arg2.view.readAt (Elt Ideal) (Rect.unit (s := S2048x256) (k0_off2 k) S256x128.size (k0_off2_inb k)).toLoadRect X_arg2) (arg2.view.readAt (Elt Ideal) (Rect.unit (s := S2048x256) (k0_off3 k) S256x128.size (k0_off3_inb k)).toLoadRect X_arg2)) st3.1.2.1 (k0_pay43 (arg13.view.readAt (Elt Ideal) (Rect.unit (s := S2x2048x128) (k0_off1 k) S2x256x128.size (k0_off1_inb k)).toLoadRect X_arg13) (arg14.view.readAt (Elt Ideal) (Rect.unit (s := S2x2048x128) (k0_off6 k) S2x256x128.size (k0_off6_inb k)).toLoadRect X_arg14)) (k0_pay44 (arg13.view.readAt (Elt Ideal) (Rect.unit (s := S2x2048x128) (k0_off1 k) S2x256x128.size (k0_off1_inb k)).toLoadRect X_arg13) (arg14.view.readAt (Elt Ideal) (Rect.unit (s := S2x2048x128) (k0_off6 k) S2x256x128.size (k0_off6_inb k)).toLoadRect X_arg14)) (k0_pay45 (Scf.iv 0#32 1#32 k) (block.sl.v191 k))) (k0_pay47 (k0_pay32 (arg1.view.readAt (Elt Ideal) (Rect.unit (s := S2048x256) (k0_off2 k) S256x128.size (k0_off2_inb k)).toLoadRect X_arg1) (arg1.view.readAt (Elt Ideal) (Rect.unit (s := S2048x256) (k0_off3 k) S256x128.size (k0_off3_inb k)).toLoadRect X_arg1)) (arg15.view.readAt (Elt Ideal) (Rect.unit (s := S2x2048x128) (k0_off6 k) S2x256x128.size (k0_off6_inb k)).toLoadRect X_arg15)) (k0_pay48 (k0_pay32 (arg1.view.readAt (Elt Ideal) (Rect.unit (s := S2048x256) (k0_off2 k) S256x128.size (k0_off2_inb k)).toLoadRect X_arg1) (arg1.view.readAt (Elt Ideal) (Rect.unit (s := S2048x256) (k0_off3 k) S256x128.size (k0_off3_inb k)).toLoadRect X_arg1))) (k0_pay49 (arg15.view.readAt (Elt Ideal) (Rect.unit (s := S2x2048x128) (k0_off6 k) S2x256x128.size (k0_off6_inb k)).toLoadRect X_arg15)))⟩]
    ∧ (block (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 k).2.2.1 f_arg16 f_arg18 = ⟨Rect.unit (s := S2x2048x128) (k0_off6 k) S2x256x128.size (k0_off6_inb k), k0_pay52 (k0_pay51 (k0_pay32 (arg1.view.readAt (Elt Ideal) (Rect.unit (s := S2048x256) (k0_off2 k) S256x128.size (k0_off2_inb k)).toLoadRect X_arg1) (arg1.view.readAt (Elt Ideal) (Rect.unit (s := S2048x256) (k0_off3 k) S256x128.size (k0_off3_inb k)).toLoadRect X_arg1)) (k0_pay46 v72 (k0_pay33 (arg2.view.readAt (Elt Ideal) (Rect.unit (s := S2048x256) (k0_off2 k) S256x128.size (k0_off2_inb k)).toLoadRect X_arg2) (arg2.view.readAt (Elt Ideal) (Rect.unit (s := S2048x256) (k0_off3 k) S256x128.size (k0_off3_inb k)).toLoadRect X_arg2)) st3.1.2.1 (k0_pay43 (arg13.view.readAt (Elt Ideal) (Rect.unit (s := S2x2048x128) (k0_off1 k) S2x256x128.size (k0_off1_inb k)).toLoadRect X_arg13) (arg14.view.readAt (Elt Ideal) (Rect.unit (s := S2x2048x128) (k0_off6 k) S2x256x128.size (k0_off6_inb k)).toLoadRect X_arg14)) (k0_pay44 (arg13.view.readAt (Elt Ideal) (Rect.unit (s := S2x2048x128) (k0_off1 k) S2x256x128.size (k0_off1_inb k)).toLoadRect X_arg13) (arg14.view.readAt (Elt Ideal) (Rect.unit (s := S2x2048x128) (k0_off6 k) S2x256x128.size (k0_off6_inb k)).toLoadRect X_arg14)) (k0_pay45 (Scf.iv 0#32 1#32 k) (block.sl.v191 k))) (arg18.view.readAt (Elt Ideal) (Rect.unit (s := S2x2048x128) (k0_off6 k) S2x256x128.size (k0_off6_inb k)).toLoadRect (arg18.view.writes (Elt Ideal) f_arg18 (st3.2.2 ++ st2.2.2))))⟩ :: (st3.2.2 ++ st2.2.2) := by
  rintro _ _ rfl rfl
  unfold block
  exact ⟨rfl, rfl, rfl⟩

variable (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S2x2048x128 .bf16) (harg13 : arg13.IsWhole) (arg14 : Memref sig .tc .vmem S2x2048x128 .bf16) (harg14 : arg14.IsWhole) (arg15 : Memref sig .tc .vmem S2x2048x128 .bf16) (harg15 : arg15.IsWhole) (arg16 : Memref sig .tc .vmem S2x2048x128 .f32) (harg16 : arg16.IsWhole) (arg17 : Memref sig .tc .vmem S2x2048x128 .f32) (harg17 : arg17.IsWhole) (arg18 : Memref sig .tc .vmem S2x2048x128 .f32) (harg18 : arg18.IsWhole) (arg0 : BitVec 32) (v4 : FVec Ideal S2x2048x128 .f32) (v9 : FVec Ideal S2x2048x128 .f32) (v17 : FVec Ideal S2x2048x1 .f32) (v25 : FVec Ideal S2x2048x1 .f32) (v27 : FVec Ideal S1x128 .f32) (v72 : FVec Ideal S256x256 .bf16) (v73 : IVec S256x256 1) (X_arg1 : BufTy.Contents (Elt Ideal) arg1.view.ty) (X_arg2 : BufTy.Contents (Elt Ideal) arg2.view.ty) (X_arg13 : BufTy.Contents (Elt Ideal) arg13.view.ty) (X_arg14 : BufTy.Contents (Elt Ideal) arg14.view.ty) (X_arg15 : BufTy.Contents (Elt Ideal) arg15.view.ty)
  (H : Fin 2 → Head)
  (h72 : ∀ x c, v72 (ix2 x c) = (((if x.val < c.val + 1 then 1 else 0 : ℝ)) : EReal))
  (h73 : ∀ x c, k0_pay69 (F := Ideal) v73 (ix2 x c) = (((if x.val < c.val then 1 else 0 : ℝ)) : EReal))
  (h1 : ∀ (t : Fin 2048) (a : Fin 2) (d : Fin 128), arg1.view.read (Elt Ideal) X_arg1 (ix2 t (lane a d)) = (((H a).g t.val d : ℝ) : EReal))
  (h2 : ∀ (t : Fin 2048) (a : Fin 2) (d : Fin 128), arg2.view.read (Elt Ideal) X_arg2 (ix2 t (lane a d)) = ((tot (H a) t.val : ℝ) : EReal))
  (h13 : ∀ a s d, arg13.view.read (Elt Ideal) X_arg13 (ix3 a s d) = (((H a).qn s.val d : ℝ) : EReal))
  (h14 : ∀ a s d, arg14.view.read (Elt Ideal) X_arg14 (ix3 a s d) = (((H a).kn s.val d : ℝ) : EReal))
  (h15 : ∀ a s d, arg15.view.read (Elt Ideal) X_arg15 (ix3 a s d) = (((H a).v s.val d : ℝ) : EReal))

/-- A sum over the rows of tile `k` where the summand vanishes at and past its own row. -/
theorem sum_vanish (f : ℕ → ℝ) (k : ℕ) (hk : k < 8) (hf : ∀ s, 256 * (k + 1) ≤ s → f s = 0) :
    ∑ s ∈ Finset.range (256 * (k + 1)), f s = ∑ s ∈ Finset.range 2048, f s := by
  refine Finset.sum_subset (Finset.range_mono (by omega)) fun s _ hs => hf s ?_
  rw [Finset.mem_range] at hs
  omega

include h72 h73 h1 h2 h13 h14 h15 in
/-- A block adds its rows' part to the accumulators of dk and dv and writes its rows of dq. -/
theorem block_val (k : Fin k0_t1_loop.trips) (f_arg16 : BufTy.Contents (Elt Ideal) arg16.view.ty) (f_arg18 : BufTy.Contents (Elt Ideal) arg18.view.ty) (g16 g18 : Fin 2 → ℕ → Fin 128 → ℝ)
    (hg16 : ∀ a s d, arg16.view.read (Elt Ideal) f_arg16 (ix3 a s d) = ((g16 a s.val d : ℝ) : EReal))
    (hg18 : ∀ a s d, arg18.view.read (Elt Ideal) f_arg18 (ix3 a s d) = ((g18 a s.val d : ℝ) : EReal)) :
    (∀ a s d, arg16.view.read (Elt Ideal) (arg16.view.writes (Elt Ideal) f_arg16 ((block (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 k).1 f_arg16 f_arg18)) (ix3 a s d)
        = ((g16 a s.val d + ∑ r : Fin 256, dz (H a) (256 * k.val + r.val) s.val * (H a).qn (256 * k.val + r.val) d : ℝ) : EReal))
    ∧ (∃ w : S2x256x128.Idx → Elt Ideal .f32, (block (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 k).2.1 f_arg16 f_arg18 = [⟨Rect.unit (s := S2x2048x128) (k0_off1 k) S2x256x128.size (k0_off1_inb k), w⟩]
        ∧ ∀ a r d, w (ix3 a r d) = (((∑ s ∈ Finset.range 2048, dz (H a) (256 * k.val + r.val) s * (H a).kn s d) * SbTile.scale : ℝ) : EReal))
    ∧ (∀ a s d, arg18.view.read (Elt Ideal) (arg18.view.writes (Elt Ideal) f_arg18 ((block (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 k).2.2.1 f_arg16 f_arg18)) (ix3 a s d)
        = ((g18 a s.val d + ∑ r : Fin 256, wt (H a) (256 * k.val + r.val) s.val * (H a).g (256 * k.val + r.val) d : ℝ) : EReal)) := by
  have hk8 : k.val < 8 := k.isLt
  have hkk : 256 * k.val + 256 ≤ 2048 := by omega
  have hqi : ∀ a r d, (arg13.view.readAt (Elt Ideal) (Rect.unit (s := S2x2048x128) (k0_off1 k) S2x256x128.size (k0_off1_inb k)).toLoadRect X_arg13) (ix3 a r d) = (((H a).qn (256 * k.val + r.val) d : ℝ) : EReal) := fun a r d => by
    rw [get arg13.view X_arg13 _ (256 * k.val) hkk (off1_eq k), h13]
  have hkj : ∀ a r d, (arg14.view.readAt (Elt Ideal) (Rect.unit (s := S2x2048x128) (k0_off6 k) S2x256x128.size (k0_off6_inb k)).toLoadRect X_arg14) (ix3 a r d) = (((H a).kn (256 * k.val + r.val) d : ℝ) : EReal) := fun a r d => by
    rw [get arg14.view X_arg14 _ (256 * k.val) hkk (off6_eq k), h14]
  have hvj : ∀ a r d, (arg15.view.readAt (Elt Ideal) (Rect.unit (s := S2x2048x128) (k0_off6 k) S2x256x128.size (k0_off6_inb k)).toLoadRect X_arg15) (ix3 a r d) = (((H a).v (256 * k.val + r.val) d : ℝ) : EReal) := fun a r d => by
    rw [get arg15.view X_arg15 _ (256 * k.val) hkk (off6_eq k), h15]
  have hdo : ∀ a r d, (k0_pay32 (arg1.view.readAt (Elt Ideal) (Rect.unit (s := S2048x256) (k0_off2 k) S256x128.size (k0_off2_inb k)).toLoadRect X_arg1) (arg1.view.readAt (Elt Ideal) (Rect.unit (s := S2048x256) (k0_off3 k) S256x128.size (k0_off3_inb k)).toLoadRect X_arg1)) (ix3 a r d) = (((H a).g (256 * k.val + r.val) d : ℝ) : EReal) :=
    pay32 _ _ (fun a r d => (H a).g (256 * k.val + r.val) d)
      (fun r d => by
        rw [get2 arg1.view X_arg1 _ (256 * k.val) 0 hkk (by omega) (off2_eq k)]
        exact h1 ⟨256 * k.val + r.val, by omega⟩ 0 d)
      (fun r d => by
        rw [get2 arg1.view X_arg1 _ (256 * k.val) 128 hkk (by omega) (off3_eq k)]
        exact h1 ⟨256 * k.val + r.val, by omega⟩ 1 d)
  have hto : ∀ a r, (k0_pay33 (arg2.view.readAt (Elt Ideal) (Rect.unit (s := S2048x256) (k0_off2 k) S256x128.size (k0_off2_inb k)).toLoadRect X_arg2) (arg2.view.readAt (Elt Ideal) (Rect.unit (s := S2048x256) (k0_off3 k) S256x128.size (k0_off3_inb k)).toLoadRect X_arg2)) (ix3 a r 0) = ((tot (H a) (256 * k.val + r.val) : ℝ) : EReal) :=
    pay33 _ _ (fun a r => tot (H a) (256 * k.val + r.val))
      (fun r d => by
        rw [get2 arg2.view X_arg2 _ (256 * k.val) 0 hkk (by omega) (off2_eq k)]
        exact h2 ⟨256 * k.val + r.val, by omega⟩ 0 d)
      (fun r d => by
        rw [get2 arg2.view X_arg2 _ (256 * k.val) 128 hkk (by omega) (off3_eq k)]
        exact h2 ⟨256 * k.val + r.val, by omega⟩ 1 d)
  have h45 : ∀ r c : Fin 256, (k0_pay45 (Scf.iv 0#32 1#32 k) (block.sl.v191 k)) (ix2 r c) = BitVec.ofBool (decide (c.val < r.val)) := fun r c => by
    rw [v191_eq, iv_eq]
    exact SbTile.pay45 k.val hk8 r c
  obtain ⟨st2, e2⟩ : ∃ st2, st2 = st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v72 (k0_pay69 v73) k (Scf.iv 0#32 1#32 k) (arg13.view.readAt (Elt Ideal) (Rect.unit (s := S2x2048x128) (k0_off1 k) S2x256x128.size (k0_off1_inb k)).toLoadRect X_arg13) (k0_pay32 (arg1.view.readAt (Elt Ideal) (Rect.unit (s := S2048x256) (k0_off2 k) S256x128.size (k0_off2_inb k)).toLoadRect X_arg1) (arg1.view.readAt (Elt Ideal) (Rect.unit (s := S2048x256) (k0_off3 k) S256x128.size (k0_off3_inb k)).toLoadRect X_arg1)) (k0_pay33 (arg2.view.readAt (Elt Ideal) (Rect.unit (s := S2048x256) (k0_off2 k) S256x128.size (k0_off2_inb k)).toLoadRect X_arg2) (arg2.view.readAt (Elt Ideal) (Rect.unit (s := S2048x256) (k0_off3 k) S256x128.size (k0_off3_inb k)).toLoadRect X_arg2)) (block.sl.v191 k) k0_pay34 X_arg14 X_arg15 f_arg16 f_arg18 (k0_pay35, k0_pay34, k0_pay34) (k0_t2_loop k).trips := ⟨_, rfl⟩
  have I : Inner arg16 arg18 k f_arg16 f_arg18 H g16 g18 k.val st2 := by
    rw [e2, trips2]
    refine inner 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v72 (k0_pay69 v73) k (Scf.iv 0#32 1#32 k) (arg13.view.readAt (Elt Ideal) (Rect.unit (s := S2x2048x128) (k0_off1 k) S2x256x128.size (k0_off1_inb k)).toLoadRect X_arg13) (k0_pay32 (arg1.view.readAt (Elt Ideal) (Rect.unit (s := S2048x256) (k0_off2 k) S256x128.size (k0_off2_inb k)).toLoadRect X_arg1) (arg1.view.readAt (Elt Ideal) (Rect.unit (s := S2048x256) (k0_off3 k) S256x128.size (k0_off3_inb k)).toLoadRect X_arg1)) (k0_pay33 (arg2.view.readAt (Elt Ideal) (Rect.unit (s := S2048x256) (k0_off2 k) S256x128.size (k0_off2_inb k)).toLoadRect X_arg2) (arg2.view.readAt (Elt Ideal) (Rect.unit (s := S2048x256) (k0_off3 k) S256x128.size (k0_off3_inb k)).toLoadRect X_arg2)) (block.sl.v191 k) k0_pay34 X_arg14 X_arg15 f_arg16 f_arg18 (k0_pay35, k0_pay34, k0_pay34) H g16 g18 h72 h73 hqi hdo hto h14 h15 ⟨fun a r d => ?_, fun a r => ?_, fun a r => ?_, fun a s d => ?_, fun a s d => ?_⟩ k.val (le_refl _)
    · dsimp only
      pointwise [k0_pay35]
      simp
    · dsimp only
      pointwise [k0_pay34]
      simp
    · dsimp only
      pointwise [k0_pay34]
      simp
    · simpa using hg16 a s d
    · simpa using hg18 a s d
  obtain ⟨st3, e3⟩ : ∃ st3, st3 = st_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v72 (k0_pay69 v73) k (Scf.iv 0#32 1#32 k) (arg13.view.readAt (Elt Ideal) (Rect.unit (s := S2x2048x128) (k0_off1 k) S2x256x128.size (k0_off1_inb k)).toLoadRect X_arg13) (k0_pay32 (arg1.view.readAt (Elt Ideal) (Rect.unit (s := S2048x256) (k0_off2 k) S256x128.size (k0_off2_inb k)).toLoadRect X_arg1) (arg1.view.readAt (Elt Ideal) (Rect.unit (s := S2048x256) (k0_off3 k) S256x128.size (k0_off3_inb k)).toLoadRect X_arg1)) (k0_pay33 (arg2.view.readAt (Elt Ideal) (Rect.unit (s := S2048x256) (k0_off2 k) S256x128.size (k0_off2_inb k)).toLoadRect X_arg2) (arg2.view.readAt (Elt Ideal) (Rect.unit (s := S2048x256) (k0_off3 k) S256x128.size (k0_off3_inb k)).toLoadRect X_arg2)) (block.sl.v191 k) k0_pay34 (block.sl.v198 k) X_arg14 X_arg15 (arg16.view.writes (Elt Ideal) f_arg16 st2.2.1) (arg18.view.writes (Elt Ideal) f_arg18 st2.2.2) (st2.1.1, st2.1.2.1, st2.1.2.2) (k0_t3_loop k).trips := ⟨_, rfl⟩
  have e3' : st3 = (st2.1, [], []) := by
    rw [e3, trips3]
    rfl
  obtain ⟨f1, f2, f3⟩ := block_form 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 k f_arg16 f_arg18 st2 st3 e2 e3
  rw [f1, f2, f3]
  clear f1 f2 f3 e3 e2
  subst e3'
  obtain ⟨a0, a1, a2, m16, m18⟩ := I
  simp only [List.nil_append]
  have e43 := SbTile.pay43 H k.val _ _ hqi hkj
  have e44 := SbTile.pay44 H k.val _ _ hqi hkj
  have e46 := SbTile.pay46 H k.val v72 h72 _ _ hto a1 _ h45 _ _ e43 e44
  have e50 := SbTile.pay50 H k.val _ h73 _ _ hdo hvj _ a2 _ h45 _ e44 _ e46
  have g16' : ∀ a r d, (arg16.view.readAt (Elt Ideal) (Rect.unit (s := S2x2048x128) (k0_off6 k) S2x256x128.size (k0_off6_inb k)).toLoadRect (arg16.view.writes (Elt Ideal) f_arg16 st2.2.1)) (ix3 a r d) = ((g16 a (256 * k.val + r.val) d : ℝ) : EReal) := fun a r d => by
    rw [get arg16.view _ _ (256 * k.val) hkk (off6_eq k), m16, if_neg (by show ¬(256 * k.val + r.val < _); omega), add_zero]
  have g18' : ∀ a r d, (arg18.view.readAt (Elt Ideal) (Rect.unit (s := S2x2048x128) (k0_off6 k) S2x256x128.size (k0_off6_inb k)).toLoadRect (arg18.view.writes (Elt Ideal) f_arg18 st2.2.2)) (ix3 a r d) = ((g18 a (256 * k.val + r.val) d : ℝ) : EReal) := fun a r d => by
    rw [get arg18.view _ _ (256 * k.val) hkk (off6_eq k), m18, if_neg (by show ¬(256 * k.val + r.val < _); omega), add_zero]
  have e52 := SbTile.pay52 H k.val _ hdo _ (fun a => wt (H a)) e46 _ (fun a r d => g18 a (256 * k.val + r.val) d) g18'
  have e53 := SbTile.pay53 H k.val _ hqi (fun a => dz (H a)) _ e50 _ (fun a r d => g16 a (256 * k.val + r.val) d) g16'
  have e54 := SbTile.pay54 H k.val _ hkj (fun a => dz (H a)) _ e50 _ _ a0
  refine ⟨fun a s d => ?_, ⟨_, rfl, fun a r d => ?_⟩, fun a s d => ?_⟩
  · rw [put arg16.view f_arg16 _ (256 * k.val) (off6_eq k)]
    by_cases hs : 256 * k.val ≤ s.val ∧ s.val < 256 * k.val + 256
    · have es : 256 * k.val + (s.val - 256 * k.val) = s.val := by omega
      rw [dif_pos hs, e53]
      dsimp only
      rw [es]
    · rw [dif_neg hs, m16]
      by_cases hs2 : s.val < 256 * k.val
      · rw [if_pos hs2]
      · rw [if_neg hs2, Finset.sum_eq_zero fun r _ => ?_]
        rw [dz_of_not (H a) (by omega), zero_mul]
  · rw [e54, ← sum_next (fun s => dz (H a) (256 * k.val + r.val) s * (H a).kn s d), sum_vanish (fun s => dz (H a) (256 * k.val + r.val) s * (H a).kn s d) k.val hk8 fun s hs => by
      rw [dz_of_not (H a) (by omega), zero_mul]]
  · rw [put arg18.view f_arg18 _ (256 * k.val) (off6_eq k)]
    by_cases hs : 256 * k.val ≤ s.val ∧ s.val < 256 * k.val + 256
    · have es : 256 * k.val + (s.val - 256 * k.val) = s.val := by omega
      rw [dif_pos hs, e52]
      dsimp only
      rw [es]
    · rw [dif_neg hs, m18]
      by_cases hs2 : s.val < 256 * k.val
      · rw [if_pos hs2]
      · rw [if_neg hs2, Finset.sum_eq_zero fun r _ => ?_]
        rw [wt_of_not (H a) (by omega), zero_mul]

end SbMem

end
-- ==== Proof.SbSweep.lean ====
/- The sweep over the eight query blocks of the stick-breaking gradient kernel over the reals. -/
module

public import proofs.«01_k».proof.Proof.SbBlock

@[expose] public section

set_option maxRecDepth 16384
set_option maxHeartbeats 4000000

noncomputable section

namespace SbMem

open Idealize.ShloMosaic Idealize.ShloMosaic.TcCoe Cert.SbIdeal Cert.SbIdeal.Gen Cert.SbIdeal.Own RealVal SbReal

variable (𝒱 : Variants) (c : Dev nD) (bd : Option 𝒱.V) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S2x2048x128 .bf16) (harg13 : arg13.IsWhole) (arg14 : Memref sig .tc .vmem S2x2048x128 .bf16) (harg14 : arg14.IsWhole) (arg15 : Memref sig .tc .vmem S2x2048x128 .bf16) (harg15 : arg15.IsWhole) (arg16 : Memref sig .tc .vmem S2x2048x128 .f32) (harg16 : arg16.IsWhole) (arg17 : Memref sig .tc .vmem S2x2048x128 .f32) (harg17 : arg17.IsWhole) (arg18 : Memref sig .tc .vmem S2x2048x128 .f32) (harg18 : arg18.IsWhole) (arg0 : BitVec 32) (v4 : FVec Ideal S2x2048x128 .f32) (v9 : FVec Ideal S2x2048x128 .f32) (v17 : FVec Ideal S2x2048x1 .f32) (v25 : FVec Ideal S2x2048x1 .f32) (v27 : FVec Ideal S1x128 .f32) (v72 : FVec Ideal S256x256 .bf16) (v73 : IVec S256x256 1) (X_arg1 : BufTy.Contents (Elt Ideal) arg1.view.ty) (X_arg2 : BufTy.Contents (Elt Ideal) arg2.view.ty) (X_arg13 : BufTy.Contents (Elt Ideal) arg13.view.ty) (X_arg14 : BufTy.Contents (Elt Ideal) arg14.view.ty) (X_arg15 : BufTy.Contents (Elt Ideal) arg15.view.ty)
  (H : Fin 2 → Head)
  (h72 : ∀ x c, v72 (ix2 x c) = (((if x.val < c.val + 1 then 1 else 0 : ℝ)) : EReal))
  (h73 : ∀ x c, k0_pay69 (F := Ideal) v73 (ix2 x c) = (((if x.val < c.val then 1 else 0 : ℝ)) : EReal))
  (h1 : ∀ (t : Fin 2048) (a : Fin 2) (d : Fin 128), arg1.view.read (Elt Ideal) X_arg1 (ix2 t (lane a d)) = (((H a).g t.val d : ℝ) : EReal))
  (h2 : ∀ (t : Fin 2048) (a : Fin 2) (d : Fin 128), arg2.view.read (Elt Ideal) X_arg2 (ix2 t (lane a d)) = ((tot (H a) t.val : ℝ) : EReal))
  (h13 : ∀ a s d, arg13.view.read (Elt Ideal) X_arg13 (ix3 a s d) = (((H a).qn s.val d : ℝ) : EReal))
  (h14 : ∀ a s d, arg14.view.read (Elt Ideal) X_arg14 (ix3 a s d) = (((H a).kn s.val d : ℝ) : EReal))
  (h15 : ∀ a s d, arg15.view.read (Elt Ideal) X_arg15 (ix3 a s d) = (((H a).v s.val d : ℝ) : EReal))

variable (G16 : BufTy.Contents (Elt Ideal) arg16.view.ty) (G17 : BufTy.Contents (Elt Ideal) arg17.view.ty) (G18 : BufTy.Contents (Elt Ideal) arg18.view.ty)
  (hG16 : ∀ a s d, arg16.view.read (Elt Ideal) G16 (ix3 a s d) = ((0 : ℝ) : EReal))
  (hG18 : ∀ a s d, arg18.view.read (Elt Ideal) G18 (ix3 a s d) = ((0 : ℝ) : EReal))

include h72 h73 h1 h2 h13 h14 h15 hG16 hG18 in
/-- Before block `n`: the sums over the rows of the blocks before. -/
theorem sweep_val (n : ℕ) (hn : n ≤ 8) :
    (∀ a s d, arg16.view.read (Elt Ideal) (arg16.view.writes (Elt Ideal) G16 (sweep (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 G16 G18 n).1) (ix3 a s d)
        = ((∑ t ∈ Finset.range (256 * n), dz (H a) t s.val * (H a).qn t d : ℝ) : EReal))
    ∧ (∀ a s d, s.val < 256 * n → arg17.view.read (Elt Ideal) (arg17.view.writes (Elt Ideal) G17 (sweep (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 G16 G18 n).2.1) (ix3 a s d)
        = (((∑ u ∈ Finset.range 2048, dz (H a) s.val u * (H a).kn u d) * SbTile.scale : ℝ) : EReal))
    ∧ (∀ a s d, arg18.view.read (Elt Ideal) (arg18.view.writes (Elt Ideal) G18 (sweep (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 G16 G18 n).2.2) (ix3 a s d)
        = ((∑ t ∈ Finset.range (256 * n), wt (H a) t s.val * (H a).g t d : ℝ) : EReal)) := by
  induction n with
  | zero =>
    refine ⟨fun a s d => ?_, fun a s d h => absurd h (by omega), fun a s d => ?_⟩
    · rw [mul_zero, Finset.range_zero, Finset.sum_empty]
      exact hG16 a s d
    · rw [mul_zero, Finset.range_zero, Finset.sum_empty]
      exact hG18 a s d
  | succ n ih =>
    obtain ⟨i16, i17, i18⟩ := ih (by omega)
    have hlt : n < k0_t1_loop.trips := by rw [trips1]; omega
    have e : sweep (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 G16 G18 (n + 1) = _ := sweep_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 G16 G18 ⟨n, hlt⟩
    obtain ⟨b16, ⟨w, e17, b17⟩, b18⟩ := block_val 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 H h72 h73 h1 h2 h13 h14 h15 ⟨n, hlt⟩ (arg16.view.writes (Elt Ideal) G16 (sweep (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 G16 G18 n).1) (arg18.view.writes (Elt Ideal) G18 (sweep (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v4 v9 v17 v25 v27 v72 v73 X_arg1 X_arg2 X_arg13 X_arg14 X_arg15 G16 G18 n).2.2)
      (fun a s d => ∑ t ∈ Finset.range (256 * n), dz (H a) t s * (H a).qn t d) (fun a s d => ∑ t ∈ Finset.range (256 * n), wt (H a) t s * (H a).g t d) i16 i18
    rw [e]
    refine ⟨fun a s d => ?_, fun a s d h => ?_, fun a s d => ?_⟩
    · dsimp only
      rw [View.writes_append, sum_next (fun t => dz (H a) t s.val * (H a).qn t d)]
      exact b16 a s d
    · dsimp only
      rw [e17, List.singleton_append, put arg17.view G17 _ (256 * n) (off1_eq ⟨n, hlt⟩)]
      by_cases hs : 256 * n ≤ s.val ∧ s.val < 256 * n + 256
      · have es : 256 * n + (s.val - 256 * n) = s.val := by omega
        rw [dif_pos hs, b17]
        dsimp only
        rw [es]
      · rw [dif_neg hs]
        exact i17 a s d (by omega)
    · dsimp only
      rw [View.writes_append, sum_next (fun t => wt (H a) t s.val * (H a).g t d)]
      exact b18 a s d

end SbMem

end
-- ==== Proof.SbPro.lean ====
/- The normalisations around the sweep of the stick-breaking gradient kernel over the reals: what each payload before and after it
   holds. -/
module

public import proofs.«01_k».proof.Proof.SbDiag

@[expose] public section

set_option maxRecDepth 16384

noncomputable section

namespace SbNorm

open RealVal Idealize.ShloMosaic

theorem bits_128 : Ideal.ofBits .f32 0x43000000#32 = ((128 : ℝ) : EReal) := by
  simp [Ideal.ofBits, Ideal.ieee, -EReal.coe_mul]; norm_num

/-- The reciprocal root mean square of a row of 128. -/
def rr (x : Fin 128 → ℝ) : ℝ := (Real.sqrt ((∑ k, x k * x k) / 128 + eps))⁻¹

/-- A row divided by its root mean square. -/
def hat (x : Fin 128 → ℝ) (d : Fin 128) : ℝ := x d * rr x

/-- A normalised row times its gain. -/
def nrm (x g : Fin 128 → ℝ) (d : Fin 128) : ℝ := hat x d * g d

/-- The gradient of a row through its normalisation and gain. -/
def dnrm (x g u : Fin 128 → ℝ) (d : Fin 128) : ℝ :=
  rr x * (u d * g d - hat x d * ((∑ k, u k * g k * hat x k) / 128))

theorem ms_pos (x : Fin 128 → ℝ) : 0 < (∑ k, x k * x k) / 128 + eps := by
  have h : 0 ≤ ∑ k, x k * x k := Finset.sum_nonneg fun k _ => mul_self_nonneg _
  have := eps_pos
  positivity

theorem rr_pos (x : Fin 128 → ℝ) : 0 < rr x := inv_pos.mpr (Real.sqrt_pos.mpr (ms_pos x))

theorem rr_sq (x : Fin 128 → ℝ) : rr x * rr x = ((∑ k, x k * x k) / 128 + eps)⁻¹ := by
  unfold rr
  rw [← mul_inv, Real.mul_self_sqrt (ms_pos x).le]

theorem rsqrt_ms (x : Fin 128 → ℝ) : Ideal.rsqrt (((∑ k, x k * x k) / 128 + eps : ℝ) : EReal) = ((rr x : ℝ) : EReal) := by
  rw [Ideal.rsqrt_coe, if_neg (not_lt.mpr (ms_pos x).le), if_neg (ms_pos x).ne']
  rfl

/-- The gradient of a row through its normalisation, the way the reference spells it. -/
theorem dn_eq (x g u : Fin 128 → ℝ) (d : Fin 128) :
    u d * g d * rr x + x d * ((∑ k, x k * (u k * g k)) * (-(1/2) * (rr x * (rr x * rr x))) / 128)
      + (∑ k, x k * (u k * g k)) * (-(1/2) * (rr x * (rr x * rr x))) / 128 * x d = dnrm x g u d := by
  unfold dnrm hat
  have : ∑ k, u k * g k * (x k * rr x) = (∑ k, x k * (u k * g k)) * rr x := by
    rw [Finset.sum_mul]
    exact Finset.sum_congr rfl fun k _ => by ring
  rw [this]
  ring

end SbNorm

namespace SbPro

open Idealize.ShloMosaic Idealize.ShloMosaic.TcCoe Cert.SbIdeal Cert.SbIdeal.Gen RealVal SbReal SbNorm SbTile

section
variable (Q : Fin 2 → ℕ → Fin 128 → ℝ) (g : Fin 128 → ℝ) (v0 v1 : Vec Ideal S2048x128 .f32) (w : Vec Ideal S1x128 .f32)
  (h0 : ∀ (t : Fin 2048) d, v0 (ix2 t d) = ((Q 0 t d : ℝ) : EReal)) (h1 : ∀ (t : Fin 2048) d, v1 (ix2 t d) = ((Q 1 t d : ℝ) : EReal))
  (hw : ∀ u d, w (ix2 u d) = ((g d : ℝ) : EReal))

include h0 h1 in
theorem pay55 (a : Fin 2) (s : Fin 2048) (d : Fin 128) : k0_pay55 v0 v1 (ix3 a s d) = ((Q a s d : ℝ) : EReal) := by
  refine ex2 (P := fun a => k0_pay55 v0 v1 (ix3 a s d) = ((Q a s d : ℝ) : EReal)) ?_ ?_ a
  · pointwise [k0_pay55]
    exact h0 s d
  · pointwise [k0_pay55]
    exact h1 s d

include h0 h1 in
theorem pay56 (a : Fin 2) (s : Fin 2048) (d : Fin 128) : k0_pay56 v0 v1 (ix3 a s d) = ((Q a s d : ℝ) : EReal) := by
  refine ex2 (P := fun a => k0_pay56 v0 v1 (ix3 a s d) = ((Q a s d : ℝ) : EReal)) ?_ ?_ a
  · pointwise [k0_pay56]
    exact h0 s d
  · pointwise [k0_pay56]
    exact h1 s d

include h0 h1 in
theorem pay64 (a : Fin 2) (s : Fin 2048) (d : Fin 128) : k0_pay64 v0 v1 (ix3 a s d) = ((Q a s d : ℝ) : EReal) := by
  refine ex2 (P := fun a => k0_pay64 v0 v1 (ix3 a s d) = ((Q a s d : ℝ) : EReal)) ?_ ?_ a
  · pointwise [k0_pay64]
    exact h0 s d
  · pointwise [k0_pay64]
    exact h1 s d

include h0 h1 in
theorem pay57 (a : Fin 2) (s : Fin 2048) (u : Fin 1) : k0_pay57 v0 v1 (ix3 a s u) = ((rr (Q a s) : ℝ) : EReal) := by
  pointwise [k0_pay57]
  simp only [pay55 Q v0 v1 h0 h1, ← EReal.coe_mul, coe_sum, bits_128, bits_eps]
  rw [div_coe _ _ (by norm_num), ← EReal.coe_add, rsqrt_ms]

include h0 h1 in
theorem pay58 (a : Fin 2) (s : Fin 2048) (u : Fin 1) : k0_pay58 v0 v1 (ix3 a s u) = ((rr (Q a s) : ℝ) : EReal) := by
  pointwise [k0_pay58]
  simp only [pay56 Q v0 v1 h0 h1, ← EReal.coe_mul, coe_sum, bits_128, bits_eps]
  rw [div_coe _ _ (by norm_num), ← EReal.coe_add, rsqrt_ms]

theorem pay59 (w : Vec Ideal S1x128 .f32) : k0_pay59 w = w := by funext i; pointwise [k0_pay59]

theorem pay60 (w : Vec Ideal S1x128 .f32) : k0_pay60 w = w := by funext i; pointwise [k0_pay60]

include h0 h1 hw in
theorem pay61 (a : Fin 2) (s : Fin 2048) (d : Fin 128) : k0_pay61 v0 v1 w (ix3 a s d) = ((hat (Q a s) d * (g d * scale) : ℝ) : EReal) := by
  pointwise [k0_pay61]
  simp only [pay55 Q v0 v1 h0 h1, pay57 Q v0 v1 h0 h1, pay59, hw, bits_scale, ← EReal.coe_mul]
  rfl

end

theorem pay62 (x : FVec Ideal S2x2048x128 .bf16) : k0_pay62 x = x := by funext i; pointwise [k0_pay62]

theorem pay65 (a : Fin 2) (s : Fin 2048) (d : Fin 128) : (k0_pay65 : FVec Ideal S2x2048x128 .f32) (ix3 a s d) = ((0 : ℝ) : EReal) := by
  pointwise [k0_pay65]
  exact EReal.coe_zero.symm

theorem pay66 (a : Fin 2) (s : Fin 2048) (d : Fin 128) : (k0_pay66 : FVec Ideal S2x2048x128 .f32) (ix3 a s d) = ((0 : ℝ) : EReal) := by
  pointwise [k0_pay66]
  exact EReal.coe_zero.symm

theorem pay70 (u : Fin 1) (d : Fin 128) : (k0_pay70 : FVec Ideal S1x128 .f32) (ix2 u d) = ((0 : ℝ) : EReal) := by
  pointwise [k0_pay70]
  exact EReal.coe_zero.symm

theorem pay71 (u : Fin 1) (d : Fin 128) : (k0_pay71 : FVec Ideal S1x128 .f32) (ix2 u d) = ((0 : ℝ) : EReal) := by
  pointwise [k0_pay71]
  exact EReal.coe_zero.symm

section
variable (Q D : Fin 2 → ℕ → Fin 128 → ℝ) (g : Fin 128 → ℝ) (x y : FVec Ideal S2x2048x128 .f32) (r : FVec Ideal S2x2048x1 .f32) (w z : FVec Ideal S1x128 .f32)
  (hx : ∀ a (s : Fin 2048) d, x (ix3 a s d) = ((Q a s d : ℝ) : EReal)) (hr : ∀ a (s : Fin 2048) u, r (ix3 a s u) = ((rr (Q a s) : ℝ) : EReal))
  (hw : ∀ u d, w (ix2 u d) = ((g d : ℝ) : EReal)) (hy : ∀ a (s : Fin 2048) d, y (ix3 a s d) = ((D a s d : ℝ) : EReal))

include hx hr hw in
theorem pay63 (a : Fin 2) (s : Fin 2048) (d : Fin 128) : k0_pay63 x r w (ix3 a s d) = ((hat (Q a s) d * g d : ℝ) : EReal) := by
  pointwise [k0_pay63]
  rw [hx, hr, hw, ← EReal.coe_mul, ← EReal.coe_mul]
  rfl

include hx hr in
theorem pay72 (a : Fin 2) (s : Fin 2048) (d : Fin 128) : k0_pay72 x r (ix3 a s d) = ((hat (Q a s) d : ℝ) : EReal) := by
  pointwise [k0_pay72]
  rw [hx, hr, ← EReal.coe_mul]
  rfl

include hx hr in
theorem pay75 (a : Fin 2) (s : Fin 2048) (d : Fin 128) : k0_pay75 x r (ix3 a s d) = ((hat (Q a s) d : ℝ) : EReal) := by
  pointwise [k0_pay75]
  rw [hx, hr, ← EReal.coe_mul]
  rfl

/-- The part of a pair of heads in the gradient of a gain. -/
def part (Q D : Fin 2 → ℕ → Fin 128 → ℝ) (d : Fin 128) : ℝ := ∑ a : Fin 2, ∑ s : Fin 2048, D a s d * hat (Q a s) d

variable (b : Fin 128 → ℝ) (hz : ∀ u d, z (ix2 u d) = ((b d : ℝ) : EReal))

include hx hr hy hz in
theorem pay73 (u : Fin 1) (d : Fin 128) : k0_pay73 x r y z (ix2 u d) = ((b d + part Q D d : ℝ) : EReal) := by
  pointwise [k0_pay73]
  simp only [hz, hy, pay72 Q x r hx hr, ← EReal.coe_mul, coe_sum, ← EReal.coe_add]
  rfl

include hx hr hw hy in
theorem pay74 (a : Fin 2) (s : Fin 2048) (d : Fin 128) : k0_pay74 x r w y (ix3 a s d) = ((dnrm (Q a s) g (D a s) d : ℝ) : EReal) := by
  pointwise [k0_pay74]
  simp only [hr, hw, hy, pay72 Q x r hx hr, ← EReal.coe_mul, coe_sum, bits_128]
  rw [div_coe _ _ (by norm_num), ← EReal.coe_mul, ← EReal.coe_sub, ← EReal.coe_mul]
  rfl

include hr hw hy in
theorem pay77 (q : FVec Ideal S2x2048x128 .f32) (hq : ∀ a (s : Fin 2048) d, q (ix3 a s d) = ((hat (Q a s) d : ℝ) : EReal)) (a : Fin 2) (s : Fin 2048) (d : Fin 128) :
    k0_pay77 r w y q (ix3 a s d) = ((dnrm (Q a s) g (D a s) d : ℝ) : EReal) := by
  pointwise [k0_pay77]
  simp only [hr, hw, hy, hq, ← EReal.coe_mul, coe_sum, bits_128]
  rw [div_coe _ _ (by norm_num), ← EReal.coe_mul, ← EReal.coe_sub, ← EReal.coe_mul]
  rfl

include hy hz in
theorem pay76 (q : FVec Ideal S2x2048x128 .f32) (hq : ∀ a (s : Fin 2048) d, q (ix3 a s d) = ((hat (Q a s) d : ℝ) : EReal)) (u : Fin 1) (d : Fin 128) :
    k0_pay76 y q z (ix2 u d) = ((b d + part Q D d : ℝ) : EReal) := by
  pointwise [k0_pay76]
  simp only [hz, hy, hq, ← EReal.coe_mul, coe_sum, ← EReal.coe_add]
  rfl

end

theorem pay78 (x : Vec Ideal S2x2048x128 .f32) (a : Fin 2) (s : Fin 2048) (d : Fin 128) : k0_pay78 x (ix3 a s d) = x (ix3 a s d) := by
  pointwise [k0_pay78]

theorem pay79 (x : FVec Ideal S2x2048x128 .bf16) (s : Fin 2048) (d : Fin 128) : k0_pay79 x (ix2 s d) = x (ix3 0 s d) := by
  pointwise [k0_pay79]

theorem pay82 (x : FVec Ideal S2x2048x128 .bf16) (s : Fin 2048) (d : Fin 128) : k0_pay82 x (ix2 s d) = x (ix3 1 s d) := by
  pointwise [k0_pay82]

theorem pay1 (x : FVec Ideal S2x2048x128 .bf16) (s : Fin 2048) (d : Fin 128) : k0_pay1 x (ix2 s d) = x (ix3 1 s d) := by
  pointwise [k0_pay1]

theorem pay81 (x : Vec Ideal S2x2048x128 .f32) (s : Fin 2048) (d : Fin 128) : k0_pay81 x (ix2 s d) = x (ix3 0 s d) := by
  pointwise [k0_pay81, k0_pay78]

theorem pay80 (r : FVec Ideal S2x2048x1 .f32) (w : FVec Ideal S1x128 .f32) (y q : FVec Ideal S2x2048x128 .f32) (s : Fin 2048) (d : Fin 128) :
    k0_pay80 r w y q (ix2 s d) = k0_pay77 r w y q (ix3 0 s d) := by
  pointwise [k0_pay80]

theorem pay83 (r : FVec Ideal S2x2048x1 .f32) (w : FVec Ideal S1x128 .f32) (y q : FVec Ideal S2x2048x128 .f32) (s : Fin 2048) (d : Fin 128) :
    k0_pay83 r w y q (ix2 s d) = k0_pay77 r w y q (ix3 1 s d) := by
  pointwise [k0_pay83]

end SbPro

end
-- ==== Proof.SbRun.lean ====
/- One point of the stick-breaking gradient kernel over the reals: what its body leaves in the five outputs, over the reals its
   inputs' blocks hold. -/
module

public import proofs.«01_k».proof.Proof.SbSweep
public import proofs.«01_k».proof.Proof.SbPro

@[expose] public section

set_option maxRecDepth 16384
set_option maxHeartbeats 4000000

noncomputable section

namespace SbRun

open Idealize.ShloMosaic Idealize.ShloMosaic.TcCoe Cert.SbIdeal Cert.SbIdeal.Gen Cert.SbIdeal.Own RealVal SbReal SbNorm

/-- A head from its rows and the gains: the queries carry the scale. -/
def head (Q K V G : Fin 2 → ℕ → Fin 128 → ℝ) (gq gk : Fin 128 → ℝ) (a : Fin 2) : Head where
  qn t d := hat (Q a t) d * (gq d * SbTile.scale)
  kn s d := hat (K a s) d * gk d
  v := V a
  g := G a

/-- The gradient of the normalised queries. -/
def DQ (H : Fin 2 → Head) (a : Fin 2) (s : ℕ) (d : Fin 128) : ℝ := (∑ u ∈ Finset.range 2048, dz (H a) s u * (H a).kn u d) * SbTile.scale

/-- The gradient of the normalised keys. -/
def DK (H : Fin 2 → Head) (a : Fin 2) (s : ℕ) (d : Fin 128) : ℝ := ∑ t ∈ Finset.range 2048, dz (H a) t s * (H a).qn t d

/-- The gradient of the values. -/
def DV (H : Fin 2 → Head) (a : Fin 2) (s : ℕ) (d : Fin 128) : ℝ := ∑ t ∈ Finset.range 2048, wt (H a) t s * (H a).g t d

/-- A load of one head of a window of two. -/
theorem col {sig : RefSig} {κ : Kind} {sp : Space} {e : EltTy} {Val : EltTy → Type} (v : View sig κ sp S2048x256 e) (f : v.ty.Contents Val)
    {off : Fin 2 → ℕ} (inb : ∀ a, off a + S2048x128.size a ≤ S2048x256.size a) (a : Fin 2) (heq : off = ![0, 128 * a.val]) (r : Fin 2048) (d : Fin 128) :
    v.readAt Val (Rect.unit (s := S2048x256) off S2048x128.size inb).toLoadRect f (ix2 r d) = v.read Val f (ix2 r (SbMem.lane a d)) := by
  subst heq
  refine congrArg (v.read Val f) (funext fun x => Fin.ext ?_)
  match x with
  | ⟨0, _⟩ => show 0 + 1 * r.val = r.val; omega
  | ⟨1, _⟩ => show 128 * a.val + 1 * d.val = 128 * a.val + d.val; omega

/-- A store of a whole scratch buffer, read back. -/
theorem whole3 {sig : RefSig} {κ : Kind} {sp : Space} {e : EltTy} {Val : EltTy → Type} (v : View sig κ sp S2x2048x128 e) (f : v.ty.Contents Val)
    {off : Fin 3 → ℕ} (inb : ∀ a, off a + S2x2048x128.size a ≤ S2x2048x128.size a) (heq : off = ![0, 0, 0])
    (w : S2x2048x128.Idx → Val e) (L : List (View.Piece Val S2x2048x128 e)) (a : Fin 2) (s : Fin 2048) (d : Fin 128) :
    v.read Val (v.writes Val f ((⟨Rect.unit (s := S2x2048x128) off S2x2048x128.size inb, w⟩ : View.Piece Val S2x2048x128 e) :: L)) (ix3 a s d) = w (ix3 a s d) := by
  refine View.read_writes_cons_unit_of_mem v f inb w L (ix3 a s d) (ix3 a s d) heq fun x => ?_
  match x with
  | ⟨0, _⟩ => show a.val = 0 + a.val; omega
  | ⟨1, _⟩ => show s.val = 0 + s.val; omega
  | ⟨2, _⟩ => show d.val = 0 + d.val; omega

/-- A load of a whole scratch buffer. -/
theorem get3 {sig : RefSig} {κ : Kind} {sp : Space} {e : EltTy} {Val : EltTy → Type} (v : View sig κ sp S2x2048x128 e) (f : v.ty.Contents Val)
    {off : Fin 3 → ℕ} (inb : ∀ a, off a + S2x2048x128.size a ≤ S2x2048x128.size a) (heq : off = ![0, 0, 0]) (a : Fin 2) (r : Fin 2048) (d : Fin 128) :
    v.readAt Val (Rect.unit (s := S2x2048x128) off S2x2048x128.size inb).toLoadRect f (ix3 a r d) = v.read Val f (ix3 a r d) := by
  subst heq
  refine congrArg (v.read Val f) (funext fun x => Fin.ext ?_)
  match x with
  | ⟨0, _⟩ => show 0 + 1 * a.val = a.val; omega
  | ⟨1, _⟩ => show 0 + 1 * r.val = r.val; omega
  | ⟨2, _⟩ => show 0 + 1 * d.val = d.val; omega

/-- A load of a whole row. -/
theorem get1 {sig : RefSig} {κ : Kind} {sp : Space} {e : EltTy} {Val : EltTy → Type} (v : View sig κ sp S1x128 e) (f : v.ty.Contents Val)
    {off : Fin 2 → ℕ} (inb : ∀ a, off a + S1x128.size a ≤ S1x128.size a) (heq : off = ![0, 0]) (u : Fin 1) (d : Fin 128) :
    v.readAt Val (Rect.unit (s := S1x128) off S1x128.size inb).toLoadRect f (ix2 u d) = v.read Val f (ix2 u d) := by
  subst heq
  refine congrArg (v.read Val f) (funext fun x => Fin.ext ?_)
  match x with
  | ⟨0, _⟩ => show 0 + 1 * u.val = u.val; omega
  | ⟨1, _⟩ => show 0 + 1 * d.val = d.val; omega

/-- Pieces that leave a window of two heads at given reals, wherever they are written. -/
def Cols (L : List (View.Piece (Elt Ideal) S2048x256 .bf16)) (X : Fin 2 → ℕ → Fin 128 → ℝ) : Prop :=
  ∀ (M : Memref sig .tc .vmem S2048x256 .bf16) (f : BufTy.Contents (Elt Ideal) M.view.ty) (a : Fin 2) (s : Fin 2048) (d : Fin 128),
    M.view.read (Elt Ideal) (M.view.writes (Elt Ideal) f L) (ix2 s (SbMem.lane a d)) = ((X a s d : ℝ) : EReal)

/-- Pieces that leave a row at given reals, wherever they are written. -/
def Row (L : List (View.Piece (Elt Ideal) S1x128 .f32)) (X : Fin 128 → ℝ) : Prop :=
  ∀ (M : Memref sig .tc .vmem S1x128 .f32) (f : BufTy.Contents (Elt Ideal) M.view.ty) (u : Fin 1) (d : Fin 128),
    M.view.read (Elt Ideal) (M.view.writes (Elt Ideal) f L) (ix2 u d) = ((X d : ℝ) : EReal)

theorem cols_of (X : Fin 2 → ℕ → Fin 128 → ℝ) (w0 w1 : S2048x128.Idx → Elt Ideal .bf16)
    (h0 : ∀ (s : Fin 2048) d, w0 (ix2 s d) = ((X 0 s d : ℝ) : EReal)) (h1 : ∀ (s : Fin 2048) d, w1 (ix2 s d) = ((X 1 s d : ℝ) : EReal)) :
    Cols [⟨Rect.unit (s := S2048x256) ![0, 128] S2048x128.size inb_S2048x256_S2048x128_0_128, w1⟩, ⟨Rect.unit (s := S2048x256) ![0, 0] S2048x128.size inb_S2048x256_S2048x128_0_0, w0⟩] X := by
  intro M f a s d
  refine SbTile.ex2 (P := fun a => M.view.read (Elt Ideal) (M.view.writes (Elt Ideal) f [⟨Rect.unit (s := S2048x256) ![0, 128] S2048x128.size inb_S2048x256_S2048x128_0_128, w1⟩, ⟨Rect.unit (s := S2048x256) ![0, 0] S2048x128.size inb_S2048x256_S2048x128_0_0, w0⟩]) (ix2 s (SbMem.lane a d)) = ((X a s d : ℝ) : EReal)) ?_ ?_ a
  · rw [← h0]
    refine (View.read_writes_cons_unit_of_not_mem M.view f _ w1 _ (ix2 s (SbMem.lane 0 d)) rfl 1 ?_).trans
      (View.read_writes_cons_unit_of_mem M.view f _ w0 [] (ix2 s (SbMem.lane 0 d)) (ix2 s d) rfl fun x => ?_)
    · show 128 * 0 + d.val < 128 ∨ 128 + 128 ≤ 128 * 0 + d.val
      omega
    · match x with
      | ⟨0, _⟩ => show s.val = 0 + s.val; omega
      | ⟨1, _⟩ => show 128 * 0 + d.val = 0 + d.val; omega
  · rw [← h1]
    refine View.read_writes_cons_unit_of_mem M.view f _ w1 _ (ix2 s (SbMem.lane 1 d)) (ix2 s d) rfl fun x => ?_
    match x with
    | ⟨0, _⟩ => show s.val = 0 + s.val; omega
    | ⟨1, _⟩ => show 128 * 1 + d.val = 128 + d.val; omega

theorem row_of (X : Fin 128 → ℝ) (w : S1x128.Idx → Elt Ideal .f32) (L : List (View.Piece (Elt Ideal) S1x128 .f32))
    (h : ∀ u d, w (ix2 u d) = ((X d : ℝ) : EReal)) : Row (⟨Rect.unit (s := S1x128) ![0, 0] S1x128.size inb_S1x128_S1x128_0_0, w⟩ :: L) X := by
  intro M f u d
  rw [← h u d]
  refine View.read_writes_cons_unit_of_mem M.view f _ w L (ix2 u d) (ix2 u d) rfl fun x => ?_
  match x with
  | ⟨0, _⟩ => show u.val = 0 + u.val; omega
  | ⟨1, _⟩ => show d.val = 0 + d.val; omega

variable (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S2x2048x128 .bf16) (harg13 : arg13.IsWhole) (arg14 : Memref sig .tc .vmem S2x2048x128 .bf16) (harg14 : arg14.IsWhole) (arg15 : Memref sig .tc .vmem S2x2048x128 .bf16) (harg15 : arg15.IsWhole) (arg16 : Memref sig .tc .vmem S2x2048x128 .f32) (harg16 : arg16.IsWhole) (arg17 : Memref sig .tc .vmem S2x2048x128 .f32) (harg17 : arg17.IsWhole) (arg18 : Memref sig .tc .vmem S2x2048x128 .f32) (harg18 : arg18.IsWhole) (x1 : Vec Ideal S2048x256 .f32) (x2 : Vec Ideal S2048x256 .f32) (x3 : Vec Ideal S2048x256 .f32) (x4 : Vec Ideal S2048x256 .f32) (x5 : Vec Ideal S2048x256 .f32) (x6 : Vec Ideal S1x128 .f32) (x7 : Vec Ideal S1x128 .f32) (x17 : Vec Ideal S2x2048x128 .f32)
  (Q K V G : Fin 2 → ℕ → Fin 128 → ℝ) (gq gk : Fin 128 → ℝ)
  (e1 : ∀ a (t : Fin 2048) d, x1 (ix2 t (SbMem.lane a d)) = ((G a t d : ℝ) : EReal))
  (e2 : ∀ a (t : Fin 2048) d, x2 (ix2 t (SbMem.lane a d)) = ((tot (head Q K V G gq gk a) t : ℝ) : EReal))
  (e3 : ∀ a (t : Fin 2048) d, x3 (ix2 t (SbMem.lane a d)) = ((Q a t d : ℝ) : EReal))
  (e4 : ∀ a (t : Fin 2048) d, x4 (ix2 t (SbMem.lane a d)) = ((K a t d : ℝ) : EReal))
  (e5 : ∀ a (t : Fin 2048) d, x5 (ix2 t (SbMem.lane a d)) = ((V a t d : ℝ) : EReal))
  (e6 : ∀ u d, x6 (ix2 u d) = ((gq d : ℝ) : EReal)) (e7 : ∀ u d, x7 (ix2 u d) = ((gk d : ℝ) : EReal))

include e3 in
theorem l3 : (∀ (t : Fin 2048) d, (View.readAt (Elt Ideal) arg3.view (Rect.unit (s := S2048x256) ![0, 0] S2048x128.size inb_S2048x256_S2048x128_0_0).toLoadRect (harg3.unread x3)) (ix2 t d) = ((Q 0 t d : ℝ) : EReal)) ∧ ∀ (t : Fin 2048) d, (View.readAt (Elt Ideal) arg3.view (Rect.unit (s := S2048x256) ![0, 128] S2048x128.size inb_S2048x256_S2048x128_0_128).toLoadRect (harg3.unread x3)) (ix2 t d) = ((Q 1 t d : ℝ) : EReal) := by
  refine ⟨fun t d => ?_, fun t d => ?_⟩
  · rw [col (off := ![0, 0]) arg3.view _ _ 0 rfl, harg3.read_unread]; exact e3 0 t d
  · rw [col (off := ![0, 128]) arg3.view _ _ 1 rfl, harg3.read_unread]; exact e3 1 t d

include e4 in
theorem l4 : (∀ (t : Fin 2048) d, (View.readAt (Elt Ideal) arg4.view (Rect.unit (s := S2048x256) ![0, 0] S2048x128.size inb_S2048x256_S2048x128_0_0).toLoadRect (harg4.unread x4)) (ix2 t d) = ((K 0 t d : ℝ) : EReal)) ∧ ∀ (t : Fin 2048) d, (View.readAt (Elt Ideal) arg4.view (Rect.unit (s := S2048x256) ![0, 128] S2048x128.size inb_S2048x256_S2048x128_0_128).toLoadRect (harg4.unread x4)) (ix2 t d) = ((K 1 t d : ℝ) : EReal) := by
  refine ⟨fun t d => ?_, fun t d => ?_⟩
  · rw [col (off := ![0, 0]) arg4.view _ _ 0 rfl, harg4.read_unread]; exact e4 0 t d
  · rw [col (off := ![0, 128]) arg4.view _ _ 1 rfl, harg4.read_unread]; exact e4 1 t d

include e5 in
theorem l5 : (∀ (t : Fin 2048) d, (View.readAt (Elt Ideal) arg5.view (Rect.unit (s := S2048x256) ![0, 0] S2048x128.size inb_S2048x256_S2048x128_0_0).toLoadRect (harg5.unread x5)) (ix2 t d) = ((V 0 t d : ℝ) : EReal)) ∧ ∀ (t : Fin 2048) d, (View.readAt (Elt Ideal) arg5.view (Rect.unit (s := S2048x256) ![0, 128] S2048x128.size inb_S2048x256_S2048x128_0_128).toLoadRect (harg5.unread x5)) (ix2 t d) = ((V 1 t d : ℝ) : EReal) := by
  refine ⟨fun t d => ?_, fun t d => ?_⟩
  · rw [col (off := ![0, 0]) arg5.view _ _ 0 rfl, harg5.read_unread]; exact e5 0 t d
  · rw [col (off := ![0, 128]) arg5.view _ _ 1 rfl, harg5.read_unread]; exact e5 1 t d

include e6 in
theorem l6 (u : Fin 1) (d : Fin 128) : (View.readAt (Elt Ideal) arg6.view (Rect.unit (s := S1x128) ![0, 0] S1x128.size inb_S1x128_S1x128_0_0).toLoadRect (harg6.unread x6)) (ix2 u d) = ((gq d : ℝ) : EReal) := by
  rw [get1 (off := ![0, 0]) arg6.view _ _ rfl, harg6.read_unread]; exact e6 u d

include e7 in
theorem l7 (u : Fin 1) (d : Fin 128) : (View.readAt (Elt Ideal) arg7.view (Rect.unit (s := S1x128) ![0, 0] S1x128.size inb_S1x128_S1x128_0_0).toLoadRect (harg7.unread x7)) (ix2 u d) = ((gk d : ℝ) : EReal) := by
  rw [get1 (off := ![0, 0]) arg7.view _ _ rfl, harg7.read_unread]; exact e7 u d

include e1 e2 e3 e4 e5 e6 e7 in
/-- The three accumulators after the sweep. -/
theorem accs :
    (∀ a (s : Fin 2048) d, View.readAt (Elt Ideal) arg16.view (Rect.unit (s := S2x2048x128) ![0, 0, 0] S2x2048x128.size inb_S2x2048x128_S2x2048x128_0_0_0).toLoadRect (arg16.view.writes (Elt Ideal) (arg16.view.writes (Elt Ideal) arg16.view.junk [⟨Rect.unit (s := S2x2048x128) ![0, 0, 0] S2x2048x128.size inb_S2x2048x128_S2x2048x128_0_0_0, k0_pay65 (F := Ideal)⟩]) (sweep (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (k0_pay55 (View.readAt (Elt Ideal) arg3.view (Rect.unit (s := S2048x256) ![0, 0] S2048x128.size inb_S2048x256_S2048x128_0_0).toLoadRect (harg3.unread x3)) (View.readAt (Elt Ideal) arg3.view (Rect.unit (s := S2048x256) ![0, 128] S2048x128.size inb_S2048x256_S2048x128_0_128).toLoadRect (harg3.unread x3))) (k0_pay56 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4))) (k0_pay57 (View.readAt (Elt Ideal) arg3.view (Rect.unit (s := S2048x256) ![0, 0] S2048x128.size inb_S2048x256_S2048x128_0_0).toLoadRect (harg3.unread x3)) (View.readAt (Elt Ideal) arg3.view (Rect.unit (s := S2048x256) ![0, 128] S2048x128.size inb_S2048x256_S2048x128_0_128).toLoadRect (harg3.unread x3))) (k0_pay58 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4))) (k0_pay59 (View.readAt (Elt Ideal) arg6.view (Rect.unit (s := S1x128) ![0, 0] S1x128.size inb_S1x128_S1x128_0_0).toLoadRect (harg6.unread x6))) (k0_pay67 (F := Ideal)) k0_pay68 (harg1.unread x1) (harg2.unread x2) (arg13.view.writes (Elt Ideal) arg13.view.junk [⟨Rect.unit (s := S2x2048x128) ![0, 0, 0] S2x2048x128.size inb_S2x2048x128_S2x2048x128_0_0_0, k0_pay62 (k0_pay61 (View.readAt (Elt Ideal) arg3.view (Rect.unit (s := S2048x256) ![0, 0] S2048x128.size inb_S2048x256_S2048x128_0_0).toLoadRect (harg3.unread x3)) (View.readAt (Elt Ideal) arg3.view (Rect.unit (s := S2048x256) ![0, 128] S2048x128.size inb_S2048x256_S2048x128_0_128).toLoadRect (harg3.unread x3)) (View.readAt (Elt Ideal) arg6.view (Rect.unit (s := S1x128) ![0, 0] S1x128.size inb_S1x128_S1x128_0_0).toLoadRect (harg6.unread x6)))⟩]) (arg14.view.writes (Elt Ideal) arg14.view.junk [⟨Rect.unit (s := S2x2048x128) ![0, 0, 0] S2x2048x128.size inb_S2x2048x128_S2x2048x128_0_0_0, k0_pay63 (k0_pay56 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4))) (k0_pay58 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4))) (k0_pay60 (View.readAt (Elt Ideal) arg7.view (Rect.unit (s := S1x128) ![0, 0] S1x128.size inb_S1x128_S1x128_0_0).toLoadRect (harg7.unread x7)))⟩]) (arg15.view.writes (Elt Ideal) arg15.view.junk [⟨Rect.unit (s := S2x2048x128) ![0, 0, 0] S2x2048x128.size inb_S2x2048x128_S2x2048x128_0_0_0, k0_pay64 (View.readAt (Elt Ideal) arg5.view (Rect.unit (s := S2048x256) ![0, 0] S2048x128.size inb_S2048x256_S2048x128_0_0).toLoadRect (harg5.unread x5)) (View.readAt (Elt Ideal) arg5.view (Rect.unit (s := S2048x256) ![0, 128] S2048x128.size inb_S2048x256_S2048x128_0_128).toLoadRect (harg5.unread x5))⟩]) (arg16.view.writes (Elt Ideal) arg16.view.junk [⟨Rect.unit (s := S2x2048x128) ![0, 0, 0] S2x2048x128.size inb_S2x2048x128_S2x2048x128_0_0_0, k0_pay65 (F := Ideal)⟩]) (arg18.view.writes (Elt Ideal) arg18.view.junk [⟨Rect.unit (s := S2x2048x128) ![0, 0, 0] S2x2048x128.size inb_S2x2048x128_S2x2048x128_0_0_0, k0_pay66 (F := Ideal)⟩]) 8).1) (ix3 a s d) = ((DK (head Q K V G gq gk) a s d : ℝ) : EReal))
    ∧ (∀ a (s : Fin 2048) d, View.readAt (Elt Ideal) arg17.view (Rect.unit (s := S2x2048x128) ![0, 0, 0] S2x2048x128.size inb_S2x2048x128_S2x2048x128_0_0_0).toLoadRect (arg17.view.writes (Elt Ideal) (harg17.unread x17) (sweep (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (k0_pay55 (View.readAt (Elt Ideal) arg3.view (Rect.unit (s := S2048x256) ![0, 0] S2048x128.size inb_S2048x256_S2048x128_0_0).toLoadRect (harg3.unread x3)) (View.readAt (Elt Ideal) arg3.view (Rect.unit (s := S2048x256) ![0, 128] S2048x128.size inb_S2048x256_S2048x128_0_128).toLoadRect (harg3.unread x3))) (k0_pay56 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4))) (k0_pay57 (View.readAt (Elt Ideal) arg3.view (Rect.unit (s := S2048x256) ![0, 0] S2048x128.size inb_S2048x256_S2048x128_0_0).toLoadRect (harg3.unread x3)) (View.readAt (Elt Ideal) arg3.view (Rect.unit (s := S2048x256) ![0, 128] S2048x128.size inb_S2048x256_S2048x128_0_128).toLoadRect (harg3.unread x3))) (k0_pay58 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4))) (k0_pay59 (View.readAt (Elt Ideal) arg6.view (Rect.unit (s := S1x128) ![0, 0] S1x128.size inb_S1x128_S1x128_0_0).toLoadRect (harg6.unread x6))) (k0_pay67 (F := Ideal)) k0_pay68 (harg1.unread x1) (harg2.unread x2) (arg13.view.writes (Elt Ideal) arg13.view.junk [⟨Rect.unit (s := S2x2048x128) ![0, 0, 0] S2x2048x128.size inb_S2x2048x128_S2x2048x128_0_0_0, k0_pay62 (k0_pay61 (View.readAt (Elt Ideal) arg3.view (Rect.unit (s := S2048x256) ![0, 0] S2048x128.size inb_S2048x256_S2048x128_0_0).toLoadRect (harg3.unread x3)) (View.readAt (Elt Ideal) arg3.view (Rect.unit (s := S2048x256) ![0, 128] S2048x128.size inb_S2048x256_S2048x128_0_128).toLoadRect (harg3.unread x3)) (View.readAt (Elt Ideal) arg6.view (Rect.unit (s := S1x128) ![0, 0] S1x128.size inb_S1x128_S1x128_0_0).toLoadRect (harg6.unread x6)))⟩]) (arg14.view.writes (Elt Ideal) arg14.view.junk [⟨Rect.unit (s := S2x2048x128) ![0, 0, 0] S2x2048x128.size inb_S2x2048x128_S2x2048x128_0_0_0, k0_pay63 (k0_pay56 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4))) (k0_pay58 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4))) (k0_pay60 (View.readAt (Elt Ideal) arg7.view (Rect.unit (s := S1x128) ![0, 0] S1x128.size inb_S1x128_S1x128_0_0).toLoadRect (harg7.unread x7)))⟩]) (arg15.view.writes (Elt Ideal) arg15.view.junk [⟨Rect.unit (s := S2x2048x128) ![0, 0, 0] S2x2048x128.size inb_S2x2048x128_S2x2048x128_0_0_0, k0_pay64 (View.readAt (Elt Ideal) arg5.view (Rect.unit (s := S2048x256) ![0, 0] S2048x128.size inb_S2048x256_S2048x128_0_0).toLoadRect (harg5.unread x5)) (View.readAt (Elt Ideal) arg5.view (Rect.unit (s := S2048x256) ![0, 128] S2048x128.size inb_S2048x256_S2048x128_0_128).toLoadRect (harg5.unread x5))⟩]) (arg16.view.writes (Elt Ideal) arg16.view.junk [⟨Rect.unit (s := S2x2048x128) ![0, 0, 0] S2x2048x128.size inb_S2x2048x128_S2x2048x128_0_0_0, k0_pay65 (F := Ideal)⟩]) (arg18.view.writes (Elt Ideal) arg18.view.junk [⟨Rect.unit (s := S2x2048x128) ![0, 0, 0] S2x2048x128.size inb_S2x2048x128_S2x2048x128_0_0_0, k0_pay66 (F := Ideal)⟩]) 8).2.1) (ix3 a s d) = ((DQ (head Q K V G gq gk) a s d : ℝ) : EReal))
    ∧ (∀ a (s : Fin 2048) d, View.readAt (Elt Ideal) arg18.view (Rect.unit (s := S2x2048x128) ![0, 0, 0] S2x2048x128.size inb_S2x2048x128_S2x2048x128_0_0_0).toLoadRect (arg18.view.writes (Elt Ideal) (arg18.view.writes (Elt Ideal) arg18.view.junk [⟨Rect.unit (s := S2x2048x128) ![0, 0, 0] S2x2048x128.size inb_S2x2048x128_S2x2048x128_0_0_0, k0_pay66 (F := Ideal)⟩]) (sweep (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (k0_pay55 (View.readAt (Elt Ideal) arg3.view (Rect.unit (s := S2048x256) ![0, 0] S2048x128.size inb_S2048x256_S2048x128_0_0).toLoadRect (harg3.unread x3)) (View.readAt (Elt Ideal) arg3.view (Rect.unit (s := S2048x256) ![0, 128] S2048x128.size inb_S2048x256_S2048x128_0_128).toLoadRect (harg3.unread x3))) (k0_pay56 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4))) (k0_pay57 (View.readAt (Elt Ideal) arg3.view (Rect.unit (s := S2048x256) ![0, 0] S2048x128.size inb_S2048x256_S2048x128_0_0).toLoadRect (harg3.unread x3)) (View.readAt (Elt Ideal) arg3.view (Rect.unit (s := S2048x256) ![0, 128] S2048x128.size inb_S2048x256_S2048x128_0_128).toLoadRect (harg3.unread x3))) (k0_pay58 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4))) (k0_pay59 (View.readAt (Elt Ideal) arg6.view (Rect.unit (s := S1x128) ![0, 0] S1x128.size inb_S1x128_S1x128_0_0).toLoadRect (harg6.unread x6))) (k0_pay67 (F := Ideal)) k0_pay68 (harg1.unread x1) (harg2.unread x2) (arg13.view.writes (Elt Ideal) arg13.view.junk [⟨Rect.unit (s := S2x2048x128) ![0, 0, 0] S2x2048x128.size inb_S2x2048x128_S2x2048x128_0_0_0, k0_pay62 (k0_pay61 (View.readAt (Elt Ideal) arg3.view (Rect.unit (s := S2048x256) ![0, 0] S2048x128.size inb_S2048x256_S2048x128_0_0).toLoadRect (harg3.unread x3)) (View.readAt (Elt Ideal) arg3.view (Rect.unit (s := S2048x256) ![0, 128] S2048x128.size inb_S2048x256_S2048x128_0_128).toLoadRect (harg3.unread x3)) (View.readAt (Elt Ideal) arg6.view (Rect.unit (s := S1x128) ![0, 0] S1x128.size inb_S1x128_S1x128_0_0).toLoadRect (harg6.unread x6)))⟩]) (arg14.view.writes (Elt Ideal) arg14.view.junk [⟨Rect.unit (s := S2x2048x128) ![0, 0, 0] S2x2048x128.size inb_S2x2048x128_S2x2048x128_0_0_0, k0_pay63 (k0_pay56 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4))) (k0_pay58 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4))) (k0_pay60 (View.readAt (Elt Ideal) arg7.view (Rect.unit (s := S1x128) ![0, 0] S1x128.size inb_S1x128_S1x128_0_0).toLoadRect (harg7.unread x7)))⟩]) (arg15.view.writes (Elt Ideal) arg15.view.junk [⟨Rect.unit (s := S2x2048x128) ![0, 0, 0] S2x2048x128.size inb_S2x2048x128_S2x2048x128_0_0_0, k0_pay64 (View.readAt (Elt Ideal) arg5.view (Rect.unit (s := S2048x256) ![0, 0] S2048x128.size inb_S2048x256_S2048x128_0_0).toLoadRect (harg5.unread x5)) (View.readAt (Elt Ideal) arg5.view (Rect.unit (s := S2048x256) ![0, 128] S2048x128.size inb_S2048x256_S2048x128_0_128).toLoadRect (harg5.unread x5))⟩]) (arg16.view.writes (Elt Ideal) arg16.view.junk [⟨Rect.unit (s := S2x2048x128) ![0, 0, 0] S2x2048x128.size inb_S2x2048x128_S2x2048x128_0_0_0, k0_pay65 (F := Ideal)⟩]) (arg18.view.writes (Elt Ideal) arg18.view.junk [⟨Rect.unit (s := S2x2048x128) ![0, 0, 0] S2x2048x128.size inb_S2x2048x128_S2x2048x128_0_0_0, k0_pay66 (F := Ideal)⟩]) 8).2.2) (ix3 a s d) = ((DV (head Q K V G gq gk) a s d : ℝ) : EReal)) := by
  have h13 : ∀ a (s : Fin 2048) d, arg13.view.read (Elt Ideal) (arg13.view.writes (Elt Ideal) arg13.view.junk [⟨Rect.unit (s := S2x2048x128) ![0, 0, 0] S2x2048x128.size inb_S2x2048x128_S2x2048x128_0_0_0, k0_pay62 (k0_pay61 (View.readAt (Elt Ideal) arg3.view (Rect.unit (s := S2048x256) ![0, 0] S2048x128.size inb_S2048x256_S2048x128_0_0).toLoadRect (harg3.unread x3)) (View.readAt (Elt Ideal) arg3.view (Rect.unit (s := S2048x256) ![0, 128] S2048x128.size inb_S2048x256_S2048x128_0_128).toLoadRect (harg3.unread x3)) (View.readAt (Elt Ideal) arg6.view (Rect.unit (s := S1x128) ![0, 0] S1x128.size inb_S1x128_S1x128_0_0).toLoadRect (harg6.unread x6)))⟩]) (ix3 a s d) = (((head Q K V G gq gk a).qn s d : ℝ) : EReal) := by
    intro a s d
    rw [whole3 (off := ![0, 0, 0]) arg13.view _ _ rfl, SbPro.pay62]
    exact SbPro.pay61 Q gq _ _ _ (l3 arg3 harg3 x3 Q e3).1 (l3 arg3 harg3 x3 Q e3).2 (l6 arg6 harg6 x6 gq e6) a s d
  have h14 : ∀ a (s : Fin 2048) d, arg14.view.read (Elt Ideal) (arg14.view.writes (Elt Ideal) arg14.view.junk [⟨Rect.unit (s := S2x2048x128) ![0, 0, 0] S2x2048x128.size inb_S2x2048x128_S2x2048x128_0_0_0, k0_pay63 (k0_pay56 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4))) (k0_pay58 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4))) (k0_pay60 (View.readAt (Elt Ideal) arg7.view (Rect.unit (s := S1x128) ![0, 0] S1x128.size inb_S1x128_S1x128_0_0).toLoadRect (harg7.unread x7)))⟩]) (ix3 a s d) = (((head Q K V G gq gk a).kn s d : ℝ) : EReal) := by
    intro a s d
    rw [whole3 (off := ![0, 0, 0]) arg14.view _ _ rfl]
    refine SbPro.pay63 K gk _ _ _ (SbPro.pay56 K _ _ (l4 arg4 harg4 x4 K e4).1 (l4 arg4 harg4 x4 K e4).2) (SbPro.pay58 K _ _ (l4 arg4 harg4 x4 K e4).1 (l4 arg4 harg4 x4 K e4).2) ?_ a s d
    intro u d
    rw [SbPro.pay60]
    exact (l7 arg7 harg7 x7 gk e7) u d
  have h15 : ∀ a (s : Fin 2048) d, arg15.view.read (Elt Ideal) (arg15.view.writes (Elt Ideal) arg15.view.junk [⟨Rect.unit (s := S2x2048x128) ![0, 0, 0] S2x2048x128.size inb_S2x2048x128_S2x2048x128_0_0_0, k0_pay64 (View.readAt (Elt Ideal) arg5.view (Rect.unit (s := S2048x256) ![0, 0] S2048x128.size inb_S2048x256_S2048x128_0_0).toLoadRect (harg5.unread x5)) (View.readAt (Elt Ideal) arg5.view (Rect.unit (s := S2048x256) ![0, 128] S2048x128.size inb_S2048x256_S2048x128_0_128).toLoadRect (harg5.unread x5))⟩]) (ix3 a s d) = (((head Q K V G gq gk a).v s d : ℝ) : EReal) := by
    intro a s d
    rw [whole3 (off := ![0, 0, 0]) arg15.view _ _ rfl]
    exact SbPro.pay64 V _ _ (l5 arg5 harg5 x5 V e5).1 (l5 arg5 harg5 x5 V e5).2 a s d
  have h16 : ∀ a s d, arg16.view.read (Elt Ideal) (arg16.view.writes (Elt Ideal) arg16.view.junk [⟨Rect.unit (s := S2x2048x128) ![0, 0, 0] S2x2048x128.size inb_S2x2048x128_S2x2048x128_0_0_0, k0_pay65 (F := Ideal)⟩]) (ix3 a s d) = ((0 : ℝ) : EReal) := by
    intro a s d
    rw [whole3 (off := ![0, 0, 0]) arg16.view _ _ rfl]
    exact SbPro.pay65 a s d
  have h18 : ∀ a s d, arg18.view.read (Elt Ideal) (arg18.view.writes (Elt Ideal) arg18.view.junk [⟨Rect.unit (s := S2x2048x128) ![0, 0, 0] S2x2048x128.size inb_S2x2048x128_S2x2048x128_0_0_0, k0_pay66 (F := Ideal)⟩]) (ix3 a s d) = ((0 : ℝ) : EReal) := by
    intro a s d
    rw [whole3 (off := ![0, 0, 0]) arg18.view _ _ rfl]
    exact SbPro.pay66 a s d
  have h1 : ∀ a (t : Fin 2048) d, arg1.view.read (Elt Ideal) (harg1.unread x1) (ix2 t (SbMem.lane a d)) = (((head Q K V G gq gk a).g t d : ℝ) : EReal) := by
    intro a t d
    rw [harg1.read_unread]
    exact e1 a t d
  have h2 : ∀ a (t : Fin 2048) d, arg2.view.read (Elt Ideal) (harg2.unread x2) (ix2 t (SbMem.lane a d)) = ((tot (head Q K V G gq gk a) t : ℝ) : EReal) := by
    intro a t d
    rw [harg2.read_unread]
    exact e2 a t d
  obtain ⟨s16, s17, s18⟩ := SbMem.sweep_val Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (k0_pay55 (View.readAt (Elt Ideal) arg3.view (Rect.unit (s := S2048x256) ![0, 0] S2048x128.size inb_S2048x256_S2048x128_0_0).toLoadRect (harg3.unread x3)) (View.readAt (Elt Ideal) arg3.view (Rect.unit (s := S2048x256) ![0, 128] S2048x128.size inb_S2048x256_S2048x128_0_128).toLoadRect (harg3.unread x3))) (k0_pay56 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4))) (k0_pay57 (View.readAt (Elt Ideal) arg3.view (Rect.unit (s := S2048x256) ![0, 0] S2048x128.size inb_S2048x256_S2048x128_0_0).toLoadRect (harg3.unread x3)) (View.readAt (Elt Ideal) arg3.view (Rect.unit (s := S2048x256) ![0, 128] S2048x128.size inb_S2048x256_S2048x128_0_128).toLoadRect (harg3.unread x3))) (k0_pay58 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4))) (k0_pay59 (View.readAt (Elt Ideal) arg6.view (Rect.unit (s := S1x128) ![0, 0] S1x128.size inb_S1x128_S1x128_0_0).toLoadRect (harg6.unread x6))) (k0_pay67 (F := Ideal)) k0_pay68 (harg1.unread x1) (harg2.unread x2) (arg13.view.writes (Elt Ideal) arg13.view.junk [⟨Rect.unit (s := S2x2048x128) ![0, 0, 0] S2x2048x128.size inb_S2x2048x128_S2x2048x128_0_0_0, k0_pay62 (k0_pay61 (View.readAt (Elt Ideal) arg3.view (Rect.unit (s := S2048x256) ![0, 0] S2048x128.size inb_S2048x256_S2048x128_0_0).toLoadRect (harg3.unread x3)) (View.readAt (Elt Ideal) arg3.view (Rect.unit (s := S2048x256) ![0, 128] S2048x128.size inb_S2048x256_S2048x128_0_128).toLoadRect (harg3.unread x3)) (View.readAt (Elt Ideal) arg6.view (Rect.unit (s := S1x128) ![0, 0] S1x128.size inb_S1x128_S1x128_0_0).toLoadRect (harg6.unread x6)))⟩]) (arg14.view.writes (Elt Ideal) arg14.view.junk [⟨Rect.unit (s := S2x2048x128) ![0, 0, 0] S2x2048x128.size inb_S2x2048x128_S2x2048x128_0_0_0, k0_pay63 (k0_pay56 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4))) (k0_pay58 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4))) (k0_pay60 (View.readAt (Elt Ideal) arg7.view (Rect.unit (s := S1x128) ![0, 0] S1x128.size inb_S1x128_S1x128_0_0).toLoadRect (harg7.unread x7)))⟩]) (arg15.view.writes (Elt Ideal) arg15.view.junk [⟨Rect.unit (s := S2x2048x128) ![0, 0, 0] S2x2048x128.size inb_S2x2048x128_S2x2048x128_0_0_0, k0_pay64 (View.readAt (Elt Ideal) arg5.view (Rect.unit (s := S2048x256) ![0, 0] S2048x128.size inb_S2048x256_S2048x128_0_0).toLoadRect (harg5.unread x5)) (View.readAt (Elt Ideal) arg5.view (Rect.unit (s := S2048x256) ![0, 128] S2048x128.size inb_S2048x256_S2048x128_0_128).toLoadRect (harg5.unread x5))⟩])
    (head Q K V G gq gk) SbTile.pay67 SbTile.pay69 (fun t a d => h1 a t d) (fun t a d => h2 a t d) h13 h14 h15 (arg16.view.writes (Elt Ideal) arg16.view.junk [⟨Rect.unit (s := S2x2048x128) ![0, 0, 0] S2x2048x128.size inb_S2x2048x128_S2x2048x128_0_0_0, k0_pay65 (F := Ideal)⟩]) (harg17.unread x17) (arg18.view.writes (Elt Ideal) arg18.view.junk [⟨Rect.unit (s := S2x2048x128) ![0, 0, 0] S2x2048x128.size inb_S2x2048x128_S2x2048x128_0_0_0, k0_pay66 (F := Ideal)⟩]) h16 h18 8 (le_refl 8)
  refine ⟨fun a s d => ?_, fun a s d => ?_, fun a s d => ?_⟩
  · rw [get3 (off := ![0, 0, 0]) arg16.view _ _ rfl]
    exact s16 a s d
  · rw [get3 (off := ![0, 0, 0]) arg17.view _ _ rfl]
    exact s17 a s d s.isLt
  · rw [get3 (off := ![0, 0, 0]) arg18.view _ _ rfl]
    exact s18 a s d

include e1 e2 e3 e4 e5 e6 e7 in
theorem runA_val (hc : cond0 i)  :
    Cols (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17).1 (fun a s d => dnrm (Q a s) gq (DQ (head Q K V G gq gk) a s) d)
    ∧ Cols (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17).2.1 (fun a s d => dnrm (K a s) gk (DK (head Q K V G gq gk) a s) d)
    ∧ Cols (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17).2.2.1 (DV (head Q K V G gq gk))
    ∧ Row (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17).2.2.2.1 (fun d => 0 + SbPro.part Q (DQ (head Q K V G gq gk)) d)
    ∧ Row (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17).2.2.2.2.1 (fun d => 0 + SbPro.part K (DK (head Q K V G gq gk)) d) := by
  obtain ⟨a16, a17, a18⟩ := accs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x17 Q K V G gq gk e1 e2 e3 e4 e5 e6 e7
  have p55 := SbPro.pay55 Q _ _ (l3 arg3 harg3 x3 Q e3).1 (l3 arg3 harg3 x3 Q e3).2
  have p56 := SbPro.pay56 K _ _ (l4 arg4 harg4 x4 K e4).1 (l4 arg4 harg4 x4 K e4).2
  have p57 := SbPro.pay57 Q _ _ (l3 arg3 harg3 x3 Q e3).1 (l3 arg3 harg3 x3 Q e3).2
  have p58 := SbPro.pay58 K _ _ (l4 arg4 harg4 x4 K e4).1 (l4 arg4 harg4 x4 K e4).2
  have p59 : ∀ u d, (k0_pay59 (View.readAt (Elt Ideal) arg6.view (Rect.unit (s := S1x128) ![0, 0] S1x128.size inb_S1x128_S1x128_0_0).toLoadRect (harg6.unread x6))) (ix2 u d) = ((gq d : ℝ) : EReal) := fun u d => by rw [SbPro.pay59]; exact (l6 arg6 harg6 x6 gq e6) u d
  have p60 : ∀ u d, (k0_pay60 (View.readAt (Elt Ideal) arg7.view (Rect.unit (s := S1x128) ![0, 0] S1x128.size inb_S1x128_S1x128_0_0).toLoadRect (harg7.unread x7))) (ix2 u d) = ((gk d : ℝ) : EReal) := fun u d => by rw [SbPro.pay60]; exact (l7 arg7 harg7 x7 gk e7) u d
  have p75 := SbPro.pay75 K _ _ p56 p58
  have b16 : ∀ a (s : Fin 2048) d, runA.sl.v106 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 (ix3 a s d) = ((DK (head Q K V G gq gk) a s d : ℝ) : EReal) := by
    intro a s d
    refine Eq.trans ?_ (a16 a s d)
    rw [← View.writes_append]
    unfold runA.sl.v106
    rfl
  have b17 : ∀ a (s : Fin 2048) d, runA.sl.v81 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x17 (ix3 a s d) = ((DQ (head Q K V G gq gk) a s d : ℝ) : EReal) := by
    intro a s d
    refine Eq.trans ?_ (a17 a s d)
    unfold runA.sl.v81
    rfl
  have b18 : ∀ a (s : Fin 2048) d, runA.sl.v131 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 (ix3 a s d) = ((DV (head Q K V G gq gk) a s d : ℝ) : EReal) := by
    intro a s d
    refine Eq.trans ?_ (a18 a s d)
    rw [← View.writes_append]
    unfold runA.sl.v131
    rfl
  have q74 : ∀ a (s : Fin 2048) d, runA.sl.r_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x17 (ix3 a s d) = ((dnrm (Q a s) gq (DQ (head Q K V G gq gk) a s) d : ℝ) : EReal) := by
    unfold runA.sl.r_7
    exact SbPro.pay74 Q (DQ (head Q K V G gq gk)) gq _ _ _ _ p55 p57 p59 b17
  have q77 : ∀ a (s : Fin 2048) d, k0_pay77 (k0_pay58 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4))) (k0_pay60 (View.readAt (Elt Ideal) arg7.view (Rect.unit (s := S1x128) ![0, 0] S1x128.size inb_S1x128_S1x128_0_0).toLoadRect (harg7.unread x7))) (runA.sl.v106 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7) (k0_pay75 (k0_pay56 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4))) (k0_pay58 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4)))) (ix3 a s d) = ((dnrm (K a s) gk (DK (head Q K V G gq gk) a s) d : ℝ) : EReal) :=
    SbPro.pay77 K (DK (head Q K V G gq gk)) gk _ _ _ p58 p60 b16 _ p75
  unfold runA
  refine ⟨cols_of _ _ _ (fun s d => ?_) (fun s d => ?_), cols_of _ _ _ (fun s d => ?_) (fun s d => ?_), cols_of _ _ _ (fun s d => ?_) (fun s d => ?_), row_of _ _ _ (fun u d => ?_), row_of _ _ _ (fun u d => ?_)⟩
  · rw [SbPro.pay79]; exact q74 0 s d
  · rw [SbPro.pay82]; exact q74 1 s d
  · rw [SbPro.pay80]; exact q77 0 s d
  · unfold runA.sl.r_10
    rw [SbPro.pay83]; exact q77 1 s d
  · rw [SbPro.pay81]; exact b18 0 s d
  · unfold runA.sl.r_9
    rw [SbPro.pay1, SbPro.pay78]; exact b18 1 s d
  · refine SbPro.pay73 Q (DQ (head Q K V G gq gk)) _ _ _ _ p55 p57 b17 (fun _ => 0) (fun u d => ?_) u d
    unfold runA.sl.v84
    unfold View.readCov
    rw [get1 (off := ![0, 0]) arg11.view _ _ rfl]
    exact row_of (fun _ => 0) _ [] (fun u d => SbPro.pay70 u d) arg11 _ u d
  · refine SbPro.pay76 K (DK (head Q K V G gq gk)) _ _ b16 (fun _ => 0) (fun u d => ?_) _ p75 u d
    unfold runA.sl.v109
    unfold View.readCov
    rw [get1 (off := ![0, 0]) arg12.view _ _ rfl]
    exact row_of (fun _ => 0) _ [] (fun u d => SbPro.pay71 u d) arg12 _ u d

include e1 e2 e3 e4 e5 e6 e7 in
theorem runB_val (hc : ¬cond0 i) (x11 x12 : Vec Ideal S1x128 .f32) (b b' : Fin 128 → ℝ) (e11 : ∀ u d, x11 (ix2 u d) = ((b d : ℝ) : EReal)) (e12 : ∀ u d, x12 (ix2 u d) = ((b' d : ℝ) : EReal)) :
    Cols (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17 x11 x12).1 (fun a s d => dnrm (Q a s) gq (DQ (head Q K V G gq gk) a s) d)
    ∧ Cols (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17 x11 x12).2.1 (fun a s d => dnrm (K a s) gk (DK (head Q K V G gq gk) a s) d)
    ∧ Cols (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17 x11 x12).2.2.1 (DV (head Q K V G gq gk))
    ∧ Row (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17 x11 x12).2.2.2.1 (fun d => b d + SbPro.part Q (DQ (head Q K V G gq gk)) d)
    ∧ Row (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17 x11 x12).2.2.2.2.1 (fun d => b' d + SbPro.part K (DK (head Q K V G gq gk)) d) := by
  obtain ⟨a16, a17, a18⟩ := accs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x17 Q K V G gq gk e1 e2 e3 e4 e5 e6 e7
  have p55 := SbPro.pay55 Q _ _ (l3 arg3 harg3 x3 Q e3).1 (l3 arg3 harg3 x3 Q e3).2
  have p56 := SbPro.pay56 K _ _ (l4 arg4 harg4 x4 K e4).1 (l4 arg4 harg4 x4 K e4).2
  have p57 := SbPro.pay57 Q _ _ (l3 arg3 harg3 x3 Q e3).1 (l3 arg3 harg3 x3 Q e3).2
  have p58 := SbPro.pay58 K _ _ (l4 arg4 harg4 x4 K e4).1 (l4 arg4 harg4 x4 K e4).2
  have p59 : ∀ u d, (k0_pay59 (View.readAt (Elt Ideal) arg6.view (Rect.unit (s := S1x128) ![0, 0] S1x128.size inb_S1x128_S1x128_0_0).toLoadRect (harg6.unread x6))) (ix2 u d) = ((gq d : ℝ) : EReal) := fun u d => by rw [SbPro.pay59]; exact (l6 arg6 harg6 x6 gq e6) u d
  have p60 : ∀ u d, (k0_pay60 (View.readAt (Elt Ideal) arg7.view (Rect.unit (s := S1x128) ![0, 0] S1x128.size inb_S1x128_S1x128_0_0).toLoadRect (harg7.unread x7))) (ix2 u d) = ((gk d : ℝ) : EReal) := fun u d => by rw [SbPro.pay60]; exact (l7 arg7 harg7 x7 gk e7) u d
  have p75 := SbPro.pay75 K _ _ p56 p58
  have b16 : ∀ a (s : Fin 2048) d, runB.sl.v106 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 (ix3 a s d) = ((DK (head Q K V G gq gk) a s d : ℝ) : EReal) := by
    intro a s d
    refine Eq.trans ?_ (a16 a s d)
    rw [← View.writes_append]
    unfold runB.sl.v106
    rfl
  have b17 : ∀ a (s : Fin 2048) d, runB.sl.v81 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x17 (ix3 a s d) = ((DQ (head Q K V G gq gk) a s d : ℝ) : EReal) := by
    intro a s d
    refine Eq.trans ?_ (a17 a s d)
    unfold runB.sl.v81
    rfl
  have b18 : ∀ a (s : Fin 2048) d, runB.sl.v131 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 (ix3 a s d) = ((DV (head Q K V G gq gk) a s d : ℝ) : EReal) := by
    intro a s d
    refine Eq.trans ?_ (a18 a s d)
    rw [← View.writes_append]
    unfold runB.sl.v131
    rfl
  have q74 : ∀ a (s : Fin 2048) d, runB.sl.r_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x17 (ix3 a s d) = ((dnrm (Q a s) gq (DQ (head Q K V G gq gk) a s) d : ℝ) : EReal) := by
    unfold runB.sl.r_7
    exact SbPro.pay74 Q (DQ (head Q K V G gq gk)) gq _ _ _ _ p55 p57 p59 b17
  have q77 : ∀ a (s : Fin 2048) d, k0_pay77 (k0_pay58 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4))) (k0_pay60 (View.readAt (Elt Ideal) arg7.view (Rect.unit (s := S1x128) ![0, 0] S1x128.size inb_S1x128_S1x128_0_0).toLoadRect (harg7.unread x7))) (runB.sl.v106 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7) (k0_pay75 (k0_pay56 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4))) (k0_pay58 (View.readAt (Elt Ideal) arg4.view (Rect.unit (s := S2048x256) ![0, 0] S2048x128.size inb_S2048x256_S2048x128_0_0).toLoadRect (harg4.unread x4)) (View.readAt (Elt Ideal) arg4.view (Rect.unit (s := S2048x256) ![0, 128] S2048x128.size inb_S2048x256_S2048x128_0_128).toLoadRect (harg4.unread x4)))) (ix3 a s d) = ((dnrm (K a s) gk (DK (head Q K V G gq gk) a s) d : ℝ) : EReal) :=
    SbPro.pay77 K (DK (head Q K V G gq gk)) gk _ _ _ p58 p60 b16 _ p75
  unfold runB
  refine ⟨cols_of _ _ _ (fun s d => ?_) (fun s d => ?_), cols_of _ _ _ (fun s d => ?_) (fun s d => ?_), cols_of _ _ _ (fun s d => ?_) (fun s d => ?_), row_of _ _ _ (fun u d => ?_), row_of _ _ _ (fun u d => ?_)⟩
  · rw [SbPro.pay79]; exact q74 0 s d
  · rw [SbPro.pay82]; exact q74 1 s d
  · rw [SbPro.pay80]; exact q77 0 s d
  · unfold runB.sl.r_10
    rw [SbPro.pay83]; exact q77 1 s d
  · rw [SbPro.pay81]; exact b18 0 s d
  · unfold runB.sl.r_9
    rw [SbPro.pay1, SbPro.pay78]; exact b18 1 s d
  · refine SbPro.pay73 Q (DQ (head Q K V G gq gk)) _ _ _ _ p55 p57 b17 b (fun u d => ?_) u d
    rw [get1 (off := ![0, 0]) arg11.view _ _ rfl, harg11.read_unread]
    exact e11 u d
  · refine SbPro.pay76 K (DK (head Q K V G gq gk)) _ _ b16 b' (fun u d => ?_) _ p75 u d
    rw [get1 (off := ![0, 0]) arg12.view _ _ rfl, harg12.read_unread]
    exact e12 u d

end SbRun

end
-- ==== Proof.SbCover.lean ====
module

public import proofs.«01_k».proof.Proof.SbBody
public import Idealize.ShloMosaic.Lib.Claim

/-! The frame of `_sb_bwd`: the pipeline over the twelve head pairs around the body. -/

@[expose] public section

set_option maxRecDepth 16384
set_option maxHeartbeats 8000000

noncomputable section

namespace Cert.SbIdeal.Own

open Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point is the one the condition names. -/
theorem hcond0 : ∀ t : Fin cfg0.N, cond0 (grid0.coords t) ↔ t.val = 0 :=
  (fun t => by
    have ht : t.val < 12 := Nat.lt_of_lt_of_eq t.isLt N_0
    have e0 : (grid0.coords t 0).val = t.val / 1 % 12 := Pipeline.Grid.coords_val t 0 (by decide) rfl
    have e1 : t.val / 1 % 12 = t.val := by omega
    simp only [cond0, e0, e1]
    word_cmp
   : ∀ t : Fin grid0.N, cond0 (grid0.coords t) ↔ t.val = 0)

/-- Contents the accumulator of dq is taken at, which its result does not depend on. -/
def x17 : Vec F S2x2048x128 .f32 := (Memref.whole cc0_scratch4 : Memref sig .tc .vmem S2x2048x128 .f32).view.read (Elt F) (View.junk _)

variable (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S2x2048x128 .bf16) (harg13 : arg13.IsWhole) (arg14 : Memref sig .tc .vmem S2x2048x128 .bf16) (harg14 : arg14.IsWhole) (arg15 : Memref sig .tc .vmem S2x2048x128 .bf16) (harg15 : arg15.IsWhole) (arg16 : Memref sig .tc .vmem S2x2048x128 .f32) (harg16 : arg16.IsWhole) (arg17 : Memref sig .tc .vmem S2x2048x128 .f32) (harg17 : arg17.IsWhole) (arg18 : Memref sig .tc .vmem S2x2048x128 .f32) (harg18 : arg18.IsWhole)

theorem runA_any (hc : cond0 i) (x1 : Vec F S2048x256 .f32) (x2 : Vec F S2048x256 .f32) (x3 : Vec F S2048x256 .f32) (x4 : Vec F S2048x256 .f32) (x5 : Vec F S2048x256 .f32) (x6 : Vec F S1x128 .f32) (x7 : Vec F S1x128 .f32) (x17 y17 : Vec F S2x2048x128 .f32) :
    (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17).1 = (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 y17).1 ∧ (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17).2.1 = (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 y17).2.1 ∧ (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17).2.2.1 = (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 y17).2.2.1 ∧ (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17).2.2.2.1 = (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 y17).2.2.2.1 ∧ (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17).2.2.2.2.1 = (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 y17).2.2.2.2.1 := by
  have e : runA.sl.v81 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x17 = runA.sl.v81 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 y17 := by
    unfold runA.sl.v81
    exact dq_read ..
  unfold runA
  simp only [runA.sl.r_7, e]
  exact ⟨trivial, trivial, trivial, trivial, trivial⟩

theorem runB_any (hc : ¬cond0 i) (x1 : Vec F S2048x256 .f32) (x2 : Vec F S2048x256 .f32) (x3 : Vec F S2048x256 .f32) (x4 : Vec F S2048x256 .f32) (x5 : Vec F S2048x256 .f32) (x6 : Vec F S1x128 .f32) (x7 : Vec F S1x128 .f32) (x17 y17 : Vec F S2x2048x128 .f32) (x11 : Vec F S1x128 .f32) (x12 : Vec F S1x128 .f32) :
    (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17 x11 x12).1 = (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 y17 x11 x12).1 ∧ (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17 x11 x12).2.1 = (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 y17 x11 x12).2.1 ∧ (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17 x11 x12).2.2.1 = (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 y17 x11 x12).2.2.1 ∧ (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17 x11 x12).2.2.2.1 = (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 y17 x11 x12).2.2.2.1 ∧ (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17 x11 x12).2.2.2.2.1 = (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 y17 x11 x12).2.2.2.2.1 := by
  have e : runB.sl.v81 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 x17 = runB.sl.v81 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 x4 x5 x6 x7 y17 := by
    unfold runB.sl.v81
    exact dq_read ..
  unfold runB
  simp only [runB.sl.r_7, e]
  exact ⟨trivial, trivial, trivial, trivial, trivial⟩

theorem coverA_8 (hc : cond0 i) (x1 : Vec F S2048x256 .f32) (x2 : Vec F S2048x256 .f32) (x3 : Vec F S2048x256 .f32) (x4 : Vec F S2048x256 .f32) (x5 : Vec F S2048x256 .f32) (x6 : Vec F S1x128 .f32) (x7 : Vec F S1x128 .f32) (x17 : Vec F S2x2048x128 .f32) (y : S2048x256.Idx) :
    ∃ pc ∈ (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17).1, y ∈ pc.1.set :=
  View.cover_of_tiledL (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17).1 S2048x128.size (by sl_kernel_rfl) y

theorem coverA_9 (hc : cond0 i) (x1 : Vec F S2048x256 .f32) (x2 : Vec F S2048x256 .f32) (x3 : Vec F S2048x256 .f32) (x4 : Vec F S2048x256 .f32) (x5 : Vec F S2048x256 .f32) (x6 : Vec F S1x128 .f32) (x7 : Vec F S1x128 .f32) (x17 : Vec F S2x2048x128 .f32) (y : S2048x256.Idx) :
    ∃ pc ∈ (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17).2.1, y ∈ pc.1.set :=
  View.cover_of_tiledL (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17).2.1 S2048x128.size (by sl_kernel_rfl) y

theorem coverA_10 (hc : cond0 i) (x1 : Vec F S2048x256 .f32) (x2 : Vec F S2048x256 .f32) (x3 : Vec F S2048x256 .f32) (x4 : Vec F S2048x256 .f32) (x5 : Vec F S2048x256 .f32) (x6 : Vec F S1x128 .f32) (x7 : Vec F S1x128 .f32) (x17 : Vec F S2x2048x128 .f32) (y : S2048x256.Idx) :
    ∃ pc ∈ (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17).2.2.1, y ∈ pc.1.set :=
  View.cover_of_tiledL (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17).2.2.1 S2048x128.size (by sl_kernel_rfl) y

theorem coverA_11 (hc : cond0 i) (x1 : Vec F S2048x256 .f32) (x2 : Vec F S2048x256 .f32) (x3 : Vec F S2048x256 .f32) (x4 : Vec F S2048x256 .f32) (x5 : Vec F S2048x256 .f32) (x6 : Vec F S1x128 .f32) (x7 : Vec F S1x128 .f32) (x17 : Vec F S2x2048x128 .f32) (y : S1x128.Idx) :
    ∃ pc ∈ (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17).2.2.2.1, y ∈ pc.1.set :=
  View.cover_of_tiledL (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17).2.2.2.1 S1x128.size (by sl_kernel_rfl) y

theorem coverA_12 (hc : cond0 i) (x1 : Vec F S2048x256 .f32) (x2 : Vec F S2048x256 .f32) (x3 : Vec F S2048x256 .f32) (x4 : Vec F S2048x256 .f32) (x5 : Vec F S2048x256 .f32) (x6 : Vec F S1x128 .f32) (x7 : Vec F S1x128 .f32) (x17 : Vec F S2x2048x128 .f32) (y : S1x128.Idx) :
    ∃ pc ∈ (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17).2.2.2.2.1, y ∈ pc.1.set :=
  View.cover_of_tiledL (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17).2.2.2.2.1 S1x128.size (by sl_kernel_rfl) y

theorem coverB_8 (hc : ¬cond0 i) (x1 : Vec F S2048x256 .f32) (x2 : Vec F S2048x256 .f32) (x3 : Vec F S2048x256 .f32) (x4 : Vec F S2048x256 .f32) (x5 : Vec F S2048x256 .f32) (x6 : Vec F S1x128 .f32) (x7 : Vec F S1x128 .f32) (x17 : Vec F S2x2048x128 .f32) (x11 : Vec F S1x128 .f32) (x12 : Vec F S1x128 .f32) (y : S2048x256.Idx) :
    ∃ pc ∈ (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17 x11 x12).1, y ∈ pc.1.set :=
  View.cover_of_tiledL (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17 x11 x12).1 S2048x128.size (by sl_kernel_rfl) y

theorem coverB_9 (hc : ¬cond0 i) (x1 : Vec F S2048x256 .f32) (x2 : Vec F S2048x256 .f32) (x3 : Vec F S2048x256 .f32) (x4 : Vec F S2048x256 .f32) (x5 : Vec F S2048x256 .f32) (x6 : Vec F S1x128 .f32) (x7 : Vec F S1x128 .f32) (x17 : Vec F S2x2048x128 .f32) (x11 : Vec F S1x128 .f32) (x12 : Vec F S1x128 .f32) (y : S2048x256.Idx) :
    ∃ pc ∈ (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17 x11 x12).2.1, y ∈ pc.1.set :=
  View.cover_of_tiledL (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17 x11 x12).2.1 S2048x128.size (by sl_kernel_rfl) y

theorem coverB_10 (hc : ¬cond0 i) (x1 : Vec F S2048x256 .f32) (x2 : Vec F S2048x256 .f32) (x3 : Vec F S2048x256 .f32) (x4 : Vec F S2048x256 .f32) (x5 : Vec F S2048x256 .f32) (x6 : Vec F S1x128 .f32) (x7 : Vec F S1x128 .f32) (x17 : Vec F S2x2048x128 .f32) (x11 : Vec F S1x128 .f32) (x12 : Vec F S1x128 .f32) (y : S2048x256.Idx) :
    ∃ pc ∈ (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17 x11 x12).2.2.1, y ∈ pc.1.set :=
  View.cover_of_tiledL (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17 x11 x12).2.2.1 S2048x128.size (by sl_kernel_rfl) y

theorem coverB_11 (hc : ¬cond0 i) (x1 : Vec F S2048x256 .f32) (x2 : Vec F S2048x256 .f32) (x3 : Vec F S2048x256 .f32) (x4 : Vec F S2048x256 .f32) (x5 : Vec F S2048x256 .f32) (x6 : Vec F S1x128 .f32) (x7 : Vec F S1x128 .f32) (x17 : Vec F S2x2048x128 .f32) (x11 : Vec F S1x128 .f32) (x12 : Vec F S1x128 .f32) (y : S1x128.Idx) :
    ∃ pc ∈ (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17 x11 x12).2.2.2.1, y ∈ pc.1.set :=
  View.cover_of_tiledL (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17 x11 x12).2.2.2.1 S1x128.size (by sl_kernel_rfl) y

theorem coverB_12 (hc : ¬cond0 i) (x1 : Vec F S2048x256 .f32) (x2 : Vec F S2048x256 .f32) (x3 : Vec F S2048x256 .f32) (x4 : Vec F S2048x256 .f32) (x5 : Vec F S2048x256 .f32) (x6 : Vec F S1x128 .f32) (x7 : Vec F S1x128 .f32) (x17 : Vec F S2x2048x128 .f32) (x11 : Vec F S1x128 .f32) (x12 : Vec F S1x128 .f32) (y : S1x128.Idx) :
    ∃ pc ∈ (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17 x11 x12).2.2.2.2.1, y ∈ pc.1.set :=
  View.cover_of_tiledL (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x1 x2 x3 x4 x5 x6 x7 x17 x11 x12).2.2.2.2.1 S1x128.size (by sl_kernel_rfl) y

/-- An output read back after a run whose pieces cover it: what stood in it does not matter, and the same pieces leave the same in
any other buffer. -/
theorem read_any {sig : RefSig} {κ κ' : Kind} {sp sp' : Space} {s : Shape} {e : EltTy} {Val : EltTy → Type} {v : View sig κ sp s e} {w : View sig κ' sp' s e}
    {f : v.ty.Contents Val} {g : w.ty.Contents Val} {L L' : List (View.Piece Val s e)} (hc : ∀ y, ∃ pc ∈ L, y ∈ pc.1.set) (h : L = L') :
    v.read Val (v.writes Val f L) = w.read Val (w.writes Val g L') := by
  subst h
  exact View.read_writes_of_cover _ _ _ _ _ hc

end Cert.SbIdeal.Own

end
-- ==== Proof.SbFrame.lean ====
module

public import proofs.«01_k».proof.Proof.SbCover
public import Idealize.ShloMosaic.Lib.Claim

/-! The frame of `_sb_bwd`: the pipeline over the twelve head pairs around the body. -/

@[expose] public section

set_option maxRecDepth 16384
set_option maxHeartbeats 8000000

noncomputable section

namespace Cert.SbIdeal.Own

open Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's run, whose accumulator of dq held `x`. -/
abbrev atA (c : Dev nD) (t : Fin cfg0.N) (h : cond0 (grid0.coords t)) (x : Vec F S2x2048x128 .f32) :=
  runA (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) h (iblk m c 0 t) (iblk m c 1 t) (iblk m c 2 t) (iblk m c 3 t) (iblk m c 4 t) (iblk m c 5 t) (iblk m c 6 t) x

/-- A later point's run, whose accumulator of dq held `x`, over the gradients of the gains so far. -/
abbrev atB (c : Dev nD) (t : Fin cfg0.N) (h : ¬cond0 (grid0.coords t)) (x : Vec F S2x2048x128 .f32) (a b : Vec F S1x128 .f32) :=
  runB (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) h (iblk m c 0 t) (iblk m c 1 t) (iblk m c 2 t) (iblk m c 3 t) (iblk m c 4 t) (iblk m c 5 t) (iblk m c 6 t) x a b

/-- What the first point leaves in the five outputs. -/
def outA (c : Dev nD) (t : Fin cfg0.N) (h : cond0 (grid0.coords t)) : Vec F S2048x256 .bf16 × Vec F S2048x256 .bf16 × Vec F S2048x256 .bf16 × Vec F S1x128 .f32 × Vec F S1x128 .f32 :=
  ((Memref.whole cc0_stg7_0 : Memref sig .tc .vmem S2048x256 .bf16).view.read (Elt F) ((Memref.whole cc0_stg7_0 : Memref sig .tc .vmem S2048x256 .bf16).view.writes (Elt F) (Memref.whole cc0_stg7_0 : Memref sig .tc .vmem S2048x256 .bf16).view.junk (atA m c t h x17).1),
   (Memref.whole cc0_stg8_0 : Memref sig .tc .vmem S2048x256 .bf16).view.read (Elt F) ((Memref.whole cc0_stg8_0 : Memref sig .tc .vmem S2048x256 .bf16).view.writes (Elt F) (Memref.whole cc0_stg8_0 : Memref sig .tc .vmem S2048x256 .bf16).view.junk (atA m c t h x17).2.1),
   (Memref.whole cc0_stg9_0 : Memref sig .tc .vmem S2048x256 .bf16).view.read (Elt F) ((Memref.whole cc0_stg9_0 : Memref sig .tc .vmem S2048x256 .bf16).view.writes (Elt F) (Memref.whole cc0_stg9_0 : Memref sig .tc .vmem S2048x256 .bf16).view.junk (atA m c t h x17).2.2.1),
   (Memref.whole cc0_stg10_0 : Memref sig .tc .vmem S1x128 .f32).view.read (Elt F) ((Memref.whole cc0_stg10_0 : Memref sig .tc .vmem S1x128 .f32).view.writes (Elt F) (Memref.whole cc0_stg10_0 : Memref sig .tc .vmem S1x128 .f32).view.junk (atA m c t h x17).2.2.2.1),
   (Memref.whole cc0_stg11_0 : Memref sig .tc .vmem S1x128 .f32).view.read (Elt F) ((Memref.whole cc0_stg11_0 : Memref sig .tc .vmem S1x128 .f32).view.writes (Elt F) (Memref.whole cc0_stg11_0 : Memref sig .tc .vmem S1x128 .f32).view.junk (atA m c t h x17).2.2.2.2.1))

/-- What a later point leaves in the five outputs, over the gradients of the gains so far. -/
def outB (c : Dev nD) (t : Fin cfg0.N) (h : ¬cond0 (grid0.coords t)) (a b : Vec F S1x128 .f32) : Vec F S2048x256 .bf16 × Vec F S2048x256 .bf16 × Vec F S2048x256 .bf16 × Vec F S1x128 .f32 × Vec F S1x128 .f32 :=
  ((Memref.whole cc0_stg7_0 : Memref sig .tc .vmem S2048x256 .bf16).view.read (Elt F) ((Memref.whole cc0_stg7_0 : Memref sig .tc .vmem S2048x256 .bf16).view.writes (Elt F) (Memref.whole cc0_stg7_0 : Memref sig .tc .vmem S2048x256 .bf16).view.junk (atB m c t h x17 a b).1),
   (Memref.whole cc0_stg8_0 : Memref sig .tc .vmem S2048x256 .bf16).view.read (Elt F) ((Memref.whole cc0_stg8_0 : Memref sig .tc .vmem S2048x256 .bf16).view.writes (Elt F) (Memref.whole cc0_stg8_0 : Memref sig .tc .vmem S2048x256 .bf16).view.junk (atB m c t h x17 a b).2.1),
   (Memref.whole cc0_stg9_0 : Memref sig .tc .vmem S2048x256 .bf16).view.read (Elt F) ((Memref.whole cc0_stg9_0 : Memref sig .tc .vmem S2048x256 .bf16).view.writes (Elt F) (Memref.whole cc0_stg9_0 : Memref sig .tc .vmem S2048x256 .bf16).view.junk (atB m c t h x17 a b).2.2.1),
   (Memref.whole cc0_stg10_0 : Memref sig .tc .vmem S1x128 .f32).view.read (Elt F) ((Memref.whole cc0_stg10_0 : Memref sig .tc .vmem S1x128 .f32).view.writes (Elt F) (Memref.whole cc0_stg10_0 : Memref sig .tc .vmem S1x128 .f32).view.junk (atB m c t h x17 a b).2.2.2.1),
   (Memref.whole cc0_stg11_0 : Memref sig .tc .vmem S1x128 .f32).view.read (Elt F) ((Memref.whole cc0_stg11_0 : Memref sig .tc .vmem S1x128 .f32).view.writes (Elt F) (Memref.whole cc0_stg11_0 : Memref sig .tc .vmem S1x128 .f32).view.junk (atB m c t h x17 a b).2.2.2.2.1))

/-- What the outputs' buffers hold after each point: the gradients of the gains over what the point before left. -/
def outsAt (c : Dev nD) : (n : ℕ) → n < cfg0.N → Vec F S2048x256 .bf16 × Vec F S2048x256 .bf16 × Vec F S2048x256 .bf16 × Vec F S1x128 .f32 × Vec F S1x128 .f32
  | 0, hn => outA m c ⟨0, hn⟩ ((hcond0 ⟨0, hn⟩).mpr rfl)
  | n + 1, hn => outB m c ⟨n + 1, hn⟩ (fun h => Nat.succ_ne_zero n ((hcond0 ⟨n + 1, hn⟩).mp h))
      (outsAt c n (Nat.lt_of_succ_lt hn)).2.2.2.1 (outsAt c n (Nat.lt_of_succ_lt hn)).2.2.2.2

theorem outsAt_A (c : Dev nD) (t : Fin cfg0.N) (h : t.val = 0) : outsAt m c t.val t.isLt = outA m c t ((hcond0 t).mpr h) := by
  obtain ⟨n, hn⟩ := t
  cases n with
  | zero => rfl
  | succ n => exact absurd h (Nat.succ_ne_zero n)

theorem outsAt_B (c : Dev nD) (t : Fin cfg0.N) (h : t.val ≠ 0) :
    outsAt m c t.val t.isLt = outB m c t (fun h' => h ((hcond0 t).mp h'))
      (outsAt m c (t.val - 1) (Nat.lt_of_le_of_lt (Nat.sub_le _ _) t.isLt)).2.2.2.1
      (outsAt m c (t.val - 1) (Nat.lt_of_le_of_lt (Nat.sub_le _ _) t.isLt)).2.2.2.2 := by
  obtain ⟨n, hn⟩ := t
  cases n with
  | zero => exact absurd rfl h
  | succ n => rfl

/-- The pipeline's proof data: every input's buffer at its block, the outputs' at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
    | ⟨8, _⟩ => (outsAt m c t.val t.isLt).2.1
    | ⟨9, _⟩ => (outsAt m c t.val t.isLt).2.2.1
    | ⟨10, _⟩ => (outsAt m c t.val t.isLt).2.2.2.1
    | ⟨11, _⟩ => (outsAt m c t.val t.isLt).2.2.2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (outsAt m c t.val t.isLt).1 := by dsimp only [dats]
theorem after_8 (c : Dev nD) (t : Fin cfg0.N) : (dats m 0 c).after 8 t = (outsAt m c t.val t.isLt).2.1 := by dsimp only [dats]
theorem after_9 (c : Dev nD) (t : Fin cfg0.N) : (dats m 0 c).after 9 t = (outsAt m c t.val t.isLt).2.2.1 := by dsimp only [dats]
theorem after_10 (c : Dev nD) (t : Fin cfg0.N) : (dats m 0 c).after 10 t = (outsAt m c t.val t.isLt).2.2.2.1 := by dsimp only [dats]
theorem after_11 (c : Dev nD) (t : Fin cfg0.N) : (dats m 0 c).after 11 t = (outsAt m c t.val t.isLt).2.2.2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_10 (c : Dev nD) (t : Fin cfg0.N) (h : t.val ≠ 0) (d) :
    (dats m 0 c).before 10 t d = (outsAt m c (t.val - 1) (Nat.lt_of_le_of_lt (Nat.sub_le _ _) t.isLt)).2.2.2.1 := by
  have hN : t.val < 12 := lt_of_lt_of_eq t.isLt (show cfg0.N = 12 from N_0)
  rw [Dat.before_out_kept _ 10 rfl t (by omega) (Bool.eq_false_iff.mpr fun h => by have := (flush0_10 _).mp h; dsimp only at this; omega)
    (fun _ => rfl) (fun _ _ => rfl)]
  dsimp only [dats]
theorem before_11 (c : Dev nD) (t : Fin cfg0.N) (h : t.val ≠ 0) (d) :
    (dats m 0 c).before 11 t d = (outsAt m c (t.val - 1) (Nat.lt_of_le_of_lt (Nat.sub_le _ _) t.isLt)).2.2.2.2 := by
  have hN : t.val < 12 := lt_of_lt_of_eq t.isLt (show cfg0.N = 12 from N_0)
  rw [Dat.before_out_kept _ 11 rfl t (by omega) (Bool.eq_false_iff.mpr fun h => by have := (flush0_11 _).mp h; dsimp only at this; omega)
    (fun _ => rfl) (fun _ _ => rfl)]
  dsimp only [dats]

theorem PhiA0_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (st0_0 t) fullShare ((dats m 0 c).after 0 t) from by
    unfold Dat.leavesExact; rw [show cfg0.idle 0 (grid0.coords t) = false from rfl], after_0]
  rw [show (dats m 0 c).leavesExact 1 t = owns (c : Thread nD τ) (st0_1 t) fullShare ((dats m 0 c).after 1 t) from by
    unfold Dat.leavesExact; rw [show cfg0.idle 1 (grid0.coords t) = false from rfl], after_1]
  rw [show (dats m 0 c).leavesExact 2 t = owns (c : Thread nD τ) (st0_2 t) fullShare ((dats m 0 c).after 2 t) from by
    unfold Dat.leavesExact; rw [show cfg0.idle 2 (grid0.coords t) = false from rfl], after_2]
  rw [show (dats m 0 c).leavesExact 3 t = owns (c : Thread nD τ) (st0_3 t) fullShare ((dats m 0 c).after 3 t) from by
    unfold Dat.leavesExact; rw [show cfg0.idle 3 (grid0.coords t) = false from rfl], after_3]
  rw [show (dats m 0 c).leavesExact 4 t = owns (c : Thread nD τ) (st0_4 t) fullShare ((dats m 0 c).after 4 t) from by
    unfold Dat.leavesExact; rw [show cfg0.idle 4 (grid0.coords t) = false from rfl], after_4]
  rw [show (dats m 0 c).leavesExact 5 t = owns (c : Thread nD τ) (st0_5 t) fullShare ((dats m 0 c).after 5 t) from by
    unfold Dat.leavesExact; rw [show cfg0.idle 5 (grid0.coords t) = false from rfl], after_5]
  rw [show (dats m 0 c).leavesExact 6 t = owns (c : Thread nD τ) (st0_6 t) fullShare ((dats m 0 c).after 6 t) from by
    unfold Dat.leavesExact; rw [show cfg0.idle 6 (grid0.coords t) = false from rfl], after_6]
  rw [show (dats m 0 c).leavesExact 7 t = owns (c : Thread nD τ) (st0_7 t) fullShare ((dats m 0 c).after 7 t) from by
    unfold Dat.leavesExact; rw [show cfg0.idle 7 (grid0.coords t) = false from rfl], after_7]
  rw [show (dats m 0 c).leavesExact 8 t = owns (c : Thread nD τ) (st0_8 t) fullShare ((dats m 0 c).after 8 t) from by
    unfold Dat.leavesExact; rw [show cfg0.idle 8 (grid0.coords t) = false from rfl], after_8]
  rw [show (dats m 0 c).leavesExact 9 t = owns (c : Thread nD τ) (st0_9 t) fullShare ((dats m 0 c).after 9 t) from by
    unfold Dat.leavesExact; rw [show cfg0.idle 9 (grid0.coords t) = false from rfl], after_9]
  rw [show (dats m 0 c).leavesExact 10 t = owns (c : Thread nD τ) (st0_10 t) fullShare ((dats m 0 c).after 10 t) from by
    unfold Dat.leavesExact; rw [show cfg0.idle 10 (grid0.coords t) = false from rfl], after_10]
  rw [show (dats m 0 c).leavesExact 11 t = owns (c : Thread nD τ) (st0_11 t) fullShare ((dats m 0 c).after 11 t) from by
    unfold Dat.leavesExact; rw [show cfg0.idle 11 (grid0.coords t) = false from rfl], after_11]
  by_cases h : t.val = 0
  · rw [outsAt_A m c t h]
    unfold outA; dsimp only
    iintro ⟨⟨⟨HS0, HS1, HS2, HS3, ⟨%s, HS4⟩, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((atA m c t ((hcond0 t).mpr h) s).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, ⟨%e7, H7⟩, ⟨%e8, H8⟩, ⟨%e9, H9⟩, ⟨%e10, H10⟩, ⟨%e11, H11⟩, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact read_any (fun _ => coverA_8 ..) (runA_any ..).1
    isplitl [H8]
    · unfold owns; iexists _; isplitr
      swap; · iexact H8
      ipureintro; exact read_any (fun _ => coverA_9 ..) (runA_any ..).2.1
    isplitl [H9]
    · unfold owns; iexists _; isplitr
      swap; · iexact H9
      ipureintro; exact read_any (fun _ => coverA_10 ..) (runA_any ..).2.2.1
    isplitl [H10]
    · unfold owns; iexists _; isplitr
      swap; · iexact H10
      ipureintro; exact read_any (fun _ => coverA_11 ..) (runA_any ..).2.2.2.1
    unfold owns; iexists _; isplitr
    swap; · iexact H11
    ipureintro; exact read_any (fun _ => coverA_12 ..) (runA_any ..).2.2.2.2
  · rw [outsAt_B m c t h]
    simp only [before_10 m c t h, before_11 m c t h]
    unfold outB; dsimp only
    iintro ⟨⟨⟨HS0, HS1, HS2, HS3, ⟨%s, HS4⟩, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((atB m c t (fun h' => h ((hcond0 t).mp h')) s _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, ⟨%e7, H7⟩, ⟨%e8, H8⟩, ⟨%e9, H9⟩, ⟨%e10, H10⟩, ⟨%e11, H11⟩, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact read_any (fun _ => coverB_8 ..) (runB_any ..).1
    isplitl [H8]
    · unfold owns; iexists _; isplitr
      swap; · iexact H8
      ipureintro; exact read_any (fun _ => coverB_9 ..) (runB_any ..).2.1
    isplitl [H9]
    · unfold owns; iexists _; isplitr
      swap; · iexact H9
      ipureintro; exact read_any (fun _ => coverB_10 ..) (runB_any ..).2.2.1
    isplitl [H10]
    · unfold owns; iexists _; isplitr
      swap; · iexact H10
      ipureintro; exact read_any (fun _ => coverB_11 ..) (runB_any ..).2.2.2.1
    unfold owns; iexists _; isplitr
    swap; · iexact H11
    ipureintro; exact read_any (fun _ => coverB_12 ..) (runB_any ..).2.2.2.2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array of the pipeline at what the proof data compute, every counter at zero. -/
theorem run_main : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun _ => Idealize.SL.BI.Entails.refl _) (hout := fun _ => Idealize.SL.BI.Entails.refl _)

/-- The frame, over any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.SbIdeal.Own

end
-- ==== Proof.SbTot.lean ====
/- What the host lines before the stick-breaking gradient kernel leave in the array of row totals, over the reals. -/
module

public import proofs.«01_k».proof.Proof.SbRun
public import proofs.«01_k».proof.Proof.SbFrame
public import Idealize.ShloMosaic.Lib.StableHlo.RunRead
public import Idealize.ShloMosaic.Lib.Tactic
public import Idealize.ShloMosaic.Lib.Pointwise
public import Idealize.ShloMosaic.Lib.WordCmp

@[expose] public section

set_option maxRecDepth 16384
set_option maxHeartbeats 1000000

noncomputable section

namespace SbTot

open Idealize.ShloMosaic Idealize.ShloMosaic.TcCoe Cert.SbIdeal Cert.SbIdeal.Gen Cert.SbIdeal.Own RealVal SbReal SbNorm SbRun

/-- Rows of heads, normalised and with a gain. -/
def rows (x : FVec Ideal S2048x3072 .f32) (g : FVec Ideal S128 .f32) : FVec Ideal S2048x24x128 .f32 :=
  mulf (mulf (shapeCast S2048x24x128 x shapeCasts_S2048x3072_S2048x24x128)
      (broadcastInDim S2048x24x128 ![0, 1, 2] bcast_S2048x24x1_S2048x24x128_0_1_2 (Host.rsqrt (addf
        (Host.divf (broadcastInDim S2048x24x1 ![0, 1] bcast_S2048x24_S2048x24x1_0_1
          (Host.reduceAdd (mulf (shapeCast S2048x24x128 x shapeCasts_S2048x3072_S2048x24x128) (shapeCast S2048x24x128 x shapeCasts_S2048x3072_S2048x24x128))
            (constant S_ .f32 0x00000000#32) reducesTo_S2048x24x128_S2048x24_d2 h_S_))
          (broadcastInDim S2048x24x1 ![] bcast_S_S2048x24x1 (constant S_ .f32 0x43000000#32)))
        (broadcastInDim S2048x24x1 ![] bcast_S_S2048x24x1 (constant S_ .f32 0x358637BD#32))))))
    (broadcastInDim S2048x24x128 ![0, 1, 2] bcast_S1x1x128_S2048x24x128_0_1_2 (broadcastInDim S1x1x128 ![2] bcast_S128_S1x1x128_2 g))

/-- The scores. -/
def zs (a b : FVec Ideal S2048x24x128 .f32) : FVec Ideal S24x2048x2048 .f32 :=
  mulf (Host.dotGeneral dot_S2048x24x128_S2048x24x128_S24x2048x2048_2_2_0_0_1_1 none a b)
    (broadcastInDim S24x2048x2048 ![] bcast_S_S24x2048x2048 (constant S_ .f32 0x3DB504F3#32))

/-- Which keys a query may stop at. -/
def before : IVec S2048x2048 1 :=
  cmpi .slt (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

abbrev zero3 : FVec Ideal S24x2048x2048 .f32 := broadcastInDim S24x2048x2048 ![] bcast_S_S24x2048x2048 (constant S_ .f32 0x00000000#32)

/-- Minus the softplus of minus an array. -/
def go (x : FVec Ideal S24x2048x2048 .f32) : FVec Ideal S24x2048x2048 .f32 :=
  Host.negf (select (cmpf .une (subf (Host.negf x) zero3) (subf (Host.negf x) zero3)) (addf (Host.negf x) zero3)
    (addf (maximumf (Host.negf x) zero3) (Host.log1p (Host.exp (Host.negf (Host.absf (subf (Host.negf x) zero3)))))))

abbrev σ (m : (ℓ : Loc nD τ sig) → Buf (Elt Ideal) ℓ) (c : Dev nD) := fun b => m (c, b)

section
variable (s : Valuation τ sig (Elt Ideal))

theorem h0 : StableHlo.after (hostOps0 (F := Ideal)) s (Proc.devRef .tc main_v40) =
    Host.negf (zs (rows (extractStridedSlice S2048x3072 ![0, 0] (s (Proc.devRef .tc main_arg1)) slices_S2048x14336_S2048x3072_0_0) (s (Proc.devRef .tc main_arg2)))
      (rows (extractStridedSlice S2048x3072 ![0, 3072] (s (Proc.devRef .tc main_arg1)) slices_S2048x14336_S2048x3072_0_3072) (s (Proc.devRef .tc main_arg3)))) := by
  after_reads_simp
  rfl

theorem h0' : StableHlo.after (hostOps0 (F := Ideal)) s (Proc.devRef .tc main_v39) = before := by
  after_reads_simp
  rfl

theorem h1 : StableHlo.after (hostOps0_1 (F := Ideal)) s (Proc.devRef .tc main_v41) = go (s (Proc.devRef .tc main_v40)) := by
  after_reads_simp
  rfl

theorem h1' : StableHlo.after (hostOps0_1 (F := Ideal)) s (Proc.devRef .tc main_v39) = s (Proc.devRef .tc main_v39) := by
  after_reads_simp

theorem h2 : StableHlo.after (hostOps0_2 (F := Ideal)) s (Proc.devRef .tc main_v39) = s (Proc.devRef .tc main_v39) := by
  after_reads_simp

theorem h2' : StableHlo.after (hostOps0_2 (F := Ideal)) s (Proc.devRef .tc main_v41) = s (Proc.devRef .tc main_v41) := by
  after_reads_simp

theorem h2z : StableHlo.after (hostOps0_2 (F := Ideal)) s (Proc.devRef .tc main_cst_6) = constant (F := Ideal) S_ .f32 0x00000000#32 := by
  after_reads_simp

theorem h3 : StableHlo.after (hostOps0_3 (F := Ideal)) s (Proc.devRef .tc main_v42) =
    select (broadcastInDim S24x2048x2048 ![1, 2] bcast_S2048x2048_S24x2048x2048_1_2 (s (Proc.devRef .tc main_v39))) (s (Proc.devRef .tc main_v41))
      (broadcastInDim S24x2048x2048 ![] bcast_S_S24x2048x2048 (s (Proc.devRef .tc main_cst_6))) := by
  after_reads_simp
  rfl

/-- The row totals laid out as the kernel reads them. -/
def tots (x : FVec Ideal S24x2048x2048 .f32) : FVec Ideal S2048x3072 .f32 :=
  shapeCast S2048x3072 (broadcastInDim S2048x24x128 ![0, 1, 2] bcast_S2048x24x1_S2048x24x128_0_1_2 (broadcastInDim S2048x24x1 ![0, 1] bcast_S2048x24_S2048x24x1_0_1
    (transpose S2048x24 [1, 0] (Host.reduceAdd x (constant S_ .f32 0x00000000#32) reducesTo_S24x2048x2048_S24x2048_d2 h_S_) transposes_S24x2048_S2048x24_1_0)))
    shapeCasts_S2048x24x128_S2048x3072

theorem h4 : StableHlo.after (hostOps0_4 (F := Ideal)) s (Proc.devRef .tc main_v47) = tots (s (Proc.devRef .tc main_v42)) := by
  after_reads_simp
  rfl
end

/-- What the array of row totals holds when the kernel starts. -/
theorem read (m : (ℓ : Loc nD τ sig) → Buf (Elt Ideal) ℓ) (c : Dev nD) : V m c main_v47 =
    tots (select (broadcastInDim S24x2048x2048 ![1, 2] bcast_S2048x2048_S24x2048x2048_1_2 before)
      (go (Host.negf (zs (rows (extractStridedSlice S2048x3072 ![0, 0] (m ((c : Thread nD τ).loc main_arg1)) slices_S2048x14336_S2048x3072_0_0) (m ((c : Thread nD τ).loc main_arg2)))
        (rows (extractStridedSlice S2048x3072 ![0, 3072] (m ((c : Thread nD τ).loc main_arg1)) slices_S2048x14336_S2048x3072_0_3072) (m ((c : Thread nD τ).loc main_arg3)))))) zero3) := by
  have e : V m c main_v47 = StableHlo.after (hostOps0_4 (F := Ideal)) (StableHlo.after (hostOps0_3 (F := Ideal)) (StableHlo.after (hostOps0_2 (F := Ideal)) (StableHlo.after hostOps0_1
      (StableHlo.after (hostOps0 (F := Ideal)) (fun b => m (c, b)))))) (Proc.devRef .tc main_v47) := by
    show StableHlo.after (List.flatten [hostOps0 (F := Ideal), hostOps0_1, hostOps0_2, hostOps0_3, hostOps0_4]) (fun b => m (c, b)) (Proc.devRef .tc main_v47) = _
    simp only [List.flatten_cons, List.flatten_nil, List.append_nil, StableHlo.after_append]
  rw [e, h4, h3, h2, h2', h2z, h1, h1', h0, h0']

/-- The column of place `d` of head `h`. -/
def at' (h : Fin 24) (d : Fin 128) : Fin 3072 := ⟨h.val * 128 + d.val, by omega⟩

theorem rows_val (X : Fin 24 → ℕ → Fin 128 → ℝ) (gr : Fin 128 → ℝ) (x : FVec Ideal S2048x3072 .f32) (g : FVec Ideal S128 .f32)
    (hx : ∀ h (t : Fin 2048) d, x (ix2 t (at' h d)) = ((X h t d : ℝ) : EReal)) (hg : ∀ d, g (ix1 d) = ((gr d : ℝ) : EReal))
    (t : Fin 2048) (h : Fin 24) (d : Fin 128) : rows x g (ix3 t h d) = ((hat (X h t) d * gr d : ℝ) : EReal) := by
  have e : ∀ h (t : Fin 2048) d, shapeCast S2048x24x128 x shapeCasts_S2048x3072_S2048x24x128 (ix3 t h d) = ((X h t d : ℝ) : EReal) := by
    intro h t d
    pointwise
    exact hx h t d
  unfold rows
  generalize shapeCast S2048x24x128 x shapeCasts_S2048x3072_S2048x24x128 = y at e ⊢
  pointwise
  simp only [e, hg, ← EReal.coe_mul, coe_sum, bits_128, bits_eps]
  rw [div_coe _ _ (by norm_num), ← EReal.coe_add, rsqrt_ms]
  simp only [← EReal.coe_mul]
  rfl

/-- The softplus as the host spells it. -/
theorem sp_host (x : ℝ) : max (x : EReal) 0 + Ideal.log1p (Ideal.exp (-FloatOps.absf (F := Ideal) (φ := .f32) (x : EReal))) = ((sp x : ℝ) : EReal) := by
  have e := SbTile.sp_coe x
  rw [zero_sub] at e
  exact e

theorem go_val (x : FVec Ideal S24x2048x2048 .f32) (h : Fin 24) (t s : Fin 2048) (r : ℝ) (hx : x (ix3 h t s) = ((r : ℝ) : EReal)) :
    go x (ix3 h t s) = ((-sp (-r) : ℝ) : EReal) := by
  unfold go zero3
  pointwise
  rw [hx, if_neg (fun h => h rfl), ← EReal.coe_neg, sp_host, ← EReal.coe_neg]

theorem zs_val (A B : Fin 24 → ℕ → Fin 128 → ℝ) (a b : FVec Ideal S2048x24x128 .f32) (ha : ∀ (t : Fin 2048) h d, a (ix3 t h d) = ((A h t d : ℝ) : EReal))
    (hb : ∀ (t : Fin 2048) h d, b (ix3 t h d) = ((B h t d : ℝ) : EReal)) (h : Fin 24) (t s : Fin 2048) :
    zs a b (ix3 h t s) = (((∑ d, A h t d * B h s d) * SbTile.scale : ℝ) : EReal) := by
  unfold zs
  pointwise
  simp only [ha, hb, ← EReal.coe_mul, coe_sum, SbTile.bits_scale]

theorem before_val (t s : Fin 2048) : before (ix2 t s) = BitVec.ofBool (decide (s.val < t.val)) := by
  unfold before
  pointwise
  have ht := t.isLt
  have hs := s.isLt
  rw [WordCmp.cmpi_slt_ofNat (by omega) (by omega)]

theorem tots_val (R : Fin 24 → ℕ → ℕ → ℝ) (x : FVec Ideal S24x2048x2048 .f32) (hx : ∀ h (t s : Fin 2048), x (ix3 h t s) = ((R h t s : ℝ) : EReal))
    (t : Fin 2048) (h : Fin 24) (d : Fin 128) : tots x (ix2 t (at' h d)) = ((∑ s : Fin 2048, R h t s : ℝ) : EReal) := by
  unfold tots
  pointwise
  refine Eq.trans (Finset.sum_congr rfl fun s _ => (congrArg x (congrArg (fun k => ix3 k t s) (Fin.ext ?_ : _ = h))).trans (hx h t s)) (coe_sum _ _)
  show (h.val * 128 + d.val) / 128 = h.val
  omega

variable (m : (ℓ : Loc nD τ sig) → Buf (Elt Ideal) ℓ) (c : Dev nD)
variable (Q K : Fin 24 → ℕ → Fin 128 → ℝ) (gq gk : Fin 128 → ℝ)

theorem val (H : Fin 24 → Head) (Hq : ∀ h t d, (H h).qn t d = hat (Q h t) d * (gq d * SbTile.scale)) (Hk : ∀ h s d, (H h).kn s d = hat (K h s) d * gk d)
    (hq : ∀ h (t : Fin 2048) d, m ((c : Thread nD τ).loc main_arg1) (ix2 t (⟨(at' h d).val, by omega⟩ : Fin 14336)) = ((Q h t d : ℝ) : EReal))
    (hk : ∀ h (t : Fin 2048) d, m ((c : Thread nD τ).loc main_arg1) (ix2 t (⟨3072 + (at' h d).val, by omega⟩ : Fin 14336)) = ((K h t d : ℝ) : EReal))
    (hgq : ∀ d, m ((c : Thread nD τ).loc main_arg2) (ix1 d) = ((gq d : ℝ) : EReal)) (hgk : ∀ d, m ((c : Thread nD τ).loc main_arg3) (ix1 d) = ((gk d : ℝ) : EReal))
    (t : Fin 2048) (h : Fin 24) (d : Fin 128) : V m c main_v47 (ix2 t (at' h d)) = ((tot (H h) t : ℝ) : EReal) := by
  rw [read]
  have e1 := rows_val Q gq (extractStridedSlice S2048x3072 ![0, 0] (m ((c : Thread nD τ).loc main_arg1)) slices_S2048x14336_S2048x3072_0_0)
    (m ((c : Thread nD τ).loc main_arg2)) (fun h t d => by pointwise; exact hq h t d) hgq
  have e2 := rows_val K gk (extractStridedSlice S2048x3072 ![0, 3072] (m ((c : Thread nD τ).loc main_arg1)) slices_S2048x14336_S2048x3072_0_3072)
    (m ((c : Thread nD τ).loc main_arg3)) (fun h t d => by pointwise; exact hk h t d) hgk
  have e3 := zs_val (fun h t d => hat (Q h t) d * gq d) (fun h s d => hat (K h s) d * gk d) _ _ e1 e2
  have ez : ∀ h (t s : ℕ), (∑ d, (hat (Q h t) d * gq d) * (hat (K h s) d * gk d)) * SbTile.scale = z (H h) t s := by
    intro h t s
    unfold z
    rw [Finset.sum_mul]
    refine Finset.sum_congr rfl fun d _ => ?_
    rw [Hq, Hk]
    ring
  refine (tots_val (fun h t s => lr (H h) t s) _ (fun h t s => ?_) t h d).trans (congrArg _ (Finset.sum_range (fun s => lr (H h) t s)).symm)
  have e4 := go_val (Host.negf (zs (rows (extractStridedSlice S2048x3072 ![0, 0] (m ((c : Thread nD τ).loc main_arg1)) slices_S2048x14336_S2048x3072_0_0) (m ((c : Thread nD τ).loc main_arg2)))
        (rows (extractStridedSlice S2048x3072 ![0, 3072] (m ((c : Thread nD τ).loc main_arg1)) slices_S2048x14336_S2048x3072_0_3072) (m ((c : Thread nD τ).loc main_arg3)))))
    h t s (-z (H h) t s) (by
      show -(zs _ _ (ix3 h t s)) = _
      rw [e3, ez, EReal.coe_neg])
  generalize go _ = y at e4 ⊢
  unfold zero3
  pointwise
  rw [before_val, e4, neg_neg, ← EReal.coe_zero, SbTile.sel]
  unfold lr
  by_cases hs : s.val < t.val <;> simp [hs]

end SbTot
-- ==== Proof.SbHeads.lean ====
/- The stick-breaking attention's heads over the reals: the gradients of all twenty-four heads' rows and of the two gains, and running sums
   along an array's last axis as the host takes them. -/
module

public import proofs.«01_k».proof.Proof.SbPro
public import Idealize.ShloMosaic.Lib.Pointwise

@[expose] public section

set_option maxRecDepth 16384

noncomputable section

namespace SbHeads

open Idealize.ShloMosaic RealVal SbReal SbNorm

/-- The head a point works on at place `a` of its pair. -/
def hd (n : ℕ) (a : Fin 2) : Fin 24 := ⟨2 * (n % 12) + a.val, by omega⟩
/-- The column of place `d` of head `h`, after `o` columns, in an array of `w`. -/
def cl (o w : ℕ) (h : Fin 24) (d : Fin 128) (hw : o + 3072 ≤ w) : Fin w := ⟨o + (128 * h.val + d.val), by omega⟩

variable (Q K W G : Fin 24 → ℕ → Fin 128 → ℝ) (gq gk : Fin 128 → ℝ)

/-- One head of the twenty-four. -/
def one (h : Fin 24) : Head where
  qn t d := hat (Q h t) d * (gq d * SbTile.scale)
  kn s d := hat (K h s) d * gk d
  v := W h
  g := G h

/-- The gradients of its normalised queries, of its normalised keys and of its values. -/
def dqn (h : Fin 24) (s : ℕ) (d : Fin 128) : ℝ := (∑ u ∈ Finset.range 2048, dz (one Q K W G gq gk h) s u * (one Q K W G gq gk h).kn u d) * SbTile.scale
def dkn (h : Fin 24) (s : ℕ) (d : Fin 128) : ℝ := ∑ t ∈ Finset.range 2048, dz (one Q K W G gq gk h) t s * (one Q K W G gq gk h).qn t d
def dv (h : Fin 24) (s : ℕ) (d : Fin 128) : ℝ := ∑ t ∈ Finset.range 2048, wt (one Q K W G gq gk h) t s * (one Q K W G gq gk h).g t d

/-- The gradients of the two gains. -/
def dgq (d : Fin 128) : ℝ := ∑ h : Fin 24, ∑ s : Fin 2048, dqn Q K W G gq gk h s d * hat (Q h s) d
def dgk (d : Fin 128) : ℝ := ∑ h : Fin 24, ∑ s : Fin 2048, dkn Q K W G gq gk h s d * hat (K h s) d

/-- A pair of heads' part of the gradient of a gain. -/
def pq (n : ℕ) (d : Fin 128) : ℝ := ∑ a : Fin 2, ∑ s : Fin 2048, dqn Q K W G gq gk (hd n a) s d * hat (Q (hd n a) s) d
def pk (n : ℕ) (d : Fin 128) : ℝ := ∑ a : Fin 2, ∑ s : Fin 2048, dkn Q K W G gq gk (hd n a) s d * hat (K (hd n a) s) d

/-- A sum over the pairs and the places is the sum over the heads. -/
theorem sum_pairs (f : Fin 24 → ℝ) : ∑ k ∈ Finset.range 12, ∑ a : Fin 2, f (hd k a) = ∑ h, f h := by
  simp only [Finset.sum_range_succ, Finset.sum_range_zero, Fin.sum_univ_succ, Finset.univ_eq_empty, Finset.sum_empty]
  simp only [hd]
  norm_num [Fin.ext_iff]
  ring_nf
  rfl

theorem sum_pq (d : Fin 128) : ∑ k ∈ Finset.range 12, pq Q K W G gq gk k d = dgq Q K W G gq gk d :=
  sum_pairs fun h => ∑ s : Fin 2048, dqn Q K W G gq gk h s d * hat (Q h s) d
theorem sum_pk (d : Fin 128) : ∑ k ∈ Finset.range 12, pk Q K W G gq gk k d = dgk Q K W G gq gk d :=
  sum_pairs fun h => ∑ s : Fin 2048, dkn Q K W G gq gk h s d * hat (K h s) d

section
/-- Adding a list's images one by one. -/
theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- A window over the whole of the last axis of three has that axis's positions. -/
theorem numel3 (N : ℕ) : (⟨3, ![1, 1, N]⟩ : Shape).numel = N := by
  show ∏ a : Fin 3, (![1, 1, N] : Fin 3 → ℕ) a = N
  rw [Fin.prod_univ_three]
  show 1 * 1 * N = N
  omega

theorem symm3 {N : ℕ} (n : Fin (⟨3, ![1, 1, N]⟩ : Shape).numel) : (⟨3, ![1, 1, N]⟩ : Shape).rowMajor.symm n = ix3 (0 : Fin 1) (0 : Fin 1) (n.cast (numel3 N)) :=
  ((⟨3, ![1, 1, N]⟩ : Shape).rowMajor.symm_apply_eq).2 (Fin.ext (by
    rw [Shape.rowMajor_val_three]
    show n.val = (0 * 1 + 0) * N + n.val
    omega))

/-- A sum over such a window, padded by `l` places before and `r` after. -/
theorem win {A B N l r : ℕ} (x : (⟨3, ![A, B, N]⟩ : Shape).Idx → EReal) (f : ℕ → ℝ) (a : Fin A) (b : Fin B)
    (hx : ∀ i : Fin N, x (ix3 a b i) = ((f i.val : ℝ) : EReal)) (init : EReal) (hi : init = 0)
    (h : (⟨3, ![A, B, N]⟩ : Shape).ReduceWindows (![1, 1, N] : Fin 3 → ℕ) ![1, 1, 1] ![0, 0, l] ![0, 0, r] (⟨3, ![A, B, N]⟩ : Shape)) (j : Fin N) :
    Ideal.hostReduceWindowAdd ![1, 1, N] ![1, 1, 1] ![0, 0, l] ![0, 0, r] h x init (ix3 a b j)
      = ((∑ n ∈ Finset.range N, if l ≤ j.val + n ∧ j.val + n - l < N then f (j.val + n - l) else 0 : ℝ) : EReal) := by
  have hj := j.isLt
  unfold Ideal.hostReduceWindowAdd Host.reduceWindow
  refine (foldl_add (fun n => _) _ _).trans ?_
  rw [hi, zero_add, ← Fin.sum_univ_def, Finset.sum_range, ← coe_sum]
  refine Fintype.sum_equiv (finCongr (numel3 N)) _ _ fun n => ?_
  have hw0 : ((⟨3, ![1, 1, N]⟩ : Shape).rowMajor.symm n 0).val = 0 := by rw [symm3]; rfl
  have hw1 : ((⟨3, ![1, 1, N]⟩ : Shape).rowMajor.symm n 1).val = 0 := by rw [symm3]; rfl
  have hw : ((⟨3, ![1, 1, N]⟩ : Shape).rowMajor.symm n 2).val = n.val := by rw [symm3]; rfl
  have ha := a.isLt
  have hb := b.isLt
  have en : (finCongr (numel3 N) n).val = n.val := rfl
  rw [en]
  beta_reduce
  split
  · next hin =>
    have h2 := hin 2
    change l ≤ j.val * 1 + ((⟨3, ![1, 1, N]⟩ : Shape).rowMajor.symm n 2).val ∧ j.val * 1 + ((⟨3, ![1, 1, N]⟩ : Shape).rowMajor.symm n 2).val - l < N at h2
    rw [hw, mul_one] at h2
    rw [if_pos h2]
    refine (congrArg x (funext fun q => Fin.ext ?_)).trans (hx ⟨j.val + n.val - l, h2.2⟩)
    match q with
    | ⟨0, _⟩ =>
      show a.val * 1 + ((⟨3, ![1, 1, N]⟩ : Shape).rowMajor.symm n 0).val - 0 = a.val
      rw [hw0]; omega
    | ⟨1, _⟩ =>
      show b.val * 1 + ((⟨3, ![1, 1, N]⟩ : Shape).rowMajor.symm n 1).val - 0 = b.val
      rw [hw1]; omega
    | ⟨2, _⟩ =>
      show j.val * 1 + ((⟨3, ![1, 1, N]⟩ : Shape).rowMajor.symm n 2).val - l = j.val + n.val - l
      rw [hw, mul_one]
  · next hin =>
    rw [if_neg fun hle => hin fun q => by
      match q with
      | ⟨0, _⟩ =>
        show 0 ≤ a.val * 1 + ((⟨3, ![1, 1, N]⟩ : Shape).rowMajor.symm n 0).val ∧ a.val * 1 + ((⟨3, ![1, 1, N]⟩ : Shape).rowMajor.symm n 0).val - 0 < A
        rw [hw0]; omega
      | ⟨1, _⟩ =>
        show 0 ≤ b.val * 1 + ((⟨3, ![1, 1, N]⟩ : Shape).rowMajor.symm n 1).val ∧ b.val * 1 + ((⟨3, ![1, 1, N]⟩ : Shape).rowMajor.symm n 1).val - 0 < B
        rw [hw1]; omega
      | ⟨2, _⟩ =>
        show l ≤ j.val * 1 + ((⟨3, ![1, 1, N]⟩ : Shape).rowMajor.symm n 2).val ∧ j.val * 1 + ((⟨3, ![1, 1, N]⟩ : Shape).rowMajor.symm n 2).val - l < N
        rw [hw, mul_one]; exact hle]
    exact EReal.coe_zero.symm

/-- The running sum from the left, -/
theorem win_left (f : ℕ → ℝ) (N j l : ℕ) (hl : l + 1 = N) (hj : j < N) :
    (∑ n ∈ Finset.range N, if l ≤ j + n ∧ j + n - l < N then f (j + n - l) else 0) = ∑ u ∈ Finset.range (j + 1), f u := by
  rw [← Finset.sum_filter]
  refine Finset.sum_bij' (fun n _ => j + n - l) (fun u _ => u + l - j) ?_ ?_ ?_ ?_ ?_
  · intro n hn; rw [Finset.mem_filter, Finset.mem_range] at hn; rw [Finset.mem_range]; omega
  · intro u hu; rw [Finset.mem_range] at hu; rw [Finset.mem_filter, Finset.mem_range]; omega
  · intro n hn; rw [Finset.mem_filter, Finset.mem_range] at hn; omega
  · intro u hu; rw [Finset.mem_range] at hu; omega
  · intro n hn; rfl

/-- and from the right, which is the whole less what lies before. -/
theorem win_right (f : ℕ → ℝ) (N j : ℕ) (hj : j < N) :
    (∑ n ∈ Finset.range N, if 0 ≤ j + n ∧ j + n - 0 < N then f (j + n - 0) else 0) = (∑ u ∈ Finset.range N, f u) - ∑ u ∈ Finset.range j, f u := by
  rw [← Finset.sum_filter, eq_sub_iff_add_eq, add_comm]
  have e : N = j + (N - j) := by omega
  conv_rhs => rw [e, Finset.sum_range_add]
  refine congrArg _ (Finset.sum_bij' (fun n _ => n) (fun u _ => u) ?_ ?_ ?_ ?_ ?_)
  · intro n hn; rw [Finset.mem_filter, Finset.mem_range] at hn; rw [Finset.mem_range]; omega
  · intro u hu; rw [Finset.mem_range] at hu; rw [Finset.mem_filter, Finset.mem_range]; omega
  · intro n hn; rfl
  · intro u hu; rfl
  · intro n hn; rfl
end

end SbHeads
-- ==== Proof.SbStep.lean ====
/- The stick-breaking gradient kernel, point by point: the blocks a point reads, and what the five outputs' buffers hold after
   it, over the reals. -/
module

public import proofs.«01_k».proof.Proof.SbRun
public import proofs.«01_k».proof.Proof.SbHeads
public import proofs.«01_k».proof.Proof.SbFrame
public import Idealize.ShloMosaic.Lib.Tactic
public import Idealize.ShloMosaic.Lib.Pipeline.ValueKit
public import Idealize.ShloMosaic.Lib.Pipeline.ReadBack

@[expose] public section

set_option maxRecDepth 16384
set_option maxHeartbeats 4000000

noncomputable section

namespace SbStep

open Idealize.ShloMosaic Idealize.ShloMosaic.TcCoe Cert.SbIdeal Cert.SbIdeal.Gen Cert.SbIdeal.Own RealVal SbReal SbNorm SbRun SbHeads

theorem idx0 : ∀ t : Fin cfg0.N, win0_0.index t 0 = 0 ∧ win0_0.index t 1 = t.val % 12 := by decide +kernel
theorem idx1 : ∀ t : Fin cfg0.N, win0_1.index t 0 = 0 ∧ win0_1.index t 1 = t.val % 12 := by decide +kernel
theorem idx2 : ∀ t : Fin cfg0.N, win0_2.index t 0 = 0 ∧ win0_2.index t 1 = t.val % 12 := by decide +kernel
theorem idx3 : ∀ t : Fin cfg0.N, win0_3.index t 0 = 0 ∧ win0_3.index t 1 = 12 + t.val % 12 := by decide +kernel
theorem idx4 : ∀ t : Fin cfg0.N, win0_4.index t 0 = 0 ∧ win0_4.index t 1 = 24 + t.val % 12 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel

section
variable {F : FTy → Type} [FloatOps F]
variable (m : (ℓ : Loc nD τ sig) → Buf (Elt F) ℓ) (c : Dev nD) (t : Fin cfg0.N)

theorem blk0 (r : Fin 2048) (a : Fin 2) (d : Fin 128) : iblk m c 0 t (ix2 r (SbMem.lane a d)) =
    m ((c : Thread nD τ).loc main_arg0) (ix2 r (cl 0 4096 (hd t.val a) d (by decide))) := by
  unfold hd cl SbMem.lane
  blk_ext [iblk, V, idx0 t]
theorem blk1 (r : Fin 2048) (a : Fin 2) (d : Fin 128) : iblk m c 1 t (ix2 r (SbMem.lane a d)) =
    V m c main_v47 (ix2 r (cl 0 3072 (hd t.val a) d (by decide))) := by
  have hz : (win0_1.blk t).view.emb (ix2 r (SbMem.lane a d)) = (ix2 r (cl 0 3072 (hd t.val a) d (by decide)) : S2048x3072.Idx) := by
    unfold hd cl SbMem.lane
    blk_ext [idx1 t]
  show V m c main_v47 ((win0_1.blk t).view.emb (ix2 r (SbMem.lane a d))) = _
  rw [hz]
theorem blk2 (r : Fin 2048) (a : Fin 2) (d : Fin 128) : iblk m c 2 t (ix2 r (SbMem.lane a d)) =
    m ((c : Thread nD τ).loc main_arg1) (ix2 r (cl 0 14336 (hd t.val a) d (by decide))) := by
  unfold hd cl SbMem.lane
  blk_ext [iblk, V, idx2 t]
theorem blk3 (r : Fin 2048) (a : Fin 2) (d : Fin 128) : iblk m c 3 t (ix2 r (SbMem.lane a d)) =
    m ((c : Thread nD τ).loc main_arg1) (ix2 r (cl 3072 14336 (hd t.val a) d (by decide))) := by
  unfold hd cl SbMem.lane
  blk_ext [iblk, V, idx3 t]
theorem blk4 (r : Fin 2048) (a : Fin 2) (d : Fin 128) : iblk m c 4 t (ix2 r (SbMem.lane a d)) =
    m ((c : Thread nD τ).loc main_arg1) (ix2 r (cl 6144 14336 (hd t.val a) d (by decide))) := by
  unfold hd cl SbMem.lane
  blk_ext [iblk, V, idx4 t]
theorem blk5 (z : Fin 1) (d : Fin 128) : iblk m c 5 t (ix2 z d) =
    m ((c : Thread nD τ).loc main_arg2) (ix1 d) := by
  have hz : (win0_5.blk t).view.emb (ix2 z d) = (ix2 z d : S1x128.Idx) := by blk_ext [idx5 t]
  blk_simp [iblk]
  entry_read
  change shapeCast main_v48.ty.shape (m (c, Proc.tc.devRef main_arg2)) shapeCasts_S128_S1x128 ((win0_5.blk t).view.emb (ix2 z d)) = _
  rw [hz]
  pointwise
theorem blk6 (z : Fin 1) (d : Fin 128) : iblk m c 6 t (ix2 z d) =
    m ((c : Thread nD τ).loc main_arg3) (ix1 d) := by
  have hz : (win0_6.blk t).view.emb (ix2 z d) = (ix2 z d : S1x128.Idx) := by blk_ext [idx6 t]
  blk_simp [iblk]
  entry_read
  change shapeCast main_v49.ty.shape (m (c, Proc.tc.devRef main_arg3)) shapeCasts_S128_S1x128 ((win0_6.blk t).view.emb (ix2 z d)) = _
  rw [hz]
  pointwise
end

/-- The four arguments hold the reals `G`, `Q`, `K`, `W`, `gq`, `gk`. -/
structure Reads (m : (ℓ : Loc nD τ sig) → Buf (Elt Ideal) ℓ) (c : Dev nD)
    (Q K W G : Fin 24 → ℕ → Fin 128 → ℝ) (gq gk : Fin 128 → ℝ) : Prop where
  d : ∀ h (t : Fin 2048) d, m ((c : Thread nD τ).loc main_arg0) (ix2 t (cl 0 4096 h d (by decide))) = ((G h t d : ℝ) : EReal)
  q : ∀ h (t : Fin 2048) d, m ((c : Thread nD τ).loc main_arg1) (ix2 t (cl 0 14336 h d (by decide))) = ((Q h t d : ℝ) : EReal)
  k : ∀ h (t : Fin 2048) d, m ((c : Thread nD τ).loc main_arg1) (ix2 t (cl 3072 14336 h d (by decide))) = ((K h t d : ℝ) : EReal)
  v : ∀ h (t : Fin 2048) d, m ((c : Thread nD τ).loc main_arg1) (ix2 t (cl 6144 14336 h d (by decide))) = ((W h t d : ℝ) : EReal)
  gq : ∀ d, m ((c : Thread nD τ).loc main_arg2) (ix1 d) = ((gq d : ℝ) : EReal)
  gk : ∀ d, m ((c : Thread nD τ).loc main_arg3) (ix1 d) = ((gk d : ℝ) : EReal)

variable (m : (ℓ : Loc nD τ sig) → Buf (Elt Ideal) ℓ) (c : Dev nD)
variable (Q K W G : Fin 24 → ℕ → Fin 128 → ℝ) (gq gk : Fin 128 → ℝ)

/-- What point `n` has left in the five outputs' buffers. -/
structure Inv (n : ℕ) (o : Vec Ideal S2048x256 .bf16 × Vec Ideal S2048x256 .bf16 × Vec Ideal S2048x256 .bf16 × Vec Ideal S1x128 .f32 × Vec Ideal S1x128 .f32) : Prop where
  q : ∀ a (s : Fin 2048) d, o.1 (ix2 s (SbMem.lane a d)) = ((dnrm (Q (hd n a) s) gq (dqn Q K W G gq gk (hd n a) s) d : ℝ) : EReal)
  k : ∀ a (s : Fin 2048) d, o.2.1 (ix2 s (SbMem.lane a d)) = ((dnrm (K (hd n a) s) gk (dkn Q K W G gq gk (hd n a) s) d : ℝ) : EReal)
  v : ∀ a (s : Fin 2048) d, o.2.2.1 (ix2 s (SbMem.lane a d)) = ((dv Q K W G gq gk (hd n a) s d : ℝ) : EReal)
  agq : ∀ u d, o.2.2.2.1 (ix2 u d) = ((∑ k ∈ Finset.range (n + 1), pq Q K W G gq gk k d : ℝ) : EReal)
  agk : ∀ u d, o.2.2.2.2 (ix2 u d) = ((∑ k ∈ Finset.range (n + 1), pk Q K W G gq gk k d : ℝ) : EReal)

variable {m c Q K W G gq gk} (H : Reads m c Q K W G gq gk)
  (T : ∀ h (t : Fin 2048) d, V m c main_v47 (ix2 t (cl 0 3072 h d (by decide))) = ((tot (one Q K W G gq gk h) t : ℝ) : EReal))
include H T

omit H T in
theorem DQ_eq (n : ℕ) : DQ (head (fun a => Q (hd n a)) (fun a => K (hd n a)) (fun a => W (hd n a)) (fun a => G (hd n a)) gq gk) = fun a => dqn Q K W G gq gk (hd n a) := rfl
omit H T in
theorem DK_eq (n : ℕ) : DK (head (fun a => Q (hd n a)) (fun a => K (hd n a)) (fun a => W (hd n a)) (fun a => G (hd n a)) gq gk) = fun a => dkn Q K W G gq gk (hd n a) := rfl
omit H T in
theorem DV_eq (n : ℕ) : DV (head (fun a => Q (hd n a)) (fun a => K (hd n a)) (fun a => W (hd n a)) (fun a => G (hd n a)) gq gk) = fun a => dv Q K W G gq gk (hd n a) := rfl

/-- What the first point leaves, -/
theorem pt_A (t : Fin cfg0.N) (h : cond0 (grid0.coords t)) : Cols (atA m c t h x17).1 (fun a s d => dnrm (Q (hd t.val a) s) gq (dqn Q K W G gq gk (hd t.val a) s) d)
    ∧ Cols (atA m c t h x17).2.1 (fun a s d => dnrm (K (hd t.val a) s) gk (dkn Q K W G gq gk (hd t.val a) s) d)
    ∧ Cols (atA m c t h x17).2.2.1 (fun a => dv Q K W G gq gk (hd t.val a))
    ∧ Row (atA m c t h x17).2.2.2.1 (fun d => 0 + SbPro.part (fun a => Q (hd t.val a)) (fun a => dqn Q K W G gq gk (hd t.val a)) d)
    ∧ Row (atA m c t h x17).2.2.2.2.1 (fun d => 0 + SbPro.part (fun a => K (hd t.val a)) (fun a => dkn Q K W G gq gk (hd t.val a)) d) := by
  have R := runA_val c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (iblk m c 6 t) x17 (fun a => Q (hd t.val a)) (fun a => K (hd t.val a)) (fun a => W (hd t.val a)) (fun a => G (hd t.val a)) gq gk (fun a r d => (blk0 m c t r a d).trans (H.d _ _ _)) (fun a r d => (blk1 m c t r a d).trans (T _ _ _)) (fun a r d => (blk2 m c t r a d).trans (H.q _ _ _)) (fun a r d => (blk3 m c t r a d).trans (H.k _ _ _)) (fun a r d => (blk4 m c t r a d).trans (H.v _ _ _)) (fun z d => (blk5 m c t z d).trans (H.gq _)) (fun z d => (blk6 m c t z d).trans (H.gk _)) h
  rw [DQ_eq, DK_eq, DV_eq] at R
  exact R

/-- and a later one. -/
theorem pt_B (t : Fin cfg0.N) (h : ¬cond0 (grid0.coords t)) (x y : Vec Ideal S1x128 .f32) (b b' : Fin 128 → ℝ)
    (e11 : ∀ u d, x (ix2 u d) = ((b d : ℝ) : EReal)) (e12 : ∀ u d, y (ix2 u d) = ((b' d : ℝ) : EReal)) : Cols (atB m c t h x17 x y).1 (fun a s d => dnrm (Q (hd t.val a) s) gq (dqn Q K W G gq gk (hd t.val a) s) d)
    ∧ Cols (atB m c t h x17 x y).2.1 (fun a s d => dnrm (K (hd t.val a) s) gk (dkn Q K W G gq gk (hd t.val a) s) d)
    ∧ Cols (atB m c t h x17 x y).2.2.1 (fun a => dv Q K W G gq gk (hd t.val a))
    ∧ Row (atB m c t h x17 x y).2.2.2.1 (fun d => b d + SbPro.part (fun a => Q (hd t.val a)) (fun a => dqn Q K W G gq gk (hd t.val a)) d)
    ∧ Row (atB m c t h x17 x y).2.2.2.2.1 (fun d => b' d + SbPro.part (fun a => K (hd t.val a)) (fun a => dkn Q K W G gq gk (hd t.val a)) d) := by
  have R := runB_val c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (iblk m c 6 t) x17 (fun a => Q (hd t.val a)) (fun a => K (hd t.val a)) (fun a => W (hd t.val a)) (fun a => G (hd t.val a)) gq gk (fun a r d => (blk0 m c t r a d).trans (H.d _ _ _)) (fun a r d => (blk1 m c t r a d).trans (T _ _ _)) (fun a r d => (blk2 m c t r a d).trans (H.q _ _ _)) (fun a r d => (blk3 m c t r a d).trans (H.k _ _ _)) (fun a r d => (blk4 m c t r a d).trans (H.v _ _ _)) (fun z d => (blk5 m c t z d).trans (H.gq _)) (fun z d => (blk6 m c t z d).trans (H.gk _)) h x y b b' e11 e12
  rw [DQ_eq, DK_eq, DV_eq] at R
  exact R

theorem inv_A (t : Fin cfg0.N) (h : t.val = 0) : Inv Q K W G gq gk t.val (outA m c t ((hcond0 t).mpr h)) := by
  obtain ⟨a, b, e, f, g⟩ := pt_A H T t ((hcond0 t).mpr h)
  unfold outA
  constructor <;> dsimp only
  · exact a (Memref.whole cc0_stg7_0) _
  · exact b (Memref.whole cc0_stg8_0) _
  · exact e (Memref.whole cc0_stg9_0) _
  · intro u d
    refine (f (Memref.whole cc0_stg10_0) _ u d).trans ?_
    rw [h, Finset.sum_range_one]
    exact congrArg _ (zero_add _)
  · intro u d
    refine (g (Memref.whole cc0_stg11_0) _ u d).trans ?_
    rw [h, Finset.sum_range_one]
    exact congrArg _ (zero_add _)

theorem inv_B (t : Fin cfg0.N) (h : ¬cond0 (grid0.coords t)) (x y : Vec Ideal S1x128 .f32) (b b' : Fin 128 → ℝ)
    (e11 : ∀ u d, x (ix2 u d) = ((b d : ℝ) : EReal)) (e12 : ∀ u d, y (ix2 u d) = ((b' d : ℝ) : EReal))
    (hb : ∀ d, b d = ∑ k ∈ Finset.range t.val, pq Q K W G gq gk k d) (hb' : ∀ d, b' d = ∑ k ∈ Finset.range t.val, pk Q K W G gq gk k d) :
    Inv Q K W G gq gk t.val (outB m c t h x y) := by
  obtain ⟨a, b₁, e, f, g⟩ := pt_B H T t h x y b b' e11 e12
  unfold outB
  constructor <;> dsimp only
  · exact a (Memref.whole cc0_stg7_0) _
  · exact b₁ (Memref.whole cc0_stg8_0) _
  · exact e (Memref.whole cc0_stg9_0) _
  · intro u d
    refine (f (Memref.whole cc0_stg10_0) _ u d).trans ?_
    rw [Finset.sum_range_succ, ← hb d]
    rfl
  · intro u d
    refine (g (Memref.whole cc0_stg11_0) _ u d).trans ?_
    rw [Finset.sum_range_succ, ← hb' d]
    rfl

theorem inv : ∀ (n : ℕ) (hn : n < cfg0.N), Inv Q K W G gq gk n (outsAt m c n hn) := by
  intro n
  induction n with
  | zero =>
    intro hn
    rw [outsAt_A m c ⟨0, hn⟩ rfl]
    exact inv_A H T ⟨0, hn⟩ rfl
  | succ n ih =>
    intro hn
    have I := ih (by omega)
    rw [outsAt_B m c ⟨n + 1, hn⟩ (Nat.succ_ne_zero n)]
    exact inv_B H T ⟨n + 1, hn⟩ _ _ _ _ _ I.agq I.agk (fun _ => rfl) (fun _ => rfl)

end SbStep
-- ==== Proof.SbArr.lean ====
/- The stick-breaking gradient kernel's five result arrays after the run, over the reals. -/
module

public import proofs.«01_k».proof.Proof.SbStep
public import Idealize.ShloMosaic.Lib.Pipeline.Value

@[expose] public section

set_option maxRecDepth 16384

noncomputable section

namespace SbArr

open Idealize.ShloMosaic Idealize.ShloMosaic.TcCoe Cert.SbIdeal Cert.SbIdeal.Gen Cert.SbIdeal.Own RealVal SbReal SbNorm SbRun SbHeads SbStep

/-- Rows of heads laid out side by side. -/
def wide (X : Fin 24 → ℕ → Fin 128 → ℝ) : S2048x3072.Idx → EReal := fun i =>
  ((X ⟨(i 1).val / 128, by have : (i 1).val < 3072 := (i 1).isLt; omega⟩ (i 0).val ⟨(i 1).val % 128, by omega⟩ : ℝ) : EReal)
/-- A row of reals. -/
def flat (X : Fin 128 → ℝ) : S1x128.Idx → EReal := fun i => ((X (i 1) : ℝ) : EReal)

theorem wide_at (X : Fin 24 → ℕ → Fin 128 → ℝ) (i : S2048x3072.Idx) (h : Fin 24) (s : ℕ) (d : Fin 128) (h0 : (i 0).val = s) (h1 : (i 1).val = 128 * h.val + d.val) :
    wide X i = ((X h s d : ℝ) : EReal) := by
  subst h0
  unfold wide
  have e1 : (⟨(i 1).val / 128, by have : (i 1).val < 3072 := (i 1).isLt; omega⟩ : Fin 24) = h := Fin.ext (by show (i 1).val / 128 = h.val; omega)
  have e2 : (⟨(i 1).val % 128, by omega⟩ : Fin 128) = d := Fin.ext (by show (i 1).val % 128 = d.val; omega)
  rw [e1, e2]

variable {m : (ℓ : Loc nD τ sig) → Buf (Elt Ideal) ℓ} {c : Dev nD}
variable {Q K W G : Fin 24 → ℕ → Fin 128 → ℝ} {gq gk : Fin 128 → ℝ}
variable (I : ∀ (n : ℕ) (hn : n < cfg0.N), Inv Q K W G gq gk n (outsAt m c n hn))

theorem low (t : Fin cfg0.N) : t.val < 12 := lt_of_lt_of_eq t.isLt N_0

theorem idx7 : ∀ t : Fin cfg0.N, win0_7.index t (0 : Fin 2) = 0 ∧ win0_7.index t (1 : Fin 2) = t.val :=
  (by decide +kernel : ∀ t : Fin grid0.N, _)

include I in
theorem flushed7 (t : Fin cfg0.N) : (dats m 0 c).flushed 7 t = ((cfg0.win 7).blk t).view.read (Elt Ideal) (wide (fun h s d => dnrm (Q h s) gq (dqn Q K W G gq gk h s) d)) := by
  show (cfg0.win 7).cut (grid0.coords t) ((dats m 0 c).after 7 t) = _
  rw [after_7]
  have J := I t.val t.isLt
  generalize outsAt m c t.val t.isLt = out at J
  obtain ⟨e0, e1⟩ := idx7 t
  have ht := low t
  funext y
  have hy0 : (y 0).val < 2048 := (y 0).isLt
  have hy1 : (y 1).val < 256 := (y 1).isLt
  have hb0 : (((cfg0.win 7).blk t).view.emb y 0).val = win0_7.index t (0 : Fin 2) * 2048 + 1 * (y 0).val := rfl
  have hb1 : (((cfg0.win 7).blk t).view.emb y 1).val = win0_7.index t (1 : Fin 2) * 256 + 1 * (y 1).val := rfl
  have hx : (cfg0.win 7).xinj (grid0.coords t) y = (ix2 (⟨(y 0).val, hy0⟩ : Fin 2048) (SbMem.lane ⟨(y 1).val / 128, by omega⟩ ⟨(y 1).val % 128, by omega⟩) : S2048x256.Idx) := by
    funext a; apply Fin.ext
    match a with
    | ⟨0, _⟩ => rfl
    | ⟨1, _⟩ =>
      show (y 1).val = (SbMem.lane ⟨(y 1).val / 128, by omega⟩ ⟨(y 1).val % 128, by omega⟩).val
      unfold SbMem.lane
      dsimp only
      omega
  show out.1 ((cfg0.win 7).xinj (grid0.coords t) y) = wide (fun h s d => dnrm (Q h s) gq (dqn Q K W G gq gk h s) d) (((cfg0.win 7).blk t).view.emb y)
  rw [hx, J.q]
  refine (wide_at (fun h s d => dnrm (Q h s) gq (dqn Q K W G gq gk h s) d) _ _ _ _ ?_ ?_).symm
  · rw [hb0, e0]
    show 0 * 2048 + 1 * (y 0).val = (y 0).val
    omega
  · rw [hb1, e1]
    unfold hd
    dsimp only
    omega

theorem mem_blk7 (t : Fin cfg0.N) (i : S2048x3072.Idx) :
    i ∈ ((cfg0.win 7).blk t).view.set ↔ ∀ a : Fin 2, win0_7.index t a * S2048x256.size a ≤ (i a).val ∧ (i a).val < win0_7.index t a * S2048x256.size a + S2048x256.size a := by
  show i ∈ ((View.whole main_v50_0).slice (win0_7.rect t)).set ↔ _
  rw [View.set_slice_whole, Rect.mem_set_unit]
  exact Iff.rfl

include I in
theorem arr7 : (dats m 0 c).arrAt 7 cfg0.N = wide (fun h s d => dnrm (Q h s) gq (dqn Q K W G gq gk h s) d) :=
  (dats m 0 c).arrAt_eq_of_cover 7 _ (fun t _ => flushed7 I t) (fun i => by
    have h0 : (i 0).val < 2048 := (i 0).isLt
    have h1 : (i 1).val < 3072 := (i 1).isLt
    refine ⟨⟨(i 1).val / 256, lt_of_lt_of_eq (by omega : (i 1).val / 256 < 12) N_0.symm⟩, flush0_7 _, ?_⟩
    rw [mem_blk7]
    obtain ⟨e0, e1⟩ := idx7 ⟨(i 1).val / 256, lt_of_lt_of_eq (by omega : (i 1).val / 256 < 12) N_0.symm⟩
    intro a
    match a with
    | ⟨0, _⟩ =>
      show win0_7.index _ (0 : Fin 2) * 2048 ≤ (i 0).val ∧ (i 0).val < win0_7.index _ (0 : Fin 2) * 2048 + 2048
      rw [e0]; omega
    | ⟨1, _⟩ =>
      show win0_7.index _ (1 : Fin 2) * 256 ≤ (i 1).val ∧ (i 1).val < win0_7.index _ (1 : Fin 2) * 256 + 256
      rw [e1]; dsimp only; omega)

theorem idx8 : ∀ t : Fin cfg0.N, win0_8.index t (0 : Fin 2) = 0 ∧ win0_8.index t (1 : Fin 2) = t.val :=
  (by decide +kernel : ∀ t : Fin grid0.N, _)

include I in
theorem flushed8 (t : Fin cfg0.N) : (dats m 0 c).flushed 8 t = ((cfg0.win 8).blk t).view.read (Elt Ideal) (wide (fun h s d => dnrm (K h s) gk (dkn Q K W G gq gk h s) d)) := by
  show (cfg0.win 8).cut (grid0.coords t) ((dats m 0 c).after 8 t) = _
  rw [after_8]
  have J := I t.val t.isLt
  generalize outsAt m c t.val t.isLt = out at J
  obtain ⟨e0, e1⟩ := idx8 t
  have ht := low t
  funext y
  have hy0 : (y 0).val < 2048 := (y 0).isLt
  have hy1 : (y 1).val < 256 := (y 1).isLt
  have hb0 : (((cfg0.win 8).blk t).view.emb y 0).val = win0_8.index t (0 : Fin 2) * 2048 + 1 * (y 0).val := rfl
  have hb1 : (((cfg0.win 8).blk t).view.emb y 1).val = win0_8.index t (1 : Fin 2) * 256 + 1 * (y 1).val := rfl
  have hx : (cfg0.win 8).xinj (grid0.coords t) y = (ix2 (⟨(y 0).val, hy0⟩ : Fin 2048) (SbMem.lane ⟨(y 1).val / 128, by omega⟩ ⟨(y 1).val % 128, by omega⟩) : S2048x256.Idx) := by
    funext a; apply Fin.ext
    match a with
    | ⟨0, _⟩ => rfl
    | ⟨1, _⟩ =>
      show (y 1).val = (SbMem.lane ⟨(y 1).val / 128, by omega⟩ ⟨(y 1).val % 128, by omega⟩).val
      unfold SbMem.lane
      dsimp only
      omega
  show out.2.1 ((cfg0.win 8).xinj (grid0.coords t) y) = wide (fun h s d => dnrm (K h s) gk (dkn Q K W G gq gk h s) d) (((cfg0.win 8).blk t).view.emb y)
  rw [hx, J.k]
  refine (wide_at (fun h s d => dnrm (K h s) gk (dkn Q K W G gq gk h s) d) _ _ _ _ ?_ ?_).symm
  · rw [hb0, e0]
    show 0 * 2048 + 1 * (y 0).val = (y 0).val
    omega
  · rw [hb1, e1]
    unfold hd
    dsimp only
    omega

theorem mem_blk8 (t : Fin cfg0.N) (i : S2048x3072.Idx) :
    i ∈ ((cfg0.win 8).blk t).view.set ↔ ∀ a : Fin 2, win0_8.index t a * S2048x256.size a ≤ (i a).val ∧ (i a).val < win0_8.index t a * S2048x256.size a + S2048x256.size a := by
  show i ∈ ((View.whole main_v50_1).slice (win0_8.rect t)).set ↔ _
  rw [View.set_slice_whole, Rect.mem_set_unit]
  exact Iff.rfl

include I in
theorem arr8 : (dats m 0 c).arrAt 8 cfg0.N = wide (fun h s d => dnrm (K h s) gk (dkn Q K W G gq gk h s) d) :=
  (dats m 0 c).arrAt_eq_of_cover 8 _ (fun t _ => flushed8 I t) (fun i => by
    have h0 : (i 0).val < 2048 := (i 0).isLt
    have h1 : (i 1).val < 3072 := (i 1).isLt
    refine ⟨⟨(i 1).val / 256, lt_of_lt_of_eq (by omega : (i 1).val / 256 < 12) N_0.symm⟩, flush0_8 _, ?_⟩
    rw [mem_blk8]
    obtain ⟨e0, e1⟩ := idx8 ⟨(i 1).val / 256, lt_of_lt_of_eq (by omega : (i 1).val / 256 < 12) N_0.symm⟩
    intro a
    match a with
    | ⟨0, _⟩ =>
      show win0_8.index _ (0 : Fin 2) * 2048 ≤ (i 0).val ∧ (i 0).val < win0_8.index _ (0 : Fin 2) * 2048 + 2048
      rw [e0]; omega
    | ⟨1, _⟩ =>
      show win0_8.index _ (1 : Fin 2) * 256 ≤ (i 1).val ∧ (i 1).val < win0_8.index _ (1 : Fin 2) * 256 + 256
      rw [e1]; dsimp only; omega)

theorem idx9 : ∀ t : Fin cfg0.N, win0_9.index t (0 : Fin 2) = 0 ∧ win0_9.index t (1 : Fin 2) = t.val :=
  (by decide +kernel : ∀ t : Fin grid0.N, _)

include I in
theorem flushed9 (t : Fin cfg0.N) : (dats m 0 c).flushed 9 t = ((cfg0.win 9).blk t).view.read (Elt Ideal) (wide (dv Q K W G gq gk)) := by
  show (cfg0.win 9).cut (grid0.coords t) ((dats m 0 c).after 9 t) = _
  rw [after_9]
  have J := I t.val t.isLt
  generalize outsAt m c t.val t.isLt = out at J
  obtain ⟨e0, e1⟩ := idx9 t
  have ht := low t
  funext y
  have hy0 : (y 0).val < 2048 := (y 0).isLt
  have hy1 : (y 1).val < 256 := (y 1).isLt
  have hb0 : (((cfg0.win 9).blk t).view.emb y 0).val = win0_9.index t (0 : Fin 2) * 2048 + 1 * (y 0).val := rfl
  have hb1 : (((cfg0.win 9).blk t).view.emb y 1).val = win0_9.index t (1 : Fin 2) * 256 + 1 * (y 1).val := rfl
  have hx : (cfg0.win 9).xinj (grid0.coords t) y = (ix2 (⟨(y 0).val, hy0⟩ : Fin 2048) (SbMem.lane ⟨(y 1).val / 128, by omega⟩ ⟨(y 1).val % 128, by omega⟩) : S2048x256.Idx) := by
    funext a; apply Fin.ext
    match a with
    | ⟨0, _⟩ => rfl
    | ⟨1, _⟩ =>
      show (y 1).val = (SbMem.lane ⟨(y 1).val / 128, by omega⟩ ⟨(y 1).val % 128, by omega⟩).val
      unfold SbMem.lane
      dsimp only
      omega
  show out.2.2.1 ((cfg0.win 9).xinj (grid0.coords t) y) = wide _ (((cfg0.win 9).blk t).view.emb y)
  rw [hx, J.v]
  refine (wide_at (dv Q K W G gq gk) _ _ _ _ ?_ ?_).symm
  · rw [hb0, e0]
    show 0 * 2048 + 1 * (y 0).val = (y 0).val
    omega
  · rw [hb1, e1]
    unfold hd
    dsimp only
    omega

theorem mem_blk9 (t : Fin cfg0.N) (i : S2048x3072.Idx) :
    i ∈ ((cfg0.win 9).blk t).view.set ↔ ∀ a : Fin 2, win0_9.index t a * S2048x256.size a ≤ (i a).val ∧ (i a).val < win0_9.index t a * S2048x256.size a + S2048x256.size a := by
  show i ∈ ((View.whole main_v50_2).slice (win0_9.rect t)).set ↔ _
  rw [View.set_slice_whole, Rect.mem_set_unit]
  exact Iff.rfl

include I in
theorem arr9 : (dats m 0 c).arrAt 9 cfg0.N = wide (dv Q K W G gq gk) :=
  (dats m 0 c).arrAt_eq_of_cover 9 _ (fun t _ => flushed9 I t) (fun i => by
    have h0 : (i 0).val < 2048 := (i 0).isLt
    have h1 : (i 1).val < 3072 := (i 1).isLt
    refine ⟨⟨(i 1).val / 256, lt_of_lt_of_eq (by omega : (i 1).val / 256 < 12) N_0.symm⟩, flush0_9 _, ?_⟩
    rw [mem_blk9]
    obtain ⟨e0, e1⟩ := idx9 ⟨(i 1).val / 256, lt_of_lt_of_eq (by omega : (i 1).val / 256 < 12) N_0.symm⟩
    intro a
    match a with
    | ⟨0, _⟩ =>
      show win0_9.index _ (0 : Fin 2) * 2048 ≤ (i 0).val ∧ (i 0).val < win0_9.index _ (0 : Fin 2) * 2048 + 2048
      rw [e0]; omega
    | ⟨1, _⟩ =>
      show win0_9.index _ (1 : Fin 2) * 256 ≤ (i 1).val ∧ (i 1).val < win0_9.index _ (1 : Fin 2) * 256 + 256
      rw [e1]; dsimp only; omega)

theorem idx10 : ∀ t : Fin cfg0.N, win0_10.index t (0 : Fin 2) = 0 ∧ win0_10.index t (1 : Fin 2) = 0 :=
  (by decide +kernel : ∀ t : Fin grid0.N, _)

include I in
theorem flushed10 (t : Fin cfg0.N) (hf : (cfg0.win 10).flush t = true) : (dats m 0 c).flushed 10 t = ((cfg0.win 10).blk t).view.read (Elt Ideal) (flat (dgq Q K W G gq gk)) := by
  show (cfg0.win 10).cut (grid0.coords t) ((dats m 0 c).after 10 t) = _
  rw [after_10]
  have J := (I t.val t.isLt).agq
  generalize outsAt m c t.val t.isLt = out at J
  obtain ⟨e0, e1⟩ := idx10 t
  have ht : t.val = 11 := by
    have := low t
    have := (flush0_10 t).mp hf
    omega
  rw [ht] at J
  funext y
  have hy0 : (y 0).val < 1 := (y 0).isLt
  have hy1 : (y 1).val < 128 := (y 1).isLt
  have hb1 : (((cfg0.win 10).blk t).view.emb y 1).val = win0_10.index t (1 : Fin 2) * 128 + 1 * (y 1).val := rfl
  have hx : (cfg0.win 10).xinj (grid0.coords t) y = (ix2 (⟨(y 0).val, hy0⟩ : Fin 1) (⟨(y 1).val, hy1⟩ : Fin 128) : S1x128.Idx) := by
    funext a; apply Fin.ext
    match a with
    | ⟨0, _⟩ => rfl
    | ⟨1, _⟩ => rfl
  have hz : (((cfg0.win 10).blk t).view.emb y 1 : Fin 128) = ⟨(y 1).val, hy1⟩ := Fin.ext (by rw [hb1, e1]; show 0 * 128 + 1 * (y 1).val = (y 1).val; omega)
  show out.2.2.2.1 ((cfg0.win 10).xinj (grid0.coords t) y) = flat _ (((cfg0.win 10).blk t).view.emb y)
  rw [hx, J, sum_pq]
  exact congrArg (fun d => (((dgq Q K W G gq gk) d : ℝ) : EReal)) hz.symm

theorem mem_blk10 (t : Fin cfg0.N) (i : S1x128.Idx) :
    i ∈ ((cfg0.win 10).blk t).view.set ↔ ∀ a : Fin 2, win0_10.index t a * S1x128.size a ≤ (i a).val ∧ (i a).val < win0_10.index t a * S1x128.size a + S1x128.size a := by
  show i ∈ ((View.whole main_v50_3).slice (win0_10.rect t)).set ↔ _
  rw [View.set_slice_whole, Rect.mem_set_unit]
  exact Iff.rfl

include I in
theorem arr10 : (dats m 0 c).arrAt 10 cfg0.N = flat (dgq Q K W G gq gk) :=
  (dats m 0 c).arrAt_eq_of_cover 10 _ (fun t hf => flushed10 I t hf) (fun i => by
    have h0 : (i 0).val < 1 := (i 0).isLt
    have h1 : (i 1).val < 128 := (i 1).isLt
    refine ⟨⟨11, lt_of_lt_of_eq (by omega : 11 < 12) N_0.symm⟩, (flush0_10 _).mpr rfl, ?_⟩
    rw [mem_blk10]
    obtain ⟨e0, e1⟩ := idx10 ⟨11, lt_of_lt_of_eq (by omega : 11 < 12) N_0.symm⟩
    intro a
    match a with
    | ⟨0, _⟩ =>
      show win0_10.index _ (0 : Fin 2) * 1 ≤ (i 0).val ∧ (i 0).val < win0_10.index _ (0 : Fin 2) * 1 + 1
      rw [e0]; omega
    | ⟨1, _⟩ =>
      show win0_10.index _ (1 : Fin 2) * 128 ≤ (i 1).val ∧ (i 1).val < win0_10.index _ (1 : Fin 2) * 128 + 128
      rw [e1]; omega)

theorem idx11 : ∀ t : Fin cfg0.N, win0_11.index t (0 : Fin 2) = 0 ∧ win0_11.index t (1 : Fin 2) = 0 :=
  (by decide +kernel : ∀ t : Fin grid0.N, _)

include I in
theorem flushed11 (t : Fin cfg0.N) (hf : (cfg0.win 11).flush t = true) : (dats m 0 c).flushed 11 t = ((cfg0.win 11).blk t).view.read (Elt Ideal) (flat (dgk Q K W G gq gk)) := by
  show (cfg0.win 11).cut (grid0.coords t) ((dats m 0 c).after 11 t) = _
  rw [after_11]
  have J := (I t.val t.isLt).agk
  generalize outsAt m c t.val t.isLt = out at J
  obtain ⟨e0, e1⟩ := idx11 t
  have ht : t.val = 11 := by
    have := low t
    have := (flush0_11 t).mp hf
    omega
  rw [ht] at J
  funext y
  have hy0 : (y 0).val < 1 := (y 0).isLt
  have hy1 : (y 1).val < 128 := (y 1).isLt
  have hb1 : (((cfg0.win 11).blk t).view.emb y 1).val = win0_11.index t (1 : Fin 2) * 128 + 1 * (y 1).val := rfl
  have hx : (cfg0.win 11).xinj (grid0.coords t) y = (ix2 (⟨(y 0).val, hy0⟩ : Fin 1) (⟨(y 1).val, hy1⟩ : Fin 128) : S1x128.Idx) := by
    funext a; apply Fin.ext
    match a with
    | ⟨0, _⟩ => rfl
    | ⟨1, _⟩ => rfl
  have hz : (((cfg0.win 11).blk t).view.emb y 1 : Fin 128) = ⟨(y 1).val, hy1⟩ := Fin.ext (by rw [hb1, e1]; show 0 * 128 + 1 * (y 1).val = (y 1).val; omega)
  show out.2.2.2.2 ((cfg0.win 11).xinj (grid0.coords t) y) = flat _ (((cfg0.win 11).blk t).view.emb y)
  rw [hx, J, sum_pk]
  exact congrArg (fun d => (((dgk Q K W G gq gk) d : ℝ) : EReal)) hz.symm

theorem mem_blk11 (t : Fin cfg0.N) (i : S1x128.Idx) :
    i ∈ ((cfg0.win 11).blk t).view.set ↔ ∀ a : Fin 2, win0_11.index t a * S1x128.size a ≤ (i a).val ∧ (i a).val < win0_11.index t a * S1x128.size a + S1x128.size a := by
  show i ∈ ((View.whole main_v50_4).slice (win0_11.rect t)).set ↔ _
  rw [View.set_slice_whole, Rect.mem_set_unit]
  exact Iff.rfl

include I in
theorem arr11 : (dats m 0 c).arrAt 11 cfg0.N = flat (dgk Q K W G gq gk) :=
  (dats m 0 c).arrAt_eq_of_cover 11 _ (fun t hf => flushed11 I t hf) (fun i => by
    have h0 : (i 0).val < 1 := (i 0).isLt
    have h1 : (i 1).val < 128 := (i 1).isLt
    refine ⟨⟨11, lt_of_lt_of_eq (by omega : 11 < 12) N_0.symm⟩, (flush0_11 _).mpr rfl, ?_⟩
    rw [mem_blk11]
    obtain ⟨e0, e1⟩ := idx11 ⟨11, lt_of_lt_of_eq (by omega : 11 < 12) N_0.symm⟩
    intro a
    match a with
    | ⟨0, _⟩ =>
      show win0_11.index _ (0 : Fin 2) * 1 ≤ (i 0).val ∧ (i 0).val < win0_11.index _ (0 : Fin 2) * 1 + 1
      rw [e0]; omega
    | ⟨1, _⟩ =>
      show win0_11.index _ (1 : Fin 2) * 128 ≤ (i 1).val ∧ (i 1).val < win0_11.index _ (1 : Fin 2) * 128 + 128
      rw [e1]; omega)

end SbArr
-- ==== Proof.SbRefVal.lean ====
/- The reference of the stick-breaking attention's gradient read as the same reals, stage by stage. -/
module

public import proofs.«01_k».proof.Proof.SbHeads
public import proofs.«01_k».proof.Proof.XaRefVal
public import proofs.«01_k».proof.Proof.Gen.SbRefIdeal.Read
public import Idealize.ShloMosaic.Lib.Pointwise
public import Idealize.ShloMosaic.Lib.Tactic
public import Idealize.ShloMosaic.Lib.WordCmp

@[expose] public section

set_option maxRecDepth 16384
set_option maxHeartbeats 1000000

noncomputable section

namespace SbRefVal

open Idealize.ShloMosaic Idealize.ShloMosaic.TcCoe Cert.SbRefIdeal Cert.SbRefIdeal.Read RealVal SbReal SbNorm SbHeads

variable (Q K W G : Fin 24 → ℕ → Fin 128 → ℝ) (gq gk : Fin 128 → ℝ)
  (x0 : (⟨S2048x4096, .f32⟩ : BufTy).Contents (Elt Ideal)) (x1 : (⟨S2048x14336, .f32⟩ : BufTy).Contents (Elt Ideal))
  (x2 x3 : (⟨S128, .f32⟩ : BufTy).Contents (Elt Ideal))

/-- The arguments hold the reals. -/
structure Reads : Prop where
  d : ∀ (h : Fin 24) (t : Fin 2048) (d : Fin 128), x0 (ix2 t (⟨h.val * 128 + d.val, by omega⟩ : Fin 4096)) = ((G h t d : ℝ) : EReal)
  q : ∀ (h : Fin 24) (t : Fin 2048) (d : Fin 128), x1 (ix2 t (⟨h.val * 128 + d.val, by omega⟩ : Fin 14336)) = ((Q h t d : ℝ) : EReal)
  k : ∀ (h : Fin 24) (t : Fin 2048) (d : Fin 128), x1 (ix2 t (⟨3072 + (h.val * 128 + d.val), by omega⟩ : Fin 14336)) = ((K h t d : ℝ) : EReal)
  v : ∀ (h : Fin 24) (t : Fin 2048) (d : Fin 128), x1 (ix2 t (⟨6144 + (h.val * 128 + d.val), by omega⟩ : Fin 14336)) = ((W h t d : ℝ) : EReal)
  gq : ∀ d : Fin 128, x2 (ix1 d) = ((gq d : ℝ) : EReal)
  gk : ∀ d : Fin 128, x3 (ix1 d) = ((gk d : ℝ) : EReal)

theorem bits_top : Ideal.ofBits .f32 0x7F800000#32 = (⊤ : EReal) := by
  simp [Ideal.ofBits, Ideal.ieee]

theorem z0 : id (constant (F := Ideal) S_ .f32 0x00000000#32) ix0 = ((0 : ℝ) : EReal) := by
  show Ideal.ofBits .f32 0x00000000#32 = _
  simp [Ideal.ofBits, Ideal.ieee]
theorem zero : val_main_call2_v0 (F := Ideal) (Shape.Idx.first Gen.h_S_) = 0 := by
  show Ideal.ofBits .f32 0x00000000#32 = 0
  simp [Ideal.ofBits, Ideal.ieee]
theorem zero' : val_main_call7_v0 (F := Ideal) (Shape.Idx.first Gen.h_S_) = 0 := by
  show Ideal.ofBits .f32 0x00000000#32 = 0
  simp [Ideal.ofBits, Ideal.ieee]

/-- The softplus as the host spells it. -/
theorem sp_host (x : ℝ) : max (x : EReal) 0 + Ideal.log1p (Ideal.exp (-FloatOps.absf (F := Ideal) (φ := .f32) (x : EReal))) = ((sp x : ℝ) : EReal) := by
  have e := SbTile.sp_coe x
  rw [zero_sub] at e
  exact e

variable {Q K W G gq gk x0 x1 x2 x3} (H : Reads Q K W G gq gk x0 x1 x2 x3)
include H

theorem v4 (t : Fin 2048) (h : Fin 24) (d : Fin 128) : val_main_v4 (F := Ideal) x1 (ix3 t h d) = ((Q h t d : ℝ) : EReal) := by
  pointwise [val_main_v4, val_main_v1, val_main_v0]
  exact H.q h t d

theorem v5 (t : Fin 2048) (h : Fin 24) (d : Fin 128) : val_main_v5 (F := Ideal) x1 (ix3 t h d) = ((K h t d : ℝ) : EReal) := by
  pointwise [val_main_v5, val_main_v2, val_main_v0]
  exact H.k h t d

theorem v6 (t : Fin 2048) (h : Fin 24) (d : Fin 128) : val_main_v6 (F := Ideal) x1 (ix3 t h d) = ((W h t d : ℝ) : EReal) := by
  pointwise [val_main_v6, val_main_v3, val_main_v0]
  exact H.v h t d

theorem msQ (t : Fin 2048) (h : Fin 24) (z : Fin 1) : val_main_v13 (F := Ideal) x1 (ix3 t h z) = (((∑ k, Q h t k * Q h t k) / 128 + eps : ℝ) : EReal) := by
  pointwise [val_main_v7, val_main_v8, val_main_v9, val_main_v10, val_main_v11, val_main_v12, val_main_v13, val_main_cst, val_main_cst_0, val_main_cst_1]
  simp only [v4 H, ← EReal.coe_mul, coe_sum, bits_128, bits_eps]
  rw [div_coe _ _ (by norm_num), ← EReal.coe_add]

theorem rrQ (t : Fin 2048) (h : Fin 24) (z : Fin 1) : val_main_v14 (F := Ideal) x1 (ix3 t h z) = ((rr (Q h t) : ℝ) : EReal) := by
  pointwise [val_main_v14]
  rw [msQ H, rsqrt_ms]

theorem drQ (t : Fin 2048) (h : Fin 24) (z : Fin 1) : val_main_v17 (F := Ideal) x1 (ix3 t h z) = ((-(1/2) * (rr (Q h t) * (rr (Q h t) * rr (Q h t))) : ℝ) : EReal) := by
  pointwise [val_main_v17, val_main_v16, val_main_v15, val_main_cst_2]
  rw [msQ H, rrQ H, div_coe _ _ (ms_pos _).ne', bits_neg_half, ← EReal.coe_mul, rr_sq]
  norm_num [div_eq_mul_inv]

theorem hatQ (t : Fin 2048) (h : Fin 24) (d : Fin 128) : val_main_v19 (F := Ideal) x1 (ix3 t h d) = ((hat (Q h t) d : ℝ) : EReal) := by
  pointwise [val_main_v19, val_main_v18]
  rw [v4 H, rrQ H, ← EReal.coe_mul]; rfl

theorem nrmQ (t : Fin 2048) (h : Fin 24) (d : Fin 128) : val_main_v22 (F := Ideal) x1 x2 (ix3 t h d) = ((hat (Q h t) d * gq d : ℝ) : EReal) := by
  pointwise [val_main_v22, val_main_v21, val_main_v20]
  rw [hatQ H, H.gq, ← EReal.coe_mul]

theorem msK (t : Fin 2048) (h : Fin 24) (z : Fin 1) : val_main_v29 (F := Ideal) x1 (ix3 t h z) = (((∑ k, K h t k * K h t k) / 128 + eps : ℝ) : EReal) := by
  pointwise [val_main_v23, val_main_v24, val_main_v25, val_main_v26, val_main_v27, val_main_v28, val_main_v29, val_main_cst_3, val_main_cst_4, val_main_cst_5]
  simp only [v5 H, ← EReal.coe_mul, coe_sum, bits_128, bits_eps]
  rw [div_coe _ _ (by norm_num), ← EReal.coe_add]

theorem rrK (t : Fin 2048) (h : Fin 24) (z : Fin 1) : val_main_v30 (F := Ideal) x1 (ix3 t h z) = ((rr (K h t) : ℝ) : EReal) := by
  pointwise [val_main_v30]
  rw [msK H, rsqrt_ms]

theorem drK (t : Fin 2048) (h : Fin 24) (z : Fin 1) : val_main_v33 (F := Ideal) x1 (ix3 t h z) = ((-(1/2) * (rr (K h t) * (rr (K h t) * rr (K h t))) : ℝ) : EReal) := by
  pointwise [val_main_v33, val_main_v32, val_main_v31, val_main_cst_6]
  rw [msK H, rrK H, div_coe _ _ (ms_pos _).ne', bits_neg_half, ← EReal.coe_mul, rr_sq]
  norm_num [div_eq_mul_inv]

theorem hatK (t : Fin 2048) (h : Fin 24) (d : Fin 128) : val_main_v35 (F := Ideal) x1 (ix3 t h d) = ((hat (K h t) d : ℝ) : EReal) := by
  pointwise [val_main_v35, val_main_v34]
  rw [v5 H, rrK H, ← EReal.coe_mul]; rfl

theorem nrmK (t : Fin 2048) (h : Fin 24) (d : Fin 128) : val_main_v38 (F := Ideal) x1 x3 (ix3 t h d) = ((hat (K h t) d * gk d : ℝ) : EReal) := by
  pointwise [val_main_v38, val_main_v37, val_main_v36]
  rw [hatK H, H.gk, ← EReal.coe_mul]

theorem v41 (h : Fin 24) (t s : Fin 2048) : val_main_v41 (F := Ideal) x1 x2 x3 (ix3 h t s) = ((z (one Q K W G gq gk h) t s : ℝ) : EReal) := by
  pointwise [val_main_v41, val_main_v40, val_main_v39, val_main_cst_7]
  simp only [nrmQ H, nrmK H, ← EReal.coe_mul, coe_sum, SbTile.bits_scale]
  refine congrArg _ ?_
  unfold z one
  rw [Finset.sum_mul]
  exact Finset.sum_congr rfl fun d _ => by ring

omit H in
theorem v48 (t s : Fin 2048) : val_main_v48 (F := Ideal) (ix2 t s) = BitVec.ofBool (decide (s.val < t.val)) := by
  pointwise [val_main_v48, val_main_v47, val_main_v46, val_main_v45, val_main_v44, val_main_v43, val_main_v42]
  have ht := t.isLt
  have hs := s.isLt
  rw [WordCmp.cmpi_slt_ofNat (by omega) (by omega)]

theorem c0 (h : Fin 24) (t s : Fin 2048) : val_main_call0_v0 (F := Ideal) x1 x2 x3 (ix3 h t s) = ((z (one Q K W G gq gk h) t s : ℝ) : EReal) := by
  pointwise [val_main_call0_v0, val_main_v49]
  rw [v41 H, neg_neg]

theorem c0s (h : Fin 24) (t s : Fin 2048) : val_main_call0_v1_0 (F := Ideal) x1 x2 x3 (ix3 h t s) = ((sp (z (one Q K W G gq gk h) t s) : ℝ) : EReal) := by
  pointwise [val_main_call0_v1_0, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_call0_cst]
  rw [c0 H, if_neg (fun h => h rfl), sp_host]

theorem v50_1 (h : Fin 24) (t s : Fin 2048) : val_main_v50_1 (F := Ideal) x1 x2 x3 (ix3 h t s) = ((Real.exp (stop (one Q K W G gq gk h) t s) : ℝ) : EReal) := by
  pointwise [val_main_v50_1, val_main_call0_call0_v13, val_main_call0_call0_v14, val_main_call0_call0_v15, val_main_call0_call0_v16, val_main_call0_call0_v17, val_main_call0_call0_v18, val_main_call0_call0_v19, val_main_call0_call0_v20, val_main_call0_call0_v21, val_main_call0_call0_cst_0, val_main_call0_call0_cst_1, val_main_call0_call0_cst_2, val_main_call0_call0_cst_3]
  rw [c0 H, c0s H, bits_top, if_neg (EReal.coe_ne_top _), if_neg (EReal.coe_ne_top _), ← EReal.coe_sub, Ideal.exp_coe]
  rfl

theorem v51_0 (h : Fin 24) (t s : Fin 2048) : val_main_v51_0 (F := Ideal) x1 x2 x3 (ix3 h t s) = ((lr (one Q K W G gq gk h) t s : ℝ) : EReal) := by
  pointwise [val_main_v51_0, val_main_v51_1, val_main_v50_0, val_main_call1_v0, val_main_call1_v2, val_main_cst_8]
  rw [v48, c0s H, ← EReal.coe_neg]
  refine (congrArg (Scalar.select _ _) z0).trans ?_
  rw [SbTile.sel]
  unfold lr
  by_cases hs : s.val < t.val <;> simp [hs]

theorem v53 (h : Fin 24) (t s : Fin 2048) : val_main_v53 (F := Ideal) x1 x2 x3 (ix3 h t s) = ((tot (one Q K W G gq gk h) t - ∑ u ∈ Finset.range (s.val + 1), lr (one Q K W G gq gk h) t u : ℝ) : EReal) := by
  have e : val_main_v52 (F := Ideal) x1 x2 x3 (ix3 h t s) = (((∑ u ∈ Finset.range 2048, lr (one Q K W G gq gk h) t u) - ∑ u ∈ Finset.range s.val, lr (one Q K W G gq gk h) t u : ℝ) : EReal) := by
    rw [← win_right _ _ _ s.isLt]
    have e := win (A := 24) (B := 2048) (N := 2048) (l := 0) (r := 2047) (val_main_v51_0 (F := Ideal) x1 x2 x3) (fun u => lr (one Q K W G gq gk h) t u) h t (fun i => v51_0 H h t i) _ zero Gen.reduceWindows_S24x2048x2048_S24x2048x2048_w1s1p0_0_w1s1p0_0_w2048s1p0_2047 s
    unfold val_main_v52 Host.reduceWindowAdd
    rw [Ideal.hostReduceWindowAdd_def]
    exact e
  show val_main_v52 (F := Ideal) x1 x2 x3 (ix3 h t s) - val_main_v51_0 (F := Ideal) x1 x2 x3 (ix3 h t s) = _
  rw [e, v51_0 H, ← EReal.coe_sub, Finset.sum_range_succ (fun u => lr (one Q K W G gq gk h) t u) s.val]
  unfold tot
  exact congrArg _ (by ring)

theorem c3 (h : Fin 24) (t s : Fin 2048) : val_main_call3_v0 (F := Ideal) x1 x2 x3 (ix3 h t s) = ((-z (one Q K W G gq gk h) t s : ℝ) : EReal) := by
  pointwise [val_main_call3_v0]
  rw [v41 H, EReal.coe_neg]

theorem c3s (h : Fin 24) (t s : Fin 2048) : val_main_call3_v1_0 (F := Ideal) x1 x2 x3 (ix3 h t s) = ((sp (z (one Q K W G gq gk h) t s) - z (one Q K W G gq gk h) t s : ℝ) : EReal) := by
  pointwise [val_main_call3_v1_0, val_main_call3_call0_v0, val_main_call3_call0_v1, val_main_call3_call0_v2, val_main_call3_call0_v3, val_main_call3_call0_v4, val_main_call3_call0_v5, val_main_call3_call0_v6, val_main_call3_call0_v7, val_main_call3_call0_v8, val_main_call3_call0_v9, val_main_call3_call0_v10, val_main_call3_call0_v11, val_main_call3_call0_cst]
  rw [c3 H, if_neg (fun h => h rfl), sp_host, sp_neg]

theorem v54_1 (h : Fin 24) (t s : Fin 2048) : val_main_v54_1 (F := Ideal) x1 x2 x3 (ix3 h t s) = ((1 - Real.exp (stop (one Q K W G gq gk h) t s) : ℝ) : EReal) := by
  pointwise [val_main_v54_1, val_main_call3_call0_v13, val_main_call3_call0_v14, val_main_call3_call0_v15, val_main_call3_call0_v16, val_main_call3_call0_v17, val_main_call3_call0_v18, val_main_call3_call0_v19, val_main_call3_call0_v20, val_main_call3_call0_v21, val_main_call3_call0_cst_0, val_main_call3_call0_cst_1, val_main_call3_call0_cst_2, val_main_call3_call0_cst_3]
  rw [c3 H, c3s H, bits_top, if_neg (EReal.coe_ne_top _), if_neg (EReal.coe_ne_top _), ← EReal.coe_sub, Ideal.exp_coe]
  refine congrArg _ ?_
  have e := exp_stop_go (z (one Q K W G gq gk h) t s)
  rw [show -z (one Q K W G gq gk h) t s - (sp (z (one Q K W G gq gk h) t s) - z (one Q K W G gq gk h) t s) = -sp (z (one Q K W G gq gk h) t s) by ring]
  unfold stop
  linarith

theorem v56 (h : Fin 24) (t s : Fin 2048) : val_main_v56 (F := Ideal) x1 x2 x3 (ix3 h t s) = ((Real.exp (stop (one Q K W G gq gk h) t s + (tot (one Q K W G gq gk h) t - ∑ u ∈ Finset.range (s.val + 1), lr (one Q K W G gq gk h) t u)) : ℝ) : EReal) := by
  pointwise [val_main_v56, val_main_v55, val_main_v54_0]
  rw [c3s H, v53 H, ← EReal.coe_neg, ← EReal.coe_add, Ideal.exp_coe]
  unfold stop
  exact congrArg _ (congrArg _ (by ring))

theorem v57_0 (h : Fin 24) (t s : Fin 2048) : val_main_v57_0 (F := Ideal) x1 x2 x3 (ix3 h t s) = ((wt (one Q K W G gq gk h) t s : ℝ) : EReal) := by
  pointwise [val_main_v57_0, val_main_v57_1, val_main_call4_v0, val_main_call4_v2, val_main_cst_9]
  rw [v48, v56 H]
  refine (congrArg (Scalar.select _ _) z0).trans ?_
  rw [SbTile.sel]
  unfold wt
  by_cases hs : s.val < t.val <;> simp [hs]

theorem v63 (h : Fin 24) (d : Fin 128) (t : Fin 2048) : val_main_v63 (F := Ideal) x0 (ix3 h d t) = ((G h t d : ℝ) : EReal) := by
  pointwise [val_main_v63, val_main_v62, val_main_v61]
  exact H.d h t d

theorem v68 (h : Fin 24) (t s : Fin 2048) : val_main_v68 (F := Ideal) x0 x1 x2 x3 (ix3 h t s) = ((b (one Q K W G gq gk h) t s : ℝ) : EReal) := by
  pointwise [val_main_v68, val_main_v67, val_main_v57_1, val_main_v64, val_main_call5_v0, val_main_call5_cst]
  rw [v48, v56 H]
  simp only [v63 H, v6 H, ← EReal.coe_mul, coe_sum]
  rw [← EReal.coe_zero, SbTile.sel]
  unfold b wt
  by_cases hs : s.val < t.val
  · simp only [hs, if_true, ← EReal.coe_mul]
    rfl
  · simp only [hs, if_false, ← EReal.coe_mul, zero_mul, mul_zero]

theorem v71 (h : Fin 24) (t s : Fin 2048) : val_main_v71 (F := Ideal) x0 x1 x2 x3 (ix3 h t s) = ((∑ u ∈ Finset.range (s.val + 1), b (one Q K W G gq gk h) t u : ℝ) : EReal) := by
  rw [← win_left _ 2048 _ 2047 (by norm_num) s.isLt]
  have e := win (A := 24) (B := 2048) (N := 2048) (l := 2047) (r := 0) (val_main_v68 (F := Ideal) x0 x1 x2 x3) (fun u => b (one Q K W G gq gk h) t u) h t (fun i => v68 H h t i) _ zero' Gen.reduceWindows_S24x2048x2048_S24x2048x2048_w1s1p0_0_w1s1p0_0_w2048s1p2047_0 s
  unfold val_main_v71 Host.reduceWindowAdd
  rw [Ideal.hostReduceWindowAdd_def]
  exact e

theorem v73 (h : Fin 24) (t s : Fin 2048) : val_main_v73 (F := Ideal) x0 x1 x2 x3 (ix3 h t s) = ((if s.val < t.val then ∑ u ∈ Finset.range s.val, b (one Q K W G gq gk h) t u else 0 : ℝ) : EReal) := by
  pointwise [val_main_v73, val_main_v51_1, val_main_v72, val_main_v70, val_main_call8_v0, val_main_call8_cst]
  rw [v48, v68 H, v71 H, ← EReal.coe_neg, ← EReal.coe_add, ← EReal.coe_zero, SbTile.sel, Finset.sum_range_succ]
  by_cases hs : s.val < t.val
  · simp only [hs, if_true]
    exact congrArg _ (by ring)
  · simp only [hs, if_false]

theorem v78 (h : Fin 24) (t s : Fin 2048) : val_main_v78 (F := Ideal) x0 x1 x2 x3 (ix3 h t s) = ((dz (one Q K W G gq gk h) t s * SbTile.scale : ℝ) : EReal) := by
  pointwise [val_main_v78, val_main_v77, val_main_v76, val_main_v75, val_main_v74, val_main_v69, val_main_call9_v1, val_main_call9_v0, val_main_call6_v1, val_main_call6_v0, val_main_cst_10]
  rw [v68 H, v73 H, v50_1 H, v54_1 H, SbTile.bits_scale]
  simp only [← EReal.coe_neg, ← EReal.coe_mul, ← EReal.coe_add]
  refine congrArg _ (congrArg (· * SbTile.scale) ?_)
  by_cases hs : s.val < t.val
  · unfold dz
    simp only [hs, if_true]
    ring
  · rw [b_of_not _ hs, dz_of_not _ hs]
    simp only [hs, if_false]
    ring

theorem v66 (t : Fin 2048) (h : Fin 24) (d : Fin 128) : val_main_v66 (F := Ideal) x0 x1 x2 x3 (ix3 t h d) = ((dv Q K W G gq gk h t d : ℝ) : EReal) := by
  pointwise [val_main_v66, val_main_v65]
  simp only [v63 H, v57_0 H, ← EReal.coe_mul, coe_sum]
  unfold dv
  rw [Finset.sum_range]
  exact congrArg _ (Finset.sum_congr rfl fun u _ => mul_comm _ _)

theorem v80 (t : Fin 2048) (h : Fin 24) (d : Fin 128) : val_main_v80 (F := Ideal) x0 x1 x2 x3 (ix3 t h d) = ((dkn Q K W G gq gk h t d : ℝ) : EReal) := by
  pointwise [val_main_v80, val_main_v79]
  simp only [v78 H, nrmQ H, ← EReal.coe_mul, coe_sum]
  unfold dkn
  rw [Finset.sum_range]
  refine congrArg _ (Finset.sum_congr rfl fun u _ => ?_)
  show _ = _ * (hat (Q h u) d * (gq d * SbTile.scale))
  ring

theorem v82 (t : Fin 2048) (h : Fin 24) (d : Fin 128) : val_main_v82 (F := Ideal) x0 x1 x2 x3 (ix3 t h d) = ((dqn Q K W G gq gk h t d : ℝ) : EReal) := by
  pointwise [val_main_v82, val_main_v81]
  simp only [v78 H, nrmK H, ← EReal.coe_mul, coe_sum]
  unfold dqn
  rw [Finset.sum_range, Finset.sum_mul]
  refine congrArg _ (Finset.sum_congr rfl fun u _ => ?_)
  show _ = _ * (hat (K h u) d * gk d) * SbTile.scale
  ring

theorem v102 (t : Fin 2048) (h : Fin 24) (d : Fin 128) : val_main_v102 (F := Ideal) x0 x1 x2 x3 (ix3 t h d) = ((dnrm (K h t) gk (dkn Q K W G gq gk h t) d : ℝ) : EReal) := by
  have e (k : Fin 128) : val_main_v87 (F := Ideal) x0 x1 x2 x3 (ix3 t h k) = ((dkn Q K W G gq gk h t k * gk k : ℝ) : EReal) := by
    pointwise [val_main_v87, val_main_v86, val_main_v36]
    rw [v80 H, H.gk, ← EReal.coe_mul]
  pointwise [val_main_v102, val_main_v101, val_main_v100, val_main_v99, val_main_v98, val_main_v97, val_main_v96, val_main_v95, val_main_v94, val_main_v93, val_main_v92, val_main_v91, val_main_v90, val_main_v89, val_main_cst_13, val_main_cst_14, val_main_cst_15]
  simp only [Finset.univ_unique, Finset.sum_singleton, e, v5 H, rrK H, drK H, bits_128, coe_sum, ← EReal.coe_add, ← EReal.coe_mul]
  rw [div_coe _ _ (by norm_num)]
  simp only [← EReal.coe_add, ← EReal.coe_mul]
  exact congrArg _ (dn_eq (K h t) gk (dkn Q K W G gq gk h t) d)

theorem v122 (t : Fin 2048) (h : Fin 24) (d : Fin 128) : val_main_v122 (F := Ideal) x0 x1 x2 x3 (ix3 t h d) = ((dnrm (Q h t) gq (dqn Q K W G gq gk h t) d : ℝ) : EReal) := by
  have e (k : Fin 128) : val_main_v107 (F := Ideal) x0 x1 x2 x3 (ix3 t h k) = ((dqn Q K W G gq gk h t k * gq k : ℝ) : EReal) := by
    pointwise [val_main_v107, val_main_v106, val_main_v20]
    rw [v82 H, H.gq, ← EReal.coe_mul]
  pointwise [val_main_v122, val_main_v121, val_main_v120, val_main_v119, val_main_v118, val_main_v117, val_main_v116, val_main_v115, val_main_v114, val_main_v113, val_main_v112, val_main_v111, val_main_v110, val_main_v109, val_main_cst_18, val_main_cst_19, val_main_cst_20]
  simp only [Finset.univ_unique, Finset.sum_singleton, e, v4 H, rrQ H, drQ H, bits_128, coe_sum, ← EReal.coe_add, ← EReal.coe_mul]
  rw [div_coe _ _ (by norm_num)]
  simp only [← EReal.coe_add, ← EReal.coe_mul]
  exact congrArg _ (dn_eq (Q h t) gq (dqn Q K W G gq gk h t) d)

theorem v128 (t : Fin 2048) (h : Fin 24) (d : Fin 128) : val_main_v128 (F := Ideal) x0 x1 x2 x3 (ix2 t (⟨h.val * 128 + d.val, by omega⟩ : Fin 3072)) = ((dnrm (Q h t) gq (dqn Q K W G gq gk h t) d : ℝ) : EReal) := by
  pointwise [val_main_v128, val_main_v127, val_main_v126, val_main_v125, val_main_v124, val_main_v123]
  have h1 : h.val * 128 + d.val < 3072 := by omega
  rw [dif_pos h1]
  exact v122 H t h d

theorem v129 (t : Fin 2048) (h : Fin 24) (d : Fin 128) : val_main_v129 (F := Ideal) x0 x1 x2 x3 (ix2 t (⟨h.val * 128 + d.val, by omega⟩ : Fin 3072)) = ((dnrm (K h t) gk (dkn Q K W G gq gk h t) d : ℝ) : EReal) := by
  pointwise [val_main_v129, val_main_v127, val_main_v126, val_main_v125, val_main_v124, val_main_v123]
  have h1 : h.val * 128 + d.val < 3072 := by omega
  rw [dif_pos h1]
  exact v102 H t h d

theorem v130 (t : Fin 2048) (h : Fin 24) (d : Fin 128) : val_main_v130 (F := Ideal) x0 x1 x2 x3 (ix2 t (⟨h.val * 128 + d.val, by omega⟩ : Fin 3072)) = ((dv Q K W G gq gk h t d : ℝ) : EReal) := by
  pointwise [val_main_v130, val_main_v127, val_main_v126, val_main_v125, val_main_v124, val_main_v123]
  have h1 : h.val * 128 + d.val < 3072 := by omega
  rw [dif_neg (by omega), dif_neg (by omega)]
  refine (congrArg₂ (fun a b => val_main_v66 (F := Ideal) x0 x1 x2 x3 (ix3 t a b)) (Fin.ext ?_) (Fin.ext ?_)).trans (v66 H t h d)
  · show (6144 + (h.val * 128 + d.val) - 3072 - 3072) / 128 = h.val
    omega
  · show (6144 + (h.val * 128 + d.val) - 3072 - 3072) % 128 = d.val
    omega

theorem v131 (z : Fin 1) (d : Fin 128) : val_main_v131 (F := Ideal) x0 x1 x2 x3 (ix2 z d) = ((dgq Q K W G gq gk d : ℝ) : EReal) := by
  pointwise [val_main_v131, val_main_v108, val_main_cst_17]
  rw [XaRefVal.reduce01]
  simp only [Finset.univ_unique, Finset.sum_singleton, zero_add]
  pointwise [val_main_v105, val_main_v104, val_main_cst_16]
  rw [XaRefVal.reduce01, zero_add]
  pointwise [val_main_v103]
  simp only [hatQ H, v82 H, ← EReal.coe_mul, coe_sum]
  unfold dgq
  rw [Finset.sum_comm]
  simp only [mul_comm]

theorem v132 (z : Fin 1) (d : Fin 128) : val_main_v132 (F := Ideal) x0 x1 x2 x3 (ix2 z d) = ((dgk Q K W G gq gk d : ℝ) : EReal) := by
  pointwise [val_main_v132, val_main_v88, val_main_cst_12]
  rw [XaRefVal.reduce01]
  simp only [Finset.univ_unique, Finset.sum_singleton, zero_add]
  pointwise [val_main_v85, val_main_v84, val_main_cst_11]
  rw [XaRefVal.reduce01, zero_add]
  pointwise [val_main_v83]
  simp only [hatK H, v80 H, ← EReal.coe_mul, coe_sum]
  unfold dgk
  rw [Finset.sum_comm]
  simp only [mul_comm]

end SbRefVal
end
-- ==== Proof.SbClaim.lean ====
/- The claims about the stick-breaking attention's gradient kernel. -/
module

public import proofs.«01_k».proof.Defs
public import proofs.«01_k».proof.Proof.Gen.Sb
public import proofs.«01_k».proof.Proof.Gen.Pre_finite_sb
public import proofs.«01_k».proof.Proof.SbTot
public import proofs.«01_k».proof.Proof.SbArr
public import proofs.«01_k».proof.Proof.SbRefVal
public import proofs.«01_k».proof.Proof.XaClaim
public import proofs.«01_k».proof.Proof.Gen.SbRefIdeal.Run

@[expose] public section

set_option maxRecDepth 16384
set_option maxHeartbeats 4000000

noncomputable section

namespace SbClaim

open Idealize.ShloMosaic Idealize.ShloMosaic.TcCoe Idealize.SL.Sem RealVal SbReal SbNorm SbHeads

/-! ## The frames -/

/-- The two printed kernels run the same body. -/
theorem table_eq : @Cert.Sb.defs₀ Bits _ Cert.Sb.Gen.facts = @Cert.SbIdeal.defs₀ Bits _ Cert.SbIdeal.Gen.facts := by
  refine congrArg (Defs.onTc (nD := Cert.SbIdeal.nD) (τ := Cert.SbIdeal.τ) (sig := Cert.SbIdeal.sig) (Λ := Cert.SbIdeal.Λ₀)) ?_
  funext l x
  match l, x with
  | 0, (t, s) => rfl
  | ⟨n + 1, h⟩, _ => exact absurd h (Nat.not_lt.2 (Nat.le_add_left _ _))

theorem defs_eq : @Cert.Sb.defs Bits _ Cert.Sb.Gen.facts = @Cert.SbIdeal.defs Bits _ Cert.SbIdeal.Gen.facts :=
  congrArg (Pipeline.defs (Cert.SbIdeal.pcfgs (F := Bits))) table_eq

theorem frame_p : Cert.quiescent_Sb (hSb := Cert.Sb.Gen.facts) := by
  intro m ρ _
  have h := Cert.SbIdeal.Own.frame (F := Bits) m ρ
  rw [← defs_eq] at h
  exact h

theorem frame_pi : Cert.quiescent_SbIdeal (hSbIdeal := Cert.SbIdeal.Gen.facts) := fun m ρ _ => Cert.SbIdeal.Own.frame (F := Ideal) m ρ

theorem frame_pi' : Cert.quiescent_SbIdeal_pre_finite_sb (hSbIdeal := Cert.SbIdeal.Gen.facts) (hPre_finite_sb := Cert.Pre_finite_sb.Gen.facts) :=
  fun m ρ _ => Cert.SbIdeal.Own.frame (F := Ideal) m ρ

theorem frame_ri : Cert.quiescent_SbRefIdeal (hSbRefIdeal := Cert.SbRefIdeal.Gen.facts) := fun m ρ _ =>
  (θ_run Cert.SbRefIdeal.defs _ _).mono (fun r h => ⟨fun c => (h c).2.2.2.2.2,
      Idealize.ShloMosaic.sem_eq_zero_of_no_sems (by decide) r.2⟩)
    (Cert.SbRefIdeal.Value.run (F := Ideal) m ρ)

theorem frame_ri' : Cert.quiescent_SbRefIdeal_pre_finite_sb (hSbRefIdeal := Cert.SbRefIdeal.Gen.facts) (hPre_finite_sb := Cert.Pre_finite_sb.Gen.facts) :=
  fun m ρ _ => frame_ri m ρ trivial

/-! ## Finite arguments are reals -/

section
open Cert.Pre_finite_sb
variable (x0 : FVec Ideal S2048x4096 .f32) (x1 : FVec Ideal S2048x14336 .f32) (x2 x3 : FVec Ideal S128 .f32)

theorem real0 (h : (fn (F := Ideal) x0 x1 x2 x3).1 = fun _ => 1#1) (t : Fin 2048) (e : Fin 3072) :
    ∃ r : ℝ, x0 (ix2 t (⟨e.val, by omega⟩ : Fin 4096)) = r := by
  have := congrFun h (ix2 t e)
  pointwise [fn] at this
  rw [bits_top] at this
  exact XaClaim.lt_top this

theorem real1 (h : (fn (F := Ideal) x0 x1 x2 x3).2.1 = fun _ => 1#1) (t : Fin 2048) (e : Fin 9216) :
    ∃ r : ℝ, x1 (ix2 t (⟨e.val, by omega⟩ : Fin 14336)) = r := by
  have := congrFun h (ix2 t e)
  pointwise [fn] at this
  rw [bits_top] at this
  exact XaClaim.lt_top this

theorem real2 (h : (fn (F := Ideal) x0 x1 x2 x3).2.2.1 = fun _ => 1#1) (e : Fin 128) : ∃ r : ℝ, x2 (ix1 e) = r := by
  have := congrFun h (ix1 e)
  pointwise [fn] at this
  rw [bits_top] at this
  exact XaClaim.lt_top this

theorem real3 (h : (fn (F := Ideal) x0 x1 x2 x3).2.2.2 = fun _ => 1#1) (e : Fin 128) : ∃ r : ℝ, x3 (ix1 e) = r := by
  have := congrFun h (ix1 e)
  pointwise [fn] at this
  rw [bits_top] at this
  exact XaClaim.lt_top this

/-- The arguments read as reals by the reference, from row and column. -/
theorem reads (p0 : (fn (F := Ideal) x0 x1 x2 x3).1 = fun _ => 1#1) (p1 : (fn (F := Ideal) x0 x1 x2 x3).2.1 = fun _ => 1#1)
    (p2 : (fn (F := Ideal) x0 x1 x2 x3).2.2.1 = fun _ => 1#1) (p3 : (fn (F := Ideal) x0 x1 x2 x3).2.2.2 = fun _ => 1#1) :
    ∃ (Q K W G : Fin 24 → ℕ → Fin 128 → ℝ) (gq gk : Fin 128 → ℝ), SbRefVal.Reads Q K W G gq gk x0 x1 x2 x3 := by
  choose f0 h0 using real0 _ _ _ _ p0
  choose f1 h1 using real1 _ _ _ _ p1
  choose f2 h2 using real2 _ _ _ _ p2
  choose f3 h3 using real3 _ _ _ _ p3
  have lt : ∀ t : Fin 2048, Fin.ofNat 2048 t.val = t := fun t => Fin.ext (Nat.mod_eq_of_lt t.isLt)
  refine ⟨fun h t d => f1 (Fin.ofNat 2048 t) ⟨h.val * 128 + d.val, by omega⟩, fun h t d => f1 (Fin.ofNat 2048 t) ⟨3072 + (h.val * 128 + d.val), by omega⟩,
    fun h t d => f1 (Fin.ofNat 2048 t) ⟨6144 + (h.val * 128 + d.val), by omega⟩, fun h t d => f0 (Fin.ofNat 2048 t) ⟨h.val * 128 + d.val, by omega⟩, f2, f3,
    ⟨fun h t d => ?_, fun h t d => ?_, fun h t d => ?_, fun h t d => ?_, h2, h3⟩⟩ <;> dsimp only <;> rw [lt]
  · exact h0 t ⟨h.val * 128 + d.val, by omega⟩
  · exact h1 t ⟨h.val * 128 + d.val, by omega⟩
  · exact h1 t ⟨3072 + (h.val * 128 + d.val), by omega⟩
  · exact h1 t ⟨6144 + (h.val * 128 + d.val), by omega⟩

end

/-! ## The kernel's results -/

section
open Cert.SbIdeal Cert.SbIdeal.Gen Cert.SbIdeal.Own
variable {m : (ℓ : Loc nD τ sig) → Buf (Elt Ideal) ℓ} {c : Dev nD}
variable {Q K W G : Fin 24 → ℕ → Fin 128 → ℝ} {gq gk : Fin 128 → ℝ}

theorem cl_at (o w : ℕ) (h : Fin 24) (d : Fin 128) (hw : o + 3072 ≤ w) (b : o + (h.val * 128 + d.val) < w) :
    cl o w h d hw = ⟨o + (h.val * 128 + d.val), b⟩ := Fin.ext (by unfold cl; dsimp only; omega)

theorem cl_zero (w : ℕ) (h : Fin 24) (d : Fin 128) (hw : 0 + 3072 ≤ w) (b : h.val * 128 + d.val < w) :
    cl 0 w h d hw = ⟨h.val * 128 + d.val, b⟩ := Fin.ext (by unfold cl; dsimp only; omega)

theorem inv (H : SbRefVal.Reads Q K W G gq gk (m ((c : Thread nD τ).loc main_arg0)) (m ((c : Thread nD τ).loc main_arg1))
      (m ((c : Thread nD τ).loc main_arg2)) (m ((c : Thread nD τ).loc main_arg3))) :
    ∀ (n : ℕ) (hn : n < cfg0.N), SbStep.Inv Q K W G gq gk n (outsAt m c n hn) := by
  refine SbStep.inv (m := m) (c := c) (Q := Q) (K := K) (W := W) (G := G) (gq := gq) (gk := gk) ⟨fun h t d => ?_, fun h t d => ?_, fun h t d => ?_, fun h t d => ?_, H.gq, H.gk⟩ (fun h t d => ?_)
  · rw [cl_zero]; exact H.d h t d
  · rw [cl_zero]; exact H.q h t d
  · rw [cl_at]; exact H.k h t d
  · rw [cl_at]; exact H.v h t d
  · rw [cl_zero 3072 h d (by decide) (by omega)]
    exact SbTot.val m c Q K gq gk (fun h => one Q K W G gq gk h) (fun _ _ _ => rfl) (fun _ _ _ => rfl)
      (fun h t d => H.q h t d) (fun h t d => H.k h t d) H.gq H.gk t h d

/-- The run, with every result named and every argument unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v50_0) = (dats m 0 c).arrAt 7 cfg0.N
      ∧ r.2.mem ((c.tc : Thread nD τ).loc main_v50_1) = (dats m 0 c).arrAt 8 cfg0.N
      ∧ r.2.mem ((c.tc : Thread nD τ).loc main_v50_2) = (dats m 0 c).arrAt 9 cfg0.N
      ∧ r.2.mem ((c.tc : Thread nD τ).loc main_v50_3) = (dats m 0 c).arrAt 10 cfg0.N
      ∧ r.2.mem ((c.tc : Thread nD τ).loc main_v50_4) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.1 c).1 7, (h.1.1 c).1 8, (h.1.1 c).1 9, (h.1.1 c).1 10, (h.1.1 c).1 11, h.2.1 c⟩)
    (θ_run_and (run_main m ρ) (frame m ρ))

end

/-! ## The two programs' results -/

theorem ext_wide {x : (⟨2, ![2048, 3072]⟩ : Shape).Idx → EReal} (X : Fin 24 → ℕ → Fin 128 → ℝ)
    (hx : ∀ (t : Fin 2048) (h : Fin 24) (d : Fin 128), x (ix2 t (⟨h.val * 128 + d.val, by omega⟩ : Fin 3072)) = ((X h t d : ℝ) : EReal)) :
    x = SbArr.wide X := by
  have key : ∀ (t : Fin 2048) (e : Fin 3072), x (ix2 t e) = SbArr.wide X (ix2 t e) := by
    intro t e
    have he : e = (⟨(⟨e.val / 128, by omega⟩ : Fin 24).val * 128 + (⟨e.val % 128, by omega⟩ : Fin 128).val, by show e.val / 128 * 128 + e.val % 128 < 3072; omega⟩ : Fin 3072) :=
      Fin.ext (by show e.val = e.val / 128 * 128 + e.val % 128; omega)
    rw [SbArr.wide_at X (ix2 t e) ⟨e.val / 128, by omega⟩ t.val ⟨e.val % 128, by omega⟩ rfl (by show e.val = 128 * (e.val / 128) + e.val % 128; omega)]
    refine Eq.trans ?_ (hx t ⟨e.val / 128, by omega⟩ ⟨e.val % 128, by omega⟩)
    exact congrArg (fun a => x (ix2 t a)) he
  funext i
  rw [eq_ix2 i]
  exact key _ _

theorem ext_flat {x : (⟨2, ![1, 128]⟩ : Shape).Idx → EReal} (X : Fin 128 → ℝ)
    (hx : ∀ (z : Fin 1) (d : Fin 128), x (ix2 z d) = ((X d : ℝ) : EReal)) : x = SbArr.flat X := by
  funext i
  rw [eq_ix2 i]
  exact hx _ _

theorem algebraic : Cert.algebraic_SbIdeal_SbRefIdeal_pre_finite_sb (hSbIdeal := Cert.SbIdeal.Gen.facts)
    (hSbRefIdeal := Cert.SbRefIdeal.Gen.facts) (hPre_finite_sb := Cert.Pre_finite_sb.Gen.facts) := by
  intro m ρ m' ρ' hpre hag
  refine ⟨fun c => (Cert.SbIdeal.Own.dats m 0 c).arrAt 7 Cert.SbIdeal.cfg0.N, fun c => (Cert.SbIdeal.Own.dats m 0 c).arrAt 8 Cert.SbIdeal.cfg0.N,
    fun c => (Cert.SbIdeal.Own.dats m 0 c).arrAt 9 Cert.SbIdeal.cfg0.N, fun c => (Cert.SbIdeal.Own.dats m 0 c).arrAt 10 Cert.SbIdeal.cfg0.N,
    fun c => (Cert.SbIdeal.Own.dats m 0 c).arrAt 11 Cert.SbIdeal.cfg0.N, run ρ,
    (θ_run Cert.SbRefIdeal.defs _ _).mono (fun r h c => ?_) (Cert.SbRefIdeal.Value.run (F := Ideal) m' ρ')⟩
  obtain ⟨p0, p1, p2, p3⟩ := hpre c
  obtain ⟨a0, a1, a2, a3⟩ := hag c
  obtain ⟨Q, K, W, G, gq, gk, H⟩ := reads _ _ _ _ p0 p1 p2 p3
  have I := inv H
  rw [← a0, ← a1, ← a2, ← a3] at H
  obtain ⟨r0, r1, r2, r3, r4, rest⟩ := h c
  refine ⟨?_, ?_, ?_, ?_, ?_, rest⟩
  · exact (r0.trans (Cert.SbRefIdeal.Read.val_main_v128_eq _)).trans ((ext_wide _ (SbRefVal.v128 H)).trans (SbArr.arr7 I).symm)
  · exact (r1.trans (Cert.SbRefIdeal.Read.val_main_v129_eq _)).trans ((ext_wide _ (SbRefVal.v129 H)).trans (SbArr.arr8 I).symm)
  · exact (r2.trans (Cert.SbRefIdeal.Read.val_main_v130_eq _)).trans ((ext_wide _ (SbRefVal.v130 H)).trans (SbArr.arr9 I).symm)
  · exact (r3.trans (Cert.SbRefIdeal.Read.val_main_v131_eq _)).trans ((ext_flat _ (SbRefVal.v131 H)).trans (SbArr.arr10 I).symm)
  · exact (r4.trans (Cert.SbRefIdeal.Read.val_main_v132_eq _)).trans ((ext_flat _ (SbRefVal.v132 H)).trans (SbArr.arr11 I).symm)

end SbClaim

end
-- ==== Proof.ProdSeg.lean ====
/- Five blocks of columns laid side by side: the gradient of the input projection's 14336 columns. -/
module

public import Idealize.ShloMosaic.Lib.Pointwise
public import Idealize.ShloMosaic.Lib.Tactic
public import Idealize.ShloMosaic.Lib.Pipeline.ValueKit

@[expose] public section

noncomputable section

namespace ProdSeg

open Idealize.ShloMosaic

/-- An array of extended reals with two axes. -/
abbrev Arr (a b : ℕ) := (⟨2, ![a, b]⟩ : Shape).Idx → EReal

/-- Entry `e` of row `r` of the five blocks of columns side by side. -/
def cat (x1 x2 x3 : Arr 2048 3072) (x4 : Arr 2048 1024) (x5 : Arr 2048 4096) (r : Fin 2048) (e : ℕ) : EReal :=
  if h : e < 3072 then x1 (ix2 r ⟨e, h⟩)
  else if h : e - 3072 < 3072 then x2 (ix2 r ⟨e - 3072, h⟩)
  else if h : e - 6144 < 3072 then x3 (ix2 r ⟨e - 6144, h⟩)
  else if h : e - 9216 < 1024 then x4 (ix2 r ⟨e - 9216, h⟩)
  else if h : e - 10240 < 4096 then x5 (ix2 r ⟨e - 10240, h⟩)
  else 0

variable (x1 x2 x3 : Arr 2048 3072) (x4 : Arr 2048 1024) (x5 : Arr 2048 4096) (r : Fin 2048) (e : ℕ)

theorem cat1 (j : Fin 3072) (h : e = j.val) : cat x1 x2 x3 x4 x5 r e = x1 (ix2 r j) := by
  subst h
  unfold cat
  rw [dif_pos j.isLt]

theorem cat2 (j : Fin 3072) (h : e = 3072 + j.val) : cat x1 x2 x3 x4 x5 r e = x2 (ix2 r j) := by
  subst h
  unfold cat
  rw [dif_neg (by omega), dif_pos (by omega)]
  exact congrArg (fun k => x2 (ix2 r k)) (Fin.ext (by dsimp only; omega))

theorem cat3 (j : Fin 3072) (h : e = 6144 + j.val) : cat x1 x2 x3 x4 x5 r e = x3 (ix2 r j) := by
  subst h
  unfold cat
  rw [dif_neg (by omega), dif_neg (by omega), dif_pos (by omega)]
  exact congrArg (fun k => x3 (ix2 r k)) (Fin.ext (by dsimp only; omega))

theorem cat4 (j : Fin 1024) (h : e = 9216 + j.val) : cat x1 x2 x3 x4 x5 r e = x4 (ix2 r j) := by
  subst h
  unfold cat
  rw [dif_neg (by omega), dif_neg (by omega), dif_neg (by omega), dif_pos (by omega)]
  exact congrArg (fun k => x4 (ix2 r k)) (Fin.ext (by dsimp only; omega))

theorem cat5 (j : Fin 4096) (h : e = 10240 + j.val) : cat x1 x2 x3 x4 x5 r e = x5 (ix2 r j) := by
  subst h
  unfold cat
  rw [dif_neg (by omega), dif_neg (by omega), dif_neg (by omega), dif_neg (by omega), dif_pos (by omega)]
  exact congrArg (fun k => x5 (ix2 r k)) (Fin.ext (by dsimp only; omega))

/-- Entry `(d, e)` of a matrix of 2048 rows stored as four slots of 3584 columns. -/
def slot (w : (⟨4, ![4, 2, 1024, 3584]⟩ : Shape).Idx → EReal) (d : Fin 2048) (e : ℕ) : EReal :=
  w (ix4 (⟨e / 3584 % 4, by omega⟩ : Fin 4) (⟨d.val / 1024, by omega⟩ : Fin 2) (⟨d.val % 1024, by omega⟩ : Fin 1024) (⟨e % 3584, by omega⟩ : Fin 3584))

/-- A sum over 28 blocks of 512 is the sum over all 14336. -/
theorem sum28 (f : ℕ → EReal) : ∑ k ∈ Finset.range 28, ∑ q : Fin 512, f (k * 512 + q.val) = ∑ e : Fin 14336, f e.val := by
  rw [Finset.sum_range]
  exact Fin.sum_mul_add_fin 28 512 fun e => f e.val

end ProdSeg

end
-- ==== Proof.WinVal.lean ====
/- The gradient of the input projection's matrix: what each grid point writes, and the whole array, as one sum per entry. -/
module

public import proofs.«01_k».proof.Proof.ProdSeg
public import proofs.«01_k».proof.Proof.Gen.WinIdeal.Value
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 16384

noncomputable section

namespace WinVal

open Idealize.ShloMosaic Idealize.ShloMosaic.TcCoe Cert.WinIdeal Cert.WinIdeal.Gen ProdSeg

/-- A block of the product: the sum over the rows. -/
theorem pay (x : Vec Ideal S2048x1024 .bf16) (y : Vec Ideal S2048x512 .bf16) (r : Fin 1024) (e : Fin 512) :
    k0_pay1 x y (ix4 (0 : Fin 1) (0 : Fin 1) r e) = ∑ s : Fin 2048, x (ix2 s r) * y (ix2 s e) := by
  pointwise [k0_pay1]
  try simp

theorem idx0 : ∀ t : Fin cfg0.N, win0_0.index t 0 = 0 ∧ win0_0.index t 1 = t.val / 28 := by decide +kernel
theorem idx1 : ∀ t : Fin cfg0.N, t.val % 28 ≤ 5 → win0_1.index t 0 = 0 ∧ win0_1.index t 1 = t.val % 28 := by decide +kernel
theorem idx2 : ∀ t : Fin cfg0.N, 6 ≤ t.val % 28 ∧ t.val % 28 ≤ 11 → win0_2.index t 0 = 0 ∧ win0_2.index t 1 = t.val % 28 - 6 := by decide +kernel
theorem idx3 : ∀ t : Fin cfg0.N, 12 ≤ t.val % 28 ∧ t.val % 28 ≤ 17 → win0_3.index t 0 = 0 ∧ win0_3.index t 1 = t.val % 28 - 12 := by decide +kernel
theorem idx4 : ∀ t : Fin cfg0.N, 18 ≤ t.val % 28 ∧ t.val % 28 ≤ 19 → win0_4.index t 0 = 0 ∧ win0_4.index t 1 = t.val % 28 - 18 := by decide +kernel
theorem idx5 : ∀ t : Fin cfg0.N, 20 ≤ t.val % 28 → win0_5.index t 0 = 0 ∧ win0_5.index t 1 = t.val % 28 - 20 := by decide +kernel
theorem idx6 : ∀ t : Fin cfg0.N, win0_6.index t (0 : Fin 4) = t.val % 28 / 7 ∧ win0_6.index t (1 : Fin 4) = t.val / 28 ∧
    win0_6.index t (2 : Fin 4) = 0 ∧ win0_6.index t (3 : Fin 4) = t.val % 28 % 7 :=
  (by decide +kernel : ∀ t : Fin grid0.N, _)

variable (m : (ℓ : Loc nD τ sig) → Buf (Elt Ideal) ℓ) (c : Dev nD) (t : Fin cfg0.N)

theorem low : t.val < 56 := lt_of_lt_of_eq t.isLt N_0

theorem blk0 (s : Fin 2048) (r : Fin 1024) : iblk m c 0 t (ix2 s r) =
    m ((c : Thread nD τ).loc main_arg0) (ix2 s (⟨t.val / 28 * 1024 + r.val, by have := low t; omega⟩ : Fin 2048)) := by
  blk_ext [iblk, V, idx0 t]
theorem blk1 (h : t.val % 28 ≤ 5) (s : Fin 2048) (e : Fin 512) : iblk m c 1 t (ix2 s e) =
    m ((c : Thread nD τ).loc main_arg1) (ix2 s (⟨t.val % 28 * 512 + e.val, by omega⟩ : Fin 3072)) := by
  blk_ext [iblk, V, idx1 t h]
theorem blk2 (h : 6 ≤ t.val % 28 ∧ t.val % 28 ≤ 11) (s : Fin 2048) (e : Fin 512) : iblk m c 2 t (ix2 s e) =
    m ((c : Thread nD τ).loc main_arg2) (ix2 s (⟨(t.val % 28 - 6) * 512 + e.val, by omega⟩ : Fin 3072)) := by
  blk_ext [iblk, V, idx2 t h]
theorem blk3 (h : 12 ≤ t.val % 28 ∧ t.val % 28 ≤ 17) (s : Fin 2048) (e : Fin 512) : iblk m c 3 t (ix2 s e) =
    m ((c : Thread nD τ).loc main_arg3) (ix2 s (⟨(t.val % 28 - 12) * 512 + e.val, by omega⟩ : Fin 3072)) := by
  blk_ext [iblk, V, idx3 t h]
theorem blk4 (h : 18 ≤ t.val % 28 ∧ t.val % 28 ≤ 19) (s : Fin 2048) (e : Fin 512) : iblk m c 4 t (ix2 s e) =
    m ((c : Thread nD τ).loc main_arg4) (ix2 s (⟨(t.val % 28 - 18) * 512 + e.val, by omega⟩ : Fin 1024)) := by
  blk_ext [iblk, V, idx4 t h]
theorem blk5 (h : 20 ≤ t.val % 28) (s : Fin 2048) (e : Fin 512) : iblk m c 5 t (ix2 s e) =
    m ((c : Thread nD τ).loc main_arg5) (ix2 s (⟨(t.val % 28 - 20) * 512 + e.val, by omega⟩ : Fin 4096)) := by
  blk_ext [iblk, V, idx5 t h]

/-- Entry `e` of row `s` of the columns' gradient. -/
abbrev col (s : Fin 2048) (e : ℕ) : EReal :=
  cat (m ((c : Thread nD τ).loc main_arg1)) (m ((c : Thread nD τ).loc main_arg2)) (m ((c : Thread nD τ).loc main_arg3))
    (m ((c : Thread nD τ).loc main_arg4)) (m ((c : Thread nD τ).loc main_arg5)) s e

/-- Entry `j` of row `s` of the left factor. -/
abbrev row (s j : Fin 2048) : EReal := m ((c : Thread nD τ).loc main_arg0) (ix2 s j)

/-- The product, in the layout of the result. -/
def G : S4x2x1024x3584.Idx → EReal := fun i =>
  ∑ s : Fin 2048, row m c s (⟨(i 1).val * 1024 + (i 2).val, by
    have h1 : (i 1).val < 2 := (i 1).isLt
    have h2 : (i 2).val < 1024 := (i 2).isLt
    omega⟩ : Fin 2048) * col m c s ((i 0).val * 3584 + (i 3).val)

/-- What a grid point leaves in the result's block. -/
theorem out (r : Fin 1024) (e : Fin 512) : outsAt0 m c t.val t.isLt (ix4 (0 : Fin 1) (0 : Fin 1) r e) =
    ∑ s : Fin 2048, row m c s (⟨t.val / 28 * 1024 + r.val, by have := low t; omega⟩ : Fin 2048) *
      col m c s (t.val % 28 * 512 + e.val) := by
  have e0 := blk0 m c t
  by_cases hA : t.val % 28 ≤ 5
  · rw [outsAt0_A m c t hA (by omega) (by omega) (by omega) (by omega)]
    frame_out
    refine (pay _ _ r e).trans (Finset.sum_congr rfl fun s _ => ?_)
    rw [e0, blk1 m c t hA]
    exact congrArg (row m c s _ * ·) (cat1 _ _ _ _ _ _ _ (⟨t.val % 28 * 512 + e.val, by omega⟩ : Fin 3072) rfl).symm
  by_cases hB : t.val % 28 ≤ 11
  · rw [outsAt0_B m c t hA (by omega) (by omega) (by omega) (by omega)]
    frame_out
    refine (pay _ _ r e).trans (Finset.sum_congr rfl fun s _ => ?_)
    rw [e0, blk2 m c t (by omega)]
    exact congrArg (row m c s _ * ·) (cat2 _ _ _ _ _ _ _ (⟨(t.val % 28 - 6) * 512 + e.val, by omega⟩ : Fin 3072) (by dsimp only; omega)).symm
  by_cases hC : t.val % 28 ≤ 17
  · rw [outsAt0_C m c t hA (by omega) (by omega) (by omega) (by omega)]
    frame_out
    refine (pay _ _ r e).trans (Finset.sum_congr rfl fun s _ => ?_)
    rw [e0, blk3 m c t (by omega)]
    exact congrArg (row m c s _ * ·) (cat3 _ _ _ _ _ _ _ (⟨(t.val % 28 - 12) * 512 + e.val, by omega⟩ : Fin 3072) (by dsimp only; omega)).symm
  by_cases hD : t.val % 28 ≤ 19
  · rw [outsAt0_D m c t hA (by omega) (by omega) (by omega) (by omega)]
    frame_out
    refine (pay _ _ r e).trans (Finset.sum_congr rfl fun s _ => ?_)
    rw [e0, blk4 m c t (by omega)]
    exact congrArg (row m c s _ * ·) (cat4 _ _ _ _ _ _ _ (⟨(t.val % 28 - 18) * 512 + e.val, by omega⟩ : Fin 1024) (by dsimp only; omega)).symm
  · rw [outsAt0_E m c t hA (by omega) (by omega) (by omega) (by omega)]
    frame_out
    refine (pay _ _ r e).trans (Finset.sum_congr rfl fun s _ => ?_)
    rw [e0, blk5 m c t (by omega)]
    exact congrArg (row m c s _ * ·) (cat5 _ _ _ _ _ _ _ (⟨(t.val % 28 - 20) * 512 + e.val, by omega⟩ : Fin 4096) (by dsimp only; omega)).symm

theorem flushed : (dats m 0 c).flushed 6 t = ((cfg0.win 6).blk t).view.read (Elt Ideal) (G m c) := by
  rw [Value.flushed6]
  have O := out m c t
  generalize outsAt0 m c t.val t.isLt = o at O
  obtain ⟨i0, i1, i2, i3⟩ := idx6 t
  have ht := low t
  funext y
  have hy0 : (y 0).val < 1 := (y 0).isLt
  have hy1 : (y 1).val < 1 := (y 1).isLt
  have hy2 : (y 2).val < 1024 := (y 2).isLt
  have hy3 : (y 3).val < 512 := (y 3).isLt
  have hb0 : (((cfg0.win 6).blk t).view.emb y 0).val = win0_6.index t (0 : Fin 4) * 1 + 1 * (y 0).val := rfl
  have hb1 : (((cfg0.win 6).blk t).view.emb y 1).val = win0_6.index t (1 : Fin 4) * 1 + 1 * (y 1).val := rfl
  have hb2 : (((cfg0.win 6).blk t).view.emb y 2).val = win0_6.index t (2 : Fin 4) * 1024 + 1 * (y 2).val := rfl
  have hb3 : (((cfg0.win 6).blk t).view.emb y 3).val = win0_6.index t (3 : Fin 4) * 512 + 1 * (y 3).val := rfl
  have hx : (cfg0.win 6).xinj (grid0.coords t) y = (ix4 (0 : Fin 1) (0 : Fin 1) (⟨(y 2).val, hy2⟩ : Fin 1024) (⟨(y 3).val, hy3⟩ : Fin 512) : S1x1x1024x512.Idx) := by
    funext a; apply Fin.ext
    match a with
    | ⟨0, _⟩ => show (y 0).val = 0; omega
    | ⟨1, _⟩ => show (y 1).val = 0; omega
    | ⟨2, _⟩ => rfl
    | ⟨3, _⟩ => rfl
  show o ((cfg0.win 6).xinj (grid0.coords t) y) = G m c (((cfg0.win 6).blk t).view.emb y)
  rw [hx, O]
  unfold G
  refine Finset.sum_congr rfl fun s _ => congrArg₂ (· * ·) (congrArg (row m c s) (Fin.ext ?_)) (congrArg _ ?_)
  · dsimp only
    rw [hb1, hb2, i1, i2]; omega
  · rw [hb0, hb3, i0, i3]
    dsimp only
    omega

theorem mem_blk (i : S4x2x1024x3584.Idx) :
    i ∈ ((cfg0.win 6).blk t).view.set ↔ ∀ a : Fin 4, win0_6.index t a * S1x1x1024x512.size a ≤ (i a).val ∧ (i a).val < win0_6.index t a * S1x1x1024x512.size a + S1x1x1024x512.size a := by
  show i ∈ ((View.whole main_v0).slice (win0_6.rect t)).set ↔ _
  rw [View.set_slice_whole, Rect.mem_set_unit]
  exact Iff.rfl

/-- The array after the run. -/
theorem arr : (dats m 0 c).arrAt 6 cfg0.N = G m c :=
  (dats m 0 c).arrAt_eq_of_cover 6 _ (fun t _ => flushed m c t) (fun i => by
    have h0 : (i 0).val < 4 := (i 0).isLt
    have h1 : (i 1).val < 2 := (i 1).isLt
    have h2 : (i 2).val < 1024 := (i 2).isLt
    have h3 : (i 3).val < 3584 := (i 3).isLt
    have hp : (i 1).val * 28 + ((i 0).val * 7 + (i 3).val / 512) < 56 := by omega
    refine ⟨⟨(i 1).val * 28 + ((i 0).val * 7 + (i 3).val / 512), lt_of_lt_of_eq hp N_0.symm⟩, flush0_6 _, ?_⟩
    rw [mem_blk]
    obtain ⟨e0, e1, e2, e3⟩ := idx6 ⟨(i 1).val * 28 + ((i 0).val * 7 + (i 3).val / 512), lt_of_lt_of_eq hp N_0.symm⟩
    intro a
    match a with
    | ⟨0, _⟩ =>
      show win0_6.index _ (0 : Fin 4) * 1 ≤ (i 0).val ∧ (i 0).val < win0_6.index _ (0 : Fin 4) * 1 + 1
      rw [e0]; dsimp only; omega
    | ⟨1, _⟩ =>
      show win0_6.index _ (1 : Fin 4) * 1 ≤ (i 1).val ∧ (i 1).val < win0_6.index _ (1 : Fin 4) * 1 + 1
      rw [e1]; dsimp only; omega
    | ⟨2, _⟩ =>
      show win0_6.index _ (2 : Fin 4) * 1024 ≤ (i 2).val ∧ (i 2).val < win0_6.index _ (2 : Fin 4) * 1024 + 1024
      rw [e2]; omega
    | ⟨3, _⟩ =>
      show win0_6.index _ (3 : Fin 4) * 512 ≤ (i 3).val ∧ (i 3).val < win0_6.index _ (3 : Fin 4) * 512 + 512
      rw [e3]; dsimp only; omega)

end WinVal

end
-- ==== Proof.WinClaim.lean ====
/- The claims about the gradient of the input projection's matrix. -/
module

public import proofs.«01_k».proof.Defs
public import proofs.«01_k».proof.Proof.Gen.Win.Frame
public import proofs.«01_k».proof.Proof.WinVal
public import proofs.«01_k».proof.Proof.Gen.WinRefIdeal.Run
public import proofs.«01_k».proof.Proof.Gen.WinRefIdeal.Read
public import Idealize.ShloMosaic.Adequacy
public import Idealize.ShloMosaic.Init

@[expose] public section

set_option maxRecDepth 16384

noncomputable section

namespace WinClaim

open Idealize.ShloMosaic Idealize.ShloMosaic.TcCoe Idealize.SL.Sem ProdSeg

theorem frame_p : Cert.quiescent_Win (hWin := Cert.Win.Gen.facts) := fun m ρ _ => Cert.Win.Gen.frame m ρ

theorem frame_pi : Cert.quiescent_WinIdeal (hWinIdeal := Cert.WinIdeal.Gen.facts) := fun m ρ _ => Cert.WinIdeal.Gen.frame m ρ

theorem frame_ri : Cert.quiescent_WinRefIdeal (hWinRefIdeal := Cert.WinRefIdeal.Gen.facts) := fun m ρ _ =>
  (θ_run Cert.WinRefIdeal.defs _ _).mono (fun r h => ⟨fun c => (h c).2,
      Idealize.ShloMosaic.sem_eq_zero_of_no_sems (by decide) r.2⟩)
    (Cert.WinRefIdeal.Value.run (F := Ideal) m ρ)

section
open Cert.WinRefIdeal Cert.WinRefIdeal.Read

variable (x0 : Arr 2048 2048) (x1 x2 x3 : Arr 2048 3072) (x4 : Arr 2048 1024) (x5 : Arr 2048 4096)

theorem ref_cat (s : Fin 2048) (e : Fin 14336) : val_main_v1 (F := Ideal) x1 x2 x3 x4 x5 (ix2 s e) = cat x1 x2 x3 x4 x5 s e.val := by
  pointwise [val_main_v1]
  by_cases h1 : e.val < 3072
  · rw [dif_pos h1]
    exact (cat1 x1 x2 x3 x4 x5 s e.val ⟨e.val, h1⟩ rfl).symm
  rw [dif_neg h1]
  by_cases h2 : e.val - 3072 < 3072
  · rw [dif_pos h2]
    exact (cat2 x1 x2 x3 x4 x5 s e.val ⟨e.val - 3072, h2⟩ (by dsimp only; omega)).symm
  rw [dif_neg h2]
  by_cases h3 : e.val - 3072 - 3072 < 3072
  · rw [dif_pos h3]
    exact (cat3 x1 x2 x3 x4 x5 s e.val ⟨e.val - 3072 - 3072, h3⟩ (by dsimp only; omega)).symm
  rw [dif_neg h3]
  by_cases h4 : e.val - 3072 - 3072 - 3072 < 1024
  · rw [dif_pos h4]
    exact (cat4 x1 x2 x3 x4 x5 s e.val ⟨e.val - 3072 - 3072 - 3072, h4⟩ (by dsimp only; omega)).symm
  rw [dif_neg h4]
  exact (cat5 x1 x2 x3 x4 x5 s e.val ⟨e.val - 3072 - 3072 - 3072 - 1024, by omega⟩ (by dsimp only; omega)).symm

theorem ref_val (a : Fin 4) (b : Fin 2) (d : Fin 1024) (e : Fin 3584) : val_main_v7 (F := Ideal) x0 x1 x2 x3 x4 x5 (ix4 a b d e) =
    ∑ s : Fin 2048, x0 (ix2 s (⟨b.val * 1024 + d.val, by omega⟩ : Fin 2048)) * cat x1 x2 x3 x4 x5 s (a.val * 3584 + e.val) := by
  have hi : idx_main_v4 (idx_main_v5 (idx_main_v6 (ix4 a b d e))) =
      (ix2 (⟨a.val * 3584 + e.val, by omega⟩ : Fin 14336) (⟨b.val * 1024 + d.val, by omega⟩ : Fin 2048) : S14336x2048.Idx) := by
    funext k; apply Fin.ext
    match k with
    | ⟨0, _⟩ => show (((b.val * 1024 + d.val) * 4 + a.val) * 3584 + e.val) % 14336 = a.val * 3584 + e.val; omega
    | ⟨1, _⟩ => show (((b.val * 1024 + d.val) * 4 + a.val) * 3584 + e.val) / 14336 = b.val * 1024 + d.val; omega
  rw [val_main_v7_apply, val_main_v6_apply, val_main_v5_apply, val_main_v4_apply, hi, val_main_v3_apply]
  refine Finset.sum_congr rfl fun s _ => (mul_comm _ _).trans (congrArg₂ (· * ·) ?_ ?_)
  · refine (val_main_v0_apply (F := Ideal) x0 _).trans (congrArg x0 ?_)
    funext k
    match k with
    | ⟨0, _⟩ => rfl
    | ⟨1, _⟩ => rfl
  · refine (val_main_v2_apply (F := Ideal) x1 x2 x3 x4 x5 _).trans ?_
    refine Eq.trans ?_ (ref_cat x1 x2 x3 x4 x5 s (⟨a.val * 3584 + e.val, by omega⟩ : Fin 14336))
    refine congrArg (val_main_v1 (F := Ideal) x1 x2 x3 x4 x5) ?_
    funext k
    match k with
    | ⟨0, _⟩ => rfl
    | ⟨1, _⟩ => rfl

end

theorem algebraic : Cert.algebraic_WinIdeal_WinRefIdeal (hWinIdeal := Cert.WinIdeal.Gen.facts)
    (hWinRefIdeal := Cert.WinRefIdeal.Gen.facts) := by
  intro m ρ m' ρ' _ hag
  refine ⟨fun c => WinVal.G m c,
    (θ_run Cert.WinIdeal.defs _ _).mono (fun r h c => ⟨(h c).1.trans (WinVal.arr m c), (h c).2⟩) (Cert.WinIdeal.Value.run_blocks (F := Ideal) m ρ),
    (θ_run Cert.WinRefIdeal.defs _ _).mono (fun r h c => ⟨?_, (h c).2⟩) (Cert.WinRefIdeal.Value.run (F := Ideal) m' ρ')⟩
  obtain ⟨a0, a1, a2, a3, a4, a5⟩ := hag c
  refine ((h c).1.trans (Cert.WinRefIdeal.Read.val_main_v7_eq _ _ _ _ _ _)).trans ?_
  rw [a0, a1, a2, a3, a4, a5]
  funext i
  rw [eq_ix4 i]
  exact ref_val _ _ _ _ _ _ _ _ _ _

end WinClaim

end
-- ==== Proof.DhVal.lean ====
/- The gradient of the input projection's argument: what the carried sum holds after each grid point, and the whole array, as
   one sum per entry. -/
module

public import proofs.«01_k».proof.Proof.ProdSeg
public import proofs.«01_k».proof.Proof.Gen.DhIdeal.Value
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 16384

noncomputable section

namespace DhVal

open Idealize.ShloMosaic Idealize.ShloMosaic.TcCoe Cert.DhIdeal Cert.DhIdeal.Gen ProdSeg

/-- The sum starts at zero. -/
theorem pay0 (r e : Fin 1024) : k0_pay1 (F := Ideal) (ix2 r e) = 0 := by
  pointwise [k0_pay1]
  try rfl

/-- What a grid point adds to the sum. -/
theorem pay (a : Vec Ideal S1024x1024 .f32) (x : Vec Ideal S1024x512 .bf16) (y : Vec Ideal S1x1x1024x512 .bf16) (r e : Fin 1024) :
    k0_pay2 a x y (ix2 r e) = a (ix2 r e) + ∑ q : Fin 512, x (ix2 r q) * y (ix4 (0 : Fin 1) (0 : Fin 1) e q) := by
  pointwise [k0_pay2]
  try simp

theorem idx0 : ∀ t : Fin cfg0.N, t.val % 28 ≤ 5 → win0_0.index t 0 = t.val / 56 ∧ win0_0.index t 1 = t.val % 28 := by decide +kernel
theorem idx1 : ∀ t : Fin cfg0.N, 6 ≤ t.val % 28 ∧ t.val % 28 ≤ 11 → win0_1.index t 0 = t.val / 56 ∧ win0_1.index t 1 = t.val % 28 - 6 := by decide +kernel
theorem idx2 : ∀ t : Fin cfg0.N, 12 ≤ t.val % 28 ∧ t.val % 28 ≤ 17 → win0_2.index t 0 = t.val / 56 ∧ win0_2.index t 1 = t.val % 28 - 12 := by decide +kernel
theorem idx3 : ∀ t : Fin cfg0.N, 18 ≤ t.val % 28 ∧ t.val % 28 ≤ 19 → win0_3.index t 0 = t.val / 56 ∧ win0_3.index t 1 = t.val % 28 - 18 := by decide +kernel
theorem idx4 : ∀ t : Fin cfg0.N, 20 ≤ t.val % 28 → win0_4.index t 0 = t.val / 56 ∧ win0_4.index t 1 = t.val % 28 - 20 := by decide +kernel
theorem idx5 : ∀ t : Fin cfg0.N, win0_5.index t (0 : Fin 4) = t.val % 28 / 7 ∧ win0_5.index t (1 : Fin 4) = t.val / 28 % 2 ∧
    win0_5.index t (2 : Fin 4) = 0 ∧ win0_5.index t (3 : Fin 4) = t.val % 28 % 7 := by decide +kernel

variable (m : (ℓ : Loc nD τ sig) → Buf (Elt Ideal) ℓ) (c : Dev nD)

/-- Entry `e` of row `s` of the columns' gradient. -/
abbrev col (s : Fin 2048) (e : ℕ) : EReal :=
  cat (m ((c : Thread nD τ).loc main_arg0)) (m ((c : Thread nD τ).loc main_arg1)) (m ((c : Thread nD τ).loc main_arg2))
    (m ((c : Thread nD τ).loc main_arg3)) (m ((c : Thread nD τ).loc main_arg4)) s e
/-- Entry `(d, e)` of the matrix. -/
abbrev wt (d : Fin 2048) (e : ℕ) : EReal := slot (m ((c : Thread nD τ).loc main_arg5)) d e

/-- The row of the result at place `r` of the block of point `n`. -/
def row (n : ℕ) (r : Fin 1024) : Fin 2048 := ⟨n / 56 % 2 * 1024 + r.val, by omega⟩
/-- The column of the result at place `e` of the block of point `n`. -/
def lane (n : ℕ) (e : Fin 1024) : Fin 2048 := ⟨n / 28 % 2 * 1024 + e.val, by omega⟩

/-- What point `n` adds. -/
def term (n : ℕ) (r e : Fin 1024) (k : ℕ) : EReal := ∑ q : Fin 512, col m c (row n r) (k * 512 + q.val) * wt m c (lane n e) (k * 512 + q.val)

section
variable (t : Fin cfg0.N)
theorem low : t.val < 112 := lt_of_lt_of_eq t.isLt N_0

theorem blk0 (h : t.val % 28 ≤ 5) (r : Fin 1024) (e : Fin 512) : iblk m c 0 t (ix2 r e) =
    m ((c : Thread nD τ).loc main_arg0) (ix2 (row t.val r) (⟨t.val % 28 * 512 + e.val, by omega⟩ : Fin 3072)) := by
  have := low t
  unfold row
  blk_ext [iblk, V, idx0 t h]
theorem blk1 (h : 6 ≤ t.val % 28 ∧ t.val % 28 ≤ 11) (r : Fin 1024) (e : Fin 512) : iblk m c 1 t (ix2 r e) =
    m ((c : Thread nD τ).loc main_arg1) (ix2 (row t.val r) (⟨(t.val % 28 - 6) * 512 + e.val, by omega⟩ : Fin 3072)) := by
  have := low t
  unfold row
  blk_ext [iblk, V, idx1 t h]
theorem blk2 (h : 12 ≤ t.val % 28 ∧ t.val % 28 ≤ 17) (r : Fin 1024) (e : Fin 512) : iblk m c 2 t (ix2 r e) =
    m ((c : Thread nD τ).loc main_arg2) (ix2 (row t.val r) (⟨(t.val % 28 - 12) * 512 + e.val, by omega⟩ : Fin 3072)) := by
  have := low t
  unfold row
  blk_ext [iblk, V, idx2 t h]
theorem blk3 (h : 18 ≤ t.val % 28 ∧ t.val % 28 ≤ 19) (r : Fin 1024) (e : Fin 512) : iblk m c 3 t (ix2 r e) =
    m ((c : Thread nD τ).loc main_arg3) (ix2 (row t.val r) (⟨(t.val % 28 - 18) * 512 + e.val, by omega⟩ : Fin 1024)) := by
  have := low t
  unfold row
  blk_ext [iblk, V, idx3 t h]
theorem blk4 (h : 20 ≤ t.val % 28) (r : Fin 1024) (e : Fin 512) : iblk m c 4 t (ix2 r e) =
    m ((c : Thread nD τ).loc main_arg4) (ix2 (row t.val r) (⟨(t.val % 28 - 20) * 512 + e.val, by omega⟩ : Fin 4096)) := by
  have := low t
  unfold row
  blk_ext [iblk, V, idx4 t h]
theorem blk5 (e : Fin 1024) (q : Fin 512) : iblk m c 5 t (ix4 (0 : Fin 1) (0 : Fin 1) e q) = wt m c (lane t.val e) (t.val % 28 * 512 + q.val) := by
  have := low t
  unfold wt slot lane
  blk_ext [iblk, V, idx5 t]

/-- A point's step, whichever block of columns it reads. -/
theorem step (a : Vec Ideal S1024x1024 .f32) (x : Vec Ideal S1024x512 .bf16)
    (hx : ∀ (r : Fin 1024) (q : Fin 512), x (ix2 r q) = col m c (row t.val r) (t.val % 28 * 512 + q.val)) (r e : Fin 1024) :
    k0_pay2 a x (iblk m c 5 t) (ix2 r e) = a (ix2 r e) + term m c t.val r e (t.val % 28) := by
  rw [pay]
  unfold term
  exact congrArg (a (ix2 r e) + ·) (Finset.sum_congr rfl fun q _ => congrArg₂ (· * ·) (hx r q) (blk5 m c t e q))

theorem col0 (h : t.val % 28 ≤ 5) (r : Fin 1024) (q : Fin 512) : iblk m c 0 t (ix2 r q) = col m c (row t.val r) (t.val % 28 * 512 + q.val) :=
  (blk0 m c t h r q).trans (cat1 _ _ _ _ _ _ _ (⟨t.val % 28 * 512 + q.val, by omega⟩ : Fin 3072) rfl).symm
theorem col1 (h : 6 ≤ t.val % 28 ∧ t.val % 28 ≤ 11) (r : Fin 1024) (q : Fin 512) : iblk m c 1 t (ix2 r q) = col m c (row t.val r) (t.val % 28 * 512 + q.val) :=
  (blk1 m c t h r q).trans (cat2 _ _ _ _ _ _ _ (⟨(t.val % 28 - 6) * 512 + q.val, by omega⟩ : Fin 3072) (by dsimp only; omega)).symm
theorem col2 (h : 12 ≤ t.val % 28 ∧ t.val % 28 ≤ 17) (r : Fin 1024) (q : Fin 512) : iblk m c 2 t (ix2 r q) = col m c (row t.val r) (t.val % 28 * 512 + q.val) :=
  (blk2 m c t h r q).trans (cat3 _ _ _ _ _ _ _ (⟨(t.val % 28 - 12) * 512 + q.val, by omega⟩ : Fin 3072) (by dsimp only; omega)).symm
theorem col3 (h : 18 ≤ t.val % 28 ∧ t.val % 28 ≤ 19) (r : Fin 1024) (q : Fin 512) : iblk m c 3 t (ix2 r q) = col m c (row t.val r) (t.val % 28 * 512 + q.val) :=
  (blk3 m c t h r q).trans (cat4 _ _ _ _ _ _ _ (⟨(t.val % 28 - 18) * 512 + q.val, by omega⟩ : Fin 1024) (by dsimp only; omega)).symm
theorem col4 (h : 20 ≤ t.val % 28) (r : Fin 1024) (q : Fin 512) : iblk m c 4 t (ix2 r q) = col m c (row t.val r) (t.val % 28 * 512 + q.val) :=
  (blk4 m c t h r q).trans (cat5 _ _ _ _ _ _ _ (⟨(t.val % 28 - 20) * 512 + q.val, by omega⟩ : Fin 4096) (by dsimp only; omega)).symm
end

/-- What the blocks hold after point `n`: the carried sum so far, and at the last of 28 the result's block too. -/
structure Inv (n : ℕ) (o : Vec Ideal S1024x1024 .f32 × Vec Ideal S1024x1024 .f32) : Prop where
  sc : ∀ r e, o.2 (ix2 r e) = ∑ k ∈ Finset.range (n % 28 + 1), term m c n r e k
  res : n % 28 = 27 → ∀ r e, o.1 (ix2 r e) = ∑ k ∈ Finset.range (n % 28 + 1), term m c n r e k

variable {m c}

/-- One more term of the sum of a run of points. -/
theorem more {n : ℕ} (h : ¬ (n + 1) % 28 = 0) (r e : Fin 1024) :
    (∑ k ∈ Finset.range (n % 28 + 1), term m c n r e k) + term m c (n + 1) r e ((n + 1) % 28)
      = ∑ k ∈ Finset.range ((n + 1) % 28 + 1), term m c (n + 1) r e k := by
  have e1 : (n + 1) % 28 = n % 28 + 1 := by omega
  have e2 : term m c n = term m c (n + 1) := by
    have a1 : row n = row (n + 1) := funext fun r => Fin.ext (by show n / 56 % 2 * 1024 + r.val = (n + 1) / 56 % 2 * 1024 + r.val; omega)
    have a2 : lane n = lane (n + 1) := funext fun r => Fin.ext (by show n / 28 % 2 * 1024 + r.val = (n + 1) / 28 % 2 * 1024 + r.val; omega)
    unfold term
    rw [a1, a2]
  rw [e1, Finset.sum_range_succ _ (n % 28 + 1), e2]

/-- The first term of a run of points. -/
theorem one {n : ℕ} (h : n % 28 = 0) (r e : Fin 1024) :
    0 + term m c n r e (n % 28) = ∑ k ∈ Finset.range (n % 28 + 1), term m c n r e k := by
  rw [h, Finset.sum_range_one, zero_add]

theorem inv : ∀ (n : ℕ) (hn : n < cfg0.N), Inv m c n (outsAt0 m c n hn) := by
  intro n
  have first : ∀ (n : ℕ) (hn : n < cfg0.N), n % 28 = 0 → Inv m c n (outsAt0 m c n hn) := by
    intro n hn h0
    rw [outsAt0_A m c ⟨n, hn⟩ h0 (by dsimp only; omega) (by dsimp only; omega) (by dsimp only; omega) (by dsimp only; omega) (by dsimp only; omega) (by dsimp only; omega)]
    frame_out
    refine ⟨fun r e => ?_, fun h => absurd h (by omega)⟩
    refine (step m c ⟨n, hn⟩ _ _ (col0 m c ⟨n, hn⟩ (by dsimp only; omega)) r e).trans ?_
    rw [pay0]
    exact one h0 r e
  induction n with
  | zero => exact fun hn => first 0 hn rfl
  | succ n ih =>
    intro hn
    by_cases h0 : (n + 1) % 28 = 0
    · exact first _ hn h0
    have I := ih (by omega)
    have go : ∀ (x : Vec Ideal S1024x512 .bf16)
        (hx : ∀ (r : Fin 1024) (q : Fin 512), x (ix2 r q) = col m c (row (n + 1) r) ((n + 1) % 28 * 512 + q.val)) (r e : Fin 1024),
        k0_pay2 (outsAt0 m c n (by omega)).2 x (iblk m c 5 ⟨n + 1, hn⟩) (ix2 r e) = ∑ k ∈ Finset.range ((n + 1) % 28 + 1), term m c (n + 1) r e k := by
      intro x hx r e
      rw [step m c ⟨n + 1, hn⟩ _ x hx r e, I.sc r e]
      exact more h0 r e
    by_cases h1 : (n + 1) % 28 ≤ 5
    · rw [outsAt0_B m c ⟨n + 1, hn⟩ h0 h1 (by dsimp only; omega) (by dsimp only; omega) (by dsimp only; omega) (by dsimp only; omega) (by dsimp only; omega)]
      frame_out
      simp only [_root_.Idealize.ShloMosaic.read_unread_whole]
      exact ⟨go _ (col0 m c ⟨n + 1, hn⟩ h1), fun h => absurd h (by omega)⟩
    by_cases h2 : (n + 1) % 28 ≤ 11
    · rw [outsAt0_C m c ⟨n + 1, hn⟩ h0 h1 (by dsimp only; omega) (by dsimp only; omega) (by dsimp only; omega) (by dsimp only; omega) (by dsimp only; omega)]
      frame_out
      simp only [_root_.Idealize.ShloMosaic.read_unread_whole]
      exact ⟨go _ (col1 m c ⟨n + 1, hn⟩ (by dsimp only; omega)), fun h => absurd h (by omega)⟩
    by_cases h3 : (n + 1) % 28 ≤ 17
    · rw [outsAt0_D m c ⟨n + 1, hn⟩ h0 h1 (by dsimp only; omega) (by dsimp only; omega) (by dsimp only; omega) (by dsimp only; omega) (by dsimp only; omega)]
      frame_out
      simp only [_root_.Idealize.ShloMosaic.read_unread_whole]
      exact ⟨go _ (col2 m c ⟨n + 1, hn⟩ (by dsimp only; omega)), fun h => absurd h (by omega)⟩
    by_cases h4 : (n + 1) % 28 ≤ 19
    · rw [outsAt0_E m c ⟨n + 1, hn⟩ h0 h1 (by dsimp only; omega) (by dsimp only; omega) (by dsimp only; omega) (by dsimp only; omega) (by dsimp only; omega)]
      frame_out
      simp only [_root_.Idealize.ShloMosaic.read_unread_whole]
      exact ⟨go _ (col3 m c ⟨n + 1, hn⟩ (by dsimp only; omega)), fun h => absurd h (by omega)⟩
    by_cases h5 : (n + 1) % 28 = 27
    · rw [outsAt0_G m c ⟨n + 1, hn⟩ h0 h1 (by dsimp only; omega) (by dsimp only; omega) (by dsimp only; omega) (by dsimp only; omega) h5]
      frame_out
      simp only [_root_.Idealize.ShloMosaic.read_unread_whole]
      exact ⟨go _ (col4 m c ⟨n + 1, hn⟩ (by dsimp only; omega)), fun _ => go _ (col4 m c ⟨n + 1, hn⟩ (by dsimp only; omega))⟩
    · rw [outsAt0_F m c ⟨n + 1, hn⟩ h0 h1 (by dsimp only; omega) (by dsimp only; omega) (by dsimp only; omega) (by dsimp only; omega) h5]
      frame_out
      simp only [_root_.Idealize.ShloMosaic.read_unread_whole]
      exact ⟨go _ (col4 m c ⟨n + 1, hn⟩ (by dsimp only; omega)), fun h => absurd h h5⟩

variable (m c)

/-- The product. -/
theorem G_eq (s d : Fin 2048) : Value.G6 m c (ix2 s d) = ∑ e : Fin 14336, col m c s e.val * wt m c d e.val := by
  have hN : cfg0.N = 112 := N_0
  have hp : Value.pt6Of (ix2 s d) = 56 * (s.val / 1024) + 28 * (d.val / 1024) + 27 := by
    show 28 * (2 * (s.val / 1024 - 0) + 1 * (d.val / 1024 - 0)) + 27 = _
    omega
  have hl : Value.loc6Of (ix2 s d) = ix2 (⟨s.val % 1024, by omega⟩ : Fin 1024) (⟨d.val % 1024, by omega⟩ : Fin 1024) := by
    funext a
    match a with
    | ⟨0, _⟩ => rfl
    | ⟨1, _⟩ => rfl
  unfold Value.G6
  rw [dif_pos (by rw [hp]; omega), hl, Value.fold0_congr m c _ _ _ (by omega) hp, ← Value.outsAt0_sweep m c _ (by omega), (inv _ _).res (by omega)]
  rw [show (56 * (s.val / 1024) + 28 * (d.val / 1024) + 27) % 28 + 1 = 28 by omega]
  have e1 : row (56 * (s.val / 1024) + 28 * (d.val / 1024) + 27) ⟨s.val % 1024, by omega⟩ = s :=
    Fin.ext (by show (56 * (s.val / 1024) + 28 * (d.val / 1024) + 27) / 56 % 2 * 1024 + s.val % 1024 = s.val; omega)
  have e2 : lane (56 * (s.val / 1024) + 28 * (d.val / 1024) + 27) ⟨d.val % 1024, by omega⟩ = d :=
    Fin.ext (by show (56 * (s.val / 1024) + 28 * (d.val / 1024) + 27) / 28 % 2 * 1024 + d.val % 1024 = d.val; omega)
  unfold term
  rw [e1, e2]
  exact sum28 fun e => col m c s e * wt m c d e

end DhVal

end
-- ==== Proof.DhClaim.lean ====
/- The claims about the gradient of the input projection's argument. -/
module

public import proofs.«01_k».proof.Defs
public import proofs.«01_k».proof.Proof.Gen.Dh.Frame
public import proofs.«01_k».proof.Proof.DhVal
public import proofs.«01_k».proof.Proof.Gen.DhRefIdeal.Run
public import proofs.«01_k».proof.Proof.Gen.DhRefIdeal.Read
public import Idealize.ShloMosaic.Adequacy
public import Idealize.ShloMosaic.Init

@[expose] public section

set_option maxRecDepth 16384

noncomputable section

namespace DhClaim

open Idealize.ShloMosaic Idealize.ShloMosaic.TcCoe Idealize.SL.Sem ProdSeg

theorem frame_p : Cert.quiescent_Dh (hDh := Cert.Dh.Gen.facts) := fun m ρ _ => Cert.Dh.Gen.frame m ρ

theorem frame_pi : Cert.quiescent_DhIdeal (hDhIdeal := Cert.DhIdeal.Gen.facts) := fun m ρ _ => Cert.DhIdeal.Gen.frame m ρ

theorem frame_ri : Cert.quiescent_DhRefIdeal (hDhRefIdeal := Cert.DhRefIdeal.Gen.facts) := fun m ρ _ =>
  (θ_run Cert.DhRefIdeal.defs _ _).mono (fun r h => ⟨fun c => (h c).2,
      Idealize.ShloMosaic.sem_eq_zero_of_no_sems (by decide) r.2⟩)
    (Cert.DhRefIdeal.Value.run (F := Ideal) m ρ)

section
open Cert.DhRefIdeal Cert.DhRefIdeal.Read

variable (x1 x2 x3 : Arr 2048 3072) (x4 : Arr 2048 1024) (x5 : Arr 2048 4096) (w : (⟨4, ![4, 2, 1024, 3584]⟩ : Shape).Idx → EReal)

theorem ref_cat (s : Fin 2048) (e : Fin 14336) : val_main_v3 (F := Ideal) x1 x2 x3 x4 x5 (ix2 s e) = cat x1 x2 x3 x4 x5 s e.val := by
  pointwise [val_main_v3]
  by_cases h1 : e.val < 3072
  · rw [dif_pos h1]
    exact (cat1 x1 x2 x3 x4 x5 s e.val ⟨e.val, h1⟩ rfl).symm
  rw [dif_neg h1]
  by_cases h2 : e.val - 3072 < 3072
  · rw [dif_pos h2]
    exact (cat2 x1 x2 x3 x4 x5 s e.val ⟨e.val - 3072, h2⟩ (by dsimp only; omega)).symm
  rw [dif_neg h2]
  by_cases h3 : e.val - 3072 - 3072 < 3072
  · rw [dif_pos h3]
    exact (cat3 x1 x2 x3 x4 x5 s e.val ⟨e.val - 3072 - 3072, h3⟩ (by dsimp only; omega)).symm
  rw [dif_neg h3]
  by_cases h4 : e.val - 3072 - 3072 - 3072 < 1024
  · rw [dif_pos h4]
    exact (cat4 x1 x2 x3 x4 x5 s e.val ⟨e.val - 3072 - 3072 - 3072, h4⟩ (by dsimp only; omega)).symm
  rw [dif_neg h4]
  exact (cat5 x1 x2 x3 x4 x5 s e.val ⟨e.val - 3072 - 3072 - 3072 - 1024, by omega⟩ (by dsimp only; omega)).symm

theorem ref_wt (d : Fin 2048) (e : Fin 14336) : val_main_v1 (F := Ideal) w (ix2 d e) = slot w d e.val := by
  rw [val_main_v1_apply, val_main_v0_apply]
  refine congrArg w ?_
  funext k; apply Fin.ext
  match k with
  | ⟨0, _⟩ => show (d.val * 14336 + e.val) / 3584 % 4 = e.val / 3584 % 4; omega
  | ⟨1, _⟩ => show (d.val * 14336 + e.val) / 14680064 = d.val / 1024; omega
  | ⟨2, _⟩ => show (d.val * 14336 + e.val) / 14336 % 1024 = d.val % 1024; omega
  | ⟨3, _⟩ => show (d.val * 14336 + e.val) % 3584 = e.val % 3584; omega

theorem ref_val (s d : Fin 2048) : val_main_v5 (F := Ideal) x1 x2 x3 x4 x5 w (ix2 s d) =
    ∑ e : Fin 14336, cat x1 x2 x3 x4 x5 s e.val * slot w d e.val := by
  rw [val_main_v5_apply]
  refine Finset.sum_congr rfl fun e _ => congrArg₂ (· * ·) ?_ ?_
  · refine (val_main_v4_apply (F := Ideal) x1 x2 x3 x4 x5 _).trans ?_
    refine Eq.trans ?_ (ref_cat x1 x2 x3 x4 x5 s e)
    refine congrArg (val_main_v3 (F := Ideal) x1 x2 x3 x4 x5) ?_
    funext k
    match k with
    | ⟨0, _⟩ => rfl
    | ⟨1, _⟩ => rfl
  · refine (val_main_v2_apply (F := Ideal) w _).trans ?_
    refine Eq.trans ?_ (ref_wt w d e)
    refine congrArg (val_main_v1 (F := Ideal) w) ?_
    funext k
    match k with
    | ⟨0, _⟩ => rfl
    | ⟨1, _⟩ => rfl

end

theorem algebraic : Cert.algebraic_DhIdeal_DhRefIdeal (hDhIdeal := Cert.DhIdeal.Gen.facts)
    (hDhRefIdeal := Cert.DhRefIdeal.Gen.facts) := by
  intro m ρ m' ρ' _ hag
  refine ⟨fun c => Cert.DhIdeal.Value.G6 m c, Cert.DhIdeal.Value.run (F := Ideal) m ρ,
    (θ_run Cert.DhRefIdeal.defs _ _).mono (fun r h c => ⟨?_, (h c).2⟩) (Cert.DhRefIdeal.Value.run (F := Ideal) m' ρ')⟩
  obtain ⟨a0, a1, a2, a3, a4, a5⟩ := hag c
  refine ((h c).1.trans (Cert.DhRefIdeal.Read.val_main_v5_eq _ _ _ _ _ _)).trans ?_
  rw [a0, a1, a2, a3, a4, a5]
  funext i
  rw [eq_ix2 i]
  exact (ref_val _ _ _ _ _ _ _ _).trans (DhVal.G_eq m c _ _).symm

end DhClaim

end
-- ==== Proof.ProdSegDn.lean ====
/- Six blocks of columns laid side by side: the gradient of the first layer's input projection's 11776 columns. -/
module

public import proofs.«01_k».proof.Proof.ProdSeg

@[expose] public section

noncomputable section

namespace ProdSeg

open Idealize.ShloMosaic

/-- Entry `e` of row `r` of the six blocks of columns side by side. -/
def six (x1 x2 : Arr 2048 1536) (x3 : Arr 2048 3072) (x4 : Arr 2048 1024) (x5 : Arr 2048 4096) (x6 : Arr 2048 512) (r : Fin 2048) (e : ℕ) : EReal :=
  if h : e < 1536 then x1 (ix2 r ⟨e, h⟩)
  else if h : e - 1536 < 1536 then x2 (ix2 r ⟨e - 1536, h⟩)
  else if h : e - 3072 < 3072 then x3 (ix2 r ⟨e - 3072, h⟩)
  else if h : e - 6144 < 1024 then x4 (ix2 r ⟨e - 6144, h⟩)
  else if h : e - 7168 < 4096 then x5 (ix2 r ⟨e - 7168, h⟩)
  else if h : e - 11264 < 512 then x6 (ix2 r ⟨e - 11264, h⟩)
  else 0

variable (x1 x2 : Arr 2048 1536) (x3 : Arr 2048 3072) (x4 : Arr 2048 1024) (x5 : Arr 2048 4096) (x6 : Arr 2048 512) (r : Fin 2048) (e : ℕ)

theorem six1 (j : Fin 1536) (h : e = j.val) : six x1 x2 x3 x4 x5 x6 r e = x1 (ix2 r j) := by
  subst h
  unfold six
  rw [dif_pos j.isLt]

theorem six2 (j : Fin 1536) (h : e = 1536 + j.val) : six x1 x2 x3 x4 x5 x6 r e = x2 (ix2 r j) := by
  subst h
  unfold six
  rw [dif_neg (by omega), dif_pos (by omega)]
  exact congrArg (fun k => x2 (ix2 r k)) (Fin.ext (by dsimp only; omega))

theorem six3 (j : Fin 3072) (h : e = 3072 + j.val) : six x1 x2 x3 x4 x5 x6 r e = x3 (ix2 r j) := by
  subst h
  unfold six
  rw [dif_neg (by omega), dif_neg (by omega), dif_pos (by omega)]
  exact congrArg (fun k => x3 (ix2 r k)) (Fin.ext (by dsimp only; omega))

theorem six4 (j : Fin 1024) (h : e = 6144 + j.val) : six x1 x2 x3 x4 x5 x6 r e = x4 (ix2 r j) := by
  subst h
  unfold six
  rw [dif_neg (by omega), dif_neg (by omega), dif_neg (by omega), dif_pos (by omega)]
  exact congrArg (fun k => x4 (ix2 r k)) (Fin.ext (by dsimp only; omega))

theorem six5 (j : Fin 4096) (h : e = 7168 + j.val) : six x1 x2 x3 x4 x5 x6 r e = x5 (ix2 r j) := by
  subst h
  unfold six
  rw [dif_neg (by omega), dif_neg (by omega), dif_neg (by omega), dif_neg (by omega), dif_pos (by omega)]
  exact congrArg (fun k => x5 (ix2 r k)) (Fin.ext (by dsimp only; omega))

theorem six6 (j : Fin 512) (h : e = 11264 + j.val) : six x1 x2 x3 x4 x5 x6 r e = x6 (ix2 r j) := by
  subst h
  unfold six
  rw [dif_neg (by omega), dif_neg (by omega), dif_neg (by omega), dif_neg (by omega), dif_neg (by omega), dif_pos (by omega)]
  exact congrArg (fun k => x6 (ix2 r k)) (Fin.ext (by dsimp only; omega))

/-- Entry `(d, e)` of a matrix of 11776 columns. -/
def right (w : Arr 2048 11776) (d : Fin 2048) (e : ℕ) : EReal := w (ix2 d (⟨e % 11776, by omega⟩ : Fin 11776))

/-- A sum over 23 blocks of 512 is the sum over all 11776. -/
theorem sum23 (f : ℕ → EReal) : ∑ k ∈ Finset.range 23, ∑ q : Fin 512, f (k * 512 + q.val) = ∑ e : Fin 11776, f e.val := by
  rw [Finset.sum_range]
  exact Fin.sum_mul_add_fin 23 512 fun e => f e.val

end ProdSeg

end
-- ==== Proof.WinDnVal.lean ====
/- The gradient of the first layer's input projection's matrix: what each grid point writes, and the whole array, as one
   sum per entry. -/
module

public import proofs.«01_k».proof.Proof.ProdSegDn
public import proofs.«01_k».proof.Proof.Gen.WinDnIdeal.Value
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 16384

noncomputable section

namespace WinDnVal

open Idealize.ShloMosaic Idealize.ShloMosaic.TcCoe Cert.WinDnIdeal Cert.WinDnIdeal.Gen ProdSeg

/-- A block of the product: the sum over the rows. -/
theorem pay (x : Vec Ideal S2048x1024 .bf16) (y : Vec Ideal S2048x512 .bf16) (r : Fin 1024) (e : Fin 512) :
    k0_pay1 x y (ix2 r e) = ∑ s : Fin 2048, x (ix2 s r) * y (ix2 s e) := by
  pointwise [k0_pay1]
  try simp

theorem idx0 : ∀ t : Fin cfg0.N, win0_0.index t 0 = 0 ∧ win0_0.index t 1 = t.val / 23 := by decide +kernel
theorem idx1 : ∀ t : Fin cfg0.N, t.val % 23 ≤ 2 → win0_1.index t 0 = 0 ∧ win0_1.index t 1 = t.val % 23 := by decide +kernel
theorem idx2 : ∀ t : Fin cfg0.N, 3 ≤ t.val % 23 ∧ t.val % 23 ≤ 5 → win0_2.index t 0 = 0 ∧ win0_2.index t 1 = t.val % 23 - 3 := by decide +kernel
theorem idx3 : ∀ t : Fin cfg0.N, 6 ≤ t.val % 23 ∧ t.val % 23 ≤ 11 → win0_3.index t 0 = 0 ∧ win0_3.index t 1 = t.val % 23 - 6 := by decide +kernel
theorem idx4 : ∀ t : Fin cfg0.N, 12 ≤ t.val % 23 ∧ t.val % 23 ≤ 13 → win0_4.index t 0 = 0 ∧ win0_4.index t 1 = t.val % 23 - 12 := by decide +kernel
theorem idx5 : ∀ t : Fin cfg0.N, 14 ≤ t.val % 23 ∧ t.val % 23 ≤ 21 → win0_5.index t 0 = 0 ∧ win0_5.index t 1 = t.val % 23 - 14 := by decide +kernel
theorem idx6 : ∀ t : Fin cfg0.N, t.val % 23 = 22 → win0_6.index t 0 = 0 ∧ win0_6.index t 1 = t.val % 23 - 22 := by decide +kernel
theorem idx7 : ∀ t : Fin cfg0.N, win0_7.index t 0 = t.val / 23 ∧ win0_7.index t 1 = t.val % 23 := by decide +kernel

variable (m : (ℓ : Loc nD τ sig) → Buf (Elt Ideal) ℓ) (c : Dev nD) (t : Fin cfg0.N)

theorem low : t.val < 46 := lt_of_lt_of_eq t.isLt N_0

theorem blk0 (s : Fin 2048) (r : Fin 1024) : iblk m c 0 t (ix2 s r) =
    m ((c : Thread nD τ).loc main_arg0) (ix2 s (⟨t.val / 23 * 1024 + r.val, by have := low t; omega⟩ : Fin 2048)) := by
  blk_ext [iblk, V, idx0 t]
theorem blk1 (h : t.val % 23 ≤ 2) (s : Fin 2048) (e : Fin 512) : iblk m c 1 t (ix2 s e) =
    m ((c : Thread nD τ).loc main_arg1) (ix2 s (⟨(t.val % 23) * 512 + e.val, by omega⟩ : Fin 1536)) := by
  blk_ext [iblk, V, idx1 t h]
theorem blk2 (h : 3 ≤ t.val % 23 ∧ t.val % 23 ≤ 5) (s : Fin 2048) (e : Fin 512) : iblk m c 2 t (ix2 s e) =
    m ((c : Thread nD τ).loc main_arg2) (ix2 s (⟨(t.val % 23 - 3) * 512 + e.val, by omega⟩ : Fin 1536)) := by
  blk_ext [iblk, V, idx2 t h]
theorem blk3 (h : 6 ≤ t.val % 23 ∧ t.val % 23 ≤ 11) (s : Fin 2048) (e : Fin 512) : iblk m c 3 t (ix2 s e) =
    m ((c : Thread nD τ).loc main_arg3) (ix2 s (⟨(t.val % 23 - 6) * 512 + e.val, by omega⟩ : Fin 3072)) := by
  blk_ext [iblk, V, idx3 t h]
theorem blk4 (h : 12 ≤ t.val % 23 ∧ t.val % 23 ≤ 13) (s : Fin 2048) (e : Fin 512) : iblk m c 4 t (ix2 s e) =
    m ((c : Thread nD τ).loc main_arg4) (ix2 s (⟨(t.val % 23 - 12) * 512 + e.val, by omega⟩ : Fin 1024)) := by
  blk_ext [iblk, V, idx4 t h]
theorem blk5 (h : 14 ≤ t.val % 23 ∧ t.val % 23 ≤ 21) (s : Fin 2048) (e : Fin 512) : iblk m c 5 t (ix2 s e) =
    m ((c : Thread nD τ).loc main_arg5) (ix2 s (⟨(t.val % 23 - 14) * 512 + e.val, by omega⟩ : Fin 4096)) := by
  blk_ext [iblk, V, idx5 t h]
theorem blk6 (h : t.val % 23 = 22) (s : Fin 2048) (e : Fin 512) : iblk m c 6 t (ix2 s e) =
    m ((c : Thread nD τ).loc main_arg6) (ix2 s (⟨(t.val % 23 - 22) * 512 + e.val, by omega⟩ : Fin 512)) := by
  blk_ext [iblk, V, idx6 t h]

/-- Entry `e` of row `s` of the columns' gradient. -/
abbrev col (s : Fin 2048) (e : ℕ) : EReal :=
  six (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) s e

/-- Entry `j` of row `s` of the left factor. -/
abbrev row (s j : Fin 2048) : EReal := m ((c : Thread nD τ).loc main_arg0) (ix2 s j)

/-- The product. -/
def G : S2048x11776.Idx → EReal := fun i => ∑ s : Fin 2048, row m c s (i 0) * col m c s (i 1).val

/-- What a grid point leaves in the result's block. -/
theorem out (r : Fin 1024) (e : Fin 512) : outsAt0 m c t.val t.isLt (ix2 r e) =
    ∑ s : Fin 2048, row m c s (⟨t.val / 23 * 1024 + r.val, by have := low t; omega⟩ : Fin 2048) *
      col m c s (t.val % 23 * 512 + e.val) := by
  have e0 := blk0 m c t
  by_cases hA : t.val % 23 ≤ 2
  · rw [outsAt0_A m c t hA (by omega) (by omega) (by omega) (by omega) (by omega)]
    frame_out
    refine (pay _ _ r e).trans (Finset.sum_congr rfl fun s _ => ?_)
    rw [e0, blk1 m c t hA]
    exact congrArg (row m c s _ * ·) (six1 _ _ _ _ _ _ _ _ (⟨(t.val % 23) * 512 + e.val, by omega⟩ : Fin 1536) rfl).symm
  by_cases hB : t.val % 23 ≤ 5
  · rw [outsAt0_B m c t hA (by omega) (by omega) (by omega) (by omega) (by omega)]
    frame_out
    refine (pay _ _ r e).trans (Finset.sum_congr rfl fun s _ => ?_)
    rw [e0, blk2 m c t (by omega)]
    exact congrArg (row m c s _ * ·) (six2 _ _ _ _ _ _ _ _ (⟨(t.val % 23 - 3) * 512 + e.val, by omega⟩ : Fin 1536) (by dsimp only; omega)).symm
  by_cases hC : t.val % 23 ≤ 11
  · rw [outsAt0_C m c t hA (by omega) (by omega) (by omega) (by omega) (by omega)]
    frame_out
    refine (pay _ _ r e).trans (Finset.sum_congr rfl fun s _ => ?_)
    rw [e0, blk3 m c t (by omega)]
    exact congrArg (row m c s _ * ·) (six3 _ _ _ _ _ _ _ _ (⟨(t.val % 23 - 6) * 512 + e.val, by omega⟩ : Fin 3072) (by dsimp only; omega)).symm
  by_cases hD : t.val % 23 ≤ 13
  · rw [outsAt0_D m c t hA (by omega) (by omega) (by omega) (by omega) (by omega)]
    frame_out
    refine (pay _ _ r e).trans (Finset.sum_congr rfl fun s _ => ?_)
    rw [e0, blk4 m c t (by omega)]
    exact congrArg (row m c s _ * ·) (six4 _ _ _ _ _ _ _ _ (⟨(t.val % 23 - 12) * 512 + e.val, by omega⟩ : Fin 1024) (by dsimp only; omega)).symm
  by_cases hE : t.val % 23 ≤ 21
  · rw [outsAt0_E m c t hA (by omega) (by omega) (by omega) (by omega) (by omega)]
    frame_out
    refine (pay _ _ r e).trans (Finset.sum_congr rfl fun s _ => ?_)
    rw [e0, blk5 m c t (by omega)]
    exact congrArg (row m c s _ * ·) (six5 _ _ _ _ _ _ _ _ (⟨(t.val % 23 - 14) * 512 + e.val, by omega⟩ : Fin 4096) (by dsimp only; omega)).symm
  · rw [outsAt0_F m c t hA (by omega) (by omega) (by omega) (by omega) (by omega)]
    frame_out
    refine (pay _ _ r e).trans (Finset.sum_congr rfl fun s _ => ?_)
    rw [e0, blk6 m c t (by omega)]
    exact congrArg (row m c s _ * ·) (six6 _ _ _ _ _ _ _ _ (⟨(t.val % 23 - 22) * 512 + e.val, by omega⟩ : Fin 512) (by dsimp only; omega)).symm

theorem flushed : (dats m 0 c).flushed 7 t = ((cfg0.win 7).blk t).view.read (Elt Ideal) (G m c) := by
  rw [Value.flushed7]
  have O := out m c t
  generalize outsAt0 m c t.val t.isLt = o at O
  obtain ⟨i0, i1⟩ := idx7 t
  funext y
  have hy0 : (y 0).val < 1024 := (y 0).isLt
  have hy1 : (y 1).val < 512 := (y 1).isLt
  have hb0 : (((cfg0.win 7).blk t).view.emb y 0).val = win0_7.index t 0 * 1024 + 1 * (y 0).val := rfl
  have hb1 : (((cfg0.win 7).blk t).view.emb y 1).val = win0_7.index t 1 * 512 + 1 * (y 1).val := rfl
  have hx : (cfg0.win 7).xinj (grid0.coords t) y = (ix2 (⟨(y 0).val, hy0⟩ : Fin 1024) (⟨(y 1).val, hy1⟩ : Fin 512) : S1024x512.Idx) := by
    funext a; apply Fin.ext
    match a with
    | ⟨0, _⟩ => rfl
    | ⟨1, _⟩ => rfl
  show o ((cfg0.win 7).xinj (grid0.coords t) y) = G m c (((cfg0.win 7).blk t).view.emb y)
  rw [hx, O]
  unfold G
  refine Finset.sum_congr rfl fun s _ => congrArg₂ (· * ·) (congrArg (row m c s) (Fin.ext ?_)) (congrArg _ ?_)
  · rw [hb0, i0]
    dsimp only
    omega
  · rw [hb1, i1]
    dsimp only
    omega

theorem mem_blk (i : S2048x11776.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v0).slice (win0_7.rect t)).set ↔ _
  rw [View.set_slice_whole, Rect.mem_set_unit]
  exact Iff.rfl

/-- The array after the run. -/
theorem arr : (dats m 0 c).arrAt 7 cfg0.N = G m c :=
  (dats m 0 c).arrAt_eq_of_cover 7 _ (fun t _ => flushed m c t) (fun i => by
    have h0 : (i 0).val < 2048 := (i 0).isLt
    have h1 : (i 1).val < 11776 := (i 1).isLt
    have hp : (i 0).val / 1024 * 23 + (i 1).val / 512 < 46 := by omega
    refine ⟨⟨(i 0).val / 1024 * 23 + (i 1).val / 512, lt_of_lt_of_eq hp N_0.symm⟩, flush0_7 _, ?_⟩
    rw [mem_blk]
    obtain ⟨e0, e1⟩ := idx7 ⟨(i 0).val / 1024 * 23 + (i 1).val / 512, lt_of_lt_of_eq hp N_0.symm⟩
    intro a
    match a with
    | ⟨0, _⟩ =>
      show win0_7.index _ 0 * 1024 ≤ (i 0).val ∧ (i 0).val < win0_7.index _ 0 * 1024 + 1024
      rw [e0]; dsimp only; omega
    | ⟨1, _⟩ =>
      show win0_7.index _ 1 * 512 ≤ (i 1).val ∧ (i 1).val < win0_7.index _ 1 * 512 + 512
      rw [e1]; dsimp only; omega)

end WinDnVal

end
-- ==== Proof.WinDnClaim.lean ====
/- The claims about the gradient of the first layer's input projection's matrix. -/
module

public import proofs.«01_k».proof.Defs
public import proofs.«01_k».proof.Proof.Gen.WinDn.Frame
public import proofs.«01_k».proof.Proof.WinDnVal
public import proofs.«01_k».proof.Proof.Gen.WinDnRefIdeal.Run
public import proofs.«01_k».proof.Proof.Gen.WinDnRefIdeal.Read
public import Idealize.ShloMosaic.Adequacy
public import Idealize.ShloMosaic.Init

@[expose] public section

set_option maxRecDepth 16384

noncomputable section

namespace WinDnClaim

open Idealize.ShloMosaic Idealize.ShloMosaic.TcCoe Idealize.SL.Sem ProdSeg

theorem frame_p : Cert.quiescent_WinDn (hWinDn := Cert.WinDn.Gen.facts) := fun m ρ _ => Cert.WinDn.Gen.frame m ρ

theorem frame_pi : Cert.quiescent_WinDnIdeal (hWinDnIdeal := Cert.WinDnIdeal.Gen.facts) := fun m ρ _ => Cert.WinDnIdeal.Gen.frame m ρ

theorem frame_ri : Cert.quiescent_WinDnRefIdeal (hWinDnRefIdeal := Cert.WinDnRefIdeal.Gen.facts) := fun m ρ _ =>
  (θ_run Cert.WinDnRefIdeal.defs _ _).mono (fun r h => ⟨fun c => (h c).2,
      Idealize.ShloMosaic.sem_eq_zero_of_no_sems (by decide) r.2⟩)
    (Cert.WinDnRefIdeal.Value.run (F := Ideal) m ρ)

section
open Cert.WinDnRefIdeal Cert.WinDnRefIdeal.Read

variable (x0 : Arr 2048 2048) (x1 x2 : Arr 2048 1536) (x3 : Arr 2048 3072) (x4 : Arr 2048 1024) (x5 : Arr 2048 4096) (x6 : Arr 2048 512)

theorem ref_cat (s : Fin 2048) (e : Fin 11776) : val_main_v1 (F := Ideal) x1 x2 x3 x4 x5 x6 (ix2 s e) = six x1 x2 x3 x4 x5 x6 s e.val := by
  pointwise [val_main_v1]
  by_cases h1 : e.val < 1536
  · rw [dif_pos h1]
    exact (six1 x1 x2 x3 x4 x5 x6 s e.val ⟨e.val, h1⟩ rfl).symm
  rw [dif_neg h1]
  by_cases h2 : e.val - 1536 < 1536
  · rw [dif_pos h2]
    exact (six2 x1 x2 x3 x4 x5 x6 s e.val ⟨e.val - 1536, h2⟩ (by dsimp only; omega)).symm
  rw [dif_neg h2]
  by_cases h3 : e.val - 1536 - 1536 < 3072
  · rw [dif_pos h3]
    exact (six3 x1 x2 x3 x4 x5 x6 s e.val ⟨e.val - 1536 - 1536, h3⟩ (by dsimp only; omega)).symm
  rw [dif_neg h3]
  by_cases h4 : e.val - 1536 - 1536 - 3072 < 1024
  · rw [dif_pos h4]
    exact (six4 x1 x2 x3 x4 x5 x6 s e.val ⟨e.val - 1536 - 1536 - 3072, h4⟩ (by dsimp only; omega)).symm
  rw [dif_neg h4]
  by_cases h5 : e.val - 1536 - 1536 - 3072 - 1024 < 4096
  · rw [dif_pos h5]
    exact (six5 x1 x2 x3 x4 x5 x6 s e.val ⟨e.val - 1536 - 1536 - 3072 - 1024, h5⟩ (by dsimp only; omega)).symm
  rw [dif_neg h5]
  exact (six6 x1 x2 x3 x4 x5 x6 s e.val ⟨e.val - 1536 - 1536 - 3072 - 1024 - 4096, by omega⟩ (by dsimp only; omega)).symm

theorem ref_val (d : Fin 2048) (e : Fin 11776) : val_main_v5 (F := Ideal) x0 x1 x2 x3 x4 x5 x6 (ix2 d e) =
    ∑ s : Fin 2048, x0 (ix2 s d) * six x1 x2 x3 x4 x5 x6 s e.val := by
  have hi : idx_main_v4 (ix2 d e) = (ix2 e d : S11776x2048.Idx) := by
    funext k
    match k with
    | ⟨0, _⟩ => rfl
    | ⟨1, _⟩ => rfl
  rw [val_main_v5_apply, val_main_v4_apply, hi, val_main_v3_apply]
  refine Finset.sum_congr rfl fun s _ => (mul_comm _ _).trans (congrArg₂ (· * ·) ?_ ?_)
  · refine (val_main_v0_apply (F := Ideal) x0 _).trans (congrArg x0 ?_)
    funext k
    match k with
    | ⟨0, _⟩ => rfl
    | ⟨1, _⟩ => rfl
  · refine (val_main_v2_apply (F := Ideal) x1 x2 x3 x4 x5 x6 _).trans ?_
    refine Eq.trans ?_ (ref_cat x1 x2 x3 x4 x5 x6 s e)
    refine congrArg (val_main_v1 (F := Ideal) x1 x2 x3 x4 x5 x6) ?_
    funext k
    match k with
    | ⟨0, _⟩ => rfl
    | ⟨1, _⟩ => rfl

end

theorem algebraic : Cert.algebraic_WinDnIdeal_WinDnRefIdeal (hWinDnIdeal := Cert.WinDnIdeal.Gen.facts)
    (hWinDnRefIdeal := Cert.WinDnRefIdeal.Gen.facts) := by
  intro m ρ m' ρ' _ hag
  refine ⟨fun c => WinDnVal.G m c,
    (θ_run Cert.WinDnIdeal.defs _ _).mono (fun r h c => ⟨(h c).1.trans (WinDnVal.arr m c), (h c).2⟩) (Cert.WinDnIdeal.Value.run_blocks (F := Ideal) m ρ),
    (θ_run Cert.WinDnRefIdeal.defs _ _).mono (fun r h c => ⟨?_, (h c).2⟩) (Cert.WinDnRefIdeal.Value.run (F := Ideal) m' ρ')⟩
  obtain ⟨a0, a1, a2, a3, a4, a5, a6⟩ := hag c
  refine ((h c).1.trans (Cert.WinDnRefIdeal.Read.val_main_v5_eq _ _ _ _ _ _ _)).trans ?_
  rw [a0, a1, a2, a3, a4, a5, a6]
  funext i
  rw [eq_ix2 i]
  exact ref_val _ _ _ _ _ _ _ _ _

end WinDnClaim

end
-- ==== Proof.DhDnVal.lean ====
/- The gradient of the first layer's input projection's argument: what the carried sum holds after each grid point, and the whole array, as
   one sum per entry. -/
module

public import proofs.«01_k».proof.Proof.ProdSegDn
public import proofs.«01_k».proof.Proof.Gen.DhDnIdeal.Value
public import Idealize.ShloMosaic.Lib.Tactic
public import Idealize.ShloMosaic.Lib.Pointwise
public import Idealize.ShloMosaic.Lib.Pipeline.ValueKit
public import Idealize.ShloMosaic.Lib.Pipeline.ReadBack

@[expose] public section

set_option maxRecDepth 16384

noncomputable section

namespace DhDnVal

open Idealize.ShloMosaic Idealize.ShloMosaic.TcCoe Cert.DhDnIdeal Cert.DhDnIdeal.Gen ProdSeg

/-- The sum starts at zero. -/
theorem pay0 (r e : Fin 1024) : k0_pay2 (F := Ideal) (ix2 r e) = 0 := by
  pointwise [k0_pay2]
  try rfl

/-- What a grid point adds to the sum. -/
theorem pay (a : Vec Ideal S1024x1024 .f32) (x y : Vec Ideal S1024x512 .bf16) (r e : Fin 1024) :
    k0_pay1 a x y (ix2 r e) = a (ix2 r e) + ∑ q : Fin 512, x (ix2 r q) * y (ix2 e q) := by
  pointwise [k0_pay1]
  try simp

theorem idx0 : ∀ t : Fin cfg0.N, t.val % 23 ≤ 2 → win0_0.index t 0 = t.val / 46 ∧ win0_0.index t 1 = t.val % 23 := by decide +kernel
theorem idx1 : ∀ t : Fin cfg0.N, 3 ≤ t.val % 23 ∧ t.val % 23 ≤ 5 → win0_1.index t 0 = t.val / 46 ∧ win0_1.index t 1 = (t.val % 23 - 3) := by decide +kernel
theorem idx2 : ∀ t : Fin cfg0.N, 6 ≤ t.val % 23 ∧ t.val % 23 ≤ 11 → win0_2.index t 0 = t.val / 46 ∧ win0_2.index t 1 = (t.val % 23 - 6) := by decide +kernel
theorem idx3 : ∀ t : Fin cfg0.N, 12 ≤ t.val % 23 ∧ t.val % 23 ≤ 13 → win0_3.index t 0 = t.val / 46 ∧ win0_3.index t 1 = (t.val % 23 - 12) := by decide +kernel
theorem idx4 : ∀ t : Fin cfg0.N, 14 ≤ t.val % 23 ∧ t.val % 23 ≤ 21 → win0_4.index t 0 = t.val / 46 ∧ win0_4.index t 1 = (t.val % 23 - 14) := by decide +kernel
theorem idx5 : ∀ t : Fin cfg0.N, t.val % 23 = 22 → win0_5.index t 0 = t.val / 46 ∧ win0_5.index t 1 = (t.val % 23 - 22) := by decide +kernel
theorem idx6 : ∀ t : Fin cfg0.N, win0_6.index t 0 = t.val / 23 % 2 ∧ win0_6.index t 1 = t.val % 23 := by decide +kernel

variable (m : (ℓ : Loc nD τ sig) → Buf (Elt Ideal) ℓ) (c : Dev nD)

/-- Entry `e` of row `s` of the columns' gradient. -/
abbrev col (s : Fin 2048) (e : ℕ) : EReal :=
  six (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) s e
/-- Entry `(d, e)` of the matrix. -/
abbrev wt (d : Fin 2048) (e : ℕ) : EReal := right (m ((c : Thread nD τ).loc main_arg6)) d e

/-- The row of the result at place `r` of the block of point `n`. -/
def row (n : ℕ) (r : Fin 1024) : Fin 2048 := ⟨n / 46 % 2 * 1024 + r.val, by omega⟩
/-- The column of the result at place `e` of the block of point `n`. -/
def lane (n : ℕ) (e : Fin 1024) : Fin 2048 := ⟨n / 23 % 2 * 1024 + e.val, by omega⟩

/-- What point `n` adds. -/
def term (n : ℕ) (r e : Fin 1024) (k : ℕ) : EReal := ∑ q : Fin 512, col m c (row n r) (k * 512 + q.val) * wt m c (lane n e) (k * 512 + q.val)

section
variable (t : Fin cfg0.N)
theorem low : t.val < 92 := lt_of_lt_of_eq t.isLt N_0

theorem blk0 (h : t.val % 23 ≤ 2) (r : Fin 1024) (e : Fin 512) : iblk m c 0 t (ix2 r e) =
    m ((c : Thread nD τ).loc main_arg0) (ix2 (row t.val r) (⟨t.val % 23 * 512 + e.val, by omega⟩ : Fin 1536)) := by
  have := low t
  unfold row
  blk_ext [iblk, V, idx0 t h]
theorem blk1 (h : 3 ≤ t.val % 23 ∧ t.val % 23 ≤ 5) (r : Fin 1024) (e : Fin 512) : iblk m c 1 t (ix2 r e) =
    m ((c : Thread nD τ).loc main_arg1) (ix2 (row t.val r) (⟨(t.val % 23 - 3) * 512 + e.val, by omega⟩ : Fin 1536)) := by
  have := low t
  unfold row
  blk_ext [iblk, V, idx1 t h]
theorem blk2 (h : 6 ≤ t.val % 23 ∧ t.val % 23 ≤ 11) (r : Fin 1024) (e : Fin 512) : iblk m c 2 t (ix2 r e) =
    m ((c : Thread nD τ).loc main_arg2) (ix2 (row t.val r) (⟨(t.val % 23 - 6) * 512 + e.val, by omega⟩ : Fin 3072)) := by
  have := low t
  unfold row
  blk_ext [iblk, V, idx2 t h]
theorem blk3 (h : 12 ≤ t.val % 23 ∧ t.val % 23 ≤ 13) (r : Fin 1024) (e : Fin 512) : iblk m c 3 t (ix2 r e) =
    m ((c : Thread nD τ).loc main_arg3) (ix2 (row t.val r) (⟨(t.val % 23 - 12) * 512 + e.val, by omega⟩ : Fin 1024)) := by
  have := low t
  unfold row
  blk_ext [iblk, V, idx3 t h]
theorem blk4 (h : 14 ≤ t.val % 23 ∧ t.val % 23 ≤ 21) (r : Fin 1024) (e : Fin 512) : iblk m c 4 t (ix2 r e) =
    m ((c : Thread nD τ).loc main_arg4) (ix2 (row t.val r) (⟨(t.val % 23 - 14) * 512 + e.val, by omega⟩ : Fin 4096)) := by
  have := low t
  unfold row
  blk_ext [iblk, V, idx4 t h]
theorem blk5 (h : t.val % 23 = 22) (r : Fin 1024) (e : Fin 512) : iblk m c 5 t (ix2 r e) =
    m ((c : Thread nD τ).loc main_arg5) (ix2 (row t.val r) (⟨(t.val % 23 - 22) * 512 + e.val, by omega⟩ : Fin 512)) := by
  have := low t
  unfold row
  blk_ext [iblk, V, idx5 t h]
theorem blk6 (e : Fin 1024) (q : Fin 512) : iblk m c 6 t (ix2 e q) = wt m c (lane t.val e) (t.val % 23 * 512 + q.val) := by
  have := low t
  unfold wt right lane
  blk_ext [iblk, V, idx6 t]

/-- A point's step, whichever block of columns it reads. -/
theorem step (a : Vec Ideal S1024x1024 .f32) (x : Vec Ideal S1024x512 .bf16)
    (hx : ∀ (r : Fin 1024) (q : Fin 512), x (ix2 r q) = col m c (row t.val r) (t.val % 23 * 512 + q.val)) (r e : Fin 1024) :
    k0_pay1 a x (iblk m c 6 t) (ix2 r e) = a (ix2 r e) + term m c t.val r e (t.val % 23) := by
  rw [pay]
  unfold term
  exact congrArg (a (ix2 r e) + ·) (Finset.sum_congr rfl fun q _ => congrArg₂ (· * ·) (hx r q) (blk6 m c t e q))

theorem col0 (h : t.val % 23 ≤ 2) (r : Fin 1024) (q : Fin 512) : iblk m c 0 t (ix2 r q) = col m c (row t.val r) (t.val % 23 * 512 + q.val) :=
  (blk0 m c t h r q).trans (six1 _ _ _ _ _ _ _ _ (⟨t.val % 23 * 512 + q.val, by omega⟩ : Fin 1536) rfl).symm
theorem col1 (h : 3 ≤ t.val % 23 ∧ t.val % 23 ≤ 5) (r : Fin 1024) (q : Fin 512) : iblk m c 1 t (ix2 r q) = col m c (row t.val r) (t.val % 23 * 512 + q.val) :=
  (blk1 m c t h r q).trans (six2 _ _ _ _ _ _ _ _ (⟨(t.val % 23 - 3) * 512 + q.val, by omega⟩ : Fin 1536) (by dsimp only; omega)).symm
theorem col2 (h : 6 ≤ t.val % 23 ∧ t.val % 23 ≤ 11) (r : Fin 1024) (q : Fin 512) : iblk m c 2 t (ix2 r q) = col m c (row t.val r) (t.val % 23 * 512 + q.val) :=
  (blk2 m c t h r q).trans (six3 _ _ _ _ _ _ _ _ (⟨(t.val % 23 - 6) * 512 + q.val, by omega⟩ : Fin 3072) (by dsimp only; omega)).symm
theorem col3 (h : 12 ≤ t.val % 23 ∧ t.val % 23 ≤ 13) (r : Fin 1024) (q : Fin 512) : iblk m c 3 t (ix2 r q) = col m c (row t.val r) (t.val % 23 * 512 + q.val) :=
  (blk3 m c t h r q).trans (six4 _ _ _ _ _ _ _ _ (⟨(t.val % 23 - 12) * 512 + q.val, by omega⟩ : Fin 1024) (by dsimp only; omega)).symm
theorem col4 (h : 14 ≤ t.val % 23 ∧ t.val % 23 ≤ 21) (r : Fin 1024) (q : Fin 512) : iblk m c 4 t (ix2 r q) = col m c (row t.val r) (t.val % 23 * 512 + q.val) :=
  (blk4 m c t h r q).trans (six5 _ _ _ _ _ _ _ _ (⟨(t.val % 23 - 14) * 512 + q.val, by omega⟩ : Fin 4096) (by dsimp only; omega)).symm
theorem col5 (h : t.val % 23 = 22) (r : Fin 1024) (q : Fin 512) : iblk m c 5 t (ix2 r q) = col m c (row t.val r) (t.val % 23 * 512 + q.val) :=
  (blk5 m c t h r q).trans (six6 _ _ _ _ _ _ _ _ (⟨(t.val % 23 - 22) * 512 + q.val, by omega⟩ : Fin 512) (by dsimp only; omega)).symm
end

/-- What the blocks hold after point `n`: the carried sum so far, and at the last of 23 the result's block too. -/
structure Inv (n : ℕ) (o : Vec Ideal S1024x1024 .f32 × Vec Ideal S1024x1024 .f32) : Prop where
  sc : ∀ r e, o.2 (ix2 r e) = ∑ k ∈ Finset.range (n % 23 + 1), term m c n r e k
  res : n % 23 = 22 → ∀ r e, o.1 (ix2 r e) = ∑ k ∈ Finset.range (n % 23 + 1), term m c n r e k

variable {m c}

/-- One more term of the sum of a run of points. -/
theorem more {n : ℕ} (h : ¬ (n + 1) % 23 = 0) (r e : Fin 1024) :
    (∑ k ∈ Finset.range (n % 23 + 1), term m c n r e k) + term m c (n + 1) r e ((n + 1) % 23)
      = ∑ k ∈ Finset.range ((n + 1) % 23 + 1), term m c (n + 1) r e k := by
  have e1 : (n + 1) % 23 = n % 23 + 1 := by omega
  have e2 : term m c n = term m c (n + 1) := by
    have a1 : row n = row (n + 1) := funext fun r => Fin.ext (by show n / 46 % 2 * 1024 + r.val = (n + 1) / 46 % 2 * 1024 + r.val; omega)
    have a2 : lane n = lane (n + 1) := funext fun r => Fin.ext (by show n / 23 % 2 * 1024 + r.val = (n + 1) / 23 % 2 * 1024 + r.val; omega)
    unfold term
    rw [a1, a2]
  rw [e1, Finset.sum_range_succ _ (n % 23 + 1), e2]

/-- The first term of a run of points. -/
theorem one {n : ℕ} (h : n % 23 = 0) (r e : Fin 1024) :
    0 + term m c n r e (n % 23) = ∑ k ∈ Finset.range (n % 23 + 1), term m c n r e k := by
  rw [h, Finset.sum_range_one, zero_add]

theorem inv : ∀ (n : ℕ) (hn : n < cfg0.N), Inv m c n (outsAt0 m c n hn) := by
  intro n
  have first : ∀ (n : ℕ) (hn : n < cfg0.N), n % 23 = 0 → Inv m c n (outsAt0 m c n hn) := by
    intro n hn h0
    rw [outsAt0_A m c ⟨n, hn⟩ h0 (by dsimp only; omega) (by dsimp only; omega) (by dsimp only; omega) (by dsimp only; omega) (by dsimp only; omega) (by dsimp only; omega) (by dsimp only; omega)]
    frame_out
    refine ⟨fun r e => ?_, fun h => absurd h (by omega)⟩
    refine (step m c ⟨n, hn⟩ _ _ (col0 m c ⟨n, hn⟩ (by dsimp only; omega)) r e).trans ?_
    rw [pay0]
    exact one h0 r e
  induction n with
  | zero => exact fun hn => first 0 hn rfl
  | succ n ih =>
    intro hn
    by_cases h0 : (n + 1) % 23 = 0
    · exact first _ hn h0
    have I := ih (by omega)
    have go : ∀ (x : Vec Ideal S1024x512 .bf16)
        (hx : ∀ (r : Fin 1024) (q : Fin 512), x (ix2 r q) = col m c (row (n + 1) r) ((n + 1) % 23 * 512 + q.val)) (r e : Fin 1024),
        k0_pay1 (outsAt0 m c n (by omega)).2 x (iblk m c 6 ⟨n + 1, hn⟩) (ix2 r e) = ∑ k ∈ Finset.range ((n + 1) % 23 + 1), term m c (n + 1) r e k := by
      intro x hx r e
      rw [step m c ⟨n + 1, hn⟩ _ x hx r e, I.sc r e]
      exact more h0 r e
    by_cases h1 : (n + 1) % 23 ≤ 2
    · rw [outsAt0_B m c ⟨n + 1, hn⟩ h0 h1 (by dsimp only; omega) (by dsimp only; omega) (by dsimp only; omega) (by dsimp only; omega) (by dsimp only; omega) (by dsimp only; omega)]
      frame_out
      simp only [_root_.Idealize.ShloMosaic.read_unread_whole]
      exact ⟨go _ (col0 m c ⟨n + 1, hn⟩ (by dsimp only; omega)), fun h => absurd h (by omega)⟩
    by_cases h2 : (n + 1) % 23 ≤ 5
    · rw [outsAt0_C m c ⟨n + 1, hn⟩ h0 h1 (by dsimp only; omega) (by dsimp only; omega) (by dsimp only; omega) (by dsimp only; omega) (by dsimp only; omega) (by dsimp only; omega)]
      frame_out
      simp only [_root_.Idealize.ShloMosaic.read_unread_whole]
      exact ⟨go _ (col1 m c ⟨n + 1, hn⟩ (by dsimp only; omega)), fun h => absurd h (by omega)⟩
    by_cases h3 : (n + 1) % 23 ≤ 11
    · rw [outsAt0_D m c ⟨n + 1, hn⟩ h0 h1 (by dsimp only; omega) (by dsimp only; omega) (by dsimp only; omega) (by dsimp only; omega) (by dsimp only; omega) (by dsimp only; omega)]
      frame_out
      simp only [_root_.Idealize.ShloMosaic.read_unread_whole]
      exact ⟨go _ (col2 m c ⟨n + 1, hn⟩ (by dsimp only; omega)), fun h => absurd h (by omega)⟩
    by_cases h4 : (n + 1) % 23 ≤ 13
    · rw [outsAt0_E m c ⟨n + 1, hn⟩ h0 h1 (by dsimp only; omega) (by dsimp only; omega) (by dsimp only; omega) (by dsimp only; omega) (by dsimp only; omega) (by dsimp only; omega)]
      frame_out
      simp only [_root_.Idealize.ShloMosaic.read_unread_whole]
      exact ⟨go _ (col3 m c ⟨n + 1, hn⟩ (by dsimp only; omega)), fun h => absurd h (by omega)⟩
    by_cases h5 : (n + 1) % 23 ≤ 21
    · rw [outsAt0_F m c ⟨n + 1, hn⟩ h0 h1 (by dsimp only; omega) (by dsimp only; omega) (by dsimp only; omega) (by dsimp only; omega) (by dsimp only; omega) (by dsimp only; omega)]
      frame_out
      simp only [_root_.Idealize.ShloMosaic.read_unread_whole]
      exact ⟨go _ (col4 m c ⟨n + 1, hn⟩ (by dsimp only; omega)), fun h => absurd h (by omega)⟩
    · rw [outsAt0_G m c ⟨n + 1, hn⟩ h0 h1 (by dsimp only; omega) (by dsimp only; omega) (by dsimp only; omega) (by dsimp only; omega) (by dsimp only; omega) (by dsimp only; omega)]
      frame_out
      simp only [_root_.Idealize.ShloMosaic.read_unread_whole]
      exact ⟨go _ (col5 m c ⟨n + 1, hn⟩ (by dsimp only; omega)), fun _ => go _ (col5 m c ⟨n + 1, hn⟩ (by dsimp only; omega))⟩

variable (m c)

/-- The product. -/
theorem G_eq (s d : Fin 2048) : Value.G7 m c (ix2 s d) = ∑ e : Fin 11776, col m c s e.val * wt m c d e.val := by
  have hN : cfg0.N = 92 := N_0
  have hp : Value.pt7Of (ix2 s d) = 46 * (s.val / 1024) + 23 * (d.val / 1024) + 22 := by
    show 23 * (2 * (s.val / 1024 - 0) + 1 * (d.val / 1024 - 0)) + 22 = _
    omega
  have hl : Value.loc7Of (ix2 s d) = ix2 (⟨s.val % 1024, by omega⟩ : Fin 1024) (⟨d.val % 1024, by omega⟩ : Fin 1024) := by
    funext a
    match a with
    | ⟨0, _⟩ => rfl
    | ⟨1, _⟩ => rfl
  unfold Value.G7
  rw [dif_pos (by rw [hp]; omega), hl, Value.fold0_congr m c _ _ _ (by omega) hp, ← Value.outsAt0_sweep m c _ (by omega), (inv _ _).res (by omega)]
  rw [show (46 * (s.val / 1024) + 23 * (d.val / 1024) + 22) % 23 + 1 = 23 by omega]
  have e1 : row (46 * (s.val / 1024) + 23 * (d.val / 1024) + 22) ⟨s.val % 1024, by omega⟩ = s :=
    Fin.ext (by show (46 * (s.val / 1024) + 23 * (d.val / 1024) + 22) / 46 % 2 * 1024 + s.val % 1024 = s.val; omega)
  have e2 : lane (46 * (s.val / 1024) + 23 * (d.val / 1024) + 22) ⟨d.val % 1024, by omega⟩ = d :=
    Fin.ext (by show (46 * (s.val / 1024) + 23 * (d.val / 1024) + 22) / 23 % 2 * 1024 + d.val % 1024 = d.val; omega)
  unfold term
  rw [e1, e2]
  exact sum23 fun e => col m c s e * wt m c d e

end DhDnVal

end
-- ==== Proof.DhDnClaim.lean ====
/- The claims about the gradient of the first layer's input projection's argument. -/
module

public import proofs.«01_k».proof.Defs
public import proofs.«01_k».proof.Proof.Gen.DhDn.Frame
public import proofs.«01_k».proof.Proof.DhDnVal
public import proofs.«01_k».proof.Proof.Gen.DhDnRefIdeal.Run
public import proofs.«01_k».proof.Proof.Gen.DhDnRefIdeal.Read
public import Idealize.ShloMosaic.Adequacy
public import Idealize.ShloMosaic.Init

@[expose] public section

set_option maxRecDepth 16384

noncomputable section

namespace DhDnClaim

open Idealize.ShloMosaic Idealize.ShloMosaic.TcCoe Idealize.SL.Sem ProdSeg

theorem frame_p : Cert.quiescent_DhDn (hDhDn := Cert.DhDn.Gen.facts) := fun m ρ _ => Cert.DhDn.Gen.frame m ρ

theorem frame_pi : Cert.quiescent_DhDnIdeal (hDhDnIdeal := Cert.DhDnIdeal.Gen.facts) := fun m ρ _ => Cert.DhDnIdeal.Gen.frame m ρ

theorem frame_ri : Cert.quiescent_DhDnRefIdeal (hDhDnRefIdeal := Cert.DhDnRefIdeal.Gen.facts) := fun m ρ _ =>
  (θ_run Cert.DhDnRefIdeal.defs _ _).mono (fun r h => ⟨fun c => (h c).2,
      Idealize.ShloMosaic.sem_eq_zero_of_no_sems (by decide) r.2⟩)
    (Cert.DhDnRefIdeal.Value.run (F := Ideal) m ρ)

section
open Cert.DhDnRefIdeal Cert.DhDnRefIdeal.Read

variable (x1 x2 : Arr 2048 1536) (x3 : Arr 2048 3072) (x4 : Arr 2048 1024) (x5 : Arr 2048 4096) (x6 : Arr 2048 512) (w : Arr 2048 11776)

theorem ref_cat (s : Fin 2048) (e : Fin 11776) : val_main_v1 (F := Ideal) x1 x2 x3 x4 x5 x6 (ix2 s e) = six x1 x2 x3 x4 x5 x6 s e.val := by
  pointwise [val_main_v1]
  by_cases h1 : e.val < 1536
  · rw [dif_pos h1]
    exact (six1 x1 x2 x3 x4 x5 x6 s e.val ⟨e.val, h1⟩ rfl).symm
  rw [dif_neg h1]
  by_cases h2 : e.val - 1536 < 1536
  · rw [dif_pos h2]
    exact (six2 x1 x2 x3 x4 x5 x6 s e.val ⟨e.val - 1536, h2⟩ (by dsimp only; omega)).symm
  rw [dif_neg h2]
  by_cases h3 : e.val - 1536 - 1536 < 3072
  · rw [dif_pos h3]
    exact (six3 x1 x2 x3 x4 x5 x6 s e.val ⟨e.val - 1536 - 1536, h3⟩ (by dsimp only; omega)).symm
  rw [dif_neg h3]
  by_cases h4 : e.val - 1536 - 1536 - 3072 < 1024
  · rw [dif_pos h4]
    exact (six4 x1 x2 x3 x4 x5 x6 s e.val ⟨e.val - 1536 - 1536 - 3072, h4⟩ (by dsimp only; omega)).symm
  rw [dif_neg h4]
  by_cases h5 : e.val - 1536 - 1536 - 3072 - 1024 < 4096
  · rw [dif_pos h5]
    exact (six5 x1 x2 x3 x4 x5 x6 s e.val ⟨e.val - 1536 - 1536 - 3072 - 1024, h5⟩ (by dsimp only; omega)).symm
  rw [dif_neg h5]
  exact (six6 x1 x2 x3 x4 x5 x6 s e.val ⟨e.val - 1536 - 1536 - 3072 - 1024 - 4096, by omega⟩ (by dsimp only; omega)).symm

theorem ref_val (s d : Fin 2048) : val_main_v3 (F := Ideal) x1 x2 x3 x4 x5 x6 w (ix2 s d) =
    ∑ e : Fin 11776, six x1 x2 x3 x4 x5 x6 s e.val * right w d e.val := by
  rw [val_main_v3_apply]
  refine Finset.sum_congr rfl fun e _ => congrArg₂ (· * ·) ?_ ?_
  · refine (val_main_v2_apply (F := Ideal) x1 x2 x3 x4 x5 x6 _).trans ?_
    refine Eq.trans ?_ (ref_cat x1 x2 x3 x4 x5 x6 s e)
    refine congrArg (val_main_v1 (F := Ideal) x1 x2 x3 x4 x5 x6) ?_
    funext k
    match k with
    | ⟨0, _⟩ => rfl
    | ⟨1, _⟩ => rfl
  · refine (val_main_v0_apply (F := Ideal) w _).trans ?_
    unfold right
    refine congrArg w ?_
    funext k; apply Fin.ext
    match k with
    | ⟨0, _⟩ => rfl
    | ⟨1, _⟩ => exact (Nat.mod_eq_of_lt e.isLt).symm

end

theorem algebraic : Cert.algebraic_DhDnIdeal_DhDnRefIdeal (hDhDnIdeal := Cert.DhDnIdeal.Gen.facts)
    (hDhDnRefIdeal := Cert.DhDnRefIdeal.Gen.facts) := by
  intro m ρ m' ρ' _ hag
  refine ⟨fun c => Cert.DhDnIdeal.Value.G7 m c, Cert.DhDnIdeal.Value.run (F := Ideal) m ρ,
    (θ_run Cert.DhDnRefIdeal.defs _ _).mono (fun r h c => ⟨?_, (h c).2⟩) (Cert.DhDnRefIdeal.Value.run (F := Ideal) m' ρ')⟩
  obtain ⟨a0, a1, a2, a3, a4, a5, a6⟩ := hag c
  refine ((h c).1.trans (Cert.DhDnRefIdeal.Read.val_main_v3_eq _ _ _ _ _ _ _)).trans ?_
  rw [a0, a1, a2, a3, a4, a5, a6]
  funext i
  rw [eq_ix2 i]
  exact (ref_val _ _ _ _ _ _ _ _ _).trans (DhDnVal.G_eq m c _ _).symm

end DhDnClaim

end
-- ==== Proof.ProjClaim.lean ====
/- The claims about the second layer's input projection: what each grid point writes, and the whole array, as one sum per
   entry. -/
module

public import proofs.«01_k».proof.Defs
public import proofs.«01_k».proof.Proof.ProdSeg
public import proofs.«01_k».proof.Proof.Gen.Proj.Frame
public import proofs.«01_k».proof.Proof.Gen.ProjIdeal.Value
public import proofs.«01_k».proof.Proof.Gen.ProjRefIdeal.Run
public import proofs.«01_k».proof.Proof.Gen.ProjRefIdeal.Read
public import Idealize.ShloMosaic.Lib.Tactic
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace ProjClaim

open Idealize.ShloMosaic Idealize.ShloMosaic.TcCoe Idealize.SL.Sem ProdSeg

section
open Cert.ProjIdeal Cert.ProjIdeal.Gen

/-- A block of the product: the sum over the contracted axis. -/
theorem pay (x : Vec Ideal S1024x2048 .bf16) (y : Vec Ideal S1x2x1024x512 .bf16) (r : Fin 1024) (e : Fin 512) :
    k0_pay1 x y (ix2 r e) = ∑ q : Fin 2048, x (ix2 r q) *
      y (ix4 (0 : Fin 1) (⟨q.val / 1024, by omega⟩ : Fin 2) (⟨q.val % 1024, by omega⟩ : Fin 1024) e) := by
  pointwise [k0_pay1]
  try simp

theorem idx0 : ∀ t : Fin cfg0.N, win0_0.index t 0 = t.val / 28 ∧ win0_0.index t 1 = 0 := by decide +kernel
theorem idx1 : ∀ t : Fin cfg0.N, win0_1.index t (0 : Fin 4) = t.val % 28 / 7 ∧ win0_1.index t (1 : Fin 4) = 0 ∧
    win0_1.index t (2 : Fin 4) = 0 ∧ win0_1.index t (3 : Fin 4) = t.val % 28 % 7 := by decide +kernel
theorem idx2 : ∀ t : Fin cfg0.N, win0_2.index t 0 = t.val / 28 ∧ win0_2.index t 1 = t.val % 28 := by decide +kernel

variable (m : (ℓ : Loc nD τ sig) → Buf (Elt Ideal) ℓ) (c : Dev nD) (t : Fin cfg0.N)

theorem low : t.val < 56 := lt_of_lt_of_eq t.isLt N_0

/-- Entry `q` of row `s` of the left factor. -/
abbrev row (s q : Fin 2048) : EReal := m ((c : Thread nD τ).loc main_arg0) (ix2 s q)
/-- Entry `(q, e)` of the matrix. -/
abbrev wt (q : Fin 2048) (e : ℕ) : EReal := slot (m ((c : Thread nD τ).loc main_arg1)) q e

theorem blk0 (r : Fin 1024) (q : Fin 2048) : iblk m c 0 t (ix2 r q) = row m c (⟨t.val / 28 * 1024 + r.val, by have := low t; omega⟩ : Fin 2048) q := by
  unfold row
  blk_ext [iblk, V, idx0 t]
theorem blk1 (q : Fin 2048) (e : Fin 512) :
    iblk m c 1 t (ix4 (0 : Fin 1) (⟨q.val / 1024, by omega⟩ : Fin 2) (⟨q.val % 1024, by omega⟩ : Fin 1024) e) = wt m c q (t.val % 28 * 512 + e.val) := by
  have := low t
  unfold wt slot
  blk_ext [iblk, V, idx1 t]

/-- The product. -/
def G : S2048x14336.Idx → EReal := fun i => ∑ q : Fin 2048, row m c (i 0) q * wt m c q (i 1).val

/-- What a grid point leaves in the result's block. -/
theorem out (r : Fin 1024) (e : Fin 512) : out0_2 (iblk m c 0 t) (iblk m c 1 t) (ix2 r e) =
    ∑ q : Fin 2048, row m c (⟨t.val / 28 * 1024 + r.val, by have := low t; omega⟩ : Fin 2048) q * wt m c q (t.val % 28 * 512 + e.val) := by
  unfold out0_2
  frame_out
  exact (pay _ _ r e).trans (Finset.sum_congr rfl fun q _ => congrArg₂ (· * ·) (blk0 m c t r q) (blk1 m c t q e))

theorem flushed : (dats m 0 c).flushed 2 t = ((cfg0.win 2).blk t).view.read (Elt Ideal) (G m c) := by
  rw [Value.flushed2]
  have O := out m c t
  generalize out0_2 (iblk m c 0 t) (iblk m c 1 t) = o at O
  obtain ⟨i0, i1⟩ := idx2 t
  funext y
  have hy0 : (y 0).val < 1024 := (y 0).isLt
  have hy1 : (y 1).val < 512 := (y 1).isLt
  have hb0 : (((cfg0.win 2).blk t).view.emb y 0).val = win0_2.index t 0 * 1024 + 1 * (y 0).val := rfl
  have hb1 : (((cfg0.win 2).blk t).view.emb y 1).val = win0_2.index t 1 * 512 + 1 * (y 1).val := rfl
  have hx : (cfg0.win 2).xinj (grid0.coords t) y = (ix2 (⟨(y 0).val, hy0⟩ : Fin 1024) (⟨(y 1).val, hy1⟩ : Fin 512) : S1024x512.Idx) := by
    funext a; apply Fin.ext
    match a with
    | ⟨0, _⟩ => rfl
    | ⟨1, _⟩ => rfl
  show o ((cfg0.win 2).xinj (grid0.coords t) y) = G m c (((cfg0.win 2).blk t).view.emb y)
  rw [hx, O]
  unfold G
  refine Finset.sum_congr rfl fun q _ => congrArg₂ (· * ·) (congrArg (row m c · q) (Fin.ext ?_)) (congrArg (wt m c q) ?_)
  · rw [hb0, i0]
    dsimp only
    omega
  · rw [hb1, i1]
    dsimp only
    omega

theorem mem_blk (i : S2048x14336.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

/-- The array after the run. -/
theorem arr : (dats m 0 c).arrAt 2 cfg0.N = G m c :=
  (dats m 0 c).arrAt_eq_of_cover 2 _ (fun t _ => flushed m c t) (fun i => by
    have h0 : (i 0).val < 2048 := (i 0).isLt
    have h1 : (i 1).val < 14336 := (i 1).isLt
    have hp : (i 0).val / 1024 * 28 + (i 1).val / 512 < 56 := by omega
    refine ⟨⟨(i 0).val / 1024 * 28 + (i 1).val / 512, lt_of_lt_of_eq hp N_0.symm⟩, flush0_2 _, ?_⟩
    rw [mem_blk]
    obtain ⟨e0, e1⟩ := idx2 ⟨(i 0).val / 1024 * 28 + (i 1).val / 512, lt_of_lt_of_eq hp N_0.symm⟩
    intro a
    match a with
    | ⟨0, _⟩ =>
      show win0_2.index _ 0 * 1024 ≤ (i 0).val ∧ (i 0).val < win0_2.index _ 0 * 1024 + 1024
      rw [e0]; dsimp only; omega
    | ⟨1, _⟩ =>
      show win0_2.index _ 1 * 512 ≤ (i 1).val ∧ (i 1).val < win0_2.index _ 1 * 512 + 512
      rw [e1]; dsimp only; omega)

end

theorem frame_p : Cert.quiescent_Proj (hProj := Cert.Proj.Gen.facts) := fun m ρ _ => Cert.Proj.Gen.frame m ρ

theorem frame_pi : Cert.quiescent_ProjIdeal (hProjIdeal := Cert.ProjIdeal.Gen.facts) := fun m ρ _ => Cert.ProjIdeal.Gen.frame m ρ

theorem frame_ri : Cert.quiescent_ProjRefIdeal (hProjRefIdeal := Cert.ProjRefIdeal.Gen.facts) := fun m ρ _ =>
  (θ_run Cert.ProjRefIdeal.defs _ _).mono (fun r h => ⟨fun c => (h c).2,
      Idealize.ShloMosaic.sem_eq_zero_of_no_sems (by decide) r.2⟩)
    (Cert.ProjRefIdeal.Value.run (F := Ideal) m ρ)

section
open Cert.ProjRefIdeal Cert.ProjRefIdeal.Read

variable (x : Arr 2048 2048) (w : (⟨4, ![4, 2, 1024, 3584]⟩ : Shape).Idx → EReal)

theorem ref_wt (d : Fin 2048) (e : Fin 14336) : val_main_v2 (F := Ideal) w (ix2 d e) = slot w d e.val := by
  rw [val_main_v2_apply, val_main_v1_apply]
  refine congrArg w ?_
  funext k; apply Fin.ext
  match k with
  | ⟨0, _⟩ => show (d.val * 14336 + e.val) / 3584 % 4 = e.val / 3584 % 4; omega
  | ⟨1, _⟩ => show (d.val * 14336 + e.val) / 14680064 = d.val / 1024; omega
  | ⟨2, _⟩ => show (d.val * 14336 + e.val) / 14336 % 1024 = d.val % 1024; omega
  | ⟨3, _⟩ => show (d.val * 14336 + e.val) % 3584 = e.val % 3584; omega

theorem ref_val (s : Fin 2048) (e : Fin 14336) : val_main_v4 (F := Ideal) x w (ix2 s e) =
    ∑ q : Fin 2048, x (ix2 s q) * slot w q e.val := by
  rw [val_main_v4_apply]
  refine Finset.sum_congr rfl fun q _ => congrArg₂ (· * ·) ?_ ?_
  · refine (val_main_v0_apply (F := Ideal) x _).trans (congrArg x ?_)
    funext k
    match k with
    | ⟨0, _⟩ => rfl
    | ⟨1, _⟩ => rfl
  · refine (val_main_v3_apply (F := Ideal) w _).trans (Eq.trans ?_ (ref_wt w q e))
    refine congrArg (val_main_v2 (F := Ideal) w) ?_
    funext k
    match k with
    | ⟨0, _⟩ => rfl
    | ⟨1, _⟩ => rfl

end

theorem algebraic : Cert.algebraic_ProjIdeal_ProjRefIdeal (hProjIdeal := Cert.ProjIdeal.Gen.facts)
    (hProjRefIdeal := Cert.ProjRefIdeal.Gen.facts) := by
  intro m ρ m' ρ' _ hag
  refine ⟨fun c => G m c,
    (θ_run Cert.ProjIdeal.defs _ _).mono (fun r h c => ⟨(h c).1.trans (arr m c), (h c).2⟩) (Cert.ProjIdeal.Value.run_blocks (F := Ideal) m ρ),
    (θ_run Cert.ProjRefIdeal.defs _ _).mono (fun r h c => ⟨?_, (h c).2⟩) (Cert.ProjRefIdeal.Value.run (F := Ideal) m' ρ')⟩
  obtain ⟨a0, a1⟩ := hag c
  refine ((h c).1.trans (Cert.ProjRefIdeal.Read.val_main_v4_eq _ _)).trans ?_
  rw [a0, a1]
  funext i
  rw [eq_ix2 i]
  exact ref_val _ _ _ _

end ProjClaim

end
-- ==== Proof.ProjDnClaim.lean ====
/- The claims about the first layer's input projection: what each grid point writes, and the whole array, as one sum per
   entry. -/
module

public import proofs.«01_k».proof.Defs
public import proofs.«01_k».proof.Proof.ProdSegDn
public import proofs.«01_k».proof.Proof.Gen.ProjDn.Frame
public import proofs.«01_k».proof.Proof.Gen.ProjDnIdeal.Value
public import proofs.«01_k».proof.Proof.Gen.ProjDnRefIdeal.Run
public import proofs.«01_k».proof.Proof.Gen.ProjDnRefIdeal.Read
public import Idealize.ShloMosaic.Lib.Tactic
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace ProjDnClaim

open Idealize.ShloMosaic Idealize.ShloMosaic.TcCoe Idealize.SL.Sem ProdSeg

section
open Cert.ProjDnIdeal Cert.ProjDnIdeal.Gen

/-- A block of the product: the sum over the contracted axis. -/
theorem pay (x : Vec Ideal S1024x2048 .bf16) (y : Vec Ideal S2048x512 .bf16) (r : Fin 1024) (e : Fin 512) :
    k0_pay1 x y (ix2 r e) = ∑ q : Fin 2048, x (ix2 r q) * y (ix2 q e) := by
  pointwise [k0_pay1]
  try simp

theorem idx0 : ∀ t : Fin cfg0.N, win0_0.index t 0 = t.val / 23 ∧ win0_0.index t 1 = 0 := by decide +kernel
theorem idx1 : ∀ t : Fin cfg0.N, win0_1.index t 0 = 0 ∧ win0_1.index t 1 = t.val % 23 := by decide +kernel
theorem idx2 : ∀ t : Fin cfg0.N, win0_2.index t 0 = t.val / 23 ∧ win0_2.index t 1 = t.val % 23 := by decide +kernel

variable (m : (ℓ : Loc nD τ sig) → Buf (Elt Ideal) ℓ) (c : Dev nD) (t : Fin cfg0.N)

theorem low : t.val < 46 := lt_of_lt_of_eq t.isLt N_0

/-- Entry `q` of row `s` of the left factor. -/
abbrev row (s q : Fin 2048) : EReal := m ((c : Thread nD τ).loc main_arg0) (ix2 s q)
/-- Entry `(q, e)` of the matrix. -/
abbrev wt (q : Fin 2048) (e : ℕ) : EReal := right (m ((c : Thread nD τ).loc main_arg1)) q e

theorem blk0 (r : Fin 1024) (q : Fin 2048) : iblk m c 0 t (ix2 r q) = row m c (⟨t.val / 23 * 1024 + r.val, by have := low t; omega⟩ : Fin 2048) q := by
  unfold row
  blk_ext [iblk, V, idx0 t]
theorem blk1 (q : Fin 2048) (e : Fin 512) : iblk m c 1 t (ix2 q e) = wt m c q (t.val % 23 * 512 + e.val) := by
  have := low t
  unfold wt right
  blk_ext [iblk, V, idx1 t]

/-- The product. -/
def G : S2048x11776.Idx → EReal := fun i => ∑ q : Fin 2048, row m c (i 0) q * wt m c q (i 1).val

/-- What a grid point leaves in the result's block. -/
theorem out (r : Fin 1024) (e : Fin 512) : out0_2 (iblk m c 0 t) (iblk m c 1 t) (ix2 r e) =
    ∑ q : Fin 2048, row m c (⟨t.val / 23 * 1024 + r.val, by have := low t; omega⟩ : Fin 2048) q * wt m c q (t.val % 23 * 512 + e.val) := by
  unfold out0_2
  frame_out
  exact (pay _ _ r e).trans (Finset.sum_congr rfl fun q _ => congrArg₂ (· * ·) (blk0 m c t r q) (blk1 m c t q e))

theorem flushed : (dats m 0 c).flushed 2 t = ((cfg0.win 2).blk t).view.read (Elt Ideal) (G m c) := by
  rw [Value.flushed2]
  have O := out m c t
  generalize out0_2 (iblk m c 0 t) (iblk m c 1 t) = o at O
  obtain ⟨i0, i1⟩ := idx2 t
  funext y
  have hy0 : (y 0).val < 1024 := (y 0).isLt
  have hy1 : (y 1).val < 512 := (y 1).isLt
  have hb0 : (((cfg0.win 2).blk t).view.emb y 0).val = win0_2.index t 0 * 1024 + 1 * (y 0).val := rfl
  have hb1 : (((cfg0.win 2).blk t).view.emb y 1).val = win0_2.index t 1 * 512 + 1 * (y 1).val := rfl
  have hx : (cfg0.win 2).xinj (grid0.coords t) y = (ix2 (⟨(y 0).val, hy0⟩ : Fin 1024) (⟨(y 1).val, hy1⟩ : Fin 512) : S1024x512.Idx) := by
    funext a; apply Fin.ext
    match a with
    | ⟨0, _⟩ => rfl
    | ⟨1, _⟩ => rfl
  show o ((cfg0.win 2).xinj (grid0.coords t) y) = G m c (((cfg0.win 2).blk t).view.emb y)
  rw [hx, O]
  unfold G
  refine Finset.sum_congr rfl fun q _ => congrArg₂ (· * ·) (congrArg (row m c · q) (Fin.ext ?_)) (congrArg (wt m c q) ?_)
  · rw [hb0, i0]
    dsimp only
    omega
  · rw [hb1, i1]
    dsimp only
    omega

theorem mem_blk (i : S2048x11776.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

/-- The array after the run. -/
theorem arr : (dats m 0 c).arrAt 2 cfg0.N = G m c :=
  (dats m 0 c).arrAt_eq_of_cover 2 _ (fun t _ => flushed m c t) (fun i => by
    have h0 : (i 0).val < 2048 := (i 0).isLt
    have h1 : (i 1).val < 11776 := (i 1).isLt
    have hp : (i 0).val / 1024 * 23 + (i 1).val / 512 < 46 := by omega
    refine ⟨⟨(i 0).val / 1024 * 23 + (i 1).val / 512, lt_of_lt_of_eq hp N_0.symm⟩, flush0_2 _, ?_⟩
    rw [mem_blk]
    obtain ⟨e0, e1⟩ := idx2 ⟨(i 0).val / 1024 * 23 + (i 1).val / 512, lt_of_lt_of_eq hp N_0.symm⟩
    intro a
    match a with
    | ⟨0, _⟩ =>
      show win0_2.index _ 0 * 1024 ≤ (i 0).val ∧ (i 0).val < win0_2.index _ 0 * 1024 + 1024
      rw [e0]; dsimp only; omega
    | ⟨1, _⟩ =>
      show win0_2.index _ 1 * 512 ≤ (i 1).val ∧ (i 1).val < win0_2.index _ 1 * 512 + 512
      rw [e1]; dsimp only; omega)

end

theorem frame_p : Cert.quiescent_ProjDn (hProjDn := Cert.ProjDn.Gen.facts) := fun m ρ _ => Cert.ProjDn.Gen.frame m ρ

theorem frame_pi : Cert.quiescent_ProjDnIdeal (hProjDnIdeal := Cert.ProjDnIdeal.Gen.facts) := fun m ρ _ => Cert.ProjDnIdeal.Gen.frame m ρ

theorem frame_ri : Cert.quiescent_ProjDnRefIdeal (hProjDnRefIdeal := Cert.ProjDnRefIdeal.Gen.facts) := fun m ρ _ =>
  (θ_run Cert.ProjDnRefIdeal.defs _ _).mono (fun r h => ⟨fun c => (h c).2,
      Idealize.ShloMosaic.sem_eq_zero_of_no_sems (by decide) r.2⟩)
    (Cert.ProjDnRefIdeal.Value.run (F := Ideal) m ρ)

section
open Cert.ProjDnRefIdeal Cert.ProjDnRefIdeal.Read

variable (x : Arr 2048 2048) (w : Arr 2048 11776)

theorem ref_val (s : Fin 2048) (e : Fin 11776) : val_main_v2 (F := Ideal) x w (ix2 s e) =
    ∑ q : Fin 2048, x (ix2 s q) * right w q e.val := by
  rw [val_main_v2_apply]
  refine Finset.sum_congr rfl fun q _ => congrArg₂ (· * ·) ?_ ?_
  · refine (val_main_v0_apply (F := Ideal) x _).trans (congrArg x ?_)
    funext k
    match k with
    | ⟨0, _⟩ => rfl
    | ⟨1, _⟩ => rfl
  · refine (val_main_v1_apply (F := Ideal) w _).trans (congrArg w ?_)
    funext k; apply Fin.ext
    match k with
    | ⟨0, _⟩ => rfl
    | ⟨1, _⟩ => exact (Nat.mod_eq_of_lt e.isLt).symm

end

theorem algebraic : Cert.algebraic_ProjDnIdeal_ProjDnRefIdeal (hProjDnIdeal := Cert.ProjDnIdeal.Gen.facts)
    (hProjDnRefIdeal := Cert.ProjDnRefIdeal.Gen.facts) := by
  intro m ρ m' ρ' _ hag
  refine ⟨fun c => G m c,
    (θ_run Cert.ProjDnIdeal.defs _ _).mono (fun r h c => ⟨(h c).1.trans (arr m c), (h c).2⟩) (Cert.ProjDnIdeal.Value.run_blocks (F := Ideal) m ρ),
    (θ_run Cert.ProjDnRefIdeal.defs _ _).mono (fun r h c => ⟨?_, (h c).2⟩) (Cert.ProjDnRefIdeal.Value.run (F := Ideal) m' ρ')⟩
  obtain ⟨a0, a1⟩ := hag c
  refine ((h c).1.trans (Cert.ProjDnRefIdeal.Read.val_main_v2_eq _ _)).trans ?_
  rw [a0, a1]
  funext i
  rw [eq_ix2 i]
  exact ref_val _ _ _ _

end ProjDnClaim

end
-- ==== Proof.WoutClaim.lean ====
/- The claims about the gradient of an output projection's matrix: what each grid point writes, and the whole array, as one sum per
   entry. -/
module

public import proofs.«01_k».proof.Defs
public import proofs.«01_k».proof.Proof.ProdSeg
public import proofs.«01_k».proof.Proof.Gen.Wout.Frame
public import proofs.«01_k».proof.Proof.Gen.WoutIdeal.Value
public import proofs.«01_k».proof.Proof.Gen.WoutRefIdeal.Run
public import proofs.«01_k».proof.Proof.Gen.WoutRefIdeal.Read
public import Idealize.ShloMosaic.Lib.Tactic
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace WoutClaim

open Idealize.ShloMosaic Idealize.ShloMosaic.TcCoe Idealize.SL.Sem ProdSeg

section
open Cert.WoutIdeal Cert.WoutIdeal.Gen

/-- A block of the product: the sum over the contracted axis. -/
theorem pay (x : Vec Ideal S2048x1024 .bf16) (y : Vec Ideal S2048x512 .bf16) (r : Fin 1024) (e : Fin 512) :
    k0_pay1 x y (ix3 (0 : Fin 1) r e) = ∑ q : Fin 2048, x (ix2 q r) * y (ix2 q e) := by
  pointwise [k0_pay1]
  try simp

theorem idx0 : ∀ t : Fin cfg0.N, win0_0.index t 0 = 0 ∧ win0_0.index t 1 = t.val / 4 := by decide +kernel
theorem idx1 : ∀ t : Fin cfg0.N, win0_1.index t 0 = 0 ∧ win0_1.index t 1 = t.val % 4 := by decide +kernel
theorem idx2 : ∀ t : Fin cfg0.N, win0_2.index t (0 : Fin 3) = t.val / 4 ∧ win0_2.index t (1 : Fin 3) = 0 ∧ win0_2.index t (2 : Fin 3) = t.val % 4 := by decide +kernel

variable (m : (ℓ : Loc nD τ sig) → Buf (Elt Ideal) ℓ) (c : Dev nD) (t : Fin cfg0.N)

theorem low : t.val < 16 := lt_of_lt_of_eq t.isLt N_0

/-- Entry `j` of row `q` of the left factor. -/
abbrev row (j : Fin 4096) (q : Fin 2048) : EReal := m ((c : Thread nD τ).loc main_arg0) (ix2 q j)
/-- Entry `e` of row `q` of the right factor. -/
abbrev wt (q e : Fin 2048) : EReal := m ((c : Thread nD τ).loc main_arg1) (ix2 q e)

theorem blk0 (r : Fin 1024) (q : Fin 2048) : iblk m c 0 t (ix2 q r) = row m c (⟨t.val / 4 * 1024 + r.val, by have := low t; omega⟩ : Fin 4096) q := by
  unfold row
  blk_ext [iblk, V, idx0 t]
theorem blk1 (q : Fin 2048) (e : Fin 512) : iblk m c 1 t (ix2 q e) = wt m c q (⟨t.val % 4 * 512 + e.val, by omega⟩ : Fin 2048) := by
  unfold wt
  blk_ext [iblk, V, idx1 t]

/-- The product, in the layout of the result. -/
def G : S4x1024x2048.Idx → EReal := fun i => ∑ q : Fin 2048, row m c (⟨(i 0).val * 1024 + (i 1).val, by
    have h0 : (i 0).val < 4 := (i 0).isLt
    have h1 : (i 1).val < 1024 := (i 1).isLt
    omega⟩ : Fin 4096) q * wt m c q (i 2)

/-- What a grid point leaves in the result's block. -/
theorem out (r : Fin 1024) (e : Fin 512) : out0_2 (iblk m c 0 t) (iblk m c 1 t) (ix3 (0 : Fin 1) r e) =
    ∑ q : Fin 2048, row m c (⟨t.val / 4 * 1024 + r.val, by have := low t; omega⟩ : Fin 4096) q * wt m c q (⟨t.val % 4 * 512 + e.val, by omega⟩ : Fin 2048) := by
  unfold out0_2
  frame_out
  exact (pay _ _ r e).trans (Finset.sum_congr rfl fun q _ => congrArg₂ (· * ·) (blk0 m c t r q) (blk1 m c t q e))

theorem flushed : (dats m 0 c).flushed 2 t = ((cfg0.win 2).blk t).view.read (Elt Ideal) (G m c) := by
  rw [Value.flushed2]
  have O := out m c t
  generalize out0_2 (iblk m c 0 t) (iblk m c 1 t) = o at O
  obtain ⟨i0, i1, i2⟩ := idx2 t
  funext y
  have hy0 : (y 0).val < 1 := (y 0).isLt
  have hy1 : (y 1).val < 1024 := (y 1).isLt
  have hy2 : (y 2).val < 512 := (y 2).isLt
  have hb0 : (((cfg0.win 2).blk t).view.emb y 0).val = win0_2.index t (0 : Fin 3) * 1 + 1 * (y 0).val := rfl
  have hb1 : (((cfg0.win 2).blk t).view.emb y 1).val = win0_2.index t (1 : Fin 3) * 1024 + 1 * (y 1).val := rfl
  have hb2 : (((cfg0.win 2).blk t).view.emb y 2).val = win0_2.index t (2 : Fin 3) * 512 + 1 * (y 2).val := rfl
  have hx : (cfg0.win 2).xinj (grid0.coords t) y = (ix3 (0 : Fin 1) (⟨(y 1).val, hy1⟩ : Fin 1024) (⟨(y 2).val, hy2⟩ : Fin 512) : S1x1024x512.Idx) := by
    funext a; apply Fin.ext
    match a with
    | ⟨0, _⟩ => show (y 0).val = 0; omega
    | ⟨1, _⟩ => rfl
    | ⟨2, _⟩ => rfl
  show o ((cfg0.win 2).xinj (grid0.coords t) y) = G m c (((cfg0.win 2).blk t).view.emb y)
  rw [hx, O]
  unfold G
  refine Finset.sum_congr rfl fun q _ => congrArg₂ (· * ·) (congrArg (row m c · q) (Fin.ext ?_)) (congrArg (wt m c q) (Fin.ext ?_))
  · dsimp only
    rw [hb0, hb1, i0, i1]
    omega
  · rw [hb2, i2]
    dsimp only
    omega

theorem mem_blk (i : S4x1024x2048.Idx) :
    i ∈ ((cfg0.win 2).blk t).view.set ↔ ∀ a : Fin 3, win0_2.index t a * S1x1024x512.size a ≤ (i a).val ∧ (i a).val < win0_2.index t a * S1x1024x512.size a + S1x1024x512.size a := by
  show i ∈ ((View.whole main_v0).slice (win0_2.rect t)).set ↔ _
  rw [View.set_slice_whole, Rect.mem_set_unit]
  exact Iff.rfl

/-- The array after the run. -/
theorem arr : (dats m 0 c).arrAt 2 cfg0.N = G m c :=
  (dats m 0 c).arrAt_eq_of_cover 2 _ (fun t _ => flushed m c t) (fun i => by
    have h0 : (i 0).val < 4 := (i 0).isLt
    have h1 : (i 1).val < 1024 := (i 1).isLt
    have h2 : (i 2).val < 2048 := (i 2).isLt
    have hp : (i 0).val * 4 + (i 2).val / 512 < 16 := by omega
    refine ⟨⟨(i 0).val * 4 + (i 2).val / 512, lt_of_lt_of_eq hp N_0.symm⟩, flush0_2 _, ?_⟩
    rw [mem_blk]
    obtain ⟨e0, e1, e2⟩ := idx2 ⟨(i 0).val * 4 + (i 2).val / 512, lt_of_lt_of_eq hp N_0.symm⟩
    intro a
    match a with
    | ⟨0, _⟩ =>
      show win0_2.index _ (0 : Fin 3) * 1 ≤ (i 0).val ∧ (i 0).val < win0_2.index _ (0 : Fin 3) * 1 + 1
      rw [e0]; dsimp only; omega
    | ⟨1, _⟩ =>
      show win0_2.index _ (1 : Fin 3) * 1024 ≤ (i 1).val ∧ (i 1).val < win0_2.index _ (1 : Fin 3) * 1024 + 1024
      rw [e1]; omega
    | ⟨2, _⟩ =>
      show win0_2.index _ (2 : Fin 3) * 512 ≤ (i 2).val ∧ (i 2).val < win0_2.index _ (2 : Fin 3) * 512 + 512
      rw [e2]; dsimp only; omega)

end

theorem frame_p : Cert.quiescent_Wout (hWout := Cert.Wout.Gen.facts) := fun m ρ _ => Cert.Wout.Gen.frame m ρ

theorem frame_pi : Cert.quiescent_WoutIdeal (hWoutIdeal := Cert.WoutIdeal.Gen.facts) := fun m ρ _ => Cert.WoutIdeal.Gen.frame m ρ

theorem frame_ri : Cert.quiescent_WoutRefIdeal (hWoutRefIdeal := Cert.WoutRefIdeal.Gen.facts) := fun m ρ _ =>
  (θ_run Cert.WoutRefIdeal.defs _ _).mono (fun r h => ⟨fun c => (h c).2,
      Idealize.ShloMosaic.sem_eq_zero_of_no_sems (by decide) r.2⟩)
    (Cert.WoutRefIdeal.Value.run (F := Ideal) m ρ)

section
open Cert.WoutRefIdeal Cert.WoutRefIdeal.Read

variable (x : Arr 2048 4096) (w : Arr 2048 2048)

theorem ref_val (a : Fin 4) (b : Fin 1024) (e : Fin 2048) : val_main_v5 (F := Ideal) x w (ix3 a b e) =
    ∑ q : Fin 2048, x (ix2 q (⟨a.val * 1024 + b.val, by omega⟩ : Fin 4096)) * w (ix2 q e) := by
  have hi : idx_main_v3 (idx_main_v4 (ix3 a b e)) = (ix2 e (⟨a.val * 1024 + b.val, by omega⟩ : Fin 4096) : S2048x4096.Idx) := by
    funext k; apply Fin.ext
    match k with
    | ⟨0, _⟩ => show ((a.val * 1024 + b.val) * 2048 + e.val) % 2048 = e.val; omega
    | ⟨1, _⟩ => show ((a.val * 1024 + b.val) * 2048 + e.val) / 2048 = a.val * 1024 + b.val; omega
  rw [val_main_v5_apply, val_main_v4_apply, val_main_v3_apply, hi, val_main_v2_apply]
  refine Finset.sum_congr rfl fun q _ => (mul_comm _ _).trans (congrArg₂ (· * ·) ?_ ?_)
  · refine (val_main_v0_apply (F := Ideal) x _).trans (congrArg x ?_)
    funext k
    match k with
    | ⟨0, _⟩ => rfl
    | ⟨1, _⟩ => rfl
  · refine (val_main_v1_apply (F := Ideal) w _).trans (congrArg w ?_)
    funext k
    match k with
    | ⟨0, _⟩ => rfl
    | ⟨1, _⟩ => rfl

end

theorem algebraic : Cert.algebraic_WoutIdeal_WoutRefIdeal (hWoutIdeal := Cert.WoutIdeal.Gen.facts)
    (hWoutRefIdeal := Cert.WoutRefIdeal.Gen.facts) := by
  intro m ρ m' ρ' _ hag
  refine ⟨fun c => G m c,
    (θ_run Cert.WoutIdeal.defs _ _).mono (fun r h c => ⟨(h c).1.trans (arr m c), (h c).2⟩) (Cert.WoutIdeal.Value.run_blocks (F := Ideal) m ρ),
    (θ_run Cert.WoutRefIdeal.defs _ _).mono (fun r h c => ⟨?_, (h c).2⟩) (Cert.WoutRefIdeal.Value.run (F := Ideal) m' ρ')⟩
  obtain ⟨a0, a1⟩ := hag c
  refine ((h c).1.trans (Cert.WoutRefIdeal.Read.val_main_v5_eq _ _)).trans ?_
  rw [a0, a1]
  funext i
  rw [eq_ix3 i]
  exact ref_val _ _ _ _ _

end WoutClaim

end
-- ==== Proof.ProdLayer.lean ====
/- The output projections' matrices, as four slots of rows of the two layers. -/
module

public import proofs.«01_k».proof.Proof.ProdSeg

@[expose] public section

noncomputable section

namespace ProdSeg

open Idealize.ShloMosaic

/-- Entry `(e, d)` of layer `l`'s matrix of 4096 rows. -/
def layer (l : Fin 2) (w : (⟨4, ![4, 2, 1024, 2048]⟩ : Shape).Idx → EReal) (e : ℕ) (d : Fin 2048) : EReal :=
  w (ix4 (⟨e / 1024 % 4, by omega⟩ : Fin 4) l (⟨e % 1024, by omega⟩ : Fin 1024) d)

end ProdSeg

end
-- ==== Proof.DyClaim.lean ====
/- The claims about the gradient of the second layer's output projection's argument: what each grid point writes, and the whole array, as one sum per
   entry. -/
module

public import proofs.«01_k».proof.Defs
public import proofs.«01_k».proof.Proof.ProdLayer
public import proofs.«01_k».proof.Proof.Gen.Dy.Frame
public import proofs.«01_k».proof.Proof.Gen.DyIdeal.Value
public import proofs.«01_k».proof.Proof.Gen.DyRefIdeal.Run
public import proofs.«01_k».proof.Proof.Gen.DyRefIdeal.Read
public import Idealize.ShloMosaic.Lib.Tactic
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace DyClaim

open Idealize.ShloMosaic Idealize.ShloMosaic.TcCoe Idealize.SL.Sem ProdSeg

section
open Cert.DyIdeal Cert.DyIdeal.Gen

/-- A block of the product: the sum over the contracted axis. -/
theorem pay (x : Vec Ideal S1024x2048 .bf16) (y : Vec Ideal S1x1x512x2048 .bf16) (r : Fin 1024) (e : Fin 512) :
    k0_pay1 x y (ix2 r e) = ∑ q : Fin 2048, x (ix2 r q) *
      y (ix4 (0 : Fin 1) (0 : Fin 1) e q) := by
  pointwise [k0_pay1]
  try simp

theorem idx0 : ∀ t : Fin cfg0.N, win0_0.index t 0 = t.val / 8 ∧ win0_0.index t 1 = 0 := by decide +kernel
theorem idx1 : ∀ t : Fin cfg0.N, win0_1.index t (0 : Fin 4) = t.val % 8 / 2 ∧ win0_1.index t (1 : Fin 4) = 1 ∧
    win0_1.index t (2 : Fin 4) = t.val % 8 % 2 ∧ win0_1.index t (3 : Fin 4) = 0 := by decide +kernel
theorem idx2 : ∀ t : Fin cfg0.N, win0_2.index t 0 = t.val / 8 ∧ win0_2.index t 1 = t.val % 8 := by decide +kernel

variable (m : (ℓ : Loc nD τ sig) → Buf (Elt Ideal) ℓ) (c : Dev nD) (t : Fin cfg0.N)

theorem low : t.val < 16 := lt_of_lt_of_eq t.isLt N_0

/-- Entry `q` of row `s` of the left factor. -/
abbrev row (s q : Fin 2048) : EReal := m ((c : Thread nD τ).loc main_arg0) (ix2 s q)
/-- Entry `(e, q)` of the matrix. -/
abbrev wt (q : Fin 2048) (e : ℕ) : EReal := layer 1 (m ((c : Thread nD τ).loc main_arg1)) e q

theorem blk0 (r : Fin 1024) (q : Fin 2048) : iblk m c 0 t (ix2 r q) = row m c (⟨t.val / 8 * 1024 + r.val, by have := low t; omega⟩ : Fin 2048) q := by
  unfold row
  blk_ext [iblk, V, idx0 t]
theorem blk1 (q : Fin 2048) (e : Fin 512) : iblk m c 1 t (ix4 (0 : Fin 1) (0 : Fin 1) e q) = wt m c q (t.val % 8 * 512 + e.val) := by
  have := low t
  unfold wt layer
  blk_ext [iblk, V, idx1 t]

/-- The product. -/
def G : S2048x4096.Idx → EReal := fun i => ∑ q : Fin 2048, row m c (i 0) q * wt m c q (i 1).val

/-- What a grid point leaves in the result's block. -/
theorem out (r : Fin 1024) (e : Fin 512) : out0_2 (iblk m c 0 t) (iblk m c 1 t) (ix2 r e) =
    ∑ q : Fin 2048, row m c (⟨t.val / 8 * 1024 + r.val, by have := low t; omega⟩ : Fin 2048) q * wt m c q (t.val % 8 * 512 + e.val) := by
  unfold out0_2
  frame_out
  exact (pay _ _ r e).trans (Finset.sum_congr rfl fun q _ => congrArg₂ (· * ·) (blk0 m c t r q) (blk1 m c t q e))

theorem flushed : (dats m 0 c).flushed 2 t = ((cfg0.win 2).blk t).view.read (Elt Ideal) (G m c) := by
  rw [Value.flushed2]
  have O := out m c t
  generalize out0_2 (iblk m c 0 t) (iblk m c 1 t) = o at O
  obtain ⟨i0, i1⟩ := idx2 t
  funext y
  have hy0 : (y 0).val < 1024 := (y 0).isLt
  have hy1 : (y 1).val < 512 := (y 1).isLt
  have hb0 : (((cfg0.win 2).blk t).view.emb y 0).val = win0_2.index t 0 * 1024 + 1 * (y 0).val := rfl
  have hb1 : (((cfg0.win 2).blk t).view.emb y 1).val = win0_2.index t 1 * 512 + 1 * (y 1).val := rfl
  have hx : (cfg0.win 2).xinj (grid0.coords t) y = (ix2 (⟨(y 0).val, hy0⟩ : Fin 1024) (⟨(y 1).val, hy1⟩ : Fin 512) : S1024x512.Idx) := by
    funext a; apply Fin.ext
    match a with
    | ⟨0, _⟩ => rfl
    | ⟨1, _⟩ => rfl
  show o ((cfg0.win 2).xinj (grid0.coords t) y) = G m c (((cfg0.win 2).blk t).view.emb y)
  rw [hx, O]
  unfold G
  refine Finset.sum_congr rfl fun q _ => congrArg₂ (· * ·) (congrArg (row m c · q) (Fin.ext ?_)) (congrArg (wt m c q) ?_)
  · rw [hb0, i0]
    dsimp only
    omega
  · rw [hb1, i1]
    dsimp only
    omega

theorem mem_blk (i : S2048x4096.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

/-- The array after the run. -/
theorem arr : (dats m 0 c).arrAt 2 cfg0.N = G m c :=
  (dats m 0 c).arrAt_eq_of_cover 2 _ (fun t _ => flushed m c t) (fun i => by
    have h0 : (i 0).val < 2048 := (i 0).isLt
    have h1 : (i 1).val < 4096 := (i 1).isLt
    have hp : (i 0).val / 1024 * 8 + (i 1).val / 512 < 16 := by omega
    refine ⟨⟨(i 0).val / 1024 * 8 + (i 1).val / 512, lt_of_lt_of_eq hp N_0.symm⟩, flush0_2 _, ?_⟩
    rw [mem_blk]
    obtain ⟨e0, e1⟩ := idx2 ⟨(i 0).val / 1024 * 8 + (i 1).val / 512, lt_of_lt_of_eq hp N_0.symm⟩
    intro a
    match a with
    | ⟨0, _⟩ =>
      show win0_2.index _ 0 * 1024 ≤ (i 0).val ∧ (i 0).val < win0_2.index _ 0 * 1024 + 1024
      rw [e0]; dsimp only; omega
    | ⟨1, _⟩ =>
      show win0_2.index _ 1 * 512 ≤ (i 1).val ∧ (i 1).val < win0_2.index _ 1 * 512 + 512
      rw [e1]; dsimp only; omega)

end

theorem frame_p : Cert.quiescent_Dy (hDy := Cert.Dy.Gen.facts) := fun m ρ _ => Cert.Dy.Gen.frame m ρ

theorem frame_pi : Cert.quiescent_DyIdeal (hDyIdeal := Cert.DyIdeal.Gen.facts) := fun m ρ _ => Cert.DyIdeal.Gen.frame m ρ

theorem frame_ri : Cert.quiescent_DyRefIdeal (hDyRefIdeal := Cert.DyRefIdeal.Gen.facts) := fun m ρ _ =>
  (θ_run Cert.DyRefIdeal.defs _ _).mono (fun r h => ⟨fun c => (h c).2,
      Idealize.ShloMosaic.sem_eq_zero_of_no_sems (by decide) r.2⟩)
    (Cert.DyRefIdeal.Value.run (F := Ideal) m ρ)

section
open Cert.DyRefIdeal Cert.DyRefIdeal.Read

variable (x : Arr 2048 2048) (w : (⟨4, ![4, 2, 1024, 2048]⟩ : Shape).Idx → EReal)

theorem ref_wt (e : Fin 4096) (d : Fin 2048) : val_main_v2 (F := Ideal) w (ix2 e d) = layer 1 w e.val d := by
  rw [val_main_v2_apply, val_main_v1_apply, val_main_v0_apply]
  refine congrArg w ?_
  funext k; apply Fin.ext
  match k with
  | ⟨0, _⟩ => show _ = e.val / 1024 % 4; simp; omega
  | ⟨1, _⟩ => rfl
  | ⟨2, _⟩ => show _ = e.val % 1024; simp; omega
  | ⟨3, _⟩ => show _ = d.val; simp

theorem ref_val (s : Fin 2048) (e : Fin 4096) : val_main_v5 (F := Ideal) x w (ix2 s e) =
    ∑ q : Fin 2048, x (ix2 s q) * layer 1 w e.val q := by
  rw [val_main_v5_apply]
  refine Finset.sum_congr rfl fun q _ => congrArg₂ (· * ·) ?_ ?_
  · refine (val_main_v4_apply (F := Ideal) x _).trans (congrArg x ?_)
    funext k
    match k with
    | ⟨0, _⟩ => rfl
    | ⟨1, _⟩ => rfl
  · refine (val_main_v3_apply (F := Ideal) w _).trans (Eq.trans ?_ (ref_wt w e q))
    refine congrArg (val_main_v2 (F := Ideal) w) ?_
    funext k
    match k with
    | ⟨0, _⟩ => rfl
    | ⟨1, _⟩ => rfl

end

theorem algebraic : Cert.algebraic_DyIdeal_DyRefIdeal (hDyIdeal := Cert.DyIdeal.Gen.facts)
    (hDyRefIdeal := Cert.DyRefIdeal.Gen.facts) := by
  intro m ρ m' ρ' _ hag
  refine ⟨fun c => G m c,
    (θ_run Cert.DyIdeal.defs _ _).mono (fun r h c => ⟨(h c).1.trans (arr m c), (h c).2⟩) (Cert.DyIdeal.Value.run_blocks (F := Ideal) m ρ),
    (θ_run Cert.DyRefIdeal.defs _ _).mono (fun r h c => ⟨?_, (h c).2⟩) (Cert.DyRefIdeal.Value.run (F := Ideal) m' ρ')⟩
  obtain ⟨a0, a1⟩ := hag c
  refine ((h c).1.trans (Cert.DyRefIdeal.Read.val_main_v5_eq _ _)).trans ?_
  rw [a0, a1]
  funext i
  rw [eq_ix2 i]
  exact ref_val _ _ _ _

end DyClaim

end
-- ==== Proof.DyDnClaim.lean ====
/- The claims about the gradient of the first layer's output projection's argument: what each grid point writes, and the whole array, as one sum per
   entry. -/
module

public import proofs.«01_k».proof.Defs
public import proofs.«01_k».proof.Proof.ProdLayer
public import proofs.«01_k».proof.Proof.Gen.DyDn.Frame
public import proofs.«01_k».proof.Proof.Gen.DyDnIdeal.Value
public import proofs.«01_k».proof.Proof.Gen.DyDnRefIdeal.Run
public import proofs.«01_k».proof.Proof.Gen.DyDnRefIdeal.Read
public import Idealize.ShloMosaic.Lib.Tactic
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace DyDnClaim

open Idealize.ShloMosaic Idealize.ShloMosaic.TcCoe Idealize.SL.Sem ProdSeg

section
open Cert.DyDnIdeal Cert.DyDnIdeal.Gen

/-- A block of the product: the sum over the contracted axis. -/
theorem pay (x : Vec Ideal S1024x2048 .bf16) (y : Vec Ideal S1x1x512x2048 .bf16) (r : Fin 1024) (e : Fin 512) :
    k0_pay1 x y (ix2 r e) = ∑ q : Fin 2048, x (ix2 r q) *
      y (ix4 (0 : Fin 1) (0 : Fin 1) e q) := by
  pointwise [k0_pay1]
  try simp

theorem idx0 : ∀ t : Fin cfg0.N, win0_0.index t 0 = t.val / 8 ∧ win0_0.index t 1 = 0 := by decide +kernel
theorem idx1 : ∀ t : Fin cfg0.N, win0_1.index t (0 : Fin 4) = t.val % 8 / 2 ∧ win0_1.index t (1 : Fin 4) = 0 ∧
    win0_1.index t (2 : Fin 4) = t.val % 8 % 2 ∧ win0_1.index t (3 : Fin 4) = 0 := by decide +kernel
theorem idx2 : ∀ t : Fin cfg0.N, win0_2.index t 0 = t.val / 8 ∧ win0_2.index t 1 = t.val % 8 := by decide +kernel

variable (m : (ℓ : Loc nD τ sig) → Buf (Elt Ideal) ℓ) (c : Dev nD) (t : Fin cfg0.N)

theorem low : t.val < 16 := lt_of_lt_of_eq t.isLt N_0

/-- Entry `q` of row `s` of the left factor. -/
abbrev row (s q : Fin 2048) : EReal := m ((c : Thread nD τ).loc main_arg0) (ix2 s q)
/-- Entry `(e, q)` of the matrix. -/
abbrev wt (q : Fin 2048) (e : ℕ) : EReal := layer 0 (m ((c : Thread nD τ).loc main_arg1)) e q

theorem blk0 (r : Fin 1024) (q : Fin 2048) : iblk m c 0 t (ix2 r q) = row m c (⟨t.val / 8 * 1024 + r.val, by have := low t; omega⟩ : Fin 2048) q := by
  unfold row
  blk_ext [iblk, V, idx0 t]
theorem blk1 (q : Fin 2048) (e : Fin 512) : iblk m c 1 t (ix4 (0 : Fin 1) (0 : Fin 1) e q) = wt m c q (t.val % 8 * 512 + e.val) := by
  have := low t
  unfold wt layer
  blk_ext [iblk, V, idx1 t]

/-- The product. -/
def G : S2048x4096.Idx → EReal := fun i => ∑ q : Fin 2048, row m c (i 0) q * wt m c q (i 1).val

/-- What a grid point leaves in the result's block. -/
theorem out (r : Fin 1024) (e : Fin 512) : out0_2 (iblk m c 0 t) (iblk m c 1 t) (ix2 r e) =
    ∑ q : Fin 2048, row m c (⟨t.val / 8 * 1024 + r.val, by have := low t; omega⟩ : Fin 2048) q * wt m c q (t.val % 8 * 512 + e.val) := by
  unfold out0_2
  frame_out
  exact (pay _ _ r e).trans (Finset.sum_congr rfl fun q _ => congrArg₂ (· * ·) (blk0 m c t r q) (blk1 m c t q e))

theorem flushed : (dats m 0 c).flushed 2 t = ((cfg0.win 2).blk t).view.read (Elt Ideal) (G m c) := by
  rw [Value.flushed2]
  have O := out m c t
  generalize out0_2 (iblk m c 0 t) (iblk m c 1 t) = o at O
  obtain ⟨i0, i1⟩ := idx2 t
  funext y
  have hy0 : (y 0).val < 1024 := (y 0).isLt
  have hy1 : (y 1).val < 512 := (y 1).isLt
  have hb0 : (((cfg0.win 2).blk t).view.emb y 0).val = win0_2.index t 0 * 1024 + 1 * (y 0).val := rfl
  have hb1 : (((cfg0.win 2).blk t).view.emb y 1).val = win0_2.index t 1 * 512 + 1 * (y 1).val := rfl
  have hx : (cfg0.win 2).xinj (grid0.coords t) y = (ix2 (⟨(y 0).val, hy0⟩ : Fin 1024) (⟨(y 1).val, hy1⟩ : Fin 512) : S1024x512.Idx) := by
    funext a; apply Fin.ext
    match a with
    | ⟨0, _⟩ => rfl
    | ⟨1, _⟩ => rfl
  show o ((cfg0.win 2).xinj (grid0.coords t) y) = G m c (((cfg0.win 2).blk t).view.emb y)
  rw [hx, O]
  unfold G
  refine Finset.sum_congr rfl fun q _ => congrArg₂ (· * ·) (congrArg (row m c · q) (Fin.ext ?_)) (congrArg (wt m c q) ?_)
  · rw [hb0, i0]
    dsimp only
    omega
  · rw [hb1, i1]
    dsimp only
    omega

theorem mem_blk (i : S2048x4096.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

/-- The array after the run. -/
theorem arr : (dats m 0 c).arrAt 2 cfg0.N = G m c :=
  (dats m 0 c).arrAt_eq_of_cover 2 _ (fun t _ => flushed m c t) (fun i => by
    have h0 : (i 0).val < 2048 := (i 0).isLt
    have h1 : (i 1).val < 4096 := (i 1).isLt
    have hp : (i 0).val / 1024 * 8 + (i 1).val / 512 < 16 := by omega
    refine ⟨⟨(i 0).val / 1024 * 8 + (i 1).val / 512, lt_of_lt_of_eq hp N_0.symm⟩, flush0_2 _, ?_⟩
    rw [mem_blk]
    obtain ⟨e0, e1⟩ := idx2 ⟨(i 0).val / 1024 * 8 + (i 1).val / 512, lt_of_lt_of_eq hp N_0.symm⟩
    intro a
    match a with
    | ⟨0, _⟩ =>
      show win0_2.index _ 0 * 1024 ≤ (i 0).val ∧ (i 0).val < win0_2.index _ 0 * 1024 + 1024
      rw [e0]; dsimp only; omega
    | ⟨1, _⟩ =>
      show win0_2.index _ 1 * 512 ≤ (i 1).val ∧ (i 1).val < win0_2.index _ 1 * 512 + 512
      rw [e1]; dsimp only; omega)

end

theorem frame_p : Cert.quiescent_DyDn (hDyDn := Cert.DyDn.Gen.facts) := fun m ρ _ => Cert.DyDn.Gen.frame m ρ

theorem frame_pi : Cert.quiescent_DyDnIdeal (hDyDnIdeal := Cert.DyDnIdeal.Gen.facts) := fun m ρ _ => Cert.DyDnIdeal.Gen.frame m ρ

theorem frame_ri : Cert.quiescent_DyDnRefIdeal (hDyDnRefIdeal := Cert.DyDnRefIdeal.Gen.facts) := fun m ρ _ =>
  (θ_run Cert.DyDnRefIdeal.defs _ _).mono (fun r h => ⟨fun c => (h c).2,
      Idealize.ShloMosaic.sem_eq_zero_of_no_sems (by decide) r.2⟩)
    (Cert.DyDnRefIdeal.Value.run (F := Ideal) m ρ)

section
open Cert.DyDnRefIdeal Cert.DyDnRefIdeal.Read

variable (x : Arr 2048 2048) (w : (⟨4, ![4, 2, 1024, 2048]⟩ : Shape).Idx → EReal)

theorem ref_wt (e : Fin 4096) (d : Fin 2048) : val_main_v2 (F := Ideal) w (ix2 e d) = layer 0 w e.val d := by
  rw [val_main_v2_apply, val_main_v1_apply, val_main_v0_apply]
  refine congrArg w ?_
  funext k; apply Fin.ext
  match k with
  | ⟨0, _⟩ => show _ = e.val / 1024 % 4; simp; omega
  | ⟨1, _⟩ => rfl
  | ⟨2, _⟩ => show _ = e.val % 1024; simp; omega
  | ⟨3, _⟩ => show _ = d.val; simp

theorem ref_val (s : Fin 2048) (e : Fin 4096) : val_main_v5 (F := Ideal) x w (ix2 s e) =
    ∑ q : Fin 2048, x (ix2 s q) * layer 0 w e.val q := by
  rw [val_main_v5_apply]
  refine Finset.sum_congr rfl fun q _ => congrArg₂ (· * ·) ?_ ?_
  · refine (val_main_v4_apply (F := Ideal) x _).trans (congrArg x ?_)
    funext k
    match k with
    | ⟨0, _⟩ => rfl
    | ⟨1, _⟩ => rfl
  · refine (val_main_v3_apply (F := Ideal) w _).trans (Eq.trans ?_ (ref_wt w e q))
    refine congrArg (val_main_v2 (F := Ideal) w) ?_
    funext k
    match k with
    | ⟨0, _⟩ => rfl
    | ⟨1, _⟩ => rfl

end

theorem algebraic : Cert.algebraic_DyDnIdeal_DyDnRefIdeal (hDyDnIdeal := Cert.DyDnIdeal.Gen.facts)
    (hDyDnRefIdeal := Cert.DyDnRefIdeal.Gen.facts) := by
  intro m ρ m' ρ' _ hag
  refine ⟨fun c => G m c,
    (θ_run Cert.DyDnIdeal.defs _ _).mono (fun r h c => ⟨(h c).1.trans (arr m c), (h c).2⟩) (Cert.DyDnIdeal.Value.run_blocks (F := Ideal) m ρ),
    (θ_run Cert.DyDnRefIdeal.defs _ _).mono (fun r h c => ⟨?_, (h c).2⟩) (Cert.DyDnRefIdeal.Value.run (F := Ideal) m' ρ')⟩
  obtain ⟨a0, a1⟩ := hag c
  refine ((h c).1.trans (Cert.DyDnRefIdeal.Read.val_main_v5_eq _ _)).trans ?_
  rw [a0, a1]
  funext i
  rw [eq_ix2 i]
  exact ref_val _ _ _ _

end DyDnClaim

end
-- ==== Proof.OutClaim.lean ====
/- The claims about the second layer's output projection and residual sum: what each grid point writes, and the whole array, as one
   sum per entry. -/
module

public import proofs.«01_k».proof.Defs
public import proofs.«01_k».proof.Proof.ProdLayer
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import Idealize.ShloMosaic.Lib.Tactic
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace OutClaim

open Idealize.ShloMosaic Idealize.ShloMosaic.TcCoe Idealize.SL.Sem ProdSeg

section
open Cert.OutIdeal Cert.OutIdeal.Gen

/-- A block of the product: the sum over the contracted axis. -/
theorem pay (x : Vec Ideal S512x4096 .bf16) (y : Vec Ideal S4x1x1024x512 .bf16) (z : Vec Ideal S512x512 .f32) (r e : Fin 512) :
    k0_pay1 x y z (ix2 r e) = (∑ q : Fin 4096, x (ix2 r q) *
      y (ix4 (⟨q.val / 1024, by omega⟩ : Fin 4) (0 : Fin 1) (⟨q.val % 1024, by omega⟩ : Fin 1024) e)) + z (ix2 r e) := by
  pointwise [k0_pay1]
  try simp

theorem idx0 : ∀ t : Fin cfg0.N, win0_0.index t 0 = t.val / 4 ∧ win0_0.index t 1 = 0 := by decide +kernel
theorem idx1 : ∀ t : Fin cfg0.N, win0_1.index t (0 : Fin 4) = 0 ∧ win0_1.index t (1 : Fin 4) = 1 ∧
    win0_1.index t (2 : Fin 4) = 0 ∧ win0_1.index t (3 : Fin 4) = t.val % 4 := by decide +kernel
theorem idx2 : ∀ t : Fin cfg0.N, win0_2.index t 0 = t.val / 4 ∧ win0_2.index t 1 = t.val % 4 := by decide +kernel
theorem idx3 : ∀ t : Fin cfg0.N, win0_3.index t 0 = t.val / 4 ∧ win0_3.index t 1 = t.val % 4 := by decide +kernel

variable (m : (ℓ : Loc nD τ sig) → Buf (Elt Ideal) ℓ) (c : Dev nD) (t : Fin cfg0.N)

theorem low : t.val < 16 := lt_of_lt_of_eq t.isLt N_0

/-- Entry `q` of row `s` of the left factor. -/
abbrev row (s : Fin 2048) (q : Fin 4096) : EReal := m ((c : Thread nD τ).loc main_arg0) (ix2 s q)
/-- Entry `(q, e)` of the matrix. -/
abbrev wt (q : Fin 4096) (e : Fin 2048) : EReal := layer 1 (m ((c : Thread nD τ).loc main_arg1)) q.val e
/-- Entry `e` of row `s` of the residual. -/
abbrev res (s e : Fin 2048) : EReal := m ((c : Thread nD τ).loc main_arg2) (ix2 s e)

/-- The row of the result at place `r` of the block of point `t`. -/
abbrev at0 (r : Fin 512) : Fin 2048 := ⟨t.val / 4 * 512 + r.val, by have := low t; omega⟩
/-- The column of the result at place `e` of the block of point `t`. -/
abbrev at1 (e : Fin 512) : Fin 2048 := ⟨t.val % 4 * 512 + e.val, by omega⟩

theorem blk0 (r : Fin 512) (q : Fin 4096) : iblk m c 0 t (ix2 r q) = row m c (at0 t r) q := by
  unfold row
  blk_ext [iblk, V, idx0 t]
theorem blk1 (q : Fin 4096) (e : Fin 512) :
    iblk m c 1 t (ix4 (⟨q.val / 1024, by omega⟩ : Fin 4) (0 : Fin 1) (⟨q.val % 1024, by omega⟩ : Fin 1024) e) = wt m c q (at1 t e) := by
  unfold wt layer
  blk_ext [iblk, V, idx1 t]
theorem blk2 (r e : Fin 512) : iblk m c 2 t (ix2 r e) = res m c (at0 t r) (at1 t e) := by
  unfold res
  blk_ext [iblk, V, idx2 t]

/-- The product and the residual. -/
def G : S2048x2048.Idx → EReal := fun i => (∑ q : Fin 4096, row m c (i 0) q * wt m c q (i 1)) + res m c (i 0) (i 1)

/-- What a grid point leaves in the result's block. -/
theorem out (r e : Fin 512) : out0_3 (iblk m c 0 t) (iblk m c 1 t) (iblk m c 2 t) (ix2 r e) =
    (∑ q : Fin 4096, row m c (at0 t r) q * wt m c q (at1 t e)) + res m c (at0 t r) (at1 t e) := by
  unfold out0_3
  frame_out
  exact (pay _ _ _ r e).trans (congrArg₂ (· + ·)
    (Finset.sum_congr rfl fun q _ => congrArg₂ (· * ·) (blk0 m c t r q) (blk1 m c t q e)) (blk2 m c t r e))

theorem flushed : (dats m 0 c).flushed 3 t = ((cfg0.win 3).blk t).view.read (Elt Ideal) (G m c) := by
  rw [Value.flushed3]
  have O := out m c t
  generalize out0_3 (iblk m c 0 t) (iblk m c 1 t) (iblk m c 2 t) = o at O
  obtain ⟨i0, i1⟩ := idx3 t
  funext y
  have hy0 : (y 0).val < 512 := (y 0).isLt
  have hy1 : (y 1).val < 512 := (y 1).isLt
  have hb0 : (((cfg0.win 3).blk t).view.emb y 0).val = win0_3.index t 0 * 512 + 1 * (y 0).val := rfl
  have hb1 : (((cfg0.win 3).blk t).view.emb y 1).val = win0_3.index t 1 * 512 + 1 * (y 1).val := rfl
  have hx : (cfg0.win 3).xinj (grid0.coords t) y = (ix2 (⟨(y 0).val, hy0⟩ : Fin 512) (⟨(y 1).val, hy1⟩ : Fin 512) : S512x512.Idx) := by
    funext a; apply Fin.ext
    match a with
    | ⟨0, _⟩ => rfl
    | ⟨1, _⟩ => rfl
  show o ((cfg0.win 3).xinj (grid0.coords t) y) = G m c (((cfg0.win 3).blk t).view.emb y)
  rw [hx, O]
  have g0 : at0 t ⟨(y 0).val, hy0⟩ = ((cfg0.win 3).blk t).view.emb y 0 := Fin.ext (by
    rw [hb0, i0]
    dsimp only
    omega)
  have g1 : at1 t ⟨(y 1).val, hy1⟩ = ((cfg0.win 3).blk t).view.emb y 1 := Fin.ext (by
    rw [hb1, i1]
    dsimp only
    omega)
  unfold G
  rw [g0, g1]

theorem mem_blk (i : S2048x2048.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v0).slice (win0_3.rect t)).set ↔ _
  rw [View.set_slice_whole, Rect.mem_set_unit]
  exact Iff.rfl

/-- The array after the run. -/
theorem arr : (dats m 0 c).arrAt 3 cfg0.N = G m c :=
  (dats m 0 c).arrAt_eq_of_cover 3 _ (fun t _ => flushed m c t) (fun i => by
    have h0 : (i 0).val < 2048 := (i 0).isLt
    have h1 : (i 1).val < 2048 := (i 1).isLt
    have hp : (i 0).val / 512 * 4 + (i 1).val / 512 < 16 := by omega
    refine ⟨⟨(i 0).val / 512 * 4 + (i 1).val / 512, lt_of_lt_of_eq hp N_0.symm⟩, flush0_3 _, ?_⟩
    rw [mem_blk]
    obtain ⟨e0, e1⟩ := idx3 ⟨(i 0).val / 512 * 4 + (i 1).val / 512, lt_of_lt_of_eq hp N_0.symm⟩
    intro a
    match a with
    | ⟨0, _⟩ =>
      show win0_3.index _ 0 * 512 ≤ (i 0).val ∧ (i 0).val < win0_3.index _ 0 * 512 + 512
      rw [e0]; dsimp only; omega
    | ⟨1, _⟩ =>
      show win0_3.index _ 1 * 512 ≤ (i 1).val ∧ (i 1).val < win0_3.index _ 1 * 512 + 512
      rw [e1]; dsimp only; omega)

end

theorem frame_p : Cert.quiescent_Out (hOut := Cert.Out.Gen.facts) := fun m ρ _ => Cert.Out.Gen.frame m ρ

theorem frame_pi : Cert.quiescent_OutIdeal (hOutIdeal := Cert.OutIdeal.Gen.facts) := fun m ρ _ => Cert.OutIdeal.Gen.frame m ρ

theorem frame_ri : Cert.quiescent_OutRefIdeal (hOutRefIdeal := Cert.OutRefIdeal.Gen.facts) := fun m ρ _ =>
  (θ_run Cert.OutRefIdeal.defs _ _).mono (fun r h => ⟨fun c => (h c).2,
      Idealize.ShloMosaic.sem_eq_zero_of_no_sems (by decide) r.2⟩)
    (Cert.OutRefIdeal.Value.run (F := Ideal) m ρ)

section
open Cert.OutRefIdeal Cert.OutRefIdeal.Read

variable (x : Arr 2048 4096) (w : (⟨4, ![4, 2, 1024, 2048]⟩ : Shape).Idx → EReal) (z : Arr 2048 2048)

theorem ref_wt (e : Fin 4096) (d : Fin 2048) : val_main_v3 (F := Ideal) w (ix2 e d) = layer 1 w e.val d := by
  rw [val_main_v3_apply, val_main_v2_apply, val_main_v1_apply]
  refine congrArg w ?_
  funext k; apply Fin.ext
  match k with
  | ⟨0, _⟩ => show _ = e.val / 1024 % 4; simp; omega
  | ⟨1, _⟩ => rfl
  | ⟨2, _⟩ => show _ = e.val % 1024; simp; omega
  | ⟨3, _⟩ => show _ = d.val; simp

theorem ref_val (s e : Fin 2048) : val_main_v6 (F := Ideal) x w z (ix2 s e) =
    (∑ q : Fin 4096, x (ix2 s q) * layer 1 w q.val e) + z (ix2 s e) := by
  rw [val_main_v6_apply]
  refine (add_comm (z (ix2 s e)) _).trans (congrArg (· + z (ix2 s e)) ?_)
  rw [val_main_v5_apply]
  refine Finset.sum_congr rfl fun q _ => congrArg₂ (· * ·) ?_ ?_
  · refine (val_main_v0_apply (F := Ideal) x _).trans (congrArg x ?_)
    funext k
    match k with
    | ⟨0, _⟩ => rfl
    | ⟨1, _⟩ => rfl
  · refine (val_main_v4_apply (F := Ideal) w _).trans (Eq.trans ?_ (ref_wt w q e))
    refine congrArg (val_main_v3 (F := Ideal) w) ?_
    funext k
    match k with
    | ⟨0, _⟩ => rfl
    | ⟨1, _⟩ => rfl

end

theorem algebraic : Cert.algebraic_OutIdeal_OutRefIdeal (hOutIdeal := Cert.OutIdeal.Gen.facts)
    (hOutRefIdeal := Cert.OutRefIdeal.Gen.facts) := by
  intro m ρ m' ρ' _ hag
  refine ⟨fun c => G m c,
    (θ_run Cert.OutIdeal.defs _ _).mono (fun r h c => ⟨(h c).1.trans (arr m c), (h c).2⟩) (Cert.OutIdeal.Value.run_blocks (F := Ideal) m ρ),
    (θ_run Cert.OutRefIdeal.defs _ _).mono (fun r h c => ⟨?_, (h c).2⟩) (Cert.OutRefIdeal.Value.run (F := Ideal) m' ρ')⟩
  obtain ⟨a0, a1, a2⟩ := hag c
  refine ((h c).1.trans (Cert.OutRefIdeal.Read.val_main_v6_eq _ _ _)).trans ?_
  rw [a0, a1, a2]
  funext i
  rw [eq_ix2 i]
  exact ref_val _ _ _ _ _

end OutClaim

end
-- ==== Proof.OutDnClaim.lean ====
/- The claims about the first layer's output projection and residual sum: what each grid point writes, and the whole array, as one
   sum per entry. -/
module

public import proofs.«01_k».proof.Defs
public import proofs.«01_k».proof.Proof.ProdLayer
public import proofs.«01_k».proof.Proof.Gen.OutDn.Frame
public import proofs.«01_k».proof.Proof.Gen.OutDnIdeal.Value
public import proofs.«01_k».proof.Proof.Gen.OutDnRefIdeal.Run
public import proofs.«01_k».proof.Proof.Gen.OutDnRefIdeal.Read
public import Idealize.ShloMosaic.Lib.Tactic
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace OutDnClaim

open Idealize.ShloMosaic Idealize.ShloMosaic.TcCoe Idealize.SL.Sem ProdSeg

section
open Cert.OutDnIdeal Cert.OutDnIdeal.Gen

/-- A block of the product: the sum over the contracted axis. -/
theorem pay (x : Vec Ideal S512x4096 .bf16) (y : Vec Ideal S4x1x1024x512 .bf16) (z : Vec Ideal S512x512 .f32) (r e : Fin 512) :
    k0_pay1 x y z (ix2 r e) = (∑ q : Fin 4096, x (ix2 r q) *
      y (ix4 (⟨q.val / 1024, by omega⟩ : Fin 4) (0 : Fin 1) (⟨q.val % 1024, by omega⟩ : Fin 1024) e)) + z (ix2 r e) := by
  pointwise [k0_pay1]
  try simp

theorem idx0 : ∀ t : Fin cfg0.N, win0_0.index t 0 = t.val / 4 ∧ win0_0.index t 1 = 0 := by decide +kernel
theorem idx1 : ∀ t : Fin cfg0.N, win0_1.index t (0 : Fin 4) = 0 ∧ win0_1.index t (1 : Fin 4) = 0 ∧
    win0_1.index t (2 : Fin 4) = 0 ∧ win0_1.index t (3 : Fin 4) = t.val % 4 := by decide +kernel
theorem idx2 : ∀ t : Fin cfg0.N, win0_2.index t 0 = t.val / 4 ∧ win0_2.index t 1 = t.val % 4 := by decide +kernel
theorem idx3 : ∀ t : Fin cfg0.N, win0_3.index t 0 = t.val / 4 ∧ win0_3.index t 1 = t.val % 4 := by decide +kernel

variable (m : (ℓ : Loc nD τ sig) → Buf (Elt Ideal) ℓ) (c : Dev nD) (t : Fin cfg0.N)

theorem low : t.val < 16 := lt_of_lt_of_eq t.isLt N_0

/-- Entry `q` of row `s` of the left factor. -/
abbrev row (s : Fin 2048) (q : Fin 4096) : EReal := m ((c : Thread nD τ).loc main_arg0) (ix2 s q)
/-- Entry `(q, e)` of the matrix. -/
abbrev wt (q : Fin 4096) (e : Fin 2048) : EReal := layer 0 (m ((c : Thread nD τ).loc main_arg1)) q.val e
/-- Entry `e` of row `s` of the residual. -/
abbrev res (s e : Fin 2048) : EReal := m ((c : Thread nD τ).loc main_arg2) (ix2 s e)

/-- The row of the result at place `r` of the block of point `t`. -/
abbrev at0 (r : Fin 512) : Fin 2048 := ⟨t.val / 4 * 512 + r.val, by have := low t; omega⟩
/-- The column of the result at place `e` of the block of point `t`. -/
abbrev at1 (e : Fin 512) : Fin 2048 := ⟨t.val % 4 * 512 + e.val, by omega⟩

theorem blk0 (r : Fin 512) (q : Fin 4096) : iblk m c 0 t (ix2 r q) = row m c (at0 t r) q := by
  unfold row
  blk_ext [iblk, V, idx0 t]
theorem blk1 (q : Fin 4096) (e : Fin 512) :
    iblk m c 1 t (ix4 (⟨q.val / 1024, by omega⟩ : Fin 4) (0 : Fin 1) (⟨q.val % 1024, by omega⟩ : Fin 1024) e) = wt m c q (at1 t e) := by
  unfold wt layer
  blk_ext [iblk, V, idx1 t]
theorem blk2 (r e : Fin 512) : iblk m c 2 t (ix2 r e) = res m c (at0 t r) (at1 t e) := by
  unfold res
  blk_ext [iblk, V, idx2 t]

/-- The product and the residual. -/
def G : S2048x2048.Idx → EReal := fun i => (∑ q : Fin 4096, row m c (i 0) q * wt m c q (i 1)) + res m c (i 0) (i 1)

/-- What a grid point leaves in the result's block. -/
theorem out (r e : Fin 512) : out0_3 (iblk m c 0 t) (iblk m c 1 t) (iblk m c 2 t) (ix2 r e) =
    (∑ q : Fin 4096, row m c (at0 t r) q * wt m c q (at1 t e)) + res m c (at0 t r) (at1 t e) := by
  unfold out0_3
  frame_out
  exact (pay _ _ _ r e).trans (congrArg₂ (· + ·)
    (Finset.sum_congr rfl fun q _ => congrArg₂ (· * ·) (blk0 m c t r q) (blk1 m c t q e)) (blk2 m c t r e))

theorem flushed : (dats m 0 c).flushed 3 t = ((cfg0.win 3).blk t).view.read (Elt Ideal) (G m c) := by
  rw [Value.flushed3]
  have O := out m c t
  generalize out0_3 (iblk m c 0 t) (iblk m c 1 t) (iblk m c 2 t) = o at O
  obtain ⟨i0, i1⟩ := idx3 t
  funext y
  have hy0 : (y 0).val < 512 := (y 0).isLt
  have hy1 : (y 1).val < 512 := (y 1).isLt
  have hb0 : (((cfg0.win 3).blk t).view.emb y 0).val = win0_3.index t 0 * 512 + 1 * (y 0).val := rfl
  have hb1 : (((cfg0.win 3).blk t).view.emb y 1).val = win0_3.index t 1 * 512 + 1 * (y 1).val := rfl
  have hx : (cfg0.win 3).xinj (grid0.coords t) y = (ix2 (⟨(y 0).val, hy0⟩ : Fin 512) (⟨(y 1).val, hy1⟩ : Fin 512) : S512x512.Idx) := by
    funext a; apply Fin.ext
    match a with
    | ⟨0, _⟩ => rfl
    | ⟨1, _⟩ => rfl
  show o ((cfg0.win 3).xinj (grid0.coords t) y) = G m c (((cfg0.win 3).blk t).view.emb y)
  rw [hx, O]
  have g0 : at0 t ⟨(y 0).val, hy0⟩ = ((cfg0.win 3).blk t).view.emb y 0 := Fin.ext (by
    rw [hb0, i0]
    dsimp only
    omega)
  have g1 : at1 t ⟨(y 1).val, hy1⟩ = ((cfg0.win 3).blk t).view.emb y 1 := Fin.ext (by
    rw [hb1, i1]
    dsimp only
    omega)
  unfold G
  rw [g0, g1]

theorem mem_blk (i : S2048x2048.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v0).slice (win0_3.rect t)).set ↔ _
  rw [View.set_slice_whole, Rect.mem_set_unit]
  exact Iff.rfl

/-- The array after the run. -/
theorem arr : (dats m 0 c).arrAt 3 cfg0.N = G m c :=
  (dats m 0 c).arrAt_eq_of_cover 3 _ (fun t _ => flushed m c t) (fun i => by
    have h0 : (i 0).val < 2048 := (i 0).isLt
    have h1 : (i 1).val < 2048 := (i 1).isLt
    have hp : (i 0).val / 512 * 4 + (i 1).val / 512 < 16 := by omega
    refine ⟨⟨(i 0).val / 512 * 4 + (i 1).val / 512, lt_of_lt_of_eq hp N_0.symm⟩, flush0_3 _, ?_⟩
    rw [mem_blk]
    obtain ⟨e0, e1⟩ := idx3 ⟨(i 0).val / 512 * 4 + (i 1).val / 512, lt_of_lt_of_eq hp N_0.symm⟩
    intro a
    match a with
    | ⟨0, _⟩ =>
      show win0_3.index _ 0 * 512 ≤ (i 0).val ∧ (i 0).val < win0_3.index _ 0 * 512 + 512
      rw [e0]; dsimp only; omega
    | ⟨1, _⟩ =>
      show win0_3.index _ 1 * 512 ≤ (i 1).val ∧ (i 1).val < win0_3.index _ 1 * 512 + 512
      rw [e1]; dsimp only; omega)

end

theorem frame_p : Cert.quiescent_OutDn (hOutDn := Cert.OutDn.Gen.facts) := fun m ρ _ => Cert.OutDn.Gen.frame m ρ

theorem frame_pi : Cert.quiescent_OutDnIdeal (hOutDnIdeal := Cert.OutDnIdeal.Gen.facts) := fun m ρ _ => Cert.OutDnIdeal.Gen.frame m ρ

theorem frame_ri : Cert.quiescent_OutDnRefIdeal (hOutDnRefIdeal := Cert.OutDnRefIdeal.Gen.facts) := fun m ρ _ =>
  (θ_run Cert.OutDnRefIdeal.defs _ _).mono (fun r h => ⟨fun c => (h c).2,
      Idealize.ShloMosaic.sem_eq_zero_of_no_sems (by decide) r.2⟩)
    (Cert.OutDnRefIdeal.Value.run (F := Ideal) m ρ)

section
open Cert.OutDnRefIdeal Cert.OutDnRefIdeal.Read

variable (x : Arr 2048 4096) (w : (⟨4, ![4, 2, 1024, 2048]⟩ : Shape).Idx → EReal) (z : Arr 2048 2048)

theorem ref_wt (e : Fin 4096) (d : Fin 2048) : val_main_v3 (F := Ideal) w (ix2 e d) = layer 0 w e.val d := by
  rw [val_main_v3_apply, val_main_v2_apply, val_main_v1_apply]
  refine congrArg w ?_
  funext k; apply Fin.ext
  match k with
  | ⟨0, _⟩ => show _ = e.val / 1024 % 4; simp; omega
  | ⟨1, _⟩ => rfl
  | ⟨2, _⟩ => show _ = e.val % 1024; simp; omega
  | ⟨3, _⟩ => show _ = d.val; simp

theorem ref_val (s e : Fin 2048) : val_main_v6 (F := Ideal) x w z (ix2 s e) =
    (∑ q : Fin 4096, x (ix2 s q) * layer 0 w q.val e) + z (ix2 s e) := by
  rw [val_main_v6_apply]
  refine (add_comm (z (ix2 s e)) _).trans (congrArg (· + z (ix2 s e)) ?_)
  rw [val_main_v5_apply]
  refine Finset.sum_congr rfl fun q _ => congrArg₂ (· * ·) ?_ ?_
  · refine (val_main_v0_apply (F := Ideal) x _).trans (congrArg x ?_)
    funext k
    match k with
    | ⟨0, _⟩ => rfl
    | ⟨1, _⟩ => rfl
  · refine (val_main_v4_apply (F := Ideal) w _).trans (Eq.trans ?_ (ref_wt w q e))
    refine congrArg (val_main_v3 (F := Ideal) w) ?_
    funext k
    match k with
    | ⟨0, _⟩ => rfl
    | ⟨1, _⟩ => rfl

end

theorem algebraic : Cert.algebraic_OutDnIdeal_OutDnRefIdeal (hOutDnIdeal := Cert.OutDnIdeal.Gen.facts)
    (hOutDnRefIdeal := Cert.OutDnRefIdeal.Gen.facts) := by
  intro m ρ m' ρ' _ hag
  refine ⟨fun c => G m c,
    (θ_run Cert.OutDnIdeal.defs _ _).mono (fun r h c => ⟨(h c).1.trans (arr m c), (h c).2⟩) (Cert.OutDnIdeal.Value.run_blocks (F := Ideal) m ρ),
    (θ_run Cert.OutDnRefIdeal.defs _ _).mono (fun r h c => ⟨?_, (h c).2⟩) (Cert.OutDnRefIdeal.Value.run (F := Ideal) m' ρ')⟩
  obtain ⟨a0, a1, a2⟩ := hag c
  refine ((h c).1.trans (Cert.OutDnRefIdeal.Read.val_main_v6_eq _ _ _)).trans ?_
  rw [a0, a1, a2]
  funext i
  rw [eq_ix2 i]
  exact ref_val _ _ _ _ _

end OutDnClaim

end
-- ==== Proof.NormVal.lean ====
/- The gradient of a layer's root-mean-square norm: a row's, and what the call's three results hold. -/
module

public import proofs.«01_k».proof.Proof.RealVal
public import proofs.«01_k».proof.Proof.Gen.NormIdeal.Value
public import Idealize.ShloMosaic.Lib.Tactic
public import Idealize.ShloMosaic.Lib.Pipeline.ValueKit
public import Idealize.ShloMosaic.Lib.Pipeline.ReadBack

@[expose] public section

set_option maxRecDepth 16384

noncomputable section

namespace NormVal

open Idealize.ShloMosaic Idealize.ShloMosaic.TcCoe RealVal Cert.NormIdeal Cert.NormIdeal.Gen

theorem bits_2048 : Ideal.ofBits .f32 0x45000000#32 = ((2048 : ℝ) : EReal) := by
  simp [Ideal.ofBits, Ideal.ieee, -EReal.coe_mul]; norm_num

/-! ## One row -/

/-- The mean square of a row, with the small number added. -/
def ms (x : Fin 2048 → EReal) : EReal := Ideal.div (∑ k, x k * x k) ((2048 : ℝ) : EReal) + ((eps : ℝ) : EReal)

/-- The reciprocal root mean square of a row. -/
def rr (x : Fin 2048 → EReal) : EReal := Ideal.rsqrt (ms x)

/-- The gradient of a row through its normalisation and gain. -/
def dnrm (x g u : Fin 2048 → EReal) (d : Fin 2048) : EReal :=
  rr x * (u d * g d - x d * rr x * Ideal.div (∑ k, u k * g k * (x k * rr x)) ((2048 : ℝ) : EReal))

theorem div_real (x : EReal) {y : ℝ} (hy : y ≠ 0) : Ideal.div x (y : EReal) = x * ((y⁻¹ : ℝ) : EReal) := by
  unfold Ideal.div
  rw [if_neg (by exact_mod_cast hy), EReal.coe_inv]

/-- A row either is infinite somewhere, and then its mean square is, or its mean square is a positive real. -/
theorem ms_cases (x : Fin 2048 → EReal) : ms x = ⊤ ∨ ∃ r : ℝ, 0 < r ∧ ms x = (r : EReal) := by
  have h0 : ∀ k, 0 ≤ x k * x k := fun k => by
    induction x k using EReal.rec with
    | bot => simp
    | coe r => rw [← EReal.coe_mul]; exact_mod_cast mul_self_nonneg r
    | top => simp
  have hs : 0 ≤ ∑ k, x k * x k := Finset.sum_nonneg fun k _ => h0 k
  unfold ms
  rw [div_real _ (by norm_num)]
  generalize ∑ k, x k * x k = s at hs
  induction s using EReal.rec with
  | bot => exact absurd hs (by simp)
  | coe r =>
    have hr : 0 ≤ r := by exact_mod_cast hs
    have := eps_pos
    exact .inr ⟨r * 2048⁻¹ + eps, by positivity, by rw [← EReal.coe_mul, ← EReal.coe_add]⟩
  | top =>
    refine .inl ?_
    rw [EReal.top_mul_coe_of_pos (by norm_num), EReal.top_add_coe]

/-- A real factor that is not negative goes into a sum. -/
theorem sum_mul_real {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (by exact_mod_cast hr) (EReal.coe_ne_top r), ih]

/-- The factor the reference multiplies a row's sum by. -/
def fac (x : Fin 2048 → EReal) : EReal := ((-(1 / 2) : ℝ) : EReal) * Ideal.div (rr x) (ms x)

/-- The gradient of a row through its normalisation, the way the reference spells it. -/
theorem dn_eq (x g u : Fin 2048 → EReal) (d : Fin 2048) :
    u d * g d * rr x + (x d * Ideal.div ((∑ k, x k * (u k * g k)) * fac x) ((2048 : ℝ) : EReal)
      + Ideal.div ((∑ k, x k * (u k * g k)) * fac x) ((2048 : ℝ) : EReal) * x d) = dnrm x g u d := by
  unfold dnrm fac
  simp only [div_real _ (show (2048 : ℝ) ≠ 0 by norm_num)]
  rcases ms_cases x with h | ⟨r, hr, h⟩
  · have h0 : rr x = 0 := by unfold rr; rw [h]; rfl
    have h1 : Ideal.div (0 : EReal) ⊤ = 0 := by unfold Ideal.div; simp
    rw [h0, h, h1]
    simp
  · have hq : 0 < Real.sqrt r := Real.sqrt_pos.mpr hr
    have h0 : rr x = (((Real.sqrt r)⁻¹ : ℝ) : EReal) := by
      unfold rr
      rw [h, Ideal.rsqrt_coe, if_neg (not_lt.mpr hr.le), if_neg hr.ne']
    have h2 : Real.sqrt r * Real.sqrt r = r := Real.mul_self_sqrt hr.le
    rw [h0, h, div_coe _ _ hr.ne']
    generalize Real.sqrt r = q at hq h2
    have hs : ∑ k, u k * g k * (x k * ((q⁻¹ : ℝ) : EReal)) = (∑ k, x k * (u k * g k)) * ((q⁻¹ : ℝ) : EReal) := by
      rw [sum_mul_real _ _ (inv_pos.mpr hq).le]
      exact Finset.sum_congr rfl fun k _ => by rw [← mul_assoc, mul_comm (u k * g k)]
    rw [hs]
    generalize ∑ k, x k * (u k * g k) = s
    have two : ∀ w : EReal, w + w = w * ((2 : ℝ) : EReal) := fun w => by
      have := EReal.left_distrib_of_nonneg (a := 1) (b := 1) (c := w) zero_le_one zero_le_one
      rw [mul_one] at this
      rw [← this, ← EReal.coe_one, ← EReal.coe_add]
      norm_num
    rw [mul_comm (s * _ * _) (x d), two, sub_eq_add_neg, EReal.left_distrib_of_nonneg_of_ne_top (by exact_mod_cast (inv_pos.mpr hq).le) (EReal.coe_ne_top _),
      mul_comm (((q⁻¹ : ℝ) : EReal)) (u d * g d)]
    refine congrArg (u d * g d * ((q⁻¹ : ℝ) : EReal) + ·) ?_
    have e1 : x d * (s * (((-(1 / 2) : ℝ) : EReal) * ((q⁻¹ / r : ℝ) : EReal)) * (((2048 : ℝ)⁻¹ : ℝ) : EReal)) * ((2 : ℝ) : EReal)
        = x d * s * ((-(q⁻¹ * q⁻¹ * q⁻¹ * 2048⁻¹) : ℝ) : EReal) := by
      have : (-(q⁻¹ * q⁻¹ * q⁻¹ * 2048⁻¹) : ℝ) = -(1 / 2) * (q⁻¹ / r) * 2048⁻¹ * 2 := by
        rw [← h2]; field_simp
      rw [this]
      simp only [EReal.coe_mul, mul_assoc]
    have e2 : ((q⁻¹ : ℝ) : EReal) * -(x d * ((q⁻¹ : ℝ) : EReal) * (s * ((q⁻¹ : ℝ) : EReal) * (((2048 : ℝ)⁻¹ : ℝ) : EReal)))
        = x d * s * ((-(q⁻¹ * q⁻¹ * q⁻¹ * 2048⁻¹) : ℝ) : EReal) := by
      rw [EReal.coe_neg, mul_neg, mul_neg]
      refine congrArg Neg.neg ?_
      simp only [EReal.coe_mul]
      ac_rfl
    rw [e1, e2]

/-! ## One grid point -/

section
variable (x u z : Vec Ideal S256x2048 .f32) (w a : Vec Ideal S1x2048 .f32)

/-- Row `r` of a tile. -/
abbrev line (x : Vec Ideal S256x2048 .f32) (r : Fin 256) : Fin 2048 → EReal := fun d => x (ix2 r d)

theorem pay3 (r : Fin 256) (y : Fin 1) : k0_pay3 x (ix2 r y) = rr (line x r) := by
  pointwise [k0_pay3]
  rw [bits_2048, bits_eps]
  rfl

theorem pay4 (r : Fin 256) (d : Fin 2048) : k0_pay4 x (ix2 r d) = x (ix2 r d) * rr (line x r) := by
  pointwise [k0_pay4]
  rw [pay3]

theorem pay5 (y : Fin 1) (d : Fin 2048) : k0_pay5 (F := Ideal) (ix2 y d) = 0 := by
  pointwise [k0_pay5]
  try rfl

/-- What a grid point adds to the gain's gradient. -/
theorem pay6 (y : Fin 1) (d : Fin 2048) :
    k0_pay6 x u a (ix2 y d) = a (ix2 y d) + ∑ r : Fin 256, u (ix2 r d) * (x (ix2 r d) * rr (line x r)) := by
  pointwise [k0_pay6]
  simp only [pay4]

theorem pay7 (r : Fin 256) (d : Fin 2048) :
    k0_pay7 x u w (ix2 r d) = dnrm (line x r) (fun d => w (ix2 (0 : Fin 1) d)) (line u r) d := by
  pointwise [k0_pay7]
  simp only [pay3, pay4, bits_2048]
  rfl

/-- What a grid point writes of the row gradient. -/
theorem pay1 (v : FVec Ideal S256x2048 .f32) (r : Fin 256) (d : Fin 2048) :
    k0_pay1 z v (ix2 r d) = z (ix2 r d) + v (ix2 r d) := by
  pointwise [k0_pay1]
theorem pay2 (v : FVec Ideal S256x2048 .f32) (r : Fin 256) (d : Fin 2048) :
    k0_pay2 z v (ix2 r d) = z (ix2 r d) + v (ix2 r d) := by
  pointwise [k0_pay2, k0_pay1]
end

/-! ## The blocks a point reads -/

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = 0 ∧ win0_6.index t 1 = 0 := by decide +kernel

/-- Row `r` of the tile of point `n`. -/
def row (n : ℕ) (r : Fin 256) : Fin 2048 := ⟨n % 8 * 256 + r.val, by omega⟩

section
variable (m : (ℓ : Loc nD τ sig) → Buf (Elt Ideal) ℓ) (c : Dev nD) (t : Fin cfg0.N)

theorem low : t.val < 8 := lt_of_lt_of_eq t.isLt N_0

theorem blk0 (r : Fin 256) (d : Fin 2048) : iblk m c 0 t (ix2 r d) = m ((c : Thread nD τ).loc main_arg0) (ix2 (row t.val r) d) := by
  have := low t
  unfold row
  blk_ext [iblk, V, idx0 t]
theorem blk1 (r : Fin 256) (d : Fin 2048) : iblk m c 1 t (ix2 r d) = m ((c : Thread nD τ).loc main_arg1) (ix2 (row t.val r) d) := by
  have := low t
  unfold row
  blk_ext [iblk, V, idx1 t]
theorem blk2 (z : Fin 1) (d : Fin 2048) : iblk m c 2 t (ix2 z d) = m ((c : Thread nD τ).loc main_arg2) (ix1 d) := by
  have hz : (win0_2.blk t).view.emb (ix2 z d) = (ix2 z d : S1x2048.Idx) := by blk_ext [idx2 t]
  blk_simp [iblk]
  entry_read
  change shapeCast main_v0.ty.shape (m (c, Proc.tc.devRef main_arg2)) shapeCasts_S2048_S1x2048 ((win0_2.blk t).view.emb (ix2 z d)) = _
  rw [hz]
  pointwise
theorem blk3 (r : Fin 256) (d : Fin 2048) : iblk m c 3 t (ix2 r d) = m ((c : Thread nD τ).loc main_arg3) (ix2 (row t.val r) d) := by
  have := low t
  unfold row
  blk_ext [iblk, V, idx3 t]
end

section
variable (u x z : S2048x2048.Idx → EReal) (g : S2048.Idx → EReal)

/-- The row gradient: the residual's plus the norm's. -/
def GX : S2048x2048.Idx → EReal := fun i =>
  z i + dnrm (fun k => x (ix2 (i 0) k)) (fun k => g (ix1 k)) (fun k => u (ix2 (i 0) k)) (i 1)
/-- A row's part of the gain's gradient. -/
def gain (s d : Fin 2048) : EReal := u (ix2 s d) * (x (ix2 s d) * rr (fun k => x (ix2 s k)))
/-- The gain's gradient. -/
def GG : S1x2048.Idx → EReal := fun i => ∑ s : Fin 2048, gain u x s (i 1)
/-- The part of the gain's gradient of tile `k`. -/
def part (d : Fin 2048) (k : ℕ) : EReal := ∑ r : Fin 256, gain u x (row k r) d

/-- All tiles' parts together. -/
theorem sum_part (d : Fin 2048) : ∑ k ∈ Finset.range 8, part u x d k = ∑ s : Fin 2048, gain u x s d := by
  rw [Finset.sum_range, ← Fin.sum_mul_add_fin 8 256 fun s : Fin 2048 => gain u x s d]
  refine Finset.sum_congr rfl fun k _ => Finset.sum_congr rfl fun r _ => ?_
  have : row k.val r = (⟨k.val * 256 + r.val, by omega⟩ : Fin 2048) := Fin.ext (by show k.val % 8 * 256 + r.val = _; dsimp only; omega)
  rw [this]

/-- What the three results' blocks hold after point `n`. -/
structure Inv (n : ℕ) (o : Vec Ideal S256x2048 .f32 × Vec Ideal S256x2048 .bf16 × Vec Ideal S1x2048 .f32) : Prop where
  dx : ∀ r d, o.1 (ix2 r d) = GX u x z g (ix2 (row n r) d)
  dxb : ∀ r d, o.2.1 (ix2 r d) = GX u x z g (ix2 (row n r) d)
  dg : ∀ y d, o.2.2 (ix2 y d) = ∑ k ∈ Finset.range (n + 1), part u x d k
end

section
variable (m : (ℓ : Loc nD τ sig) → Buf (Elt Ideal) ℓ) (c : Dev nD)

/-- The row gradient of the launched arguments. -/
abbrev gx : S2048x2048.Idx → EReal := GX (m ((c : Thread nD τ).loc main_arg0)) (m ((c : Thread nD τ).loc main_arg1))
  (m ((c : Thread nD τ).loc main_arg3)) (m ((c : Thread nD τ).loc main_arg2))
/-- The gain's gradient of the launched arguments. -/
abbrev gg : S1x2048.Idx → EReal := GG (m ((c : Thread nD τ).loc main_arg0)) (m ((c : Thread nD τ).loc main_arg1))

theorem dx (t : Fin cfg0.N) {o b v : EReal} (r : Fin 256) (d : Fin 2048) (h : o = b + v) (hb : b = iblk m c 3 t (ix2 r d))
    (hv : v = k0_pay7 (iblk m c 1 t) (iblk m c 0 t) (iblk m c 2 t) (ix2 r d)) :
    o = gx m c (ix2 (row t.val r) d) := by
  have e0 := funext (blk0 m c t r)
  have e1 := funext (blk1 m c t r)
  have e2 := funext (blk2 m c t 0)
  refine h.trans (congrArg₂ (· + ·) (hb.trans (blk3 m c t r d)) (hv.trans ((pay7 _ _ _ r d).trans ?_)))
  unfold line
  rw [e0, e1, e2]
  rfl

theorem dg (t : Fin cfg0.N) (a : Vec Ideal S1x2048 .f32) (y : Fin 1) (d : Fin 2048) :
    k0_pay6 (iblk m c 1 t) (iblk m c 0 t) a (ix2 y d)
      = a (ix2 y d) + part (m ((c : Thread nD τ).loc main_arg0)) (m ((c : Thread nD τ).loc main_arg1)) d t.val := by
  refine (pay6 _ _ a y d).trans (congrArg (a (ix2 y d) + ·) (Finset.sum_congr rfl fun r _ => ?_))
  have e1 := funext (blk1 m c t r)
  refine congrArg₂ (· * ·) (blk0 m c t r d) (congrArg₂ (· * ·) (blk1 m c t r d) (congrArg rr e1))

theorem inv : ∀ (n : ℕ) (hn : n < cfg0.N), Inv (m ((c : Thread nD τ).loc main_arg0)) (m ((c : Thread nD τ).loc main_arg1))
    (m ((c : Thread nD τ).loc main_arg3)) (m ((c : Thread nD τ).loc main_arg2)) n (outsAt0 m c n hn) := by
  intro n
  induction n with
  | zero =>
    intro hn
    rw [outsAt0_A m c ⟨0, hn⟩ rfl]
    frame_out
    refine ⟨fun r d => dx m c ⟨0, hn⟩ r d (pay1 _ _ r d) rfl rfl, fun r d => dx m c ⟨0, hn⟩ r d (pay2 _ _ r d) rfl rfl, fun y d => ?_⟩
    rw [Finset.sum_range_one, ← zero_add (part _ _ d 0), ← pay5 y d]
    exact dg m c ⟨0, hn⟩ _ y d
  | succ n ih =>
    intro hn
    have h8 : n + 1 < 8 := lt_of_lt_of_eq hn N_0
    have I := ih (by omega)
    rw [outsAt0_B m c ⟨n + 1, hn⟩ (by dsimp only; omega)]
    frame_out
    refine ⟨fun r d => dx m c ⟨n + 1, hn⟩ r d (pay1 _ _ r d) rfl rfl, fun r d => dx m c ⟨n + 1, hn⟩ r d (pay2 _ _ r d) rfl rfl, fun y d => ?_⟩
    rw [Finset.sum_range_succ, ← I.dg y d]
    exact dg m c ⟨n + 1, hn⟩ _ y d

/-! ## The arrays after the run -/

theorem mem_blk4 (t : Fin cfg0.N) (i : S2048x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v1_0).slice (win0_4.rect t)).set ↔ _
  rw [View.set_slice_whole, Rect.mem_set_unit]
  exact Iff.rfl

theorem arr4 : (dats m 0 c).arrAt 4 cfg0.N = gx m c :=
  (dats m 0 c).arrAt_eq_of_cover 4 _ (fun t _ => by
    rw [Value.flushed4]
    have O := (inv m c t.val t.isLt).dx
    generalize (outsAt0 m c t.val t.isLt).1 = o at O
    obtain ⟨i0, i1⟩ := idx4 t
    have := low t
    funext y
    have hy0 : (y 0).val < 256 := (y 0).isLt
    have hy1 : (y 1).val < 2048 := (y 1).isLt
    have hx : (cfg0.win 4).xinj (grid0.coords t) y = (ix2 (⟨(y 0).val, hy0⟩ : Fin 256) (⟨(y 1).val, hy1⟩ : Fin 2048) : S256x2048.Idx) := by
      funext a; apply Fin.ext
      match a with
      | ⟨0, _⟩ => rfl
      | ⟨1, _⟩ => rfl
    have hb : ((cfg0.win 4).blk t).view.emb y = (ix2 (row t.val ⟨(y 0).val, hy0⟩) (⟨(y 1).val, hy1⟩ : Fin 2048) : S2048x2048.Idx) := by
      funext a; apply Fin.ext
      match a with
      | ⟨0, _⟩ =>
        show win0_4.index t 0 * 256 + 1 * (y 0).val = t.val % 8 * 256 + (y 0).val
        rw [i0]; omega
      | ⟨1, _⟩ =>
        show win0_4.index t 1 * 2048 + 1 * (y 1).val = (y 1).val
        rw [i1]; omega
    show o ((cfg0.win 4).xinj (grid0.coords t) y) = gx m c (((cfg0.win 4).blk t).view.emb y)
    rw [hx, hb, O]) (fun i => by
    have h0 : (i 0).val < 2048 := (i 0).isLt
    have h1 : (i 1).val < 2048 := (i 1).isLt
    have hp : (i 0).val / 256 < cfg0.N := lt_of_lt_of_eq (by omega) N_0.symm
    refine ⟨⟨(i 0).val / 256, hp⟩, flush0_4 _, ?_⟩
    obtain ⟨e0, e1⟩ := idx4 ⟨(i 0).val / 256, hp⟩
    rw [mem_blk4]
    intro a
    match a with
    | ⟨0, _⟩ =>
      show win0_4.index _ 0 * 256 ≤ (i 0).val ∧ (i 0).val < win0_4.index _ 0 * 256 + 256
      rw [e0]; dsimp only; omega
    | ⟨1, _⟩ =>
      show win0_4.index _ 1 * 2048 ≤ (i 1).val ∧ (i 1).val < win0_4.index _ 1 * 2048 + 2048
      rw [e1]; omega)

theorem mem_blk5 (t : Fin cfg0.N) (i : S2048x2048.Idx) :
    i ∈ ((cfg0.win 5).blk t).view.set ↔ ∀ a : Fin 2, win0_5.index t a * S256x2048.size a ≤ (i a).val ∧ (i a).val < win0_5.index t a * S256x2048.size a + S256x2048.size a := by
  show i ∈ ((View.whole main_v1_1).slice (win0_5.rect t)).set ↔ _
  rw [View.set_slice_whole, Rect.mem_set_unit]
  exact Iff.rfl

theorem arr5 : (dats m 0 c).arrAt 5 cfg0.N = gx m c :=
  (dats m 0 c).arrAt_eq_of_cover 5 _ (fun t _ => by
    rw [Value.flushed5]
    have O := (inv m c t.val t.isLt).dxb
    generalize (outsAt0 m c t.val t.isLt).2.1 = o at O
    obtain ⟨i0, i1⟩ := idx5 t
    have := low t
    funext y
    have hy0 : (y 0).val < 256 := (y 0).isLt
    have hy1 : (y 1).val < 2048 := (y 1).isLt
    have hx : (cfg0.win 5).xinj (grid0.coords t) y = (ix2 (⟨(y 0).val, hy0⟩ : Fin 256) (⟨(y 1).val, hy1⟩ : Fin 2048) : S256x2048.Idx) := by
      funext a; apply Fin.ext
      match a with
      | ⟨0, _⟩ => rfl
      | ⟨1, _⟩ => rfl
    have hb : ((cfg0.win 5).blk t).view.emb y = (ix2 (row t.val ⟨(y 0).val, hy0⟩) (⟨(y 1).val, hy1⟩ : Fin 2048) : S2048x2048.Idx) := by
      funext a; apply Fin.ext
      match a with
      | ⟨0, _⟩ =>
        show win0_5.index t 0 * 256 + 1 * (y 0).val = t.val % 8 * 256 + (y 0).val
        rw [i0]; omega
      | ⟨1, _⟩ =>
        show win0_5.index t 1 * 2048 + 1 * (y 1).val = (y 1).val
        rw [i1]; omega
    show o ((cfg0.win 5).xinj (grid0.coords t) y) = gx m c (((cfg0.win 5).blk t).view.emb y)
    rw [hx, hb, O]) (fun i => by
    have h0 : (i 0).val < 2048 := (i 0).isLt
    have h1 : (i 1).val < 2048 := (i 1).isLt
    have hp : (i 0).val / 256 < cfg0.N := lt_of_lt_of_eq (by omega) N_0.symm
    refine ⟨⟨(i 0).val / 256, hp⟩, flush0_5 _, ?_⟩
    obtain ⟨e0, e1⟩ := idx5 ⟨(i 0).val / 256, hp⟩
    rw [mem_blk5]
    intro a
    match a with
    | ⟨0, _⟩ =>
      show win0_5.index _ 0 * 256 ≤ (i 0).val ∧ (i 0).val < win0_5.index _ 0 * 256 + 256
      rw [e0]; dsimp only; omega
    | ⟨1, _⟩ =>
      show win0_5.index _ 1 * 2048 ≤ (i 1).val ∧ (i 1).val < win0_5.index _ 1 * 2048 + 2048
      rw [e1]; omega)

theorem mem_blk6 (t : Fin cfg0.N) (i : S1x2048.Idx) :
    i ∈ ((cfg0.win 6).blk t).view.set ↔ ∀ a : Fin 2, win0_6.index t a * S1x2048.size a ≤ (i a).val ∧ (i a).val < win0_6.index t a * S1x2048.size a + S1x2048.size a := by
  show i ∈ ((View.whole main_v1_2).slice (win0_6.rect t)).set ↔ _
  rw [View.set_slice_whole, Rect.mem_set_unit]
  exact Iff.rfl

theorem arr6 : (dats m 0 c).arrAt 6 cfg0.N = gg m c :=
  (dats m 0 c).arrAt_eq_of_cover 6 _ (fun t hf => by
    have h7 : t.val + 1 = 8 := by have := (flush0_6 t).mp hf; have := low t; omega
    rw [Value.flushed6]
    have O := (inv m c t.val t.isLt).dg
    rw [h7] at O
    generalize (outsAt0 m c t.val t.isLt).2.2 = o at O
    obtain ⟨i0, i1⟩ := idx6 t
    funext y
    have hy0 : (y 0).val < 1 := (y 0).isLt
    have hy1 : (y 1).val < 2048 := (y 1).isLt
    have hx : (cfg0.win 6).xinj (grid0.coords t) y = (ix2 (⟨(y 0).val, hy0⟩ : Fin 1) (⟨(y 1).val, hy1⟩ : Fin 2048) : S1x2048.Idx) := by
      funext a; apply Fin.ext
      match a with
      | ⟨0, _⟩ => rfl
      | ⟨1, _⟩ => rfl
    have hb : ((cfg0.win 6).blk t).view.emb y = (ix2 (⟨(y 0).val, hy0⟩ : Fin 1) (⟨(y 1).val, hy1⟩ : Fin 2048) : S1x2048.Idx) := by
      funext a; apply Fin.ext
      match a with
      | ⟨0, _⟩ =>
        show win0_6.index t 0 * 1 + 1 * (y 0).val = (y 0).val
        rw [i0]; omega
      | ⟨1, _⟩ =>
        show win0_6.index t 1 * 2048 + 1 * (y 1).val = (y 1).val
        rw [i1]; omega
    show o ((cfg0.win 6).xinj (grid0.coords t) y) = gg m c (((cfg0.win 6).blk t).view.emb y)
    rw [hx, hb, O, sum_part]
    rfl) (fun i => by
    have h0 : (i 0).val < 1 := (i 0).isLt
    have h1 : (i 1).val < 2048 := (i 1).isLt
    have hp : 7 < cfg0.N := lt_of_lt_of_eq (by omega) N_0.symm
    refine ⟨⟨7, hp⟩, (flush0_6 _).mpr rfl, ?_⟩
    obtain ⟨e0, e1⟩ := idx6 ⟨7, hp⟩
    rw [mem_blk6]
    intro a
    match a with
    | ⟨0, _⟩ =>
      show win0_6.index _ 0 * 1 ≤ (i 0).val ∧ (i 0).val < win0_6.index _ 0 * 1 + 1
      rw [e0]; omega
    | ⟨1, _⟩ =>
      show win0_6.index _ 1 * 2048 ≤ (i 1).val ∧ (i 1).val < win0_6.index _ 1 * 2048 + 2048
      rw [e1]; omega)

end

end NormVal

end
-- ==== Proof.NormClaim.lean ====
/- The claims about the gradient of a layer's root-mean-square norm. -/
module

public import proofs.«01_k».proof.Defs
public import proofs.«01_k».proof.Proof.NormVal
public import proofs.«01_k».proof.Proof.Gen.Norm.Frame
public import proofs.«01_k».proof.Proof.Gen.NormRefIdeal.Run
public import proofs.«01_k».proof.Proof.Gen.NormRefIdeal.Read
public import Idealize.ShloMosaic.Lib.Pointwise
public import Idealize.ShloMosaic.Adequacy
public import Idealize.ShloMosaic.Init

@[expose] public section

set_option maxRecDepth 16384

noncomputable section

namespace NormClaim

open Idealize.ShloMosaic Idealize.ShloMosaic.TcCoe Idealize.SL.Sem RealVal NormVal

theorem frame_p : Cert.quiescent_Norm (hNorm := Cert.Norm.Gen.facts) := fun m ρ _ => Cert.Norm.Gen.frame m ρ

theorem frame_pi : Cert.quiescent_NormIdeal (hNormIdeal := Cert.NormIdeal.Gen.facts) := fun m ρ _ => Cert.NormIdeal.Gen.frame m ρ

theorem frame_ri : Cert.quiescent_NormRefIdeal (hNormRefIdeal := Cert.NormRefIdeal.Gen.facts) := fun m ρ _ =>
  (θ_run Cert.NormRefIdeal.defs _ _).mono (fun r h => ⟨fun c => (h c).2.2.2,
      Idealize.ShloMosaic.sem_eq_zero_of_no_sems (by decide) r.2⟩)
    (Cert.NormRefIdeal.Value.run (F := Ideal) m ρ)

/-! ## The reference's values -/

section
open Cert.NormRefIdeal Cert.NormRefIdeal.Read

variable (u x z : (⟨2, ![2048, 2048]⟩ : Shape).Idx → EReal) (g : (⟨1, ![2048]⟩ : Shape).Idx → EReal)

theorem v6 (t : Fin 2048) (y : Fin 1) : val_main_v6 (F := Ideal) x (ix2 t y) = ms (fun k => x (ix2 t k)) := by
  pointwise [val_main_v6, val_main_v5, val_main_v4, val_main_v3, val_main_v2, val_main_v1, val_main_v0, val_main_cst, val_main_cst_0, val_main_cst_1]
  rw [bits_2048, bits_eps]
  rfl
theorem v7 (t : Fin 2048) (y : Fin 1) : val_main_v7 (F := Ideal) x (ix2 t y) = rr (fun k => x (ix2 t k)) := by
  pointwise [val_main_v7]
  rw [v6]
  rfl
theorem v10 (t : Fin 2048) (y : Fin 1) : val_main_v10 (F := Ideal) x (ix2 t y) = fac (fun k => x (ix2 t k)) := by
  pointwise [val_main_v10, val_main_v9, val_main_v8, val_main_cst_2]
  rw [v6, v7, bits_neg_half]
  rfl
theorem v20 (t d : Fin 2048) : val_main_v20 (F := Ideal) u g (ix2 t d) = u (ix2 t d) * g (ix1 d) := by
  pointwise [val_main_v20, val_main_v19, val_main_v13]
theorem v36 (t d : Fin 2048) : val_main_v36 (F := Ideal) u x g z (ix2 t d) = GX u x z g (ix2 t d) := by
  pointwise [val_main_v36, val_main_v35, val_main_v34, val_main_v33, val_main_v32, val_main_v31, val_main_v30, val_main_v29, val_main_v28, val_main_v27, val_main_v26, val_main_v25, val_main_v24, val_main_v23, val_main_v22, val_main_cst_5, val_main_cst_6, val_main_cst_7]
  simp only [Finset.univ_unique, Finset.sum_singleton, v20, v7, v10, bits_2048]
  rw [add_assoc, add_assoc]
  exact congrArg (z (ix2 t d) + ·) (dn_eq (fun k => x (ix2 t k)) (fun k => g (ix1 k)) (fun k => u (ix2 t k)) d)
theorem v38 (y : Fin 1) (d : Fin 2048) : val_main_v38 (F := Ideal) u x (ix2 y d) = GG u x (ix2 y d) := by
  pointwise [val_main_v38, val_main_v21, val_main_v18, val_main_v17, val_main_v16, val_main_v12, val_main_v11, val_main_cst_3, val_main_cst_4]
  simp only [Finset.univ_unique, Finset.sum_singleton, v7]
  exact Finset.sum_congr rfl fun s _ => mul_comm _ _
end

theorem algebraic : Cert.algebraic_NormIdeal_NormRefIdeal (hNormIdeal := Cert.NormIdeal.Gen.facts)
    (hNormRefIdeal := Cert.NormRefIdeal.Gen.facts) := by
  intro m ρ m' ρ' _ hag
  refine ⟨fun c => gx m c, fun c => gx m c, fun c => gg m c,
    (θ_run Cert.NormIdeal.defs _ _).mono (fun r h c => ⟨(h c).1.trans (arr4 m c), (h c).2.1.trans (arr5 m c), (h c).2.2.1.trans (arr6 m c), (h c).2.2.2⟩)
      (Cert.NormIdeal.Value.run_blocks (F := Ideal) m ρ),
    (θ_run Cert.NormRefIdeal.defs _ _).mono (fun r h c => ?_) (Cert.NormRefIdeal.Value.run (F := Ideal) m' ρ')⟩
  obtain ⟨a0, a1, a2, a3⟩ := hag c
  obtain ⟨r0, r1, r2, rest⟩ := h c
  refine ⟨?_, ?_, ?_, rest⟩
  · rw [r0, Cert.NormRefIdeal.Read.val_main_v36_eq, a0, a1, a2, a3]
    funext i
    idx_vars i
    exact v36 _ _ _ _ _ _
  · rw [r1, Cert.NormRefIdeal.Read.val_main_v37_eq, a0, a1, a2, a3]
    funext i
    idx_vars i
    exact v36 _ _ _ _ _ _
  · rw [r2, Cert.NormRefIdeal.Read.val_main_v38_eq, a0, a1]
    funext i
    idx_vars i
    exact v38 _ _ _ _

end NormClaim

end
-- ==== Proof.GateVal.lean ====
/- The gradient of the second layer's gate: what the call's two results hold, entry by entry. -/
module

public import proofs.«01_k».proof.Proof.RealVal
public import proofs.«01_k».proof.Proof.Gen.GateIdeal.Value
public import Idealize.ShloMosaic.Lib.Tactic
public import Idealize.ShloMosaic.Lib.Pipeline.ValueKit
public import Idealize.ShloMosaic.Lib.Pipeline.ReadBack

@[expose] public section

set_option maxRecDepth 16384

noncomputable section

namespace GateVal

open Idealize.ShloMosaic Idealize.ShloMosaic.TcCoe RealVal Cert.GateIdeal Cert.GateIdeal.Gen

/-- The logistic function. -/
def sg (z : EReal) : EReal := Ideal.div 1 (1 + Ideal.exp (-z))

/-- The gradient of the gate's argument, from the gradient `u` of the product and the gated entry `w`. -/
def dz (u w z : EReal) : EReal := u * w * sg z * (1 + z * (1 - sg z))

theorem one_sub (s : ℝ) : (1 : EReal) - (s : EReal) = ((1 - s : ℝ) : EReal) := by rw [← EReal.coe_one, EReal.coe_sub]

/-- The gradient of the gate's argument, the way the reference spells it. -/
theorem dz_eq (u w : ℝ) (z : EReal) :
    (w : EReal) * u * sg z + z * ((w : EReal) * u) * (sg z * (1 - sg z)) = dz u w z := by
  unfold dz
  have top : sg ⊤ = ((1 : ℝ) : EReal) := by
    unfold sg
    rw [EReal.neg_top, Ideal.exp_bot, add_zero, ← EReal.coe_one, div_coe _ _ one_ne_zero, div_one]
  have bot : sg ⊥ = ((0 : ℝ) : EReal) := by
    unfold sg Ideal.div
    rw [EReal.neg_bot, Ideal.exp_top, EReal.add_top_of_ne_bot (show (1 : EReal) ≠ ⊥ from EReal.coe_ne_bot 1), if_neg (by simp)]
    simp
  induction z using EReal.rec with
  | bot => rw [bot]; simp
  | coe r =>
    have h : sg r = ((1 / (1 + Real.exp (-r)) : ℝ) : EReal) := by
      unfold sg
      rw [← EReal.coe_neg, Ideal.exp_coe, ← EReal.coe_one, ← EReal.coe_add, div_coe _ _ (by positivity)]
    rw [h, one_sub, ← EReal.coe_one]
    simp only [← EReal.coe_mul, ← EReal.coe_add]
    exact congrArg _ (by ring)
  | top => rw [top, one_sub]; simp [mul_comm]

/-! ## One grid point -/

section
variable (z u a b : Vec Ideal S256x1024 .f32) (r : Fin 256) (e : Fin 1024)

theorem pay1 : k0_pay1 z (ix2 r e) = sg (z (ix2 r e)) := by
  pointwise [k0_pay1]
  unfold sg
  simp

theorem pay2 : k0_pay2 z u (ix2 r e) = u (ix2 r e) * z (ix2 r e) * sg (z (ix2 r e)) := by
  pointwise [k0_pay2]
  rw [pay1]

theorem lt3 : ∀ j : Fin 4, Scalar.cmpi .slt (BitVec.ofNat 32 j.val) 3#32 = if j.val < 3 then 1#1 else 0#1 := by decide

theorem pay3 (i : grid0.Coords) :
    k0_pay3 i z u a b (ix2 r e) = dz (u (ix2 r e)) (if (i 1).val < 3 then a (ix2 r e) else b (ix2 r e)) (z (ix2 r e)) := by
  unfold k0_pay3
  dsimp only
  rw [lt3 (i 1)]
  by_cases h : (i 1).val < 3
  · rw [if_pos h, if_pos h]
    pointwise
    rw [pay1]
    unfold dz
    simp
  · rw [if_neg h, if_neg h]
    pointwise
    rw [pay1]
    unfold dz
    simp
end

/-! ## The blocks a point reads -/

theorem idx0 : ∀ t : Fin cfg0.N, win0_0.index t 0 = t.val / 4 ∧ win0_0.index t 1 = t.val % 4 := by decide +kernel
theorem idx1 : ∀ t : Fin cfg0.N, t.val % 4 < 3 → win0_1.index t 0 = t.val / 4 ∧ win0_1.index t 1 = t.val % 4 := by decide +kernel
theorem idx2 : ∀ t : Fin cfg0.N, win0_2.index t 0 = t.val / 4 ∧ win0_2.index t 1 = 0 := by decide +kernel
theorem idx3 : ∀ t : Fin cfg0.N, win0_3.index t 0 = t.val / 4 ∧ win0_3.index t 1 = 10 + t.val % 4 := by decide +kernel
theorem idx4 : ∀ t : Fin cfg0.N, win0_4.index t 0 = t.val / 4 ∧ win0_4.index t 1 = t.val % 4 := by decide +kernel
theorem idx5 : ∀ t : Fin cfg0.N, win0_5.index t 0 = t.val / 4 ∧ win0_5.index t 1 = t.val % 4 := by decide +kernel
theorem col : ∀ t : Fin cfg0.N, (grid0.coords t 1).val = t.val % 4 := by decide +kernel

section
variable (m : (ℓ : Loc nD τ sig) → Buf (Elt Ideal) ℓ) (c : Dev nD) (t : Fin cfg0.N)

theorem low : t.val < 32 := lt_of_lt_of_eq t.isLt N_0

/-- The row of the results at place `r` of the block of point `t`. -/
abbrev at0 (r : Fin 256) : Fin 2048 := ⟨t.val / 4 * 256 + r.val, by have := low t; omega⟩
/-- The column of the results at place `e` of the block of point `t`. -/
abbrev at1 (e : Fin 1024) : Fin 4096 := ⟨t.val % 4 * 1024 + e.val, by omega⟩

/-- Entry `e` of row `s` of the two gated arrays, side by side. -/
def cat (a : S2048x3072.Idx → EReal) (b : S2048x1024.Idx → EReal) (s : Fin 2048) (e : Fin 4096) : EReal :=
  if h : e.val < 3072 then a (ix2 s (⟨e.val, h⟩ : Fin 3072)) else b (ix2 s (⟨e.val - 3072, by omega⟩ : Fin 1024))
/-- Entry `e` of row `s` of the gate's argument. -/
def arg (p : S2048x14336.Idx → EReal) (s : Fin 2048) (e : Fin 4096) : EReal := p (ix2 s (⟨10240 + e.val, by omega⟩ : Fin 14336))

theorem blk0 (r : Fin 256) (e : Fin 1024) : iblk m c 0 t (ix2 r e) = m ((c : Thread nD τ).loc main_arg0) (ix2 (at0 t r) (at1 t e)) := by
  blk_ext [iblk, V, idx0 t]
theorem blk1 (h : t.val % 4 < 3) (r : Fin 256) (e : Fin 1024) : iblk m c 1 t (ix2 r e) =
    m ((c : Thread nD τ).loc main_arg1) (ix2 (at0 t r) (⟨t.val % 4 * 1024 + e.val, by omega⟩ : Fin 3072)) := by
  blk_ext [iblk, V, idx1 t h]
theorem blk2 (r : Fin 256) (e : Fin 1024) : iblk m c 2 t (ix2 r e) = m ((c : Thread nD τ).loc main_arg2) (ix2 (at0 t r) e) := by
  blk_ext [iblk, V, idx2 t]
theorem blk3 (r : Fin 256) (e : Fin 1024) : iblk m c 3 t (ix2 r e) = arg (m ((c : Thread nD τ).loc main_arg3)) (at0 t r) (at1 t e) := by
  unfold arg
  blk_ext [iblk, V, idx3 t]

theorem sel {p q : EReal} (r : Fin 256) (e : Fin 1024) (hp : p = iblk m c 1 t (ix2 r e)) (hq : q = iblk m c 2 t (ix2 r e)) :
    (if (grid0.coords t 1).val < 3 then p else q)
      = cat (m ((c : Thread nD τ).loc main_arg1)) (m ((c : Thread nD τ).loc main_arg2)) (at0 t r) (at1 t e) := by
  rw [col t]
  unfold cat
  by_cases h : t.val % 4 < 3
  · rw [if_pos h, dif_pos (by dsimp only; omega)]
    exact hp.trans (blk1 m c t h r e)
  · rw [if_neg h, dif_neg (by dsimp only; omega)]
    refine hq.trans ((blk2 m c t r e).trans (congrArg (fun k => m ((c : Thread nD τ).loc main_arg2) (ix2 (at0 t r) k)) (Fin.ext ?_)))
    dsimp only
    omega

end

/-- The gradient of the two gated arrays, side by side. -/
def G4 (u : S2048x4096.Idx → EReal) (p : S2048x14336.Idx → EReal) : S2048x4096.Idx → EReal := fun i =>
  u i * arg p (i 0) (i 1) * sg (arg p (i 0) (i 1))
/-- The gradient of the gate's argument. -/
def G5 (u : S2048x4096.Idx → EReal) (a : S2048x3072.Idx → EReal) (b : S2048x1024.Idx → EReal) (p : S2048x14336.Idx → EReal) :
    S2048x4096.Idx → EReal := fun i => dz (u i) (cat a b (i 0) (i 1)) (arg p (i 0) (i 1))

section
variable (m : (ℓ : Loc nD τ sig) → Buf (Elt Ideal) ℓ) (c : Dev nD)

/-- The two results of the launched arguments. -/
abbrev g4 : S2048x4096.Idx → EReal := G4 (m ((c : Thread nD τ).loc main_arg0)) (m ((c : Thread nD τ).loc main_arg3))
@[inherit_doc g4]
abbrev g5 : S2048x4096.Idx → EReal := G5 (m ((c : Thread nD τ).loc main_arg0)) (m ((c : Thread nD τ).loc main_arg1))
  (m ((c : Thread nD τ).loc main_arg2)) (m ((c : Thread nD τ).loc main_arg3))

theorem out4 (t : Fin cfg0.N) (r : Fin 256) (e : Fin 1024) :
    out0_4 (grid0.coords t) (iblk m c 0 t) (iblk m c 1 t) (iblk m c 2 t) (iblk m c 3 t) (ix2 r e) = g4 m c (ix2 (at0 t r) (at1 t e)) := by
  unfold out0_4
  frame_out
  exact (pay2 _ _ r e).trans (congrArg₂ (· * ·) (congrArg₂ (· * ·) (blk0 m c t r e) (blk3 m c t r e)) (congrArg sg (blk3 m c t r e)))

theorem out5 (t : Fin cfg0.N) (r : Fin 256) (e : Fin 1024) :
    out0_5 (grid0.coords t) (iblk m c 0 t) (iblk m c 1 t) (iblk m c 2 t) (iblk m c 3 t) (ix2 r e) = g5 m c (ix2 (at0 t r) (at1 t e)) := by
  unfold out0_5
  frame_out
  refine (pay3 _ _ _ _ r e _).trans ?_
  rw [sel m c t r e rfl rfl]
  exact congrArg₂ (fun p q => dz p (cat _ _ (at0 t r) (at1 t e)) q) (blk0 m c t r e) (blk3 m c t r e)

/-- Where an entry of a block of point `t` lies in the array. -/
theorem place (t : Fin cfg0.N) (r e : ℕ) (hr : r < 256) (he : e < 1024) {i : S2048x4096.Idx}
    (h0 : (i 0).val = t.val / 4 * 256 + 1 * r) (h1 : (i 1).val = t.val % 4 * 1024 + 1 * e) :
    i = ix2 (at0 t ⟨r, hr⟩) (at1 t ⟨e, he⟩) := by
  funext a; apply Fin.ext
  match a with
  | ⟨0, _⟩ => exact h0.trans (show t.val / 4 * 256 + 1 * r = t.val / 4 * 256 + r by omega)
  | ⟨1, _⟩ => exact h1.trans (show t.val % 4 * 1024 + 1 * e = t.val % 4 * 1024 + e by omega)

/-- The point whose block holds an entry of the array. -/
abbrev pt (i : S2048x4096.Idx) : Fin cfg0.N :=
  ⟨(i 0).val / 256 * 4 + (i 1).val / 1024, lt_of_lt_of_eq (b := 32) (by
    have h0 : (i 0).val < 2048 := (i 0).isLt
    have h1 : (i 1).val < 4096 := (i 1).isLt
    omega) N_0.symm⟩

theorem covered (i : S2048x4096.Idx) {a b : ℕ} (ha : a = (pt i).val / 4) (hb : b = (pt i).val % 4) :
    (a * 256 ≤ (i 0).val ∧ (i 0).val < a * 256 + 256) ∧ b * 1024 ≤ (i 1).val ∧ (i 1).val < b * 1024 + 1024 := by
  have h0 : (i 0).val < 2048 := (i 0).isLt
  have h1 : (i 1).val < 4096 := (i 1).isLt
  dsimp only [pt] at ha hb
  omega

theorem mem_blk4 (t : Fin cfg0.N) (i : S2048x4096.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v0_0).slice (win0_4.rect t)).set ↔ _
  rw [View.set_slice_whole, Rect.mem_set_unit]
  exact Iff.rfl

theorem arr4 : (dats m 0 c).arrAt 4 cfg0.N = g4 m c :=
  (dats m 0 c).arrAt_eq_of_cover 4 _ (fun t _ => by
    rw [Value.flushed4]
    have O := out4 m c t
    generalize out0_4 (grid0.coords t) (iblk m c 0 t) (iblk m c 1 t) (iblk m c 2 t) (iblk m c 3 t) = o at O
    funext y
    have hy0 : (y 0).val < 256 := (y 0).isLt
    have hy1 : (y 1).val < 1024 := (y 1).isLt
    have hx : (cfg0.win 4).xinj (grid0.coords t) y = (ix2 (⟨(y 0).val, hy0⟩ : Fin 256) (⟨(y 1).val, hy1⟩ : Fin 1024) : S256x1024.Idx) := by
      funext a; apply Fin.ext
      match a with
      | ⟨0, _⟩ => rfl
      | ⟨1, _⟩ => rfl
    have hb : ((cfg0.win 4).blk t).view.emb y = (ix2 (at0 t ⟨(y 0).val, hy0⟩) (at1 t ⟨(y 1).val, hy1⟩) : S2048x4096.Idx) :=
      place t _ _ hy0 hy1 (congrArg (fun k => k * 256 + 1 * (y 0).val) (idx4 t).1) (congrArg (fun k => k * 1024 + 1 * (y 1).val) (idx4 t).2)
    show o ((cfg0.win 4).xinj (grid0.coords t) y) = g4 m c (((cfg0.win 4).blk t).view.emb y)
    rw [hx, hb, O]) (fun i => by
    refine ⟨pt i, flush0_4 _, (mem_blk4 _ i).mpr fun a => ?_⟩
    match a with
    | ⟨0, _⟩ => exact (covered i (idx4 (pt i)).1 (idx4 (pt i)).2).1
    | ⟨1, _⟩ => exact (covered i (idx4 (pt i)).1 (idx4 (pt i)).2).2)

theorem mem_blk5 (t : Fin cfg0.N) (i : S2048x4096.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v0_1).slice (win0_5.rect t)).set ↔ _
  rw [View.set_slice_whole, Rect.mem_set_unit]
  exact Iff.rfl

theorem arr5 : (dats m 0 c).arrAt 5 cfg0.N = g5 m c :=
  (dats m 0 c).arrAt_eq_of_cover 5 _ (fun t _ => by
    rw [Value.flushed5]
    have O := out5 m c t
    generalize out0_5 (grid0.coords t) (iblk m c 0 t) (iblk m c 1 t) (iblk m c 2 t) (iblk m c 3 t) = o at O
    funext y
    have hy0 : (y 0).val < 256 := (y 0).isLt
    have hy1 : (y 1).val < 1024 := (y 1).isLt
    have hx : (cfg0.win 5).xinj (grid0.coords t) y = (ix2 (⟨(y 0).val, hy0⟩ : Fin 256) (⟨(y 1).val, hy1⟩ : Fin 1024) : S256x1024.Idx) := by
      funext a; apply Fin.ext
      match a with
      | ⟨0, _⟩ => rfl
      | ⟨1, _⟩ => rfl
    have hb : ((cfg0.win 5).blk t).view.emb y = (ix2 (at0 t ⟨(y 0).val, hy0⟩) (at1 t ⟨(y 1).val, hy1⟩) : S2048x4096.Idx) :=
      place t _ _ hy0 hy1 (congrArg (fun k => k * 256 + 1 * (y 0).val) (idx5 t).1) (congrArg (fun k => k * 1024 + 1 * (y 1).val) (idx5 t).2)
    show o ((cfg0.win 5).xinj (grid0.coords t) y) = g5 m c (((cfg0.win 5).blk t).view.emb y)
    rw [hx, hb, O]) (fun i => by
    refine ⟨pt i, flush0_5 _, (mem_blk5 _ i).mpr fun a => ?_⟩
    match a with
    | ⟨0, _⟩ => exact (covered i (idx5 (pt i)).1 (idx5 (pt i)).2).1
    | ⟨1, _⟩ => exact (covered i (idx5 (pt i)).1 (idx5 (pt i)).2).2)

end

end GateVal

end
-- ==== Proof.GateClaim.lean ====
/- The claims about the gradient of the second layer's gate. -/
module

public import proofs.«01_k».proof.Defs
public import proofs.«01_k».proof.Proof.GateVal
public import proofs.«01_k».proof.Proof.Gen.Gate.Frame
public import proofs.«01_k».proof.Proof.Gen.Pre_finite_gate
public import proofs.«01_k».proof.Proof.Gen.GateRefIdeal.Run
public import proofs.«01_k».proof.Proof.Gen.GateRefIdeal.Read
public import Idealize.ShloMosaic.Lib.Pointwise
public import Idealize.ShloMosaic.Adequacy
public import Idealize.ShloMosaic.Init

@[expose] public section

set_option maxRecDepth 16384

noncomputable section

namespace GateClaim

open Idealize.ShloMosaic Idealize.ShloMosaic.TcCoe Idealize.SL.Sem RealVal GateVal

theorem frame_p : Cert.quiescent_Gate (hGate := Cert.Gate.Gen.facts) := fun m ρ _ => Cert.Gate.Gen.frame m ρ

theorem frame_pi : Cert.quiescent_GateIdeal (hGateIdeal := Cert.GateIdeal.Gen.facts) := fun m ρ _ => Cert.GateIdeal.Gen.frame m ρ

theorem frame_pi' : Cert.quiescent_GateIdeal_pre_finite_gate (hGateIdeal := Cert.GateIdeal.Gen.facts)
    (hPre_finite_gate := Cert.Pre_finite_gate.Gen.facts) := fun m ρ _ => Cert.GateIdeal.Gen.frame m ρ

theorem frame_ri : Cert.quiescent_GateRefIdeal (hGateRefIdeal := Cert.GateRefIdeal.Gen.facts) := fun m ρ _ =>
  (θ_run Cert.GateRefIdeal.defs _ _).mono (fun r h => ⟨fun c => (h c).2.2,
      Idealize.ShloMosaic.sem_eq_zero_of_no_sems (by decide) r.2⟩)
    (Cert.GateRefIdeal.Value.run (F := Ideal) m ρ)

theorem frame_ri' : Cert.quiescent_GateRefIdeal_pre_finite_gate (hGateRefIdeal := Cert.GateRefIdeal.Gen.facts)
    (hPre_finite_gate := Cert.Pre_finite_gate.Gen.facts) := fun m ρ _ => frame_ri m ρ trivial

/-! ## Finite arguments are reals -/

section
open Cert.Pre_finite_gate
variable (x0 : FVec Ideal S2048x4096 .f32) (x1 : FVec Ideal S2048x3072 .f32) (x2 : FVec Ideal S2048x1024 .f32) (x3 : FVec Ideal S2048x14336 .f32)

theorem lt_top {x : EReal} (h : Ideal.cmp .olt (max x (-x)) ⊤ = 1#1) : ∃ r : ℝ, x = r := by
  refine real_of_abs ?_
  by_contra hn
  simp [Ideal.cmp, hn] at h

theorem real0 (h : (fn (F := Ideal) x0 x1 x2 x3).1 = fun _ => 1#1) (t : Fin 2048) (e : Fin 4096) : ∃ r : ℝ, x0 (ix2 t e) = r := by
  have := congrFun h (ix2 t e)
  pointwise [fn] at this
  rw [bits_top] at this
  exact lt_top this

theorem real1 (h : (fn (F := Ideal) x0 x1 x2 x3).2.1 = fun _ => 1#1) (t : Fin 2048) (e : Fin 3072) : ∃ r : ℝ, x1 (ix2 t e) = r := by
  have := congrFun h (ix2 t e)
  pointwise [fn] at this
  rw [bits_top] at this
  exact lt_top this

theorem real2 (h : (fn (F := Ideal) x0 x1 x2 x3).2.2 = fun _ => 1#1) (t : Fin 2048) (e : Fin 1024) : ∃ r : ℝ, x2 (ix2 t e) = r := by
  have := congrFun h (ix2 t e)
  pointwise [fn] at this
  rw [bits_top] at this
  exact lt_top this
end

/-! ## The reference's values -/

section
open Cert.GateRefIdeal Cert.GateRefIdeal.Read

variable (u : (⟨2, ![2048, 4096]⟩ : Shape).Idx → EReal) (a : (⟨2, ![2048, 3072]⟩ : Shape).Idx → EReal)
variable (b : (⟨2, ![2048, 1024]⟩ : Shape).Idx → EReal) (p : (⟨2, ![2048, 14336]⟩ : Shape).Idx → EReal)

theorem v0 (s : Fin 2048) (e : Fin 4096) : val_main_v0 (F := Ideal) p (ix2 s e) = arg p s e := by
  pointwise [val_main_v0]
  rfl
theorem v1 (s : Fin 2048) (e : Fin 4096) : val_main_v1 (F := Ideal) a b (ix2 s e) = cat a b s e := by
  pointwise [val_main_v1]
  rfl
theorem v2 (s : Fin 2048) (e : Fin 4096) : val_main_v2_2 (F := Ideal) p (ix2 s e) = sg (arg p s e) := by
  pointwise [val_main_v2_2, val_main_call0_v4, val_main_call0_v3, val_main_call0_v2, val_main_call0_v1, val_main_call0_v0, val_main_call0_cst, val_main_call0_cst_0]
  rw [v0]
  unfold sg
  simp
theorem v5 (s : Fin 2048) (e : Fin 4096) : val_main_v5 (F := Ideal) u p (ix2 s e) = G4 u p (ix2 s e) := by
  pointwise [val_main_v5, val_main_v2_0]
  rw [v0, v2]
  exact (mul_assoc _ _ _).symm
theorem v9 (s : Fin 2048) (e : Fin 4096) : val_main_v9 (F := Ideal) u p (ix2 s e) = G4 u p (ix2 s e) := by
  have h : val_main_v9 (F := Ideal) u p (ix2 s e) = val_main_v5 (F := Ideal) u p (ix2 s e) := by
    pointwise [val_main_v9, val_main_v8, val_main_v7]
    split
    · rfl
    · refine congrArg (fun k => val_main_v5 (F := Ideal) u p (ix2 s k)) (Fin.ext ?_)
      dsimp only
      omega
  exact h.trans (v5 u p s e)
theorem v10 (hu : ∀ s e, ∃ r : ℝ, u (ix2 s e) = r) (ha : ∀ s e, ∃ r : ℝ, a (ix2 s e) = r) (hb : ∀ s e, ∃ r : ℝ, b (ix2 s e) = r)
    (s : Fin 2048) (e : Fin 4096) : val_main_v10 (F := Ideal) u a b p (ix2 s e) = G5 u a b p (ix2 s e) := by
  obtain ⟨x, hx⟩ := hu s e
  obtain ⟨w, hw⟩ : ∃ r : ℝ, cat a b s e = r := by
    unfold cat
    split
    · exact ha _ _
    · exact hb _ _
  pointwise [val_main_v10, val_main_v6, val_main_v4, val_main_call1_v2, val_main_call1_v1, val_main_call1_v0, val_main_v2_1, val_main_call0_v7, val_main_call0_v6, val_main_call0_cst_1]
  rw [v0, v1, v2]
  show _ = dz (u (ix2 s e)) (cat a b s e) (arg p s e)
  rw [hx, hw, ← dz_eq]
end

theorem algebraic : Cert.algebraic_GateIdeal_GateRefIdeal_pre_finite_gate (hGateIdeal := Cert.GateIdeal.Gen.facts)
    (hGateRefIdeal := Cert.GateRefIdeal.Gen.facts) (hPre_finite_gate := Cert.Pre_finite_gate.Gen.facts) := by
  intro m ρ m' ρ' hpre hag
  refine ⟨fun c => g4 m c, fun c => g5 m c,
    (θ_run Cert.GateIdeal.defs _ _).mono (fun r h c => ⟨(h c).1.trans (arr4 m c), (h c).2.1.trans (arr5 m c), (h c).2.2⟩)
      (Cert.GateIdeal.Value.run_blocks (F := Ideal) m ρ),
    (θ_run Cert.GateRefIdeal.defs _ _).mono (fun r h c => ?_) (Cert.GateRefIdeal.Value.run (F := Ideal) m' ρ')⟩
  obtain ⟨p0, p1, p2⟩ := hpre c
  obtain ⟨a0, a1, a2, a3⟩ := hag c
  obtain ⟨r0, r1, rest⟩ := h c
  refine ⟨?_, ?_, rest⟩
  · rw [r0, Cert.GateRefIdeal.Read.val_main_v9_eq, a0, a3]
    funext i
    idx_vars i
    exact v9 _ _ _ _
  · rw [r1, Cert.GateRefIdeal.Read.val_main_v10_eq, a0, a1, a2, a3]
    funext i
    idx_vars i
    exact v10 _ _ _ _ (real0 _ _ _ _ p0) (real1 _ _ _ _ p1) (real2 _ _ _ _ p2) _ _

end GateClaim

end
-- ==== Proof.WkvClaim.lean ====
/- The claims about the gradient of the memory's key and value matrix: what each grid point writes, and the whole array, as one sum per
   entry. -/
module

public import proofs.«01_k».proof.Defs
public import proofs.«01_k».proof.Proof.ProdSeg
public import proofs.«01_k».proof.Proof.Gen.Wkv.Frame
public import proofs.«01_k».proof.Proof.Gen.WkvIdeal.Value
public import proofs.«01_k».proof.Proof.Gen.WkvRefIdeal.Run
public import proofs.«01_k».proof.Proof.Gen.WkvRefIdeal.Read
public import Idealize.ShloMosaic.Lib.Tactic
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace WkvClaim

open Idealize.ShloMosaic Idealize.ShloMosaic.TcCoe Idealize.SL.Sem ProdSeg

section
open Cert.WkvIdeal Cert.WkvIdeal.Gen

/-- A block of the product: the sum over the contracted axis. -/
theorem pay (x : Vec Ideal S256x512 .bf16) (y : Vec Ideal S256x512 .f32) (r e : Fin 512) :
    k0_pay1 x y (ix3 (0 : Fin 1) r e) = ∑ q : Fin 256, x (ix2 q r) * y (ix2 q e) := by
  pointwise [k0_pay1]
  try simp

theorem idx0 : ∀ t : Fin cfg0.N, win0_0.index t 0 = 0 ∧ win0_0.index t 1 = t.val / 4 := by decide +kernel
theorem idx1 : ∀ t : Fin cfg0.N, win0_1.index t 0 = 0 ∧ win0_1.index t 1 = t.val % 4 := by decide +kernel
theorem idx2 : ∀ t : Fin cfg0.N, win0_2.index t (0 : Fin 3) = t.val / 4 ∧ win0_2.index t (1 : Fin 3) = 0 ∧ win0_2.index t (2 : Fin 3) = t.val % 4 := by decide +kernel

variable (m : (ℓ : Loc nD τ sig) → Buf (Elt Ideal) ℓ) (c : Dev nD) (t : Fin cfg0.N)

theorem low : t.val < 16 := lt_of_lt_of_eq t.isLt N_0

/-- Entry `j` of row `q` of the left factor. -/
abbrev row (j : Fin 2048) (q : Fin 256) : EReal := m ((c : Thread nD τ).loc main_arg0) (ix2 q j)
/-- Entry `e` of row `q` of the right factor. -/
abbrev wt (q : Fin 256) (e : Fin 2048) : EReal := m ((c : Thread nD τ).loc main_arg1) (ix2 q e)

theorem blk0 (r : Fin 512) (q : Fin 256) : iblk m c 0 t (ix2 q r) = row m c (⟨t.val / 4 * 512 + r.val, by have := low t; omega⟩ : Fin 2048) q := by
  unfold row
  blk_ext [iblk, V, idx0 t]
theorem blk1 (q : Fin 256) (e : Fin 512) : iblk m c 1 t (ix2 q e) = wt m c q (⟨t.val % 4 * 512 + e.val, by omega⟩ : Fin 2048) := by
  unfold wt
  blk_ext [iblk, V, idx1 t]

/-- The product, in the layout of the result. -/
def G : S4x512x2048.Idx → EReal := fun i => ∑ q : Fin 256, row m c (⟨(i 0).val * 512 + (i 1).val, by
    have h0 : (i 0).val < 4 := (i 0).isLt
    have h1 : (i 1).val < 512 := (i 1).isLt
    omega⟩ : Fin 2048) q * wt m c q (i 2)

/-- What a grid point leaves in the result's block. -/
theorem out (r e : Fin 512) : out0_2 (iblk m c 0 t) (iblk m c 1 t) (ix3 (0 : Fin 1) r e) =
    ∑ q : Fin 256, row m c (⟨t.val / 4 * 512 + r.val, by have := low t; omega⟩ : Fin 2048) q * wt m c q (⟨t.val % 4 * 512 + e.val, by omega⟩ : Fin 2048) := by
  unfold out0_2
  frame_out
  exact (pay _ _ r e).trans (Finset.sum_congr rfl fun q _ => congrArg₂ (· * ·) (blk0 m c t r q) (blk1 m c t q e))

theorem flushed : (dats m 0 c).flushed 2 t = ((cfg0.win 2).blk t).view.read (Elt Ideal) (G m c) := by
  rw [Value.flushed2]
  have O := out m c t
  generalize out0_2 (iblk m c 0 t) (iblk m c 1 t) = o at O
  obtain ⟨i0, i1, i2⟩ := idx2 t
  funext y
  have hy0 : (y 0).val < 1 := (y 0).isLt
  have hy1 : (y 1).val < 512 := (y 1).isLt
  have hy2 : (y 2).val < 512 := (y 2).isLt
  have hb0 : (((cfg0.win 2).blk t).view.emb y 0).val = win0_2.index t (0 : Fin 3) * 1 + 1 * (y 0).val := rfl
  have hb1 : (((cfg0.win 2).blk t).view.emb y 1).val = win0_2.index t (1 : Fin 3) * 512 + 1 * (y 1).val := rfl
  have hb2 : (((cfg0.win 2).blk t).view.emb y 2).val = win0_2.index t (2 : Fin 3) * 512 + 1 * (y 2).val := rfl
  have hx : (cfg0.win 2).xinj (grid0.coords t) y = (ix3 (0 : Fin 1) (⟨(y 1).val, hy1⟩ : Fin 512) (⟨(y 2).val, hy2⟩ : Fin 512) : S1x512x512.Idx) := by
    funext a; apply Fin.ext
    match a with
    | ⟨0, _⟩ => show (y 0).val = 0; omega
    | ⟨1, _⟩ => rfl
    | ⟨2, _⟩ => rfl
  show o ((cfg0.win 2).xinj (grid0.coords t) y) = G m c (((cfg0.win 2).blk t).view.emb y)
  rw [hx, O]
  unfold G
  refine Finset.sum_congr rfl fun q _ => congrArg₂ (· * ·) (congrArg (row m c · q) (Fin.ext ?_)) (congrArg (wt m c q) (Fin.ext ?_))
  · dsimp only
    rw [hb0, hb1, i0, i1]
    omega
  · rw [hb2, i2]
    dsimp only
    omega

theorem mem_blk (i : S4x512x2048.Idx) :
    i ∈ ((cfg0.win 2).blk t).view.set ↔ ∀ a : Fin 3, win0_2.index t a * S1x512x512.size a ≤ (i a).val ∧ (i a).val < win0_2.index t a * S1x512x512.size a + S1x512x512.size a := by
  show i ∈ ((View.whole main_v0).slice (win0_2.rect t)).set ↔ _
  rw [View.set_slice_whole, Rect.mem_set_unit]
  exact Iff.rfl

/-- The array after the run. -/
theorem arr : (dats m 0 c).arrAt 2 cfg0.N = G m c :=
  (dats m 0 c).arrAt_eq_of_cover 2 _ (fun t _ => flushed m c t) (fun i => by
    have h0 : (i 0).val < 4 := (i 0).isLt
    have h1 : (i 1).val < 512 := (i 1).isLt
    have h2 : (i 2).val < 2048 := (i 2).isLt
    have hp : (i 0).val * 4 + (i 2).val / 512 < 16 := by omega
    refine ⟨⟨(i 0).val * 4 + (i 2).val / 512, lt_of_lt_of_eq hp N_0.symm⟩, flush0_2 _, ?_⟩
    rw [mem_blk]
    obtain ⟨e0, e1, e2⟩ := idx2 ⟨(i 0).val * 4 + (i 2).val / 512, lt_of_lt_of_eq hp N_0.symm⟩
    intro a
    match a with
    | ⟨0, _⟩ =>
      show win0_2.index _ (0 : Fin 3) * 1 ≤ (i 0).val ∧ (i 0).val < win0_2.index _ (0 : Fin 3) * 1 + 1
      rw [e0]; dsimp only; omega
    | ⟨1, _⟩ =>
      show win0_2.index _ (1 : Fin 3) * 512 ≤ (i 1).val ∧ (i 1).val < win0_2.index _ (1 : Fin 3) * 512 + 512
      rw [e1]; omega
    | ⟨2, _⟩ =>
      show win0_2.index _ (2 : Fin 3) * 512 ≤ (i 2).val ∧ (i 2).val < win0_2.index _ (2 : Fin 3) * 512 + 512
      rw [e2]; dsimp only; omega)

end

theorem frame_p : Cert.quiescent_Wkv (hWkv := Cert.Wkv.Gen.facts) := fun m ρ _ => Cert.Wkv.Gen.frame m ρ

theorem frame_pi : Cert.quiescent_WkvIdeal (hWkvIdeal := Cert.WkvIdeal.Gen.facts) := fun m ρ _ => Cert.WkvIdeal.Gen.frame m ρ

theorem frame_ri : Cert.quiescent_WkvRefIdeal (hWkvRefIdeal := Cert.WkvRefIdeal.Gen.facts) := fun m ρ _ =>
  (θ_run Cert.WkvRefIdeal.defs _ _).mono (fun r h => ⟨fun c => (h c).2,
      Idealize.ShloMosaic.sem_eq_zero_of_no_sems (by decide) r.2⟩)
    (Cert.WkvRefIdeal.Value.run (F := Ideal) m ρ)

section
open Cert.WkvRefIdeal Cert.WkvRefIdeal.Read

variable (x w : Arr 256 2048)

theorem ref_val (a : Fin 4) (b : Fin 512) (e : Fin 2048) : val_main_v4 (F := Ideal) x w (ix3 a b e) =
    ∑ q : Fin 256, x (ix2 q (⟨a.val * 512 + b.val, by omega⟩ : Fin 2048)) * w (ix2 q e) := by
  have hi : idx_main_v2 (idx_main_v3 (ix3 a b e)) = (ix2 e (⟨a.val * 512 + b.val, by omega⟩ : Fin 2048) : S2048x2048.Idx) := by
    funext k; apply Fin.ext
    match k with
    | ⟨0, _⟩ => show ((a.val * 512 + b.val) * 2048 + e.val) % 2048 = e.val; omega
    | ⟨1, _⟩ => show ((a.val * 512 + b.val) * 2048 + e.val) / 2048 = a.val * 512 + b.val; omega
  rw [val_main_v4_apply, val_main_v3_apply, val_main_v2_apply, hi, val_main_v1_apply]
  refine Finset.sum_congr rfl fun q _ => (mul_comm _ _).trans (congrArg₂ (· * ·) ?_ ?_)
  · refine (val_main_v0_apply (F := Ideal) x _).trans (congrArg x ?_)
    funext k
    match k with
    | ⟨0, _⟩ => rfl
    | ⟨1, _⟩ => rfl
  · refine congrArg w ?_
    funext k
    match k with
    | ⟨0, _⟩ => rfl
    | ⟨1, _⟩ => rfl

end

theorem algebraic : Cert.algebraic_WkvIdeal_WkvRefIdeal (hWkvIdeal := Cert.WkvIdeal.Gen.facts)
    (hWkvRefIdeal := Cert.WkvRefIdeal.Gen.facts) := by
  intro m ρ m' ρ' _ hag
  refine ⟨fun c => G m c,
    (θ_run Cert.WkvIdeal.defs _ _).mono (fun r h c => ⟨(h c).1.trans (arr m c), (h c).2⟩) (Cert.WkvIdeal.Value.run_blocks (F := Ideal) m ρ),
    (θ_run Cert.WkvRefIdeal.defs _ _).mono (fun r h c => ⟨?_, (h c).2⟩) (Cert.WkvRefIdeal.Value.run (F := Ideal) m' ρ')⟩
  obtain ⟨a0, a1⟩ := hag c
  refine ((h c).1.trans (Cert.WkvRefIdeal.Read.val_main_v4_eq _ _)).trans ?_
  rw [a0, a1]
  funext i
  rw [eq_ix3 i]
  exact ref_val _ _ _ _ _

end WkvClaim

end
-- ==== Proof.KvLayer.lean ====
/- The memory's key and value matrices, as four slots of rows of the two layers. -/
module

public import proofs.«01_k».proof.Proof.ProdSeg

@[expose] public section

noncomputable section

namespace ProdSeg

open Idealize.ShloMosaic

/-- Entry `(e, d)` of layer `l`'s matrix of 2048 rows. -/
def kvLayer (l : Fin 2) (w : (⟨4, ![4, 2, 512, 2048]⟩ : Shape).Idx → EReal) (e : ℕ) (d : Fin 2048) : EReal :=
  w (ix4 (⟨e / 512 % 4, by omega⟩ : Fin 4) l (⟨e % 512, by omega⟩ : Fin 512) d)

end ProdSeg

end
-- ==== Proof.KvClaim.lean ====
/- The claims about the memory's key and value projection in the second layer: what each grid point writes, and the whole array, as
   one sum per entry. -/
module

public import proofs.«01_k».proof.Defs
public import proofs.«01_k».proof.Proof.KvLayer
public import proofs.«01_k».proof.Proof.Gen.Kv.Frame
public import proofs.«01_k».proof.Proof.Gen.KvIdeal.Value
public import proofs.«01_k».proof.Proof.Gen.KvRefIdeal.Run
public import proofs.«01_k».proof.Proof.Gen.KvRefIdeal.Read
public import Idealize.ShloMosaic.Lib.Tactic
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace KvClaim

open Idealize.ShloMosaic Idealize.ShloMosaic.TcCoe Idealize.SL.Sem ProdSeg

section
open Cert.KvIdeal Cert.KvIdeal.Gen

/-- A block of the product: the sum over the contracted axis. -/
theorem pay (x : Vec Ideal S256x2048 .bf16) (y : Vec Ideal S4x1x512x512 .bf16) (r : Fin 256) (e : Fin 512) :
    k0_pay1 x y (ix2 r e) = ∑ q : Fin 2048, x (ix2 r q) *
      y (ix4 (⟨q.val / 512, by omega⟩ : Fin 4) (0 : Fin 1) (⟨q.val % 512, by omega⟩ : Fin 512) e) := by
  pointwise [k0_pay1]
  try simp

theorem idx0 : ∀ t : Fin cfg0.N, win0_0.index t 0 = 0 ∧ win0_0.index t 1 = 0 := by decide +kernel
theorem idx1 : ∀ t : Fin cfg0.N, win0_1.index t (0 : Fin 4) = 0 ∧ win0_1.index t (1 : Fin 4) = 1 ∧
    win0_1.index t (2 : Fin 4) = 0 ∧ win0_1.index t (3 : Fin 4) = t.val := by decide +kernel
theorem idx2 : ∀ t : Fin cfg0.N, win0_2.index t 0 = 0 ∧ win0_2.index t 1 = t.val := by decide +kernel

variable (m : (ℓ : Loc nD τ sig) → Buf (Elt Ideal) ℓ) (c : Dev nD) (t : Fin cfg0.N)

theorem low : t.val < 4 := lt_of_lt_of_eq t.isLt N_0

/-- Entry `q` of row `s` of the left factor. -/
abbrev row (s : Fin 256) (q : Fin 2048) : EReal := m ((c : Thread nD τ).loc main_arg0) (ix2 s q)
/-- Entry `(q, e)` of the matrix. -/
abbrev wt (q e : Fin 2048) : EReal := kvLayer 1 (m ((c : Thread nD τ).loc main_arg1)) q.val e

/-- The column of the result at place `e` of the block of point `t`. -/
abbrev at1 (e : Fin 512) : Fin 2048 := ⟨t.val * 512 + e.val, by have := low t; omega⟩

theorem blk0 (r : Fin 256) (q : Fin 2048) : iblk m c 0 t (ix2 r q) = row m c r q := by
  unfold row
  blk_ext [iblk, V, idx0 t]
theorem blk1 (q : Fin 2048) (e : Fin 512) :
    iblk m c 1 t (ix4 (⟨q.val / 512, by omega⟩ : Fin 4) (0 : Fin 1) (⟨q.val % 512, by omega⟩ : Fin 512) e) = wt m c q (at1 t e) := by
  have := low t
  unfold wt kvLayer
  blk_ext [iblk, V, idx1 t]

/-- The product. -/
def G : S256x2048.Idx → EReal := fun i => ∑ q : Fin 2048, row m c (i 0) q * wt m c q (i 1)

/-- What a grid point leaves in the result's block. -/
theorem out (r : Fin 256) (e : Fin 512) : out0_2 (iblk m c 0 t) (iblk m c 1 t) (ix2 r e) =
    ∑ q : Fin 2048, row m c r q * wt m c q (at1 t e) := by
  unfold out0_2
  frame_out
  exact (pay _ _ r e).trans (Finset.sum_congr rfl fun q _ => congrArg₂ (· * ·) (blk0 m c t r q) (blk1 m c t q e))

theorem flushed : (dats m 0 c).flushed 2 t = ((cfg0.win 2).blk t).view.read (Elt Ideal) (G m c) := by
  rw [Value.flushed2]
  have O := out m c t
  generalize out0_2 (iblk m c 0 t) (iblk m c 1 t) = o at O
  obtain ⟨i0, i1⟩ := idx2 t
  funext y
  have hy0 : (y 0).val < 256 := (y 0).isLt
  have hy1 : (y 1).val < 512 := (y 1).isLt
  have hb0 : (((cfg0.win 2).blk t).view.emb y 0).val = win0_2.index t 0 * 256 + 1 * (y 0).val := rfl
  have hb1 : (((cfg0.win 2).blk t).view.emb y 1).val = win0_2.index t 1 * 512 + 1 * (y 1).val := rfl
  have hx : (cfg0.win 2).xinj (grid0.coords t) y = (ix2 (⟨(y 0).val, hy0⟩ : Fin 256) (⟨(y 1).val, hy1⟩ : Fin 512) : S256x512.Idx) := by
    funext a; apply Fin.ext
    match a with
    | ⟨0, _⟩ => rfl
    | ⟨1, _⟩ => rfl
  show o ((cfg0.win 2).xinj (grid0.coords t) y) = G m c (((cfg0.win 2).blk t).view.emb y)
  rw [hx, O]
  have g0 : (⟨(y 0).val, hy0⟩ : Fin 256) = ((cfg0.win 2).blk t).view.emb y 0 := Fin.ext (by
    rw [hb0, i0]
    dsimp only
    omega)
  have g1 : at1 t ⟨(y 1).val, hy1⟩ = ((cfg0.win 2).blk t).view.emb y 1 := Fin.ext (by
    rw [hb1, i1]
    dsimp only
    omega)
  unfold G
  rw [g0, g1]

theorem mem_blk (i : S256x2048.Idx) :
    i ∈ ((cfg0.win 2).blk t).view.set ↔ ∀ a : Fin 2, win0_2.index t a * S256x512.size a ≤ (i a).val ∧ (i a).val < win0_2.index t a * S256x512.size a + S256x512.size a := by
  show i ∈ ((View.whole main_v0).slice (win0_2.rect t)).set ↔ _
  rw [View.set_slice_whole, Rect.mem_set_unit]
  exact Iff.rfl

/-- The array after the run. -/
theorem arr : (dats m 0 c).arrAt 2 cfg0.N = G m c :=
  (dats m 0 c).arrAt_eq_of_cover 2 _ (fun t _ => flushed m c t) (fun i => by
    have h0 : (i 0).val < 256 := (i 0).isLt
    have h1 : (i 1).val < 2048 := (i 1).isLt
    have hp : (i 1).val / 512 < 4 := by omega
    refine ⟨⟨(i 1).val / 512, lt_of_lt_of_eq hp N_0.symm⟩, flush0_2 _, ?_⟩
    rw [mem_blk]
    obtain ⟨e0, e1⟩ := idx2 ⟨(i 1).val / 512, lt_of_lt_of_eq hp N_0.symm⟩
    intro a
    match a with
    | ⟨0, _⟩ =>
      show win0_2.index _ 0 * 256 ≤ (i 0).val ∧ (i 0).val < win0_2.index _ 0 * 256 + 256
      rw [e0]; omega
    | ⟨1, _⟩ =>
      show win0_2.index _ 1 * 512 ≤ (i 1).val ∧ (i 1).val < win0_2.index _ 1 * 512 + 512
      rw [e1]; dsimp only; omega)

end

theorem frame_p : Cert.quiescent_Kv (hKv := Cert.Kv.Gen.facts) := fun m ρ _ => Cert.Kv.Gen.frame m ρ

theorem frame_pi : Cert.quiescent_KvIdeal (hKvIdeal := Cert.KvIdeal.Gen.facts) := fun m ρ _ => Cert.KvIdeal.Gen.frame m ρ

theorem frame_ri : Cert.quiescent_KvRefIdeal (hKvRefIdeal := Cert.KvRefIdeal.Gen.facts) := fun m ρ _ =>
  (θ_run Cert.KvRefIdeal.defs _ _).mono (fun r h => ⟨fun c => (h c).2,
      Idealize.ShloMosaic.sem_eq_zero_of_no_sems (by decide) r.2⟩)
    (Cert.KvRefIdeal.Value.run (F := Ideal) m ρ)

section
open Cert.KvRefIdeal Cert.KvRefIdeal.Read

variable (x : Arr 256 2048) (w : (⟨4, ![4, 2, 512, 2048]⟩ : Shape).Idx → EReal)

theorem ref_wt (e d : Fin 2048) : val_main_v3 (F := Ideal) w (ix2 e d) = kvLayer 1 w e.val d := by
  rw [val_main_v3_apply, val_main_v2_apply, val_main_v1_apply]
  refine congrArg w ?_
  funext k; apply Fin.ext
  match k with
  | ⟨0, _⟩ => show _ = e.val / 512 % 4; simp; omega
  | ⟨1, _⟩ => rfl
  | ⟨2, _⟩ => show _ = e.val % 512; simp; omega
  | ⟨3, _⟩ => show _ = d.val; simp

theorem ref_val (s : Fin 256) (e : Fin 2048) : val_main_v5 (F := Ideal) x w (ix2 s e) =
    ∑ q : Fin 2048, x (ix2 s q) * kvLayer 1 w q.val e := by
  rw [val_main_v5_apply]
  refine Finset.sum_congr rfl fun q _ => congrArg₂ (· * ·) ?_ ?_
  · refine (val_main_v0_apply (F := Ideal) x _).trans (congrArg x ?_)
    funext k
    match k with
    | ⟨0, _⟩ => rfl
    | ⟨1, _⟩ => rfl
  · refine (val_main_v4_apply (F := Ideal) w _).trans (Eq.trans ?_ (ref_wt w q e))
    refine congrArg (val_main_v3 (F := Ideal) w) ?_
    funext k
    match k with
    | ⟨0, _⟩ => rfl
    | ⟨1, _⟩ => rfl

end

theorem algebraic : Cert.algebraic_KvIdeal_KvRefIdeal (hKvIdeal := Cert.KvIdeal.Gen.facts)
    (hKvRefIdeal := Cert.KvRefIdeal.Gen.facts) := by
  intro m ρ m' ρ' _ hag
  refine ⟨fun c => G m c,
    (θ_run Cert.KvIdeal.defs _ _).mono (fun r h c => ⟨(h c).1.trans (arr m c), (h c).2⟩) (Cert.KvIdeal.Value.run_blocks (F := Ideal) m ρ),
    (θ_run Cert.KvRefIdeal.defs _ _).mono (fun r h c => ⟨?_, (h c).2⟩) (Cert.KvRefIdeal.Value.run (F := Ideal) m' ρ')⟩
  obtain ⟨a0, a1⟩ := hag c
  refine ((h c).1.trans (Cert.KvRefIdeal.Read.val_main_v5_eq _ _)).trans ?_
  rw [a0, a1]
  funext i
  rw [eq_ix2 i]
  exact ref_val _ _ _ _

end KvClaim

end
-- ==== Proof.KvDnClaim.lean ====
/- The claims about the memory's key and value projection in the first layer: what each grid point writes, and the whole array, as
   one sum per entry. -/
module

public import proofs.«01_k».proof.Defs
public import proofs.«01_k».proof.Proof.KvLayer
public import proofs.«01_k».proof.Proof.Gen.KvDn.Frame
public import proofs.«01_k».proof.Proof.Gen.KvDnIdeal.Value
public import proofs.«01_k».proof.Proof.Gen.KvDnRefIdeal.Run
public import proofs.«01_k».proof.Proof.Gen.KvDnRefIdeal.Read
public import Idealize.ShloMosaic.Lib.Tactic
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace KvDnClaim

open Idealize.ShloMosaic Idealize.ShloMosaic.TcCoe Idealize.SL.Sem ProdSeg

section
open Cert.KvDnIdeal Cert.KvDnIdeal.Gen

/-- A block of the product: the sum over the contracted axis. -/
theorem pay (x : Vec Ideal S256x2048 .bf16) (y : Vec Ideal S4x1x512x512 .bf16) (r : Fin 256) (e : Fin 512) :
    k0_pay1 x y (ix2 r e) = ∑ q : Fin 2048, x (ix2 r q) *
      y (ix4 (⟨q.val / 512, by omega⟩ : Fin 4) (0 : Fin 1) (⟨q.val % 512, by omega⟩ : Fin 512) e) := by
  pointwise [k0_pay1]
  try simp

theorem idx0 : ∀ t : Fin cfg0.N, win0_0.index t 0 = 0 ∧ win0_0.index t 1 = 0 := by decide +kernel
theorem idx1 : ∀ t : Fin cfg0.N, win0_1.index t (0 : Fin 4) = 0 ∧ win0_1.index t (1 : Fin 4) = 0 ∧
    win0_1.index t (2 : Fin 4) = 0 ∧ win0_1.index t (3 : Fin 4) = t.val := by decide +kernel
theorem idx2 : ∀ t : Fin cfg0.N, win0_2.index t 0 = 0 ∧ win0_2.index t 1 = t.val := by decide +kernel

variable (m : (ℓ : Loc nD τ sig) → Buf (Elt Ideal) ℓ) (c : Dev nD) (t : Fin cfg0.N)

theorem low : t.val < 4 := lt_of_lt_of_eq t.isLt N_0

/-- Entry `q` of row `s` of the left factor. -/
abbrev row (s : Fin 256) (q : Fin 2048) : EReal := m ((c : Thread nD τ).loc main_arg0) (ix2 s q)
/-- Entry `(q, e)` of the matrix. -/
abbrev wt (q e : Fin 2048) : EReal := kvLayer 0 (m ((c : Thread nD τ).loc main_arg1)) q.val e

/-- The column of the result at place `e` of the block of point `t`. -/
abbrev at1 (e : Fin 512) : Fin 2048 := ⟨t.val * 512 + e.val, by have := low t; omega⟩

theorem blk0 (r : Fin 256) (q : Fin 2048) : iblk m c 0 t (ix2 r q) = row m c r q := by
  unfold row
  blk_ext [iblk, V, idx0 t]
theorem blk1 (q : Fin 2048) (e : Fin 512) :
    iblk m c 1 t (ix4 (⟨q.val / 512, by omega⟩ : Fin 4) (0 : Fin 1) (⟨q.val % 512, by omega⟩ : Fin 512) e) = wt m c q (at1 t e) := by
  have := low t
  unfold wt kvLayer
  blk_ext [iblk, V, idx1 t]

/-- The product. -/
def G : S256x2048.Idx → EReal := fun i => ∑ q : Fin 2048, row m c (i 0) q * wt m c q (i 1)

/-- What a grid point leaves in the result's block. -/
theorem out (r : Fin 256) (e : Fin 512) : out0_2 (iblk m c 0 t) (iblk m c 1 t) (ix2 r e) =
    ∑ q : Fin 2048, row m c r q * wt m c q (at1 t e) := by
  unfold out0_2
  frame_out
  exact (pay _ _ r e).trans (Finset.sum_congr rfl fun q _ => congrArg₂ (· * ·) (blk0 m c t r q) (blk1 m c t q e))

theorem flushed : (dats m 0 c).flushed 2 t = ((cfg0.win 2).blk t).view.read (Elt Ideal) (G m c) := by
  rw [Value.flushed2]
  have O := out m c t
  generalize out0_2 (iblk m c 0 t) (iblk m c 1 t) = o at O
  obtain ⟨i0, i1⟩ := idx2 t
  funext y
  have hy0 : (y 0).val < 256 := (y 0).isLt
  have hy1 : (y 1).val < 512 := (y 1).isLt
  have hb0 : (((cfg0.win 2).blk t).view.emb y 0).val = win0_2.index t 0 * 256 + 1 * (y 0).val := rfl
  have hb1 : (((cfg0.win 2).blk t).view.emb y 1).val = win0_2.index t 1 * 512 + 1 * (y 1).val := rfl
  have hx : (cfg0.win 2).xinj (grid0.coords t) y = (ix2 (⟨(y 0).val, hy0⟩ : Fin 256) (⟨(y 1).val, hy1⟩ : Fin 512) : S256x512.Idx) := by
    funext a; apply Fin.ext
    match a with
    | ⟨0, _⟩ => rfl
    | ⟨1, _⟩ => rfl
  show o ((cfg0.win 2).xinj (grid0.coords t) y) = G m c (((cfg0.win 2).blk t).view.emb y)
  rw [hx, O]
  have g0 : (⟨(y 0).val, hy0⟩ : Fin 256) = ((cfg0.win 2).blk t).view.emb y 0 := Fin.ext (by
    rw [hb0, i0]
    dsimp only
    omega)
  have g1 : at1 t ⟨(y 1).val, hy1⟩ = ((cfg0.win 2).blk t).view.emb y 1 := Fin.ext (by
    rw [hb1, i1]
    dsimp only
    omega)
  unfold G
  rw [g0, g1]

theorem mem_blk (i : S256x2048.Idx) :
    i ∈ ((cfg0.win 2).blk t).view.set ↔ ∀ a : Fin 2, win0_2.index t a * S256x512.size a ≤ (i a).val ∧ (i a).val < win0_2.index t a * S256x512.size a + S256x512.size a := by
  show i ∈ ((View.whole main_v0).slice (win0_2.rect t)).set ↔ _
  rw [View.set_slice_whole, Rect.mem_set_unit]
  exact Iff.rfl

/-- The array after the run. -/
theorem arr : (dats m 0 c).arrAt 2 cfg0.N = G m c :=
  (dats m 0 c).arrAt_eq_of_cover 2 _ (fun t _ => flushed m c t) (fun i => by
    have h0 : (i 0).val < 256 := (i 0).isLt
    have h1 : (i 1).val < 2048 := (i 1).isLt
    have hp : (i 1).val / 512 < 4 := by omega
    refine ⟨⟨(i 1).val / 512, lt_of_lt_of_eq hp N_0.symm⟩, flush0_2 _, ?_⟩
    rw [mem_blk]
    obtain ⟨e0, e1⟩ := idx2 ⟨(i 1).val / 512, lt_of_lt_of_eq hp N_0.symm⟩
    intro a
    match a with
    | ⟨0, _⟩ =>
      show win0_2.index _ 0 * 256 ≤ (i 0).val ∧ (i 0).val < win0_2.index _ 0 * 256 + 256
      rw [e0]; omega
    | ⟨1, _⟩ =>
      show win0_2.index _ 1 * 512 ≤ (i 1).val ∧ (i 1).val < win0_2.index _ 1 * 512 + 512
      rw [e1]; dsimp only; omega)

end

theorem frame_p : Cert.quiescent_KvDn (hKvDn := Cert.KvDn.Gen.facts) := fun m ρ _ => Cert.KvDn.Gen.frame m ρ

theorem frame_pi : Cert.quiescent_KvDnIdeal (hKvDnIdeal := Cert.KvDnIdeal.Gen.facts) := fun m ρ _ => Cert.KvDnIdeal.Gen.frame m ρ

theorem frame_ri : Cert.quiescent_KvDnRefIdeal (hKvDnRefIdeal := Cert.KvDnRefIdeal.Gen.facts) := fun m ρ _ =>
  (θ_run Cert.KvDnRefIdeal.defs _ _).mono (fun r h => ⟨fun c => (h c).2,
      Idealize.ShloMosaic.sem_eq_zero_of_no_sems (by decide) r.2⟩)
    (Cert.KvDnRefIdeal.Value.run (F := Ideal) m ρ)

section
open Cert.KvDnRefIdeal Cert.KvDnRefIdeal.Read

variable (x : Arr 256 2048) (w : (⟨4, ![4, 2, 512, 2048]⟩ : Shape).Idx → EReal)

theorem ref_wt (e d : Fin 2048) : val_main_v3 (F := Ideal) w (ix2 e d) = kvLayer 0 w e.val d := by
  rw [val_main_v3_apply, val_main_v2_apply, val_main_v1_apply]
  refine congrArg w ?_
  funext k; apply Fin.ext
  match k with
  | ⟨0, _⟩ => show _ = e.val / 512 % 4; simp; omega
  | ⟨1, _⟩ => rfl
  | ⟨2, _⟩ => show _ = e.val % 512; simp; omega
  | ⟨3, _⟩ => show _ = d.val; simp

theorem ref_val (s : Fin 256) (e : Fin 2048) : val_main_v5 (F := Ideal) x w (ix2 s e) =
    ∑ q : Fin 2048, x (ix2 s q) * kvLayer 0 w q.val e := by
  rw [val_main_v5_apply]
  refine Finset.sum_congr rfl fun q _ => congrArg₂ (· * ·) ?_ ?_
  · refine (val_main_v0_apply (F := Ideal) x _).trans (congrArg x ?_)
    funext k
    match k with
    | ⟨0, _⟩ => rfl
    | ⟨1, _⟩ => rfl
  · refine (val_main_v4_apply (F := Ideal) w _).trans (Eq.trans ?_ (ref_wt w q e))
    refine congrArg (val_main_v3 (F := Ideal) w) ?_
    funext k
    match k with
    | ⟨0, _⟩ => rfl
    | ⟨1, _⟩ => rfl

end

theorem algebraic : Cert.algebraic_KvDnIdeal_KvDnRefIdeal (hKvDnIdeal := Cert.KvDnIdeal.Gen.facts)
    (hKvDnRefIdeal := Cert.KvDnRefIdeal.Gen.facts) := by
  intro m ρ m' ρ' _ hag
  refine ⟨fun c => G m c,
    (θ_run Cert.KvDnIdeal.defs _ _).mono (fun r h c => ⟨(h c).1.trans (arr m c), (h c).2⟩) (Cert.KvDnIdeal.Value.run_blocks (F := Ideal) m ρ),
    (θ_run Cert.KvDnRefIdeal.defs _ _).mono (fun r h c => ⟨?_, (h c).2⟩) (Cert.KvDnRefIdeal.Value.run (F := Ideal) m' ρ')⟩
  obtain ⟨a0, a1⟩ := hag c
  refine ((h c).1.trans (Cert.KvDnRefIdeal.Read.val_main_v5_eq _ _)).trans ?_
  rw [a0, a1]
  funext i
  rw [eq_ix2 i]
  exact ref_val _ _ _ _

end KvDnClaim

end
-- ==== Proof.DmemClaim.lean ====
/- The claims about the gradient of the second layer's key and value projection's argument, added to what came before: what each grid point writes, and the whole array, as
   one sum per entry. -/
module

public import proofs.«01_k».proof.Defs
public import proofs.«01_k».proof.Proof.KvLayer
public import proofs.«01_k».proof.Proof.Gen.Dmem.Frame
public import proofs.«01_k».proof.Proof.Gen.DmemIdeal.Value
public import proofs.«01_k».proof.Proof.Gen.DmemRefIdeal.Run
public import proofs.«01_k».proof.Proof.Gen.DmemRefIdeal.Read
public import Idealize.ShloMosaic.Lib.Tactic
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace DmemClaim

open Idealize.ShloMosaic Idealize.ShloMosaic.TcCoe Idealize.SL.Sem ProdSeg

section
open Cert.DmemIdeal Cert.DmemIdeal.Gen

/-- A block of the product: the sum over the contracted axis. -/
theorem pay (x : Vec Ideal S256x2048 .f32) (y : Vec Ideal S1x1x512x2048 .bf16) (z : Vec Ideal S256x512 .f32) (r : Fin 256) (e : Fin 512) :
    k0_pay1 x y z (ix2 r e) = (∑ q : Fin 2048, x (ix2 r q) *
      y (ix4 (0 : Fin 1) (0 : Fin 1) e q)) + z (ix2 r e) := by
  pointwise [k0_pay1]
  try simp

theorem idx0 : ∀ t : Fin cfg0.N, win0_0.index t 0 = 0 ∧ win0_0.index t 1 = 0 := by decide +kernel
theorem idx1 : ∀ t : Fin cfg0.N, win0_1.index t (0 : Fin 4) = t.val ∧ win0_1.index t (1 : Fin 4) = 1 ∧
    win0_1.index t (2 : Fin 4) = 0 ∧ win0_1.index t (3 : Fin 4) = 0 := by decide +kernel
theorem idx3 : ∀ t : Fin cfg0.N, win0_3.index t 0 = 0 ∧ win0_3.index t 1 = t.val := by decide +kernel
theorem idx2 : ∀ t : Fin cfg0.N, win0_2.index t 0 = 0 ∧ win0_2.index t 1 = t.val := by decide +kernel

variable (m : (ℓ : Loc nD τ sig) → Buf (Elt Ideal) ℓ) (c : Dev nD) (t : Fin cfg0.N)

theorem low : t.val < 4 := lt_of_lt_of_eq t.isLt N_0

/-- Entry `q` of row `s` of the left factor. -/
abbrev row (s : Fin 256) (q : Fin 2048) : EReal := m ((c : Thread nD τ).loc main_arg0) (ix2 s q)
/-- Entry `(e, q)` of the matrix. -/
abbrev wt (q e : Fin 2048) : EReal := kvLayer 1 (m ((c : Thread nD τ).loc main_arg1)) e.val q
/-- Entry `e` of row `s` of what came before. -/
abbrev res (s : Fin 256) (e : Fin 2048) : EReal := m ((c : Thread nD τ).loc main_arg2) (ix2 s e)

/-- The column of the result at place `e` of the block of point `t`. -/
abbrev at1 (e : Fin 512) : Fin 2048 := ⟨t.val * 512 + e.val, by have := low t; omega⟩

theorem blk0 (r : Fin 256) (q : Fin 2048) : iblk m c 0 t (ix2 r q) = row m c r q := by
  unfold row
  blk_ext [iblk, V, idx0 t]
theorem blk1 (q : Fin 2048) (e : Fin 512) : iblk m c 1 t (ix4 (0 : Fin 1) (0 : Fin 1) e q) = wt m c q (at1 t e) := by
  have := low t
  unfold wt kvLayer
  blk_ext [iblk, V, idx1 t]

theorem blk2 (r : Fin 256) (e : Fin 512) : iblk m c 2 t (ix2 r e) = res m c r (at1 t e) := by
  have := low t
  unfold res
  blk_ext [iblk, V, idx2 t]

/-- The product and what came before. -/
def G : S256x2048.Idx → EReal := fun i => (∑ q : Fin 2048, row m c (i 0) q * wt m c q (i 1)) + res m c (i 0) (i 1)

/-- What a grid point leaves in the result's block. -/
theorem out (r : Fin 256) (e : Fin 512) : out0_3 (iblk m c 0 t) (iblk m c 1 t) (iblk m c 2 t) (ix2 r e) =
    (∑ q : Fin 2048, row m c r q * wt m c q (at1 t e)) + res m c r (at1 t e) := by
  unfold out0_3
  frame_out
  exact (pay _ _ _ r e).trans (congrArg₂ (· + ·)
    (Finset.sum_congr rfl fun q _ => congrArg₂ (· * ·) (blk0 m c t r q) (blk1 m c t q e)) (blk2 m c t r e))

theorem flushed : (dats m 0 c).flushed 3 t = ((cfg0.win 3).blk t).view.read (Elt Ideal) (G m c) := by
  rw [Value.flushed3]
  have O := out m c t
  generalize out0_3 (iblk m c 0 t) (iblk m c 1 t) (iblk m c 2 t) = o at O
  obtain ⟨i0, i1⟩ := idx3 t
  funext y
  have hy0 : (y 0).val < 256 := (y 0).isLt
  have hy1 : (y 1).val < 512 := (y 1).isLt
  have hb0 : (((cfg0.win 3).blk t).view.emb y 0).val = win0_3.index t 0 * 256 + 1 * (y 0).val := rfl
  have hb1 : (((cfg0.win 3).blk t).view.emb y 1).val = win0_3.index t 1 * 512 + 1 * (y 1).val := rfl
  have hx : (cfg0.win 3).xinj (grid0.coords t) y = (ix2 (⟨(y 0).val, hy0⟩ : Fin 256) (⟨(y 1).val, hy1⟩ : Fin 512) : S256x512.Idx) := by
    funext a; apply Fin.ext
    match a with
    | ⟨0, _⟩ => rfl
    | ⟨1, _⟩ => rfl
  show o ((cfg0.win 3).xinj (grid0.coords t) y) = G m c (((cfg0.win 3).blk t).view.emb y)
  rw [hx, O]
  have g0 : (⟨(y 0).val, hy0⟩ : Fin 256) = ((cfg0.win 3).blk t).view.emb y 0 := Fin.ext (by
    rw [hb0, i0]
    dsimp only
    omega)
  have g1 : at1 t ⟨(y 1).val, hy1⟩ = ((cfg0.win 3).blk t).view.emb y 1 := Fin.ext (by
    rw [hb1, i1]
    dsimp only
    omega)
  unfold G
  rw [g0, g1]

theorem mem_blk (i : S256x2048.Idx) :
    i ∈ ((cfg0.win 3).blk t).view.set ↔ ∀ a : Fin 2, win0_3.index t a * S256x512.size a ≤ (i a).val ∧ (i a).val < win0_3.index t a * S256x512.size a + S256x512.size a := by
  show i ∈ ((View.whole main_v0).slice (win0_3.rect t)).set ↔ _
  rw [View.set_slice_whole, Rect.mem_set_unit]
  exact Iff.rfl

/-- The array after the run. -/
theorem arr : (dats m 0 c).arrAt 3 cfg0.N = G m c :=
  (dats m 0 c).arrAt_eq_of_cover 3 _ (fun t _ => flushed m c t) (fun i => by
    have h0 : (i 0).val < 256 := (i 0).isLt
    have h1 : (i 1).val < 2048 := (i 1).isLt
    have hp : (i 1).val / 512 < 4 := by omega
    refine ⟨⟨(i 1).val / 512, lt_of_lt_of_eq hp N_0.symm⟩, flush0_3 _, ?_⟩
    rw [mem_blk]
    obtain ⟨e0, e1⟩ := idx3 ⟨(i 1).val / 512, lt_of_lt_of_eq hp N_0.symm⟩
    intro a
    match a with
    | ⟨0, _⟩ =>
      show win0_3.index _ 0 * 256 ≤ (i 0).val ∧ (i 0).val < win0_3.index _ 0 * 256 + 256
      rw [e0]; omega
    | ⟨1, _⟩ =>
      show win0_3.index _ 1 * 512 ≤ (i 1).val ∧ (i 1).val < win0_3.index _ 1 * 512 + 512
      rw [e1]; dsimp only; omega)

end

theorem frame_p : Cert.quiescent_Dmem (hDmem := Cert.Dmem.Gen.facts) := fun m ρ _ => Cert.Dmem.Gen.frame m ρ

theorem frame_pi : Cert.quiescent_DmemIdeal (hDmemIdeal := Cert.DmemIdeal.Gen.facts) := fun m ρ _ => Cert.DmemIdeal.Gen.frame m ρ

theorem frame_ri : Cert.quiescent_DmemRefIdeal (hDmemRefIdeal := Cert.DmemRefIdeal.Gen.facts) := fun m ρ _ =>
  (θ_run Cert.DmemRefIdeal.defs _ _).mono (fun r h => ⟨fun c => (h c).2,
      Idealize.ShloMosaic.sem_eq_zero_of_no_sems (by decide) r.2⟩)
    (Cert.DmemRefIdeal.Value.run (F := Ideal) m ρ)

section
open Cert.DmemRefIdeal Cert.DmemRefIdeal.Read

variable (x : Arr 256 2048) (w : (⟨4, ![4, 2, 512, 2048]⟩ : Shape).Idx → EReal) (z : Arr 256 2048)

theorem ref_wt (e d : Fin 2048) : val_main_v2 (F := Ideal) w (ix2 e d) = kvLayer 1 w e.val d := by
  rw [val_main_v2_apply, val_main_v1_apply, val_main_v0_apply]
  refine congrArg w ?_
  funext k; apply Fin.ext
  match k with
  | ⟨0, _⟩ => show _ = e.val / 512 % 4; simp; omega
  | ⟨1, _⟩ => rfl
  | ⟨2, _⟩ => show _ = e.val % 512; simp; omega
  | ⟨3, _⟩ => show _ = d.val; simp

theorem ref_val (s : Fin 256) (e : Fin 2048) : val_main_v5 (F := Ideal) x w z (ix2 s e) =
    (∑ q : Fin 2048, x (ix2 s q) * kvLayer 1 w e.val q) + z (ix2 s e) := by
  rw [val_main_v5_apply]
  refine (add_comm (z (ix2 s e)) _).trans (congrArg (· + z (ix2 s e)) ?_)
  rw [val_main_v4_apply]
  refine Finset.sum_congr rfl fun q _ => congrArg₂ (· * ·) ?_ ?_
  · refine congrArg x ?_
    funext k
    match k with
    | ⟨0, _⟩ => rfl
    | ⟨1, _⟩ => rfl
  · refine (val_main_v3_apply (F := Ideal) w _).trans (Eq.trans ?_ (ref_wt w e q))
    refine congrArg (val_main_v2 (F := Ideal) w) ?_
    funext k
    match k with
    | ⟨0, _⟩ => rfl
    | ⟨1, _⟩ => rfl

end

theorem algebraic : Cert.algebraic_DmemIdeal_DmemRefIdeal (hDmemIdeal := Cert.DmemIdeal.Gen.facts)
    (hDmemRefIdeal := Cert.DmemRefIdeal.Gen.facts) := by
  intro m ρ m' ρ' _ hag
  refine ⟨fun c => G m c,
    (θ_run Cert.DmemIdeal.defs _ _).mono (fun r h c => ⟨(h c).1.trans (arr m c), (h c).2⟩) (Cert.DmemIdeal.Value.run_blocks (F := Ideal) m ρ),
    (θ_run Cert.DmemRefIdeal.defs _ _).mono (fun r h c => ⟨?_, (h c).2⟩) (Cert.DmemRefIdeal.Value.run (F := Ideal) m' ρ')⟩
  obtain ⟨a0, a1, a2⟩ := hag c
  refine ((h c).1.trans (Cert.DmemRefIdeal.Read.val_main_v5_eq _ _ _)).trans ?_
  rw [a0, a1, a2]
  funext i
  rw [eq_ix2 i]
  exact ref_val _ _ _ _ _

end DmemClaim

end
-- ==== Proof.DmemDnClaim.lean ====
/- The claims about the gradient of the first layer's key and value projection's argument: what each grid point writes, and the whole array, as
   one sum per entry. -/
module

public import proofs.«01_k».proof.Defs
public import proofs.«01_k».proof.Proof.KvLayer
public import proofs.«01_k».proof.Proof.Gen.DmemDn.Frame
public import proofs.«01_k».proof.Proof.Gen.DmemDnIdeal.Value
public import proofs.«01_k».proof.Proof.Gen.DmemDnRefIdeal.Run
public import proofs.«01_k».proof.Proof.Gen.DmemDnRefIdeal.Read
public import Idealize.ShloMosaic.Lib.Tactic
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

namespace DmemDnClaim

open Idealize.ShloMosaic Idealize.ShloMosaic.TcCoe Idealize.SL.Sem ProdSeg

section
open Cert.DmemDnIdeal Cert.DmemDnIdeal.Gen

/-- A block of the product: the sum over the contracted axis. -/
theorem pay (x : Vec Ideal S256x2048 .f32) (y : Vec Ideal S1x1x512x2048 .bf16) (r : Fin 256) (e : Fin 512) :
    k0_pay1 x y (ix2 r e) = ∑ q : Fin 2048, x (ix2 r q) *
      y (ix4 (0 : Fin 1) (0 : Fin 1) e q) := by
  pointwise [k0_pay1]
  try simp

theorem idx0 : ∀ t : Fin cfg0.N, win0_0.index t 0 = 0 ∧ win0_0.index t 1 = 0 := by decide +kernel
theorem idx1 : ∀ t : Fin cfg0.N, win0_1.index t (0 : Fin 4) = t.val ∧ win0_1.index t (1 : Fin 4) = 0 ∧
    win0_1.index t (2 : Fin 4) = 0 ∧ win0_1.index t (3 : Fin 4) = 0 := by decide +kernel
theorem idx2 : ∀ t : Fin cfg0.N, win0_2.index t 0 = 0 ∧ win0_2.index t 1 = t.val := by decide +kernel

variable (m : (ℓ : Loc nD τ sig) → Buf (Elt Ideal) ℓ) (c : Dev nD) (t : Fin cfg0.N)

theorem low : t.val < 4 := lt_of_lt_of_eq t.isLt N_0

/-- Entry `q` of row `s` of the left factor. -/
abbrev row (s : Fin 256) (q : Fin 2048) : EReal := m ((c : Thread nD τ).loc main_arg0) (ix2 s q)
/-- Entry `(e, q)` of the matrix. -/
abbrev wt (q e : Fin 2048) : EReal := kvLayer 0 (m ((c : Thread nD τ).loc main_arg1)) e.val q

/-- The column of the result at place `e` of the block of point `t`. -/
abbrev at1 (e : Fin 512) : Fin 2048 := ⟨t.val * 512 + e.val, by have := low t; omega⟩

theorem blk0 (r : Fin 256) (q : Fin 2048) : iblk m c 0 t (ix2 r q) = row m c r q := by
  unfold row
  blk_ext [iblk, V, idx0 t]
theorem blk1 (q : Fin 2048) (e : Fin 512) : iblk m c 1 t (ix4 (0 : Fin 1) (0 : Fin 1) e q) = wt m c q (at1 t e) := by
  have := low t
  unfold wt kvLayer
  blk_ext [iblk, V, idx1 t]

/-- The product. -/
def G : S256x2048.Idx → EReal := fun i => ∑ q : Fin 2048, row m c (i 0) q * wt m c q (i 1)

/-- What a grid point leaves in the result's block. -/
theorem out (r : Fin 256) (e : Fin 512) : out0_2 (iblk m c 0 t) (iblk m c 1 t) (ix2 r e) =
    ∑ q : Fin 2048, row m c r q * wt m c q (at1 t e) := by
  unfold out0_2
  frame_out
  exact (pay _ _ r e).trans (Finset.sum_congr rfl fun q _ => congrArg₂ (· * ·) (blk0 m c t r q) (blk1 m c t q e))

theorem flushed : (dats m 0 c).flushed 2 t = ((cfg0.win 2).blk t).view.read (Elt Ideal) (G m c) := by
  rw [Value.flushed2]
  have O := out m c t
  generalize out0_2 (iblk m c 0 t) (iblk m c 1 t) = o at O
  obtain ⟨i0, i1⟩ := idx2 t
  funext y
  have hy0 : (y 0).val < 256 := (y 0).isLt
  have hy1 : (y 1).val < 512 := (y 1).isLt
  have hb0 : (((cfg0.win 2).blk t).view.emb y 0).val = win0_2.index t 0 * 256 + 1 * (y 0).val := rfl
  have hb1 : (((cfg0.win 2).blk t).view.emb y 1).val = win0_2.index t 1 * 512 + 1 * (y 1).val := rfl
  have hx : (cfg0.win 2).xinj (grid0.coords t) y = (ix2 (⟨(y 0).val, hy0⟩ : Fin 256) (⟨(y 1).val, hy1⟩ : Fin 512) : S256x512.Idx) := by
    funext a; apply Fin.ext
    match a with
    | ⟨0, _⟩ => rfl
    | ⟨1, _⟩ => rfl
  show o ((cfg0.win 2).xinj (grid0.coords t) y) = G m c (((cfg0.win 2).blk t).view.emb y)
  rw [hx, O]
  have g0 : (⟨(y 0).val, hy0⟩ : Fin 256) = ((cfg0.win 2).blk t).view.emb y 0 := Fin.ext (by
    rw [hb0, i0]
    dsimp only
    omega)
  have g1 : at1 t ⟨(y 1).val, hy1⟩ = ((cfg0.win 2).blk t).view.emb y 1 := Fin.ext (by
    rw [hb1, i1]
    dsimp only
    omega)
  unfold G
  rw [g0, g1]

theorem mem_blk (i : S256x2048.Idx) :
    i ∈ ((cfg0.win 2).blk t).view.set ↔ ∀ a : Fin 2, win0_2.index t a * S256x512.size a ≤ (i a).val ∧ (i a).val < win0_2.index t a * S256x512.size a + S256x512.size a := by
  show i ∈ ((View.whole main_v0).slice (win0_2.rect t)).set ↔ _
  rw [View.set_slice_whole, Rect.mem_set_unit]
  exact Iff.rfl

/-- The array after the run. -/
theorem arr : (dats m 0 c).arrAt 2 cfg0.N = G m c :=
  (dats m 0 c).arrAt_eq_of_cover 2 _ (fun t _ => flushed m c t) (fun i => by
    have h0 : (i 0).val < 256 := (i 0).isLt
    have h1 : (i 1).val < 2048 := (i 1).isLt
    have hp : (i 1).val / 512 < 4 := by omega
    refine ⟨⟨(i 1).val / 512, lt_of_lt_of_eq hp N_0.symm⟩, flush0_2 _, ?_⟩
    rw [mem_blk]
    obtain ⟨e0, e1⟩ := idx2 ⟨(i 1).val / 512, lt_of_lt_of_eq hp N_0.symm⟩
    intro a
    match a with
    | ⟨0, _⟩ =>
      show win0_2.index _ 0 * 256 ≤ (i 0).val ∧ (i 0).val < win0_2.index _ 0 * 256 + 256
      rw [e0]; omega
    | ⟨1, _⟩ =>
      show win0_2.index _ 1 * 512 ≤ (i 1).val ∧ (i 1).val < win0_2.index _ 1 * 512 + 512
      rw [e1]; dsimp only; omega)

end

theorem frame_p : Cert.quiescent_DmemDn (hDmemDn := Cert.DmemDn.Gen.facts) := fun m ρ _ => Cert.DmemDn.Gen.frame m ρ

theorem frame_pi : Cert.quiescent_DmemDnIdeal (hDmemDnIdeal := Cert.DmemDnIdeal.Gen.facts) := fun m ρ _ => Cert.DmemDnIdeal.Gen.frame m ρ

theorem frame_ri : Cert.quiescent_DmemDnRefIdeal (hDmemDnRefIdeal := Cert.DmemDnRefIdeal.Gen.facts) := fun m ρ _ =>
  (θ_run Cert.DmemDnRefIdeal.defs _ _).mono (fun r h => ⟨fun c => (h c).2,
      Idealize.ShloMosaic.sem_eq_zero_of_no_sems (by decide) r.2⟩)
    (Cert.DmemDnRefIdeal.Value.run (F := Ideal) m ρ)

section
open Cert.DmemDnRefIdeal Cert.DmemDnRefIdeal.Read

variable (x : Arr 256 2048) (w : (⟨4, ![4, 2, 512, 2048]⟩ : Shape).Idx → EReal)

theorem ref_wt (e d : Fin 2048) : val_main_v2 (F := Ideal) w (ix2 e d) = kvLayer 0 w e.val d := by
  rw [val_main_v2_apply, val_main_v1_apply, val_main_v0_apply]
  refine congrArg w ?_
  funext k; apply Fin.ext
  match k with
  | ⟨0, _⟩ => show _ = e.val / 512 % 4; simp; omega
  | ⟨1, _⟩ => rfl
  | ⟨2, _⟩ => show _ = e.val % 512; simp; omega
  | ⟨3, _⟩ => show _ = d.val; simp

theorem ref_val (s : Fin 256) (e : Fin 2048) : val_main_v4 (F := Ideal) x w (ix2 s e) =
    ∑ q : Fin 2048, x (ix2 s q) * kvLayer 0 w e.val q := by
  rw [val_main_v4_apply]
  refine Finset.sum_congr rfl fun q _ => congrArg₂ (· * ·) ?_ ?_
  · refine congrArg x ?_
    funext k
    match k with
    | ⟨0, _⟩ => rfl
    | ⟨1, _⟩ => rfl
  · refine (val_main_v3_apply (F := Ideal) w _).trans (Eq.trans ?_ (ref_wt w e q))
    refine congrArg (val_main_v2 (F := Ideal) w) ?_
    funext k
    match k with
    | ⟨0, _⟩ => rfl
    | ⟨1, _⟩ => rfl

end

theorem algebraic : Cert.algebraic_DmemDnIdeal_DmemDnRefIdeal (hDmemDnIdeal := Cert.DmemDnIdeal.Gen.facts)
    (hDmemDnRefIdeal := Cert.DmemDnRefIdeal.Gen.facts) := by
  intro m ρ m' ρ' _ hag
  refine ⟨fun c => G m c,
    (θ_run Cert.DmemDnIdeal.defs _ _).mono (fun r h c => ⟨(h c).1.trans (arr m c), (h c).2⟩) (Cert.DmemDnIdeal.Value.run_blocks (F := Ideal) m ρ),
    (θ_run Cert.DmemDnRefIdeal.defs _ _).mono (fun r h c => ⟨?_, (h c).2⟩) (Cert.DmemDnRefIdeal.Value.run (F := Ideal) m' ρ')⟩
  obtain ⟨a0, a1⟩ := hag c
  refine ((h c).1.trans (Cert.DmemDnRefIdeal.Read.val_main_v4_eq _ _)).trans ?_
  rw [a0, a1]
  funext i
  rw [eq_ix2 i]
  exact ref_val _ _ _ _

end DmemDnClaim

end
-- ==== Proof.lean ====
module

public import proofs.«01_k».proof.Defs
public import proofs.«01_k».proof.Proof.Gen.Pre_finite_xa
public import proofs.«01_k».proof.Proof.XaClaim
public import proofs.«01_k».proof.Proof.SbClaim
public import proofs.«01_k».proof.Proof.WinClaim
public import proofs.«01_k».proof.Proof.DhClaim
public import proofs.«01_k».proof.Proof.WinDnClaim
public import proofs.«01_k».proof.Proof.DhDnClaim
public import proofs.«01_k».proof.Proof.ProjClaim
public import proofs.«01_k».proof.Proof.ProjDnClaim
public import proofs.«01_k».proof.Proof.WoutClaim
public import proofs.«01_k».proof.Proof.DyClaim
public import proofs.«01_k».proof.Proof.DyDnClaim
public import proofs.«01_k».proof.Proof.OutClaim
public import proofs.«01_k».proof.Proof.OutDnClaim
public import proofs.«01_k».proof.Proof.NormClaim
public import proofs.«01_k».proof.Proof.GateClaim
public import proofs.«01_k».proof.Proof.WkvClaim
public import proofs.«01_k».proof.Proof.KvClaim
public import proofs.«01_k».proof.Proof.KvDnClaim
public import proofs.«01_k».proof.Proof.DmemClaim
public import proofs.«01_k».proof.Proof.DmemDnClaim
public import proofs.«01_k».proof.Proof.Gen.Pre_finite_sb
public import proofs.«01_k».proof.Proof.Gen.Pre_finite_gate
public import Idealize.ShloMosaic.Adequacy
public import Idealize.ShloMosaic.Init

@[expose] public section

noncomputable section

namespace Cert.Proof

open Idealize.ShloMosaic Idealize.SL.Sem Cert.Xa

theorem claim : Cert.Claim := ⟨Cert.Xa.Gen.facts, Cert.XaIdeal.Gen.facts, Cert.XaRefIdeal.Gen.facts,
  Cert.Sb.Gen.facts, Cert.SbIdeal.Gen.facts, Cert.SbRefIdeal.Gen.facts,
  Cert.Win.Gen.facts, Cert.WinIdeal.Gen.facts, Cert.WinRefIdeal.Gen.facts,
  Cert.Dh.Gen.facts, Cert.DhIdeal.Gen.facts, Cert.DhRefIdeal.Gen.facts,
  Cert.WinDn.Gen.facts, Cert.WinDnIdeal.Gen.facts, Cert.WinDnRefIdeal.Gen.facts,
  Cert.DhDn.Gen.facts, Cert.DhDnIdeal.Gen.facts, Cert.DhDnRefIdeal.Gen.facts,
  Cert.Proj.Gen.facts, Cert.ProjIdeal.Gen.facts, Cert.ProjRefIdeal.Gen.facts,
  Cert.ProjDn.Gen.facts, Cert.ProjDnIdeal.Gen.facts, Cert.ProjDnRefIdeal.Gen.facts,
  Cert.Wout.Gen.facts, Cert.WoutIdeal.Gen.facts, Cert.WoutRefIdeal.Gen.facts,
  Cert.Dy.Gen.facts, Cert.DyIdeal.Gen.facts, Cert.DyRefIdeal.Gen.facts,
  Cert.DyDn.Gen.facts, Cert.DyDnIdeal.Gen.facts, Cert.DyDnRefIdeal.Gen.facts,
  Cert.Out.Gen.facts, Cert.OutIdeal.Gen.facts, Cert.OutRefIdeal.Gen.facts,
  Cert.OutDn.Gen.facts, Cert.OutDnIdeal.Gen.facts, Cert.OutDnRefIdeal.Gen.facts,
  Cert.Norm.Gen.facts, Cert.NormIdeal.Gen.facts, Cert.NormRefIdeal.Gen.facts,
  Cert.Gate.Gen.facts, Cert.GateIdeal.Gen.facts, Cert.GateRefIdeal.Gen.facts,
  Cert.Wkv.Gen.facts, Cert.WkvIdeal.Gen.facts, Cert.WkvRefIdeal.Gen.facts,
  Cert.Kv.Gen.facts, Cert.KvIdeal.Gen.facts, Cert.KvRefIdeal.Gen.facts,
  Cert.KvDn.Gen.facts, Cert.KvDnIdeal.Gen.facts, Cert.KvDnRefIdeal.Gen.facts,
  Cert.Dmem.Gen.facts, Cert.DmemIdeal.Gen.facts, Cert.DmemRefIdeal.Gen.facts,
  Cert.DmemDn.Gen.facts, Cert.DmemDnIdeal.Gen.facts, Cert.DmemDnRefIdeal.Gen.facts,
  Cert.Pre_finite_xa.Gen.facts, Cert.Pre_finite_sb.Gen.facts, Cert.Pre_finite_gate.Gen.facts,
  XaClaim.frame_p, XaClaim.frame_pi, XaClaim.frame_pi', XaClaim.frame_ri, XaClaim.frame_ri',
  SbClaim.frame_p, SbClaim.frame_pi, SbClaim.frame_pi', SbClaim.frame_ri, SbClaim.frame_ri',
  WinClaim.frame_p, WinClaim.frame_pi, WinClaim.frame_ri,
  DhClaim.frame_p, DhClaim.frame_pi, DhClaim.frame_ri,
  WinDnClaim.frame_p, WinDnClaim.frame_pi, WinDnClaim.frame_ri,
  DhDnClaim.frame_p, DhDnClaim.frame_pi, DhDnClaim.frame_ri,
  ProjClaim.frame_p, ProjClaim.frame_pi, ProjClaim.frame_ri,
  ProjDnClaim.frame_p, ProjDnClaim.frame_pi, ProjDnClaim.frame_ri,
  WoutClaim.frame_p, WoutClaim.frame_pi, WoutClaim.frame_ri,
  DyClaim.frame_p, DyClaim.frame_pi, DyClaim.frame_ri,
  DyDnClaim.frame_p, DyDnClaim.frame_pi, DyDnClaim.frame_ri,
  OutClaim.frame_p, OutClaim.frame_pi, OutClaim.frame_ri,
  OutDnClaim.frame_p, OutDnClaim.frame_pi, OutDnClaim.frame_ri,
  NormClaim.frame_p, NormClaim.frame_pi, NormClaim.frame_ri,
  GateClaim.frame_p, GateClaim.frame_pi, GateClaim.frame_pi', GateClaim.frame_ri, GateClaim.frame_ri',
  WkvClaim.frame_p, WkvClaim.frame_pi, WkvClaim.frame_ri,
  KvClaim.frame_p, KvClaim.frame_pi, KvClaim.frame_ri,
  KvDnClaim.frame_p, KvDnClaim.frame_pi, KvDnClaim.frame_ri,
  DmemClaim.frame_p, DmemClaim.frame_pi, DmemClaim.frame_ri,
  DmemDnClaim.frame_p, DmemDnClaim.frame_pi, DmemDnClaim.frame_ri,
  trivial, XaClaim.algebraic, trivial, SbClaim.algebraic, trivial, WinClaim.algebraic, trivial, DhClaim.algebraic,
  trivial, WinDnClaim.algebraic, trivial, DhDnClaim.algebraic, trivial, ProjClaim.algebraic, trivial, ProjDnClaim.algebraic, trivial, WoutClaim.algebraic, trivial, DyClaim.algebraic, trivial, DyDnClaim.algebraic, trivial, OutClaim.algebraic, trivial, OutDnClaim.algebraic, trivial, NormClaim.algebraic, trivial, GateClaim.algebraic,
  trivial, WkvClaim.algebraic, trivial, KvClaim.algebraic, trivial, KvDnClaim.algebraic, trivial, DmemClaim.algebraic, trivial, DmemDnClaim.algebraic⟩

end Cert.Proof

end
